-- ==== Defs.lean ====
def Pre_Kernel (m : (ℓ : Loc Cert.Kernel.nD Cert.Kernel.τ Cert.Kernel.sig) → Buf (Elt Bits) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Kernel4Ideal_finite [hPre_finite : Cert.Pre_finite.Facts] (m : (ℓ : Loc Cert.Kernel4Ideal.nD Cert.Kernel4Ideal.τ Cert.Kernel4Ideal.sig) → Buf (Elt Ideal) ℓ) : Prop :=
  ∀ c : Dev Cert.Kernel4Ideal.nD,
    (Cert.Pre_finite.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2))) = (fun _ => 1#1)

def Pre_Reference4Ideal (m : (ℓ : Loc Cert.Reference4Ideal.nD Cert.Reference4Ideal.τ Cert.Reference4Ideal.sig) → Buf (Elt Ideal) ℓ) : Prop :=
  True

def Pre_Reference4Ideal_finite [hPre_finite : Cert.Pre_finite.Facts] (m : (ℓ : Loc Cert.Reference4Ideal.nD Cert.Reference4Ideal.τ Cert.Reference4Ideal.sig) → Buf (Elt Ideal) ℓ) : Prop :=
  ∀ c : Dev Cert.Reference4Ideal.nD,
    (Cert.Pre_finite.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2))) = (fun _ => 1#1)

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7)
      ∧ r.2.mem ((c.tc : Thread Cert.Kernel3.nD Cert.Kernel3.τ).loc Cert.Kernel3.main_arg8) = m ((c.tc : Thread Cert.Kernel3.nD Cert.Kernel3.τ).loc Cert.Kernel3.main_arg8)
      ∧ r.2.mem ((c.tc : Thread Cert.Kernel3.nD Cert.Kernel3.τ).loc Cert.Kernel3.main_arg9) = m ((c.tc : Thread Cert.Kernel3.nD Cert.Kernel3.τ).loc Cert.Kernel3.main_arg9))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
      ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8)
      ∧ r.2.mem ((c.tc : Thread Cert.Reference3Ideal.nD Cert.Reference3Ideal.τ).loc Cert.Reference3Ideal.main_arg9) = m ((c.tc : Thread Cert.Reference3Ideal.nD Cert.Reference3Ideal.τ).loc Cert.Reference3Ideal.main_arg9))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ r.2.sem = fun _ => 0)

def quiescent_Kernel4Ideal_pre_finite [hKernel4Ideal : Cert.Kernel4Ideal.Facts] [hPre_finite : Cert.Pre_finite.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal_finite m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2))
      ∧ r.2.sem = fun _ => 0)

def quiescent_Reference4Ideal_pre_finite [hReference4Ideal : Cert.Reference4Ideal.Facts] [hPre_finite : Cert.Pre_finite.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal_finite m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5)
      ∧ r.2.mem ((c.tc : Thread Cert.Kernel5.nD Cert.Kernel5.τ).loc Cert.Kernel5.main_arg6) = m ((c.tc : Thread Cert.Kernel5.nD Cert.Kernel5.τ).loc Cert.Kernel5.main_arg6)
      ∧ r.2.mem ((c.tc : Thread Cert.Kernel5.nD Cert.Kernel5.τ).loc Cert.Kernel5.main_arg7) = m ((c.tc : Thread Cert.Kernel5.nD Cert.Kernel5.τ).loc Cert.Kernel5.main_arg7))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
      ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6)
      ∧ r.2.mem ((c.tc : Thread Cert.Reference5Ideal.nD Cert.Reference5Ideal.τ).loc Cert.Reference5Ideal.main_arg7) = m ((c.tc : Thread Cert.Reference5Ideal.nD Cert.Reference5Ideal.τ).loc Cert.Reference5Ideal.main_arg7))
      ∧ r.2.sem = fun _ => 0)

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)) →
    ∃ (v0 : (c : Dev Cert.Kernel2Ideal.nD) → Buf (Elt Ideal) ((c.tc : Thread Cert.Kernel2Ideal.nD Cert.Kernel2Ideal.τ).loc Cert.Kernel2Ideal.main_v23)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v23) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v57) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)
      ∧ m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8)
      ∧ m' ((c.tc : Thread Cert.Reference3Ideal.nD Cert.Reference3Ideal.τ).loc Cert.Reference3Ideal.main_arg9) = m ((c.tc : Thread Cert.Kernel3Ideal.nD Cert.Kernel3Ideal.τ).loc Cert.Kernel3Ideal.main_arg9)) →
    ∃ (v0 : (c : Dev Cert.Kernel3Ideal.nD) → Buf (Elt Ideal) ((c.tc : Thread Cert.Kernel3Ideal.nD Cert.Kernel3Ideal.τ).loc Cert.Kernel3Ideal.main_v18)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v18) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
          ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
          ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v75) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7)
          ∧ r.2.mem ((c.tc : Thread Cert.Reference3Ideal.nD Cert.Reference3Ideal.τ).loc Cert.Reference3Ideal.main_arg8) = m' ((c.tc : Thread Cert.Reference3Ideal.nD Cert.Reference3Ideal.τ).loc Cert.Reference3Ideal.main_arg8)
          ∧ r.2.mem ((c.tc : Thread Cert.Reference3Ideal.nD Cert.Reference3Ideal.τ).loc Cert.Reference3Ideal.main_arg9) = m' ((c.tc : Thread Cert.Reference3Ideal.nD Cert.Reference3Ideal.τ).loc Cert.Reference3Ideal.main_arg9))

def preserves_Kernel4_Kernel4Ideal : Prop :=
  IdealRules.named_const.Statement Cert.Kernel4Ideal.κ "mask" .f32 0xF149F2CA#32 ⊥

def algebraic_Kernel4Ideal_Reference4Ideal_pre_finite [hKernel4Ideal : Cert.Kernel4Ideal.Facts] [hReference4Ideal : Cert.Reference4Ideal.Facts] [hPre_finite : Cert.Pre_finite.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal_finite m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)) →
    ∃ (v0 : (c : Dev Cert.Kernel4Ideal.nD) → Buf (Elt Ideal) ((c.tc : Thread Cert.Kernel4Ideal.nD Cert.Kernel4Ideal.τ).loc Cert.Kernel4Ideal.main_v13)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v13) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v25) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)
      ∧ m' ((c.tc : Thread Cert.Reference5Ideal.nD Cert.Reference5Ideal.τ).loc Cert.Reference5Ideal.main_arg6) = m ((c.tc : Thread Cert.Kernel5Ideal.nD Cert.Kernel5Ideal.τ).loc Cert.Kernel5Ideal.main_arg6)
      ∧ m' ((c.tc : Thread Cert.Reference5Ideal.nD Cert.Reference5Ideal.τ).loc Cert.Reference5Ideal.main_arg7) = m ((c.tc : Thread Cert.Kernel5Ideal.nD Cert.Kernel5Ideal.τ).loc Cert.Kernel5Ideal.main_arg7)) →
    ∃ (v0 : (c : Dev Cert.Kernel5Ideal.nD) → Buf (Elt Ideal) ((c.tc : Thread Cert.Kernel5Ideal.nD Cert.Kernel5Ideal.τ).loc Cert.Kernel5Ideal.main_v46_0)) (v1 : (c : Dev Cert.Kernel5Ideal.nD) → Buf (Elt Ideal) ((c.tc : Thread Cert.Kernel5Ideal.nD Cert.Kernel5Ideal.τ).loc Cert.Kernel5Ideal.main_v46_1)) (v2 : (c : Dev Cert.Kernel5Ideal.nD) → Buf (Elt Ideal) ((c.tc : Thread Cert.Kernel5Ideal.nD Cert.Kernel5Ideal.τ).loc Cert.Kernel5Ideal.main_v46_2)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v46_0) = v0 c
          ∧ r.2.mem ((c.tc : Thread Cert.Kernel5Ideal.nD Cert.Kernel5Ideal.τ).loc Cert.Kernel5Ideal.main_v46_1) = v1 c
          ∧ r.2.mem ((c.tc : Thread Cert.Kernel5Ideal.nD Cert.Kernel5Ideal.τ).loc Cert.Kernel5Ideal.main_v46_2) = v2 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
          ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
          ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v80) = v0 c
          ∧ r.2.mem ((c.tc : Thread Cert.Reference5Ideal.nD Cert.Reference5Ideal.τ).loc Cert.Reference5Ideal.main_v83) = v1 c
          ∧ r.2.mem ((c.tc : Thread Cert.Reference5Ideal.nD Cert.Reference5Ideal.τ).loc Cert.Reference5Ideal.main_v86) = v2 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5)
          ∧ r.2.mem ((c.tc : Thread Cert.Reference5Ideal.nD Cert.Reference5Ideal.τ).loc Cert.Reference5Ideal.main_arg6) = m' ((c.tc : Thread Cert.Reference5Ideal.nD Cert.Reference5Ideal.τ).loc Cert.Reference5Ideal.main_arg6)
          ∧ r.2.mem ((c.tc : Thread Cert.Reference5Ideal.nD Cert.Reference5Ideal.τ).loc Cert.Reference5Ideal.main_arg7) = m' ((c.tc : Thread Cert.Reference5Ideal.nD Cert.Reference5Ideal.τ).loc Cert.Reference5Ideal.main_arg7))

def Claim : Prop :=
  ∃ (hKernel : Cert.Kernel.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hPre_finite : Cert.Pre_finite.Facts),
    quiescent_Kernel (hKernel := hKernel)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Kernel4Ideal_pre_finite (hKernel4Ideal := hKernel4Ideal) (hPre_finite := hPre_finite)
    ∧ quiescent_Reference4Ideal (hReference4Ideal := hReference4Ideal)
    ∧ quiescent_Reference4Ideal_pre_finite (hReference4Ideal := hReference4Ideal) (hPre_finite := hPre_finite)
    ∧ quiescent_Kernel5 (hKernel5 := hKernel5)
    ∧ quiescent_Kernel5Ideal (hKernel5Ideal := hKernel5Ideal)
    ∧ quiescent_Reference5Ideal (hReference5Ideal := hReference5Ideal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal_pre_finite (hKernel4Ideal := hKernel4Ideal) (hReference4Ideal := hReference4Ideal) (hPre_finite := hPre_finite)
    ∧ preserves_Kernel5_Kernel5Ideal
    ∧ algebraic_Kernel5Ideal_Reference5Ideal (hKernel5Ideal := hKernel5Ideal) (hReference5Ideal := hReference5Ideal)
-- ==== Pre_finite.lean ====
abbrev S8x4096x8x96 : Shape := ⟨4, ![8, 4096, 8, 96]⟩
abbrev S8x4096x8x64 : Shape := ⟨4, ![8, 4096, 8, 64]⟩
abbrev S_ : Shape := ⟨0, ![]⟩

class Facts : Prop where
  bcast_S_S8x4096x8x96 : S_.BroadcastsInDim S8x4096x8x96 (![] : Fin 0 → Fin S8x4096x8x96.rank)
  reducesTo_S8x4096x8x96_S_d0_1_2_3 : S8x4096x8x96.ReducesTo [0, 1, 2, 3] S_
  h_S_ : 0 < S_.numel

variable [Facts]

def fn {F : FTy → Type} [FloatOps F] (main_arg0 : FVec F S8x4096x8x96 .f32) (main_arg1 : FVec F S8x4096x8x96 .f32) (main_arg2 : FVec F S8x4096x8x64 .f32) : IVec S_ 1 :=
  let main_v0 : FVec F S8x4096x8x96 .f32 := Host.absf main_arg0
  let main_cst : FVec F S_ .f32 := constant S_ .f32 0x7F800000#32
  let main_v1 : FVec F S8x4096x8x96 .f32 := broadcastInDim S8x4096x8x96 ![] bcast_S_S8x4096x8x96 main_cst
  let main_v2 : IVec S8x4096x8x96 1 := cmpf .olt main_v0 main_v1
  let main_c : IVec S_ 1 := constantI S_ 1 1#1
  let main_v3 : IVec S_ 1 := (fun x v => Host.reduce IntOp.andi x v reducesTo_S8x4096x8x96_S_d0_1_2_3 h_S_) main_v2 main_c
  let main_v4 : FVec F S8x4096x8x96 .f32 := Host.absf main_arg1
  let main_cst_0 : FVec F S_ .f32 := constant S_ .f32 0x7F800000#32
  let main_v5 : FVec F S8x4096x8x96 .f32 := broadcastInDim S8x4096x8x96 ![] bcast_S_S8x4096x8x96 main_cst_0
  let main_v6 : IVec S8x4096x8x96 1 := cmpf .olt main_v4 main_v5
  let main_c_1 : IVec S_ 1 := constantI S_ 1 1#1
  let main_v7 : IVec S_ 1 := (fun x v => Host.reduce IntOp.andi x v reducesTo_S8x4096x8x96_S_d0_1_2_3 h_S_) main_v6 main_c_1
  let main_v8 : IVec S_ 1 := andi main_v3 main_v7
  main_v8
-- ==== Kernel.lean ====
abbrev S32768x512 : Shape := ⟨2, ![32768, 512]⟩
abbrev S32768x256 : Shape := ⟨2, ![32768, 256]⟩
abbrev S64x8x512 : Shape := ⟨3, ![64, 8, 512]⟩
abbrev S32768x128 : Shape := ⟨2, ![32768, 128]⟩
abbrev S64x64x512 : Shape := ⟨3, ![64, 64, 512]⟩
abbrev S256x512 : Shape := ⟨2, ![256, 512]⟩
abbrev S256x256 : Shape := ⟨2, ![256, 256]⟩
abbrev S1x8x256 : Shape := ⟨3, ![1, 8, 256]⟩
abbrev S4096x128 : Shape := ⟨2, ![4096, 128]⟩
abbrev S8x64x512 : Shape := ⟨3, ![8, 64, 512]⟩
abbrev S8x512x256 : Shape := ⟨3, ![8, 512, 256]⟩
abbrev S32x128x256 : Shape := ⟨3, ![32, 128, 256]⟩
abbrev S1x2048 : Shape := ⟨2, ![1, 2048]⟩
abbrev S80x2048 : Shape := ⟨2, ![80, 2048]⟩
abbrev S512x2048 : Shape := ⟨2, ![512, 2048]⟩
abbrev S1x128 : Shape := ⟨2, ![1, 128]⟩
abbrev S256x128 : Shape := ⟨2, ![256, 128]⟩
abbrev S1024x128 : Shape := ⟨2, ![1024, 128]⟩
abbrev S8x256 : Shape := ⟨2, ![8, 256]⟩
abbrev S512x256 : Shape := ⟨2, ![512, 256]⟩
abbrev S512x128 : Shape := ⟨2, ![512, 128]⟩
abbrev S512x1024 : Shape := ⟨2, ![512, 1024]⟩
abbrev S1x256 : Shape := ⟨2, ![1, 256]⟩
abbrev S1x512x256 : Shape := ⟨3, ![1, 512, 256]⟩
abbrev S128x256 : Shape := ⟨2, ![128, 256]⟩
abbrev S1x128x256 : Shape := ⟨3, ![1, 128, 256]⟩
abbrev S256 : Shape := ⟨1, ![256]⟩
abbrev S1x1x256 : Shape := ⟨3, ![1, 1, 256]⟩
abbrev S1 : Shape := ⟨1, ![1]⟩
abbrev S1x1x1 : Shape := ⟨3, ![1, 1, 1]⟩
abbrev S128x128 : Shape := ⟨2, ![128, 128]⟩
abbrev S128x512 : Shape := ⟨2, ![128, 512]⟩
abbrev S16x512 : Shape := ⟨2, ![16, 512]⟩
abbrev S1x64x512 : Shape := ⟨3, ![1, 64, 512]⟩
abbrev S64x512 : Shape := ⟨2, ![64, 512]⟩
abbrev S80x512 : Shape := ⟨2, ![80, 512]⟩
abbrev S80x256 : Shape := ⟨2, ![80, 256]⟩
abbrev S64x2048 : Shape := ⟨2, ![64, 2048]⟩
abbrev S64x256 : Shape := ⟨2, ![64, 256]⟩
abbrev S64x128 : Shape := ⟨2, ![64, 128]⟩

abbrev nBuf : Space → Nat
  | .hbm => 7
  | .vmem => 20
  | .smem => 0
  | _ => 0

abbrev bufTy : (tb : Table) → Fin (tcTables nBuf tb) → BufTy
  | .hbm, ⟨0, _⟩ => ⟨S32768x512, .bf16⟩
  | .hbm, ⟨1, _⟩ => ⟨S32768x256, .bf16⟩
  | .hbm, ⟨2, _⟩ => ⟨S64x8x512, .f32⟩
  | .hbm, ⟨3, _⟩ => ⟨S32768x128, .bf16⟩
  | .hbm, ⟨4, _⟩ => ⟨S32768x128, .bf16⟩
  | .hbm, ⟨5, _⟩ => ⟨S64x64x512, .bf16⟩
  | .hbm, ⟨6, _⟩ => ⟨S32768x512, .bf16⟩
  | .local _ .vmem, ⟨0, _⟩ => ⟨S256x512, .bf16⟩
  | .local _ .vmem, ⟨1, _⟩ => ⟨S256x512, .bf16⟩
  | .local _ .vmem, ⟨2, _⟩ => ⟨S256x256, .bf16⟩
  | .local _ .vmem, ⟨3, _⟩ => ⟨S256x256, .bf16⟩
  | .local _ .vmem, ⟨4, _⟩ => ⟨S1x8x256, .f32⟩
  | .local _ .vmem, ⟨5, _⟩ => ⟨S1x8x256, .f32⟩
  | .local _ .vmem, ⟨6, _⟩ => ⟨S4096x128, .bf16⟩
  | .local _ .vmem, ⟨7, _⟩ => ⟨S4096x128, .bf16⟩
  | .local _ .vmem, ⟨8, _⟩ => ⟨S4096x128, .bf16⟩
  | .local _ .vmem, ⟨9, _⟩ => ⟨S4096x128, .bf16⟩
  | .local _ .vmem, ⟨10, _⟩ => ⟨S8x64x512, .bf16⟩
  | .local _ .vmem, ⟨11, _⟩ => ⟨S8x64x512, .bf16⟩
  | .local _ .vmem, ⟨12, _⟩ => ⟨S256x512, .bf16⟩
  | .local _ .vmem, ⟨13, _⟩ => ⟨S256x512, .bf16⟩
  | .local _ .vmem, ⟨14, _⟩ => ⟨S8x512x256, .i32⟩
  | .local _ .vmem, ⟨15, _⟩ => ⟨S32x128x256, .i32⟩
  | .local _ .vmem, ⟨16, _⟩ => ⟨S1x2048, .f32⟩
  | .local _ .vmem, ⟨17, _⟩ => ⟨S80x2048, .f32⟩
  | .local _ .vmem, ⟨18, _⟩ => ⟨S512x2048, .f32⟩
  | .local _ .vmem, ⟨19, _⟩ => ⟨S512x2048, .f32⟩
  | _, _ => ⟨S32768x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_scratch0 : Ref sig .tc := ⟨.vmem, 14, rfl⟩
abbrev cc0_scratch1 : Ref sig .tc := ⟨.vmem, 15, rfl⟩
abbrev cc0_scratch2 : Ref sig .tc := ⟨.vmem, 16, rfl⟩
abbrev cc0_scratch3 : Ref sig .tc := ⟨.vmem, 17, rfl⟩
abbrev cc0_scratch4 : Ref sig .tc := ⟨.vmem, 18, rfl⟩
abbrev cc0_scratch5 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [BitOps F]

abbrev grid0 : Pipeline.Grid := ⟨2, ![8, 16], ![false, false]⟩

@[reducible] def k0_t1_loop (i : grid0.Coords) : Scf.Loop 32 :=
  let c0_i32_21 : BitVec 32 := 0#32
  let arg1 : BitVec 32 := BitVec.ofNat 32 (i 1).val
  let c1_i32 : BitVec 32 := 1#32
  let v0 : BitVec 32 := Scalar.addi arg1 c1_i32
  let c256_i32 : BitVec 32 := 256#32
  let v1 : BitVec 32 := Scalar.muli v0 c256_i32
  let c512_i32 : BitVec 32 := 512#32
  let v2 : BitVec 32 := Scalar.addi v1 c512_i32
  let c1_i32_0 : BitVec 32 := 1#32
  let v3 : BitVec 32 := Scalar.subi v2 c1_i32_0
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_19 : BitVec 32 := 1#32
  let v58 : BitVec 32 := Scalar.subi v20 c1_i32_19
  let v59 : BitVec 32 := Scalar.subi v58 c0_i32_21
  let c1_i32_22 : BitVec 32 := 1#32
  let v61 : BitVec 32 := Scalar.divsi v59 c1_i32_22
  let v62 : BitVec 32 := Scalar.muli v61 c1_i32_22
  let v63 : BitVec 32 := Scalar.addi c0_i32_21 v62
  let c1_i32_23 : BitVec 32 := 1#32
  ⟨c0_i32_21, v63, c1_i32_23⟩
def k0_mult1 (i : grid0.Coords) (k0_t1 : Fin (k0_t1_loop i).trips) : BitVec 32 :=
  let c0_i32_21 : BitVec 32 := 0#32
  let c1_i32_23 : BitVec 32 := 1#32
  let arg15 : BitVec 32 := Scf.iv c0_i32_21 c1_i32_23 k0_t1
  let c512_i32_789 : BitVec 32 := 512#32
  let v2325 : BitVec 32 := Scalar.muli arg15 c512_i32_789
  v2325
def k0_off1 (i : grid0.Coords) (k0_t1 : Fin (k0_t1_loop i).trips) : Fin 2 → Nat :=
  let c0_i32_21 : BitVec 32 := 0#32
  let c1_i32_23 : BitVec 32 := 1#32
  let arg15 : BitVec 32 := Scf.iv c0_i32_21 c1_i32_23 k0_t1
  let c512_i32_789 : BitVec 32 := 512#32
  let v2325 : BitVec 32 := Scalar.muli arg15 c512_i32_789
  let v2326 : BitVec 32 := v2325
  let v2327 : Index := Scalar.indexCast v2326
  let c0_790 : Index := 0#32
  ![v2327.toNat, 0]
def k0_off2 (i : grid0.Coords) (k0_t1 : Fin (k0_t1_loop i).trips) : Fin 3 → Nat :=
  let c0_i32_21 : BitVec 32 := 0#32
  let c1_i32_23 : BitVec 32 := 1#32
  let arg15 : BitVec 32 := Scf.iv c0_i32_21 c1_i32_23 k0_t1
  let v2363 : Index := Scalar.indexCast arg15
  let c0_797 : Index := 0#32
  let c0_798 : Index := 0#32
  ![v2363.toNat, 0, 0]
def k0_mult2 (i : grid0.Coords) (k0_t1 : Fin (k0_t1_loop i).trips) : BitVec 32 :=
  let c0_i32_21 : BitVec 32 := 0#32
  let c1_i32_23 : BitVec 32 := 1#32
  let arg15 : BitVec 32 := Scf.iv c0_i32_21 c1_i32_23 k0_t1
  let c16_i32_799 : BitVec 32 := 16#32
  let v2367 : BitVec 32 := Scalar.muli arg15 c16_i32_799
  v2367
def k0_off3 (i : grid0.Coords) (k0_t1 : Fin (k0_t1_loop i).trips) (c0_i32_1041 : BitVec 32) : Fin 3 → Nat :=
  let c0_1042 : Index := 0#32
  let c0_i32_21 : BitVec 32 := 0#32
  let c1_i32_23 : BitVec 32 := 1#32
  let arg15 : BitVec 32 := Scf.iv c0_i32_21 c1_i32_23 k0_t1
  let c16_i32_799 : BitVec 32 := 16#32
  let v2367 : BitVec 32 := Scalar.muli arg15 c16_i32_799
  let v2368 : BitVec 32 := v2367
  let v3122 : BitVec 32 := Scalar.addi v2368 c0_i32_1041
  let v3123 : Index := Scalar.indexCast v3122
  let c0_1043 : Index := 0#32
  ![0, v3123.toNat, 0]
def k0_off4 (i : grid0.Coords) (k0_t1 : Fin (k0_t1_loop i).trips) (c0_i32_1044 : BitVec 32) : Fin 3 → Nat :=
  let c1_1045 : Index := 1#32
  let c0_i32_21 : BitVec 32 := 0#32
  let c1_i32_23 : BitVec 32 := 1#32
  let arg15 : BitVec 32 := Scf.iv c0_i32_21 c1_i32_23 k0_t1
  let c16_i32_799 : BitVec 32 := 16#32
  let v2367 : BitVec 32 := Scalar.muli arg15 c16_i32_799
  let v2368 : BitVec 32 := v2367
  let v3127 : BitVec 32 := Scalar.addi v2368 c0_i32_1044
  let v3128 : Index := Scalar.indexCast v3127
  let c0_1046 : Index := 0#32
  ![1, v3128.toNat, 0]
def k0_off5 (i : grid0.Coords) (k0_t1 : Fin (k0_t1_loop i).trips) (c0_i32_1047 : BitVec 32) : Fin 3 → Nat :=
  let c2_1048 : Index := 2#32
  let c0_i32_21 : BitVec 32 := 0#32
  let c1_i32_23 : BitVec 32 := 1#32
  let arg15 : BitVec 32 := Scf.iv c0_i32_21 c1_i32_23 k0_t1
  let c16_i32_799 : BitVec 32 := 16#32
  let v2367 : BitVec 32 := Scalar.muli arg15 c16_i32_799
  let v2368 : BitVec 32 := v2367
  let v3132 : BitVec 32 := Scalar.addi v2368 c0_i32_1047
  let v3133 : Index := Scalar.indexCast v3132
  let c0_1049 : Index := 0#32
  ![2, v3133.toNat, 0]
def k0_off6 (i : grid0.Coords) (k0_t1 : Fin (k0_t1_loop i).trips) (c0_i32_1050 : BitVec 32) : Fin 3 → Nat :=
  let c3_1051 : Index := 3#32
  let c0_i32_21 : BitVec 32 := 0#32
  let c1_i32_23 : BitVec 32 := 1#32
  let arg15 : BitVec 32 := Scf.iv c0_i32_21 c1_i32_23 k0_t1
  let c16_i32_799 : BitVec 32 := 16#32
  let v2367 : BitVec 32 := Scalar.muli arg15 c16_i32_799
  let v2368 : BitVec 32 := v2367
  let v3137 : BitVec 32 := Scalar.addi v2368 c0_i32_1050
  let v3138 : Index := Scalar.indexCast v3137
  let c0_1052 : Index := 0#32
  ![3, v3138.toNat, 0]
def k0_off7 (i : grid0.Coords) (k0_t1 : Fin (k0_t1_loop i).trips) (c0_i32_1053 : BitVec 32) : Fin 3 → Nat :=
  let c4_1054 : Index := 4#32
  let c0_i32_21 : BitVec 32 := 0#32
  let c1_i32_23 : BitVec 32 := 1#32
  let arg15 : BitVec 32 := Scf.iv c0_i32_21 c1_i32_23 k0_t1
  let c16_i32_799 : BitVec 32 := 16#32
  let v2367 : BitVec 32 := Scalar.muli arg15 c16_i32_799
  let v2368 : BitVec 32 := v2367
  let v3142 : BitVec 32 := Scalar.addi v2368 c0_i32_1053
  let v3143 : Index := Scalar.indexCast v3142
  let c0_1055 : Index := 0#32
  ![4, v3143.toNat, 0]
def k0_off8 (i : grid0.Coords) (k0_t1 : Fin (k0_t1_loop i).trips) (c0_i32_1056 : BitVec 32) : Fin 3 → Nat :=
  let c5_1057 : Index := 5#32
  let c0_i32_21 : BitVec 32 := 0#32
  let c1_i32_23 : BitVec 32 := 1#32
  let arg15 : BitVec 32 := Scf.iv c0_i32_21 c1_i32_23 k0_t1
  let c16_i32_799 : BitVec 32 := 16#32
  let v2367 : BitVec 32 := Scalar.muli arg15 c16_i32_799
  let v2368 : BitVec 32 := v2367
  let v3147 : BitVec 32 := Scalar.addi v2368 c0_i32_1056
  let v3148 : Index := Scalar.indexCast v3147
  let c0_1058 : Index := 0#32
  ![5, v3148.toNat, 0]
def k0_off9 (i : grid0.Coords) (k0_t1 : Fin (k0_t1_loop i).trips) (c0_i32_1059 : BitVec 32) : Fin 3 → Nat :=
  let c6_1060 : Index := 6#32
  let c0_i32_21 : BitVec 32 := 0#32
  let c1_i32_23 : BitVec 32 := 1#32
  let arg15 : BitVec 32 := Scf.iv c0_i32_21 c1_i32_23 k0_t1
  let c16_i32_799 : BitVec 32 := 16#32
  let v2367 : BitVec 32 := Scalar.muli arg15 c16_i32_799
  let v2368 : BitVec 32 := v2367
  let v3152 : BitVec 32 := Scalar.addi v2368 c0_i32_1059
  let v3153 : Index := Scalar.indexCast v3152
  let c0_1061 : Index := 0#32
  ![6, v3153.toNat, 0]
def k0_off10 (i : grid0.Coords) (k0_t1 : Fin (k0_t1_loop i).trips) (c0_i32_1062 : BitVec 32) : Fin 3 → Nat :=
  let c7_1063 : Index := 7#32
  let c0_i32_21 : BitVec 32 := 0#32
  let c1_i32_23 : BitVec 32 := 1#32
  let arg15 : BitVec 32 := Scf.iv c0_i32_21 c1_i32_23 k0_t1
  let c16_i32_799 : BitVec 32 := 16#32
  let v2367 : BitVec 32 := Scalar.muli arg15 c16_i32_799
  let v2368 : BitVec 32 := v2367
  let v3157 : BitVec 32 := Scalar.addi v2368 c0_i32_1062
  let v3158 : Index := Scalar.indexCast v3157
  let c0_1064 : Index := 0#32
  ![7, v3158.toNat, 0]
def k0_off11 (i : grid0.Coords) (k0_t1 : Fin (k0_t1_loop i).trips) (c0_i32_1065 : BitVec 32) : Fin 3 → Nat :=
  let c8_1066 : Index := 8#32
  let c0_i32_21 : BitVec 32 := 0#32
  let c1_i32_23 : BitVec 32 := 1#32
  let arg15 : BitVec 32 := Scf.iv c0_i32_21 c1_i32_23 k0_t1
  let c16_i32_799 : BitVec 32 := 16#32
  let v2367 : BitVec 32 := Scalar.muli arg15 c16_i32_799
  let v2368 : BitVec 32 := v2367
  let v3162 : BitVec 32 := Scalar.addi v2368 c0_i32_1065
  let v3163 : Index := Scalar.indexCast v3162
  let c0_1067 : Index := 0#32
  ![8, v3163.toNat, 0]
def k0_off12 (i : grid0.Coords) (k0_t1 : Fin (k0_t1_loop i).trips) (c0_i32_1068 : BitVec 32) : Fin 3 → Nat :=
  let c9_1069 : Index := 9#32
  let c0_i32_21 : BitVec 32 := 0#32
  let c1_i32_23 : BitVec 32 := 1#32
  let arg15 : BitVec 32 := Scf.iv c0_i32_21 c1_i32_23 k0_t1
  let c16_i32_799 : BitVec 32 := 16#32
  let v2367 : BitVec 32 := Scalar.muli arg15 c16_i32_799
  let v2368 : BitVec 32 := v2367
  let v3167 : BitVec 32 := Scalar.addi v2368 c0_i32_1068
  let v3168 : Index := Scalar.indexCast v3167
  let c0_1070 : Index := 0#32
  ![9, v3168.toNat, 0]
def k0_off13 (i : grid0.Coords) (k0_t1 : Fin (k0_t1_loop i).trips) (c0_i32_1071 : BitVec 32) : Fin 3 → Nat :=
  let c10_1072 : Index := 10#32
  let c0_i32_21 : BitVec 32 := 0#32
  let c1_i32_23 : BitVec 32 := 1#32
  let arg15 : BitVec 32 := Scf.iv c0_i32_21 c1_i32_23 k0_t1
  let c16_i32_799 : BitVec 32 := 16#32
  let v2367 : BitVec 32 := Scalar.muli arg15 c16_i32_799
  let v2368 : BitVec 32 := v2367
  let v3172 : BitVec 32 := Scalar.addi v2368 c0_i32_1071
  let v3173 : Index := Scalar.indexCast v3172
  let c0_1073 : Index := 0#32
  ![10, v3173.toNat, 0]
def k0_off14 (i : grid0.Coords) (k0_t1 : Fin (k0_t1_loop i).trips) (c0_i32_1074 : BitVec 32) : Fin 3 → Nat :=
  let c11_1075 : Index := 11#32
  let c0_i32_21 : BitVec 32 := 0#32
  let c1_i32_23 : BitVec 32 := 1#32
  let arg15 : BitVec 32 := Scf.iv c0_i32_21 c1_i32_23 k0_t1
  let c16_i32_799 : BitVec 32 := 16#32
  let v2367 : BitVec 32 := Scalar.muli arg15 c16_i32_799
  let v2368 : BitVec 32 := v2367
  let v3177 : BitVec 32 := Scalar.addi v2368 c0_i32_1074
  let v3178 : Index := Scalar.indexCast v3177
  let c0_1076 : Index := 0#32
  ![11, v3178.toNat, 0]
def k0_off15 (i : grid0.Coords) (k0_t1 : Fin (k0_t1_loop i).trips) (c0_i32_1077 : BitVec 32) : Fin 3 → Nat :=
  let c12_1078 : Index := 12#32
  let c0_i32_21 : BitVec 32 := 0#32
  let c1_i32_23 : BitVec 32 := 1#32
  let arg15 : BitVec 32 := Scf.iv c0_i32_21 c1_i32_23 k0_t1
  let c16_i32_799 : BitVec 32 := 16#32
  let v2367 : BitVec 32 := Scalar.muli arg15 c16_i32_799
  let v2368 : BitVec 32 := v2367
  let v3182 : BitVec 32 := Scalar.addi v2368 c0_i32_1077
  let v3183 : Index := Scalar.indexCast v3182
  let c0_1079 : Index := 0#32
  ![12, v3183.toNat, 0]
def k0_off16 (i : grid0.Coords) (k0_t1 : Fin (k0_t1_loop i).trips) (c0_i32_1080 : BitVec 32) : Fin 3 → Nat :=
  let c13_1081 : Index := 13#32
  let c0_i32_21 : BitVec 32 := 0#32
  let c1_i32_23 : BitVec 32 := 1#32
  let arg15 : BitVec 32 := Scf.iv c0_i32_21 c1_i32_23 k0_t1
  let c16_i32_799 : BitVec 32 := 16#32
  let v2367 : BitVec 32 := Scalar.muli arg15 c16_i32_799
  let v2368 : BitVec 32 := v2367
  let v3187 : BitVec 32 := Scalar.addi v2368 c0_i32_1080
  let v3188 : Index := Scalar.indexCast v3187
  let c0_1082 : Index := 0#32
  ![13, v3188.toNat, 0]
def k0_off17 (i : grid0.Coords) (k0_t1 : Fin (k0_t1_loop i).trips) (c0_i32_1083 : BitVec 32) : Fin 3 → Nat :=
  let c14_1084 : Index := 14#32
  let c0_i32_21 : BitVec 32 := 0#32
  let c1_i32_23 : BitVec 32 := 1#32
  let arg15 : BitVec 32 := Scf.iv c0_i32_21 c1_i32_23 k0_t1
  let c16_i32_799 : BitVec 32 := 16#32
  let v2367 : BitVec 32 := Scalar.muli arg15 c16_i32_799
  let v2368 : BitVec 32 := v2367
  let v3192 : BitVec 32 := Scalar.addi v2368 c0_i32_1083
  let v3193 : Index := Scalar.indexCast v3192
  let c0_1085 : Index := 0#32
  ![14, v3193.toNat, 0]
def k0_off18 (i : grid0.Coords) (k0_t1 : Fin (k0_t1_loop i).trips) (c0_i32_1086 : BitVec 32) : Fin 3 → Nat :=
  let c15_1087 : Index := 15#32
  let c0_i32_21 : BitVec 32 := 0#32
  let c1_i32_23 : BitVec 32 := 1#32
  let arg15 : BitVec 32 := Scf.iv c0_i32_21 c1_i32_23 k0_t1
  let c16_i32_799 : BitVec 32 := 16#32
  let v2367 : BitVec 32 := Scalar.muli arg15 c16_i32_799
  let v2368 : BitVec 32 := v2367
  let v3197 : BitVec 32 := Scalar.addi v2368 c0_i32_1086
  let v3198 : Index := Scalar.indexCast v3197
  let c0_1088 : Index := 0#32
  ![15, v3198.toNat, 0]
def k0_off19 (i : grid0.Coords) (k0_t1 : Fin (k0_t1_loop i).trips) (c0_i32_1089 : BitVec 32) : Fin 3 → Nat :=
  let c16_1090 : Index := 16#32
  let c0_i32_21 : BitVec 32 := 0#32
  let c1_i32_23 : BitVec 32 := 1#32
  let arg15 : BitVec 32 := Scf.iv c0_i32_21 c1_i32_23 k0_t1
  let c16_i32_799 : BitVec 32 := 16#32
  let v2367 : BitVec 32 := Scalar.muli arg15 c16_i32_799
  let v2368 : BitVec 32 := v2367
  let v3202 : BitVec 32 := Scalar.addi v2368 c0_i32_1089
  let v3203 : Index := Scalar.indexCast v3202
  let c0_1091 : Index := 0#32
  ![16, v3203.toNat, 0]
def k0_off20 (i : grid0.Coords) (k0_t1 : Fin (k0_t1_loop i).trips) (c0_i32_1092 : BitVec 32) : Fin 3 → Nat :=
  let c17_1093 : Index := 17#32
  let c0_i32_21 : BitVec 32 := 0#32
  let c1_i32_23 : BitVec 32 := 1#32
  let arg15 : BitVec 32 := Scf.iv c0_i32_21 c1_i32_23 k0_t1
  let c16_i32_799 : BitVec 32 := 16#32
  let v2367 : BitVec 32 := Scalar.muli arg15 c16_i32_799
  let v2368 : BitVec 32 := v2367
  let v3207 : BitVec 32 := Scalar.addi v2368 c0_i32_1092
  let v3208 : Index := Scalar.indexCast v3207
  let c0_1094 : Index := 0#32
  ![17, v3208.toNat, 0]
def k0_off21 (i : grid0.Coords) (k0_t1 : Fin (k0_t1_loop i).trips) (c0_i32_1095 : BitVec 32) : Fin 3 → Nat :=
  let c18_1096 : Index := 18#32
  let c0_i32_21 : BitVec 32 := 0#32
  let c1_i32_23 : BitVec 32 := 1#32
  let arg15 : BitVec 32 := Scf.iv c0_i32_21 c1_i32_23 k0_t1
  let c16_i32_799 : BitVec 32 := 16#32
  let v2367 : BitVec 32 := Scalar.muli arg15 c16_i32_799
  let v2368 : BitVec 32 := v2367
  let v3212 : BitVec 32 := Scalar.addi v2368 c0_i32_1095
  let v3213 : Index := Scalar.indexCast v3212
  let c0_1097 : Index := 0#32
  ![18, v3213.toNat, 0]
def k0_off22 (i : grid0.Coords) (k0_t1 : Fin (k0_t1_loop i).trips) (c0_i32_1098 : BitVec 32) : Fin 3 → Nat :=
  let c19_1099 : Index := 19#32
  let c0_i32_21 : BitVec 32 := 0#32
  let c1_i32_23 : BitVec 32 := 1#32
  let arg15 : BitVec 32 := Scf.iv c0_i32_21 c1_i32_23 k0_t1
  let c16_i32_799 : BitVec 32 := 16#32
  let v2367 : BitVec 32 := Scalar.muli arg15 c16_i32_799
  let v2368 : BitVec 32 := v2367
  let v3217 : BitVec 32 := Scalar.addi v2368 c0_i32_1098
  let v3218 : Index := Scalar.indexCast v3217
  let c0_1100 : Index := 0#32
  ![19, v3218.toNat, 0]
def k0_off23 (i : grid0.Coords) (k0_t1 : Fin (k0_t1_loop i).trips) (c0_i32_1101 : BitVec 32) : Fin 3 → Nat :=
  let c20_1102 : Index := 20#32
  let c0_i32_21 : BitVec 32 := 0#32
  let c1_i32_23 : BitVec 32 := 1#32
  let arg15 : BitVec 32 := Scf.iv c0_i32_21 c1_i32_23 k0_t1
  let c16_i32_799 : BitVec 32 := 16#32
  let v2367 : BitVec 32 := Scalar.muli arg15 c16_i32_799
  let v2368 : BitVec 32 := v2367
  let v3222 : BitVec 32 := Scalar.addi v2368 c0_i32_1101
  let v3223 : Index := Scalar.indexCast v3222
  let c0_1103 : Index := 0#32
  ![20, v3223.toNat, 0]
def k0_off24 (i : grid0.Coords) (k0_t1 : Fin (k0_t1_loop i).trips) (c0_i32_1104 : BitVec 32) : Fin 3 → Nat :=
  let c21_1105 : Index := 21#32
  let c0_i32_21 : BitVec 32 := 0#32
  let c1_i32_23 : BitVec 32 := 1#32
  let arg15 : BitVec 32 := Scf.iv c0_i32_21 c1_i32_23 k0_t1
  let c16_i32_799 : BitVec 32 := 16#32
  let v2367 : BitVec 32 := Scalar.muli arg15 c16_i32_799
  let v2368 : BitVec 32 := v2367
  let v3227 : BitVec 32 := Scalar.addi v2368 c0_i32_1104
  let v3228 : Index := Scalar.indexCast v3227
  let c0_1106 : Index := 0#32
  ![21, v3228.toNat, 0]
def k0_off25 (i : grid0.Coords) (k0_t1 : Fin (k0_t1_loop i).trips) (c0_i32_1107 : BitVec 32) : Fin 3 → Nat :=
  let c22_1108 : Index := 22#32
  let c0_i32_21 : BitVec 32 := 0#32
  let c1_i32_23 : BitVec 32 := 1#32
  let arg15 : BitVec 32 := Scf.iv c0_i32_21 c1_i32_23 k0_t1
  let c16_i32_799 : BitVec 32 := 16#32
  let v2367 : BitVec 32 := Scalar.muli arg15 c16_i32_799
  let v2368 : BitVec 32 := v2367
  let v3232 : BitVec 32 := Scalar.addi v2368 c0_i32_1107
  let v3233 : Index := Scalar.indexCast v3232
  let c0_1109 : Index := 0#32
  ![22, v3233.toNat, 0]
def k0_off26 (i : grid0.Coords) (k0_t1 : Fin (k0_t1_loop i).trips) (c0_i32_1110 : BitVec 32) : Fin 3 → Nat :=
  let c23_1111 : Index := 23#32
  let c0_i32_21 : BitVec 32 := 0#32
  let c1_i32_23 : BitVec 32 := 1#32
  let arg15 : BitVec 32 := Scf.iv c0_i32_21 c1_i32_23 k0_t1
  let c16_i32_799 : BitVec 32 := 16#32
  let v2367 : BitVec 32 := Scalar.muli arg15 c16_i32_799
  let v2368 : BitVec 32 := v2367
  let v3237 : BitVec 32 := Scalar.addi v2368 c0_i32_1110
  let v3238 : Index := Scalar.indexCast v3237
  let c0_1112 : Index := 0#32
  ![23, v3238.toNat, 0]
def k0_off27 (i : grid0.Coords) (k0_t1 : Fin (k0_t1_loop i).trips) (c0_i32_1113 : BitVec 32) : Fin 3 → Nat :=
  let c24_1114 : Index := 24#32
  let c0_i32_21 : BitVec 32 := 0#32
  let c1_i32_23 : BitVec 32 := 1#32
  let arg15 : BitVec 32 := Scf.iv c0_i32_21 c1_i32_23 k0_t1
  let c16_i32_799 : BitVec 32 := 16#32
  let v2367 : BitVec 32 := Scalar.muli arg15 c16_i32_799
  let v2368 : BitVec 32 := v2367
  let v3242 : BitVec 32 := Scalar.addi v2368 c0_i32_1113
  let v3243 : Index := Scalar.indexCast v3242
  let c0_1115 : Index := 0#32
  ![24, v3243.toNat, 0]
def k0_off28 (i : grid0.Coords) (k0_t1 : Fin (k0_t1_loop i).trips) (c0_i32_1116 : BitVec 32) : Fin 3 → Nat :=
  let c25_1117 : Index := 25#32
  let c0_i32_21 : BitVec 32 := 0#32
  let c1_i32_23 : BitVec 32 := 1#32
  let arg15 : BitVec 32 := Scf.iv c0_i32_21 c1_i32_23 k0_t1
  let c16_i32_799 : BitVec 32 := 16#32
  let v2367 : BitVec 32 := Scalar.muli arg15 c16_i32_799
  let v2368 : BitVec 32 := v2367
  let v3247 : BitVec 32 := Scalar.addi v2368 c0_i32_1116
  let v3248 : Index := Scalar.indexCast v3247
  let c0_1118 : Index := 0#32
  ![25, v3248.toNat, 0]
def k0_off29 (i : grid0.Coords) (k0_t1 : Fin (k0_t1_loop i).trips) (c0_i32_1119 : BitVec 32) : Fin 3 → Nat :=
  let c26_1120 : Index := 26#32
  let c0_i32_21 : BitVec 32 := 0#32
  let c1_i32_23 : BitVec 32 := 1#32
  let arg15 : BitVec 32 := Scf.iv c0_i32_21 c1_i32_23 k0_t1
  let c16_i32_799 : BitVec 32 := 16#32
  let v2367 : BitVec 32 := Scalar.muli arg15 c16_i32_799
  let v2368 : BitVec 32 := v2367
  let v3252 : BitVec 32 := Scalar.addi v2368 c0_i32_1119
  let v3253 : Index := Scalar.indexCast v3252
  let c0_1121 : Index := 0#32
  ![26, v3253.toNat, 0]
def k0_off30 (i : grid0.Coords) (k0_t1 : Fin (k0_t1_loop i).trips) (c0_i32_1122 : BitVec 32) : Fin 3 → Nat :=
  let c27_1123 : Index := 27#32
  let c0_i32_21 : BitVec 32 := 0#32
  let c1_i32_23 : BitVec 32 := 1#32
  let arg15 : BitVec 32 := Scf.iv c0_i32_21 c1_i32_23 k0_t1
  let c16_i32_799 : BitVec 32 := 16#32
  let v2367 : BitVec 32 := Scalar.muli arg15 c16_i32_799
  let v2368 : BitVec 32 := v2367
  let v3257 : BitVec 32 := Scalar.addi v2368 c0_i32_1122
  let v3258 : Index := Scalar.indexCast v3257
  let c0_1124 : Index := 0#32
  ![27, v3258.toNat, 0]
def k0_off31 (i : grid0.Coords) (k0_t1 : Fin (k0_t1_loop i).trips) (c0_i32_1125 : BitVec 32) : Fin 3 → Nat :=
  let c28_1126 : Index := 28#32
  let c0_i32_21 : BitVec 32 := 0#32
  let c1_i32_23 : BitVec 32 := 1#32
  let arg15 : BitVec 32 := Scf.iv c0_i32_21 c1_i32_23 k0_t1
  let c16_i32_799 : BitVec 32 := 16#32
  let v2367 : BitVec 32 := Scalar.muli arg15 c16_i32_799
  let v2368 : BitVec 32 := v2367
  let v3262 : BitVec 32 := Scalar.addi v2368 c0_i32_1125
  let v3263 : Index := Scalar.indexCast v3262
  let c0_1127 : Index := 0#32
  ![28, v3263.toNat, 0]
def k0_off32 (i : grid0.Coords) (k0_t1 : Fin (k0_t1_loop i).trips) (c0_i32_1128 : BitVec 32) : Fin 3 → Nat :=
  let c29_1129 : Index := 29#32
  let c0_i32_21 : BitVec 32 := 0#32
  let c1_i32_23 : BitVec 32 := 1#32
  let arg15 : BitVec 32 := Scf.iv c0_i32_21 c1_i32_23 k0_t1
  let c16_i32_799 : BitVec 32 := 16#32
  let v2367 : BitVec 32 := Scalar.muli arg15 c16_i32_799
  let v2368 : BitVec 32 := v2367
  let v3267 : BitVec 32 := Scalar.addi v2368 c0_i32_1128
  let v3268 : Index := Scalar.indexCast v3267
  let c0_1130 : Index := 0#32
  ![29, v3268.toNat, 0]
def k0_off33 (i : grid0.Coords) (k0_t1 : Fin (k0_t1_loop i).trips) (c0_i32_1131 : BitVec 32) : Fin 3 → Nat :=
  let c30_1132 : Index := 30#32
  let c0_i32_21 : BitVec 32 := 0#32
  let c1_i32_23 : BitVec 32 := 1#32
  let arg15 : BitVec 32 := Scf.iv c0_i32_21 c1_i32_23 k0_t1
  let c16_i32_799 : BitVec 32 := 16#32
  let v2367 : BitVec 32 := Scalar.muli arg15 c16_i32_799
  let v2368 : BitVec 32 := v2367
  let v3272 : BitVec 32 := Scalar.addi v2368 c0_i32_1131
  let v3273 : Index := Scalar.indexCast v3272
  let c0_1133 : Index := 0#32
  ![30, v3273.toNat, 0]
def k0_off34 (i : grid0.Coords) (k0_t1 : Fin (k0_t1_loop i).trips) (c0_i32_1134 : BitVec 32) : Fin 3 → Nat :=
  let c31_1135 : Index := 31#32
  let c0_i32_21 : BitVec 32 := 0#32
  let c1_i32_23 : BitVec 32 := 1#32
  let arg15 : BitVec 32 := Scf.iv c0_i32_21 c1_i32_23 k0_t1
  let c16_i32_799 : BitVec 32 := 16#32
  let v2367 : BitVec 32 := Scalar.muli arg15 c16_i32_799
  let v2368 : BitVec 32 := v2367
  let v3277 : BitVec 32 := Scalar.addi v2368 c0_i32_1134
  let v3278 : Index := Scalar.indexCast v3277
  let c0_1136 : Index := 0#32
  ![31, v3278.toNat, 0]
@[reducible] def k0_t2_loop (i : grid0.Coords) : Scf.Loop 32 :=
  let c0_i32_21 : BitVec 32 := 0#32
  let arg1 : BitVec 32 := BitVec.ofNat 32 (i 1).val
  let c1_i32 : BitVec 32 := 1#32
  let v0 : BitVec 32 := Scalar.addi arg1 c1_i32
  let c256_i32 : BitVec 32 := 256#32
  let v1 : BitVec 32 := Scalar.muli v0 c256_i32
  let c512_i32 : BitVec 32 := 512#32
  let v2 : BitVec 32 := Scalar.addi v1 c512_i32
  let c1_i32_0 : BitVec 32 := 1#32
  let v3 : BitVec 32 := Scalar.subi v2 c1_i32_0
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_19 : BitVec 32 := 1#32
  let v58 : BitVec 32 := Scalar.subi v20 c1_i32_19
  let v59 : BitVec 32 := Scalar.subi v58 c0_i32_21
  let c1_i32_22 : BitVec 32 := 1#32
  let v61 : BitVec 32 := Scalar.divsi v59 c1_i32_22
  let v62 : BitVec 32 := Scalar.muli v61 c1_i32_22
  let v63 : BitVec 32 := Scalar.addi c0_i32_21 v62
  let v60 : BitVec 32 := Scalar.addi c0_i32_21 v59
  let c1_i32_24 : BitVec 32 := 1#32
  ⟨v63, v60, c1_i32_24⟩
def k0_mult3 (i : grid0.Coords) (k0_t2 : Fin (k0_t2_loop i).trips) : BitVec 32 :=
  let c0_i32_21 : BitVec 32 := 0#32
  let arg1 : BitVec 32 := BitVec.ofNat 32 (i 1).val
  let c1_i32 : BitVec 32 := 1#32
  let v0 : BitVec 32 := Scalar.addi arg1 c1_i32
  let c256_i32 : BitVec 32 := 256#32
  let v1 : BitVec 32 := Scalar.muli v0 c256_i32
  let c512_i32 : BitVec 32 := 512#32
  let v2 : BitVec 32 := Scalar.addi v1 c512_i32
  let c1_i32_0 : BitVec 32 := 1#32
  let v3 : BitVec 32 := Scalar.subi v2 c1_i32_0
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_19 : BitVec 32 := 1#32
  let v58 : BitVec 32 := Scalar.subi v20 c1_i32_19
  let v59 : BitVec 32 := Scalar.subi v58 c0_i32_21
  let c1_i32_22 : BitVec 32 := 1#32
  let v61 : BitVec 32 := Scalar.divsi v59 c1_i32_22
  let v62 : BitVec 32 := Scalar.muli v61 c1_i32_22
  let v63 : BitVec 32 := Scalar.addi c0_i32_21 v62
  let c1_i32_24 : BitVec 32 := 1#32
  let arg15 : BitVec 32 := Scf.iv v63 c1_i32_24 k0_t2
  let c512_i32_789 : BitVec 32 := 512#32
  let v2325 : BitVec 32 := Scalar.muli arg15 c512_i32_789
  v2325
def k0_off35 (i : grid0.Coords) (k0_t2 : Fin (k0_t2_loop i).trips) : Fin 2 → Nat :=
  let c0_i32_21 : BitVec 32 := 0#32
  let arg1 : BitVec 32 := BitVec.ofNat 32 (i 1).val
  let c1_i32 : BitVec 32 := 1#32
  let v0 : BitVec 32 := Scalar.addi arg1 c1_i32
  let c256_i32 : BitVec 32 := 256#32
  let v1 : BitVec 32 := Scalar.muli v0 c256_i32
  let c512_i32 : BitVec 32 := 512#32
  let v2 : BitVec 32 := Scalar.addi v1 c512_i32
  let c1_i32_0 : BitVec 32 := 1#32
  let v3 : BitVec 32 := Scalar.subi v2 c1_i32_0
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_19 : BitVec 32 := 1#32
  let v58 : BitVec 32 := Scalar.subi v20 c1_i32_19
  let v59 : BitVec 32 := Scalar.subi v58 c0_i32_21
  let c1_i32_22 : BitVec 32 := 1#32
  let v61 : BitVec 32 := Scalar.divsi v59 c1_i32_22
  let v62 : BitVec 32 := Scalar.muli v61 c1_i32_22
  let v63 : BitVec 32 := Scalar.addi c0_i32_21 v62
  let c1_i32_24 : BitVec 32 := 1#32
  let arg15 : BitVec 32 := Scf.iv v63 c1_i32_24 k0_t2
  let c512_i32_789 : BitVec 32 := 512#32
  let v2325 : BitVec 32 := Scalar.muli arg15 c512_i32_789
  let v2326 : BitVec 32 := v2325
  let v2327 : Index := Scalar.indexCast v2326
  let c0_790 : Index := 0#32
  ![v2327.toNat, 0]
def k0_off36 (i : grid0.Coords) (k0_t2 : Fin (k0_t2_loop i).trips) : Fin 3 → Nat :=
  let c0_i32_21 : BitVec 32 := 0#32
  let arg1 : BitVec 32 := BitVec.ofNat 32 (i 1).val
  let c1_i32 : BitVec 32 := 1#32
  let v0 : BitVec 32 := Scalar.addi arg1 c1_i32
  let c256_i32 : BitVec 32 := 256#32
  let v1 : BitVec 32 := Scalar.muli v0 c256_i32
  let c512_i32 : BitVec 32 := 512#32
  let v2 : BitVec 32 := Scalar.addi v1 c512_i32
  let c1_i32_0 : BitVec 32 := 1#32
  let v3 : BitVec 32 := Scalar.subi v2 c1_i32_0
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_19 : BitVec 32 := 1#32
  let v58 : BitVec 32 := Scalar.subi v20 c1_i32_19
  let v59 : BitVec 32 := Scalar.subi v58 c0_i32_21
  let c1_i32_22 : BitVec 32 := 1#32
  let v61 : BitVec 32 := Scalar.divsi v59 c1_i32_22
  let v62 : BitVec 32 := Scalar.muli v61 c1_i32_22
  let v63 : BitVec 32 := Scalar.addi c0_i32_21 v62
  let c1_i32_24 : BitVec 32 := 1#32
  let arg15 : BitVec 32 := Scf.iv v63 c1_i32_24 k0_t2
  let v2363 : Index := Scalar.indexCast arg15
  let c0_797 : Index := 0#32
  let c0_798 : Index := 0#32
  ![v2363.toNat, 0, 0]
def k0_mult4 (i : grid0.Coords) (k0_t2 : Fin (k0_t2_loop i).trips) : BitVec 32 :=
  let c0_i32_21 : BitVec 32 := 0#32
  let arg1 : BitVec 32 := BitVec.ofNat 32 (i 1).val
  let c1_i32 : BitVec 32 := 1#32
  let v0 : BitVec 32 := Scalar.addi arg1 c1_i32
  let c256_i32 : BitVec 32 := 256#32
  let v1 : BitVec 32 := Scalar.muli v0 c256_i32
  let c512_i32 : BitVec 32 := 512#32
  let v2 : BitVec 32 := Scalar.addi v1 c512_i32
  let c1_i32_0 : BitVec 32 := 1#32
  let v3 : BitVec 32 := Scalar.subi v2 c1_i32_0
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_19 : BitVec 32 := 1#32
  let v58 : BitVec 32 := Scalar.subi v20 c1_i32_19
  let v59 : BitVec 32 := Scalar.subi v58 c0_i32_21
  let c1_i32_22 : BitVec 32 := 1#32
  let v61 : BitVec 32 := Scalar.divsi v59 c1_i32_22
  let v62 : BitVec 32 := Scalar.muli v61 c1_i32_22
  let v63 : BitVec 32 := Scalar.addi c0_i32_21 v62
  let c1_i32_24 : BitVec 32 := 1#32
  let arg15 : BitVec 32 := Scf.iv v63 c1_i32_24 k0_t2
  let c16_i32_799 : BitVec 32 := 16#32
  let v2367 : BitVec 32 := Scalar.muli arg15 c16_i32_799
  v2367
def k0_off37 (i : grid0.Coords) (k0_t2 : Fin (k0_t2_loop i).trips) (c0_i32_1041 : BitVec 32) : Fin 3 → Nat :=
  let c0_1042 : Index := 0#32
  let c0_i32_21 : BitVec 32 := 0#32
  let arg1 : BitVec 32 := BitVec.ofNat 32 (i 1).val
  let c1_i32 : BitVec 32 := 1#32
  let v0 : BitVec 32 := Scalar.addi arg1 c1_i32
  let c256_i32 : BitVec 32 := 256#32
  let v1 : BitVec 32 := Scalar.muli v0 c256_i32
  let c512_i32 : BitVec 32 := 512#32
  let v2 : BitVec 32 := Scalar.addi v1 c512_i32
  let c1_i32_0 : BitVec 32 := 1#32
  let v3 : BitVec 32 := Scalar.subi v2 c1_i32_0
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_19 : BitVec 32 := 1#32
  let v58 : BitVec 32 := Scalar.subi v20 c1_i32_19
  let v59 : BitVec 32 := Scalar.subi v58 c0_i32_21
  let c1_i32_22 : BitVec 32 := 1#32
  let v61 : BitVec 32 := Scalar.divsi v59 c1_i32_22
  let v62 : BitVec 32 := Scalar.muli v61 c1_i32_22
  let v63 : BitVec 32 := Scalar.addi c0_i32_21 v62
  let c1_i32_24 : BitVec 32 := 1#32
  let arg15 : BitVec 32 := Scf.iv v63 c1_i32_24 k0_t2
  let c16_i32_799 : BitVec 32 := 16#32
  let v2367 : BitVec 32 := Scalar.muli arg15 c16_i32_799
  let v2368 : BitVec 32 := v2367
  let v3122 : BitVec 32 := Scalar.addi v2368 c0_i32_1041
  let v3123 : Index := Scalar.indexCast v3122
  let c0_1043 : Index := 0#32
  ![0, v3123.toNat, 0]
def k0_off38 (i : grid0.Coords) (k0_t2 : Fin (k0_t2_loop i).trips) (c0_i32_1044 : BitVec 32) : Fin 3 → Nat :=
  let c1_1045 : Index := 1#32
  let c0_i32_21 : BitVec 32 := 0#32
  let arg1 : BitVec 32 := BitVec.ofNat 32 (i 1).val
  let c1_i32 : BitVec 32 := 1#32
  let v0 : BitVec 32 := Scalar.addi arg1 c1_i32
  let c256_i32 : BitVec 32 := 256#32
  let v1 : BitVec 32 := Scalar.muli v0 c256_i32
  let c512_i32 : BitVec 32 := 512#32
  let v2 : BitVec 32 := Scalar.addi v1 c512_i32
  let c1_i32_0 : BitVec 32 := 1#32
  let v3 : BitVec 32 := Scalar.subi v2 c1_i32_0
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_19 : BitVec 32 := 1#32
  let v58 : BitVec 32 := Scalar.subi v20 c1_i32_19
  let v59 : BitVec 32 := Scalar.subi v58 c0_i32_21
  let c1_i32_22 : BitVec 32 := 1#32
  let v61 : BitVec 32 := Scalar.divsi v59 c1_i32_22
  let v62 : BitVec 32 := Scalar.muli v61 c1_i32_22
  let v63 : BitVec 32 := Scalar.addi c0_i32_21 v62
  let c1_i32_24 : BitVec 32 := 1#32
  let arg15 : BitVec 32 := Scf.iv v63 c1_i32_24 k0_t2
  let c16_i32_799 : BitVec 32 := 16#32
  let v2367 : BitVec 32 := Scalar.muli arg15 c16_i32_799
  let v2368 : BitVec 32 := v2367
  let v3127 : BitVec 32 := Scalar.addi v2368 c0_i32_1044
  let v3128 : Index := Scalar.indexCast v3127
  let c0_1046 : Index := 0#32
  ![1, v3128.toNat, 0]
def k0_off39 (i : grid0.Coords) (k0_t2 : Fin (k0_t2_loop i).trips) (c0_i32_1047 : BitVec 32) : Fin 3 → Nat :=
  let c2_1048 : Index := 2#32
  let c0_i32_21 : BitVec 32 := 0#32
  let arg1 : BitVec 32 := BitVec.ofNat 32 (i 1).val
  let c1_i32 : BitVec 32 := 1#32
  let v0 : BitVec 32 := Scalar.addi arg1 c1_i32
  let c256_i32 : BitVec 32 := 256#32
  let v1 : BitVec 32 := Scalar.muli v0 c256_i32
  let c512_i32 : BitVec 32 := 512#32
  let v2 : BitVec 32 := Scalar.addi v1 c512_i32
  let c1_i32_0 : BitVec 32 := 1#32
  let v3 : BitVec 32 := Scalar.subi v2 c1_i32_0
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_19 : BitVec 32 := 1#32
  let v58 : BitVec 32 := Scalar.subi v20 c1_i32_19
  let v59 : BitVec 32 := Scalar.subi v58 c0_i32_21
  let c1_i32_22 : BitVec 32 := 1#32
  let v61 : BitVec 32 := Scalar.divsi v59 c1_i32_22
  let v62 : BitVec 32 := Scalar.muli v61 c1_i32_22
  let v63 : BitVec 32 := Scalar.addi c0_i32_21 v62
  let c1_i32_24 : BitVec 32 := 1#32
  let arg15 : BitVec 32 := Scf.iv v63 c1_i32_24 k0_t2
  let c16_i32_799 : BitVec 32 := 16#32
  let v2367 : BitVec 32 := Scalar.muli arg15 c16_i32_799
  let v2368 : BitVec 32 := v2367
  let v3132 : BitVec 32 := Scalar.addi v2368 c0_i32_1047
  let v3133 : Index := Scalar.indexCast v3132
  let c0_1049 : Index := 0#32
  ![2, v3133.toNat, 0]
def k0_off40 (i : grid0.Coords) (k0_t2 : Fin (k0_t2_loop i).trips) (c0_i32_1050 : BitVec 32) : Fin 3 → Nat :=
  let c3_1051 : Index := 3#32
  let c0_i32_21 : BitVec 32 := 0#32
  let arg1 : BitVec 32 := BitVec.ofNat 32 (i 1).val
  let c1_i32 : BitVec 32 := 1#32
  let v0 : BitVec 32 := Scalar.addi arg1 c1_i32
  let c256_i32 : BitVec 32 := 256#32
  let v1 : BitVec 32 := Scalar.muli v0 c256_i32
  let c512_i32 : BitVec 32 := 512#32
  let v2 : BitVec 32 := Scalar.addi v1 c512_i32
  let c1_i32_0 : BitVec 32 := 1#32
  let v3 : BitVec 32 := Scalar.subi v2 c1_i32_0
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_19 : BitVec 32 := 1#32
  let v58 : BitVec 32 := Scalar.subi v20 c1_i32_19
  let v59 : BitVec 32 := Scalar.subi v58 c0_i32_21
  let c1_i32_22 : BitVec 32 := 1#32
  let v61 : BitVec 32 := Scalar.divsi v59 c1_i32_22
  let v62 : BitVec 32 := Scalar.muli v61 c1_i32_22
  let v63 : BitVec 32 := Scalar.addi c0_i32_21 v62
  let c1_i32_24 : BitVec 32 := 1#32
  let arg15 : BitVec 32 := Scf.iv v63 c1_i32_24 k0_t2
  let c16_i32_799 : BitVec 32 := 16#32
  let v2367 : BitVec 32 := Scalar.muli arg15 c16_i32_799
  let v2368 : BitVec 32 := v2367
  let v3137 : BitVec 32 := Scalar.addi v2368 c0_i32_1050
  let v3138 : Index := Scalar.indexCast v3137
  let c0_1052 : Index := 0#32
  ![3, v3138.toNat, 0]
def k0_off41 (i : grid0.Coords) (k0_t2 : Fin (k0_t2_loop i).trips) (c0_i32_1053 : BitVec 32) : Fin 3 → Nat :=
  let c4_1054 : Index := 4#32
  let c0_i32_21 : BitVec 32 := 0#32
  let arg1 : BitVec 32 := BitVec.ofNat 32 (i 1).val
  let c1_i32 : BitVec 32 := 1#32
  let v0 : BitVec 32 := Scalar.addi arg1 c1_i32
  let c256_i32 : BitVec 32 := 256#32
  let v1 : BitVec 32 := Scalar.muli v0 c256_i32
  let c512_i32 : BitVec 32 := 512#32
  let v2 : BitVec 32 := Scalar.addi v1 c512_i32
  let c1_i32_0 : BitVec 32 := 1#32
  let v3 : BitVec 32 := Scalar.subi v2 c1_i32_0
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_19 : BitVec 32 := 1#32
  let v58 : BitVec 32 := Scalar.subi v20 c1_i32_19
  let v59 : BitVec 32 := Scalar.subi v58 c0_i32_21
  let c1_i32_22 : BitVec 32 := 1#32
  let v61 : BitVec 32 := Scalar.divsi v59 c1_i32_22
  let v62 : BitVec 32 := Scalar.muli v61 c1_i32_22
  let v63 : BitVec 32 := Scalar.addi c0_i32_21 v62
  let c1_i32_24 : BitVec 32 := 1#32
  let arg15 : BitVec 32 := Scf.iv v63 c1_i32_24 k0_t2
  let c16_i32_799 : BitVec 32 := 16#32
  let v2367 : BitVec 32 := Scalar.muli arg15 c16_i32_799
  let v2368 : BitVec 32 := v2367
  let v3142 : BitVec 32 := Scalar.addi v2368 c0_i32_1053
  let v3143 : Index := Scalar.indexCast v3142
  let c0_1055 : Index := 0#32
  ![4, v3143.toNat, 0]
def k0_off42 (i : grid0.Coords) (k0_t2 : Fin (k0_t2_loop i).trips) (c0_i32_1056 : BitVec 32) : Fin 3 → Nat :=
  let c5_1057 : Index := 5#32
  let c0_i32_21 : BitVec 32 := 0#32
  let arg1 : BitVec 32 := BitVec.ofNat 32 (i 1).val
  let c1_i32 : BitVec 32 := 1#32
  let v0 : BitVec 32 := Scalar.addi arg1 c1_i32
  let c256_i32 : BitVec 32 := 256#32
  let v1 : BitVec 32 := Scalar.muli v0 c256_i32
  let c512_i32 : BitVec 32 := 512#32
  let v2 : BitVec 32 := Scalar.addi v1 c512_i32
  let c1_i32_0 : BitVec 32 := 1#32
  let v3 : BitVec 32 := Scalar.subi v2 c1_i32_0
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_19 : BitVec 32 := 1#32
  let v58 : BitVec 32 := Scalar.subi v20 c1_i32_19
  let v59 : BitVec 32 := Scalar.subi v58 c0_i32_21
  let c1_i32_22 : BitVec 32 := 1#32
  let v61 : BitVec 32 := Scalar.divsi v59 c1_i32_22
  let v62 : BitVec 32 := Scalar.muli v61 c1_i32_22
  let v63 : BitVec 32 := Scalar.addi c0_i32_21 v62
  let c1_i32_24 : BitVec 32 := 1#32
  let arg15 : BitVec 32 := Scf.iv v63 c1_i32_24 k0_t2
  let c16_i32_799 : BitVec 32 := 16#32
  let v2367 : BitVec 32 := Scalar.muli arg15 c16_i32_799
  let v2368 : BitVec 32 := v2367
  let v3147 : BitVec 32 := Scalar.addi v2368 c0_i32_1056
  let v3148 : Index := Scalar.indexCast v3147
  let c0_1058 : Index := 0#32
  ![5, v3148.toNat, 0]
def k0_off43 (i : grid0.Coords) (k0_t2 : Fin (k0_t2_loop i).trips) (c0_i32_1059 : BitVec 32) : Fin 3 → Nat :=
  let c6_1060 : Index := 6#32
  let c0_i32_21 : BitVec 32 := 0#32
  let arg1 : BitVec 32 := BitVec.ofNat 32 (i 1).val
  let c1_i32 : BitVec 32 := 1#32
  let v0 : BitVec 32 := Scalar.addi arg1 c1_i32
  let c256_i32 : BitVec 32 := 256#32
  let v1 : BitVec 32 := Scalar.muli v0 c256_i32
  let c512_i32 : BitVec 32 := 512#32
  let v2 : BitVec 32 := Scalar.addi v1 c512_i32
  let c1_i32_0 : BitVec 32 := 1#32
  let v3 : BitVec 32 := Scalar.subi v2 c1_i32_0
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_19 : BitVec 32 := 1#32
  let v58 : BitVec 32 := Scalar.subi v20 c1_i32_19
  let v59 : BitVec 32 := Scalar.subi v58 c0_i32_21
  let c1_i32_22 : BitVec 32 := 1#32
  let v61 : BitVec 32 := Scalar.divsi v59 c1_i32_22
  let v62 : BitVec 32 := Scalar.muli v61 c1_i32_22
  let v63 : BitVec 32 := Scalar.addi c0_i32_21 v62
  let c1_i32_24 : BitVec 32 := 1#32
  let arg15 : BitVec 32 := Scf.iv v63 c1_i32_24 k0_t2
  let c16_i32_799 : BitVec 32 := 16#32
  let v2367 : BitVec 32 := Scalar.muli arg15 c16_i32_799
  let v2368 : BitVec 32 := v2367
  let v3152 : BitVec 32 := Scalar.addi v2368 c0_i32_1059
  let v3153 : Index := Scalar.indexCast v3152
  let c0_1061 : Index := 0#32
  ![6, v3153.toNat, 0]
def k0_off44 (i : grid0.Coords) (k0_t2 : Fin (k0_t2_loop i).trips) (c0_i32_1062 : BitVec 32) : Fin 3 → Nat :=
  let c7_1063 : Index := 7#32
  let c0_i32_21 : BitVec 32 := 0#32
  let arg1 : BitVec 32 := BitVec.ofNat 32 (i 1).val
  let c1_i32 : BitVec 32 := 1#32
  let v0 : BitVec 32 := Scalar.addi arg1 c1_i32
  let c256_i32 : BitVec 32 := 256#32
  let v1 : BitVec 32 := Scalar.muli v0 c256_i32
  let c512_i32 : BitVec 32 := 512#32
  let v2 : BitVec 32 := Scalar.addi v1 c512_i32
  let c1_i32_0 : BitVec 32 := 1#32
  let v3 : BitVec 32 := Scalar.subi v2 c1_i32_0
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_19 : BitVec 32 := 1#32
  let v58 : BitVec 32 := Scalar.subi v20 c1_i32_19
  let v59 : BitVec 32 := Scalar.subi v58 c0_i32_21
  let c1_i32_22 : BitVec 32 := 1#32
  let v61 : BitVec 32 := Scalar.divsi v59 c1_i32_22
  let v62 : BitVec 32 := Scalar.muli v61 c1_i32_22
  let v63 : BitVec 32 := Scalar.addi c0_i32_21 v62
  let c1_i32_24 : BitVec 32 := 1#32
  let arg15 : BitVec 32 := Scf.iv v63 c1_i32_24 k0_t2
  let c16_i32_799 : BitVec 32 := 16#32
  let v2367 : BitVec 32 := Scalar.muli arg15 c16_i32_799
  let v2368 : BitVec 32 := v2367
  let v3157 : BitVec 32 := Scalar.addi v2368 c0_i32_1062
  let v3158 : Index := Scalar.indexCast v3157
  let c0_1064 : Index := 0#32
  ![7, v3158.toNat, 0]
def k0_off45 (i : grid0.Coords) (k0_t2 : Fin (k0_t2_loop i).trips) (c0_i32_1065 : BitVec 32) : Fin 3 → Nat :=
  let c8_1066 : Index := 8#32
  let c0_i32_21 : BitVec 32 := 0#32
  let arg1 : BitVec 32 := BitVec.ofNat 32 (i 1).val
  let c1_i32 : BitVec 32 := 1#32
  let v0 : BitVec 32 := Scalar.addi arg1 c1_i32
  let c256_i32 : BitVec 32 := 256#32
  let v1 : BitVec 32 := Scalar.muli v0 c256_i32
  let c512_i32 : BitVec 32 := 512#32
  let v2 : BitVec 32 := Scalar.addi v1 c512_i32
  let c1_i32_0 : BitVec 32 := 1#32
  let v3 : BitVec 32 := Scalar.subi v2 c1_i32_0
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_19 : BitVec 32 := 1#32
  let v58 : BitVec 32 := Scalar.subi v20 c1_i32_19
  let v59 : BitVec 32 := Scalar.subi v58 c0_i32_21
  let c1_i32_22 : BitVec 32 := 1#32
  let v61 : BitVec 32 := Scalar.divsi v59 c1_i32_22
  let v62 : BitVec 32 := Scalar.muli v61 c1_i32_22
  let v63 : BitVec 32 := Scalar.addi c0_i32_21 v62
  let c1_i32_24 : BitVec 32 := 1#32
  let arg15 : BitVec 32 := Scf.iv v63 c1_i32_24 k0_t2
  let c16_i32_799 : BitVec 32 := 16#32
  let v2367 : BitVec 32 := Scalar.muli arg15 c16_i32_799
  let v2368 : BitVec 32 := v2367
  let v3162 : BitVec 32 := Scalar.addi v2368 c0_i32_1065
  let v3163 : Index := Scalar.indexCast v3162
  let c0_1067 : Index := 0#32
  ![8, v3163.toNat, 0]
def k0_off46 (i : grid0.Coords) (k0_t2 : Fin (k0_t2_loop i).trips) (c0_i32_1068 : BitVec 32) : Fin 3 → Nat :=
  let c9_1069 : Index := 9#32
  let c0_i32_21 : BitVec 32 := 0#32
  let arg1 : BitVec 32 := BitVec.ofNat 32 (i 1).val
  let c1_i32 : BitVec 32 := 1#32
  let v0 : BitVec 32 := Scalar.addi arg1 c1_i32
  let c256_i32 : BitVec 32 := 256#32
  let v1 : BitVec 32 := Scalar.muli v0 c256_i32
  let c512_i32 : BitVec 32 := 512#32
  let v2 : BitVec 32 := Scalar.addi v1 c512_i32
  let c1_i32_0 : BitVec 32 := 1#32
  let v3 : BitVec 32 := Scalar.subi v2 c1_i32_0
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_19 : BitVec 32 := 1#32
  let v58 : BitVec 32 := Scalar.subi v20 c1_i32_19
  let v59 : BitVec 32 := Scalar.subi v58 c0_i32_21
  let c1_i32_22 : BitVec 32 := 1#32
  let v61 : BitVec 32 := Scalar.divsi v59 c1_i32_22
  let v62 : BitVec 32 := Scalar.muli v61 c1_i32_22
  let v63 : BitVec 32 := Scalar.addi c0_i32_21 v62
  let c1_i32_24 : BitVec 32 := 1#32
  let arg15 : BitVec 32 := Scf.iv v63 c1_i32_24 k0_t2
  let c16_i32_799 : BitVec 32 := 16#32
  let v2367 : BitVec 32 := Scalar.muli arg15 c16_i32_799
  let v2368 : BitVec 32 := v2367
  let v3167 : BitVec 32 := Scalar.addi v2368 c0_i32_1068
  let v3168 : Index := Scalar.indexCast v3167
  let c0_1070 : Index := 0#32
  ![9, v3168.toNat, 0]
def k0_off47 (i : grid0.Coords) (k0_t2 : Fin (k0_t2_loop i).trips) (c0_i32_1071 : BitVec 32) : Fin 3 → Nat :=
  let c10_1072 : Index := 10#32
  let c0_i32_21 : BitVec 32 := 0#32
  let arg1 : BitVec 32 := BitVec.ofNat 32 (i 1).val
  let c1_i32 : BitVec 32 := 1#32
  let v0 : BitVec 32 := Scalar.addi arg1 c1_i32
  let c256_i32 : BitVec 32 := 256#32
  let v1 : BitVec 32 := Scalar.muli v0 c256_i32
  let c512_i32 : BitVec 32 := 512#32
  let v2 : BitVec 32 := Scalar.addi v1 c512_i32
  let c1_i32_0 : BitVec 32 := 1#32
  let v3 : BitVec 32 := Scalar.subi v2 c1_i32_0
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_19 : BitVec 32 := 1#32
  let v58 : BitVec 32 := Scalar.subi v20 c1_i32_19
  let v59 : BitVec 32 := Scalar.subi v58 c0_i32_21
  let c1_i32_22 : BitVec 32 := 1#32
  let v61 : BitVec 32 := Scalar.divsi v59 c1_i32_22
  let v62 : BitVec 32 := Scalar.muli v61 c1_i32_22
  let v63 : BitVec 32 := Scalar.addi c0_i32_21 v62
  let c1_i32_24 : BitVec 32 := 1#32
  let arg15 : BitVec 32 := Scf.iv v63 c1_i32_24 k0_t2
  let c16_i32_799 : BitVec 32 := 16#32
  let v2367 : BitVec 32 := Scalar.muli arg15 c16_i32_799
  let v2368 : BitVec 32 := v2367
  let v3172 : BitVec 32 := Scalar.addi v2368 c0_i32_1071
  let v3173 : Index := Scalar.indexCast v3172
  let c0_1073 : Index := 0#32
  ![10, v3173.toNat, 0]
def k0_off48 (i : grid0.Coords) (k0_t2 : Fin (k0_t2_loop i).trips) (c0_i32_1074 : BitVec 32) : Fin 3 → Nat :=
  let c11_1075 : Index := 11#32
  let c0_i32_21 : BitVec 32 := 0#32
  let arg1 : BitVec 32 := BitVec.ofNat 32 (i 1).val
  let c1_i32 : BitVec 32 := 1#32
  let v0 : BitVec 32 := Scalar.addi arg1 c1_i32
  let c256_i32 : BitVec 32 := 256#32
  let v1 : BitVec 32 := Scalar.muli v0 c256_i32
  let c512_i32 : BitVec 32 := 512#32
  let v2 : BitVec 32 := Scalar.addi v1 c512_i32
  let c1_i32_0 : BitVec 32 := 1#32
  let v3 : BitVec 32 := Scalar.subi v2 c1_i32_0
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_19 : BitVec 32 := 1#32
  let v58 : BitVec 32 := Scalar.subi v20 c1_i32_19
  let v59 : BitVec 32 := Scalar.subi v58 c0_i32_21
  let c1_i32_22 : BitVec 32 := 1#32
  let v61 : BitVec 32 := Scalar.divsi v59 c1_i32_22
  let v62 : BitVec 32 := Scalar.muli v61 c1_i32_22
  let v63 : BitVec 32 := Scalar.addi c0_i32_21 v62
  let c1_i32_24 : BitVec 32 := 1#32
  let arg15 : BitVec 32 := Scf.iv v63 c1_i32_24 k0_t2
  let c16_i32_799 : BitVec 32 := 16#32
  let v2367 : BitVec 32 := Scalar.muli arg15 c16_i32_799
  let v2368 : BitVec 32 := v2367
  let v3177 : BitVec 32 := Scalar.addi v2368 c0_i32_1074
  let v3178 : Index := Scalar.indexCast v3177
  let c0_1076 : Index := 0#32
  ![11, v3178.toNat, 0]
def k0_off49 (i : grid0.Coords) (k0_t2 : Fin (k0_t2_loop i).trips) (c0_i32_1077 : BitVec 32) : Fin 3 → Nat :=
  let c12_1078 : Index := 12#32
  let c0_i32_21 : BitVec 32 := 0#32
  let arg1 : BitVec 32 := BitVec.ofNat 32 (i 1).val
  let c1_i32 : BitVec 32 := 1#32
  let v0 : BitVec 32 := Scalar.addi arg1 c1_i32
  let c256_i32 : BitVec 32 := 256#32
  let v1 : BitVec 32 := Scalar.muli v0 c256_i32
  let c512_i32 : BitVec 32 := 512#32
  let v2 : BitVec 32 := Scalar.addi v1 c512_i32
  let c1_i32_0 : BitVec 32 := 1#32
  let v3 : BitVec 32 := Scalar.subi v2 c1_i32_0
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_19 : BitVec 32 := 1#32
  let v58 : BitVec 32 := Scalar.subi v20 c1_i32_19
  let v59 : BitVec 32 := Scalar.subi v58 c0_i32_21
  let c1_i32_22 : BitVec 32 := 1#32
  let v61 : BitVec 32 := Scalar.divsi v59 c1_i32_22
  let v62 : BitVec 32 := Scalar.muli v61 c1_i32_22
  let v63 : BitVec 32 := Scalar.addi c0_i32_21 v62
  let c1_i32_24 : BitVec 32 := 1#32
  let arg15 : BitVec 32 := Scf.iv v63 c1_i32_24 k0_t2
  let c16_i32_799 : BitVec 32 := 16#32
  let v2367 : BitVec 32 := Scalar.muli arg15 c16_i32_799
  let v2368 : BitVec 32 := v2367
  let v3182 : BitVec 32 := Scalar.addi v2368 c0_i32_1077
  let v3183 : Index := Scalar.indexCast v3182
  let c0_1079 : Index := 0#32
  ![12, v3183.toNat, 0]
def k0_off50 (i : grid0.Coords) (k0_t2 : Fin (k0_t2_loop i).trips) (c0_i32_1080 : BitVec 32) : Fin 3 → Nat :=
  let c13_1081 : Index := 13#32
  let c0_i32_21 : BitVec 32 := 0#32
  let arg1 : BitVec 32 := BitVec.ofNat 32 (i 1).val
  let c1_i32 : BitVec 32 := 1#32
  let v0 : BitVec 32 := Scalar.addi arg1 c1_i32
  let c256_i32 : BitVec 32 := 256#32
  let v1 : BitVec 32 := Scalar.muli v0 c256_i32
  let c512_i32 : BitVec 32 := 512#32
  let v2 : BitVec 32 := Scalar.addi v1 c512_i32
  let c1_i32_0 : BitVec 32 := 1#32
  let v3 : BitVec 32 := Scalar.subi v2 c1_i32_0
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_19 : BitVec 32 := 1#32
  let v58 : BitVec 32 := Scalar.subi v20 c1_i32_19
  let v59 : BitVec 32 := Scalar.subi v58 c0_i32_21
  let c1_i32_22 : BitVec 32 := 1#32
  let v61 : BitVec 32 := Scalar.divsi v59 c1_i32_22
  let v62 : BitVec 32 := Scalar.muli v61 c1_i32_22
  let v63 : BitVec 32 := Scalar.addi c0_i32_21 v62
  let c1_i32_24 : BitVec 32 := 1#32
  let arg15 : BitVec 32 := Scf.iv v63 c1_i32_24 k0_t2
  let c16_i32_799 : BitVec 32 := 16#32
  let v2367 : BitVec 32 := Scalar.muli arg15 c16_i32_799
  let v2368 : BitVec 32 := v2367
  let v3187 : BitVec 32 := Scalar.addi v2368 c0_i32_1080
  let v3188 : Index := Scalar.indexCast v3187
  let c0_1082 : Index := 0#32
  ![13, v3188.toNat, 0]
def k0_off51 (i : grid0.Coords) (k0_t2 : Fin (k0_t2_loop i).trips) (c0_i32_1083 : BitVec 32) : Fin 3 → Nat :=
  let c14_1084 : Index := 14#32
  let c0_i32_21 : BitVec 32 := 0#32
  let arg1 : BitVec 32 := BitVec.ofNat 32 (i 1).val
  let c1_i32 : BitVec 32 := 1#32
  let v0 : BitVec 32 := Scalar.addi arg1 c1_i32
  let c256_i32 : BitVec 32 := 256#32
  let v1 : BitVec 32 := Scalar.muli v0 c256_i32
  let c512_i32 : BitVec 32 := 512#32
  let v2 : BitVec 32 := Scalar.addi v1 c512_i32
  let c1_i32_0 : BitVec 32 := 1#32
  let v3 : BitVec 32 := Scalar.subi v2 c1_i32_0
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_19 : BitVec 32 := 1#32
  let v58 : BitVec 32 := Scalar.subi v20 c1_i32_19
  let v59 : BitVec 32 := Scalar.subi v58 c0_i32_21
  let c1_i32_22 : BitVec 32 := 1#32
  let v61 : BitVec 32 := Scalar.divsi v59 c1_i32_22
  let v62 : BitVec 32 := Scalar.muli v61 c1_i32_22
  let v63 : BitVec 32 := Scalar.addi c0_i32_21 v62
  let c1_i32_24 : BitVec 32 := 1#32
  let arg15 : BitVec 32 := Scf.iv v63 c1_i32_24 k0_t2
  let c16_i32_799 : BitVec 32 := 16#32
  let v2367 : BitVec 32 := Scalar.muli arg15 c16_i32_799
  let v2368 : BitVec 32 := v2367
  let v3192 : BitVec 32 := Scalar.addi v2368 c0_i32_1083
  let v3193 : Index := Scalar.indexCast v3192
  let c0_1085 : Index := 0#32
  ![14, v3193.toNat, 0]
def k0_off52 (i : grid0.Coords) (k0_t2 : Fin (k0_t2_loop i).trips) (c0_i32_1086 : BitVec 32) : Fin 3 → Nat :=
  let c15_1087 : Index := 15#32
  let c0_i32_21 : BitVec 32 := 0#32
  let arg1 : BitVec 32 := BitVec.ofNat 32 (i 1).val
  let c1_i32 : BitVec 32 := 1#32
  let v0 : BitVec 32 := Scalar.addi arg1 c1_i32
  let c256_i32 : BitVec 32 := 256#32
  let v1 : BitVec 32 := Scalar.muli v0 c256_i32
  let c512_i32 : BitVec 32 := 512#32
  let v2 : BitVec 32 := Scalar.addi v1 c512_i32
  let c1_i32_0 : BitVec 32 := 1#32
  let v3 : BitVec 32 := Scalar.subi v2 c1_i32_0
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_19 : BitVec 32 := 1#32
  let v58 : BitVec 32 := Scalar.subi v20 c1_i32_19
  let v59 : BitVec 32 := Scalar.subi v58 c0_i32_21
  let c1_i32_22 : BitVec 32 := 1#32
  let v61 : BitVec 32 := Scalar.divsi v59 c1_i32_22
  let v62 : BitVec 32 := Scalar.muli v61 c1_i32_22
  let v63 : BitVec 32 := Scalar.addi c0_i32_21 v62
  let c1_i32_24 : BitVec 32 := 1#32
  let arg15 : BitVec 32 := Scf.iv v63 c1_i32_24 k0_t2
  let c16_i32_799 : BitVec 32 := 16#32
  let v2367 : BitVec 32 := Scalar.muli arg15 c16_i32_799
  let v2368 : BitVec 32 := v2367
  let v3197 : BitVec 32 := Scalar.addi v2368 c0_i32_1086
  let v3198 : Index := Scalar.indexCast v3197
  let c0_1088 : Index := 0#32
  ![15, v3198.toNat, 0]
def k0_off53 (i : grid0.Coords) (k0_t2 : Fin (k0_t2_loop i).trips) (c0_i32_1089 : BitVec 32) : Fin 3 → Nat :=
  let c16_1090 : Index := 16#32
  let c0_i32_21 : BitVec 32 := 0#32
  let arg1 : BitVec 32 := BitVec.ofNat 32 (i 1).val
  let c1_i32 : BitVec 32 := 1#32
  let v0 : BitVec 32 := Scalar.addi arg1 c1_i32
  let c256_i32 : BitVec 32 := 256#32
  let v1 : BitVec 32 := Scalar.muli v0 c256_i32
  let c512_i32 : BitVec 32 := 512#32
  let v2 : BitVec 32 := Scalar.addi v1 c512_i32
  let c1_i32_0 : BitVec 32 := 1#32
  let v3 : BitVec 32 := Scalar.subi v2 c1_i32_0
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_19 : BitVec 32 := 1#32
  let v58 : BitVec 32 := Scalar.subi v20 c1_i32_19
  let v59 : BitVec 32 := Scalar.subi v58 c0_i32_21
  let c1_i32_22 : BitVec 32 := 1#32
  let v61 : BitVec 32 := Scalar.divsi v59 c1_i32_22
  let v62 : BitVec 32 := Scalar.muli v61 c1_i32_22
  let v63 : BitVec 32 := Scalar.addi c0_i32_21 v62
  let c1_i32_24 : BitVec 32 := 1#32
  let arg15 : BitVec 32 := Scf.iv v63 c1_i32_24 k0_t2
  let c16_i32_799 : BitVec 32 := 16#32
  let v2367 : BitVec 32 := Scalar.muli arg15 c16_i32_799
  let v2368 : BitVec 32 := v2367
  let v3202 : BitVec 32 := Scalar.addi v2368 c0_i32_1089
  let v3203 : Index := Scalar.indexCast v3202
  let c0_1091 : Index := 0#32
  ![16, v3203.toNat, 0]
def k0_off54 (i : grid0.Coords) (k0_t2 : Fin (k0_t2_loop i).trips) (c0_i32_1092 : BitVec 32) : Fin 3 → Nat :=
  let c17_1093 : Index := 17#32
  let c0_i32_21 : BitVec 32 := 0#32
  let arg1 : BitVec 32 := BitVec.ofNat 32 (i 1).val
  let c1_i32 : BitVec 32 := 1#32
  let v0 : BitVec 32 := Scalar.addi arg1 c1_i32
  let c256_i32 : BitVec 32 := 256#32
  let v1 : BitVec 32 := Scalar.muli v0 c256_i32
  let c512_i32 : BitVec 32 := 512#32
  let v2 : BitVec 32 := Scalar.addi v1 c512_i32
  let c1_i32_0 : BitVec 32 := 1#32
  let v3 : BitVec 32 := Scalar.subi v2 c1_i32_0
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_19 : BitVec 32 := 1#32
  let v58 : BitVec 32 := Scalar.subi v20 c1_i32_19
  let v59 : BitVec 32 := Scalar.subi v58 c0_i32_21
  let c1_i32_22 : BitVec 32 := 1#32
  let v61 : BitVec 32 := Scalar.divsi v59 c1_i32_22
  let v62 : BitVec 32 := Scalar.muli v61 c1_i32_22
  let v63 : BitVec 32 := Scalar.addi c0_i32_21 v62
  let c1_i32_24 : BitVec 32 := 1#32
  let arg15 : BitVec 32 := Scf.iv v63 c1_i32_24 k0_t2
  let c16_i32_799 : BitVec 32 := 16#32
  let v2367 : BitVec 32 := Scalar.muli arg15 c16_i32_799
  let v2368 : BitVec 32 := v2367
  let v3207 : BitVec 32 := Scalar.addi v2368 c0_i32_1092
  let v3208 : Index := Scalar.indexCast v3207
  let c0_1094 : Index := 0#32
  ![17, v3208.toNat, 0]
def k0_off55 (i : grid0.Coords) (k0_t2 : Fin (k0_t2_loop i).trips) (c0_i32_1095 : BitVec 32) : Fin 3 → Nat :=
  let c18_1096 : Index := 18#32
  let c0_i32_21 : BitVec 32 := 0#32
  let arg1 : BitVec 32 := BitVec.ofNat 32 (i 1).val
  let c1_i32 : BitVec 32 := 1#32
  let v0 : BitVec 32 := Scalar.addi arg1 c1_i32
  let c256_i32 : BitVec 32 := 256#32
  let v1 : BitVec 32 := Scalar.muli v0 c256_i32
  let c512_i32 : BitVec 32 := 512#32
  let v2 : BitVec 32 := Scalar.addi v1 c512_i32
  let c1_i32_0 : BitVec 32 := 1#32
  let v3 : BitVec 32 := Scalar.subi v2 c1_i32_0
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_19 : BitVec 32 := 1#32
  let v58 : BitVec 32 := Scalar.subi v20 c1_i32_19
  let v59 : BitVec 32 := Scalar.subi v58 c0_i32_21
  let c1_i32_22 : BitVec 32 := 1#32
  let v61 : BitVec 32 := Scalar.divsi v59 c1_i32_22
  let v62 : BitVec 32 := Scalar.muli v61 c1_i32_22
  let v63 : BitVec 32 := Scalar.addi c0_i32_21 v62
  let c1_i32_24 : BitVec 32 := 1#32
  let arg15 : BitVec 32 := Scf.iv v63 c1_i32_24 k0_t2
  let c16_i32_799 : BitVec 32 := 16#32
  let v2367 : BitVec 32 := Scalar.muli arg15 c16_i32_799
  let v2368 : BitVec 32 := v2367
  let v3212 : BitVec 32 := Scalar.addi v2368 c0_i32_1095
  let v3213 : Index := Scalar.indexCast v3212
  let c0_1097 : Index := 0#32
  ![18, v3213.toNat, 0]
def k0_off56 (i : grid0.Coords) (k0_t2 : Fin (k0_t2_loop i).trips) (c0_i32_1098 : BitVec 32) : Fin 3 → Nat :=
  let c19_1099 : Index := 19#32
  let c0_i32_21 : BitVec 32 := 0#32
  let arg1 : BitVec 32 := BitVec.ofNat 32 (i 1).val
  let c1_i32 : BitVec 32 := 1#32
  let v0 : BitVec 32 := Scalar.addi arg1 c1_i32
  let c256_i32 : BitVec 32 := 256#32
  let v1 : BitVec 32 := Scalar.muli v0 c256_i32
  let c512_i32 : BitVec 32 := 512#32
  let v2 : BitVec 32 := Scalar.addi v1 c512_i32
  let c1_i32_0 : BitVec 32 := 1#32
  let v3 : BitVec 32 := Scalar.subi v2 c1_i32_0
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_19 : BitVec 32 := 1#32
  let v58 : BitVec 32 := Scalar.subi v20 c1_i32_19
  let v59 : BitVec 32 := Scalar.subi v58 c0_i32_21
  let c1_i32_22 : BitVec 32 := 1#32
  let v61 : BitVec 32 := Scalar.divsi v59 c1_i32_22
  let v62 : BitVec 32 := Scalar.muli v61 c1_i32_22
  let v63 : BitVec 32 := Scalar.addi c0_i32_21 v62
  let c1_i32_24 : BitVec 32 := 1#32
  let arg15 : BitVec 32 := Scf.iv v63 c1_i32_24 k0_t2
  let c16_i32_799 : BitVec 32 := 16#32
  let v2367 : BitVec 32 := Scalar.muli arg15 c16_i32_799
  let v2368 : BitVec 32 := v2367
  let v3217 : BitVec 32 := Scalar.addi v2368 c0_i32_1098
  let v3218 : Index := Scalar.indexCast v3217
  let c0_1100 : Index := 0#32
  ![19, v3218.toNat, 0]
def k0_off57 (i : grid0.Coords) (k0_t2 : Fin (k0_t2_loop i).trips) (c0_i32_1101 : BitVec 32) : Fin 3 → Nat :=
  let c20_1102 : Index := 20#32
  let c0_i32_21 : BitVec 32 := 0#32
  let arg1 : BitVec 32 := BitVec.ofNat 32 (i 1).val
  let c1_i32 : BitVec 32 := 1#32
  let v0 : BitVec 32 := Scalar.addi arg1 c1_i32
  let c256_i32 : BitVec 32 := 256#32
  let v1 : BitVec 32 := Scalar.muli v0 c256_i32
  let c512_i32 : BitVec 32 := 512#32
  let v2 : BitVec 32 := Scalar.addi v1 c512_i32
  let c1_i32_0 : BitVec 32 := 1#32
  let v3 : BitVec 32 := Scalar.subi v2 c1_i32_0
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_19 : BitVec 32 := 1#32
  let v58 : BitVec 32 := Scalar.subi v20 c1_i32_19
  let v59 : BitVec 32 := Scalar.subi v58 c0_i32_21
  let c1_i32_22 : BitVec 32 := 1#32
  let v61 : BitVec 32 := Scalar.divsi v59 c1_i32_22
  let v62 : BitVec 32 := Scalar.muli v61 c1_i32_22
  let v63 : BitVec 32 := Scalar.addi c0_i32_21 v62
  let c1_i32_24 : BitVec 32 := 1#32
  let arg15 : BitVec 32 := Scf.iv v63 c1_i32_24 k0_t2
  let c16_i32_799 : BitVec 32 := 16#32
  let v2367 : BitVec 32 := Scalar.muli arg15 c16_i32_799
  let v2368 : BitVec 32 := v2367
  let v3222 : BitVec 32 := Scalar.addi v2368 c0_i32_1101
  let v3223 : Index := Scalar.indexCast v3222
  let c0_1103 : Index := 0#32
  ![20, v3223.toNat, 0]
def k0_off58 (i : grid0.Coords) (k0_t2 : Fin (k0_t2_loop i).trips) (c0_i32_1104 : BitVec 32) : Fin 3 → Nat :=
  let c21_1105 : Index := 21#32
  let c0_i32_21 : BitVec 32 := 0#32
  let arg1 : BitVec 32 := BitVec.ofNat 32 (i 1).val
  let c1_i32 : BitVec 32 := 1#32
  let v0 : BitVec 32 := Scalar.addi arg1 c1_i32
  let c256_i32 : BitVec 32 := 256#32
  let v1 : BitVec 32 := Scalar.muli v0 c256_i32
  let c512_i32 : BitVec 32 := 512#32
  let v2 : BitVec 32 := Scalar.addi v1 c512_i32
  let c1_i32_0 : BitVec 32 := 1#32
  let v3 : BitVec 32 := Scalar.subi v2 c1_i32_0
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_19 : BitVec 32 := 1#32
  let v58 : BitVec 32 := Scalar.subi v20 c1_i32_19
  let v59 : BitVec 32 := Scalar.subi v58 c0_i32_21
  let c1_i32_22 : BitVec 32 := 1#32
  let v61 : BitVec 32 := Scalar.divsi v59 c1_i32_22
  let v62 : BitVec 32 := Scalar.muli v61 c1_i32_22
  let v63 : BitVec 32 := Scalar.addi c0_i32_21 v62
  let c1_i32_24 : BitVec 32 := 1#32
  let arg15 : BitVec 32 := Scf.iv v63 c1_i32_24 k0_t2
  let c16_i32_799 : BitVec 32 := 16#32
  let v2367 : BitVec 32 := Scalar.muli arg15 c16_i32_799
  let v2368 : BitVec 32 := v2367
  let v3227 : BitVec 32 := Scalar.addi v2368 c0_i32_1104
  let v3228 : Index := Scalar.indexCast v3227
  let c0_1106 : Index := 0#32
  ![21, v3228.toNat, 0]
def k0_off59 (i : grid0.Coords) (k0_t2 : Fin (k0_t2_loop i).trips) (c0_i32_1107 : BitVec 32) : Fin 3 → Nat :=
  let c22_1108 : Index := 22#32
  let c0_i32_21 : BitVec 32 := 0#32
  let arg1 : BitVec 32 := BitVec.ofNat 32 (i 1).val
  let c1_i32 : BitVec 32 := 1#32
  let v0 : BitVec 32 := Scalar.addi arg1 c1_i32
  let c256_i32 : BitVec 32 := 256#32
  let v1 : BitVec 32 := Scalar.muli v0 c256_i32
  let c512_i32 : BitVec 32 := 512#32
  let v2 : BitVec 32 := Scalar.addi v1 c512_i32
  let c1_i32_0 : BitVec 32 := 1#32
  let v3 : BitVec 32 := Scalar.subi v2 c1_i32_0
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_19 : BitVec 32 := 1#32
  let v58 : BitVec 32 := Scalar.subi v20 c1_i32_19
  let v59 : BitVec 32 := Scalar.subi v58 c0_i32_21
  let c1_i32_22 : BitVec 32 := 1#32
  let v61 : BitVec 32 := Scalar.divsi v59 c1_i32_22
  let v62 : BitVec 32 := Scalar.muli v61 c1_i32_22
  let v63 : BitVec 32 := Scalar.addi c0_i32_21 v62
  let c1_i32_24 : BitVec 32 := 1#32
  let arg15 : BitVec 32 := Scf.iv v63 c1_i32_24 k0_t2
  let c16_i32_799 : BitVec 32 := 16#32
  let v2367 : BitVec 32 := Scalar.muli arg15 c16_i32_799
  let v2368 : BitVec 32 := v2367
  let v3232 : BitVec 32 := Scalar.addi v2368 c0_i32_1107
  let v3233 : Index := Scalar.indexCast v3232
  let c0_1109 : Index := 0#32
  ![22, v3233.toNat, 0]
def k0_off60 (i : grid0.Coords) (k0_t2 : Fin (k0_t2_loop i).trips) (c0_i32_1110 : BitVec 32) : Fin 3 → Nat :=
  let c23_1111 : Index := 23#32
  let c0_i32_21 : BitVec 32 := 0#32
  let arg1 : BitVec 32 := BitVec.ofNat 32 (i 1).val
  let c1_i32 : BitVec 32 := 1#32
  let v0 : BitVec 32 := Scalar.addi arg1 c1_i32
  let c256_i32 : BitVec 32 := 256#32
  let v1 : BitVec 32 := Scalar.muli v0 c256_i32
  let c512_i32 : BitVec 32 := 512#32
  let v2 : BitVec 32 := Scalar.addi v1 c512_i32
  let c1_i32_0 : BitVec 32 := 1#32
  let v3 : BitVec 32 := Scalar.subi v2 c1_i32_0
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_19 : BitVec 32 := 1#32
  let v58 : BitVec 32 := Scalar.subi v20 c1_i32_19
  let v59 : BitVec 32 := Scalar.subi v58 c0_i32_21
  let c1_i32_22 : BitVec 32 := 1#32
  let v61 : BitVec 32 := Scalar.divsi v59 c1_i32_22
  let v62 : BitVec 32 := Scalar.muli v61 c1_i32_22
  let v63 : BitVec 32 := Scalar.addi c0_i32_21 v62
  let c1_i32_24 : BitVec 32 := 1#32
  let arg15 : BitVec 32 := Scf.iv v63 c1_i32_24 k0_t2
  let c16_i32_799 : BitVec 32 := 16#32
  let v2367 : BitVec 32 := Scalar.muli arg15 c16_i32_799
  let v2368 : BitVec 32 := v2367
  let v3237 : BitVec 32 := Scalar.addi v2368 c0_i32_1110
  let v3238 : Index := Scalar.indexCast v3237
  let c0_1112 : Index := 0#32
  ![23, v3238.toNat, 0]
def k0_off61 (i : grid0.Coords) (k0_t2 : Fin (k0_t2_loop i).trips) (c0_i32_1113 : BitVec 32) : Fin 3 → Nat :=
  let c24_1114 : Index := 24#32
  let c0_i32_21 : BitVec 32 := 0#32
  let arg1 : BitVec 32 := BitVec.ofNat 32 (i 1).val
  let c1_i32 : BitVec 32 := 1#32
  let v0 : BitVec 32 := Scalar.addi arg1 c1_i32
  let c256_i32 : BitVec 32 := 256#32
  let v1 : BitVec 32 := Scalar.muli v0 c256_i32
  let c512_i32 : BitVec 32 := 512#32
  let v2 : BitVec 32 := Scalar.addi v1 c512_i32
  let c1_i32_0 : BitVec 32 := 1#32
  let v3 : BitVec 32 := Scalar.subi v2 c1_i32_0
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_19 : BitVec 32 := 1#32
  let v58 : BitVec 32 := Scalar.subi v20 c1_i32_19
  let v59 : BitVec 32 := Scalar.subi v58 c0_i32_21
  let c1_i32_22 : BitVec 32 := 1#32
  let v61 : BitVec 32 := Scalar.divsi v59 c1_i32_22
  let v62 : BitVec 32 := Scalar.muli v61 c1_i32_22
  let v63 : BitVec 32 := Scalar.addi c0_i32_21 v62
  let c1_i32_24 : BitVec 32 := 1#32
  let arg15 : BitVec 32 := Scf.iv v63 c1_i32_24 k0_t2
  let c16_i32_799 : BitVec 32 := 16#32
  let v2367 : BitVec 32 := Scalar.muli arg15 c16_i32_799
  let v2368 : BitVec 32 := v2367
  let v3242 : BitVec 32 := Scalar.addi v2368 c0_i32_1113
  let v3243 : Index := Scalar.indexCast v3242
  let c0_1115 : Index := 0#32
  ![24, v3243.toNat, 0]
def k0_off62 (i : grid0.Coords) (k0_t2 : Fin (k0_t2_loop i).trips) (c0_i32_1116 : BitVec 32) : Fin 3 → Nat :=
  let c25_1117 : Index := 25#32
  let c0_i32_21 : BitVec 32 := 0#32
  let arg1 : BitVec 32 := BitVec.ofNat 32 (i 1).val
  let c1_i32 : BitVec 32 := 1#32
  let v0 : BitVec 32 := Scalar.addi arg1 c1_i32
  let c256_i32 : BitVec 32 := 256#32
  let v1 : BitVec 32 := Scalar.muli v0 c256_i32
  let c512_i32 : BitVec 32 := 512#32
  let v2 : BitVec 32 := Scalar.addi v1 c512_i32
  let c1_i32_0 : BitVec 32 := 1#32
  let v3 : BitVec 32 := Scalar.subi v2 c1_i32_0
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_19 : BitVec 32 := 1#32
  let v58 : BitVec 32 := Scalar.subi v20 c1_i32_19
  let v59 : BitVec 32 := Scalar.subi v58 c0_i32_21
  let c1_i32_22 : BitVec 32 := 1#32
  let v61 : BitVec 32 := Scalar.divsi v59 c1_i32_22
  let v62 : BitVec 32 := Scalar.muli v61 c1_i32_22
  let v63 : BitVec 32 := Scalar.addi c0_i32_21 v62
  let c1_i32_24 : BitVec 32 := 1#32
  let arg15 : BitVec 32 := Scf.iv v63 c1_i32_24 k0_t2
  let c16_i32_799 : BitVec 32 := 16#32
  let v2367 : BitVec 32 := Scalar.muli arg15 c16_i32_799
  let v2368 : BitVec 32 := v2367
  let v3247 : BitVec 32 := Scalar.addi v2368 c0_i32_1116
  let v3248 : Index := Scalar.indexCast v3247
  let c0_1118 : Index := 0#32
  ![25, v3248.toNat, 0]
def k0_off63 (i : grid0.Coords) (k0_t2 : Fin (k0_t2_loop i).trips) (c0_i32_1119 : BitVec 32) : Fin 3 → Nat :=
  let c26_1120 : Index := 26#32
  let c0_i32_21 : BitVec 32 := 0#32
  let arg1 : BitVec 32 := BitVec.ofNat 32 (i 1).val
  let c1_i32 : BitVec 32 := 1#32
  let v0 : BitVec 32 := Scalar.addi arg1 c1_i32
  let c256_i32 : BitVec 32 := 256#32
  let v1 : BitVec 32 := Scalar.muli v0 c256_i32
  let c512_i32 : BitVec 32 := 512#32
  let v2 : BitVec 32 := Scalar.addi v1 c512_i32
  let c1_i32_0 : BitVec 32 := 1#32
  let v3 : BitVec 32 := Scalar.subi v2 c1_i32_0
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_19 : BitVec 32 := 1#32
  let v58 : BitVec 32 := Scalar.subi v20 c1_i32_19
  let v59 : BitVec 32 := Scalar.subi v58 c0_i32_21
  let c1_i32_22 : BitVec 32 := 1#32
  let v61 : BitVec 32 := Scalar.divsi v59 c1_i32_22
  let v62 : BitVec 32 := Scalar.muli v61 c1_i32_22
  let v63 : BitVec 32 := Scalar.addi c0_i32_21 v62
  let c1_i32_24 : BitVec 32 := 1#32
  let arg15 : BitVec 32 := Scf.iv v63 c1_i32_24 k0_t2
  let c16_i32_799 : BitVec 32 := 16#32
  let v2367 : BitVec 32 := Scalar.muli arg15 c16_i32_799
  let v2368 : BitVec 32 := v2367
  let v3252 : BitVec 32 := Scalar.addi v2368 c0_i32_1119
  let v3253 : Index := Scalar.indexCast v3252
  let c0_1121 : Index := 0#32
  ![26, v3253.toNat, 0]
def k0_off64 (i : grid0.Coords) (k0_t2 : Fin (k0_t2_loop i).trips) (c0_i32_1122 : BitVec 32) : Fin 3 → Nat :=
  let c27_1123 : Index := 27#32
  let c0_i32_21 : BitVec 32 := 0#32
  let arg1 : BitVec 32 := BitVec.ofNat 32 (i 1).val
  let c1_i32 : BitVec 32 := 1#32
  let v0 : BitVec 32 := Scalar.addi arg1 c1_i32
  let c256_i32 : BitVec 32 := 256#32
  let v1 : BitVec 32 := Scalar.muli v0 c256_i32
  let c512_i32 : BitVec 32 := 512#32
  let v2 : BitVec 32 := Scalar.addi v1 c512_i32
  let c1_i32_0 : BitVec 32 := 1#32
  let v3 : BitVec 32 := Scalar.subi v2 c1_i32_0
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_19 : BitVec 32 := 1#32
  let v58 : BitVec 32 := Scalar.subi v20 c1_i32_19
  let v59 : BitVec 32 := Scalar.subi v58 c0_i32_21
  let c1_i32_22 : BitVec 32 := 1#32
  let v61 : BitVec 32 := Scalar.divsi v59 c1_i32_22
  let v62 : BitVec 32 := Scalar.muli v61 c1_i32_22
  let v63 : BitVec 32 := Scalar.addi c0_i32_21 v62
  let c1_i32_24 : BitVec 32 := 1#32
  let arg15 : BitVec 32 := Scf.iv v63 c1_i32_24 k0_t2
  let c16_i32_799 : BitVec 32 := 16#32
  let v2367 : BitVec 32 := Scalar.muli arg15 c16_i32_799
  let v2368 : BitVec 32 := v2367
  let v3257 : BitVec 32 := Scalar.addi v2368 c0_i32_1122
  let v3258 : Index := Scalar.indexCast v3257
  let c0_1124 : Index := 0#32
  ![27, v3258.toNat, 0]
def k0_off65 (i : grid0.Coords) (k0_t2 : Fin (k0_t2_loop i).trips) (c0_i32_1125 : BitVec 32) : Fin 3 → Nat :=
  let c28_1126 : Index := 28#32
  let c0_i32_21 : BitVec 32 := 0#32
  let arg1 : BitVec 32 := BitVec.ofNat 32 (i 1).val
  let c1_i32 : BitVec 32 := 1#32
  let v0 : BitVec 32 := Scalar.addi arg1 c1_i32
  let c256_i32 : BitVec 32 := 256#32
  let v1 : BitVec 32 := Scalar.muli v0 c256_i32
  let c512_i32 : BitVec 32 := 512#32
  let v2 : BitVec 32 := Scalar.addi v1 c512_i32
  let c1_i32_0 : BitVec 32 := 1#32
  let v3 : BitVec 32 := Scalar.subi v2 c1_i32_0
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_19 : BitVec 32 := 1#32
  let v58 : BitVec 32 := Scalar.subi v20 c1_i32_19
  let v59 : BitVec 32 := Scalar.subi v58 c0_i32_21
  let c1_i32_22 : BitVec 32 := 1#32
  let v61 : BitVec 32 := Scalar.divsi v59 c1_i32_22
  let v62 : BitVec 32 := Scalar.muli v61 c1_i32_22
  let v63 : BitVec 32 := Scalar.addi c0_i32_21 v62
  let c1_i32_24 : BitVec 32 := 1#32
  let arg15 : BitVec 32 := Scf.iv v63 c1_i32_24 k0_t2
  let c16_i32_799 : BitVec 32 := 16#32
  let v2367 : BitVec 32 := Scalar.muli arg15 c16_i32_799
  let v2368 : BitVec 32 := v2367
  let v3262 : BitVec 32 := Scalar.addi v2368 c0_i32_1125
  let v3263 : Index := Scalar.indexCast v3262
  let c0_1127 : Index := 0#32
  ![28, v3263.toNat, 0]
def k0_off66 (i : grid0.Coords) (k0_t2 : Fin (k0_t2_loop i).trips) (c0_i32_1128 : BitVec 32) : Fin 3 → Nat :=
  let c29_1129 : Index := 29#32
  let c0_i32_21 : BitVec 32 := 0#32
  let arg1 : BitVec 32 := BitVec.ofNat 32 (i 1).val
  let c1_i32 : BitVec 32 := 1#32
  let v0 : BitVec 32 := Scalar.addi arg1 c1_i32
  let c256_i32 : BitVec 32 := 256#32
  let v1 : BitVec 32 := Scalar.muli v0 c256_i32
  let c512_i32 : BitVec 32 := 512#32
  let v2 : BitVec 32 := Scalar.addi v1 c512_i32
  let c1_i32_0 : BitVec 32 := 1#32
  let v3 : BitVec 32 := Scalar.subi v2 c1_i32_0
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_19 : BitVec 32 := 1#32
  let v58 : BitVec 32 := Scalar.subi v20 c1_i32_19
  let v59 : BitVec 32 := Scalar.subi v58 c0_i32_21
  let c1_i32_22 : BitVec 32 := 1#32
  let v61 : BitVec 32 := Scalar.divsi v59 c1_i32_22
  let v62 : BitVec 32 := Scalar.muli v61 c1_i32_22
  let v63 : BitVec 32 := Scalar.addi c0_i32_21 v62
  let c1_i32_24 : BitVec 32 := 1#32
  let arg15 : BitVec 32 := Scf.iv v63 c1_i32_24 k0_t2
  let c16_i32_799 : BitVec 32 := 16#32
  let v2367 : BitVec 32 := Scalar.muli arg15 c16_i32_799
  let v2368 : BitVec 32 := v2367
  let v3267 : BitVec 32 := Scalar.addi v2368 c0_i32_1128
  let v3268 : Index := Scalar.indexCast v3267
  let c0_1130 : Index := 0#32
  ![29, v3268.toNat, 0]
def k0_off67 (i : grid0.Coords) (k0_t2 : Fin (k0_t2_loop i).trips) (c0_i32_1131 : BitVec 32) : Fin 3 → Nat :=
  let c30_1132 : Index := 30#32
  let c0_i32_21 : BitVec 32 := 0#32
  let arg1 : BitVec 32 := BitVec.ofNat 32 (i 1).val
  let c1_i32 : BitVec 32 := 1#32
  let v0 : BitVec 32 := Scalar.addi arg1 c1_i32
  let c256_i32 : BitVec 32 := 256#32
  let v1 : BitVec 32 := Scalar.muli v0 c256_i32
  let c512_i32 : BitVec 32 := 512#32
  let v2 : BitVec 32 := Scalar.addi v1 c512_i32
  let c1_i32_0 : BitVec 32 := 1#32
  let v3 : BitVec 32 := Scalar.subi v2 c1_i32_0
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_19 : BitVec 32 := 1#32
  let v58 : BitVec 32 := Scalar.subi v20 c1_i32_19
  let v59 : BitVec 32 := Scalar.subi v58 c0_i32_21
  let c1_i32_22 : BitVec 32 := 1#32
  let v61 : BitVec 32 := Scalar.divsi v59 c1_i32_22
  let v62 : BitVec 32 := Scalar.muli v61 c1_i32_22
  let v63 : BitVec 32 := Scalar.addi c0_i32_21 v62
  let c1_i32_24 : BitVec 32 := 1#32
  let arg15 : BitVec 32 := Scf.iv v63 c1_i32_24 k0_t2
  let c16_i32_799 : BitVec 32 := 16#32
  let v2367 : BitVec 32 := Scalar.muli arg15 c16_i32_799
  let v2368 : BitVec 32 := v2367
  let v3272 : BitVec 32 := Scalar.addi v2368 c0_i32_1131
  let v3273 : Index := Scalar.indexCast v3272
  let c0_1133 : Index := 0#32
  ![30, v3273.toNat, 0]
def k0_off68 (i : grid0.Coords) (k0_t2 : Fin (k0_t2_loop i).trips) (c0_i32_1134 : BitVec 32) : Fin 3 → Nat :=
  let c31_1135 : Index := 31#32
  let c0_i32_21 : BitVec 32 := 0#32
  let arg1 : BitVec 32 := BitVec.ofNat 32 (i 1).val
  let c1_i32 : BitVec 32 := 1#32
  let v0 : BitVec 32 := Scalar.addi arg1 c1_i32
  let c256_i32 : BitVec 32 := 256#32
  let v1 : BitVec 32 := Scalar.muli v0 c256_i32
  let c512_i32 : BitVec 32 := 512#32
  let v2 : BitVec 32 := Scalar.addi v1 c512_i32
  let c1_i32_0 : BitVec 32 := 1#32
  let v3 : BitVec 32 := Scalar.subi v2 c1_i32_0
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_19 : BitVec 32 := 1#32
  let v58 : BitVec 32 := Scalar.subi v20 c1_i32_19
  let v59 : BitVec 32 := Scalar.subi v58 c0_i32_21
  let c1_i32_22 : BitVec 32 := 1#32
  let v61 : BitVec 32 := Scalar.divsi v59 c1_i32_22
  let v62 : BitVec 32 := Scalar.muli v61 c1_i32_22
  let v63 : BitVec 32 := Scalar.addi c0_i32_21 v62
  let c1_i32_24 : BitVec 32 := 1#32
  let arg15 : BitVec 32 := Scf.iv v63 c1_i32_24 k0_t2
  let c16_i32_799 : BitVec 32 := 16#32
  let v2367 : BitVec 32 := Scalar.muli arg15 c16_i32_799
  let v2368 : BitVec 32 := v2367
  let v3277 : BitVec 32 := Scalar.addi v2368 c0_i32_1134
  let v3278 : Index := Scalar.indexCast v3277
  let c0_1136 : Index := 0#32
  ![31, v3278.toNat, 0]
def k0_mult5 (i : grid0.Coords) : BitVec 32 :=
  let arg1 : BitVec 32 := BitVec.ofNat 32 (i 1).val
  let c1_i32 : BitVec 32 := 1#32
  let v0 : BitVec 32 := Scalar.addi arg1 c1_i32
  let c256_i32 : BitVec 32 := 256#32
  let v1 : BitVec 32 := Scalar.muli v0 c256_i32
  let c512_i32 : BitVec 32 := 512#32
  let v2 : BitVec 32 := Scalar.addi v1 c512_i32
  let c1_i32_0 : BitVec 32 := 1#32
  let v3 : BitVec 32 := Scalar.subi v2 c1_i32_0
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_25 : BitVec 32 := 1#32
  let v64 : BitVec 32 := Scalar.subi v20 c1_i32_25
  let c512_i32_26 : BitVec 32 := 512#32
  let v65 : BitVec 32 := Scalar.muli v64 c512_i32_26
  v65
def k0_off69 (i : grid0.Coords) : Fin 2 → Nat :=
  let arg1 : BitVec 32 := BitVec.ofNat 32 (i 1).val
  let c1_i32 : BitVec 32 := 1#32
  let v0 : BitVec 32 := Scalar.addi arg1 c1_i32
  let c256_i32 : BitVec 32 := 256#32
  let v1 : BitVec 32 := Scalar.muli v0 c256_i32
  let c512_i32 : BitVec 32 := 512#32
  let v2 : BitVec 32 := Scalar.addi v1 c512_i32
  let c1_i32_0 : BitVec 32 := 1#32
  let v3 : BitVec 32 := Scalar.subi v2 c1_i32_0
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_25 : BitVec 32 := 1#32
  let v64 : BitVec 32 := Scalar.subi v20 c1_i32_25
  let c512_i32_26 : BitVec 32 := 512#32
  let v65 : BitVec 32 := Scalar.muli v64 c512_i32_26
  let v66 : BitVec 32 := v65
  let v67 : Index := Scalar.indexCast v66
  let c0_27 : Index := 0#32
  ![v67.toNat, 0]
def k0_off70 (i : grid0.Coords) : Fin 3 → Nat :=
  let arg1 : BitVec 32 := BitVec.ofNat 32 (i 1).val
  let c1_i32 : BitVec 32 := 1#32
  let v0 : BitVec 32 := Scalar.addi arg1 c1_i32
  let c256_i32 : BitVec 32 := 256#32
  let v1 : BitVec 32 := Scalar.muli v0 c256_i32
  let c512_i32 : BitVec 32 := 512#32
  let v2 : BitVec 32 := Scalar.addi v1 c512_i32
  let c1_i32_0 : BitVec 32 := 1#32
  let v3 : BitVec 32 := Scalar.subi v2 c1_i32_0
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_25 : BitVec 32 := 1#32
  let v64 : BitVec 32 := Scalar.subi v20 c1_i32_25
  let v108 : Index := Scalar.indexCast v64
  let c0_36 : Index := 0#32
  let c0_37 : Index := 0#32
  ![v108.toNat, 0, 0]
def k0_mult6 (i : grid0.Coords) : BitVec 32 :=
  let arg1 : BitVec 32 := BitVec.ofNat 32 (i 1).val
  let c1_i32 : BitVec 32 := 1#32
  let v0 : BitVec 32 := Scalar.addi arg1 c1_i32
  let c256_i32 : BitVec 32 := 256#32
  let v1 : BitVec 32 := Scalar.muli v0 c256_i32
  let c512_i32 : BitVec 32 := 512#32
  let v2 : BitVec 32 := Scalar.addi v1 c512_i32
  let c1_i32_0 : BitVec 32 := 1#32
  let v3 : BitVec 32 := Scalar.subi v2 c1_i32_0
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_25 : BitVec 32 := 1#32
  let v64 : BitVec 32 := Scalar.subi v20 c1_i32_25
  let c16_i32 : BitVec 32 := 16#32
  let v112 : BitVec 32 := Scalar.muli v64 c16_i32
  v112
def k0_off71 (i : grid0.Coords) (c0_i32_271 : BitVec 32) : Fin 3 → Nat :=
  let c0_272 : Index := 0#32
  let arg1 : BitVec 32 := BitVec.ofNat 32 (i 1).val
  let c1_i32 : BitVec 32 := 1#32
  let v0 : BitVec 32 := Scalar.addi arg1 c1_i32
  let c256_i32 : BitVec 32 := 256#32
  let v1 : BitVec 32 := Scalar.muli v0 c256_i32
  let c512_i32 : BitVec 32 := 512#32
  let v2 : BitVec 32 := Scalar.addi v1 c512_i32
  let c1_i32_0 : BitVec 32 := 1#32
  let v3 : BitVec 32 := Scalar.subi v2 c1_i32_0
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_25 : BitVec 32 := 1#32
  let v64 : BitVec 32 := Scalar.subi v20 c1_i32_25
  let c16_i32 : BitVec 32 := 16#32
  let v112 : BitVec 32 := Scalar.muli v64 c16_i32
  let v113 : BitVec 32 := v112
  let v867 : BitVec 32 := Scalar.addi v113 c0_i32_271
  let v868 : Index := Scalar.indexCast v867
  let c0_273 : Index := 0#32
  ![0, v868.toNat, 0]
def k0_off72 (i : grid0.Coords) (c0_i32_274 : BitVec 32) : Fin 3 → Nat :=
  let c1 : Index := 1#32
  let arg1 : BitVec 32 := BitVec.ofNat 32 (i 1).val
  let c1_i32 : BitVec 32 := 1#32
  let v0 : BitVec 32 := Scalar.addi arg1 c1_i32
  let c256_i32 : BitVec 32 := 256#32
  let v1 : BitVec 32 := Scalar.muli v0 c256_i32
  let c512_i32 : BitVec 32 := 512#32
  let v2 : BitVec 32 := Scalar.addi v1 c512_i32
  let c1_i32_0 : BitVec 32 := 1#32
  let v3 : BitVec 32 := Scalar.subi v2 c1_i32_0
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_25 : BitVec 32 := 1#32
  let v64 : BitVec 32 := Scalar.subi v20 c1_i32_25
  let c16_i32 : BitVec 32 := 16#32
  let v112 : BitVec 32 := Scalar.muli v64 c16_i32
  let v113 : BitVec 32 := v112
  let v872 : BitVec 32 := Scalar.addi v113 c0_i32_274
  let v873 : Index := Scalar.indexCast v872
  let c0_275 : Index := 0#32
  ![1, v873.toNat, 0]
def k0_off73 (i : grid0.Coords) (c0_i32_276 : BitVec 32) : Fin 3 → Nat :=
  let c2 : Index := 2#32
  let arg1 : BitVec 32 := BitVec.ofNat 32 (i 1).val
  let c1_i32 : BitVec 32 := 1#32
  let v0 : BitVec 32 := Scalar.addi arg1 c1_i32
  let c256_i32 : BitVec 32 := 256#32
  let v1 : BitVec 32 := Scalar.muli v0 c256_i32
  let c512_i32 : BitVec 32 := 512#32
  let v2 : BitVec 32 := Scalar.addi v1 c512_i32
  let c1_i32_0 : BitVec 32 := 1#32
  let v3 : BitVec 32 := Scalar.subi v2 c1_i32_0
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_25 : BitVec 32 := 1#32
  let v64 : BitVec 32 := Scalar.subi v20 c1_i32_25
  let c16_i32 : BitVec 32 := 16#32
  let v112 : BitVec 32 := Scalar.muli v64 c16_i32
  let v113 : BitVec 32 := v112
  let v877 : BitVec 32 := Scalar.addi v113 c0_i32_276
  let v878 : Index := Scalar.indexCast v877
  let c0_277 : Index := 0#32
  ![2, v878.toNat, 0]
def k0_off74 (i : grid0.Coords) (c0_i32_278 : BitVec 32) : Fin 3 → Nat :=
  let c3 : Index := 3#32
  let arg1 : BitVec 32 := BitVec.ofNat 32 (i 1).val
  let c1_i32 : BitVec 32 := 1#32
  let v0 : BitVec 32 := Scalar.addi arg1 c1_i32
  let c256_i32 : BitVec 32 := 256#32
  let v1 : BitVec 32 := Scalar.muli v0 c256_i32
  let c512_i32 : BitVec 32 := 512#32
  let v2 : BitVec 32 := Scalar.addi v1 c512_i32
  let c1_i32_0 : BitVec 32 := 1#32
  let v3 : BitVec 32 := Scalar.subi v2 c1_i32_0
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_25 : BitVec 32 := 1#32
  let v64 : BitVec 32 := Scalar.subi v20 c1_i32_25
  let c16_i32 : BitVec 32 := 16#32
  let v112 : BitVec 32 := Scalar.muli v64 c16_i32
  let v113 : BitVec 32 := v112
  let v882 : BitVec 32 := Scalar.addi v113 c0_i32_278
  let v883 : Index := Scalar.indexCast v882
  let c0_279 : Index := 0#32
  ![3, v883.toNat, 0]
def k0_off75 (i : grid0.Coords) (c0_i32_280 : BitVec 32) : Fin 3 → Nat :=
  let c4 : Index := 4#32
  let arg1 : BitVec 32 := BitVec.ofNat 32 (i 1).val
  let c1_i32 : BitVec 32 := 1#32
  let v0 : BitVec 32 := Scalar.addi arg1 c1_i32
  let c256_i32 : BitVec 32 := 256#32
  let v1 : BitVec 32 := Scalar.muli v0 c256_i32
  let c512_i32 : BitVec 32 := 512#32
  let v2 : BitVec 32 := Scalar.addi v1 c512_i32
  let c1_i32_0 : BitVec 32 := 1#32
  let v3 : BitVec 32 := Scalar.subi v2 c1_i32_0
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_25 : BitVec 32 := 1#32
  let v64 : BitVec 32 := Scalar.subi v20 c1_i32_25
  let c16_i32 : BitVec 32 := 16#32
  let v112 : BitVec 32 := Scalar.muli v64 c16_i32
  let v113 : BitVec 32 := v112
  let v887 : BitVec 32 := Scalar.addi v113 c0_i32_280
  let v888 : Index := Scalar.indexCast v887
  let c0_281 : Index := 0#32
  ![4, v888.toNat, 0]
def k0_off76 (i : grid0.Coords) (c0_i32_282 : BitVec 32) : Fin 3 → Nat :=
  let c5 : Index := 5#32
  let arg1 : BitVec 32 := BitVec.ofNat 32 (i 1).val
  let c1_i32 : BitVec 32 := 1#32
  let v0 : BitVec 32 := Scalar.addi arg1 c1_i32
  let c256_i32 : BitVec 32 := 256#32
  let v1 : BitVec 32 := Scalar.muli v0 c256_i32
  let c512_i32 : BitVec 32 := 512#32
  let v2 : BitVec 32 := Scalar.addi v1 c512_i32
  let c1_i32_0 : BitVec 32 := 1#32
  let v3 : BitVec 32 := Scalar.subi v2 c1_i32_0
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_25 : BitVec 32 := 1#32
  let v64 : BitVec 32 := Scalar.subi v20 c1_i32_25
  let c16_i32 : BitVec 32 := 16#32
  let v112 : BitVec 32 := Scalar.muli v64 c16_i32
  let v113 : BitVec 32 := v112
  let v892 : BitVec 32 := Scalar.addi v113 c0_i32_282
  let v893 : Index := Scalar.indexCast v892
  let c0_283 : Index := 0#32
  ![5, v893.toNat, 0]
def k0_off77 (i : grid0.Coords) (c0_i32_284 : BitVec 32) : Fin 3 → Nat :=
  let c6 : Index := 6#32
  let arg1 : BitVec 32 := BitVec.ofNat 32 (i 1).val
  let c1_i32 : BitVec 32 := 1#32
  let v0 : BitVec 32 := Scalar.addi arg1 c1_i32
  let c256_i32 : BitVec 32 := 256#32
  let v1 : BitVec 32 := Scalar.muli v0 c256_i32
  let c512_i32 : BitVec 32 := 512#32
  let v2 : BitVec 32 := Scalar.addi v1 c512_i32
  let c1_i32_0 : BitVec 32 := 1#32
  let v3 : BitVec 32 := Scalar.subi v2 c1_i32_0
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_25 : BitVec 32 := 1#32
  let v64 : BitVec 32 := Scalar.subi v20 c1_i32_25
  let c16_i32 : BitVec 32 := 16#32
  let v112 : BitVec 32 := Scalar.muli v64 c16_i32
  let v113 : BitVec 32 := v112
  let v897 : BitVec 32 := Scalar.addi v113 c0_i32_284
  let v898 : Index := Scalar.indexCast v897
  let c0_285 : Index := 0#32
  ![6, v898.toNat, 0]
def k0_off78 (i : grid0.Coords) (c0_i32_286 : BitVec 32) : Fin 3 → Nat :=
  let c7 : Index := 7#32
  let arg1 : BitVec 32 := BitVec.ofNat 32 (i 1).val
  let c1_i32 : BitVec 32 := 1#32
  let v0 : BitVec 32 := Scalar.addi arg1 c1_i32
  let c256_i32 : BitVec 32 := 256#32
  let v1 : BitVec 32 := Scalar.muli v0 c256_i32
  let c512_i32 : BitVec 32 := 512#32
  let v2 : BitVec 32 := Scalar.addi v1 c512_i32
  let c1_i32_0 : BitVec 32 := 1#32
  let v3 : BitVec 32 := Scalar.subi v2 c1_i32_0
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_25 : BitVec 32 := 1#32
  let v64 : BitVec 32 := Scalar.subi v20 c1_i32_25
  let c16_i32 : BitVec 32 := 16#32
  let v112 : BitVec 32 := Scalar.muli v64 c16_i32
  let v113 : BitVec 32 := v112
  let v902 : BitVec 32 := Scalar.addi v113 c0_i32_286
  let v903 : Index := Scalar.indexCast v902
  let c0_287 : Index := 0#32
  ![7, v903.toNat, 0]
def k0_off79 (i : grid0.Coords) (c0_i32_288 : BitVec 32) : Fin 3 → Nat :=
  let c8 : Index := 8#32
  let arg1 : BitVec 32 := BitVec.ofNat 32 (i 1).val
  let c1_i32 : BitVec 32 := 1#32
  let v0 : BitVec 32 := Scalar.addi arg1 c1_i32
  let c256_i32 : BitVec 32 := 256#32
  let v1 : BitVec 32 := Scalar.muli v0 c256_i32
  let c512_i32 : BitVec 32 := 512#32
  let v2 : BitVec 32 := Scalar.addi v1 c512_i32
  let c1_i32_0 : BitVec 32 := 1#32
  let v3 : BitVec 32 := Scalar.subi v2 c1_i32_0
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_25 : BitVec 32 := 1#32
  let v64 : BitVec 32 := Scalar.subi v20 c1_i32_25
  let c16_i32 : BitVec 32 := 16#32
  let v112 : BitVec 32 := Scalar.muli v64 c16_i32
  let v113 : BitVec 32 := v112
  let v907 : BitVec 32 := Scalar.addi v113 c0_i32_288
  let v908 : Index := Scalar.indexCast v907
  let c0_289 : Index := 0#32
  ![8, v908.toNat, 0]
def k0_off80 (i : grid0.Coords) (c0_i32_290 : BitVec 32) : Fin 3 → Nat :=
  let c9 : Index := 9#32
  let arg1 : BitVec 32 := BitVec.ofNat 32 (i 1).val
  let c1_i32 : BitVec 32 := 1#32
  let v0 : BitVec 32 := Scalar.addi arg1 c1_i32
  let c256_i32 : BitVec 32 := 256#32
  let v1 : BitVec 32 := Scalar.muli v0 c256_i32
  let c512_i32 : BitVec 32 := 512#32
  let v2 : BitVec 32 := Scalar.addi v1 c512_i32
  let c1_i32_0 : BitVec 32 := 1#32
  let v3 : BitVec 32 := Scalar.subi v2 c1_i32_0
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_25 : BitVec 32 := 1#32
  let v64 : BitVec 32 := Scalar.subi v20 c1_i32_25
  let c16_i32 : BitVec 32 := 16#32
  let v112 : BitVec 32 := Scalar.muli v64 c16_i32
  let v113 : BitVec 32 := v112
  let v912 : BitVec 32 := Scalar.addi v113 c0_i32_290
  let v913 : Index := Scalar.indexCast v912
  let c0_291 : Index := 0#32
  ![9, v913.toNat, 0]
def k0_off81 (i : grid0.Coords) (c0_i32_292 : BitVec 32) : Fin 3 → Nat :=
  let c10 : Index := 10#32
  let arg1 : BitVec 32 := BitVec.ofNat 32 (i 1).val
  let c1_i32 : BitVec 32 := 1#32
  let v0 : BitVec 32 := Scalar.addi arg1 c1_i32
  let c256_i32 : BitVec 32 := 256#32
  let v1 : BitVec 32 := Scalar.muli v0 c256_i32
  let c512_i32 : BitVec 32 := 512#32
  let v2 : BitVec 32 := Scalar.addi v1 c512_i32
  let c1_i32_0 : BitVec 32 := 1#32
  let v3 : BitVec 32 := Scalar.subi v2 c1_i32_0
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_25 : BitVec 32 := 1#32
  let v64 : BitVec 32 := Scalar.subi v20 c1_i32_25
  let c16_i32 : BitVec 32 := 16#32
  let v112 : BitVec 32 := Scalar.muli v64 c16_i32
  let v113 : BitVec 32 := v112
  let v917 : BitVec 32 := Scalar.addi v113 c0_i32_292
  let v918 : Index := Scalar.indexCast v917
  let c0_293 : Index := 0#32
  ![10, v918.toNat, 0]
def k0_off82 (i : grid0.Coords) (c0_i32_294 : BitVec 32) : Fin 3 → Nat :=
  let c11 : Index := 11#32
  let arg1 : BitVec 32 := BitVec.ofNat 32 (i 1).val
  let c1_i32 : BitVec 32 := 1#32
  let v0 : BitVec 32 := Scalar.addi arg1 c1_i32
  let c256_i32 : BitVec 32 := 256#32
  let v1 : BitVec 32 := Scalar.muli v0 c256_i32
  let c512_i32 : BitVec 32 := 512#32
  let v2 : BitVec 32 := Scalar.addi v1 c512_i32
  let c1_i32_0 : BitVec 32 := 1#32
  let v3 : BitVec 32 := Scalar.subi v2 c1_i32_0
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_25 : BitVec 32 := 1#32
  let v64 : BitVec 32 := Scalar.subi v20 c1_i32_25
  let c16_i32 : BitVec 32 := 16#32
  let v112 : BitVec 32 := Scalar.muli v64 c16_i32
  let v113 : BitVec 32 := v112
  let v922 : BitVec 32 := Scalar.addi v113 c0_i32_294
  let v923 : Index := Scalar.indexCast v922
  let c0_295 : Index := 0#32
  ![11, v923.toNat, 0]
def k0_off83 (i : grid0.Coords) (c0_i32_296 : BitVec 32) : Fin 3 → Nat :=
  let c12 : Index := 12#32
  let arg1 : BitVec 32 := BitVec.ofNat 32 (i 1).val
  let c1_i32 : BitVec 32 := 1#32
  let v0 : BitVec 32 := Scalar.addi arg1 c1_i32
  let c256_i32 : BitVec 32 := 256#32
  let v1 : BitVec 32 := Scalar.muli v0 c256_i32
  let c512_i32 : BitVec 32 := 512#32
  let v2 : BitVec 32 := Scalar.addi v1 c512_i32
  let c1_i32_0 : BitVec 32 := 1#32
  let v3 : BitVec 32 := Scalar.subi v2 c1_i32_0
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_25 : BitVec 32 := 1#32
  let v64 : BitVec 32 := Scalar.subi v20 c1_i32_25
  let c16_i32 : BitVec 32 := 16#32
  let v112 : BitVec 32 := Scalar.muli v64 c16_i32
  let v113 : BitVec 32 := v112
  let v927 : BitVec 32 := Scalar.addi v113 c0_i32_296
  let v928 : Index := Scalar.indexCast v927
  let c0_297 : Index := 0#32
  ![12, v928.toNat, 0]
def k0_off84 (i : grid0.Coords) (c0_i32_298 : BitVec 32) : Fin 3 → Nat :=
  let c13 : Index := 13#32
  let arg1 : BitVec 32 := BitVec.ofNat 32 (i 1).val
  let c1_i32 : BitVec 32 := 1#32
  let v0 : BitVec 32 := Scalar.addi arg1 c1_i32
  let c256_i32 : BitVec 32 := 256#32
  let v1 : BitVec 32 := Scalar.muli v0 c256_i32
  let c512_i32 : BitVec 32 := 512#32
  let v2 : BitVec 32 := Scalar.addi v1 c512_i32
  let c1_i32_0 : BitVec 32 := 1#32
  let v3 : BitVec 32 := Scalar.subi v2 c1_i32_0
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_25 : BitVec 32 := 1#32
  let v64 : BitVec 32 := Scalar.subi v20 c1_i32_25
  let c16_i32 : BitVec 32 := 16#32
  let v112 : BitVec 32 := Scalar.muli v64 c16_i32
  let v113 : BitVec 32 := v112
  let v932 : BitVec 32 := Scalar.addi v113 c0_i32_298
  let v933 : Index := Scalar.indexCast v932
  let c0_299 : Index := 0#32
  ![13, v933.toNat, 0]
def k0_off85 (i : grid0.Coords) (c0_i32_300 : BitVec 32) : Fin 3 → Nat :=
  let c14 : Index := 14#32
  let arg1 : BitVec 32 := BitVec.ofNat 32 (i 1).val
  let c1_i32 : BitVec 32 := 1#32
  let v0 : BitVec 32 := Scalar.addi arg1 c1_i32
  let c256_i32 : BitVec 32 := 256#32
  let v1 : BitVec 32 := Scalar.muli v0 c256_i32
  let c512_i32 : BitVec 32 := 512#32
  let v2 : BitVec 32 := Scalar.addi v1 c512_i32
  let c1_i32_0 : BitVec 32 := 1#32
  let v3 : BitVec 32 := Scalar.subi v2 c1_i32_0
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_25 : BitVec 32 := 1#32
  let v64 : BitVec 32 := Scalar.subi v20 c1_i32_25
  let c16_i32 : BitVec 32 := 16#32
  let v112 : BitVec 32 := Scalar.muli v64 c16_i32
  let v113 : BitVec 32 := v112
  let v937 : BitVec 32 := Scalar.addi v113 c0_i32_300
  let v938 : Index := Scalar.indexCast v937
  let c0_301 : Index := 0#32
  ![14, v938.toNat, 0]
def k0_off86 (i : grid0.Coords) (c0_i32_302 : BitVec 32) : Fin 3 → Nat :=
  let c15 : Index := 15#32
  let arg1 : BitVec 32 := BitVec.ofNat 32 (i 1).val
  let c1_i32 : BitVec 32 := 1#32
  let v0 : BitVec 32 := Scalar.addi arg1 c1_i32
  let c256_i32 : BitVec 32 := 256#32
  let v1 : BitVec 32 := Scalar.muli v0 c256_i32
  let c512_i32 : BitVec 32 := 512#32
  let v2 : BitVec 32 := Scalar.addi v1 c512_i32
  let c1_i32_0 : BitVec 32 := 1#32
  let v3 : BitVec 32 := Scalar.subi v2 c1_i32_0
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_25 : BitVec 32 := 1#32
  let v64 : BitVec 32 := Scalar.subi v20 c1_i32_25
  let c16_i32 : BitVec 32 := 16#32
  let v112 : BitVec 32 := Scalar.muli v64 c16_i32
  let v113 : BitVec 32 := v112
  let v942 : BitVec 32 := Scalar.addi v113 c0_i32_302
  let v943 : Index := Scalar.indexCast v942
  let c0_303 : Index := 0#32
  ![15, v943.toNat, 0]
def k0_off87 (i : grid0.Coords) (c0_i32_304 : BitVec 32) : Fin 3 → Nat :=
  let c16 : Index := 16#32
  let arg1 : BitVec 32 := BitVec.ofNat 32 (i 1).val
  let c1_i32 : BitVec 32 := 1#32
  let v0 : BitVec 32 := Scalar.addi arg1 c1_i32
  let c256_i32 : BitVec 32 := 256#32
  let v1 : BitVec 32 := Scalar.muli v0 c256_i32
  let c512_i32 : BitVec 32 := 512#32
  let v2 : BitVec 32 := Scalar.addi v1 c512_i32
  let c1_i32_0 : BitVec 32 := 1#32
  let v3 : BitVec 32 := Scalar.subi v2 c1_i32_0
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_25 : BitVec 32 := 1#32
  let v64 : BitVec 32 := Scalar.subi v20 c1_i32_25
  let c16_i32 : BitVec 32 := 16#32
  let v112 : BitVec 32 := Scalar.muli v64 c16_i32
  let v113 : BitVec 32 := v112
  let v947 : BitVec 32 := Scalar.addi v113 c0_i32_304
  let v948 : Index := Scalar.indexCast v947
  let c0_305 : Index := 0#32
  ![16, v948.toNat, 0]
def k0_off88 (i : grid0.Coords) (c0_i32_306 : BitVec 32) : Fin 3 → Nat :=
  let c17 : Index := 17#32
  let arg1 : BitVec 32 := BitVec.ofNat 32 (i 1).val
  let c1_i32 : BitVec 32 := 1#32
  let v0 : BitVec 32 := Scalar.addi arg1 c1_i32
  let c256_i32 : BitVec 32 := 256#32
  let v1 : BitVec 32 := Scalar.muli v0 c256_i32
  let c512_i32 : BitVec 32 := 512#32
  let v2 : BitVec 32 := Scalar.addi v1 c512_i32
  let c1_i32_0 : BitVec 32 := 1#32
  let v3 : BitVec 32 := Scalar.subi v2 c1_i32_0
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_25 : BitVec 32 := 1#32
  let v64 : BitVec 32 := Scalar.subi v20 c1_i32_25
  let c16_i32 : BitVec 32 := 16#32
  let v112 : BitVec 32 := Scalar.muli v64 c16_i32
  let v113 : BitVec 32 := v112
  let v952 : BitVec 32 := Scalar.addi v113 c0_i32_306
  let v953 : Index := Scalar.indexCast v952
  let c0_307 : Index := 0#32
  ![17, v953.toNat, 0]
def k0_off89 (i : grid0.Coords) (c0_i32_308 : BitVec 32) : Fin 3 → Nat :=
  let c18 : Index := 18#32
  let arg1 : BitVec 32 := BitVec.ofNat 32 (i 1).val
  let c1_i32 : BitVec 32 := 1#32
  let v0 : BitVec 32 := Scalar.addi arg1 c1_i32
  let c256_i32 : BitVec 32 := 256#32
  let v1 : BitVec 32 := Scalar.muli v0 c256_i32
  let c512_i32 : BitVec 32 := 512#32
  let v2 : BitVec 32 := Scalar.addi v1 c512_i32
  let c1_i32_0 : BitVec 32 := 1#32
  let v3 : BitVec 32 := Scalar.subi v2 c1_i32_0
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_25 : BitVec 32 := 1#32
  let v64 : BitVec 32 := Scalar.subi v20 c1_i32_25
  let c16_i32 : BitVec 32 := 16#32
  let v112 : BitVec 32 := Scalar.muli v64 c16_i32
  let v113 : BitVec 32 := v112
  let v957 : BitVec 32 := Scalar.addi v113 c0_i32_308
  let v958 : Index := Scalar.indexCast v957
  let c0_309 : Index := 0#32
  ![18, v958.toNat, 0]
def k0_off90 (i : grid0.Coords) (c0_i32_310 : BitVec 32) : Fin 3 → Nat :=
  let c19 : Index := 19#32
  let arg1 : BitVec 32 := BitVec.ofNat 32 (i 1).val
  let c1_i32 : BitVec 32 := 1#32
  let v0 : BitVec 32 := Scalar.addi arg1 c1_i32
  let c256_i32 : BitVec 32 := 256#32
  let v1 : BitVec 32 := Scalar.muli v0 c256_i32
  let c512_i32 : BitVec 32 := 512#32
  let v2 : BitVec 32 := Scalar.addi v1 c512_i32
  let c1_i32_0 : BitVec 32 := 1#32
  let v3 : BitVec 32 := Scalar.subi v2 c1_i32_0
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_25 : BitVec 32 := 1#32
  let v64 : BitVec 32 := Scalar.subi v20 c1_i32_25
  let c16_i32 : BitVec 32 := 16#32
  let v112 : BitVec 32 := Scalar.muli v64 c16_i32
  let v113 : BitVec 32 := v112
  let v962 : BitVec 32 := Scalar.addi v113 c0_i32_310
  let v963 : Index := Scalar.indexCast v962
  let c0_311 : Index := 0#32
  ![19, v963.toNat, 0]
def k0_off91 (i : grid0.Coords) (c0_i32_312 : BitVec 32) : Fin 3 → Nat :=
  let c20 : Index := 20#32
  let arg1 : BitVec 32 := BitVec.ofNat 32 (i 1).val
  let c1_i32 : BitVec 32 := 1#32
  let v0 : BitVec 32 := Scalar.addi arg1 c1_i32
  let c256_i32 : BitVec 32 := 256#32
  let v1 : BitVec 32 := Scalar.muli v0 c256_i32
  let c512_i32 : BitVec 32 := 512#32
  let v2 : BitVec 32 := Scalar.addi v1 c512_i32
  let c1_i32_0 : BitVec 32 := 1#32
  let v3 : BitVec 32 := Scalar.subi v2 c1_i32_0
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_25 : BitVec 32 := 1#32
  let v64 : BitVec 32 := Scalar.subi v20 c1_i32_25
  let c16_i32 : BitVec 32 := 16#32
  let v112 : BitVec 32 := Scalar.muli v64 c16_i32
  let v113 : BitVec 32 := v112
  let v967 : BitVec 32 := Scalar.addi v113 c0_i32_312
  let v968 : Index := Scalar.indexCast v967
  let c0_313 : Index := 0#32
  ![20, v968.toNat, 0]
def k0_off92 (i : grid0.Coords) (c0_i32_314 : BitVec 32) : Fin 3 → Nat :=
  let c21 : Index := 21#32
  let arg1 : BitVec 32 := BitVec.ofNat 32 (i 1).val
  let c1_i32 : BitVec 32 := 1#32
  let v0 : BitVec 32 := Scalar.addi arg1 c1_i32
  let c256_i32 : BitVec 32 := 256#32
  let v1 : BitVec 32 := Scalar.muli v0 c256_i32
  let c512_i32 : BitVec 32 := 512#32
  let v2 : BitVec 32 := Scalar.addi v1 c512_i32
  let c1_i32_0 : BitVec 32 := 1#32
  let v3 : BitVec 32 := Scalar.subi v2 c1_i32_0
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_25 : BitVec 32 := 1#32
  let v64 : BitVec 32 := Scalar.subi v20 c1_i32_25
  let c16_i32 : BitVec 32 := 16#32
  let v112 : BitVec 32 := Scalar.muli v64 c16_i32
  let v113 : BitVec 32 := v112
  let v972 : BitVec 32 := Scalar.addi v113 c0_i32_314
  let v973 : Index := Scalar.indexCast v972
  let c0_315 : Index := 0#32
  ![21, v973.toNat, 0]
def k0_off93 (i : grid0.Coords) (c0_i32_316 : BitVec 32) : Fin 3 → Nat :=
  let c22 : Index := 22#32
  let arg1 : BitVec 32 := BitVec.ofNat 32 (i 1).val
  let c1_i32 : BitVec 32 := 1#32
  let v0 : BitVec 32 := Scalar.addi arg1 c1_i32
  let c256_i32 : BitVec 32 := 256#32
  let v1 : BitVec 32 := Scalar.muli v0 c256_i32
  let c512_i32 : BitVec 32 := 512#32
  let v2 : BitVec 32 := Scalar.addi v1 c512_i32
  let c1_i32_0 : BitVec 32 := 1#32
  let v3 : BitVec 32 := Scalar.subi v2 c1_i32_0
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_25 : BitVec 32 := 1#32
  let v64 : BitVec 32 := Scalar.subi v20 c1_i32_25
  let c16_i32 : BitVec 32 := 16#32
  let v112 : BitVec 32 := Scalar.muli v64 c16_i32
  let v113 : BitVec 32 := v112
  let v977 : BitVec 32 := Scalar.addi v113 c0_i32_316
  let v978 : Index := Scalar.indexCast v977
  let c0_317 : Index := 0#32
  ![22, v978.toNat, 0]
def k0_off94 (i : grid0.Coords) (c0_i32_318 : BitVec 32) : Fin 3 → Nat :=
  let c23 : Index := 23#32
  let arg1 : BitVec 32 := BitVec.ofNat 32 (i 1).val
  let c1_i32 : BitVec 32 := 1#32
  let v0 : BitVec 32 := Scalar.addi arg1 c1_i32
  let c256_i32 : BitVec 32 := 256#32
  let v1 : BitVec 32 := Scalar.muli v0 c256_i32
  let c512_i32 : BitVec 32 := 512#32
  let v2 : BitVec 32 := Scalar.addi v1 c512_i32
  let c1_i32_0 : BitVec 32 := 1#32
  let v3 : BitVec 32 := Scalar.subi v2 c1_i32_0
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_25 : BitVec 32 := 1#32
  let v64 : BitVec 32 := Scalar.subi v20 c1_i32_25
  let c16_i32 : BitVec 32 := 16#32
  let v112 : BitVec 32 := Scalar.muli v64 c16_i32
  let v113 : BitVec 32 := v112
  let v982 : BitVec 32 := Scalar.addi v113 c0_i32_318
  let v983 : Index := Scalar.indexCast v982
  let c0_319 : Index := 0#32
  ![23, v983.toNat, 0]
def k0_off95 (i : grid0.Coords) (c0_i32_320 : BitVec 32) : Fin 3 → Nat :=
  let c24 : Index := 24#32
  let arg1 : BitVec 32 := BitVec.ofNat 32 (i 1).val
  let c1_i32 : BitVec 32 := 1#32
  let v0 : BitVec 32 := Scalar.addi arg1 c1_i32
  let c256_i32 : BitVec 32 := 256#32
  let v1 : BitVec 32 := Scalar.muli v0 c256_i32
  let c512_i32 : BitVec 32 := 512#32
  let v2 : BitVec 32 := Scalar.addi v1 c512_i32
  let c1_i32_0 : BitVec 32 := 1#32
  let v3 : BitVec 32 := Scalar.subi v2 c1_i32_0
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_25 : BitVec 32 := 1#32
  let v64 : BitVec 32 := Scalar.subi v20 c1_i32_25
  let c16_i32 : BitVec 32 := 16#32
  let v112 : BitVec 32 := Scalar.muli v64 c16_i32
  let v113 : BitVec 32 := v112
  let v987 : BitVec 32 := Scalar.addi v113 c0_i32_320
  let v988 : Index := Scalar.indexCast v987
  let c0_321 : Index := 0#32
  ![24, v988.toNat, 0]
def k0_off96 (i : grid0.Coords) (c0_i32_322 : BitVec 32) : Fin 3 → Nat :=
  let c25 : Index := 25#32
  let arg1 : BitVec 32 := BitVec.ofNat 32 (i 1).val
  let c1_i32 : BitVec 32 := 1#32
  let v0 : BitVec 32 := Scalar.addi arg1 c1_i32
  let c256_i32 : BitVec 32 := 256#32
  let v1 : BitVec 32 := Scalar.muli v0 c256_i32
  let c512_i32 : BitVec 32 := 512#32
  let v2 : BitVec 32 := Scalar.addi v1 c512_i32
  let c1_i32_0 : BitVec 32 := 1#32
  let v3 : BitVec 32 := Scalar.subi v2 c1_i32_0
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_25 : BitVec 32 := 1#32
  let v64 : BitVec 32 := Scalar.subi v20 c1_i32_25
  let c16_i32 : BitVec 32 := 16#32
  let v112 : BitVec 32 := Scalar.muli v64 c16_i32
  let v113 : BitVec 32 := v112
  let v992 : BitVec 32 := Scalar.addi v113 c0_i32_322
  let v993 : Index := Scalar.indexCast v992
  let c0_323 : Index := 0#32
  ![25, v993.toNat, 0]
def k0_off97 (i : grid0.Coords) (c0_i32_324 : BitVec 32) : Fin 3 → Nat :=
  let c26 : Index := 26#32
  let arg1 : BitVec 32 := BitVec.ofNat 32 (i 1).val
  let c1_i32 : BitVec 32 := 1#32
  let v0 : BitVec 32 := Scalar.addi arg1 c1_i32
  let c256_i32 : BitVec 32 := 256#32
  let v1 : BitVec 32 := Scalar.muli v0 c256_i32
  let c512_i32 : BitVec 32 := 512#32
  let v2 : BitVec 32 := Scalar.addi v1 c512_i32
  let c1_i32_0 : BitVec 32 := 1#32
  let v3 : BitVec 32 := Scalar.subi v2 c1_i32_0
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_25 : BitVec 32 := 1#32
  let v64 : BitVec 32 := Scalar.subi v20 c1_i32_25
  let c16_i32 : BitVec 32 := 16#32
  let v112 : BitVec 32 := Scalar.muli v64 c16_i32
  let v113 : BitVec 32 := v112
  let v997 : BitVec 32 := Scalar.addi v113 c0_i32_324
  let v998 : Index := Scalar.indexCast v997
  let c0_325 : Index := 0#32
  ![26, v998.toNat, 0]
def k0_off98 (i : grid0.Coords) (c0_i32_326 : BitVec 32) : Fin 3 → Nat :=
  let c27 : Index := 27#32
  let arg1 : BitVec 32 := BitVec.ofNat 32 (i 1).val
  let c1_i32 : BitVec 32 := 1#32
  let v0 : BitVec 32 := Scalar.addi arg1 c1_i32
  let c256_i32 : BitVec 32 := 256#32
  let v1 : BitVec 32 := Scalar.muli v0 c256_i32
  let c512_i32 : BitVec 32 := 512#32
  let v2 : BitVec 32 := Scalar.addi v1 c512_i32
  let c1_i32_0 : BitVec 32 := 1#32
  let v3 : BitVec 32 := Scalar.subi v2 c1_i32_0
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_25 : BitVec 32 := 1#32
  let v64 : BitVec 32 := Scalar.subi v20 c1_i32_25
  let c16_i32 : BitVec 32 := 16#32
  let v112 : BitVec 32 := Scalar.muli v64 c16_i32
  let v113 : BitVec 32 := v112
  let v1002 : BitVec 32 := Scalar.addi v113 c0_i32_326
  let v1003 : Index := Scalar.indexCast v1002
  let c0_327 : Index := 0#32
  ![27, v1003.toNat, 0]
def k0_off99 (i : grid0.Coords) (c0_i32_328 : BitVec 32) : Fin 3 → Nat :=
  let c28 : Index := 28#32
  let arg1 : BitVec 32 := BitVec.ofNat 32 (i 1).val
  let c1_i32 : BitVec 32 := 1#32
  let v0 : BitVec 32 := Scalar.addi arg1 c1_i32
  let c256_i32 : BitVec 32 := 256#32
  let v1 : BitVec 32 := Scalar.muli v0 c256_i32
  let c512_i32 : BitVec 32 := 512#32
  let v2 : BitVec 32 := Scalar.addi v1 c512_i32
  let c1_i32_0 : BitVec 32 := 1#32
  let v3 : BitVec 32 := Scalar.subi v2 c1_i32_0
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_25 : BitVec 32 := 1#32
  let v64 : BitVec 32 := Scalar.subi v20 c1_i32_25
  let c16_i32 : BitVec 32 := 16#32
  let v112 : BitVec 32 := Scalar.muli v64 c16_i32
  let v113 : BitVec 32 := v112
  let v1007 : BitVec 32 := Scalar.addi v113 c0_i32_328
  let v1008 : Index := Scalar.indexCast v1007
  let c0_329 : Index := 0#32
  ![28, v1008.toNat, 0]
def k0_off100 (i : grid0.Coords) (c0_i32_330 : BitVec 32) : Fin 3 → Nat :=
  let c29 : Index := 29#32
  let arg1 : BitVec 32 := BitVec.ofNat 32 (i 1).val
  let c1_i32 : BitVec 32 := 1#32
  let v0 : BitVec 32 := Scalar.addi arg1 c1_i32
  let c256_i32 : BitVec 32 := 256#32
  let v1 : BitVec 32 := Scalar.muli v0 c256_i32
  let c512_i32 : BitVec 32 := 512#32
  let v2 : BitVec 32 := Scalar.addi v1 c512_i32
  let c1_i32_0 : BitVec 32 := 1#32
  let v3 : BitVec 32 := Scalar.subi v2 c1_i32_0
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_25 : BitVec 32 := 1#32
  let v64 : BitVec 32 := Scalar.subi v20 c1_i32_25
  let c16_i32 : BitVec 32 := 16#32
  let v112 : BitVec 32 := Scalar.muli v64 c16_i32
  let v113 : BitVec 32 := v112
  let v1012 : BitVec 32 := Scalar.addi v113 c0_i32_330
  let v1013 : Index := Scalar.indexCast v1012
  let c0_331 : Index := 0#32
  ![29, v1013.toNat, 0]
def k0_off101 (i : grid0.Coords) (c0_i32_332 : BitVec 32) : Fin 3 → Nat :=
  let c30 : Index := 30#32
  let arg1 : BitVec 32 := BitVec.ofNat 32 (i 1).val
  let c1_i32 : BitVec 32 := 1#32
  let v0 : BitVec 32 := Scalar.addi arg1 c1_i32
  let c256_i32 : BitVec 32 := 256#32
  let v1 : BitVec 32 := Scalar.muli v0 c256_i32
  let c512_i32 : BitVec 32 := 512#32
  let v2 : BitVec 32 := Scalar.addi v1 c512_i32
  let c1_i32_0 : BitVec 32 := 1#32
  let v3 : BitVec 32 := Scalar.subi v2 c1_i32_0
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_25 : BitVec 32 := 1#32
  let v64 : BitVec 32 := Scalar.subi v20 c1_i32_25
  let c16_i32 : BitVec 32 := 16#32
  let v112 : BitVec 32 := Scalar.muli v64 c16_i32
  let v113 : BitVec 32 := v112
  let v1017 : BitVec 32 := Scalar.addi v113 c0_i32_332
  let v1018 : Index := Scalar.indexCast v1017
  let c0_333 : Index := 0#32
  ![30, v1018.toNat, 0]
def k0_off102 (i : grid0.Coords) (c0_i32_334 : BitVec 32) : Fin 3 → Nat :=
  let c31 : Index := 31#32
  let arg1 : BitVec 32 := BitVec.ofNat 32 (i 1).val
  let c1_i32 : BitVec 32 := 1#32
  let v0 : BitVec 32 := Scalar.addi arg1 c1_i32
  let c256_i32 : BitVec 32 := 256#32
  let v1 : BitVec 32 := Scalar.muli v0 c256_i32
  let c512_i32 : BitVec 32 := 512#32
  let v2 : BitVec 32 := Scalar.addi v1 c512_i32
  let c1_i32_0 : BitVec 32 := 1#32
  let v3 : BitVec 32 := Scalar.subi v2 c1_i32_0
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_25 : BitVec 32 := 1#32
  let v64 : BitVec 32 := Scalar.subi v20 c1_i32_25
  let c16_i32 : BitVec 32 := 16#32
  let v112 : BitVec 32 := Scalar.muli v64 c16_i32
  let v113 : BitVec 32 := v112
  let v1022 : BitVec 32 := Scalar.addi v113 c0_i32_334
  let v1023 : Index := Scalar.indexCast v1022
  let c0_335 : Index := 0#32
  ![31, v1023.toNat, 0]
@[reducible] def k0_t3_loop : Scf.Loop 32 :=
  let c0_i32_677 : BitVec 32 := 0#32
  let c32_i32 : BitVec 32 := 32#32
  let v1949 : BitVec 32 := Scalar.addi c0_i32_677 c32_i32
  let c1_i32_678 : BitVec 32 := 1#32
  ⟨c0_i32_677, v1949, c1_i32_678⟩
def k0_off103 (k0_t3 : Fin k0_t3_loop.trips) : Fin 3 → Nat :=
  let c0_i32_677 : BitVec 32 := 0#32
  let c1_i32_678 : BitVec 32 := 1#32
  let arg15 : BitVec 32 := Scf.iv c0_i32_677 c1_i32_678 k0_t3
  let v2325 : Index := Scalar.indexCast arg15
  let c0_789 : Index := 0#32
  let c0_790 : Index := 0#32
  ![v2325.toNat, 0, 0]
def k0_mult7 (i : grid0.Coords) : BitVec 32 :=
  let c0_i32_726 : BitVec 32 := 0#32
  let arg1 : BitVec 32 := BitVec.ofNat 32 (i 1).val
  let c1_i32 : BitVec 32 := 1#32
  let v0 : BitVec 32 := Scalar.addi arg1 c1_i32
  let c256_i32 : BitVec 32 := 256#32
  let v1 : BitVec 32 := Scalar.muli v0 c256_i32
  let c512_i32 : BitVec 32 := 512#32
  let v2 : BitVec 32 := Scalar.addi v1 c512_i32
  let c1_i32_0 : BitVec 32 := 1#32
  let v3 : BitVec 32 := Scalar.subi v2 c1_i32_0
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_725 : BitVec 32 := 1#32
  let v2169 : BitVec 32 := Scalar.subi v20 c1_i32_725
  let v2170 : BitVec 32 := Scalar.minsi c0_i32_726 v2169
  let c512_i32_727 : BitVec 32 := 512#32
  let v2171 : BitVec 32 := Scalar.muli v2170 c512_i32_727
  v2171
def k0_off104 (i : grid0.Coords) : Fin 3 → Nat :=
  let c0_i32_726 : BitVec 32 := 0#32
  let arg1 : BitVec 32 := BitVec.ofNat 32 (i 1).val
  let c1_i32 : BitVec 32 := 1#32
  let v0 : BitVec 32 := Scalar.addi arg1 c1_i32
  let c256_i32 : BitVec 32 := 256#32
  let v1 : BitVec 32 := Scalar.muli v0 c256_i32
  let c512_i32 : BitVec 32 := 512#32
  let v2 : BitVec 32 := Scalar.addi v1 c512_i32
  let c1_i32_0 : BitVec 32 := 1#32
  let v3 : BitVec 32 := Scalar.subi v2 c1_i32_0
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_725 : BitVec 32 := 1#32
  let v2169 : BitVec 32 := Scalar.subi v20 c1_i32_725
  let v2170 : BitVec 32 := Scalar.minsi c0_i32_726 v2169
  let v2173 : Index := Scalar.indexCast v2170
  let c0_728 : Index := 0#32
  let c0_729 : Index := 0#32
  ![v2173.toNat, 0, 0]
def k0_off105 (i : grid0.Coords) : Fin 2 → Nat :=
  let c0_i32_726 : BitVec 32 := 0#32
  let arg1 : BitVec 32 := BitVec.ofNat 32 (i 1).val
  let c1_i32 : BitVec 32 := 1#32
  let v0 : BitVec 32 := Scalar.addi arg1 c1_i32
  let c256_i32 : BitVec 32 := 256#32
  let v1 : BitVec 32 := Scalar.muli v0 c256_i32
  let c512_i32 : BitVec 32 := 512#32
  let v2 : BitVec 32 := Scalar.addi v1 c512_i32
  let c1_i32_0 : BitVec 32 := 1#32
  let v3 : BitVec 32 := Scalar.subi v2 c1_i32_0
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_725 : BitVec 32 := 1#32
  let v2169 : BitVec 32 := Scalar.subi v20 c1_i32_725
  let v2170 : BitVec 32 := Scalar.minsi c0_i32_726 v2169
  let c512_i32_727 : BitVec 32 := 512#32
  let v2171 : BitVec 32 := Scalar.muli v2170 c512_i32_727
  let v2172 : BitVec 32 := v2171
  let v2192 : Index := Scalar.indexCast v2172
  let c0_734 : Index := 0#32
  ![v2192.toNat, 0]
@[reducible] def k0_t4_loop (i : grid0.Coords) : Scf.Loop 32 :=
  let c0_i32_760 : BitVec 32 := 0#32
  let arg1 : BitVec 32 := BitVec.ofNat 32 (i 1).val
  let c1_i32 : BitVec 32 := 1#32
  let v0 : BitVec 32 := Scalar.addi arg1 c1_i32
  let c256_i32 : BitVec 32 := 256#32
  let v1 : BitVec 32 := Scalar.muli v0 c256_i32
  let c512_i32 : BitVec 32 := 512#32
  let v2 : BitVec 32 := Scalar.addi v1 c512_i32
  let c1_i32_0 : BitVec 32 := 1#32
  let v3 : BitVec 32 := Scalar.subi v2 c1_i32_0
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c0_i32_753 : BitVec 32 := 0#32
  let v2231 : BitVec 1 := Scalar.cmpi .sgt v20 c0_i32_753
  let v2232 : BitVec 32 := Scalar.extui v2231
  let c0_i32_754 : BitVec 32 := 0#32
  let v2233 : BitVec 1 := Scalar.cmpi .slt v20 c0_i32_754
  let v2234 : BitVec 32 := Scalar.extui v2233
  let v2235 : BitVec 32 := Scalar.subi v2232 v2234
  let c2_i32_752 : BitVec 32 := 2#32
  let c0_i32_755 : BitVec 32 := 0#32
  let v2236 : BitVec 1 := Scalar.cmpi .sgt c2_i32_752 c0_i32_755
  let v2237 : BitVec 32 := Scalar.extui v2236
  let c0_i32_756 : BitVec 32 := 0#32
  let v2238 : BitVec 1 := Scalar.cmpi .slt c2_i32_752 c0_i32_756
  let v2239 : BitVec 32 := Scalar.extui v2238
  let v2240 : BitVec 32 := Scalar.subi v2237 v2239
  let v2241 : BitVec 1 := Scalar.cmpi .ne v2235 v2240
  let v2242 : BitVec 32 := Scalar.remsi v20 c2_i32_752
  let c0_i32_757 : BitVec 32 := 0#32
  let v2243 : BitVec 1 := Scalar.cmpi .ne v2242 c0_i32_757
  let v2244 : BitVec 1 := Scalar.andi v2241 v2243
  let v2230 : BitVec 32 := Scalar.divsi v20 c2_i32_752
  let c1_i32_758 : BitVec 32 := 1#32
  let v2245 : BitVec 32 := Scalar.subi v2230 c1_i32_758
  let v2246 : BitVec 32 := Scalar.select v2244 v2245 v2230
  let v2247 : BitVec 32 := Scalar.subi v2246 c0_i32_760
  let c1_i32_761 : BitVec 32 := 1#32
  let v2249 : BitVec 32 := Scalar.divsi v2247 c1_i32_761
  let v2250 : BitVec 32 := Scalar.muli v2249 c1_i32_761
  let v2251 : BitVec 32 := Scalar.addi c0_i32_760 v2250
  let c1_i32_762 : BitVec 32 := 1#32
  ⟨c0_i32_760, v2251, c1_i32_762⟩
def k0_mult8 (i : grid0.Coords) (k0_t4 : Fin (k0_t4_loop i).trips) : BitVec 32 :=
  let c2_i32_789 : BitVec 32 := 2#32
  let c0_i32_760 : BitVec 32 := 0#32
  let c1_i32_762 : BitVec 32 := 1#32
  let arg15 : BitVec 32 := Scf.iv c0_i32_760 c1_i32_762 k0_t4
  let v2325 : BitVec 32 := Scalar.muli c2_i32_789 arg15
  let c1_i32_790 : BitVec 32 := 1#32
  let v2326 : BitVec 32 := Scalar.addi v2325 c1_i32_790
  let arg1 : BitVec 32 := BitVec.ofNat 32 (i 1).val
  let c1_i32 : BitVec 32 := 1#32
  let v0 : BitVec 32 := Scalar.addi arg1 c1_i32
  let c256_i32 : BitVec 32 := 256#32
  let v1 : BitVec 32 := Scalar.muli v0 c256_i32
  let c512_i32 : BitVec 32 := 512#32
  let v2 : BitVec 32 := Scalar.addi v1 c512_i32
  let c1_i32_0 : BitVec 32 := 1#32
  let v3 : BitVec 32 := Scalar.subi v2 c1_i32_0
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_791 : BitVec 32 := 1#32
  let v2327 : BitVec 32 := Scalar.subi v20 c1_i32_791
  let v2328 : BitVec 32 := Scalar.minsi v2326 v2327
  let c512_i32_792 : BitVec 32 := 512#32
  let v2329 : BitVec 32 := Scalar.muli v2328 c512_i32_792
  v2329
def k0_off106 (i : grid0.Coords) (k0_t4 : Fin (k0_t4_loop i).trips) : Fin 3 → Nat :=
  let c2_i32_789 : BitVec 32 := 2#32
  let c0_i32_760 : BitVec 32 := 0#32
  let c1_i32_762 : BitVec 32 := 1#32
  let arg15 : BitVec 32 := Scf.iv c0_i32_760 c1_i32_762 k0_t4
  let v2325 : BitVec 32 := Scalar.muli c2_i32_789 arg15
  let c1_i32_790 : BitVec 32 := 1#32
  let v2326 : BitVec 32 := Scalar.addi v2325 c1_i32_790
  let arg1 : BitVec 32 := BitVec.ofNat 32 (i 1).val
  let c1_i32 : BitVec 32 := 1#32
  let v0 : BitVec 32 := Scalar.addi arg1 c1_i32
  let c256_i32 : BitVec 32 := 256#32
  let v1 : BitVec 32 := Scalar.muli v0 c256_i32
  let c512_i32 : BitVec 32 := 512#32
  let v2 : BitVec 32 := Scalar.addi v1 c512_i32
  let c1_i32_0 : BitVec 32 := 1#32
  let v3 : BitVec 32 := Scalar.subi v2 c1_i32_0
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_791 : BitVec 32 := 1#32
  let v2327 : BitVec 32 := Scalar.subi v20 c1_i32_791
  let v2328 : BitVec 32 := Scalar.minsi v2326 v2327
  let v2331 : Index := Scalar.indexCast v2328
  let c0_793 : Index := 0#32
  let c0_794 : Index := 0#32
  ![v2331.toNat, 0, 0]
def k0_off107 (i : grid0.Coords) (k0_t4 : Fin (k0_t4_loop i).trips) : Fin 2 → Nat :=
  let c2_i32_789 : BitVec 32 := 2#32
  let c0_i32_760 : BitVec 32 := 0#32
  let c1_i32_762 : BitVec 32 := 1#32
  let arg15 : BitVec 32 := Scf.iv c0_i32_760 c1_i32_762 k0_t4
  let v2325 : BitVec 32 := Scalar.muli c2_i32_789 arg15
  let c1_i32_790 : BitVec 32 := 1#32
  let v2326 : BitVec 32 := Scalar.addi v2325 c1_i32_790
  let arg1 : BitVec 32 := BitVec.ofNat 32 (i 1).val
  let c1_i32 : BitVec 32 := 1#32
  let v0 : BitVec 32 := Scalar.addi arg1 c1_i32
  let c256_i32 : BitVec 32 := 256#32
  let v1 : BitVec 32 := Scalar.muli v0 c256_i32
  let c512_i32 : BitVec 32 := 512#32
  let v2 : BitVec 32 := Scalar.addi v1 c512_i32
  let c1_i32_0 : BitVec 32 := 1#32
  let v3 : BitVec 32 := Scalar.subi v2 c1_i32_0
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_791 : BitVec 32 := 1#32
  let v2327 : BitVec 32 := Scalar.subi v20 c1_i32_791
  let v2328 : BitVec 32 := Scalar.minsi v2326 v2327
  let c512_i32_792 : BitVec 32 := 512#32
  let v2329 : BitVec 32 := Scalar.muli v2328 c512_i32_792
  let v2330 : BitVec 32 := v2329
  let v2350 : Index := Scalar.indexCast v2330
  let c0_799 : Index := 0#32
  ![v2350.toNat, 0]
def k0_off108 (i : grid0.Coords) (k0_t4 : Fin (k0_t4_loop i).trips) : Fin 3 → Nat :=
  let c2_i32_789 : BitVec 32 := 2#32
  let c0_i32_760 : BitVec 32 := 0#32
  let c1_i32_762 : BitVec 32 := 1#32
  let arg15 : BitVec 32 := Scf.iv c0_i32_760 c1_i32_762 k0_t4
  let v2325 : BitVec 32 := Scalar.muli c2_i32_789 arg15
  let v2356 : Index := Scalar.indexCast v2325
  let c0_800 : Index := 0#32
  let c0_801 : Index := 0#32
  ![v2356.toNat, 0, 0]
def k0_mult9 (i : grid0.Coords) (k0_t4 : Fin (k0_t4_loop i).trips) : BitVec 32 :=
  let c2_i32_922 : BitVec 32 := 2#32
  let c0_i32_760 : BitVec 32 := 0#32
  let c1_i32_762 : BitVec 32 := 1#32
  let arg15 : BitVec 32 := Scf.iv c0_i32_760 c1_i32_762 k0_t4
  let v2568 : BitVec 32 := Scalar.muli c2_i32_922 arg15
  let c1_i32_923 : BitVec 32 := 1#32
  let v2569 : BitVec 32 := Scalar.addi v2568 c1_i32_923
  let c1_i32_924 : BitVec 32 := 1#32
  let v2570 : BitVec 32 := Scalar.addi v2569 c1_i32_924
  let arg1 : BitVec 32 := BitVec.ofNat 32 (i 1).val
  let c1_i32 : BitVec 32 := 1#32
  let v0 : BitVec 32 := Scalar.addi arg1 c1_i32
  let c256_i32 : BitVec 32 := 256#32
  let v1 : BitVec 32 := Scalar.muli v0 c256_i32
  let c512_i32 : BitVec 32 := 512#32
  let v2 : BitVec 32 := Scalar.addi v1 c512_i32
  let c1_i32_0 : BitVec 32 := 1#32
  let v3 : BitVec 32 := Scalar.subi v2 c1_i32_0
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_925 : BitVec 32 := 1#32
  let v2571 : BitVec 32 := Scalar.subi v20 c1_i32_925
  let v2572 : BitVec 32 := Scalar.minsi v2570 v2571
  let c512_i32_926 : BitVec 32 := 512#32
  let v2573 : BitVec 32 := Scalar.muli v2572 c512_i32_926
  v2573
def k0_off109 (i : grid0.Coords) (k0_t4 : Fin (k0_t4_loop i).trips) : Fin 3 → Nat :=
  let c2_i32_922 : BitVec 32 := 2#32
  let c0_i32_760 : BitVec 32 := 0#32
  let c1_i32_762 : BitVec 32 := 1#32
  let arg15 : BitVec 32 := Scf.iv c0_i32_760 c1_i32_762 k0_t4
  let v2568 : BitVec 32 := Scalar.muli c2_i32_922 arg15
  let c1_i32_923 : BitVec 32 := 1#32
  let v2569 : BitVec 32 := Scalar.addi v2568 c1_i32_923
  let c1_i32_924 : BitVec 32 := 1#32
  let v2570 : BitVec 32 := Scalar.addi v2569 c1_i32_924
  let arg1 : BitVec 32 := BitVec.ofNat 32 (i 1).val
  let c1_i32 : BitVec 32 := 1#32
  let v0 : BitVec 32 := Scalar.addi arg1 c1_i32
  let c256_i32 : BitVec 32 := 256#32
  let v1 : BitVec 32 := Scalar.muli v0 c256_i32
  let c512_i32 : BitVec 32 := 512#32
  let v2 : BitVec 32 := Scalar.addi v1 c512_i32
  let c1_i32_0 : BitVec 32 := 1#32
  let v3 : BitVec 32 := Scalar.subi v2 c1_i32_0
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_925 : BitVec 32 := 1#32
  let v2571 : BitVec 32 := Scalar.subi v20 c1_i32_925
  let v2572 : BitVec 32 := Scalar.minsi v2570 v2571
  let v2575 : Index := Scalar.indexCast v2572
  let c0_927 : Index := 0#32
  let c0_928 : Index := 0#32
  ![v2575.toNat, 0, 0]
def k0_off110 (i : grid0.Coords) (k0_t4 : Fin (k0_t4_loop i).trips) : Fin 2 → Nat :=
  let c2_i32_922 : BitVec 32 := 2#32
  let c0_i32_760 : BitVec 32 := 0#32
  let c1_i32_762 : BitVec 32 := 1#32
  let arg15 : BitVec 32 := Scf.iv c0_i32_760 c1_i32_762 k0_t4
  let v2568 : BitVec 32 := Scalar.muli c2_i32_922 arg15
  let c1_i32_923 : BitVec 32 := 1#32
  let v2569 : BitVec 32 := Scalar.addi v2568 c1_i32_923
  let c1_i32_924 : BitVec 32 := 1#32
  let v2570 : BitVec 32 := Scalar.addi v2569 c1_i32_924
  let arg1 : BitVec 32 := BitVec.ofNat 32 (i 1).val
  let c1_i32 : BitVec 32 := 1#32
  let v0 : BitVec 32 := Scalar.addi arg1 c1_i32
  let c256_i32 : BitVec 32 := 256#32
  let v1 : BitVec 32 := Scalar.muli v0 c256_i32
  let c512_i32 : BitVec 32 := 512#32
  let v2 : BitVec 32 := Scalar.addi v1 c512_i32
  let c1_i32_0 : BitVec 32 := 1#32
  let v3 : BitVec 32 := Scalar.subi v2 c1_i32_0
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_925 : BitVec 32 := 1#32
  let v2571 : BitVec 32 := Scalar.subi v20 c1_i32_925
  let v2572 : BitVec 32 := Scalar.minsi v2570 v2571
  let c512_i32_926 : BitVec 32 := 512#32
  let v2573 : BitVec 32 := Scalar.muli v2572 c512_i32_926
  let v2574 : BitVec 32 := v2573
  let v2594 : Index := Scalar.indexCast v2574
  let c0_933 : Index := 0#32
  ![v2594.toNat, 0]
def k0_off111 (i : grid0.Coords) (k0_t4 : Fin (k0_t4_loop i).trips) : Fin 3 → Nat :=
  let c2_i32_922 : BitVec 32 := 2#32
  let c0_i32_760 : BitVec 32 := 0#32
  let c1_i32_762 : BitVec 32 := 1#32
  let arg15 : BitVec 32 := Scf.iv c0_i32_760 c1_i32_762 k0_t4
  let v2568 : BitVec 32 := Scalar.muli c2_i32_922 arg15
  let c1_i32_923 : BitVec 32 := 1#32
  let v2569 : BitVec 32 := Scalar.addi v2568 c1_i32_923
  let v2600 : Index := Scalar.indexCast v2569
  let c0_934 : Index := 0#32
  let c0_935 : Index := 0#32
  ![v2600.toNat, 0, 0]
@[reducible] def k0_t5_loop (i : grid0.Coords) : Scf.Loop 32 :=
  let c0_i32_760 : BitVec 32 := 0#32
  let arg1 : BitVec 32 := BitVec.ofNat 32 (i 1).val
  let c1_i32 : BitVec 32 := 1#32
  let v0 : BitVec 32 := Scalar.addi arg1 c1_i32
  let c256_i32 : BitVec 32 := 256#32
  let v1 : BitVec 32 := Scalar.muli v0 c256_i32
  let c512_i32 : BitVec 32 := 512#32
  let v2 : BitVec 32 := Scalar.addi v1 c512_i32
  let c1_i32_0 : BitVec 32 := 1#32
  let v3 : BitVec 32 := Scalar.subi v2 c1_i32_0
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c0_i32_753 : BitVec 32 := 0#32
  let v2231 : BitVec 1 := Scalar.cmpi .sgt v20 c0_i32_753
  let v2232 : BitVec 32 := Scalar.extui v2231
  let c0_i32_754 : BitVec 32 := 0#32
  let v2233 : BitVec 1 := Scalar.cmpi .slt v20 c0_i32_754
  let v2234 : BitVec 32 := Scalar.extui v2233
  let v2235 : BitVec 32 := Scalar.subi v2232 v2234
  let c2_i32_752 : BitVec 32 := 2#32
  let c0_i32_755 : BitVec 32 := 0#32
  let v2236 : BitVec 1 := Scalar.cmpi .sgt c2_i32_752 c0_i32_755
  let v2237 : BitVec 32 := Scalar.extui v2236
  let c0_i32_756 : BitVec 32 := 0#32
  let v2238 : BitVec 1 := Scalar.cmpi .slt c2_i32_752 c0_i32_756
  let v2239 : BitVec 32 := Scalar.extui v2238
  let v2240 : BitVec 32 := Scalar.subi v2237 v2239
  let v2241 : BitVec 1 := Scalar.cmpi .ne v2235 v2240
  let v2242 : BitVec 32 := Scalar.remsi v20 c2_i32_752
  let c0_i32_757 : BitVec 32 := 0#32
  let v2243 : BitVec 1 := Scalar.cmpi .ne v2242 c0_i32_757
  let v2244 : BitVec 1 := Scalar.andi v2241 v2243
  let v2230 : BitVec 32 := Scalar.divsi v20 c2_i32_752
  let c1_i32_758 : BitVec 32 := 1#32
  let v2245 : BitVec 32 := Scalar.subi v2230 c1_i32_758
  let v2246 : BitVec 32 := Scalar.select v2244 v2245 v2230
  let v2247 : BitVec 32 := Scalar.subi v2246 c0_i32_760
  let c1_i32_761 : BitVec 32 := 1#32
  let v2249 : BitVec 32 := Scalar.divsi v2247 c1_i32_761
  let v2250 : BitVec 32 := Scalar.muli v2249 c1_i32_761
  let v2251 : BitVec 32 := Scalar.addi c0_i32_760 v2250
  let v2248 : BitVec 32 := Scalar.addi c0_i32_760 v2247
  let c1_i32_763 : BitVec 32 := 1#32
  ⟨v2251, v2248, c1_i32_763⟩
def k0_mult10 (i : grid0.Coords) (k0_t5 : Fin (k0_t5_loop i).trips) : BitVec 32 :=
  let c2_i32_789 : BitVec 32 := 2#32
  let c0_i32_760 : BitVec 32 := 0#32
  let arg1 : BitVec 32 := BitVec.ofNat 32 (i 1).val
  let c1_i32 : BitVec 32 := 1#32
  let v0 : BitVec 32 := Scalar.addi arg1 c1_i32
  let c256_i32 : BitVec 32 := 256#32
  let v1 : BitVec 32 := Scalar.muli v0 c256_i32
  let c512_i32 : BitVec 32 := 512#32
  let v2 : BitVec 32 := Scalar.addi v1 c512_i32
  let c1_i32_0 : BitVec 32 := 1#32
  let v3 : BitVec 32 := Scalar.subi v2 c1_i32_0
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c0_i32_753 : BitVec 32 := 0#32
  let v2231 : BitVec 1 := Scalar.cmpi .sgt v20 c0_i32_753
  let v2232 : BitVec 32 := Scalar.extui v2231
  let c0_i32_754 : BitVec 32 := 0#32
  let v2233 : BitVec 1 := Scalar.cmpi .slt v20 c0_i32_754
  let v2234 : BitVec 32 := Scalar.extui v2233
  let v2235 : BitVec 32 := Scalar.subi v2232 v2234
  let c2_i32_752 : BitVec 32 := 2#32
  let c0_i32_755 : BitVec 32 := 0#32
  let v2236 : BitVec 1 := Scalar.cmpi .sgt c2_i32_752 c0_i32_755
  let v2237 : BitVec 32 := Scalar.extui v2236
  let c0_i32_756 : BitVec 32 := 0#32
  let v2238 : BitVec 1 := Scalar.cmpi .slt c2_i32_752 c0_i32_756
  let v2239 : BitVec 32 := Scalar.extui v2238
  let v2240 : BitVec 32 := Scalar.subi v2237 v2239
  let v2241 : BitVec 1 := Scalar.cmpi .ne v2235 v2240
  let v2242 : BitVec 32 := Scalar.remsi v20 c2_i32_752
  let c0_i32_757 : BitVec 32 := 0#32
  let v2243 : BitVec 1 := Scalar.cmpi .ne v2242 c0_i32_757
  let v2244 : BitVec 1 := Scalar.andi v2241 v2243
  let v2230 : BitVec 32 := Scalar.divsi v20 c2_i32_752
  let c1_i32_758 : BitVec 32 := 1#32
  let v2245 : BitVec 32 := Scalar.subi v2230 c1_i32_758
  let v2246 : BitVec 32 := Scalar.select v2244 v2245 v2230
  let v2247 : BitVec 32 := Scalar.subi v2246 c0_i32_760
  let c1_i32_761 : BitVec 32 := 1#32
  let v2249 : BitVec 32 := Scalar.divsi v2247 c1_i32_761
  let v2250 : BitVec 32 := Scalar.muli v2249 c1_i32_761
  let v2251 : BitVec 32 := Scalar.addi c0_i32_760 v2250
  let c1_i32_763 : BitVec 32 := 1#32
  let arg15 : BitVec 32 := Scf.iv v2251 c1_i32_763 k0_t5
  let v2325 : BitVec 32 := Scalar.muli c2_i32_789 arg15
  let c1_i32_790 : BitVec 32 := 1#32
  let v2326 : BitVec 32 := Scalar.addi v2325 c1_i32_790
  let c1_i32_791 : BitVec 32 := 1#32
  let v2327 : BitVec 32 := Scalar.subi v20 c1_i32_791
  let v2328 : BitVec 32 := Scalar.minsi v2326 v2327
  let c512_i32_792 : BitVec 32 := 512#32
  let v2329 : BitVec 32 := Scalar.muli v2328 c512_i32_792
  v2329
def k0_off112 (i : grid0.Coords) (k0_t5 : Fin (k0_t5_loop i).trips) : Fin 3 → Nat :=
  let c2_i32_789 : BitVec 32 := 2#32
  let c0_i32_760 : BitVec 32 := 0#32
  let arg1 : BitVec 32 := BitVec.ofNat 32 (i 1).val
  let c1_i32 : BitVec 32 := 1#32
  let v0 : BitVec 32 := Scalar.addi arg1 c1_i32
  let c256_i32 : BitVec 32 := 256#32
  let v1 : BitVec 32 := Scalar.muli v0 c256_i32
  let c512_i32 : BitVec 32 := 512#32
  let v2 : BitVec 32 := Scalar.addi v1 c512_i32
  let c1_i32_0 : BitVec 32 := 1#32
  let v3 : BitVec 32 := Scalar.subi v2 c1_i32_0
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c0_i32_753 : BitVec 32 := 0#32
  let v2231 : BitVec 1 := Scalar.cmpi .sgt v20 c0_i32_753
  let v2232 : BitVec 32 := Scalar.extui v2231
  let c0_i32_754 : BitVec 32 := 0#32
  let v2233 : BitVec 1 := Scalar.cmpi .slt v20 c0_i32_754
  let v2234 : BitVec 32 := Scalar.extui v2233
  let v2235 : BitVec 32 := Scalar.subi v2232 v2234
  let c2_i32_752 : BitVec 32 := 2#32
  let c0_i32_755 : BitVec 32 := 0#32
  let v2236 : BitVec 1 := Scalar.cmpi .sgt c2_i32_752 c0_i32_755
  let v2237 : BitVec 32 := Scalar.extui v2236
  let c0_i32_756 : BitVec 32 := 0#32
  let v2238 : BitVec 1 := Scalar.cmpi .slt c2_i32_752 c0_i32_756
  let v2239 : BitVec 32 := Scalar.extui v2238
  let v2240 : BitVec 32 := Scalar.subi v2237 v2239
  let v2241 : BitVec 1 := Scalar.cmpi .ne v2235 v2240
  let v2242 : BitVec 32 := Scalar.remsi v20 c2_i32_752
  let c0_i32_757 : BitVec 32 := 0#32
  let v2243 : BitVec 1 := Scalar.cmpi .ne v2242 c0_i32_757
  let v2244 : BitVec 1 := Scalar.andi v2241 v2243
  let v2230 : BitVec 32 := Scalar.divsi v20 c2_i32_752
  let c1_i32_758 : BitVec 32 := 1#32
  let v2245 : BitVec 32 := Scalar.subi v2230 c1_i32_758
  let v2246 : BitVec 32 := Scalar.select v2244 v2245 v2230
  let v2247 : BitVec 32 := Scalar.subi v2246 c0_i32_760
  let c1_i32_761 : BitVec 32 := 1#32
  let v2249 : BitVec 32 := Scalar.divsi v2247 c1_i32_761
  let v2250 : BitVec 32 := Scalar.muli v2249 c1_i32_761
  let v2251 : BitVec 32 := Scalar.addi c0_i32_760 v2250
  let c1_i32_763 : BitVec 32 := 1#32
  let arg15 : BitVec 32 := Scf.iv v2251 c1_i32_763 k0_t5
  let v2325 : BitVec 32 := Scalar.muli c2_i32_789 arg15
  let c1_i32_790 : BitVec 32 := 1#32
  let v2326 : BitVec 32 := Scalar.addi v2325 c1_i32_790
  let c1_i32_791 : BitVec 32 := 1#32
  let v2327 : BitVec 32 := Scalar.subi v20 c1_i32_791
  let v2328 : BitVec 32 := Scalar.minsi v2326 v2327
  let v2331 : Index := Scalar.indexCast v2328
  let c0_793 : Index := 0#32
  let c0_794 : Index := 0#32
  ![v2331.toNat, 0, 0]
def k0_off113 (i : grid0.Coords) (k0_t5 : Fin (k0_t5_loop i).trips) : Fin 2 → Nat :=
  let c2_i32_789 : BitVec 32 := 2#32
  let c0_i32_760 : BitVec 32 := 0#32
  let arg1 : BitVec 32 := BitVec.ofNat 32 (i 1).val
  let c1_i32 : BitVec 32 := 1#32
  let v0 : BitVec 32 := Scalar.addi arg1 c1_i32
  let c256_i32 : BitVec 32 := 256#32
  let v1 : BitVec 32 := Scalar.muli v0 c256_i32
  let c512_i32 : BitVec 32 := 512#32
  let v2 : BitVec 32 := Scalar.addi v1 c512_i32
  let c1_i32_0 : BitVec 32 := 1#32
  let v3 : BitVec 32 := Scalar.subi v2 c1_i32_0
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c0_i32_753 : BitVec 32 := 0#32
  let v2231 : BitVec 1 := Scalar.cmpi .sgt v20 c0_i32_753
  let v2232 : BitVec 32 := Scalar.extui v2231
  let c0_i32_754 : BitVec 32 := 0#32
  let v2233 : BitVec 1 := Scalar.cmpi .slt v20 c0_i32_754
  let v2234 : BitVec 32 := Scalar.extui v2233
  let v2235 : BitVec 32 := Scalar.subi v2232 v2234
  let c2_i32_752 : BitVec 32 := 2#32
  let c0_i32_755 : BitVec 32 := 0#32
  let v2236 : BitVec 1 := Scalar.cmpi .sgt c2_i32_752 c0_i32_755
  let v2237 : BitVec 32 := Scalar.extui v2236
  let c0_i32_756 : BitVec 32 := 0#32
  let v2238 : BitVec 1 := Scalar.cmpi .slt c2_i32_752 c0_i32_756
  let v2239 : BitVec 32 := Scalar.extui v2238
  let v2240 : BitVec 32 := Scalar.subi v2237 v2239
  let v2241 : BitVec 1 := Scalar.cmpi .ne v2235 v2240
  let v2242 : BitVec 32 := Scalar.remsi v20 c2_i32_752
  let c0_i32_757 : BitVec 32 := 0#32
  let v2243 : BitVec 1 := Scalar.cmpi .ne v2242 c0_i32_757
  let v2244 : BitVec 1 := Scalar.andi v2241 v2243
  let v2230 : BitVec 32 := Scalar.divsi v20 c2_i32_752
  let c1_i32_758 : BitVec 32 := 1#32
  let v2245 : BitVec 32 := Scalar.subi v2230 c1_i32_758
  let v2246 : BitVec 32 := Scalar.select v2244 v2245 v2230
  let v2247 : BitVec 32 := Scalar.subi v2246 c0_i32_760
  let c1_i32_761 : BitVec 32 := 1#32
  let v2249 : BitVec 32 := Scalar.divsi v2247 c1_i32_761
  let v2250 : BitVec 32 := Scalar.muli v2249 c1_i32_761
  let v2251 : BitVec 32 := Scalar.addi c0_i32_760 v2250
  let c1_i32_763 : BitVec 32 := 1#32
  let arg15 : BitVec 32 := Scf.iv v2251 c1_i32_763 k0_t5
  let v2325 : BitVec 32 := Scalar.muli c2_i32_789 arg15
  let c1_i32_790 : BitVec 32 := 1#32
  let v2326 : BitVec 32 := Scalar.addi v2325 c1_i32_790
  let c1_i32_791 : BitVec 32 := 1#32
  let v2327 : BitVec 32 := Scalar.subi v20 c1_i32_791
  let v2328 : BitVec 32 := Scalar.minsi v2326 v2327
  let c512_i32_792 : BitVec 32 := 512#32
  let v2329 : BitVec 32 := Scalar.muli v2328 c512_i32_792
  let v2330 : BitVec 32 := v2329
  let v2350 : Index := Scalar.indexCast v2330
  let c0_799 : Index := 0#32
  ![v2350.toNat, 0]
def k0_off114 (i : grid0.Coords) (k0_t5 : Fin (k0_t5_loop i).trips) : Fin 3 → Nat :=
  let c2_i32_789 : BitVec 32 := 2#32
  let c0_i32_760 : BitVec 32 := 0#32
  let arg1 : BitVec 32 := BitVec.ofNat 32 (i 1).val
  let c1_i32 : BitVec 32 := 1#32
  let v0 : BitVec 32 := Scalar.addi arg1 c1_i32
  let c256_i32 : BitVec 32 := 256#32
  let v1 : BitVec 32 := Scalar.muli v0 c256_i32
  let c512_i32 : BitVec 32 := 512#32
  let v2 : BitVec 32 := Scalar.addi v1 c512_i32
  let c1_i32_0 : BitVec 32 := 1#32
  let v3 : BitVec 32 := Scalar.subi v2 c1_i32_0
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c0_i32_753 : BitVec 32 := 0#32
  let v2231 : BitVec 1 := Scalar.cmpi .sgt v20 c0_i32_753
  let v2232 : BitVec 32 := Scalar.extui v2231
  let c0_i32_754 : BitVec 32 := 0#32
  let v2233 : BitVec 1 := Scalar.cmpi .slt v20 c0_i32_754
  let v2234 : BitVec 32 := Scalar.extui v2233
  let v2235 : BitVec 32 := Scalar.subi v2232 v2234
  let c2_i32_752 : BitVec 32 := 2#32
  let c0_i32_755 : BitVec 32 := 0#32
  let v2236 : BitVec 1 := Scalar.cmpi .sgt c2_i32_752 c0_i32_755
  let v2237 : BitVec 32 := Scalar.extui v2236
  let c0_i32_756 : BitVec 32 := 0#32
  let v2238 : BitVec 1 := Scalar.cmpi .slt c2_i32_752 c0_i32_756
  let v2239 : BitVec 32 := Scalar.extui v2238
  let v2240 : BitVec 32 := Scalar.subi v2237 v2239
  let v2241 : BitVec 1 := Scalar.cmpi .ne v2235 v2240
  let v2242 : BitVec 32 := Scalar.remsi v20 c2_i32_752
  let c0_i32_757 : BitVec 32 := 0#32
  let v2243 : BitVec 1 := Scalar.cmpi .ne v2242 c0_i32_757
  let v2244 : BitVec 1 := Scalar.andi v2241 v2243
  let v2230 : BitVec 32 := Scalar.divsi v20 c2_i32_752
  let c1_i32_758 : BitVec 32 := 1#32
  let v2245 : BitVec 32 := Scalar.subi v2230 c1_i32_758
  let v2246 : BitVec 32 := Scalar.select v2244 v2245 v2230
  let v2247 : BitVec 32 := Scalar.subi v2246 c0_i32_760
  let c1_i32_761 : BitVec 32 := 1#32
  let v2249 : BitVec 32 := Scalar.divsi v2247 c1_i32_761
  let v2250 : BitVec 32 := Scalar.muli v2249 c1_i32_761
  let v2251 : BitVec 32 := Scalar.addi c0_i32_760 v2250
  let c1_i32_763 : BitVec 32 := 1#32
  let arg15 : BitVec 32 := Scf.iv v2251 c1_i32_763 k0_t5
  let v2325 : BitVec 32 := Scalar.muli c2_i32_789 arg15
  let v2356 : Index := Scalar.indexCast v2325
  let c0_800 : Index := 0#32
  let c0_801 : Index := 0#32
  ![v2356.toNat, 0, 0]
def k0_mult11 (i : grid0.Coords) (k0_t5 : Fin (k0_t5_loop i).trips) : BitVec 32 :=
  let c2_i32_922 : BitVec 32 := 2#32
  let c0_i32_760 : BitVec 32 := 0#32
  let arg1 : BitVec 32 := BitVec.ofNat 32 (i 1).val
  let c1_i32 : BitVec 32 := 1#32
  let v0 : BitVec 32 := Scalar.addi arg1 c1_i32
  let c256_i32 : BitVec 32 := 256#32
  let v1 : BitVec 32 := Scalar.muli v0 c256_i32
  let c512_i32 : BitVec 32 := 512#32
  let v2 : BitVec 32 := Scalar.addi v1 c512_i32
  let c1_i32_0 : BitVec 32 := 1#32
  let v3 : BitVec 32 := Scalar.subi v2 c1_i32_0
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c0_i32_753 : BitVec 32 := 0#32
  let v2231 : BitVec 1 := Scalar.cmpi .sgt v20 c0_i32_753
  let v2232 : BitVec 32 := Scalar.extui v2231
  let c0_i32_754 : BitVec 32 := 0#32
  let v2233 : BitVec 1 := Scalar.cmpi .slt v20 c0_i32_754
  let v2234 : BitVec 32 := Scalar.extui v2233
  let v2235 : BitVec 32 := Scalar.subi v2232 v2234
  let c2_i32_752 : BitVec 32 := 2#32
  let c0_i32_755 : BitVec 32 := 0#32
  let v2236 : BitVec 1 := Scalar.cmpi .sgt c2_i32_752 c0_i32_755
  let v2237 : BitVec 32 := Scalar.extui v2236
  let c0_i32_756 : BitVec 32 := 0#32
  let v2238 : BitVec 1 := Scalar.cmpi .slt c2_i32_752 c0_i32_756
  let v2239 : BitVec 32 := Scalar.extui v2238
  let v2240 : BitVec 32 := Scalar.subi v2237 v2239
  let v2241 : BitVec 1 := Scalar.cmpi .ne v2235 v2240
  let v2242 : BitVec 32 := Scalar.remsi v20 c2_i32_752
  let c0_i32_757 : BitVec 32 := 0#32
  let v2243 : BitVec 1 := Scalar.cmpi .ne v2242 c0_i32_757
  let v2244 : BitVec 1 := Scalar.andi v2241 v2243
  let v2230 : BitVec 32 := Scalar.divsi v20 c2_i32_752
  let c1_i32_758 : BitVec 32 := 1#32
  let v2245 : BitVec 32 := Scalar.subi v2230 c1_i32_758
  let v2246 : BitVec 32 := Scalar.select v2244 v2245 v2230
  let v2247 : BitVec 32 := Scalar.subi v2246 c0_i32_760
  let c1_i32_761 : BitVec 32 := 1#32
  let v2249 : BitVec 32 := Scalar.divsi v2247 c1_i32_761
  let v2250 : BitVec 32 := Scalar.muli v2249 c1_i32_761
  let v2251 : BitVec 32 := Scalar.addi c0_i32_760 v2250
  let c1_i32_763 : BitVec 32 := 1#32
  let arg15 : BitVec 32 := Scf.iv v2251 c1_i32_763 k0_t5
  let v2568 : BitVec 32 := Scalar.muli c2_i32_922 arg15
  let c1_i32_923 : BitVec 32 := 1#32
  let v2569 : BitVec 32 := Scalar.addi v2568 c1_i32_923
  let c1_i32_924 : BitVec 32 := 1#32
  let v2570 : BitVec 32 := Scalar.addi v2569 c1_i32_924
  let c1_i32_925 : BitVec 32 := 1#32
  let v2571 : BitVec 32 := Scalar.subi v20 c1_i32_925
  let v2572 : BitVec 32 := Scalar.minsi v2570 v2571
  let c512_i32_926 : BitVec 32 := 512#32
  let v2573 : BitVec 32 := Scalar.muli v2572 c512_i32_926
  v2573
def k0_off115 (i : grid0.Coords) (k0_t5 : Fin (k0_t5_loop i).trips) : Fin 3 → Nat :=
  let c2_i32_922 : BitVec 32 := 2#32
  let c0_i32_760 : BitVec 32 := 0#32
  let arg1 : BitVec 32 := BitVec.ofNat 32 (i 1).val
  let c1_i32 : BitVec 32 := 1#32
  let v0 : BitVec 32 := Scalar.addi arg1 c1_i32
  let c256_i32 : BitVec 32 := 256#32
  let v1 : BitVec 32 := Scalar.muli v0 c256_i32
  let c512_i32 : BitVec 32 := 512#32
  let v2 : BitVec 32 := Scalar.addi v1 c512_i32
  let c1_i32_0 : BitVec 32 := 1#32
  let v3 : BitVec 32 := Scalar.subi v2 c1_i32_0
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c0_i32_753 : BitVec 32 := 0#32
  let v2231 : BitVec 1 := Scalar.cmpi .sgt v20 c0_i32_753
  let v2232 : BitVec 32 := Scalar.extui v2231
  let c0_i32_754 : BitVec 32 := 0#32
  let v2233 : BitVec 1 := Scalar.cmpi .slt v20 c0_i32_754
  let v2234 : BitVec 32 := Scalar.extui v2233
  let v2235 : BitVec 32 := Scalar.subi v2232 v2234
  let c2_i32_752 : BitVec 32 := 2#32
  let c0_i32_755 : BitVec 32 := 0#32
  let v2236 : BitVec 1 := Scalar.cmpi .sgt c2_i32_752 c0_i32_755
  let v2237 : BitVec 32 := Scalar.extui v2236
  let c0_i32_756 : BitVec 32 := 0#32
  let v2238 : BitVec 1 := Scalar.cmpi .slt c2_i32_752 c0_i32_756
  let v2239 : BitVec 32 := Scalar.extui v2238
  let v2240 : BitVec 32 := Scalar.subi v2237 v2239
  let v2241 : BitVec 1 := Scalar.cmpi .ne v2235 v2240
  let v2242 : BitVec 32 := Scalar.remsi v20 c2_i32_752
  let c0_i32_757 : BitVec 32 := 0#32
  let v2243 : BitVec 1 := Scalar.cmpi .ne v2242 c0_i32_757
  let v2244 : BitVec 1 := Scalar.andi v2241 v2243
  let v2230 : BitVec 32 := Scalar.divsi v20 c2_i32_752
  let c1_i32_758 : BitVec 32 := 1#32
  let v2245 : BitVec 32 := Scalar.subi v2230 c1_i32_758
  let v2246 : BitVec 32 := Scalar.select v2244 v2245 v2230
  let v2247 : BitVec 32 := Scalar.subi v2246 c0_i32_760
  let c1_i32_761 : BitVec 32 := 1#32
  let v2249 : BitVec 32 := Scalar.divsi v2247 c1_i32_761
  let v2250 : BitVec 32 := Scalar.muli v2249 c1_i32_761
  let v2251 : BitVec 32 := Scalar.addi c0_i32_760 v2250
  let c1_i32_763 : BitVec 32 := 1#32
  let arg15 : BitVec 32 := Scf.iv v2251 c1_i32_763 k0_t5
  let v2568 : BitVec 32 := Scalar.muli c2_i32_922 arg15
  let c1_i32_923 : BitVec 32 := 1#32
  let v2569 : BitVec 32 := Scalar.addi v2568 c1_i32_923
  let c1_i32_924 : BitVec 32 := 1#32
  let v2570 : BitVec 32 := Scalar.addi v2569 c1_i32_924
  let c1_i32_925 : BitVec 32 := 1#32
  let v2571 : BitVec 32 := Scalar.subi v20 c1_i32_925
  let v2572 : BitVec 32 := Scalar.minsi v2570 v2571
  let v2575 : Index := Scalar.indexCast v2572
  let c0_927 : Index := 0#32
  let c0_928 : Index := 0#32
  ![v2575.toNat, 0, 0]
def k0_off116 (i : grid0.Coords) (k0_t5 : Fin (k0_t5_loop i).trips) : Fin 2 → Nat :=
  let c2_i32_922 : BitVec 32 := 2#32
  let c0_i32_760 : BitVec 32 := 0#32
  let arg1 : BitVec 32 := BitVec.ofNat 32 (i 1).val
  let c1_i32 : BitVec 32 := 1#32
  let v0 : BitVec 32 := Scalar.addi arg1 c1_i32
  let c256_i32 : BitVec 32 := 256#32
  let v1 : BitVec 32 := Scalar.muli v0 c256_i32
  let c512_i32 : BitVec 32 := 512#32
  let v2 : BitVec 32 := Scalar.addi v1 c512_i32
  let c1_i32_0 : BitVec 32 := 1#32
  let v3 : BitVec 32 := Scalar.subi v2 c1_i32_0
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c0_i32_753 : BitVec 32 := 0#32
  let v2231 : BitVec 1 := Scalar.cmpi .sgt v20 c0_i32_753
  let v2232 : BitVec 32 := Scalar.extui v2231
  let c0_i32_754 : BitVec 32 := 0#32
  let v2233 : BitVec 1 := Scalar.cmpi .slt v20 c0_i32_754
  let v2234 : BitVec 32 := Scalar.extui v2233
  let v2235 : BitVec 32 := Scalar.subi v2232 v2234
  let c2_i32_752 : BitVec 32 := 2#32
  let c0_i32_755 : BitVec 32 := 0#32
  let v2236 : BitVec 1 := Scalar.cmpi .sgt c2_i32_752 c0_i32_755
  let v2237 : BitVec 32 := Scalar.extui v2236
  let c0_i32_756 : BitVec 32 := 0#32
  let v2238 : BitVec 1 := Scalar.cmpi .slt c2_i32_752 c0_i32_756
  let v2239 : BitVec 32 := Scalar.extui v2238
  let v2240 : BitVec 32 := Scalar.subi v2237 v2239
  let v2241 : BitVec 1 := Scalar.cmpi .ne v2235 v2240
  let v2242 : BitVec 32 := Scalar.remsi v20 c2_i32_752
  let c0_i32_757 : BitVec 32 := 0#32
  let v2243 : BitVec 1 := Scalar.cmpi .ne v2242 c0_i32_757
  let v2244 : BitVec 1 := Scalar.andi v2241 v2243
  let v2230 : BitVec 32 := Scalar.divsi v20 c2_i32_752
  let c1_i32_758 : BitVec 32 := 1#32
  let v2245 : BitVec 32 := Scalar.subi v2230 c1_i32_758
  let v2246 : BitVec 32 := Scalar.select v2244 v2245 v2230
  let v2247 : BitVec 32 := Scalar.subi v2246 c0_i32_760
  let c1_i32_761 : BitVec 32 := 1#32
  let v2249 : BitVec 32 := Scalar.divsi v2247 c1_i32_761
  let v2250 : BitVec 32 := Scalar.muli v2249 c1_i32_761
  let v2251 : BitVec 32 := Scalar.addi c0_i32_760 v2250
  let c1_i32_763 : BitVec 32 := 1#32
  let arg15 : BitVec 32 := Scf.iv v2251 c1_i32_763 k0_t5
  let v2568 : BitVec 32 := Scalar.muli c2_i32_922 arg15
  let c1_i32_923 : BitVec 32 := 1#32
  let v2569 : BitVec 32 := Scalar.addi v2568 c1_i32_923
  let c1_i32_924 : BitVec 32 := 1#32
  let v2570 : BitVec 32 := Scalar.addi v2569 c1_i32_924
  let c1_i32_925 : BitVec 32 := 1#32
  let v2571 : BitVec 32 := Scalar.subi v20 c1_i32_925
  let v2572 : BitVec 32 := Scalar.minsi v2570 v2571
  let c512_i32_926 : BitVec 32 := 512#32
  let v2573 : BitVec 32 := Scalar.muli v2572 c512_i32_926
  let v2574 : BitVec 32 := v2573
  let v2594 : Index := Scalar.indexCast v2574
  let c0_933 : Index := 0#32
  ![v2594.toNat, 0]
def k0_off117 (i : grid0.Coords) (k0_t5 : Fin (k0_t5_loop i).trips) : Fin 3 → Nat :=
  let c2_i32_922 : BitVec 32 := 2#32
  let c0_i32_760 : BitVec 32 := 0#32
  let arg1 : BitVec 32 := BitVec.ofNat 32 (i 1).val
  let c1_i32 : BitVec 32 := 1#32
  let v0 : BitVec 32 := Scalar.addi arg1 c1_i32
  let c256_i32 : BitVec 32 := 256#32
  let v1 : BitVec 32 := Scalar.muli v0 c256_i32
  let c512_i32 : BitVec 32 := 512#32
  let v2 : BitVec 32 := Scalar.addi v1 c512_i32
  let c1_i32_0 : BitVec 32 := 1#32
  let v3 : BitVec 32 := Scalar.subi v2 c1_i32_0
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c0_i32_753 : BitVec 32 := 0#32
  let v2231 : BitVec 1 := Scalar.cmpi .sgt v20 c0_i32_753
  let v2232 : BitVec 32 := Scalar.extui v2231
  let c0_i32_754 : BitVec 32 := 0#32
  let v2233 : BitVec 1 := Scalar.cmpi .slt v20 c0_i32_754
  let v2234 : BitVec 32 := Scalar.extui v2233
  let v2235 : BitVec 32 := Scalar.subi v2232 v2234
  let c2_i32_752 : BitVec 32 := 2#32
  let c0_i32_755 : BitVec 32 := 0#32
  let v2236 : BitVec 1 := Scalar.cmpi .sgt c2_i32_752 c0_i32_755
  let v2237 : BitVec 32 := Scalar.extui v2236
  let c0_i32_756 : BitVec 32 := 0#32
  let v2238 : BitVec 1 := Scalar.cmpi .slt c2_i32_752 c0_i32_756
  let v2239 : BitVec 32 := Scalar.extui v2238
  let v2240 : BitVec 32 := Scalar.subi v2237 v2239
  let v2241 : BitVec 1 := Scalar.cmpi .ne v2235 v2240
  let v2242 : BitVec 32 := Scalar.remsi v20 c2_i32_752
  let c0_i32_757 : BitVec 32 := 0#32
  let v2243 : BitVec 1 := Scalar.cmpi .ne v2242 c0_i32_757
  let v2244 : BitVec 1 := Scalar.andi v2241 v2243
  let v2230 : BitVec 32 := Scalar.divsi v20 c2_i32_752
  let c1_i32_758 : BitVec 32 := 1#32
  let v2245 : BitVec 32 := Scalar.subi v2230 c1_i32_758
  let v2246 : BitVec 32 := Scalar.select v2244 v2245 v2230
  let v2247 : BitVec 32 := Scalar.subi v2246 c0_i32_760
  let c1_i32_761 : BitVec 32 := 1#32
  let v2249 : BitVec 32 := Scalar.divsi v2247 c1_i32_761
  let v2250 : BitVec 32 := Scalar.muli v2249 c1_i32_761
  let v2251 : BitVec 32 := Scalar.addi c0_i32_760 v2250
  let c1_i32_763 : BitVec 32 := 1#32
  let arg15 : BitVec 32 := Scf.iv v2251 c1_i32_763 k0_t5
  let v2568 : BitVec 32 := Scalar.muli c2_i32_922 arg15
  let c1_i32_923 : BitVec 32 := 1#32
  let v2569 : BitVec 32 := Scalar.addi v2568 c1_i32_923
  let v2600 : Index := Scalar.indexCast v2569
  let c0_934 : Index := 0#32
  let c0_935 : Index := 0#32
  ![v2600.toNat, 0, 0]
def k0_cond3 (i : grid0.Coords) : BitVec 1 :=
  let arg1 : BitVec 32 := BitVec.ofNat 32 (i 1).val
  let c1_i32 : BitVec 32 := 1#32
  let v0 : BitVec 32 := Scalar.addi arg1 c1_i32
  let c256_i32 : BitVec 32 := 256#32
  let v1 : BitVec 32 := Scalar.muli v0 c256_i32
  let c512_i32 : BitVec 32 := 512#32
  let v2 : BitVec 32 := Scalar.addi v1 c512_i32
  let c1_i32_0 : BitVec 32 := 1#32
  let v3 : BitVec 32 := Scalar.subi v2 c1_i32_0
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c2_i32_764 : BitVec 32 := 2#32
  let c0_i32_765 : BitVec 32 := 0#32
  let v2252 : BitVec 1 := Scalar.cmpi .eq c2_i32_764 c0_i32_765
  let c1_i32_766 : BitVec 32 := 1#32
  let v2253 : BitVec 32 := Scalar.select v2252 c1_i32_766 c2_i32_764
  let v2254 : BitVec 32 := Scalar.remsi v20 v2253
  let c0_i32_768 : BitVec 32 := 0#32
  let v2256 : BitVec 1 := Scalar.cmpi .slt v2254 c0_i32_768
  let c0_i32_769 : BitVec 32 := 0#32
  let v2257 : BitVec 1 := Scalar.cmpi .slt v2253 c0_i32_769
  let v2258 : BitVec 1 := Scalar.xori v2256 v2257
  let c0_i32_767 : BitVec 32 := 0#32
  let v2255 : BitVec 1 := Scalar.cmpi .ne v2254 c0_i32_767
  let v2259 : BitVec 1 := Scalar.andi v2258 v2255
  let v2260 : BitVec 32 := Scalar.addi v2254 v2253
  let v2261 : BitVec 32 := Scalar.select v2259 v2260 v2254
  let c1_i32_770 : BitVec 32 := 1#32
  let v2262 : BitVec 1 := Scalar.cmpi .eq v2261 c1_i32_770
  let v2263 : BitVec 32 := Scalar.extui v2262
  let c0_i32_771 : BitVec 32 := 0#32
  let v2264 : BitVec 1 := Scalar.cmpi .ne v2263 c0_i32_771
  v2264

def k0_off118 (i : grid0.Coords) : Fin 3 → Nat :=
  let arg1 : BitVec 32 := BitVec.ofNat 32 (i 1).val
  let c1_i32 : BitVec 32 := 1#32
  let v0 : BitVec 32 := Scalar.addi arg1 c1_i32
  let c256_i32 : BitVec 32 := 256#32
  let v1 : BitVec 32 := Scalar.muli v0 c256_i32
  let c512_i32 : BitVec 32 := 512#32
  let v2 : BitVec 32 := Scalar.addi v1 c512_i32
  let c1_i32_0 : BitVec 32 := 1#32
  let v3 : BitVec 32 := Scalar.subi v2 c1_i32_0
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_789 : BitVec 32 := 1#32
  let v2325 : BitVec 32 := Scalar.subi v20 c1_i32_789
  let v2326 : Index := Scalar.indexCast v2325
  let c0_790 : Index := 0#32
  let c0_791 : Index := 0#32
  ![v2326.toNat, 0, 0]
def cc0_transform_0 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c2_i32 : BitVec 32 := 2#32
  let v2 : BitVec 32 := Scalar.divsi v1 c2_i32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c0_i32_1 : BitVec 32 := 0#32
  let v8 : BitVec 1 := Scalar.cmpi .sgt c2_i32 c0_i32_1
  let v9 : BitVec 32 := Scalar.extui v8
  let c0_i32_2 : BitVec 32 := 0#32
  let v10 : BitVec 1 := Scalar.cmpi .slt c2_i32 c0_i32_2
  let v11 : BitVec 32 := Scalar.extui v10
  let v12 : BitVec 32 := Scalar.subi v9 v11
  let v13 : BitVec 1 := Scalar.cmpi .ne v7 v12
  let v14 : BitVec 32 := Scalar.remsi v1 c2_i32
  let c0_i32_3 : BitVec 32 := 0#32
  let v15 : BitVec 1 := Scalar.cmpi .ne v14 c0_i32_3
  let v16 : BitVec 1 := Scalar.andi v13 v15
  let c1_i32 : BitVec 32 := 1#32
  let v17 : BitVec 32 := Scalar.subi v2 c1_i32
  let v18 : BitVec 32 := Scalar.select v16 v17 v2
  let c16_i32_4 : BitVec 32 := 16#32
  let v19 : BitVec 32 := Scalar.muli arg0 c16_i32_4
  let v20 : BitVec 32 := Scalar.addi v19 arg1
  let c2_i32_5 : BitVec 32 := 2#32
  let c0_i32_6 : BitVec 32 := 0#32
  let v21 : BitVec 1 := Scalar.cmpi .eq c2_i32_5 c0_i32_6
  let c1_i32_7 : BitVec 32 := 1#32
  let v22 : BitVec 32 := Scalar.select v21 c1_i32_7 c2_i32_5
  let v23 : BitVec 32 := Scalar.remsi v20 v22
  let c0_i32_8 : BitVec 32 := 0#32
  let v24 : BitVec 1 := Scalar.cmpi .ne v23 c0_i32_8
  let c0_i32_9 : BitVec 32 := 0#32
  let v25 : BitVec 1 := Scalar.cmpi .slt v23 c0_i32_9
  let c0_i32_10 : BitVec 32 := 0#32
  let v26 : BitVec 1 := Scalar.cmpi .slt v22 c0_i32_10
  let v27 : BitVec 1 := Scalar.xori v25 v26
  let v28 : BitVec 1 := Scalar.andi v27 v24
  let v29 : BitVec 32 := Scalar.addi v23 v22
  let v30 : BitVec 32 := Scalar.select v28 v29 v23
  let c0_i32_11 : BitVec 32 := 0#32
  let c0_i32_12 : BitVec 32 := 0#32
  ![v18.toNat, c0_i32_11.toNat, v30.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S256x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x8x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S4096x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S4096x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S8x64x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S256x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== Kernel2.lean ====
abbrev S8x4096x1024 : Shape := ⟨3, ![8, 4096, 1024]⟩
abbrev S2x8x4096x256 : Shape := ⟨4, ![2, 8, 4096, 256]⟩
abbrev S2x1024x5632 : Shape := ⟨3, ![2, 1024, 5632]⟩
abbrev S2x2816x1024 : Shape := ⟨3, ![2, 2816, 1024]⟩
abbrev S2x1024x1024 : Shape := ⟨3, ![2, 1024, 1024]⟩
abbrev S2x256x1024 : Shape := ⟨3, ![2, 256, 1024]⟩
abbrev S2x1024 : Shape := ⟨2, ![2, 1024]⟩
abbrev S32768x1024 : Shape := ⟨2, ![32768, 1024]⟩
abbrev S2x32768x256 : Shape := ⟨3, ![2, 32768, 256]⟩
abbrev S1x1024x2816 : Shape := ⟨3, ![1, 1024, 2816]⟩
abbrev S1024x2816 : Shape := ⟨2, ![1024, 2816]⟩
abbrev S1x2816x1024 : Shape := ⟨3, ![1, 2816, 1024]⟩
abbrev S2816x1024 : Shape := ⟨2, ![2816, 1024]⟩
abbrev S1x1024x1024 : Shape := ⟨3, ![1, 1024, 1024]⟩
abbrev S1024x1024 : Shape := ⟨2, ![1024, 1024]⟩
abbrev S1x256x1024 : Shape := ⟨3, ![1, 256, 1024]⟩
abbrev S256x1024 : Shape := ⟨2, ![256, 1024]⟩
abbrev S1x1024 : Shape := ⟨2, ![1, 1024]⟩
abbrev S1024 : Shape := ⟨1, ![1024]⟩
abbrev S512x1024 : Shape := ⟨2, ![512, 1024]⟩
abbrev S1x512x256 : Shape := ⟨3, ![1, 512, 256]⟩
abbrev S512x256 : Shape := ⟨2, ![512, 256]⟩
abbrev S1024x256 : Shape := ⟨2, ![1024, 256]⟩
abbrev S512 : Shape := ⟨1, ![512]⟩
abbrev S512x1 : Shape := ⟨2, ![512, 1]⟩

abbrev nBuf : Space → Nat
  | .hbm => 32
  | .vmem => 13
  | .smem => 0
  | _ => 0

abbrev bufTy : (tb : Table) → Fin (tcTables nBuf tb) → BufTy
  | .hbm, ⟨0, _⟩ => ⟨S8x4096x1024, .f32⟩
  | .hbm, ⟨1, _⟩ => ⟨S2x8x4096x256, .f32⟩
  | .hbm, ⟨2, _⟩ => ⟨S2x1024x5632, .f32⟩
  | .hbm, ⟨3, _⟩ => ⟨S2x2816x1024, .f32⟩
  | .hbm, ⟨4, _⟩ => ⟨S2x1024x1024, .f32⟩
  | .hbm, ⟨5, _⟩ => ⟨S2x256x1024, .f32⟩
  | .hbm, ⟨6, _⟩ => ⟨S2x1024, .f32⟩
  | .hbm, ⟨7, _⟩ => ⟨S2x1024, .f32⟩
  | .hbm, ⟨8, _⟩ => ⟨S32768x1024, .f32⟩
  | .hbm, ⟨9, _⟩ => ⟨S2x32768x256, .f32⟩
  | .hbm, ⟨10, _⟩ => ⟨S1x1024x2816, .f32⟩
  | .hbm, ⟨11, _⟩ => ⟨S1024x2816, .f32⟩
  | .hbm, ⟨12, _⟩ => ⟨S1024x2816, .bf16⟩
  | .hbm, ⟨13, _⟩ => ⟨S1x1024x2816, .f32⟩
  | .hbm, ⟨14, _⟩ => ⟨S1024x2816, .f32⟩
  | .hbm, ⟨15, _⟩ => ⟨S1024x2816, .bf16⟩
  | .hbm, ⟨16, _⟩ => ⟨S1x2816x1024, .f32⟩
  | .hbm, ⟨17, _⟩ => ⟨S2816x1024, .f32⟩
  | .hbm, ⟨18, _⟩ => ⟨S2816x1024, .bf16⟩
  | .hbm, ⟨19, _⟩ => ⟨S1x1024x1024, .f32⟩
  | .hbm, ⟨20, _⟩ => ⟨S1024x1024, .f32⟩
  | .hbm, ⟨21, _⟩ => ⟨S1024x1024, .bf16⟩
  | .hbm, ⟨22, _⟩ => ⟨S1x256x1024, .f32⟩
  | .hbm, ⟨23, _⟩ => ⟨S256x1024, .f32⟩
  | .hbm, ⟨24, _⟩ => ⟨S256x1024, .bf16⟩
  | .hbm, ⟨25, _⟩ => ⟨S1x1024, .f32⟩
  | .hbm, ⟨26, _⟩ => ⟨S1024, .f32⟩
  | .hbm, ⟨27, _⟩ => ⟨S1x1024, .f32⟩
  | .hbm, ⟨28, _⟩ => ⟨S1x1024, .f32⟩
  | .hbm, ⟨29, _⟩ => ⟨S1024, .f32⟩
  | .hbm, ⟨30, _⟩ => ⟨S1x1024, .f32⟩
  | .hbm, ⟨31, _⟩ => ⟨S32768x1024, .f32⟩
  | .local _ .vmem, ⟨0, _⟩ => ⟨S512x1024, .f32⟩
  | .local _ .vmem, ⟨1, _⟩ => ⟨S512x1024, .f32⟩
  | .local _ .vmem, ⟨2, _⟩ => ⟨S1x512x256, .f32⟩
  | .local _ .vmem, ⟨3, _⟩ => ⟨S1x512x256, .f32⟩
  | .local _ .vmem, ⟨4, _⟩ => ⟨S1024x2816, .bf16⟩
  | .local _ .vmem, ⟨5, _⟩ => ⟨S1024x2816, .bf16⟩
  | .local _ .vmem, ⟨6, _⟩ => ⟨S2816x1024, .bf16⟩
  | .local _ .vmem, ⟨7, _⟩ => ⟨S1024x1024, .bf16⟩
  | .local _ .vmem, ⟨8, _⟩ => ⟨S256x1024, .bf16⟩
  | .local _ .vmem, ⟨9, _⟩ => ⟨S1x1024, .f32⟩
  | .local _ .vmem, ⟨10, _⟩ => ⟨S1x1024, .f32⟩
  | .local _ .vmem, ⟨11, _⟩ => ⟨S512x1024, .f32⟩
  | .local _ .vmem, ⟨12, _⟩ => ⟨S512x1024, .f32⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg9_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem9_1 : DmaSem sig := 12

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x512x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x2816 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x2816 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2816x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S256x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== Reference2Ideal.lean ====
abbrev S8x4096x1024 : Shape := ⟨3, ![8, 4096, 1024]⟩
abbrev S2x8x4096x256 : Shape := ⟨4, ![2, 8, 4096, 256]⟩
abbrev S2x1024x5632 : Shape := ⟨3, ![2, 1024, 5632]⟩
abbrev S2x2816x1024 : Shape := ⟨3, ![2, 2816, 1024]⟩
abbrev S2x1024x1024 : Shape := ⟨3, ![2, 1024, 1024]⟩
abbrev S2x256x1024 : Shape := ⟨3, ![2, 256, 1024]⟩
abbrev S2x1024 : Shape := ⟨2, ![2, 1024]⟩
abbrev S1x1024x5632 : Shape := ⟨3, ![1, 1024, 5632]⟩
abbrev S1024x5632 : Shape := ⟨2, ![1024, 5632]⟩
abbrev S8x4096x5632 : Shape := ⟨3, ![8, 4096, 5632]⟩
abbrev S8x4096x2816 : Shape := ⟨3, ![8, 4096, 2816]⟩
abbrev S_ : Shape := ⟨0, ![]⟩
abbrev S1x2816x1024 : Shape := ⟨3, ![1, 2816, 1024]⟩
abbrev S2816x1024 : Shape := ⟨2, ![2816, 1024]⟩
abbrev S1x1024x1024 : Shape := ⟨3, ![1, 1024, 1024]⟩
abbrev S1024x1024 : Shape := ⟨2, ![1024, 1024]⟩
abbrev S1x8x4096x256 : Shape := ⟨4, ![1, 8, 4096, 256]⟩
abbrev S8x4096x256 : Shape := ⟨3, ![8, 4096, 256]⟩
abbrev S1x256x1024 : Shape := ⟨3, ![1, 256, 1024]⟩
abbrev S256x1024 : Shape := ⟨2, ![256, 1024]⟩
abbrev S1x1024 : Shape := ⟨2, ![1, 1024]⟩
abbrev S1024 : Shape := ⟨1, ![1024]⟩
abbrev S8x4096 : Shape := ⟨2, ![8, 4096]⟩
abbrev S8x4096x1 : Shape := ⟨3, ![8, 4096, 1]⟩
abbrev S1x1x1024 : Shape := ⟨3, ![1, 1, 1024]⟩
abbrev S32768x1024 : Shape := ⟨2, ![32768, 1024]⟩

abbrev nBuf : Space → Nat
  | .hbm => 82
  | .vmem => 0
  | .smem => 0
  | _ => 0

abbrev bufTy : (tb : Table) → Fin (tcTables nBuf tb) → BufTy
  | .hbm, ⟨0, _⟩ => ⟨S8x4096x1024, .f32⟩
  | .hbm, ⟨1, _⟩ => ⟨S2x8x4096x256, .f32⟩
  | .hbm, ⟨2, _⟩ => ⟨S2x1024x5632, .f32⟩
  | .hbm, ⟨3, _⟩ => ⟨S2x2816x1024, .f32⟩
  | .hbm, ⟨4, _⟩ => ⟨S2x1024x1024, .f32⟩
  | .hbm, ⟨5, _⟩ => ⟨S2x256x1024, .f32⟩
  | .hbm, ⟨6, _⟩ => ⟨S2x1024, .f32⟩
  | .hbm, ⟨7, _⟩ => ⟨S2x1024, .f32⟩
  | .hbm, ⟨8, _⟩ => ⟨S1x1024x5632, .f32⟩
  | .hbm, ⟨9, _⟩ => ⟨S1024x5632, .f32⟩
  | .hbm, ⟨10, _⟩ => ⟨S8x4096x5632, .f32⟩
  | .hbm, ⟨11, _⟩ => ⟨S8x4096x2816, .f32⟩
  | .hbm, ⟨12, _⟩ => ⟨S8x4096x2816, .f32⟩
  | .hbm, ⟨13, _⟩ => ⟨S8x4096x2816, .f32⟩
  | .hbm, ⟨14, _⟩ => ⟨S8x4096x2816, .f32⟩
  | .hbm, ⟨15, _⟩ => ⟨S_, .f32⟩
  | .hbm, ⟨16, _⟩ => ⟨S8x4096x2816, .f32⟩
  | .hbm, ⟨17, _⟩ => ⟨S8x4096x2816, .f32⟩
  | .hbm, ⟨18, _⟩ => ⟨S_, .f32⟩
  | .hbm, ⟨19, _⟩ => ⟨S8x4096x2816, .f32⟩
  | .hbm, ⟨20, _⟩ => ⟨S8x4096x2816, .f32⟩
  | .hbm, ⟨21, _⟩ => ⟨S8x4096x2816, .f32⟩
  | .hbm, ⟨22, _⟩ => ⟨S8x4096x2816, .f32⟩
  | .hbm, ⟨23, _⟩ => ⟨S1x2816x1024, .f32⟩
  | .hbm, ⟨24, _⟩ => ⟨S2816x1024, .f32⟩
  | .hbm, ⟨25, _⟩ => ⟨S8x4096x1024, .f32⟩
  | .hbm, ⟨26, _⟩ => ⟨S1x1024x1024, .f32⟩
  | .hbm, ⟨27, _⟩ => ⟨S1024x1024, .f32⟩
  | .hbm, ⟨28, _⟩ => ⟨S8x4096x1024, .f32⟩
  | .hbm, ⟨29, _⟩ => ⟨S8x4096x1024, .f32⟩
  | .hbm, ⟨30, _⟩ => ⟨S8x4096x1024, .f32⟩
  | .hbm, ⟨31, _⟩ => ⟨S_, .f32⟩
  | .hbm, ⟨32, _⟩ => ⟨S8x4096x1024, .f32⟩
  | .hbm, ⟨33, _⟩ => ⟨S8x4096x1024, .f32⟩
  | .hbm, ⟨34, _⟩ => ⟨S_, .f32⟩
  | .hbm, ⟨35, _⟩ => ⟨S8x4096x1024, .f32⟩
  | .hbm, ⟨36, _⟩ => ⟨S8x4096x1024, .f32⟩
  | .hbm, ⟨37, _⟩ => ⟨S1x8x4096x256, .f32⟩
  | .hbm, ⟨38, _⟩ => ⟨S8x4096x256, .f32⟩
  | .hbm, ⟨39, _⟩ => ⟨S1x256x1024, .f32⟩
  | .hbm, ⟨40, _⟩ => ⟨S256x1024, .f32⟩
  | .hbm, ⟨41, _⟩ => ⟨S8x4096x1024, .f32⟩
  | .hbm, ⟨42, _⟩ => ⟨S8x4096x1024, .f32⟩
  | .hbm, ⟨43, _⟩ => ⟨S_, .f32⟩
  | .hbm, ⟨44, _⟩ => ⟨S8x4096x1024, .f32⟩
  | .hbm, ⟨45, _⟩ => ⟨S8x4096x1024, .f32⟩
  | .hbm, ⟨46, _⟩ => ⟨S8x4096x1024, .f32⟩
  | .hbm, ⟨47, _⟩ => ⟨S8x4096x1024, .f32⟩
  | .hbm, ⟨48, _⟩ => ⟨S1x1024, .f32⟩
  | .hbm, ⟨49, _⟩ => ⟨S1024, .f32⟩
  | .hbm, ⟨50, _⟩ => ⟨S1x1024, .f32⟩
  | .hbm, ⟨51, _⟩ => ⟨S1024, .f32⟩
  | .hbm, ⟨52, _⟩ => ⟨S_, .f32⟩
  | .hbm, ⟨53, _⟩ => ⟨S8x4096, .f32⟩
  | .hbm, ⟨54, _⟩ => ⟨S8x4096x1, .f32⟩
  | .hbm, ⟨55, _⟩ => ⟨S_, .f32⟩
  | .hbm, ⟨56, _⟩ => ⟨S8x4096x1, .f32⟩
  | .hbm, ⟨57, _⟩ => ⟨S8x4096x1, .f32⟩
  | .hbm, ⟨58, _⟩ => ⟨S8x4096x1024, .f32⟩
  | .hbm, ⟨59, _⟩ => ⟨S8x4096x1024, .f32⟩
  | .hbm, ⟨60, _⟩ => ⟨S8x4096x1024, .f32⟩
  | .hbm, ⟨61, _⟩ => ⟨S_, .f32⟩
  | .hbm, ⟨62, _⟩ => ⟨S8x4096, .f32⟩
  | .hbm, ⟨63, _⟩ => ⟨S8x4096x1, .f32⟩
  | .hbm, ⟨64, _⟩ => ⟨S_, .f32⟩
  | .hbm, ⟨65, _⟩ => ⟨S8x4096x1, .f32⟩
  | .hbm, ⟨66, _⟩ => ⟨S8x4096x1, .f32⟩
  | .hbm, ⟨67, _⟩ => ⟨S8x4096x1024, .f32⟩
  | .hbm, ⟨68, _⟩ => ⟨S8x4096x1024, .f32⟩
  | .hbm, ⟨69, _⟩ => ⟨S_, .f32⟩
  | .hbm, ⟨70, _⟩ => ⟨S8x4096x1, .f32⟩
  | .hbm, ⟨71, _⟩ => ⟨S8x4096x1, .f32⟩
  | .hbm, ⟨72, _⟩ => ⟨S8x4096x1, .f32⟩
  | .hbm, ⟨73, _⟩ => ⟨S8x4096x1024, .f32⟩
  | .hbm, ⟨74, _⟩ => ⟨S8x4096x1024, .f32⟩
  | .hbm, ⟨75, _⟩ => ⟨S1x1x1024, .f32⟩
  | .hbm, ⟨76, _⟩ => ⟨S8x4096x1024, .f32⟩
  | .hbm, ⟨77, _⟩ => ⟨S8x4096x1024, .f32⟩
  | .hbm, ⟨78, _⟩ => ⟨S1x1x1024, .f32⟩
  | .hbm, ⟨79, _⟩ => ⟨S8x4096x1024, .f32⟩
  | .hbm, ⟨80, _⟩ => ⟨S8x4096x1024, .f32⟩
  | .hbm, ⟨81, _⟩ => ⟨S32768x1024, .f32⟩
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_call0_v0 : Ref sig .tc := ⟨.hbm, 13, rfl⟩
abbrev main_call0_v1 : Ref sig .tc := ⟨.hbm, 14, rfl⟩
abbrev main_call0_cst : Ref sig .tc := ⟨.hbm, 15, rfl⟩
abbrev main_call0_v2 : Ref sig .tc := ⟨.hbm, 16, rfl⟩
abbrev main_call0_v3 : Ref sig .tc := ⟨.hbm, 17, rfl⟩
abbrev main_call0_cst_0 : Ref sig .tc := ⟨.hbm, 18, rfl⟩
abbrev main_call0_v4 : Ref sig .tc := ⟨.hbm, 19, rfl⟩
abbrev main_call0_v5 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_cst : Ref sig .tc := ⟨.hbm, 31, rfl⟩
abbrev main_v15 : Ref sig .tc := ⟨.hbm, 32, rfl⟩
abbrev main_v16 : Ref sig .tc := ⟨.hbm, 33, rfl⟩
abbrev main_cst_0 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_cst_1 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_cst_2 : Ref sig .tc := ⟨.hbm, 52, rfl⟩
abbrev main_v33 : Ref sig .tc := ⟨.hbm, 53, rfl⟩
abbrev main_v34 : Ref sig .tc := ⟨.hbm, 54, rfl⟩
abbrev main_cst_3 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_cst_4 : Ref sig .tc := ⟨.hbm, 61, rfl⟩
abbrev main_v40 : Ref sig .tc := ⟨.hbm, 62, rfl⟩
abbrev main_v41 : Ref sig .tc := ⟨.hbm, 63, rfl⟩
abbrev main_cst_5 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_cst_6 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩

abbrev nD : Nat := 1
abbrev τ : Topo := Topo.v7x

variable {F : FTy → Type} [FloatOps F]
-- ==== Kernel3.lean ====
abbrev S8x4096x1024 : Shape := ⟨3, ![8, 4096, 1024]⟩
abbrev S32768x512 : Shape := ⟨2, ![32768, 512]⟩
abbrev S2x1024x5732 : Shape := ⟨3, ![2, 1024, 5732]⟩
abbrev S2x3x1024 : Shape := ⟨3, ![2, 3, 1024]⟩
abbrev S2x3x512x1024 : Shape := ⟨4, ![2, 3, 512, 1024]⟩
abbrev S2x1024x1024 : Shape := ⟨3, ![2, 1024, 1024]⟩
abbrev S2x1024 : Shape := ⟨2, ![2, 1024]⟩
abbrev S1x1024x3072 : Shape := ⟨3, ![1, 1024, 3072]⟩
abbrev S1024x3072 : Shape := ⟨2, ![1024, 3072]⟩
abbrev S32768x1024 : Shape := ⟨2, ![32768, 1024]⟩
abbrev S1x3x1024 : Shape := ⟨3, ![1, 3, 1024]⟩
abbrev S3x1024 : Shape := ⟨2, ![3, 1024]⟩
abbrev S1x3x512x1024 : Shape := ⟨4, ![1, 3, 512, 1024]⟩
abbrev S3x512x1024 : Shape := ⟨3, ![3, 512, 1024]⟩
abbrev S1x1024x1024 : Shape := ⟨3, ![1, 1024, 1024]⟩
abbrev S1024x1024 : Shape := ⟨2, ![1024, 1024]⟩
abbrev S1x1024 : Shape := ⟨2, ![1, 1024]⟩
abbrev S1024 : Shape := ⟨1, ![1024]⟩
abbrev S512x1024 : Shape := ⟨2, ![512, 1024]⟩
abbrev S512x512 : Shape := ⟨2, ![512, 512]⟩
abbrev S1x512x1024 : Shape := ⟨3, ![1, 512, 1024]⟩
abbrev S512 : Shape := ⟨1, ![512]⟩
abbrev S512x1 : Shape := ⟨2, ![512, 1]⟩

abbrev nBuf : Space → Nat
  | .hbm => 29
  | .vmem => 16
  | .smem => 0
  | _ => 0

abbrev bufTy : (tb : Table) → Fin (tcTables nBuf tb) → BufTy
  | .hbm, ⟨0, _⟩ => ⟨S8x4096x1024, .f32⟩
  | .hbm, ⟨1, _⟩ => ⟨S32768x512, .bf16⟩
  | .hbm, ⟨2, _⟩ => ⟨S32768x512, .bf16⟩
  | .hbm, ⟨3, _⟩ => ⟨S32768x512, .bf16⟩
  | .hbm, ⟨4, _⟩ => ⟨S2x1024x5732, .f32⟩
  | .hbm, ⟨5, _⟩ => ⟨S2x3x1024, .f32⟩
  | .hbm, ⟨6, _⟩ => ⟨S2x3x512x1024, .f32⟩
  | .hbm, ⟨7, _⟩ => ⟨S2x1024x1024, .f32⟩
  | .hbm, ⟨8, _⟩ => ⟨S2x1024, .f32⟩
  | .hbm, ⟨9, _⟩ => ⟨S2x1024, .f32⟩
  | .hbm, ⟨10, _⟩ => ⟨S1x1024x3072, .f32⟩
  | .hbm, ⟨11, _⟩ => ⟨S1024x3072, .f32⟩
  | .hbm, ⟨12, _⟩ => ⟨S32768x1024, .f32⟩
  | .hbm, ⟨13, _⟩ => ⟨S1024x3072, .bf16⟩
  | .hbm, ⟨14, _⟩ => ⟨S1x3x1024, .f32⟩
  | .hbm, ⟨15, _⟩ => ⟨S3x1024, .f32⟩
  | .hbm, ⟨16, _⟩ => ⟨S1x3x512x1024, .f32⟩
  | .hbm, ⟨17, _⟩ => ⟨S3x512x1024, .f32⟩
  | .hbm, ⟨18, _⟩ => ⟨S3x512x1024, .bf16⟩
  | .hbm, ⟨19, _⟩ => ⟨S1x1024x1024, .f32⟩
  | .hbm, ⟨20, _⟩ => ⟨S1024x1024, .f32⟩
  | .hbm, ⟨21, _⟩ => ⟨S1024x1024, .bf16⟩
  | .hbm, ⟨22, _⟩ => ⟨S1x1024, .f32⟩
  | .hbm, ⟨23, _⟩ => ⟨S1024, .f32⟩
  | .hbm, ⟨24, _⟩ => ⟨S1x1024, .f32⟩
  | .hbm, ⟨25, _⟩ => ⟨S1x1024, .f32⟩
  | .hbm, ⟨26, _⟩ => ⟨S1024, .f32⟩
  | .hbm, ⟨27, _⟩ => ⟨S1x1024, .f32⟩
  | .hbm, ⟨28, _⟩ => ⟨S32768x1024, .f32⟩
  | .local _ .vmem, ⟨0, _⟩ => ⟨S512x1024, .f32⟩
  | .local _ .vmem, ⟨1, _⟩ => ⟨S512x1024, .f32⟩
  | .local _ .vmem, ⟨2, _⟩ => ⟨S512x512, .bf16⟩
  | .local _ .vmem, ⟨3, _⟩ => ⟨S512x512, .bf16⟩
  | .local _ .vmem, ⟨4, _⟩ => ⟨S512x512, .bf16⟩
  | .local _ .vmem, ⟨5, _⟩ => ⟨S512x512, .bf16⟩
  | .local _ .vmem, ⟨6, _⟩ => ⟨S512x512, .bf16⟩
  | .local _ .vmem, ⟨7, _⟩ => ⟨S512x512, .bf16⟩
  | .local _ .vmem, ⟨8, _⟩ => ⟨S1024x3072, .bf16⟩
  | .local _ .vmem, ⟨9, _⟩ => ⟨S3x1024, .f32⟩
  | .local _ .vmem, ⟨10, _⟩ => ⟨S3x512x1024, .bf16⟩
  | .local _ .vmem, ⟨11, _⟩ => ⟨S1024x1024, .bf16⟩
  | .local _ .vmem, ⟨12, _⟩ => ⟨S1x1024, .f32⟩
  | .local _ .vmem, ⟨13, _⟩ => ⟨S1x1024, .f32⟩
  | .local _ .vmem, ⟨14, _⟩ => ⟨S512x1024, .f32⟩
  | .local _ .vmem, ⟨15, _⟩ => ⟨S512x1024, .f32⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg10_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem10_1 : DmaSem sig := 15

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1024x3072 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S3x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S3x512x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S512x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== Reference3Ideal.lean ====
abbrev S8x4096x1024 : Shape := ⟨3, ![8, 4096, 1024]⟩
abbrev S32768x512 : Shape := ⟨2, ![32768, 512]⟩
abbrev S2x1024x5732 : Shape := ⟨3, ![2, 1024, 5732]⟩
abbrev S2x3x1024 : Shape := ⟨3, ![2, 3, 1024]⟩
abbrev S2x3x512x1024 : Shape := ⟨4, ![2, 3, 512, 1024]⟩
abbrev S2x1024x1024 : Shape := ⟨3, ![2, 1024, 1024]⟩
abbrev S2x1024 : Shape := ⟨2, ![2, 1024]⟩
abbrev S8x4096x512 : Shape := ⟨3, ![8, 4096, 512]⟩
abbrev S1x1024x3072 : Shape := ⟨3, ![1, 1024, 3072]⟩
abbrev S1024x3072 : Shape := ⟨2, ![1024, 3072]⟩
abbrev S8x4096x3072 : Shape := ⟨3, ![8, 4096, 3072]⟩
abbrev S8x4096x3x1024 : Shape := ⟨4, ![8, 4096, 3, 1024]⟩
abbrev S1x3x1024 : Shape := ⟨3, ![1, 3, 1024]⟩
abbrev S3x1024 : Shape := ⟨2, ![3, 1024]⟩
abbrev S1x1x3x1024 : Shape := ⟨4, ![1, 1, 3, 1024]⟩
abbrev S_ : Shape := ⟨0, ![]⟩
abbrev S8x4096x1x1024 : Shape := ⟨4, ![8, 4096, 1, 1024]⟩
abbrev S1x1x512x1024 : Shape := ⟨4, ![1, 1, 512, 1024]⟩
abbrev S512x1024 : Shape := ⟨2, ![512, 1024]⟩
abbrev S1x1024x1024 : Shape := ⟨3, ![1, 1024, 1024]⟩
abbrev S1024x1024 : Shape := ⟨2, ![1024, 1024]⟩
abbrev S1x1024 : Shape := ⟨2, ![1, 1024]⟩
abbrev S1024 : Shape := ⟨1, ![1024]⟩
abbrev S8x4096 : Shape := ⟨2, ![8, 4096]⟩
abbrev S8x4096x1 : Shape := ⟨3, ![8, 4096, 1]⟩
abbrev S1x1x1024 : Shape := ⟨3, ![1, 1, 1024]⟩
abbrev S32768x1024 : Shape := ⟨2, ![32768, 1024]⟩

abbrev nBuf : Space → Nat
  | .hbm => 94
  | .vmem => 0
  | .smem => 0
  | _ => 0

abbrev bufTy : (tb : Table) → Fin (tcTables nBuf tb) → BufTy
  | .hbm, ⟨0, _⟩ => ⟨S8x4096x1024, .f32⟩
  | .hbm, ⟨1, _⟩ => ⟨S32768x512, .bf16⟩
  | .hbm, ⟨2, _⟩ => ⟨S32768x512, .bf16⟩
  | .hbm, ⟨3, _⟩ => ⟨S32768x512, .bf16⟩
  | .hbm, ⟨4, _⟩ => ⟨S2x1024x5732, .f32⟩
  | .hbm, ⟨5, _⟩ => ⟨S2x3x1024, .f32⟩
  | .hbm, ⟨6, _⟩ => ⟨S2x3x512x1024, .f32⟩
  | .hbm, ⟨7, _⟩ => ⟨S2x1024x1024, .f32⟩
  | .hbm, ⟨8, _⟩ => ⟨S2x1024, .f32⟩
  | .hbm, ⟨9, _⟩ => ⟨S2x1024, .f32⟩
  | .hbm, ⟨10, _⟩ => ⟨S32768x512, .f32⟩
  | .hbm, ⟨11, _⟩ => ⟨S8x4096x512, .f32⟩
  | .hbm, ⟨12, _⟩ => ⟨S32768x512, .f32⟩
  | .hbm, ⟨13, _⟩ => ⟨S8x4096x512, .f32⟩
  | .hbm, ⟨14, _⟩ => ⟨S32768x512, .f32⟩
  | .hbm, ⟨15, _⟩ => ⟨S8x4096x512, .f32⟩
  | .hbm, ⟨16, _⟩ => ⟨S1x1024x3072, .f32⟩
  | .hbm, ⟨17, _⟩ => ⟨S1024x3072, .f32⟩
  | .hbm, ⟨18, _⟩ => ⟨S8x4096x3072, .f32⟩
  | .hbm, ⟨19, _⟩ => ⟨S8x4096x3x1024, .f32⟩
  | .hbm, ⟨20, _⟩ => ⟨S1x3x1024, .f32⟩
  | .hbm, ⟨21, _⟩ => ⟨S3x1024, .f32⟩
  | .hbm, ⟨22, _⟩ => ⟨S1x1x3x1024, .f32⟩
  | .hbm, ⟨23, _⟩ => ⟨S8x4096x3x1024, .f32⟩
  | .hbm, ⟨24, _⟩ => ⟨S8x4096x3x1024, .f32⟩
  | .hbm, ⟨25, _⟩ => ⟨S8x4096x3x1024, .f32⟩
  | .hbm, ⟨26, _⟩ => ⟨S8x4096x3x1024, .f32⟩
  | .hbm, ⟨27, _⟩ => ⟨S_, .f32⟩
  | .hbm, ⟨28, _⟩ => ⟨S8x4096x3x1024, .f32⟩
  | .hbm, ⟨29, _⟩ => ⟨S8x4096x3x1024, .f32⟩
  | .hbm, ⟨30, _⟩ => ⟨S_, .f32⟩
  | .hbm, ⟨31, _⟩ => ⟨S8x4096x3x1024, .f32⟩
  | .hbm, ⟨32, _⟩ => ⟨S8x4096x3x1024, .f32⟩
  | .hbm, ⟨33, _⟩ => ⟨S8x4096x1x1024, .f32⟩
  | .hbm, ⟨34, _⟩ => ⟨S8x4096x1024, .f32⟩
  | .hbm, ⟨35, _⟩ => ⟨S1x1x512x1024, .f32⟩
  | .hbm, ⟨36, _⟩ => ⟨S512x1024, .f32⟩
  | .hbm, ⟨37, _⟩ => ⟨S8x4096x1024, .f32⟩
  | .hbm, ⟨38, _⟩ => ⟨S8x4096x1024, .f32⟩
  | .hbm, ⟨39, _⟩ => ⟨S8x4096x1x1024, .f32⟩
  | .hbm, ⟨40, _⟩ => ⟨S8x4096x1024, .f32⟩
  | .hbm, ⟨41, _⟩ => ⟨S1x1x512x1024, .f32⟩
  | .hbm, ⟨42, _⟩ => ⟨S512x1024, .f32⟩
  | .hbm, ⟨43, _⟩ => ⟨S8x4096x1024, .f32⟩
  | .hbm, ⟨44, _⟩ => ⟨S8x4096x1024, .f32⟩
  | .hbm, ⟨45, _⟩ => ⟨S8x4096x1024, .f32⟩
  | .hbm, ⟨46, _⟩ => ⟨S8x4096x1x1024, .f32⟩
  | .hbm, ⟨47, _⟩ => ⟨S8x4096x1024, .f32⟩
  | .hbm, ⟨48, _⟩ => ⟨S1x1x512x1024, .f32⟩
  | .hbm, ⟨49, _⟩ => ⟨S512x1024, .f32⟩
  | .hbm, ⟨50, _⟩ => ⟨S8x4096x1024, .f32⟩
  | .hbm, ⟨51, _⟩ => ⟨S8x4096x1024, .f32⟩
  | .hbm, ⟨52, _⟩ => ⟨S8x4096x1024, .f32⟩
  | .hbm, ⟨53, _⟩ => ⟨S_, .f32⟩
  | .hbm, ⟨54, _⟩ => ⟨S8x4096x1024, .f32⟩
  | .hbm, ⟨55, _⟩ => ⟨S8x4096x1024, .f32⟩
  | .hbm, ⟨56, _⟩ => ⟨S1x1024x1024, .f32⟩
  | .hbm, ⟨57, _⟩ => ⟨S1024x1024, .f32⟩
  | .hbm, ⟨58, _⟩ => ⟨S8x4096x1024, .f32⟩
  | .hbm, ⟨59, _⟩ => ⟨S8x4096x1024, .f32⟩
  | .hbm, ⟨60, _⟩ => ⟨S1x1024, .f32⟩
  | .hbm, ⟨61, _⟩ => ⟨S1024, .f32⟩
  | .hbm, ⟨62, _⟩ => ⟨S1x1024, .f32⟩
  | .hbm, ⟨63, _⟩ => ⟨S1024, .f32⟩
  | .hbm, ⟨64, _⟩ => ⟨S_, .f32⟩
  | .hbm, ⟨65, _⟩ => ⟨S8x4096, .f32⟩
  | .hbm, ⟨66, _⟩ => ⟨S8x4096x1, .f32⟩
  | .hbm, ⟨67, _⟩ => ⟨S_, .f32⟩
  | .hbm, ⟨68, _⟩ => ⟨S8x4096x1, .f32⟩
  | .hbm, ⟨69, _⟩ => ⟨S8x4096x1, .f32⟩
  | .hbm, ⟨70, _⟩ => ⟨S8x4096x1024, .f32⟩
  | .hbm, ⟨71, _⟩ => ⟨S8x4096x1024, .f32⟩
  | .hbm, ⟨72, _⟩ => ⟨S8x4096x1024, .f32⟩
  | .hbm, ⟨73, _⟩ => ⟨S_, .f32⟩
  | .hbm, ⟨74, _⟩ => ⟨S8x4096, .f32⟩
  | .hbm, ⟨75, _⟩ => ⟨S8x4096x1, .f32⟩
  | .hbm, ⟨76, _⟩ => ⟨S_, .f32⟩
  | .hbm, ⟨77, _⟩ => ⟨S8x4096x1, .f32⟩
  | .hbm, ⟨78, _⟩ => ⟨S8x4096x1, .f32⟩
  | .hbm, ⟨79, _⟩ => ⟨S8x4096x1024, .f32⟩
  | .hbm, ⟨80, _⟩ => ⟨S8x4096x1024, .f32⟩
  | .hbm, ⟨81, _⟩ => ⟨S_, .f32⟩
  | .hbm, ⟨82, _⟩ => ⟨S8x4096x1, .f32⟩
  | .hbm, ⟨83, _⟩ => ⟨S8x4096x1, .f32⟩
  | .hbm, ⟨84, _⟩ => ⟨S8x4096x1, .f32⟩
  | .hbm, ⟨85, _⟩ => ⟨S8x4096x1024, .f32⟩
  | .hbm, ⟨86, _⟩ => ⟨S8x4096x1024, .f32⟩
  | .hbm, ⟨87, _⟩ => ⟨S1x1x1024, .f32⟩
  | .hbm, ⟨88, _⟩ => ⟨S8x4096x1024, .f32⟩
  | .hbm, ⟨89, _⟩ => ⟨S8x4096x1024, .f32⟩
  | .hbm, ⟨90, _⟩ => ⟨S1x1x1024, .f32⟩
  | .hbm, ⟨91, _⟩ => ⟨S8x4096x1024, .f32⟩
  | .hbm, ⟨92, _⟩ => ⟨S8x4096x1024, .f32⟩
  | .hbm, ⟨93, _⟩ => ⟨S32768x1024, .f32⟩
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst : Ref sig .tc := ⟨.hbm, 27, rfl⟩
abbrev main_v17 : Ref sig .tc := ⟨.hbm, 28, rfl⟩
abbrev main_v18 : Ref sig .tc := ⟨.hbm, 29, rfl⟩
abbrev main_cst_0 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_cst_1 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_cst_2 : Ref sig .tc := ⟨.hbm, 64, rfl⟩
abbrev main_v51 : Ref sig .tc := ⟨.hbm, 65, rfl⟩
abbrev main_v52 : Ref sig .tc := ⟨.hbm, 66, rfl⟩
abbrev main_cst_3 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_cst_4 : Ref sig .tc := ⟨.hbm, 73, rfl⟩
abbrev main_v58 : Ref sig .tc := ⟨.hbm, 74, rfl⟩
abbrev main_v59 : Ref sig .tc := ⟨.hbm, 75, rfl⟩
abbrev main_cst_5 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_cst_6 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩
abbrev main_v69 : Ref sig .tc := ⟨.hbm, 87, rfl⟩
abbrev main_v70 : Ref sig .tc := ⟨.hbm, 88, rfl⟩
abbrev main_v71 : Ref sig .tc := ⟨.hbm, 89, rfl⟩
abbrev main_v72 : Ref sig .tc := ⟨.hbm, 90, rfl⟩
abbrev main_v73 : Ref sig .tc := ⟨.hbm, 91, rfl⟩
abbrev main_v74 : Ref sig .tc := ⟨.hbm, 92, rfl⟩
abbrev main_v75 : Ref sig .tc := ⟨.hbm, 93, rfl⟩

abbrev nD : Nat := 1
abbrev τ : Topo := Topo.v7x

variable {F : FTy → Type} [FloatOps F]
-- ==== Kernel4.lean ====
abbrev S8x4096x8x96 : Shape := ⟨4, ![8, 4096, 8, 96]⟩
abbrev S8x4096x8x64 : Shape := ⟨4, ![8, 4096, 8, 64]⟩
abbrev S_ : Shape := ⟨0, ![]⟩
abbrev S64x512x512 : Shape := ⟨3, ![64, 512, 512]⟩
abbrev S8x4096x8x128 : Shape := ⟨4, ![8, 4096, 8, 128]⟩
abbrev S32768x1024 : Shape := ⟨2, ![32768, 1024]⟩
abbrev S32768x512 : Shape := ⟨2, ![32768, 512]⟩
abbrev S512x512 : Shape := ⟨2, ![512, 512]⟩
abbrev S4096x512 : Shape := ⟨2, ![4096, 512]⟩
abbrev S8x256x512 : Shape := ⟨3, ![8, 256, 512]⟩
abbrev S512x256 : Shape := ⟨2, ![512, 256]⟩
abbrev S4x1x512 : Shape := ⟨3, ![4, 1, 512]⟩
abbrev S4x80x512 : Shape := ⟨3, ![4, 80, 512]⟩
abbrev S4x512x512 : Shape := ⟨3, ![4, 512, 512]⟩
abbrev S16x512 : Shape := ⟨2, ![16, 512]⟩
abbrev S512x128 : Shape := ⟨2, ![512, 128]⟩
abbrev S1x512x512 : Shape := ⟨3, ![1, 512, 512]⟩
abbrev S1x64x512 : Shape := ⟨3, ![1, 64, 512]⟩
abbrev S64x512 : Shape := ⟨2, ![64, 512]⟩
abbrev S80x512 : Shape := ⟨2, ![80, 512]⟩
abbrev S1x1x512 : Shape := ⟨3, ![1, 1, 512]⟩
abbrev S1x512 : Shape := ⟨2, ![1, 512]⟩
abbrev S512 : Shape := ⟨1, ![512]⟩
abbrev S1x80x512 : Shape := ⟨3, ![1, 80, 512]⟩
abbrev S256x512 : Shape := ⟨2, ![256, 512]⟩

abbrev nBuf : Space → Nat
  | .hbm => 23
  | .vmem => 12
  | .smem => 0
  | _ => 0

abbrev bufTy : (tb : Table) → Fin (tcTables nBuf tb) → BufTy
  | .hbm, ⟨0, _⟩ => ⟨S8x4096x8x96, .f32⟩
  | .hbm, ⟨1, _⟩ => ⟨S8x4096x8x96, .f32⟩
  | .hbm, ⟨2, _⟩ => ⟨S8x4096x8x64, .f32⟩
  | .hbm, ⟨3, _⟩ => ⟨S_, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S64x512x512, .f32⟩
  | .hbm, ⟨8, _⟩ => ⟨S64x512x512, .f32⟩
  | .hbm, ⟨9, _⟩ => ⟨S64x512x512, .bf16⟩
  | .hbm, ⟨10, _⟩ => ⟨S8x4096x8x96, .f32⟩
  | .hbm, ⟨11, _⟩ => ⟨S8x4096x8x96, .f32⟩
  | .hbm, ⟨12, _⟩ => ⟨S_, .i32⟩
  | .hbm, ⟨13, _⟩ => ⟨S_, .f32⟩
  | .hbm, ⟨14, _⟩ => ⟨S8x4096x8x128, .f32⟩
  | .hbm, ⟨15, _⟩ => ⟨S32768x1024, .f32⟩
  | .hbm, ⟨16, _⟩ => ⟨S32768x1024, .bf16⟩
  | .hbm, ⟨17, _⟩ => ⟨S_, .i32⟩
  | .hbm, ⟨18, _⟩ => ⟨S_, .f32⟩
  | .hbm, ⟨19, _⟩ => ⟨S8x4096x8x128, .f32⟩
  | .hbm, ⟨20, _⟩ => ⟨S32768x1024, .f32⟩
  | .hbm, ⟨21, _⟩ => ⟨S32768x1024, .bf16⟩
  | .hbm, ⟨22, _⟩ => ⟨S32768x512, .bf16⟩
  | .local _ .vmem, ⟨0, _⟩ => ⟨S512x512, .bf16⟩
  | .local _ .vmem, ⟨1, _⟩ => ⟨S512x512, .bf16⟩
  | .local _ .vmem, ⟨2, _⟩ => ⟨S4096x512, .bf16⟩
  | .local _ .vmem, ⟨3, _⟩ => ⟨S4096x512, .bf16⟩
  | .local _ .vmem, ⟨4, _⟩ => ⟨S8x256x512, .bf16⟩
  | .local _ .vmem, ⟨5, _⟩ => ⟨S8x256x512, .bf16⟩
  | .local _ .vmem, ⟨6, _⟩ => ⟨S512x256, .bf16⟩
  | .local _ .vmem, ⟨7, _⟩ => ⟨S512x256, .bf16⟩
  | .local _ .vmem, ⟨8, _⟩ => ⟨S4x1x512, .f32⟩
  | .local _ .vmem, ⟨9, _⟩ => ⟨S4x80x512, .f32⟩
  | .local _ .vmem, ⟨10, _⟩ => ⟨S4x512x512, .f32⟩
  | .local _ .vmem, ⟨11, _⟩ => ⟨S4x512x512, .f32⟩
  | _, _ => ⟨S8x4096x8x96, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_cst_0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_c : Ref sig .tc := ⟨.hbm, 12, rfl⟩
abbrev main_call0_v0 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_c_1 : Ref sig .tc := ⟨.hbm, 17, rfl⟩
abbrev main_call1_v0 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_scratch3 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 2, 8], ![false, false, false]⟩

def k0_mult1 (i : grid0.Coords) : BitVec 32 :=
  let arg2 : BitVec 32 := BitVec.ofNat 32 (i 2).val
  let c512_i32 : BitVec 32 := 512#32
  let v11 : BitVec 32 := Scalar.muli arg2 c512_i32
  v11
def k0_off1 (i : grid0.Coords) : Fin 2 → Nat :=
  let arg2 : BitVec 32 := BitVec.ofNat 32 (i 2).val
  let c512_i32 : BitVec 32 := 512#32
  let v11 : BitVec 32 := Scalar.muli arg2 c512_i32
  let v12 : BitVec 32 := v11
  let v13 : Index := Scalar.indexCast v12
  let c0_7 : Index := 0#32
  ![v13.toNat, 0]
def k0_mult2 (i : grid0.Coords) : BitVec 32 :=
  let arg2 : BitVec 32 := BitVec.ofNat 32 (i 2).val
  let c512_i32_14 : BitVec 32 := 512#32
  let v22 : BitVec 32 := Scalar.muli arg2 c512_i32_14
  v22
def k0_off2 (i : grid0.Coords) : Fin 2 → Nat :=
  let arg2 : BitVec 32 := BitVec.ofNat 32 (i 2).val
  let c512_i32_14 : BitVec 32 := 512#32
  let v22 : BitVec 32 := Scalar.muli arg2 c512_i32_14
  let v23 : BitVec 32 := v22
  let v24 : Index := Scalar.indexCast v23
  let c128 : Index := 128#32
  ![v24.toNat, 128]
def k0_mult3 (i : grid0.Coords) : BitVec 32 :=
  let arg2 : BitVec 32 := BitVec.ofNat 32 (i 2).val
  let c512_i32_20 : BitVec 32 := 512#32
  let v33 : BitVec 32 := Scalar.muli arg2 c512_i32_20
  v33
def k0_off3 (i : grid0.Coords) : Fin 2 → Nat :=
  let arg2 : BitVec 32 := BitVec.ofNat 32 (i 2).val
  let c512_i32_20 : BitVec 32 := 512#32
  let v33 : BitVec 32 := Scalar.muli arg2 c512_i32_20
  let v34 : BitVec 32 := v33
  let v35 : Index := Scalar.indexCast v34
  let c256 : Index := 256#32
  ![v35.toNat, 256]
def k0_mult4 (i : grid0.Coords) : BitVec 32 :=
  let arg2 : BitVec 32 := BitVec.ofNat 32 (i 2).val
  let c512_i32_26 : BitVec 32 := 512#32
  let v44 : BitVec 32 := Scalar.muli arg2 c512_i32_26
  v44
def k0_off4 (i : grid0.Coords) : Fin 2 → Nat :=
  let arg2 : BitVec 32 := BitVec.ofNat 32 (i 2).val
  let c512_i32_26 : BitVec 32 := 512#32
  let v44 : BitVec 32 := Scalar.muli arg2 c512_i32_26
  let v45 : BitVec 32 := v44
  let v46 : Index := Scalar.indexCast v45
  let c384 : Index := 384#32
  ![v46.toNat, 384]
def k0_mult5 : BitVec 32 :=
  let c0_i32 : BitVec 32 := 0#32
  c0_i32
def k0_off5 (i : grid0.Coords) : Fin 3 → Nat :=
  let arg2 : BitVec 32 := BitVec.ofNat 32 (i 2).val
  let v65 : Index := Scalar.indexCast arg2
  let c0_39 : Index := 0#32
  let c0_40 : Index := 0#32
  ![v65.toNat, 0, 0]
def k0_mult6 : BitVec 32 :=
  let c0_i32_59 : BitVec 32 := 0#32
  c0_i32_59
def k0_off6 (i : grid0.Coords) : Fin 3 → Nat :=
  let arg2 : BitVec 32 := BitVec.ofNat 32 (i 2).val
  let v107 : Index := Scalar.indexCast arg2
  let c64 : Index := 64#32
  let c0_67 : Index := 0#32
  ![v107.toNat, 64, 0]
def k0_mult7 : BitVec 32 :=
  let c0_i32_86 : BitVec 32 := 0#32
  c0_i32_86
def k0_off7 (i : grid0.Coords) : Fin 3 → Nat :=
  let arg2 : BitVec 32 := BitVec.ofNat 32 (i 2).val
  let v149 : Index := Scalar.indexCast arg2
  let c128_94 : Index := 128#32
  let c0_95 : Index := 0#32
  ![v149.toNat, 128, 0]
def k0_mult8 : BitVec 32 :=
  let c0_i32_114 : BitVec 32 := 0#32
  c0_i32_114
def k0_off8 (i : grid0.Coords) : Fin 3 → Nat :=
  let arg2 : BitVec 32 := BitVec.ofNat 32 (i 2).val
  let v191 : Index := Scalar.indexCast arg2
  let c192 : Index := 192#32
  let c0_122 : Index := 0#32
  ![v191.toNat, 192, 0]
@[reducible] def k0_t1_loop (i : grid0.Coords) : Scf.Loop 32 :=
  let c0_i32_147 : BitVec 32 := 0#32
  let arg2 : BitVec 32 := BitVec.ofNat 32 (i 2).val
  let c0_i32_141 : BitVec 32 := 0#32
  let v224 : BitVec 1 := Scalar.cmpi .sgt arg2 c0_i32_141
  let v225 : BitVec 32 := Scalar.extui v224
  let c0_i32_142 : BitVec 32 := 0#32
  let v226 : BitVec 1 := Scalar.cmpi .slt arg2 c0_i32_142
  let v227 : BitVec 32 := Scalar.extui v226
  let v228 : BitVec 32 := Scalar.subi v225 v227
  let c2_i32 : BitVec 32 := 2#32
  let c0_i32_143 : BitVec 32 := 0#32
  let v229 : BitVec 1 := Scalar.cmpi .sgt c2_i32 c0_i32_143
  let v230 : BitVec 32 := Scalar.extui v229
  let c0_i32_144 : BitVec 32 := 0#32
  let v231 : BitVec 1 := Scalar.cmpi .slt c2_i32 c0_i32_144
  let v232 : BitVec 32 := Scalar.extui v231
  let v233 : BitVec 32 := Scalar.subi v230 v232
  let v234 : BitVec 1 := Scalar.cmpi .ne v228 v233
  let v235 : BitVec 32 := Scalar.remsi arg2 c2_i32
  let c0_i32_145 : BitVec 32 := 0#32
  let v236 : BitVec 1 := Scalar.cmpi .ne v235 c0_i32_145
  let v237 : BitVec 1 := Scalar.andi v234 v236
  let v223 : BitVec 32 := Scalar.divsi arg2 c2_i32
  let c1_i32 : BitVec 32 := 1#32
  let v238 : BitVec 32 := Scalar.subi v223 c1_i32
  let v239 : BitVec 32 := Scalar.select v237 v238 v223
  let v240 : BitVec 32 := Scalar.subi v239 c0_i32_147
  let c1_i32_148 : BitVec 32 := 1#32
  let v242 : BitVec 32 := Scalar.divsi v240 c1_i32_148
  let v243 : BitVec 32 := Scalar.muli v242 c1_i32_148
  let v244 : BitVec 32 := Scalar.addi c0_i32_147 v243
  let c1_i32_149 : BitVec 32 := 1#32
  ⟨c0_i32_147, v244, c1_i32_149⟩
def k0_mult9 (i : grid0.Coords) (k0_t1 : Fin (k0_t1_loop i).trips) : BitVec 32 :=
  let c2_i32_186 : BitVec 32 := 2#32
  let c0_i32_147 : BitVec 32 := 0#32
  let c1_i32_149 : BitVec 32 := 1#32
  let arg11 : BitVec 32 := Scf.iv c0_i32_147 c1_i32_149 k0_t1
  let v287 : BitVec 32 := Scalar.muli c2_i32_186 arg11
  let c1_i32_187 : BitVec 32 := 1#32
  let v288 : BitVec 32 := Scalar.addi v287 c1_i32_187
  let c512_i32_188 : BitVec 32 := 512#32
  let v289 : BitVec 32 := Scalar.muli v288 c512_i32_188
  v289
def k0_off9 (i : grid0.Coords) (k0_t1 : Fin (k0_t1_loop i).trips) (c1_i32_187 : BitVec 32) : Fin 2 → Nat :=
  let c2_i32_186 : BitVec 32 := 2#32
  let c0_i32_147 : BitVec 32 := 0#32
  let c1_i32_149 : BitVec 32 := 1#32
  let arg11 : BitVec 32 := Scf.iv c0_i32_147 c1_i32_149 k0_t1
  let v287 : BitVec 32 := Scalar.muli c2_i32_186 arg11
  let v288 : BitVec 32 := Scalar.addi v287 c1_i32_187
  let c512_i32_188 : BitVec 32 := 512#32
  let v289 : BitVec 32 := Scalar.muli v288 c512_i32_188
  let v290 : BitVec 32 := v289
  let v291 : Index := Scalar.indexCast v290
  let c0_189 : Index := 0#32
  ![v291.toNat, 0]
def k0_off10 (i : grid0.Coords) (k0_t1 : Fin (k0_t1_loop i).trips) : Fin 3 → Nat :=
  let c2_i32_185 : BitVec 32 := 2#32
  let c0_i32_147 : BitVec 32 := 0#32
  let c1_i32_149 : BitVec 32 := 1#32
  let arg11 : BitVec 32 := Scf.iv c0_i32_147 c1_i32_149 k0_t1
  let v286 : BitVec 32 := Scalar.muli c2_i32_185 arg11
  let v300 : Index := Scalar.indexCast v286
  let c0_196 : Index := 0#32
  let c0_197 : Index := 0#32
  ![v300.toNat, 0, 0]
def k0_mult10 (i : grid0.Coords) (k0_t1 : Fin (k0_t1_loop i).trips) : BitVec 32 :=
  let c2_i32_186 : BitVec 32 := 2#32
  let c0_i32_147 : BitVec 32 := 0#32
  let c1_i32_149 : BitVec 32 := 1#32
  let arg11 : BitVec 32 := Scf.iv c0_i32_147 c1_i32_149 k0_t1
  let v287 : BitVec 32 := Scalar.muli c2_i32_186 arg11
  let c1_i32_187 : BitVec 32 := 1#32
  let v288 : BitVec 32 := Scalar.addi v287 c1_i32_187
  let c512_i32_215 : BitVec 32 := 512#32
  let v329 : BitVec 32 := Scalar.muli v288 c512_i32_215
  v329
def k0_off11 (i : grid0.Coords) (k0_t1 : Fin (k0_t1_loop i).trips) (c1_i32_187 : BitVec 32) : Fin 2 → Nat :=
  let c2_i32_186 : BitVec 32 := 2#32
  let c0_i32_147 : BitVec 32 := 0#32
  let c1_i32_149 : BitVec 32 := 1#32
  let arg11 : BitVec 32 := Scf.iv c0_i32_147 c1_i32_149 k0_t1
  let v287 : BitVec 32 := Scalar.muli c2_i32_186 arg11
  let v288 : BitVec 32 := Scalar.addi v287 c1_i32_187
  let c512_i32_215 : BitVec 32 := 512#32
  let v329 : BitVec 32 := Scalar.muli v288 c512_i32_215
  let v330 : BitVec 32 := v329
  let v331 : Index := Scalar.indexCast v330
  let c128_216 : Index := 128#32
  ![v331.toNat, 128]
def k0_off12 (i : grid0.Coords) (k0_t1 : Fin (k0_t1_loop i).trips) : Fin 3 → Nat :=
  let c2_i32_185 : BitVec 32 := 2#32
  let c0_i32_147 : BitVec 32 := 0#32
  let c1_i32_149 : BitVec 32 := 1#32
  let arg11 : BitVec 32 := Scf.iv c0_i32_147 c1_i32_149 k0_t1
  let v286 : BitVec 32 := Scalar.muli c2_i32_185 arg11
  let v340 : Index := Scalar.indexCast v286
  let c64_223 : Index := 64#32
  let c0_224 : Index := 0#32
  ![v340.toNat, 64, 0]
def k0_mult11 (i : grid0.Coords) (k0_t1 : Fin (k0_t1_loop i).trips) : BitVec 32 :=
  let c2_i32_186 : BitVec 32 := 2#32
  let c0_i32_147 : BitVec 32 := 0#32
  let c1_i32_149 : BitVec 32 := 1#32
  let arg11 : BitVec 32 := Scf.iv c0_i32_147 c1_i32_149 k0_t1
  let v287 : BitVec 32 := Scalar.muli c2_i32_186 arg11
  let c1_i32_187 : BitVec 32 := 1#32
  let v288 : BitVec 32 := Scalar.addi v287 c1_i32_187
  let c512_i32_242 : BitVec 32 := 512#32
  let v369 : BitVec 32 := Scalar.muli v288 c512_i32_242
  v369
def k0_off13 (i : grid0.Coords) (k0_t1 : Fin (k0_t1_loop i).trips) (c1_i32_187 : BitVec 32) : Fin 2 → Nat :=
  let c2_i32_186 : BitVec 32 := 2#32
  let c0_i32_147 : BitVec 32 := 0#32
  let c1_i32_149 : BitVec 32 := 1#32
  let arg11 : BitVec 32 := Scf.iv c0_i32_147 c1_i32_149 k0_t1
  let v287 : BitVec 32 := Scalar.muli c2_i32_186 arg11
  let v288 : BitVec 32 := Scalar.addi v287 c1_i32_187
  let c512_i32_242 : BitVec 32 := 512#32
  let v369 : BitVec 32 := Scalar.muli v288 c512_i32_242
  let v370 : BitVec 32 := v369
  let v371 : Index := Scalar.indexCast v370
  let c256_243 : Index := 256#32
  ![v371.toNat, 256]
def k0_off14 (i : grid0.Coords) (k0_t1 : Fin (k0_t1_loop i).trips) : Fin 3 → Nat :=
  let c2_i32_185 : BitVec 32 := 2#32
  let c0_i32_147 : BitVec 32 := 0#32
  let c1_i32_149 : BitVec 32 := 1#32
  let arg11 : BitVec 32 := Scf.iv c0_i32_147 c1_i32_149 k0_t1
  let v286 : BitVec 32 := Scalar.muli c2_i32_185 arg11
  let v380 : Index := Scalar.indexCast v286
  let c128_250 : Index := 128#32
  let c0_251 : Index := 0#32
  ![v380.toNat, 128, 0]
def k0_mult12 (i : grid0.Coords) (k0_t1 : Fin (k0_t1_loop i).trips) : BitVec 32 :=
  let c2_i32_186 : BitVec 32 := 2#32
  let c0_i32_147 : BitVec 32 := 0#32
  let c1_i32_149 : BitVec 32 := 1#32
  let arg11 : BitVec 32 := Scf.iv c0_i32_147 c1_i32_149 k0_t1
  let v287 : BitVec 32 := Scalar.muli c2_i32_186 arg11
  let c1_i32_187 : BitVec 32 := 1#32
  let v288 : BitVec 32 := Scalar.addi v287 c1_i32_187
  let c512_i32_269 : BitVec 32 := 512#32
  let v409 : BitVec 32 := Scalar.muli v288 c512_i32_269
  v409
def k0_off15 (i : grid0.Coords) (k0_t1 : Fin (k0_t1_loop i).trips) (c1_i32_187 : BitVec 32) : Fin 2 → Nat :=
  let c2_i32_186 : BitVec 32 := 2#32
  let c0_i32_147 : BitVec 32 := 0#32
  let c1_i32_149 : BitVec 32 := 1#32
  let arg11 : BitVec 32 := Scf.iv c0_i32_147 c1_i32_149 k0_t1
  let v287 : BitVec 32 := Scalar.muli c2_i32_186 arg11
  let v288 : BitVec 32 := Scalar.addi v287 c1_i32_187
  let c512_i32_269 : BitVec 32 := 512#32
  let v409 : BitVec 32 := Scalar.muli v288 c512_i32_269
  let v410 : BitVec 32 := v409
  let v411 : Index := Scalar.indexCast v410
  let c384_270 : Index := 384#32
  ![v411.toNat, 384]
def k0_off16 (i : grid0.Coords) (k0_t1 : Fin (k0_t1_loop i).trips) : Fin 3 → Nat :=
  let c2_i32_185 : BitVec 32 := 2#32
  let c0_i32_147 : BitVec 32 := 0#32
  let c1_i32_149 : BitVec 32 := 1#32
  let arg11 : BitVec 32 := Scf.iv c0_i32_147 c1_i32_149 k0_t1
  let v286 : BitVec 32 := Scalar.muli c2_i32_185 arg11
  let v420 : Index := Scalar.indexCast v286
  let c192_277 : Index := 192#32
  let c0_278 : Index := 0#32
  ![v420.toNat, 192, 0]
def k0_mult13 (i : grid0.Coords) (k0_t1 : Fin (k0_t1_loop i).trips) : BitVec 32 :=
  let c2_i32_298 : BitVec 32 := 2#32
  let c0_i32_147 : BitVec 32 := 0#32
  let c1_i32_149 : BitVec 32 := 1#32
  let arg11 : BitVec 32 := Scf.iv c0_i32_147 c1_i32_149 k0_t1
  let v451 : BitVec 32 := Scalar.muli c2_i32_298 arg11
  let c2_i32_299 : BitVec 32 := 2#32
  let v452 : BitVec 32 := Scalar.addi v451 c2_i32_299
  let c512_i32_300 : BitVec 32 := 512#32
  let v453 : BitVec 32 := Scalar.muli v452 c512_i32_300
  v453
def k0_off17 (i : grid0.Coords) (k0_t1 : Fin (k0_t1_loop i).trips) : Fin 3 → Nat :=
  let c2_i32_296 : BitVec 32 := 2#32
  let c0_i32_147 : BitVec 32 := 0#32
  let c1_i32_149 : BitVec 32 := 1#32
  let arg11 : BitVec 32 := Scf.iv c0_i32_147 c1_i32_149 k0_t1
  let v449 : BitVec 32 := Scalar.muli c2_i32_296 arg11
  let c1_i32_297 : BitVec 32 := 1#32
  let v450 : BitVec 32 := Scalar.addi v449 c1_i32_297
  let v464 : Index := Scalar.indexCast v450
  let c0_308 : Index := 0#32
  let c0_309 : Index := 0#32
  ![v464.toNat, 0, 0]
def k0_mult14 (i : grid0.Coords) (k0_t1 : Fin (k0_t1_loop i).trips) : BitVec 32 :=
  let c2_i32_298 : BitVec 32 := 2#32
  let c0_i32_147 : BitVec 32 := 0#32
  let c1_i32_149 : BitVec 32 := 1#32
  let arg11 : BitVec 32 := Scf.iv c0_i32_147 c1_i32_149 k0_t1
  let v451 : BitVec 32 := Scalar.muli c2_i32_298 arg11
  let c2_i32_299 : BitVec 32 := 2#32
  let v452 : BitVec 32 := Scalar.addi v451 c2_i32_299
  let c512_i32_327 : BitVec 32 := 512#32
  let v493 : BitVec 32 := Scalar.muli v452 c512_i32_327
  v493
def k0_off18 (i : grid0.Coords) (k0_t1 : Fin (k0_t1_loop i).trips) : Fin 3 → Nat :=
  let c2_i32_296 : BitVec 32 := 2#32
  let c0_i32_147 : BitVec 32 := 0#32
  let c1_i32_149 : BitVec 32 := 1#32
  let arg11 : BitVec 32 := Scf.iv c0_i32_147 c1_i32_149 k0_t1
  let v449 : BitVec 32 := Scalar.muli c2_i32_296 arg11
  let c1_i32_297 : BitVec 32 := 1#32
  let v450 : BitVec 32 := Scalar.addi v449 c1_i32_297
  let v504 : Index := Scalar.indexCast v450
  let c64_335 : Index := 64#32
  let c0_336 : Index := 0#32
  ![v504.toNat, 64, 0]
def k0_mult15 (i : grid0.Coords) (k0_t1 : Fin (k0_t1_loop i).trips) : BitVec 32 :=
  let c2_i32_298 : BitVec 32 := 2#32
  let c0_i32_147 : BitVec 32 := 0#32
  let c1_i32_149 : BitVec 32 := 1#32
  let arg11 : BitVec 32 := Scf.iv c0_i32_147 c1_i32_149 k0_t1
  let v451 : BitVec 32 := Scalar.muli c2_i32_298 arg11
  let c2_i32_299 : BitVec 32 := 2#32
  let v452 : BitVec 32 := Scalar.addi v451 c2_i32_299
  let c512_i32_354 : BitVec 32 := 512#32
  let v533 : BitVec 32 := Scalar.muli v452 c512_i32_354
  v533
def k0_off19 (i : grid0.Coords) (k0_t1 : Fin (k0_t1_loop i).trips) : Fin 3 → Nat :=
  let c2_i32_296 : BitVec 32 := 2#32
  let c0_i32_147 : BitVec 32 := 0#32
  let c1_i32_149 : BitVec 32 := 1#32
  let arg11 : BitVec 32 := Scf.iv c0_i32_147 c1_i32_149 k0_t1
  let v449 : BitVec 32 := Scalar.muli c2_i32_296 arg11
  let c1_i32_297 : BitVec 32 := 1#32
  let v450 : BitVec 32 := Scalar.addi v449 c1_i32_297
  let v544 : Index := Scalar.indexCast v450
  let c128_362 : Index := 128#32
  let c0_363 : Index := 0#32
  ![v544.toNat, 128, 0]
def k0_mult16 (i : grid0.Coords) (k0_t1 : Fin (k0_t1_loop i).trips) : BitVec 32 :=
  let c2_i32_298 : BitVec 32 := 2#32
  let c0_i32_147 : BitVec 32 := 0#32
  let c1_i32_149 : BitVec 32 := 1#32
  let arg11 : BitVec 32 := Scf.iv c0_i32_147 c1_i32_149 k0_t1
  let v451 : BitVec 32 := Scalar.muli c2_i32_298 arg11
  let c2_i32_299 : BitVec 32 := 2#32
  let v452 : BitVec 32 := Scalar.addi v451 c2_i32_299
  let c512_i32_381 : BitVec 32 := 512#32
  let v573 : BitVec 32 := Scalar.muli v452 c512_i32_381
  v573
def k0_off20 (i : grid0.Coords) (k0_t1 : Fin (k0_t1_loop i).trips) : Fin 3 → Nat :=
  let c2_i32_296 : BitVec 32 := 2#32
  let c0_i32_147 : BitVec 32 := 0#32
  let c1_i32_149 : BitVec 32 := 1#32
  let arg11 : BitVec 32 := Scf.iv c0_i32_147 c1_i32_149 k0_t1
  let v449 : BitVec 32 := Scalar.muli c2_i32_296 arg11
  let c1_i32_297 : BitVec 32 := 1#32
  let v450 : BitVec 32 := Scalar.addi v449 c1_i32_297
  let v584 : Index := Scalar.indexCast v450
  let c192_389 : Index := 192#32
  let c0_390 : Index := 0#32
  ![v584.toNat, 192, 0]
@[reducible] def k0_t2_loop (i : grid0.Coords) : Scf.Loop 32 :=
  let c0_i32_147 : BitVec 32 := 0#32
  let arg2 : BitVec 32 := BitVec.ofNat 32 (i 2).val
  let c0_i32_141 : BitVec 32 := 0#32
  let v224 : BitVec 1 := Scalar.cmpi .sgt arg2 c0_i32_141
  let v225 : BitVec 32 := Scalar.extui v224
  let c0_i32_142 : BitVec 32 := 0#32
  let v226 : BitVec 1 := Scalar.cmpi .slt arg2 c0_i32_142
  let v227 : BitVec 32 := Scalar.extui v226
  let v228 : BitVec 32 := Scalar.subi v225 v227
  let c2_i32 : BitVec 32 := 2#32
  let c0_i32_143 : BitVec 32 := 0#32
  let v229 : BitVec 1 := Scalar.cmpi .sgt c2_i32 c0_i32_143
  let v230 : BitVec 32 := Scalar.extui v229
  let c0_i32_144 : BitVec 32 := 0#32
  let v231 : BitVec 1 := Scalar.cmpi .slt c2_i32 c0_i32_144
  let v232 : BitVec 32 := Scalar.extui v231
  let v233 : BitVec 32 := Scalar.subi v230 v232
  let v234 : BitVec 1 := Scalar.cmpi .ne v228 v233
  let v235 : BitVec 32 := Scalar.remsi arg2 c2_i32
  let c0_i32_145 : BitVec 32 := 0#32
  let v236 : BitVec 1 := Scalar.cmpi .ne v235 c0_i32_145
  let v237 : BitVec 1 := Scalar.andi v234 v236
  let v223 : BitVec 32 := Scalar.divsi arg2 c2_i32
  let c1_i32 : BitVec 32 := 1#32
  let v238 : BitVec 32 := Scalar.subi v223 c1_i32
  let v239 : BitVec 32 := Scalar.select v237 v238 v223
  let v240 : BitVec 32 := Scalar.subi v239 c0_i32_147
  let c1_i32_148 : BitVec 32 := 1#32
  let v242 : BitVec 32 := Scalar.divsi v240 c1_i32_148
  let v243 : BitVec 32 := Scalar.muli v242 c1_i32_148
  let v244 : BitVec 32 := Scalar.addi c0_i32_147 v243
  let v241 : BitVec 32 := Scalar.addi c0_i32_147 v240
  let c1_i32_150 : BitVec 32 := 1#32
  ⟨v244, v241, c1_i32_150⟩
def k0_mult17 (i : grid0.Coords) (k0_t2 : Fin (k0_t2_loop i).trips) : BitVec 32 :=
  let c2_i32_186 : BitVec 32 := 2#32
  let c0_i32_147 : BitVec 32 := 0#32
  let arg2 : BitVec 32 := BitVec.ofNat 32 (i 2).val
  let c0_i32_141 : BitVec 32 := 0#32
  let v224 : BitVec 1 := Scalar.cmpi .sgt arg2 c0_i32_141
  let v225 : BitVec 32 := Scalar.extui v224
  let c0_i32_142 : BitVec 32 := 0#32
  let v226 : BitVec 1 := Scalar.cmpi .slt arg2 c0_i32_142
  let v227 : BitVec 32 := Scalar.extui v226
  let v228 : BitVec 32 := Scalar.subi v225 v227
  let c2_i32 : BitVec 32 := 2#32
  let c0_i32_143 : BitVec 32 := 0#32
  let v229 : BitVec 1 := Scalar.cmpi .sgt c2_i32 c0_i32_143
  let v230 : BitVec 32 := Scalar.extui v229
  let c0_i32_144 : BitVec 32 := 0#32
  let v231 : BitVec 1 := Scalar.cmpi .slt c2_i32 c0_i32_144
  let v232 : BitVec 32 := Scalar.extui v231
  let v233 : BitVec 32 := Scalar.subi v230 v232
  let v234 : BitVec 1 := Scalar.cmpi .ne v228 v233
  let v235 : BitVec 32 := Scalar.remsi arg2 c2_i32
  let c0_i32_145 : BitVec 32 := 0#32
  let v236 : BitVec 1 := Scalar.cmpi .ne v235 c0_i32_145
  let v237 : BitVec 1 := Scalar.andi v234 v236
  let v223 : BitVec 32 := Scalar.divsi arg2 c2_i32
  let c1_i32 : BitVec 32 := 1#32
  let v238 : BitVec 32 := Scalar.subi v223 c1_i32
  let v239 : BitVec 32 := Scalar.select v237 v238 v223
  let v240 : BitVec 32 := Scalar.subi v239 c0_i32_147
  let c1_i32_148 : BitVec 32 := 1#32
  let v242 : BitVec 32 := Scalar.divsi v240 c1_i32_148
  let v243 : BitVec 32 := Scalar.muli v242 c1_i32_148
  let v244 : BitVec 32 := Scalar.addi c0_i32_147 v243
  let c1_i32_150 : BitVec 32 := 1#32
  let arg11 : BitVec 32 := Scf.iv v244 c1_i32_150 k0_t2
  let v287 : BitVec 32 := Scalar.muli c2_i32_186 arg11
  let c1_i32_187 : BitVec 32 := 1#32
  let v288 : BitVec 32 := Scalar.addi v287 c1_i32_187
  let c512_i32_188 : BitVec 32 := 512#32
  let v289 : BitVec 32 := Scalar.muli v288 c512_i32_188
  v289
def k0_off21 (i : grid0.Coords) (k0_t2 : Fin (k0_t2_loop i).trips) (c1_i32_187 : BitVec 32) : Fin 2 → Nat :=
  let c2_i32_186 : BitVec 32 := 2#32
  let c0_i32_147 : BitVec 32 := 0#32
  let arg2 : BitVec 32 := BitVec.ofNat 32 (i 2).val
  let c0_i32_141 : BitVec 32 := 0#32
  let v224 : BitVec 1 := Scalar.cmpi .sgt arg2 c0_i32_141
  let v225 : BitVec 32 := Scalar.extui v224
  let c0_i32_142 : BitVec 32 := 0#32
  let v226 : BitVec 1 := Scalar.cmpi .slt arg2 c0_i32_142
  let v227 : BitVec 32 := Scalar.extui v226
  let v228 : BitVec 32 := Scalar.subi v225 v227
  let c2_i32 : BitVec 32 := 2#32
  let c0_i32_143 : BitVec 32 := 0#32
  let v229 : BitVec 1 := Scalar.cmpi .sgt c2_i32 c0_i32_143
  let v230 : BitVec 32 := Scalar.extui v229
  let c0_i32_144 : BitVec 32 := 0#32
  let v231 : BitVec 1 := Scalar.cmpi .slt c2_i32 c0_i32_144
  let v232 : BitVec 32 := Scalar.extui v231
  let v233 : BitVec 32 := Scalar.subi v230 v232
  let v234 : BitVec 1 := Scalar.cmpi .ne v228 v233
  let v235 : BitVec 32 := Scalar.remsi arg2 c2_i32
  let c0_i32_145 : BitVec 32 := 0#32
  let v236 : BitVec 1 := Scalar.cmpi .ne v235 c0_i32_145
  let v237 : BitVec 1 := Scalar.andi v234 v236
  let v223 : BitVec 32 := Scalar.divsi arg2 c2_i32
  let c1_i32 : BitVec 32 := 1#32
  let v238 : BitVec 32 := Scalar.subi v223 c1_i32
  let v239 : BitVec 32 := Scalar.select v237 v238 v223
  let v240 : BitVec 32 := Scalar.subi v239 c0_i32_147
  let c1_i32_148 : BitVec 32 := 1#32
  let v242 : BitVec 32 := Scalar.divsi v240 c1_i32_148
  let v243 : BitVec 32 := Scalar.muli v242 c1_i32_148
  let v244 : BitVec 32 := Scalar.addi c0_i32_147 v243
  let c1_i32_150 : BitVec 32 := 1#32
  let arg11 : BitVec 32 := Scf.iv v244 c1_i32_150 k0_t2
  let v287 : BitVec 32 := Scalar.muli c2_i32_186 arg11
  let v288 : BitVec 32 := Scalar.addi v287 c1_i32_187
  let c512_i32_188 : BitVec 32 := 512#32
  let v289 : BitVec 32 := Scalar.muli v288 c512_i32_188
  let v290 : BitVec 32 := v289
  let v291 : Index := Scalar.indexCast v290
  let c0_189 : Index := 0#32
  ![v291.toNat, 0]
def k0_off22 (i : grid0.Coords) (k0_t2 : Fin (k0_t2_loop i).trips) : Fin 3 → Nat :=
  let c2_i32_185 : BitVec 32 := 2#32
  let c0_i32_147 : BitVec 32 := 0#32
  let arg2 : BitVec 32 := BitVec.ofNat 32 (i 2).val
  let c0_i32_141 : BitVec 32 := 0#32
  let v224 : BitVec 1 := Scalar.cmpi .sgt arg2 c0_i32_141
  let v225 : BitVec 32 := Scalar.extui v224
  let c0_i32_142 : BitVec 32 := 0#32
  let v226 : BitVec 1 := Scalar.cmpi .slt arg2 c0_i32_142
  let v227 : BitVec 32 := Scalar.extui v226
  let v228 : BitVec 32 := Scalar.subi v225 v227
  let c2_i32 : BitVec 32 := 2#32
  let c0_i32_143 : BitVec 32 := 0#32
  let v229 : BitVec 1 := Scalar.cmpi .sgt c2_i32 c0_i32_143
  let v230 : BitVec 32 := Scalar.extui v229
  let c0_i32_144 : BitVec 32 := 0#32
  let v231 : BitVec 1 := Scalar.cmpi .slt c2_i32 c0_i32_144
  let v232 : BitVec 32 := Scalar.extui v231
  let v233 : BitVec 32 := Scalar.subi v230 v232
  let v234 : BitVec 1 := Scalar.cmpi .ne v228 v233
  let v235 : BitVec 32 := Scalar.remsi arg2 c2_i32
  let c0_i32_145 : BitVec 32 := 0#32
  let v236 : BitVec 1 := Scalar.cmpi .ne v235 c0_i32_145
  let v237 : BitVec 1 := Scalar.andi v234 v236
  let v223 : BitVec 32 := Scalar.divsi arg2 c2_i32
  let c1_i32 : BitVec 32 := 1#32
  let v238 : BitVec 32 := Scalar.subi v223 c1_i32
  let v239 : BitVec 32 := Scalar.select v237 v238 v223
  let v240 : BitVec 32 := Scalar.subi v239 c0_i32_147
  let c1_i32_148 : BitVec 32 := 1#32
  let v242 : BitVec 32 := Scalar.divsi v240 c1_i32_148
  let v243 : BitVec 32 := Scalar.muli v242 c1_i32_148
  let v244 : BitVec 32 := Scalar.addi c0_i32_147 v243
  let c1_i32_150 : BitVec 32 := 1#32
  let arg11 : BitVec 32 := Scf.iv v244 c1_i32_150 k0_t2
  let v286 : BitVec 32 := Scalar.muli c2_i32_185 arg11
  let v300 : Index := Scalar.indexCast v286
  let c0_196 : Index := 0#32
  let c0_197 : Index := 0#32
  ![v300.toNat, 0, 0]
def k0_mult18 (i : grid0.Coords) (k0_t2 : Fin (k0_t2_loop i).trips) : BitVec 32 :=
  let c2_i32_186 : BitVec 32 := 2#32
  let c0_i32_147 : BitVec 32 := 0#32
  let arg2 : BitVec 32 := BitVec.ofNat 32 (i 2).val
  let c0_i32_141 : BitVec 32 := 0#32
  let v224 : BitVec 1 := Scalar.cmpi .sgt arg2 c0_i32_141
  let v225 : BitVec 32 := Scalar.extui v224
  let c0_i32_142 : BitVec 32 := 0#32
  let v226 : BitVec 1 := Scalar.cmpi .slt arg2 c0_i32_142
  let v227 : BitVec 32 := Scalar.extui v226
  let v228 : BitVec 32 := Scalar.subi v225 v227
  let c2_i32 : BitVec 32 := 2#32
  let c0_i32_143 : BitVec 32 := 0#32
  let v229 : BitVec 1 := Scalar.cmpi .sgt c2_i32 c0_i32_143
  let v230 : BitVec 32 := Scalar.extui v229
  let c0_i32_144 : BitVec 32 := 0#32
  let v231 : BitVec 1 := Scalar.cmpi .slt c2_i32 c0_i32_144
  let v232 : BitVec 32 := Scalar.extui v231
  let v233 : BitVec 32 := Scalar.subi v230 v232
  let v234 : BitVec 1 := Scalar.cmpi .ne v228 v233
  let v235 : BitVec 32 := Scalar.remsi arg2 c2_i32
  let c0_i32_145 : BitVec 32 := 0#32
  let v236 : BitVec 1 := Scalar.cmpi .ne v235 c0_i32_145
  let v237 : BitVec 1 := Scalar.andi v234 v236
  let v223 : BitVec 32 := Scalar.divsi arg2 c2_i32
  let c1_i32 : BitVec 32 := 1#32
  let v238 : BitVec 32 := Scalar.subi v223 c1_i32
  let v239 : BitVec 32 := Scalar.select v237 v238 v223
  let v240 : BitVec 32 := Scalar.subi v239 c0_i32_147
  let c1_i32_148 : BitVec 32 := 1#32
  let v242 : BitVec 32 := Scalar.divsi v240 c1_i32_148
  let v243 : BitVec 32 := Scalar.muli v242 c1_i32_148
  let v244 : BitVec 32 := Scalar.addi c0_i32_147 v243
  let c1_i32_150 : BitVec 32 := 1#32
  let arg11 : BitVec 32 := Scf.iv v244 c1_i32_150 k0_t2
  let v287 : BitVec 32 := Scalar.muli c2_i32_186 arg11
  let c1_i32_187 : BitVec 32 := 1#32
  let v288 : BitVec 32 := Scalar.addi v287 c1_i32_187
  let c512_i32_215 : BitVec 32 := 512#32
  let v329 : BitVec 32 := Scalar.muli v288 c512_i32_215
  v329
def k0_off23 (i : grid0.Coords) (k0_t2 : Fin (k0_t2_loop i).trips) (c1_i32_187 : BitVec 32) : Fin 2 → Nat :=
  let c2_i32_186 : BitVec 32 := 2#32
  let c0_i32_147 : BitVec 32 := 0#32
  let arg2 : BitVec 32 := BitVec.ofNat 32 (i 2).val
  let c0_i32_141 : BitVec 32 := 0#32
  let v224 : BitVec 1 := Scalar.cmpi .sgt arg2 c0_i32_141
  let v225 : BitVec 32 := Scalar.extui v224
  let c0_i32_142 : BitVec 32 := 0#32
  let v226 : BitVec 1 := Scalar.cmpi .slt arg2 c0_i32_142
  let v227 : BitVec 32 := Scalar.extui v226
  let v228 : BitVec 32 := Scalar.subi v225 v227
  let c2_i32 : BitVec 32 := 2#32
  let c0_i32_143 : BitVec 32 := 0#32
  let v229 : BitVec 1 := Scalar.cmpi .sgt c2_i32 c0_i32_143
  let v230 : BitVec 32 := Scalar.extui v229
  let c0_i32_144 : BitVec 32 := 0#32
  let v231 : BitVec 1 := Scalar.cmpi .slt c2_i32 c0_i32_144
  let v232 : BitVec 32 := Scalar.extui v231
  let v233 : BitVec 32 := Scalar.subi v230 v232
  let v234 : BitVec 1 := Scalar.cmpi .ne v228 v233
  let v235 : BitVec 32 := Scalar.remsi arg2 c2_i32
  let c0_i32_145 : BitVec 32 := 0#32
  let v236 : BitVec 1 := Scalar.cmpi .ne v235 c0_i32_145
  let v237 : BitVec 1 := Scalar.andi v234 v236
  let v223 : BitVec 32 := Scalar.divsi arg2 c2_i32
  let c1_i32 : BitVec 32 := 1#32
  let v238 : BitVec 32 := Scalar.subi v223 c1_i32
  let v239 : BitVec 32 := Scalar.select v237 v238 v223
  let v240 : BitVec 32 := Scalar.subi v239 c0_i32_147
  let c1_i32_148 : BitVec 32 := 1#32
  let v242 : BitVec 32 := Scalar.divsi v240 c1_i32_148
  let v243 : BitVec 32 := Scalar.muli v242 c1_i32_148
  let v244 : BitVec 32 := Scalar.addi c0_i32_147 v243
  let c1_i32_150 : BitVec 32 := 1#32
  let arg11 : BitVec 32 := Scf.iv v244 c1_i32_150 k0_t2
  let v287 : BitVec 32 := Scalar.muli c2_i32_186 arg11
  let v288 : BitVec 32 := Scalar.addi v287 c1_i32_187
  let c512_i32_215 : BitVec 32 := 512#32
  let v329 : BitVec 32 := Scalar.muli v288 c512_i32_215
  let v330 : BitVec 32 := v329
  let v331 : Index := Scalar.indexCast v330
  let c128_216 : Index := 128#32
  ![v331.toNat, 128]
def k0_off24 (i : grid0.Coords) (k0_t2 : Fin (k0_t2_loop i).trips) : Fin 3 → Nat :=
  let c2_i32_185 : BitVec 32 := 2#32
  let c0_i32_147 : BitVec 32 := 0#32
  let arg2 : BitVec 32 := BitVec.ofNat 32 (i 2).val
  let c0_i32_141 : BitVec 32 := 0#32
  let v224 : BitVec 1 := Scalar.cmpi .sgt arg2 c0_i32_141
  let v225 : BitVec 32 := Scalar.extui v224
  let c0_i32_142 : BitVec 32 := 0#32
  let v226 : BitVec 1 := Scalar.cmpi .slt arg2 c0_i32_142
  let v227 : BitVec 32 := Scalar.extui v226
  let v228 : BitVec 32 := Scalar.subi v225 v227
  let c2_i32 : BitVec 32 := 2#32
  let c0_i32_143 : BitVec 32 := 0#32
  let v229 : BitVec 1 := Scalar.cmpi .sgt c2_i32 c0_i32_143
  let v230 : BitVec 32 := Scalar.extui v229
  let c0_i32_144 : BitVec 32 := 0#32
  let v231 : BitVec 1 := Scalar.cmpi .slt c2_i32 c0_i32_144
  let v232 : BitVec 32 := Scalar.extui v231
  let v233 : BitVec 32 := Scalar.subi v230 v232
  let v234 : BitVec 1 := Scalar.cmpi .ne v228 v233
  let v235 : BitVec 32 := Scalar.remsi arg2 c2_i32
  let c0_i32_145 : BitVec 32 := 0#32
  let v236 : BitVec 1 := Scalar.cmpi .ne v235 c0_i32_145
  let v237 : BitVec 1 := Scalar.andi v234 v236
  let v223 : BitVec 32 := Scalar.divsi arg2 c2_i32
  let c1_i32 : BitVec 32 := 1#32
  let v238 : BitVec 32 := Scalar.subi v223 c1_i32
  let v239 : BitVec 32 := Scalar.select v237 v238 v223
  let v240 : BitVec 32 := Scalar.subi v239 c0_i32_147
  let c1_i32_148 : BitVec 32 := 1#32
  let v242 : BitVec 32 := Scalar.divsi v240 c1_i32_148
  let v243 : BitVec 32 := Scalar.muli v242 c1_i32_148
  let v244 : BitVec 32 := Scalar.addi c0_i32_147 v243
  let c1_i32_150 : BitVec 32 := 1#32
  let arg11 : BitVec 32 := Scf.iv v244 c1_i32_150 k0_t2
  let v286 : BitVec 32 := Scalar.muli c2_i32_185 arg11
  let v340 : Index := Scalar.indexCast v286
  let c64_223 : Index := 64#32
  let c0_224 : Index := 0#32
  ![v340.toNat, 64, 0]
def k0_mult19 (i : grid0.Coords) (k0_t2 : Fin (k0_t2_loop i).trips) : BitVec 32 :=
  let c2_i32_186 : BitVec 32 := 2#32
  let c0_i32_147 : BitVec 32 := 0#32
  let arg2 : BitVec 32 := BitVec.ofNat 32 (i 2).val
  let c0_i32_141 : BitVec 32 := 0#32
  let v224 : BitVec 1 := Scalar.cmpi .sgt arg2 c0_i32_141
  let v225 : BitVec 32 := Scalar.extui v224
  let c0_i32_142 : BitVec 32 := 0#32
  let v226 : BitVec 1 := Scalar.cmpi .slt arg2 c0_i32_142
  let v227 : BitVec 32 := Scalar.extui v226
  let v228 : BitVec 32 := Scalar.subi v225 v227
  let c2_i32 : BitVec 32 := 2#32
  let c0_i32_143 : BitVec 32 := 0#32
  let v229 : BitVec 1 := Scalar.cmpi .sgt c2_i32 c0_i32_143
  let v230 : BitVec 32 := Scalar.extui v229
  let c0_i32_144 : BitVec 32 := 0#32
  let v231 : BitVec 1 := Scalar.cmpi .slt c2_i32 c0_i32_144
  let v232 : BitVec 32 := Scalar.extui v231
  let v233 : BitVec 32 := Scalar.subi v230 v232
  let v234 : BitVec 1 := Scalar.cmpi .ne v228 v233
  let v235 : BitVec 32 := Scalar.remsi arg2 c2_i32
  let c0_i32_145 : BitVec 32 := 0#32
  let v236 : BitVec 1 := Scalar.cmpi .ne v235 c0_i32_145
  let v237 : BitVec 1 := Scalar.andi v234 v236
  let v223 : BitVec 32 := Scalar.divsi arg2 c2_i32
  let c1_i32 : BitVec 32 := 1#32
  let v238 : BitVec 32 := Scalar.subi v223 c1_i32
  let v239 : BitVec 32 := Scalar.select v237 v238 v223
  let v240 : BitVec 32 := Scalar.subi v239 c0_i32_147
  let c1_i32_148 : BitVec 32 := 1#32
  let v242 : BitVec 32 := Scalar.divsi v240 c1_i32_148
  let v243 : BitVec 32 := Scalar.muli v242 c1_i32_148
  let v244 : BitVec 32 := Scalar.addi c0_i32_147 v243
  let c1_i32_150 : BitVec 32 := 1#32
  let arg11 : BitVec 32 := Scf.iv v244 c1_i32_150 k0_t2
  let v287 : BitVec 32 := Scalar.muli c2_i32_186 arg11
  let c1_i32_187 : BitVec 32 := 1#32
  let v288 : BitVec 32 := Scalar.addi v287 c1_i32_187
  let c512_i32_242 : BitVec 32 := 512#32
  let v369 : BitVec 32 := Scalar.muli v288 c512_i32_242
  v369
def k0_off25 (i : grid0.Coords) (k0_t2 : Fin (k0_t2_loop i).trips) (c1_i32_187 : BitVec 32) : Fin 2 → Nat :=
  let c2_i32_186 : BitVec 32 := 2#32
  let c0_i32_147 : BitVec 32 := 0#32
  let arg2 : BitVec 32 := BitVec.ofNat 32 (i 2).val
  let c0_i32_141 : BitVec 32 := 0#32
  let v224 : BitVec 1 := Scalar.cmpi .sgt arg2 c0_i32_141
  let v225 : BitVec 32 := Scalar.extui v224
  let c0_i32_142 : BitVec 32 := 0#32
  let v226 : BitVec 1 := Scalar.cmpi .slt arg2 c0_i32_142
  let v227 : BitVec 32 := Scalar.extui v226
  let v228 : BitVec 32 := Scalar.subi v225 v227
  let c2_i32 : BitVec 32 := 2#32
  let c0_i32_143 : BitVec 32 := 0#32
  let v229 : BitVec 1 := Scalar.cmpi .sgt c2_i32 c0_i32_143
  let v230 : BitVec 32 := Scalar.extui v229
  let c0_i32_144 : BitVec 32 := 0#32
  let v231 : BitVec 1 := Scalar.cmpi .slt c2_i32 c0_i32_144
  let v232 : BitVec 32 := Scalar.extui v231
  let v233 : BitVec 32 := Scalar.subi v230 v232
  let v234 : BitVec 1 := Scalar.cmpi .ne v228 v233
  let v235 : BitVec 32 := Scalar.remsi arg2 c2_i32
  let c0_i32_145 : BitVec 32 := 0#32
  let v236 : BitVec 1 := Scalar.cmpi .ne v235 c0_i32_145
  let v237 : BitVec 1 := Scalar.andi v234 v236
  let v223 : BitVec 32 := Scalar.divsi arg2 c2_i32
  let c1_i32 : BitVec 32 := 1#32
  let v238 : BitVec 32 := Scalar.subi v223 c1_i32
  let v239 : BitVec 32 := Scalar.select v237 v238 v223
  let v240 : BitVec 32 := Scalar.subi v239 c0_i32_147
  let c1_i32_148 : BitVec 32 := 1#32
  let v242 : BitVec 32 := Scalar.divsi v240 c1_i32_148
  let v243 : BitVec 32 := Scalar.muli v242 c1_i32_148
  let v244 : BitVec 32 := Scalar.addi c0_i32_147 v243
  let c1_i32_150 : BitVec 32 := 1#32
  let arg11 : BitVec 32 := Scf.iv v244 c1_i32_150 k0_t2
  let v287 : BitVec 32 := Scalar.muli c2_i32_186 arg11
  let v288 : BitVec 32 := Scalar.addi v287 c1_i32_187
  let c512_i32_242 : BitVec 32 := 512#32
  let v369 : BitVec 32 := Scalar.muli v288 c512_i32_242
  let v370 : BitVec 32 := v369
  let v371 : Index := Scalar.indexCast v370
  let c256_243 : Index := 256#32
  ![v371.toNat, 256]
def k0_off26 (i : grid0.Coords) (k0_t2 : Fin (k0_t2_loop i).trips) : Fin 3 → Nat :=
  let c2_i32_185 : BitVec 32 := 2#32
  let c0_i32_147 : BitVec 32 := 0#32
  let arg2 : BitVec 32 := BitVec.ofNat 32 (i 2).val
  let c0_i32_141 : BitVec 32 := 0#32
  let v224 : BitVec 1 := Scalar.cmpi .sgt arg2 c0_i32_141
  let v225 : BitVec 32 := Scalar.extui v224
  let c0_i32_142 : BitVec 32 := 0#32
  let v226 : BitVec 1 := Scalar.cmpi .slt arg2 c0_i32_142
  let v227 : BitVec 32 := Scalar.extui v226
  let v228 : BitVec 32 := Scalar.subi v225 v227
  let c2_i32 : BitVec 32 := 2#32
  let c0_i32_143 : BitVec 32 := 0#32
  let v229 : BitVec 1 := Scalar.cmpi .sgt c2_i32 c0_i32_143
  let v230 : BitVec 32 := Scalar.extui v229
  let c0_i32_144 : BitVec 32 := 0#32
  let v231 : BitVec 1 := Scalar.cmpi .slt c2_i32 c0_i32_144
  let v232 : BitVec 32 := Scalar.extui v231
  let v233 : BitVec 32 := Scalar.subi v230 v232
  let v234 : BitVec 1 := Scalar.cmpi .ne v228 v233
  let v235 : BitVec 32 := Scalar.remsi arg2 c2_i32
  let c0_i32_145 : BitVec 32 := 0#32
  let v236 : BitVec 1 := Scalar.cmpi .ne v235 c0_i32_145
  let v237 : BitVec 1 := Scalar.andi v234 v236
  let v223 : BitVec 32 := Scalar.divsi arg2 c2_i32
  let c1_i32 : BitVec 32 := 1#32
  let v238 : BitVec 32 := Scalar.subi v223 c1_i32
  let v239 : BitVec 32 := Scalar.select v237 v238 v223
  let v240 : BitVec 32 := Scalar.subi v239 c0_i32_147
  let c1_i32_148 : BitVec 32 := 1#32
  let v242 : BitVec 32 := Scalar.divsi v240 c1_i32_148
  let v243 : BitVec 32 := Scalar.muli v242 c1_i32_148
  let v244 : BitVec 32 := Scalar.addi c0_i32_147 v243
  let c1_i32_150 : BitVec 32 := 1#32
  let arg11 : BitVec 32 := Scf.iv v244 c1_i32_150 k0_t2
  let v286 : BitVec 32 := Scalar.muli c2_i32_185 arg11
  let v380 : Index := Scalar.indexCast v286
  let c128_250 : Index := 128#32
  let c0_251 : Index := 0#32
  ![v380.toNat, 128, 0]
def k0_mult20 (i : grid0.Coords) (k0_t2 : Fin (k0_t2_loop i).trips) : BitVec 32 :=
  let c2_i32_186 : BitVec 32 := 2#32
  let c0_i32_147 : BitVec 32 := 0#32
  let arg2 : BitVec 32 := BitVec.ofNat 32 (i 2).val
  let c0_i32_141 : BitVec 32 := 0#32
  let v224 : BitVec 1 := Scalar.cmpi .sgt arg2 c0_i32_141
  let v225 : BitVec 32 := Scalar.extui v224
  let c0_i32_142 : BitVec 32 := 0#32
  let v226 : BitVec 1 := Scalar.cmpi .slt arg2 c0_i32_142
  let v227 : BitVec 32 := Scalar.extui v226
  let v228 : BitVec 32 := Scalar.subi v225 v227
  let c2_i32 : BitVec 32 := 2#32
  let c0_i32_143 : BitVec 32 := 0#32
  let v229 : BitVec 1 := Scalar.cmpi .sgt c2_i32 c0_i32_143
  let v230 : BitVec 32 := Scalar.extui v229
  let c0_i32_144 : BitVec 32 := 0#32
  let v231 : BitVec 1 := Scalar.cmpi .slt c2_i32 c0_i32_144
  let v232 : BitVec 32 := Scalar.extui v231
  let v233 : BitVec 32 := Scalar.subi v230 v232
  let v234 : BitVec 1 := Scalar.cmpi .ne v228 v233
  let v235 : BitVec 32 := Scalar.remsi arg2 c2_i32
  let c0_i32_145 : BitVec 32 := 0#32
  let v236 : BitVec 1 := Scalar.cmpi .ne v235 c0_i32_145
  let v237 : BitVec 1 := Scalar.andi v234 v236
  let v223 : BitVec 32 := Scalar.divsi arg2 c2_i32
  let c1_i32 : BitVec 32 := 1#32
  let v238 : BitVec 32 := Scalar.subi v223 c1_i32
  let v239 : BitVec 32 := Scalar.select v237 v238 v223
  let v240 : BitVec 32 := Scalar.subi v239 c0_i32_147
  let c1_i32_148 : BitVec 32 := 1#32
  let v242 : BitVec 32 := Scalar.divsi v240 c1_i32_148
  let v243 : BitVec 32 := Scalar.muli v242 c1_i32_148
  let v244 : BitVec 32 := Scalar.addi c0_i32_147 v243
  let c1_i32_150 : BitVec 32 := 1#32
  let arg11 : BitVec 32 := Scf.iv v244 c1_i32_150 k0_t2
  let v287 : BitVec 32 := Scalar.muli c2_i32_186 arg11
  let c1_i32_187 : BitVec 32 := 1#32
  let v288 : BitVec 32 := Scalar.addi v287 c1_i32_187
  let c512_i32_269 : BitVec 32 := 512#32
  let v409 : BitVec 32 := Scalar.muli v288 c512_i32_269
  v409
def k0_off27 (i : grid0.Coords) (k0_t2 : Fin (k0_t2_loop i).trips) (c1_i32_187 : BitVec 32) : Fin 2 → Nat :=
  let c2_i32_186 : BitVec 32 := 2#32
  let c0_i32_147 : BitVec 32 := 0#32
  let arg2 : BitVec 32 := BitVec.ofNat 32 (i 2).val
  let c0_i32_141 : BitVec 32 := 0#32
  let v224 : BitVec 1 := Scalar.cmpi .sgt arg2 c0_i32_141
  let v225 : BitVec 32 := Scalar.extui v224
  let c0_i32_142 : BitVec 32 := 0#32
  let v226 : BitVec 1 := Scalar.cmpi .slt arg2 c0_i32_142
  let v227 : BitVec 32 := Scalar.extui v226
  let v228 : BitVec 32 := Scalar.subi v225 v227
  let c2_i32 : BitVec 32 := 2#32
  let c0_i32_143 : BitVec 32 := 0#32
  let v229 : BitVec 1 := Scalar.cmpi .sgt c2_i32 c0_i32_143
  let v230 : BitVec 32 := Scalar.extui v229
  let c0_i32_144 : BitVec 32 := 0#32
  let v231 : BitVec 1 := Scalar.cmpi .slt c2_i32 c0_i32_144
  let v232 : BitVec 32 := Scalar.extui v231
  let v233 : BitVec 32 := Scalar.subi v230 v232
  let v234 : BitVec 1 := Scalar.cmpi .ne v228 v233
  let v235 : BitVec 32 := Scalar.remsi arg2 c2_i32
  let c0_i32_145 : BitVec 32 := 0#32
  let v236 : BitVec 1 := Scalar.cmpi .ne v235 c0_i32_145
  let v237 : BitVec 1 := Scalar.andi v234 v236
  let v223 : BitVec 32 := Scalar.divsi arg2 c2_i32
  let c1_i32 : BitVec 32 := 1#32
  let v238 : BitVec 32 := Scalar.subi v223 c1_i32
  let v239 : BitVec 32 := Scalar.select v237 v238 v223
  let v240 : BitVec 32 := Scalar.subi v239 c0_i32_147
  let c1_i32_148 : BitVec 32 := 1#32
  let v242 : BitVec 32 := Scalar.divsi v240 c1_i32_148
  let v243 : BitVec 32 := Scalar.muli v242 c1_i32_148
  let v244 : BitVec 32 := Scalar.addi c0_i32_147 v243
  let c1_i32_150 : BitVec 32 := 1#32
  let arg11 : BitVec 32 := Scf.iv v244 c1_i32_150 k0_t2
  let v287 : BitVec 32 := Scalar.muli c2_i32_186 arg11
  let v288 : BitVec 32 := Scalar.addi v287 c1_i32_187
  let c512_i32_269 : BitVec 32 := 512#32
  let v409 : BitVec 32 := Scalar.muli v288 c512_i32_269
  let v410 : BitVec 32 := v409
  let v411 : Index := Scalar.indexCast v410
  let c384_270 : Index := 384#32
  ![v411.toNat, 384]
def k0_off28 (i : grid0.Coords) (k0_t2 : Fin (k0_t2_loop i).trips) : Fin 3 → Nat :=
  let c2_i32_185 : BitVec 32 := 2#32
  let c0_i32_147 : BitVec 32 := 0#32
  let arg2 : BitVec 32 := BitVec.ofNat 32 (i 2).val
  let c0_i32_141 : BitVec 32 := 0#32
  let v224 : BitVec 1 := Scalar.cmpi .sgt arg2 c0_i32_141
  let v225 : BitVec 32 := Scalar.extui v224
  let c0_i32_142 : BitVec 32 := 0#32
  let v226 : BitVec 1 := Scalar.cmpi .slt arg2 c0_i32_142
  let v227 : BitVec 32 := Scalar.extui v226
  let v228 : BitVec 32 := Scalar.subi v225 v227
  let c2_i32 : BitVec 32 := 2#32
  let c0_i32_143 : BitVec 32 := 0#32
  let v229 : BitVec 1 := Scalar.cmpi .sgt c2_i32 c0_i32_143
  let v230 : BitVec 32 := Scalar.extui v229
  let c0_i32_144 : BitVec 32 := 0#32
  let v231 : BitVec 1 := Scalar.cmpi .slt c2_i32 c0_i32_144
  let v232 : BitVec 32 := Scalar.extui v231
  let v233 : BitVec 32 := Scalar.subi v230 v232
  let v234 : BitVec 1 := Scalar.cmpi .ne v228 v233
  let v235 : BitVec 32 := Scalar.remsi arg2 c2_i32
  let c0_i32_145 : BitVec 32 := 0#32
  let v236 : BitVec 1 := Scalar.cmpi .ne v235 c0_i32_145
  let v237 : BitVec 1 := Scalar.andi v234 v236
  let v223 : BitVec 32 := Scalar.divsi arg2 c2_i32
  let c1_i32 : BitVec 32 := 1#32
  let v238 : BitVec 32 := Scalar.subi v223 c1_i32
  let v239 : BitVec 32 := Scalar.select v237 v238 v223
  let v240 : BitVec 32 := Scalar.subi v239 c0_i32_147
  let c1_i32_148 : BitVec 32 := 1#32
  let v242 : BitVec 32 := Scalar.divsi v240 c1_i32_148
  let v243 : BitVec 32 := Scalar.muli v242 c1_i32_148
  let v244 : BitVec 32 := Scalar.addi c0_i32_147 v243
  let c1_i32_150 : BitVec 32 := 1#32
  let arg11 : BitVec 32 := Scf.iv v244 c1_i32_150 k0_t2
  let v286 : BitVec 32 := Scalar.muli c2_i32_185 arg11
  let v420 : Index := Scalar.indexCast v286
  let c192_277 : Index := 192#32
  let c0_278 : Index := 0#32
  ![v420.toNat, 192, 0]
def k0_mult21 (i : grid0.Coords) (k0_t2 : Fin (k0_t2_loop i).trips) : BitVec 32 :=
  let c2_i32_298 : BitVec 32 := 2#32
  let c0_i32_147 : BitVec 32 := 0#32
  let arg2 : BitVec 32 := BitVec.ofNat 32 (i 2).val
  let c0_i32_141 : BitVec 32 := 0#32
  let v224 : BitVec 1 := Scalar.cmpi .sgt arg2 c0_i32_141
  let v225 : BitVec 32 := Scalar.extui v224
  let c0_i32_142 : BitVec 32 := 0#32
  let v226 : BitVec 1 := Scalar.cmpi .slt arg2 c0_i32_142
  let v227 : BitVec 32 := Scalar.extui v226
  let v228 : BitVec 32 := Scalar.subi v225 v227
  let c2_i32 : BitVec 32 := 2#32
  let c0_i32_143 : BitVec 32 := 0#32
  let v229 : BitVec 1 := Scalar.cmpi .sgt c2_i32 c0_i32_143
  let v230 : BitVec 32 := Scalar.extui v229
  let c0_i32_144 : BitVec 32 := 0#32
  let v231 : BitVec 1 := Scalar.cmpi .slt c2_i32 c0_i32_144
  let v232 : BitVec 32 := Scalar.extui v231
  let v233 : BitVec 32 := Scalar.subi v230 v232
  let v234 : BitVec 1 := Scalar.cmpi .ne v228 v233
  let v235 : BitVec 32 := Scalar.remsi arg2 c2_i32
  let c0_i32_145 : BitVec 32 := 0#32
  let v236 : BitVec 1 := Scalar.cmpi .ne v235 c0_i32_145
  let v237 : BitVec 1 := Scalar.andi v234 v236
  let v223 : BitVec 32 := Scalar.divsi arg2 c2_i32
  let c1_i32 : BitVec 32 := 1#32
  let v238 : BitVec 32 := Scalar.subi v223 c1_i32
  let v239 : BitVec 32 := Scalar.select v237 v238 v223
  let v240 : BitVec 32 := Scalar.subi v239 c0_i32_147
  let c1_i32_148 : BitVec 32 := 1#32
  let v242 : BitVec 32 := Scalar.divsi v240 c1_i32_148
  let v243 : BitVec 32 := Scalar.muli v242 c1_i32_148
  let v244 : BitVec 32 := Scalar.addi c0_i32_147 v243
  let c1_i32_150 : BitVec 32 := 1#32
  let arg11 : BitVec 32 := Scf.iv v244 c1_i32_150 k0_t2
  let v451 : BitVec 32 := Scalar.muli c2_i32_298 arg11
  let c2_i32_299 : BitVec 32 := 2#32
  let v452 : BitVec 32 := Scalar.addi v451 c2_i32_299
  let c512_i32_300 : BitVec 32 := 512#32
  let v453 : BitVec 32 := Scalar.muli v452 c512_i32_300
  v453
def k0_off29 (i : grid0.Coords) (k0_t2 : Fin (k0_t2_loop i).trips) : Fin 3 → Nat :=
  let c2_i32_296 : BitVec 32 := 2#32
  let c0_i32_147 : BitVec 32 := 0#32
  let arg2 : BitVec 32 := BitVec.ofNat 32 (i 2).val
  let c0_i32_141 : BitVec 32 := 0#32
  let v224 : BitVec 1 := Scalar.cmpi .sgt arg2 c0_i32_141
  let v225 : BitVec 32 := Scalar.extui v224
  let c0_i32_142 : BitVec 32 := 0#32
  let v226 : BitVec 1 := Scalar.cmpi .slt arg2 c0_i32_142
  let v227 : BitVec 32 := Scalar.extui v226
  let v228 : BitVec 32 := Scalar.subi v225 v227
  let c2_i32 : BitVec 32 := 2#32
  let c0_i32_143 : BitVec 32 := 0#32
  let v229 : BitVec 1 := Scalar.cmpi .sgt c2_i32 c0_i32_143
  let v230 : BitVec 32 := Scalar.extui v229
  let c0_i32_144 : BitVec 32 := 0#32
  let v231 : BitVec 1 := Scalar.cmpi .slt c2_i32 c0_i32_144
  let v232 : BitVec 32 := Scalar.extui v231
  let v233 : BitVec 32 := Scalar.subi v230 v232
  let v234 : BitVec 1 := Scalar.cmpi .ne v228 v233
  let v235 : BitVec 32 := Scalar.remsi arg2 c2_i32
  let c0_i32_145 : BitVec 32 := 0#32
  let v236 : BitVec 1 := Scalar.cmpi .ne v235 c0_i32_145
  let v237 : BitVec 1 := Scalar.andi v234 v236
  let v223 : BitVec 32 := Scalar.divsi arg2 c2_i32
  let c1_i32 : BitVec 32 := 1#32
  let v238 : BitVec 32 := Scalar.subi v223 c1_i32
  let v239 : BitVec 32 := Scalar.select v237 v238 v223
  let v240 : BitVec 32 := Scalar.subi v239 c0_i32_147
  let c1_i32_148 : BitVec 32 := 1#32
  let v242 : BitVec 32 := Scalar.divsi v240 c1_i32_148
  let v243 : BitVec 32 := Scalar.muli v242 c1_i32_148
  let v244 : BitVec 32 := Scalar.addi c0_i32_147 v243
  let c1_i32_150 : BitVec 32 := 1#32
  let arg11 : BitVec 32 := Scf.iv v244 c1_i32_150 k0_t2
  let v449 : BitVec 32 := Scalar.muli c2_i32_296 arg11
  let c1_i32_297 : BitVec 32 := 1#32
  let v450 : BitVec 32 := Scalar.addi v449 c1_i32_297
  let v464 : Index := Scalar.indexCast v450
  let c0_308 : Index := 0#32
  let c0_309 : Index := 0#32
  ![v464.toNat, 0, 0]
def k0_mult22 (i : grid0.Coords) (k0_t2 : Fin (k0_t2_loop i).trips) : BitVec 32 :=
  let c2_i32_298 : BitVec 32 := 2#32
  let c0_i32_147 : BitVec 32 := 0#32
  let arg2 : BitVec 32 := BitVec.ofNat 32 (i 2).val
  let c0_i32_141 : BitVec 32 := 0#32
  let v224 : BitVec 1 := Scalar.cmpi .sgt arg2 c0_i32_141
  let v225 : BitVec 32 := Scalar.extui v224
  let c0_i32_142 : BitVec 32 := 0#32
  let v226 : BitVec 1 := Scalar.cmpi .slt arg2 c0_i32_142
  let v227 : BitVec 32 := Scalar.extui v226
  let v228 : BitVec 32 := Scalar.subi v225 v227
  let c2_i32 : BitVec 32 := 2#32
  let c0_i32_143 : BitVec 32 := 0#32
  let v229 : BitVec 1 := Scalar.cmpi .sgt c2_i32 c0_i32_143
  let v230 : BitVec 32 := Scalar.extui v229
  let c0_i32_144 : BitVec 32 := 0#32
  let v231 : BitVec 1 := Scalar.cmpi .slt c2_i32 c0_i32_144
  let v232 : BitVec 32 := Scalar.extui v231
  let v233 : BitVec 32 := Scalar.subi v230 v232
  let v234 : BitVec 1 := Scalar.cmpi .ne v228 v233
  let v235 : BitVec 32 := Scalar.remsi arg2 c2_i32
  let c0_i32_145 : BitVec 32 := 0#32
  let v236 : BitVec 1 := Scalar.cmpi .ne v235 c0_i32_145
  let v237 : BitVec 1 := Scalar.andi v234 v236
  let v223 : BitVec 32 := Scalar.divsi arg2 c2_i32
  let c1_i32 : BitVec 32 := 1#32
  let v238 : BitVec 32 := Scalar.subi v223 c1_i32
  let v239 : BitVec 32 := Scalar.select v237 v238 v223
  let v240 : BitVec 32 := Scalar.subi v239 c0_i32_147
  let c1_i32_148 : BitVec 32 := 1#32
  let v242 : BitVec 32 := Scalar.divsi v240 c1_i32_148
  let v243 : BitVec 32 := Scalar.muli v242 c1_i32_148
  let v244 : BitVec 32 := Scalar.addi c0_i32_147 v243
  let c1_i32_150 : BitVec 32 := 1#32
  let arg11 : BitVec 32 := Scf.iv v244 c1_i32_150 k0_t2
  let v451 : BitVec 32 := Scalar.muli c2_i32_298 arg11
  let c2_i32_299 : BitVec 32 := 2#32
  let v452 : BitVec 32 := Scalar.addi v451 c2_i32_299
  let c512_i32_327 : BitVec 32 := 512#32
  let v493 : BitVec 32 := Scalar.muli v452 c512_i32_327
  v493
def k0_off30 (i : grid0.Coords) (k0_t2 : Fin (k0_t2_loop i).trips) : Fin 3 → Nat :=
  let c2_i32_296 : BitVec 32 := 2#32
  let c0_i32_147 : BitVec 32 := 0#32
  let arg2 : BitVec 32 := BitVec.ofNat 32 (i 2).val
  let c0_i32_141 : BitVec 32 := 0#32
  let v224 : BitVec 1 := Scalar.cmpi .sgt arg2 c0_i32_141
  let v225 : BitVec 32 := Scalar.extui v224
  let c0_i32_142 : BitVec 32 := 0#32
  let v226 : BitVec 1 := Scalar.cmpi .slt arg2 c0_i32_142
  let v227 : BitVec 32 := Scalar.extui v226
  let v228 : BitVec 32 := Scalar.subi v225 v227
  let c2_i32 : BitVec 32 := 2#32
  let c0_i32_143 : BitVec 32 := 0#32
  let v229 : BitVec 1 := Scalar.cmpi .sgt c2_i32 c0_i32_143
  let v230 : BitVec 32 := Scalar.extui v229
  let c0_i32_144 : BitVec 32 := 0#32
  let v231 : BitVec 1 := Scalar.cmpi .slt c2_i32 c0_i32_144
  let v232 : BitVec 32 := Scalar.extui v231
  let v233 : BitVec 32 := Scalar.subi v230 v232
  let v234 : BitVec 1 := Scalar.cmpi .ne v228 v233
  let v235 : BitVec 32 := Scalar.remsi arg2 c2_i32
  let c0_i32_145 : BitVec 32 := 0#32
  let v236 : BitVec 1 := Scalar.cmpi .ne v235 c0_i32_145
  let v237 : BitVec 1 := Scalar.andi v234 v236
  let v223 : BitVec 32 := Scalar.divsi arg2 c2_i32
  let c1_i32 : BitVec 32 := 1#32
  let v238 : BitVec 32 := Scalar.subi v223 c1_i32
  let v239 : BitVec 32 := Scalar.select v237 v238 v223
  let v240 : BitVec 32 := Scalar.subi v239 c0_i32_147
  let c1_i32_148 : BitVec 32 := 1#32
  let v242 : BitVec 32 := Scalar.divsi v240 c1_i32_148
  let v243 : BitVec 32 := Scalar.muli v242 c1_i32_148
  let v244 : BitVec 32 := Scalar.addi c0_i32_147 v243
  let c1_i32_150 : BitVec 32 := 1#32
  let arg11 : BitVec 32 := Scf.iv v244 c1_i32_150 k0_t2
  let v449 : BitVec 32 := Scalar.muli c2_i32_296 arg11
  let c1_i32_297 : BitVec 32 := 1#32
  let v450 : BitVec 32 := Scalar.addi v449 c1_i32_297
  let v504 : Index := Scalar.indexCast v450
  let c64_335 : Index := 64#32
  let c0_336 : Index := 0#32
  ![v504.toNat, 64, 0]
def k0_mult23 (i : grid0.Coords) (k0_t2 : Fin (k0_t2_loop i).trips) : BitVec 32 :=
  let c2_i32_298 : BitVec 32 := 2#32
  let c0_i32_147 : BitVec 32 := 0#32
  let arg2 : BitVec 32 := BitVec.ofNat 32 (i 2).val
  let c0_i32_141 : BitVec 32 := 0#32
  let v224 : BitVec 1 := Scalar.cmpi .sgt arg2 c0_i32_141
  let v225 : BitVec 32 := Scalar.extui v224
  let c0_i32_142 : BitVec 32 := 0#32
  let v226 : BitVec 1 := Scalar.cmpi .slt arg2 c0_i32_142
  let v227 : BitVec 32 := Scalar.extui v226
  let v228 : BitVec 32 := Scalar.subi v225 v227
  let c2_i32 : BitVec 32 := 2#32
  let c0_i32_143 : BitVec 32 := 0#32
  let v229 : BitVec 1 := Scalar.cmpi .sgt c2_i32 c0_i32_143
  let v230 : BitVec 32 := Scalar.extui v229
  let c0_i32_144 : BitVec 32 := 0#32
  let v231 : BitVec 1 := Scalar.cmpi .slt c2_i32 c0_i32_144
  let v232 : BitVec 32 := Scalar.extui v231
  let v233 : BitVec 32 := Scalar.subi v230 v232
  let v234 : BitVec 1 := Scalar.cmpi .ne v228 v233
  let v235 : BitVec 32 := Scalar.remsi arg2 c2_i32
  let c0_i32_145 : BitVec 32 := 0#32
  let v236 : BitVec 1 := Scalar.cmpi .ne v235 c0_i32_145
  let v237 : BitVec 1 := Scalar.andi v234 v236
  let v223 : BitVec 32 := Scalar.divsi arg2 c2_i32
  let c1_i32 : BitVec 32 := 1#32
  let v238 : BitVec 32 := Scalar.subi v223 c1_i32
  let v239 : BitVec 32 := Scalar.select v237 v238 v223
  let v240 : BitVec 32 := Scalar.subi v239 c0_i32_147
  let c1_i32_148 : BitVec 32 := 1#32
  let v242 : BitVec 32 := Scalar.divsi v240 c1_i32_148
  let v243 : BitVec 32 := Scalar.muli v242 c1_i32_148
  let v244 : BitVec 32 := Scalar.addi c0_i32_147 v243
  let c1_i32_150 : BitVec 32 := 1#32
  let arg11 : BitVec 32 := Scf.iv v244 c1_i32_150 k0_t2
  let v451 : BitVec 32 := Scalar.muli c2_i32_298 arg11
  let c2_i32_299 : BitVec 32 := 2#32
  let v452 : BitVec 32 := Scalar.addi v451 c2_i32_299
  let c512_i32_354 : BitVec 32 := 512#32
  let v533 : BitVec 32 := Scalar.muli v452 c512_i32_354
  v533
def k0_off31 (i : grid0.Coords) (k0_t2 : Fin (k0_t2_loop i).trips) : Fin 3 → Nat :=
  let c2_i32_296 : BitVec 32 := 2#32
  let c0_i32_147 : BitVec 32 := 0#32
  let arg2 : BitVec 32 := BitVec.ofNat 32 (i 2).val
  let c0_i32_141 : BitVec 32 := 0#32
  let v224 : BitVec 1 := Scalar.cmpi .sgt arg2 c0_i32_141
  let v225 : BitVec 32 := Scalar.extui v224
  let c0_i32_142 : BitVec 32 := 0#32
  let v226 : BitVec 1 := Scalar.cmpi .slt arg2 c0_i32_142
  let v227 : BitVec 32 := Scalar.extui v226
  let v228 : BitVec 32 := Scalar.subi v225 v227
  let c2_i32 : BitVec 32 := 2#32
  let c0_i32_143 : BitVec 32 := 0#32
  let v229 : BitVec 1 := Scalar.cmpi .sgt c2_i32 c0_i32_143
  let v230 : BitVec 32 := Scalar.extui v229
  let c0_i32_144 : BitVec 32 := 0#32
  let v231 : BitVec 1 := Scalar.cmpi .slt c2_i32 c0_i32_144
  let v232 : BitVec 32 := Scalar.extui v231
  let v233 : BitVec 32 := Scalar.subi v230 v232
  let v234 : BitVec 1 := Scalar.cmpi .ne v228 v233
  let v235 : BitVec 32 := Scalar.remsi arg2 c2_i32
  let c0_i32_145 : BitVec 32 := 0#32
  let v236 : BitVec 1 := Scalar.cmpi .ne v235 c0_i32_145
  let v237 : BitVec 1 := Scalar.andi v234 v236
  let v223 : BitVec 32 := Scalar.divsi arg2 c2_i32
  let c1_i32 : BitVec 32 := 1#32
  let v238 : BitVec 32 := Scalar.subi v223 c1_i32
  let v239 : BitVec 32 := Scalar.select v237 v238 v223
  let v240 : BitVec 32 := Scalar.subi v239 c0_i32_147
  let c1_i32_148 : BitVec 32 := 1#32
  let v242 : BitVec 32 := Scalar.divsi v240 c1_i32_148
  let v243 : BitVec 32 := Scalar.muli v242 c1_i32_148
  let v244 : BitVec 32 := Scalar.addi c0_i32_147 v243
  let c1_i32_150 : BitVec 32 := 1#32
  let arg11 : BitVec 32 := Scf.iv v244 c1_i32_150 k0_t2
  let v449 : BitVec 32 := Scalar.muli c2_i32_296 arg11
  let c1_i32_297 : BitVec 32 := 1#32
  let v450 : BitVec 32 := Scalar.addi v449 c1_i32_297
  let v544 : Index := Scalar.indexCast v450
  let c128_362 : Index := 128#32
  let c0_363 : Index := 0#32
  ![v544.toNat, 128, 0]
def k0_mult24 (i : grid0.Coords) (k0_t2 : Fin (k0_t2_loop i).trips) : BitVec 32 :=
  let c2_i32_298 : BitVec 32 := 2#32
  let c0_i32_147 : BitVec 32 := 0#32
  let arg2 : BitVec 32 := BitVec.ofNat 32 (i 2).val
  let c0_i32_141 : BitVec 32 := 0#32
  let v224 : BitVec 1 := Scalar.cmpi .sgt arg2 c0_i32_141
  let v225 : BitVec 32 := Scalar.extui v224
  let c0_i32_142 : BitVec 32 := 0#32
  let v226 : BitVec 1 := Scalar.cmpi .slt arg2 c0_i32_142
  let v227 : BitVec 32 := Scalar.extui v226
  let v228 : BitVec 32 := Scalar.subi v225 v227
  let c2_i32 : BitVec 32 := 2#32
  let c0_i32_143 : BitVec 32 := 0#32
  let v229 : BitVec 1 := Scalar.cmpi .sgt c2_i32 c0_i32_143
  let v230 : BitVec 32 := Scalar.extui v229
  let c0_i32_144 : BitVec 32 := 0#32
  let v231 : BitVec 1 := Scalar.cmpi .slt c2_i32 c0_i32_144
  let v232 : BitVec 32 := Scalar.extui v231
  let v233 : BitVec 32 := Scalar.subi v230 v232
  let v234 : BitVec 1 := Scalar.cmpi .ne v228 v233
  let v235 : BitVec 32 := Scalar.remsi arg2 c2_i32
  let c0_i32_145 : BitVec 32 := 0#32
  let v236 : BitVec 1 := Scalar.cmpi .ne v235 c0_i32_145
  let v237 : BitVec 1 := Scalar.andi v234 v236
  let v223 : BitVec 32 := Scalar.divsi arg2 c2_i32
  let c1_i32 : BitVec 32 := 1#32
  let v238 : BitVec 32 := Scalar.subi v223 c1_i32
  let v239 : BitVec 32 := Scalar.select v237 v238 v223
  let v240 : BitVec 32 := Scalar.subi v239 c0_i32_147
  let c1_i32_148 : BitVec 32 := 1#32
  let v242 : BitVec 32 := Scalar.divsi v240 c1_i32_148
  let v243 : BitVec 32 := Scalar.muli v242 c1_i32_148
  let v244 : BitVec 32 := Scalar.addi c0_i32_147 v243
  let c1_i32_150 : BitVec 32 := 1#32
  let arg11 : BitVec 32 := Scf.iv v244 c1_i32_150 k0_t2
  let v451 : BitVec 32 := Scalar.muli c2_i32_298 arg11
  let c2_i32_299 : BitVec 32 := 2#32
  let v452 : BitVec 32 := Scalar.addi v451 c2_i32_299
  let c512_i32_381 : BitVec 32 := 512#32
  let v573 : BitVec 32 := Scalar.muli v452 c512_i32_381
  v573
def k0_off32 (i : grid0.Coords) (k0_t2 : Fin (k0_t2_loop i).trips) : Fin 3 → Nat :=
  let c2_i32_296 : BitVec 32 := 2#32
  let c0_i32_147 : BitVec 32 := 0#32
  let arg2 : BitVec 32 := BitVec.ofNat 32 (i 2).val
  let c0_i32_141 : BitVec 32 := 0#32
  let v224 : BitVec 1 := Scalar.cmpi .sgt arg2 c0_i32_141
  let v225 : BitVec 32 := Scalar.extui v224
  let c0_i32_142 : BitVec 32 := 0#32
  let v226 : BitVec 1 := Scalar.cmpi .slt arg2 c0_i32_142
  let v227 : BitVec 32 := Scalar.extui v226
  let v228 : BitVec 32 := Scalar.subi v225 v227
  let c2_i32 : BitVec 32 := 2#32
  let c0_i32_143 : BitVec 32 := 0#32
  let v229 : BitVec 1 := Scalar.cmpi .sgt c2_i32 c0_i32_143
  let v230 : BitVec 32 := Scalar.extui v229
  let c0_i32_144 : BitVec 32 := 0#32
  let v231 : BitVec 1 := Scalar.cmpi .slt c2_i32 c0_i32_144
  let v232 : BitVec 32 := Scalar.extui v231
  let v233 : BitVec 32 := Scalar.subi v230 v232
  let v234 : BitVec 1 := Scalar.cmpi .ne v228 v233
  let v235 : BitVec 32 := Scalar.remsi arg2 c2_i32
  let c0_i32_145 : BitVec 32 := 0#32
  let v236 : BitVec 1 := Scalar.cmpi .ne v235 c0_i32_145
  let v237 : BitVec 1 := Scalar.andi v234 v236
  let v223 : BitVec 32 := Scalar.divsi arg2 c2_i32
  let c1_i32 : BitVec 32 := 1#32
  let v238 : BitVec 32 := Scalar.subi v223 c1_i32
  let v239 : BitVec 32 := Scalar.select v237 v238 v223
  let v240 : BitVec 32 := Scalar.subi v239 c0_i32_147
  let c1_i32_148 : BitVec 32 := 1#32
  let v242 : BitVec 32 := Scalar.divsi v240 c1_i32_148
  let v243 : BitVec 32 := Scalar.muli v242 c1_i32_148
  let v244 : BitVec 32 := Scalar.addi c0_i32_147 v243
  let c1_i32_150 : BitVec 32 := 1#32
  let arg11 : BitVec 32 := Scf.iv v244 c1_i32_150 k0_t2
  let v449 : BitVec 32 := Scalar.muli c2_i32_296 arg11
  let c1_i32_297 : BitVec 32 := 1#32
  let v450 : BitVec 32 := Scalar.addi v449 c1_i32_297
  let v584 : Index := Scalar.indexCast v450
  let c192_389 : Index := 192#32
  let c0_390 : Index := 0#32
  ![v584.toNat, 192, 0]
def k0_cond1 (i : grid0.Coords) : BitVec 1 :=
  let arg2 : BitVec 32 := BitVec.ofNat 32 (i 2).val
  let c2_i32_151 : BitVec 32 := 2#32
  let c0_i32_152 : BitVec 32 := 0#32
  let v245 : BitVec 1 := Scalar.cmpi .eq c2_i32_151 c0_i32_152
  let c1_i32_153 : BitVec 32 := 1#32
  let v246 : BitVec 32 := Scalar.select v245 c1_i32_153 c2_i32_151
  let v247 : BitVec 32 := Scalar.remsi arg2 v246
  let c0_i32_155 : BitVec 32 := 0#32
  let v249 : BitVec 1 := Scalar.cmpi .slt v247 c0_i32_155
  let c0_i32_156 : BitVec 32 := 0#32
  let v250 : BitVec 1 := Scalar.cmpi .slt v246 c0_i32_156
  let v251 : BitVec 1 := Scalar.xori v249 v250
  let c0_i32_154 : BitVec 32 := 0#32
  let v248 : BitVec 1 := Scalar.cmpi .ne v247 c0_i32_154
  let v252 : BitVec 1 := Scalar.andi v251 v248
  let v253 : BitVec 32 := Scalar.addi v247 v246
  let v254 : BitVec 32 := Scalar.select v252 v253 v247
  let c1_i32_157 : BitVec 32 := 1#32
  let v255 : BitVec 1 := Scalar.cmpi .eq v254 c1_i32_157
  let v256 : BitVec 32 := Scalar.extui v255
  let c0_i32_158 : BitVec 32 := 0#32
  let v257 : BitVec 1 := Scalar.cmpi .ne v256 c0_i32_158
  v257

def k0_off33 (i : grid0.Coords) : Fin 3 → Nat :=
  let arg2 : BitVec 32 := BitVec.ofNat 32 (i 2).val
  let c1_i32_185 : BitVec 32 := 1#32
  let v286 : BitVec 32 := Scalar.subi arg2 c1_i32_185
  let v287 : Index := Scalar.indexCast v286
  let c0_186 : Index := 0#32
  let c0_187 : Index := 0#32
  ![v287.toNat, 0, 0]
def k0_off34 (i : grid0.Coords) : Fin 3 → Nat :=
  let arg2 : BitVec 32 := BitVec.ofNat 32 (i 2).val
  let c1_i32_205 : BitVec 32 := 1#32
  let v316 : BitVec 32 := Scalar.subi arg2 c1_i32_205
  let v317 : Index := Scalar.indexCast v316
  let c64_206 : Index := 64#32
  let c0_207 : Index := 0#32
  ![v317.toNat, 64, 0]
def k0_off35 (i : grid0.Coords) : Fin 3 → Nat :=
  let arg2 : BitVec 32 := BitVec.ofNat 32 (i 2).val
  let c1_i32_225 : BitVec 32 := 1#32
  let v346 : BitVec 32 := Scalar.subi arg2 c1_i32_225
  let v347 : Index := Scalar.indexCast v346
  let c128_226 : Index := 128#32
  let c0_227 : Index := 0#32
  ![v347.toNat, 128, 0]
def k0_off36 (i : grid0.Coords) : Fin 3 → Nat :=
  let arg2 : BitVec 32 := BitVec.ofNat 32 (i 2).val
  let c1_i32_245 : BitVec 32 := 1#32
  let v376 : BitVec 32 := Scalar.subi arg2 c1_i32_245
  let v377 : Index := Scalar.indexCast v376
  let c192_246 : Index := 192#32
  let c0_247 : Index := 0#32
  ![v377.toNat, 192, 0]
def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg2
  let c0_i32 : BitVec 32 := 0#32
  ![v1.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg2
  let c0_i32 : BitVec 32 := 0#32
  ![v1.toNat, arg1.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S8x256x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S512x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]
-- ==== Kernel4Ideal.lean ====
variable {F : FTy → Type} [FloatOps F] [Named F]
def κ : String → Option EReal := fun
  | "mask" => some ⊥
  | _ => none
-- ==== Reference4Ideal.lean ====
abbrev S8x4096x8x96 : Shape := ⟨4, ![8, 4096, 8, 96]⟩
abbrev S8x4096x8x64 : Shape := ⟨4, ![8, 4096, 8, 64]⟩
abbrev S4096 : Shape := ⟨1, ![4096]⟩
abbrev S8x8x4096x4096 : Shape := ⟨4, ![8, 8, 4096, 4096]⟩
abbrev S_ : Shape := ⟨0, ![]⟩
abbrev S1x4096 : Shape := ⟨2, ![1, 4096]⟩
abbrev S4096x1 : Shape := ⟨2, ![4096, 1]⟩
abbrev S4096x4096 : Shape := ⟨2, ![4096, 4096]⟩
abbrev S1x1x4096x4096 : Shape := ⟨4, ![1, 1, 4096, 4096]⟩
abbrev S8x8x4096 : Shape := ⟨3, ![8, 8, 4096]⟩
abbrev S8x8x4096x1 : Shape := ⟨4, ![8, 8, 4096, 1]⟩
abbrev S8x8x64x4096 : Shape := ⟨4, ![8, 8, 64, 4096]⟩
abbrev S32768x512 : Shape := ⟨2, ![32768, 512]⟩

abbrev nBuf : Space → Nat
  | .hbm => 37
  | .vmem => 0
  | .smem => 0
  | _ => 0

abbrev bufTy : (tb : Table) → Fin (tcTables nBuf tb) → BufTy
  | .hbm, ⟨0, _⟩ => ⟨S8x4096x8x96, .f32⟩
  | .hbm, ⟨1, _⟩ => ⟨S8x4096x8x96, .f32⟩
  | .hbm, ⟨2, _⟩ => ⟨S8x4096x8x64, .f32⟩
  | .hbm, ⟨3, _⟩ => ⟨S4096, .i32⟩
  | .hbm, ⟨4, _⟩ => ⟨S8x8x4096x4096, .f32⟩
  | .hbm, ⟨5, _⟩ => ⟨S_, .f32⟩
  | .hbm, ⟨6, _⟩ => ⟨S8x8x4096x4096, .f32⟩
  | .hbm, ⟨7, _⟩ => ⟨S8x8x4096x4096, .f32⟩
  | .hbm, ⟨8, _⟩ => ⟨S1x4096, .i32⟩
  | .hbm, ⟨9, _⟩ => ⟨S4096x1, .i32⟩
  | .hbm, ⟨10, _⟩ => ⟨S4096x4096, .i32⟩
  | .hbm, ⟨11, _⟩ => ⟨S4096x4096, .i32⟩
  | .hbm, ⟨12, _⟩ => ⟨S4096x4096, .i1⟩
  | .hbm, ⟨13, _⟩ => ⟨S1x1x4096x4096, .i1⟩
  | .hbm, ⟨14, _⟩ => ⟨S_, .f32⟩
  | .hbm, ⟨15, _⟩ => ⟨S_, .f32⟩
  | .hbm, ⟨16, _⟩ => ⟨S8x8x4096x4096, .i1⟩
  | .hbm, ⟨17, _⟩ => ⟨S8x8x4096x4096, .f32⟩
  | .hbm, ⟨18, _⟩ => ⟨S8x8x4096x4096, .f32⟩
  | .hbm, ⟨19, _⟩ => ⟨S_, .f32⟩
  | .hbm, ⟨20, _⟩ => ⟨S8x8x4096, .f32⟩
  | .hbm, ⟨21, _⟩ => ⟨S_, .f32⟩
  | .hbm, ⟨22, _⟩ => ⟨S8x8x4096, .f32⟩
  | .hbm, ⟨23, _⟩ => ⟨S8x8x4096, .f32⟩
  | .hbm, ⟨24, _⟩ => ⟨S8x8x4096x1, .f32⟩
  | .hbm, ⟨25, _⟩ => ⟨S8x8x4096x4096, .f32⟩
  | .hbm, ⟨26, _⟩ => ⟨S8x8x4096x4096, .f32⟩
  | .hbm, ⟨27, _⟩ => ⟨S8x8x4096x4096, .f32⟩
  | .hbm, ⟨28, _⟩ => ⟨S_, .f32⟩
  | .hbm, ⟨29, _⟩ => ⟨S8x8x4096, .f32⟩
  | .hbm, ⟨30, _⟩ => ⟨S8x8x4096x1, .f32⟩
  | .hbm, ⟨31, _⟩ => ⟨S8x8x4096x4096, .f32⟩
  | .hbm, ⟨32, _⟩ => ⟨S8x8x4096x4096, .f32⟩
  | .hbm, ⟨33, _⟩ => ⟨S8x8x64x4096, .f32⟩
  | .hbm, ⟨34, _⟩ => ⟨S8x4096x8x64, .f32⟩
  | .hbm, ⟨35, _⟩ => ⟨S32768x512, .f32⟩
  | .hbm, ⟨36, _⟩ => ⟨S32768x512, .bf16⟩
  | _, _ => ⟨S8x4096x8x96, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_0 : Ref sig .tc := ⟨.hbm, 14, rfl⟩
abbrev main_call0_v0 : Ref sig .tc := ⟨.hbm, 15, rfl⟩
abbrev main_call0_v1 : Ref sig .tc := ⟨.hbm, 16, rfl⟩
abbrev main_call0_v2 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_cst_2 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_3 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩

abbrev nD : Nat := 1
abbrev τ : Topo := Topo.v7x

variable {F : FTy → Type} [FloatOps F]
-- ==== Kernel5.lean ====
abbrev S8x4096x1024 : Shape := ⟨3, ![8, 4096, 1024]⟩
abbrev S2x1024x5732 : Shape := ⟨3, ![2, 1024, 5732]⟩
abbrev S2x384 : Shape := ⟨2, ![2, 384]⟩
abbrev S2x384x768 : Shape := ⟨3, ![2, 384, 768]⟩
abbrev S2x256 : Shape := ⟨2, ![2, 256]⟩
abbrev S2x256x1024 : Shape := ⟨3, ![2, 256, 1024]⟩
abbrev S8x4096x16 : Shape := ⟨3, ![8, 4096, 16]⟩
abbrev S1x1024x384 : Shape := ⟨3, ![1, 1024, 384]⟩
abbrev S1024x384 : Shape := ⟨2, ![1024, 384]⟩
abbrev S1x1024x256 : Shape := ⟨3, ![1, 1024, 256]⟩
abbrev S1024x256 : Shape := ⟨2, ![1024, 256]⟩
abbrev S1x1024x32 : Shape := ⟨3, ![1, 1024, 32]⟩
abbrev S1024x32 : Shape := ⟨2, ![1024, 32]⟩
abbrev S_ : Shape := ⟨0, ![]⟩
abbrev S1024x128 : Shape := ⟨2, ![1024, 128]⟩
abbrev S1024x768 : Shape := ⟨2, ![1024, 768]⟩
abbrev S1x384x768 : Shape := ⟨3, ![1, 384, 768]⟩
abbrev S384x768 : Shape := ⟨2, ![384, 768]⟩
abbrev S384x8x96 : Shape := ⟨3, ![384, 8, 96]⟩
abbrev S384x8x128 : Shape := ⟨3, ![384, 8, 128]⟩
abbrev S384x1024 : Shape := ⟨2, ![384, 1024]⟩
abbrev S1x256x1024 : Shape := ⟨3, ![1, 256, 1024]⟩
abbrev S256x1024 : Shape := ⟨2, ![256, 1024]⟩
abbrev S256x8x128 : Shape := ⟨3, ![256, 8, 128]⟩
abbrev S256x8x64 : Shape := ⟨3, ![256, 8, 64]⟩
abbrev S256x512 : Shape := ⟨2, ![256, 512]⟩
abbrev S256x1536 : Shape := ⟨2, ![256, 1536]⟩
abbrev S32768x16 : Shape := ⟨2, ![32768, 16]⟩
abbrev S32768x64 : Shape := ⟨2, ![32768, 64]⟩
abbrev S32768x32 : Shape := ⟨2, ![32768, 32]⟩
abbrev S32768x128 : Shape := ⟨2, ![32768, 128]⟩
abbrev S32768x48 : Shape := ⟨2, ![32768, 48]⟩
abbrev S32768x80 : Shape := ⟨2, ![32768, 80]⟩
abbrev S32768x1024 : Shape := ⟨2, ![32768, 1024]⟩
abbrev S1x384 : Shape := ⟨2, ![1, 384]⟩
abbrev S384 : Shape := ⟨1, ![384]⟩
abbrev S1x256 : Shape := ⟨2, ![1, 256]⟩
abbrev S256 : Shape := ⟨1, ![256]⟩
abbrev S64x512x512 : Shape := ⟨3, ![64, 512, 512]⟩
abbrev S512x1024 : Shape := ⟨2, ![512, 1024]⟩
abbrev S512x128 : Shape := ⟨2, ![512, 128]⟩
abbrev S1x512x512 : Shape := ⟨3, ![1, 512, 512]⟩
abbrev S512x768 : Shape := ⟨2, ![512, 768]⟩
abbrev S512x384 : Shape := ⟨2, ![512, 384]⟩
abbrev S512 : Shape := ⟨1, ![512]⟩
abbrev S512x1 : Shape := ⟨2, ![512, 1]⟩
abbrev S512x256 : Shape := ⟨2, ![512, 256]⟩
abbrev S512x1536 : Shape := ⟨2, ![512, 1536]⟩
abbrev S512x512 : Shape := ⟨2, ![512, 512]⟩

abbrev nBuf : Space → Nat
  | .hbm => 69
  | .vmem => 19
  | .smem => 0
  | _ => 0

abbrev bufTy : (tb : Table) → Fin (tcTables nBuf tb) → BufTy
  | .hbm, ⟨0, _⟩ => ⟨S8x4096x1024, .f32⟩
  | .hbm, ⟨1, _⟩ => ⟨S2x1024x5732, .f32⟩
  | .hbm, ⟨2, _⟩ => ⟨S2x384, .f32⟩
  | .hbm, ⟨3, _⟩ => ⟨S2x384x768, .f32⟩
  | .hbm, ⟨4, _⟩ => ⟨S2x256, .f32⟩
  | .hbm, ⟨5, _⟩ => ⟨S2x256x1024, .f32⟩
  | .hbm, ⟨6, _⟩ => ⟨S8x4096x16, .f32⟩
  | .hbm, ⟨7, _⟩ => ⟨S8x4096x16, .f32⟩
  | .hbm, ⟨8, _⟩ => ⟨S1x1024x384, .f32⟩
  | .hbm, ⟨9, _⟩ => ⟨S1024x384, .f32⟩
  | .hbm, ⟨10, _⟩ => ⟨S1x1024x256, .f32⟩
  | .hbm, ⟨11, _⟩ => ⟨S1024x256, .f32⟩
  | .hbm, ⟨12, _⟩ => ⟨S1x1024x32, .f32⟩
  | .hbm, ⟨13, _⟩ => ⟨S1024x32, .f32⟩
  | .hbm, ⟨14, _⟩ => ⟨S1024x32, .bf16⟩
  | .hbm, ⟨15, _⟩ => ⟨S_, .i32⟩
  | .hbm, ⟨16, _⟩ => ⟨S_, .bf16⟩
  | .hbm, ⟨17, _⟩ => ⟨S1024x128, .bf16⟩
  | .hbm, ⟨18, _⟩ => ⟨S1024x384, .bf16⟩
  | .hbm, ⟨19, _⟩ => ⟨S1024x256, .bf16⟩
  | .hbm, ⟨20, _⟩ => ⟨S1024x768, .bf16⟩
  | .hbm, ⟨21, _⟩ => ⟨S1x384x768, .f32⟩
  | .hbm, ⟨22, _⟩ => ⟨S384x768, .f32⟩
  | .hbm, ⟨23, _⟩ => ⟨S384x768, .bf16⟩
  | .hbm, ⟨24, _⟩ => ⟨S384x8x96, .bf16⟩
  | .hbm, ⟨25, _⟩ => ⟨S_, .i32⟩
  | .hbm, ⟨26, _⟩ => ⟨S_, .bf16⟩
  | .hbm, ⟨27, _⟩ => ⟨S384x8x128, .bf16⟩
  | .hbm, ⟨28, _⟩ => ⟨S384x1024, .bf16⟩
  | .hbm, ⟨29, _⟩ => ⟨S1x256x1024, .f32⟩
  | .hbm, ⟨30, _⟩ => ⟨S256x1024, .f32⟩
  | .hbm, ⟨31, _⟩ => ⟨S256x1024, .bf16⟩
  | .hbm, ⟨32, _⟩ => ⟨S256x8x128, .bf16⟩
  | .hbm, ⟨33, _⟩ => ⟨S256x8x64, .bf16⟩
  | .hbm, ⟨34, _⟩ => ⟨S_, .i32⟩
  | .hbm, ⟨35, _⟩ => ⟨S_, .bf16⟩
  | .hbm, ⟨36, _⟩ => ⟨S256x8x128, .bf16⟩
  | .hbm, ⟨37, _⟩ => ⟨S256x1024, .bf16⟩
  | .hbm, ⟨38, _⟩ => ⟨S256x8x64, .bf16⟩
  | .hbm, ⟨39, _⟩ => ⟨S256x512, .bf16⟩
  | .hbm, ⟨40, _⟩ => ⟨S256x1536, .bf16⟩
  | .hbm, ⟨41, _⟩ => ⟨S32768x16, .f32⟩
  | .hbm, ⟨42, _⟩ => ⟨S32768x16, .f32⟩
  | .hbm, ⟨43, _⟩ => ⟨S_, .f32⟩
  | .hbm, ⟨44, _⟩ => ⟨S32768x64, .f32⟩
  | .hbm, ⟨45, _⟩ => ⟨S_, .f32⟩
  | .hbm, ⟨46, _⟩ => ⟨S32768x32, .f32⟩
  | .hbm, ⟨47, _⟩ => ⟨S32768x128, .f32⟩
  | .hbm, ⟨48, _⟩ => ⟨S_, .f32⟩
  | .hbm, ⟨49, _⟩ => ⟨S32768x64, .f32⟩
  | .hbm, ⟨50, _⟩ => ⟨S32768x16, .f32⟩
  | .hbm, ⟨51, _⟩ => ⟨S_, .f32⟩
  | .hbm, ⟨52, _⟩ => ⟨S32768x48, .f32⟩
  | .hbm, ⟨53, _⟩ => ⟨S32768x128, .f32⟩
  | .hbm, ⟨54, _⟩ => ⟨S_, .f32⟩
  | .hbm, ⟨55, _⟩ => ⟨S32768x80, .f32⟩
  | .hbm, ⟨56, _⟩ => ⟨S_, .f32⟩
  | .hbm, ⟨57, _⟩ => ⟨S32768x32, .f32⟩
  | .hbm, ⟨58, _⟩ => ⟨S32768x128, .f32⟩
  | .hbm, ⟨59, _⟩ => ⟨S32768x1024, .f32⟩
  | .hbm, ⟨60, _⟩ => ⟨S1x384, .f32⟩
  | .hbm, ⟨61, _⟩ => ⟨S384, .f32⟩
  | .hbm, ⟨62, _⟩ => ⟨S1x384, .f32⟩
  | .hbm, ⟨63, _⟩ => ⟨S1x256, .f32⟩
  | .hbm, ⟨64, _⟩ => ⟨S256, .f32⟩
  | .hbm, ⟨65, _⟩ => ⟨S1x256, .f32⟩
  | .hbm, ⟨66, _⟩ => ⟨S32768x1024, .bf16⟩
  | .hbm, ⟨67, _⟩ => ⟨S32768x1024, .bf16⟩
  | .hbm, ⟨68, _⟩ => ⟨S64x512x512, .bf16⟩
  | .local _ .vmem, ⟨0, _⟩ => ⟨S512x1024, .f32⟩
  | .local _ .vmem, ⟨1, _⟩ => ⟨S512x1024, .f32⟩
  | .local _ .vmem, ⟨2, _⟩ => ⟨S1024x768, .bf16⟩
  | .local _ .vmem, ⟨3, _⟩ => ⟨S1x384, .f32⟩
  | .local _ .vmem, ⟨4, _⟩ => ⟨S1x256, .f32⟩
  | .local _ .vmem, ⟨5, _⟩ => ⟨S384x1024, .bf16⟩
  | .local _ .vmem, ⟨6, _⟩ => ⟨S256x1536, .bf16⟩
  | .local _ .vmem, ⟨7, _⟩ => ⟨S512x128, .f32⟩
  | .local _ .vmem, ⟨8, _⟩ => ⟨S512x128, .f32⟩
  | .local _ .vmem, ⟨9, _⟩ => ⟨S512x128, .f32⟩
  | .local _ .vmem, ⟨10, _⟩ => ⟨S512x128, .f32⟩
  | .local _ .vmem, ⟨11, _⟩ => ⟨S512x128, .f32⟩
  | .local _ .vmem, ⟨12, _⟩ => ⟨S512x128, .f32⟩
  | .local _ .vmem, ⟨13, _⟩ => ⟨S512x1024, .bf16⟩
  | .local _ .vmem, ⟨14, _⟩ => ⟨S512x1024, .bf16⟩
  | .local _ .vmem, ⟨15, _⟩ => ⟨S512x1024, .bf16⟩
  | .local _ .vmem, ⟨16, _⟩ => ⟨S512x1024, .bf16⟩
  | .local _ .vmem, ⟨17, _⟩ => ⟨S1x512x512, .bf16⟩
  | .local _ .vmem, ⟨18, _⟩ => ⟨S1x512x512, .bf16⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_c : Ref sig .tc := ⟨.hbm, 15, rfl⟩
abbrev main_call0_v0 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_c_0 : Ref sig .tc := ⟨.hbm, 25, rfl⟩
abbrev main_call1_v0 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_c_1 : Ref sig .tc := ⟨.hbm, 34, rfl⟩
abbrev main_call2_v0 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_cst : Ref sig .tc := ⟨.hbm, 43, rfl⟩
abbrev main_v29 : Ref sig .tc := ⟨.hbm, 44, rfl⟩
abbrev main_cst_2 : Ref sig .tc := ⟨.hbm, 45, rfl⟩
abbrev main_v30 : Ref sig .tc := ⟨.hbm, 46, rfl⟩
abbrev main_v31 : Ref sig .tc := ⟨.hbm, 47, rfl⟩
abbrev main_cst_3 : Ref sig .tc := ⟨.hbm, 48, rfl⟩
abbrev main_v32 : Ref sig .tc := ⟨.hbm, 49, rfl⟩
abbrev main_v33 : Ref sig .tc := ⟨.hbm, 50, rfl⟩
abbrev main_cst_4 : Ref sig .tc := ⟨.hbm, 51, rfl⟩
abbrev main_v34 : Ref sig .tc := ⟨.hbm, 52, rfl⟩
abbrev main_v35 : Ref sig .tc := ⟨.hbm, 53, rfl⟩
abbrev main_cst_5 : Ref sig .tc := ⟨.hbm, 54, rfl⟩
abbrev main_v36 : Ref sig .tc := ⟨.hbm, 55, rfl⟩
abbrev main_cst_6 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46_0 : Ref sig .tc := ⟨.hbm, 66, rfl⟩
abbrev main_v46_1 : Ref sig .tc := ⟨.hbm, 67, rfl⟩
abbrev main_v46_2 : Ref sig .tc := ⟨.hbm, 68, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8
abbrev cc0_sem7_0 : DmaSem sig := 9
abbrev cc0_sem7_1 : DmaSem sig := 10
abbrev cc0_sem8_0 : DmaSem sig := 11
abbrev cc0_sem8_1 : DmaSem sig := 12
abbrev cc0_sem9_0 : DmaSem sig := 13
abbrev cc0_sem9_1 : DmaSem sig := 14
abbrev cc0_sem10_0 : DmaSem sig := 15
abbrev cc0_sem10_1 : DmaSem sig := 16
abbrev cc0_sem11_0 : DmaSem sig := 17
abbrev cc0_sem11_1 : DmaSem sig := 18

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x768 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x384 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S384x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x1536 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S1x512x512 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== Reference5Ideal.lean ====
abbrev S8x4096x1024 : Shape := ⟨3, ![8, 4096, 1024]⟩
abbrev S2x1024x5732 : Shape := ⟨3, ![2, 1024, 5732]⟩
abbrev S2x384 : Shape := ⟨2, ![2, 384]⟩
abbrev S2x384x768 : Shape := ⟨3, ![2, 384, 768]⟩
abbrev S2x256 : Shape := ⟨2, ![2, 256]⟩
abbrev S2x256x1024 : Shape := ⟨3, ![2, 256, 1024]⟩
abbrev S8x4096x16 : Shape := ⟨3, ![8, 4096, 16]⟩
abbrev S1x1024x5732 : Shape := ⟨3, ![1, 1024, 5732]⟩
abbrev S1024x5732 : Shape := ⟨2, ![1024, 5732]⟩
abbrev S8x4096x5732 : Shape := ⟨3, ![8, 4096, 5732]⟩
abbrev S8x4096x384 : Shape := ⟨3, ![8, 4096, 384]⟩
abbrev S8x4096x256 : Shape := ⟨3, ![8, 4096, 256]⟩
abbrev S8x4096x32 : Shape := ⟨3, ![8, 4096, 32]⟩
abbrev S1x384 : Shape := ⟨2, ![1, 384]⟩
abbrev S384 : Shape := ⟨1, ![384]⟩
abbrev S_ : Shape := ⟨0, ![]⟩
abbrev S8x4096 : Shape := ⟨2, ![8, 4096]⟩
abbrev S8x4096x1 : Shape := ⟨3, ![8, 4096, 1]⟩
abbrev S1x1x384 : Shape := ⟨3, ![1, 1, 384]⟩
abbrev S1x384x768 : Shape := ⟨3, ![1, 384, 768]⟩
abbrev S384x768 : Shape := ⟨2, ![384, 768]⟩
abbrev S8x4096x768 : Shape := ⟨3, ![8, 4096, 768]⟩
abbrev S8x4096x8x96 : Shape := ⟨4, ![8, 4096, 8, 96]⟩
abbrev S8x4096x8x64 : Shape := ⟨4, ![8, 4096, 8, 64]⟩
abbrev S8x4096x8x32 : Shape := ⟨4, ![8, 4096, 8, 32]⟩
abbrev S8x4096x1x16 : Shape := ⟨4, ![8, 4096, 1, 16]⟩
abbrev S8x4096x8x16 : Shape := ⟨4, ![8, 4096, 8, 16]⟩
abbrev S1x256 : Shape := ⟨2, ![1, 256]⟩
abbrev S256 : Shape := ⟨1, ![256]⟩
abbrev S1x1x256 : Shape := ⟨3, ![1, 1, 256]⟩
abbrev S1x256x1024 : Shape := ⟨3, ![1, 256, 1024]⟩
abbrev S256x1024 : Shape := ⟨2, ![256, 1024]⟩
abbrev S8x4096x8x128 : Shape := ⟨4, ![8, 4096, 8, 128]⟩
abbrev S8x4096x1x32 : Shape := ⟨4, ![8, 4096, 1, 32]⟩
abbrev S32768x1024 : Shape := ⟨2, ![32768, 1024]⟩
abbrev S64x512x512 : Shape := ⟨3, ![64, 512, 512]⟩

abbrev nBuf : Space → Nat
  | .hbm => 106
  | .vmem => 0
  | .smem => 0
  | _ => 0

abbrev bufTy : (tb : Table) → Fin (tcTables nBuf tb) → BufTy
  | .hbm, ⟨0, _⟩ => ⟨S8x4096x1024, .f32⟩
  | .hbm, ⟨1, _⟩ => ⟨S2x1024x5732, .f32⟩
  | .hbm, ⟨2, _⟩ => ⟨S2x384, .f32⟩
  | .hbm, ⟨3, _⟩ => ⟨S2x384x768, .f32⟩
  | .hbm, ⟨4, _⟩ => ⟨S2x256, .f32⟩
  | .hbm, ⟨5, _⟩ => ⟨S2x256x1024, .f32⟩
  | .hbm, ⟨6, _⟩ => ⟨S8x4096x16, .f32⟩
  | .hbm, ⟨7, _⟩ => ⟨S8x4096x16, .f32⟩
  | .hbm, ⟨8, _⟩ => ⟨S1x1024x5732, .f32⟩
  | .hbm, ⟨9, _⟩ => ⟨S1024x5732, .f32⟩
  | .hbm, ⟨10, _⟩ => ⟨S8x4096x5732, .f32⟩
  | .hbm, ⟨11, _⟩ => ⟨S8x4096x384, .f32⟩
  | .hbm, ⟨12, _⟩ => ⟨S8x4096x256, .f32⟩
  | .hbm, ⟨13, _⟩ => ⟨S8x4096x32, .f32⟩
  | .hbm, ⟨14, _⟩ => ⟨S1x384, .f32⟩
  | .hbm, ⟨15, _⟩ => ⟨S384, .f32⟩
  | .hbm, ⟨16, _⟩ => ⟨S8x4096x384, .f32⟩
  | .hbm, ⟨17, _⟩ => ⟨S_, .f32⟩
  | .hbm, ⟨18, _⟩ => ⟨S8x4096, .f32⟩
  | .hbm, ⟨19, _⟩ => ⟨S8x4096x1, .f32⟩
  | .hbm, ⟨20, _⟩ => ⟨S_, .f32⟩
  | .hbm, ⟨21, _⟩ => ⟨S8x4096x1, .f32⟩
  | .hbm, ⟨22, _⟩ => ⟨S8x4096x1, .f32⟩
  | .hbm, ⟨23, _⟩ => ⟨S_, .f32⟩
  | .hbm, ⟨24, _⟩ => ⟨S8x4096x1, .f32⟩
  | .hbm, ⟨25, _⟩ => ⟨S8x4096x1, .f32⟩
  | .hbm, ⟨26, _⟩ => ⟨S8x4096x1, .f32⟩
  | .hbm, ⟨27, _⟩ => ⟨S8x4096x384, .f32⟩
  | .hbm, ⟨28, _⟩ => ⟨S8x4096x384, .f32⟩
  | .hbm, ⟨29, _⟩ => ⟨S1x1x384, .f32⟩
  | .hbm, ⟨30, _⟩ => ⟨S8x4096x384, .f32⟩
  | .hbm, ⟨31, _⟩ => ⟨S8x4096x384, .f32⟩
  | .hbm, ⟨32, _⟩ => ⟨S1x384x768, .f32⟩
  | .hbm, ⟨33, _⟩ => ⟨S384x768, .f32⟩
  | .hbm, ⟨34, _⟩ => ⟨S8x4096x768, .f32⟩
  | .hbm, ⟨35, _⟩ => ⟨S8x4096x8x96, .f32⟩
  | .hbm, ⟨36, _⟩ => ⟨S8x4096x8x64, .f32⟩
  | .hbm, ⟨37, _⟩ => ⟨S8x4096x8x32, .f32⟩
  | .hbm, ⟨38, _⟩ => ⟨S8x4096x1x16, .f32⟩
  | .hbm, ⟨39, _⟩ => ⟨S8x4096x1x16, .f32⟩
  | .hbm, ⟨40, _⟩ => ⟨S8x4096x8x16, .f32⟩
  | .hbm, ⟨41, _⟩ => ⟨S8x4096x8x16, .f32⟩
  | .hbm, ⟨42, _⟩ => ⟨S8x4096x8x16, .f32⟩
  | .hbm, ⟨43, _⟩ => ⟨S8x4096x8x16, .f32⟩
  | .hbm, ⟨44, _⟩ => ⟨S8x4096x8x16, .f32⟩
  | .hbm, ⟨45, _⟩ => ⟨S8x4096x8x16, .f32⟩
  | .hbm, ⟨46, _⟩ => ⟨S8x4096x8x16, .f32⟩
  | .hbm, ⟨47, _⟩ => ⟨S8x4096x8x16, .f32⟩
  | .hbm, ⟨48, _⟩ => ⟨S8x4096x8x16, .f32⟩
  | .hbm, ⟨49, _⟩ => ⟨S8x4096x8x16, .f32⟩
  | .hbm, ⟨50, _⟩ => ⟨S8x4096x8x16, .f32⟩
  | .hbm, ⟨51, _⟩ => ⟨S8x4096x8x16, .f32⟩
  | .hbm, ⟨52, _⟩ => ⟨S8x4096x8x32, .f32⟩
  | .hbm, ⟨53, _⟩ => ⟨S1x256, .f32⟩
  | .hbm, ⟨54, _⟩ => ⟨S256, .f32⟩
  | .hbm, ⟨55, _⟩ => ⟨S8x4096x256, .f32⟩
  | .hbm, ⟨56, _⟩ => ⟨S_, .f32⟩
  | .hbm, ⟨57, _⟩ => ⟨S8x4096, .f32⟩
  | .hbm, ⟨58, _⟩ => ⟨S8x4096x1, .f32⟩
  | .hbm, ⟨59, _⟩ => ⟨S_, .f32⟩
  | .hbm, ⟨60, _⟩ => ⟨S8x4096x1, .f32⟩
  | .hbm, ⟨61, _⟩ => ⟨S8x4096x1, .f32⟩
  | .hbm, ⟨62, _⟩ => ⟨S_, .f32⟩
  | .hbm, ⟨63, _⟩ => ⟨S8x4096x1, .f32⟩
  | .hbm, ⟨64, _⟩ => ⟨S8x4096x1, .f32⟩
  | .hbm, ⟨65, _⟩ => ⟨S8x4096x1, .f32⟩
  | .hbm, ⟨66, _⟩ => ⟨S8x4096x256, .f32⟩
  | .hbm, ⟨67, _⟩ => ⟨S8x4096x256, .f32⟩
  | .hbm, ⟨68, _⟩ => ⟨S1x1x256, .f32⟩
  | .hbm, ⟨69, _⟩ => ⟨S8x4096x256, .f32⟩
  | .hbm, ⟨70, _⟩ => ⟨S8x4096x256, .f32⟩
  | .hbm, ⟨71, _⟩ => ⟨S1x256x1024, .f32⟩
  | .hbm, ⟨72, _⟩ => ⟨S256x1024, .f32⟩
  | .hbm, ⟨73, _⟩ => ⟨S8x4096x1024, .f32⟩
  | .hbm, ⟨74, _⟩ => ⟨S8x4096x8x128, .f32⟩
  | .hbm, ⟨75, _⟩ => ⟨S8x4096x8x64, .f32⟩
  | .hbm, ⟨76, _⟩ => ⟨S8x4096x8x64, .f32⟩
  | .hbm, ⟨77, _⟩ => ⟨S8x4096x16, .f32⟩
  | .hbm, ⟨78, _⟩ => ⟨S8x4096x16, .f32⟩
  | .hbm, ⟨79, _⟩ => ⟨S8x4096x16, .f32⟩
  | .hbm, ⟨80, _⟩ => ⟨S8x4096x16, .f32⟩
  | .hbm, ⟨81, _⟩ => ⟨S8x4096x16, .f32⟩
  | .hbm, ⟨82, _⟩ => ⟨S8x4096x16, .f32⟩
  | .hbm, ⟨83, _⟩ => ⟨S8x4096x16, .f32⟩
  | .hbm, ⟨84, _⟩ => ⟨S8x4096x16, .f32⟩
  | .hbm, ⟨85, _⟩ => ⟨S8x4096x32, .f32⟩
  | .hbm, ⟨86, _⟩ => ⟨S8x4096x8x96, .f32⟩
  | .hbm, ⟨87, _⟩ => ⟨S8x4096x1x32, .f32⟩
  | .hbm, ⟨88, _⟩ => ⟨S8x4096x8x32, .f32⟩
  | .hbm, ⟨89, _⟩ => ⟨S8x4096x8x96, .f32⟩
  | .hbm, ⟨90, _⟩ => ⟨S_, .f32⟩
  | .hbm, ⟨91, _⟩ => ⟨S8x4096x8x96, .f32⟩
  | .hbm, ⟨92, _⟩ => ⟨S8x4096x8x96, .f32⟩
  | .hbm, ⟨93, _⟩ => ⟨S_, .i32⟩
  | .hbm, ⟨94, _⟩ => ⟨S_, .f32⟩
  | .hbm, ⟨95, _⟩ => ⟨S8x4096x8x128, .f32⟩
  | .hbm, ⟨96, _⟩ => ⟨S32768x1024, .f32⟩
  | .hbm, ⟨97, _⟩ => ⟨S32768x1024, .bf16⟩
  | .hbm, ⟨98, _⟩ => ⟨S_, .i32⟩
  | .hbm, ⟨99, _⟩ => ⟨S_, .f32⟩
  | .hbm, ⟨100, _⟩ => ⟨S8x4096x8x128, .f32⟩
  | .hbm, ⟨101, _⟩ => ⟨S32768x1024, .f32⟩
  | .hbm, ⟨102, _⟩ => ⟨S32768x1024, .bf16⟩
  | .hbm, ⟨103, _⟩ => ⟨S64x512x512, .f32⟩
  | .hbm, ⟨104, _⟩ => ⟨S64x512x512, .f32⟩
  | .hbm, ⟨105, _⟩ => ⟨S64x512x512, .bf16⟩
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst : Ref sig .tc := ⟨.hbm, 17, rfl⟩
abbrev main_v9 : Ref sig .tc := ⟨.hbm, 18, rfl⟩
abbrev main_v10 : Ref sig .tc := ⟨.hbm, 19, rfl⟩
abbrev main_cst_0 : Ref sig .tc := ⟨.hbm, 20, rfl⟩
abbrev main_v11 : Ref sig .tc := ⟨.hbm, 21, rfl⟩
abbrev main_v12 : Ref sig .tc := ⟨.hbm, 22, rfl⟩
abbrev main_cst_1 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_cst_2 : Ref sig .tc := ⟨.hbm, 56, rfl⟩
abbrev main_v45 : Ref sig .tc := ⟨.hbm, 57, rfl⟩
abbrev main_v46 : Ref sig .tc := ⟨.hbm, 58, rfl⟩
abbrev main_cst_3 : Ref sig .tc := ⟨.hbm, 59, rfl⟩
abbrev main_v47 : Ref sig .tc := ⟨.hbm, 60, rfl⟩
abbrev main_v48 : Ref sig .tc := ⟨.hbm, 61, rfl⟩
abbrev main_cst_4 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_v58 : Ref sig .tc := ⟨.hbm, 72, rfl⟩
abbrev main_v59 : Ref sig .tc := ⟨.hbm, 73, rfl⟩
abbrev main_v60 : Ref sig .tc := ⟨.hbm, 74, rfl⟩
abbrev main_v61 : Ref sig .tc := ⟨.hbm, 75, rfl⟩
abbrev main_v62 : Ref sig .tc := ⟨.hbm, 76, rfl⟩
abbrev main_v63 : Ref sig .tc := ⟨.hbm, 77, rfl⟩
abbrev main_v64 : Ref sig .tc := ⟨.hbm, 78, rfl⟩
abbrev main_v65 : Ref sig .tc := ⟨.hbm, 79, rfl⟩
abbrev main_v66 : Ref sig .tc := ⟨.hbm, 80, rfl⟩
abbrev main_v67 : Ref sig .tc := ⟨.hbm, 81, rfl⟩
abbrev main_v68 : Ref sig .tc := ⟨.hbm, 82, rfl⟩
abbrev main_v69 : Ref sig .tc := ⟨.hbm, 83, rfl⟩
abbrev main_v70 : Ref sig .tc := ⟨.hbm, 84, rfl⟩
abbrev main_v71 : Ref sig .tc := ⟨.hbm, 85, rfl⟩
abbrev main_v72 : Ref sig .tc := ⟨.hbm, 86, rfl⟩
abbrev main_v73 : Ref sig .tc := ⟨.hbm, 87, rfl⟩
abbrev main_v74 : Ref sig .tc := ⟨.hbm, 88, rfl⟩
abbrev main_v75 : Ref sig .tc := ⟨.hbm, 89, rfl⟩
abbrev main_cst_5 : Ref sig .tc := ⟨.hbm, 90, rfl⟩
abbrev main_v76 : Ref sig .tc := ⟨.hbm, 91, rfl⟩
abbrev main_v77 : Ref sig .tc := ⟨.hbm, 92, rfl⟩
abbrev main_c : Ref sig .tc := ⟨.hbm, 93, rfl⟩
abbrev main_call0_v0 : Ref sig .tc := ⟨.hbm, 94, rfl⟩
abbrev main_v78 : Ref sig .tc := ⟨.hbm, 95, rfl⟩
abbrev main_v79 : Ref sig .tc := ⟨.hbm, 96, rfl⟩
abbrev main_v80 : Ref sig .tc := ⟨.hbm, 97, rfl⟩
abbrev main_c_6 : Ref sig .tc := ⟨.hbm, 98, rfl⟩
abbrev main_call1_v0 : Ref sig .tc := ⟨.hbm, 99, rfl⟩
abbrev main_v81 : Ref sig .tc := ⟨.hbm, 100, rfl⟩
abbrev main_v82 : Ref sig .tc := ⟨.hbm, 101, rfl⟩
abbrev main_v83 : Ref sig .tc := ⟨.hbm, 102, rfl⟩
abbrev main_v84 : Ref sig .tc := ⟨.hbm, 103, rfl⟩
abbrev main_v85 : Ref sig .tc := ⟨.hbm, 104, rfl⟩
abbrev main_v86 : Ref sig .tc := ⟨.hbm, 105, rfl⟩

abbrev nD : Nat := 1
abbrev τ : Topo := Topo.v7x

variable {F : FTy → Type} [FloatOps F]
-- ==== Proof.Safe.lean ====
/-
  A program that touches nothing but buffers its thread holds whole, at whatever contents, is safe: from the
  ownership `R` of those buffers "at some contents" it runs to its return and hands `R` back. `Safe` says so;
  the lemmas below compose it along a program: return, sequence, load, store, branch, counted loop. No contents
  are named, so a program of thousands of pure operations between its loads and stores costs only those.
-/
module

public import Idealize.ShloMosaic.Lib.Scf
public import Idealize.ShloMosaic.Lib.Tactic
public import Idealize.ShloMosaic.Rules

@[expose] public section

noncomputable section

namespace Cert.SafeRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {nD : Nat} {τ : Topo} {sig : RefSig} {Val : EltTy → Type} {U : Type} [URA U] {Λ : Labels}

local notation "𝕄" => MT nD τ sig Unit Val Nat U Nat

variable (defs : Defs nD τ sig Val Λ) (c : Dev nD) (R : sProp (MT nD τ sig Unit Val Nat U Nat))

/-- Memref `M`'s whole buffer on core `c`, held at some contents. -/
abbrev Any {S : Shape} {e : EltTy} (M : Memref sig .tc .vmem S e) : sProp 𝕄 :=
  iprop(∃ f : Buf Val (M.view.loc (c : Thread nD τ)), M.view.loc (c : Thread nD τ) ↦{fullShare} f)

/-- Among the resources `R` is the whole buffer of `M`, at some contents; given back at any, `R` is whole again. -/
class Holds {S : Shape} {e : EltTy} (M : Memref sig .tc .vmem S e) : Prop where
  take : R ⊢ iprop((Any c M : sProp 𝕄) ∗ ((Any c M : sProp 𝕄) -∗ R))

/-- The program runs from `R` to its return and gives `R` back. -/
def Safe {α : Type} (p : Prog (TpuEff nD τ sig Val Λ .tc) α) : Prop :=
  R ⊢ wp frame (wpE (Ix := Unit) (Name := Nat) (U := U) (Lvl := Nat) defs Variants.none (c : Thread nD τ) none) Set.univ p (fun _ => R)

section
variable {defs c R}

/-- The first of the resources holds its memref; -/
instance Holds.head {S : Shape} {e : EltTy} (M : Memref sig .tc .vmem S e) (R' : sProp 𝕄) :
    Holds c iprop((Any c M : sProp 𝕄) ∗ R') M where
  take := by
    iintro ⟨H, HR⟩
    isplitl [H]; · iexact H
    iintro H
    isplitl [H]; · iexact H
    iexact HR

/-- and what the rest holds, all hold. -/
instance Holds.tail {S S' : Shape} {e e' : EltTy} (M : Memref sig .tc .vmem S e) (M' : Memref sig .tc .vmem S' e')
    (R' : sProp 𝕄) [h : Holds c R' M] : Holds c iprop((Any c M' : sProp 𝕄) ∗ R') M where
  take := by
    iintro ⟨H', HR⟩
    ihave ⟨H, Hk⟩ := h.take $$ HR
    isplitl [H]; · iexact H
    iintro H
    isplitl [H']; · iexact H'
    iapply Hk; iexact H

theorem Safe.pure {α : Type} (a : α) : Safe defs c R (pure a) := by
  unfold Safe
  rw [wp_pure]
  iintro H
  imodintro; iexact H

theorem Safe.bind {α β : Type} {p : Prog (TpuEff nD τ sig Val Λ .tc) α} {k : α → Prog (TpuEff nD τ sig Val Λ .tc) β}
    (hp : Safe defs c R p) (hk : ∀ a, Safe defs c R (k a)) : Safe defs c R (p >>= k) := by
  unfold Safe
  rw [wp_bind]
  exact BIBase.Entails.trans hp (wp_mono _ _ _ hk)

/-- A branch, each arm under its condition; -/
theorem Safe.dite {α : Type} {P : Prop} [Decidable P] {p : P → Prog (TpuEff nD τ sig Val Λ .tc) α}
    {q : ¬P → Prog (TpuEff nD τ sig Val Λ .tc) α} (hp : ∀ h, Safe defs c R (p h)) (hq : ∀ h, Safe defs c R (q h)) :
    Safe defs c R (if h : P then p h else q h) := by
  split
  · exact hp _
  · exact hq _

/-- and one whose arms do not read it. -/
theorem Safe.ite {α : Type} {P : Prop} [Decidable P] {p q : Prog (TpuEff nD τ sig Val Λ .tc) α}
    (hp : Safe defs c R p) (hq : Safe defs c R q) : Safe defs c R (if P then p else q) := by
  split
  · exact hp
  · exact hq

/-- A counted loop whose every trip is safe, whatever is carried. -/
theorem Safe.loop {w : Nat} {σ : Type} {l : Scf.Loop w} {hok : l.OK} {init : σ}
    {body : Fin l.trips → σ → Prog (TpuEff nD τ sig Val Λ .tc) σ} (hb : ∀ k a, Safe defs c R (body k a)) :
    Safe defs c R (Scf.Loop.for l hok init body) := by
  unfold Safe
  refine BIBase.Entails.trans ?_ (Scf.wp_for _ _ _ l.lb l.ub l.st hok init body (fun _ _ => R) (fun k a => hb k a))
  iintro H
  isplitl [H]; · iexact H
  iintro %a H
  iexact H

theorem Safe.load {S : Shape} {e : EltTy} {M : Memref sig .tc .vmem S e} [h : Holds c R M] {r : LoadRect S}
    {hl : M.view.LoadsAt r} : Safe defs c R (Prog.lift (.load M r hl)) := by
  unfold Safe Prog.lift
  iintro H
  ihave ⟨⟨%f, H⟩, Hk⟩ := h.take $$ H
  iapply (wp_load Variants.none (c : Thread nD τ) none Set.univ (S := Finset.univ) (Finset.subset_univ _)) $$ H
  iintro H
  rw [wp_ret]
  imodintro
  iapply Hk
  iexists _; iexact H

theorem Safe.store {S : Shape} {e : EltTy} {M : Memref sig .tc .vmem S e} [h : Holds c R M] {r : Rect S}
    {w : r.shape.Idx → Val e} {Mk : Finset r.shape.Idx} {hx : (M.access r).Stores Mk}
    {hm : Mk = Finset.univ ∨ ∀ a, r.stride a = 1} : Safe defs c R (Prog.lift (.store M r w Mk hx hm)) := by
  unfold Safe Prog.lift
  iintro H
  ihave ⟨⟨%f, H⟩, Hk⟩ := h.take $$ H
  iapply (wp_store Variants.none (c : Thread nD τ) none Set.univ (m := M) (r := r) (S := Finset.univ) (f := f) (Finset.subset_univ _)) $$ H
  iintro H
  rw [wp_ret]
  imodintro
  iapply Hk
  iexists _; iexact H

/-- What `Safe` says, as an entailment. -/
theorem Safe.run {α : Type} {p : Prog (TpuEff nD τ sig Val Λ .tc) α} (h : Safe defs c R p) :
    R ⊢ wp frame (wpE (Ix := Unit) (Name := Nat) (U := U) (Lvl := Nat) defs Variants.none (c : Thread nD τ) none) Set.univ p (fun _ => R) := h

end

attribute [irreducible] Safe

end Cert.SafeRun
end
-- ==== Proof.SparseParts.lean ====
/-
  The parts of the sparse attention body that load or store and call no other such part: each is safe.
-/
module

public import proofs.«01_k».proof.Proof.Safe
public import proofs.«01_k».proof.Proof.Gen.Kernel.Skeleton
public import proofs.«01_k».proof.Proof.Gen.Kernel.Frame

@[expose] public section

set_option maxRecDepth 16384

noncomputable section

namespace Cert.SparseFrame

open Cert.Kernel Cert.Kernel.Gen Cert.SafeRun
open Idealize.ShloMosaic Idealize.ShloMosaic.TcCoe Idealize.ShloMosaic.Rounds
open Idealize.SL Idealize.SL.RA Idealize.SL.BI Idealize.SL.Sem

variable {F : FTy → Type} [BitOps F] (c : Dev nD) (R : sProp (MT nD τ sig Unit (Elt F) Nat (UR sig nD τ) Nat)) (i : grid0.Coords)
variable
  (arg2 : Memref sig .tc .vmem S256x512 .bf16) (harg2 : arg2.IsWhole)
  (arg3 : Memref sig .tc .vmem S256x256 .bf16) (harg3 : arg3.IsWhole)
  (arg4 : Memref sig .tc .vmem S1x8x256 .f32) (harg4 : arg4.IsWhole)
  (arg5 : Memref sig .tc .vmem S4096x128 .bf16) (harg5 : arg5.IsWhole)
  (arg6 : Memref sig .tc .vmem S4096x128 .bf16) (harg6 : arg6.IsWhole)
  (arg7 : Memref sig .tc .vmem S8x64x512 .bf16) (harg7 : arg7.IsWhole)
  (arg8 : Memref sig .tc .vmem S256x512 .bf16) (harg8 : arg8.IsWhole)
  (arg9 : Memref sig .tc .vmem S8x512x256 .i32) (harg9 : arg9.IsWhole)
  (arg10 : Memref sig .tc .vmem S32x128x256 .i32) (harg10 : arg10.IsWhole)
  (arg11 : Memref sig .tc .vmem S1x2048 .f32) (harg11 : arg11.IsWhole)
  (arg12 : Memref sig .tc .vmem S80x2048 .f32) (harg12 : arg12.IsWhole)
  (arg13 : Memref sig .tc .vmem S512x2048 .f32) (harg13 : arg13.IsWhole)
  (arg14 : Memref sig .tc .vmem S512x2048 .f32) (harg14 : arg14.IsWhole)
variable [Holds c R arg2] [Holds c R arg3] [Holds c R arg4] [Holds c R arg5] [Holds c R arg6] [Holds c R arg7] [Holds c R arg8] [Holds c R arg9] [Holds c R arg10] [Holds c R arg11] [Holds c R arg12] [Holds c R arg13] [Holds c R arg14]

theorem safe_k0_part136 :
    Safe (defs₀ (F := F)) c R (k0_part136 (F := F) i arg2 harg2 arg3 harg3 arg4 harg4 arg5 harg5 arg6 harg6 arg7 harg7 arg8 harg8 arg9 harg9 arg10 harg10 arg11 harg11 arg12 harg12 arg13 harg13 arg14 harg14) := by
  rw [k0_part136_eq_skeleton]; unfold k0_part136_skel
  refine Safe.bind Safe.load ?_; intro x
  exact Safe.pure _

theorem safe_k0_part18 (k0_t1 : _) (v2368 : _) (v2616 : _) (v2832 : _) (v2856 : _) (v2892 : _) (v2928 : _) (v3090 : _) (v3093 : _) (v3098 : _) :
    Safe (defs₀ (F := F)) c R (k0_part18 (F := F) i arg2 harg2 arg3 harg3 arg4 harg4 arg5 harg5 arg6 harg6 arg7 harg7 arg8 harg8 arg9 harg9 arg10 harg10 arg11 harg11 arg12 harg12 arg13 harg13 arg14 harg14 k0_t1 v2368 v2616 v2832 v2856 v2892 v2928 v3090 v3093 v3098) := by
  rw [k0_part18_eq_skeleton]; unfold k0_part18_skel
  refine Safe.bind Safe.load ?_; intro x
  refine Safe.bind Safe.store ?_; intro x
  refine Safe.bind Safe.load ?_; intro x
  refine Safe.bind Safe.store ?_; intro x
  refine Safe.bind Safe.load ?_; intro x
  refine Safe.bind Safe.store ?_; intro x
  exact Safe.pure _

theorem safe_k0_part19 (k0_t1 : _) (v2368 : _) (v2859 : _) (v2895 : _) (v2964 : _) (v3000 : _) (v3036 : _) (v3072 : _) (v3108 : _) (v3137 : _) :
    Safe (defs₀ (F := F)) c R (k0_part19 (F := F) i arg2 harg2 arg3 harg3 arg4 harg4 arg5 harg5 arg6 harg6 arg7 harg7 arg8 harg8 arg9 harg9 arg10 harg10 arg11 harg11 arg12 harg12 arg13 harg13 arg14 harg14 k0_t1 v2368 v2859 v2895 v2964 v3000 v3036 v3072 v3108 v3137) := by
  rw [k0_part19_eq_skeleton]; unfold k0_part19_skel
  refine Safe.bind Safe.load ?_; intro x
  refine Safe.bind Safe.store ?_; intro x
  refine Safe.bind Safe.load ?_; intro x
  refine Safe.bind Safe.store ?_; intro x
  refine Safe.bind Safe.load ?_; intro x
  refine Safe.bind Safe.store ?_; intro x
  refine Safe.bind Safe.load ?_; intro x
  refine Safe.bind Safe.store ?_; intro x
  refine Safe.bind Safe.load ?_; intro x
  refine Safe.bind Safe.store ?_; intro x
  refine Safe.bind Safe.load ?_; intro x
  refine Safe.bind Safe.store ?_; intro x
  refine Safe.bind Safe.load ?_; intro x
  exact Safe.pure _

theorem safe_k0_part1 (v47 : _) (v49 : _) (c_m2147483648_i32 : _) (c0_i32_21 : _) (c1_i32_23 : _) (k0_t1 : _) :
    Safe (defs₀ (F := F)) c R (k0_part1 (F := F) i arg2 harg2 arg3 harg3 arg4 harg4 arg5 harg5 arg6 harg6 arg7 harg7 arg8 harg8 arg9 harg9 arg10 harg10 arg11 harg11 arg12 harg12 arg13 harg13 arg14 harg14 v47 v49 c_m2147483648_i32 c0_i32_21 c1_i32_23 k0_t1) := by
  rw [k0_part1_eq_skeleton]; unfold k0_part1_skel
  refine Safe.bind Safe.load ?_; intro x
  refine Safe.bind Safe.load ?_; intro x
  refine Safe.bind Safe.store ?_; intro x
  exact Safe.pure _

theorem safe_k0_part20 (k0_t1 : _) (v2368 : _) (v2931 : _) (v2967 : _) (v3003 : _) (v3039 : _) (v3075 : _) (v3111 : _) (v3171 : _) :
    Safe (defs₀ (F := F)) c R (k0_part20 (F := F) i arg2 harg2 arg3 harg3 arg4 harg4 arg5 harg5 arg6 harg6 arg7 harg7 arg8 harg8 arg9 harg9 arg10 harg10 arg11 harg11 arg12 harg12 arg13 harg13 arg14 harg14 k0_t1 v2368 v2931 v2967 v3003 v3039 v3075 v3111 v3171) := by
  rw [k0_part20_eq_skeleton]; unfold k0_part20_skel
  refine Safe.bind Safe.store ?_; intro x
  refine Safe.bind Safe.load ?_; intro x
  refine Safe.bind Safe.store ?_; intro x
  refine Safe.bind Safe.load ?_; intro x
  refine Safe.bind Safe.store ?_; intro x
  refine Safe.bind Safe.load ?_; intro x
  refine Safe.bind Safe.store ?_; intro x
  refine Safe.bind Safe.load ?_; intro x
  refine Safe.bind Safe.store ?_; intro x
  refine Safe.bind Safe.load ?_; intro x
  refine Safe.bind Safe.store ?_; intro x
  refine Safe.bind Safe.load ?_; intro x
  refine Safe.bind Safe.store ?_; intro x
  exact Safe.pure _

theorem safe_k0_part21 (k0_t1 : _) (v2368 : _) (v2865 : _) (v2901 : _) (v2937 : _) (v2973 : _) (v3009 : _) (v3045 : _) (v3081 : _) :
    Safe (defs₀ (F := F)) c R (k0_part21 (F := F) i arg2 harg2 arg3 harg3 arg4 harg4 arg5 harg5 arg6 harg6 arg7 harg7 arg8 harg8 arg9 harg9 arg10 harg10 arg11 harg11 arg12 harg12 arg13 harg13 arg14 harg14 k0_t1 v2368 v2865 v2901 v2937 v2973 v3009 v3045 v3081) := by
  rw [k0_part21_eq_skeleton]; unfold k0_part21_skel
  refine Safe.bind Safe.load ?_; intro x
  refine Safe.bind Safe.store ?_; intro x
  refine Safe.bind Safe.load ?_; intro x
  refine Safe.bind Safe.store ?_; intro x
  refine Safe.bind Safe.load ?_; intro x
  refine Safe.bind Safe.store ?_; intro x
  refine Safe.bind Safe.load ?_; intro x
  refine Safe.bind Safe.store ?_; intro x
  refine Safe.bind Safe.load ?_; intro x
  refine Safe.bind Safe.store ?_; intro x
  refine Safe.bind Safe.load ?_; intro x
  refine Safe.bind Safe.store ?_; intro x
  refine Safe.bind Safe.load ?_; intro x
  refine Safe.bind Safe.store ?_; intro x
  exact Safe.pure _

theorem safe_k0_part22 (k0_t1 : _) (v2368 : _) (v2868 : _) (v2904 : _) (v2940 : _) (v2976 : _) (v3012 : _) (v3048 : _) (v3117 : _) (v3237 : _) :
    Safe (defs₀ (F := F)) c R (k0_part22 (F := F) i arg2 harg2 arg3 harg3 arg4 harg4 arg5 harg5 arg6 harg6 arg7 harg7 arg8 harg8 arg9 harg9 arg10 harg10 arg11 harg11 arg12 harg12 arg13 harg13 arg14 harg14 k0_t1 v2368 v2868 v2904 v2940 v2976 v3012 v3048 v3117 v3237) := by
  rw [k0_part22_eq_skeleton]; unfold k0_part22_skel
  refine Safe.bind Safe.load ?_; intro x
  refine Safe.bind Safe.store ?_; intro x
  refine Safe.bind Safe.load ?_; intro x
  refine Safe.bind Safe.store ?_; intro x
  refine Safe.bind Safe.load ?_; intro x
  refine Safe.bind Safe.store ?_; intro x
  refine Safe.bind Safe.load ?_; intro x
  refine Safe.bind Safe.store ?_; intro x
  refine Safe.bind Safe.load ?_; intro x
  refine Safe.bind Safe.store ?_; intro x
  refine Safe.bind Safe.load ?_; intro x
  refine Safe.bind Safe.store ?_; intro x
  refine Safe.bind Safe.load ?_; intro x
  exact Safe.pure _

theorem safe_k0_part23 (k0_t1 : _) (v2362 : _) (v2368 : _) (v3084 : _) (v3120 : _) (v3271 : _) :
    Safe (defs₀ (F := F)) c R (k0_part23 (F := F) i arg2 harg2 arg3 harg3 arg4 harg4 arg5 harg5 arg6 harg6 arg7 harg7 arg8 harg8 arg9 harg9 arg10 harg10 arg11 harg11 arg12 harg12 arg13 harg13 arg14 harg14 k0_t1 v2362 v2368 v3084 v3120 v3271) := by
  rw [k0_part23_eq_skeleton]; unfold k0_part23_skel
  refine Safe.bind Safe.store ?_; intro x
  refine Safe.bind Safe.load ?_; intro x
  refine Safe.bind Safe.store ?_; intro x
  refine Safe.bind Safe.load ?_; intro x
  refine Safe.bind Safe.store ?_; intro x
  exact Safe.pure _

theorem safe_k0_part39 (k0_t1 : _) (v2368 : _) (v3421 : _) (v3529 : _) (v3637 : _) (v3745 : _) (v3769 : _) (v3979 : _) (v3993 : _) (c8_i32_1364 : _) :
    Safe (defs₀ (F := F)) c R (k0_part39 (F := F) i arg2 harg2 arg3 harg3 arg4 harg4 arg5 harg5 arg6 harg6 arg7 harg7 arg8 harg8 arg9 harg9 arg10 harg10 arg11 harg11 arg12 harg12 arg13 harg13 arg14 harg14 k0_t1 v2368 v3421 v3529 v3637 v3745 v3769 v3979 v3993 c8_i32_1364) := by
  rw [k0_part39_eq_skeleton]; unfold k0_part39_skel
  refine Safe.bind Safe.load ?_; intro x
  exact Safe.pure _

theorem safe_k0_part40 (k0_t1 : _) (v2368 : _) (v3805 : _) (v3841 : _) (v3877 : _) (v3913 : _) (v3949 : _) (v3985 : _) (v4034 : _) :
    Safe (defs₀ (F := F)) c R (k0_part40 (F := F) i arg2 harg2 arg3 harg3 arg4 harg4 arg5 harg5 arg6 harg6 arg7 harg7 arg8 harg8 arg9 harg9 arg10 harg10 arg11 harg11 arg12 harg12 arg13 harg13 arg14 harg14 k0_t1 v2368 v3805 v3841 v3877 v3913 v3949 v3985 v4034) := by
  rw [k0_part40_eq_skeleton]; unfold k0_part40_skel
  refine Safe.bind Safe.store ?_; intro x
  refine Safe.bind Safe.load ?_; intro x
  refine Safe.bind Safe.store ?_; intro x
  refine Safe.bind Safe.load ?_; intro x
  refine Safe.bind Safe.store ?_; intro x
  refine Safe.bind Safe.load ?_; intro x
  refine Safe.bind Safe.store ?_; intro x
  refine Safe.bind Safe.load ?_; intro x
  refine Safe.bind Safe.store ?_; intro x
  refine Safe.bind Safe.load ?_; intro x
  refine Safe.bind Safe.store ?_; intro x
  refine Safe.bind Safe.load ?_; intro x
  refine Safe.bind Safe.store ?_; intro x
  exact Safe.pure _

theorem safe_k0_part41 (k0_t1 : _) (v2368 : _) (v3772 : _) (v3808 : _) (v3844 : _) (v3880 : _) (v3916 : _) (v3952 : _) (v4021 : _) :
    Safe (defs₀ (F := F)) c R (k0_part41 (F := F) i arg2 harg2 arg3 harg3 arg4 harg4 arg5 harg5 arg6 harg6 arg7 harg7 arg8 harg8 arg9 harg9 arg10 harg10 arg11 harg11 arg12 harg12 arg13 harg13 arg14 harg14 k0_t1 v2368 v3772 v3808 v3844 v3880 v3916 v3952 v4021) := by
  rw [k0_part41_eq_skeleton]; unfold k0_part41_skel
  refine Safe.bind Safe.load ?_; intro x
  refine Safe.bind Safe.store ?_; intro x
  refine Safe.bind Safe.load ?_; intro x
  refine Safe.bind Safe.store ?_; intro x
  refine Safe.bind Safe.load ?_; intro x
  refine Safe.bind Safe.store ?_; intro x
  refine Safe.bind Safe.load ?_; intro x
  refine Safe.bind Safe.store ?_; intro x
  refine Safe.bind Safe.load ?_; intro x
  refine Safe.bind Safe.store ?_; intro x
  refine Safe.bind Safe.load ?_; intro x
  refine Safe.bind Safe.store ?_; intro x
  refine Safe.bind Safe.load ?_; intro x
  refine Safe.bind Safe.store ?_; intro x
  exact Safe.pure _

theorem safe_k0_part42 (k0_t1 : _) (v2368 : _) (v3778 : _) (v3814 : _) (v3850 : _) (v3886 : _) (v3988 : _) (v4024 : _) (c8_i32_1420 : _) :
    Safe (defs₀ (F := F)) c R (k0_part42 (F := F) i arg2 harg2 arg3 harg3 arg4 harg4 arg5 harg5 arg6 harg6 arg7 harg7 arg8 harg8 arg9 harg9 arg10 harg10 arg11 harg11 arg12 harg12 arg13 harg13 arg14 harg14 k0_t1 v2368 v3778 v3814 v3850 v3886 v3988 v4024 c8_i32_1420) := by
  rw [k0_part42_eq_skeleton]; unfold k0_part42_skel
  refine Safe.bind Safe.load ?_; intro x
  refine Safe.bind Safe.store ?_; intro x
  refine Safe.bind Safe.load ?_; intro x
  refine Safe.bind Safe.store ?_; intro x
  refine Safe.bind Safe.load ?_; intro x
  refine Safe.bind Safe.store ?_; intro x
  refine Safe.bind Safe.load ?_; intro x
  refine Safe.bind Safe.store ?_; intro x
  refine Safe.bind Safe.load ?_; intro x
  refine Safe.bind Safe.store ?_; intro x
  refine Safe.bind Safe.load ?_; intro x
  refine Safe.bind Safe.store ?_; intro x
  refine Safe.bind Safe.load ?_; intro x
  exact Safe.pure _

theorem safe_k0_part43 (k0_t1 : _) (v2368 : _) (v3781 : _) (v3817 : _) (v3853 : _) (v3922 : _) (v3958 : _) (v3994 : _) (v4030 : _) :
    Safe (defs₀ (F := F)) c R (k0_part43 (F := F) i arg2 harg2 arg3 harg3 arg4 harg4 arg5 harg5 arg6 harg6 arg7 harg7 arg8 harg8 arg9 harg9 arg10 harg10 arg11 harg11 arg12 harg12 arg13 harg13 arg14 harg14 k0_t1 v2368 v3781 v3817 v3853 v3922 v3958 v3994 v4030) := by
  rw [k0_part43_eq_skeleton]; unfold k0_part43_skel
  refine Safe.bind Safe.store ?_; intro x
  refine Safe.bind Safe.load ?_; intro x
  refine Safe.bind Safe.store ?_; intro x
  refine Safe.bind Safe.load ?_; intro x
  refine Safe.bind Safe.store ?_; intro x
  refine Safe.bind Safe.load ?_; intro x
  refine Safe.bind Safe.store ?_; intro x
  refine Safe.bind Safe.load ?_; intro x
  refine Safe.bind Safe.store ?_; intro x
  refine Safe.bind Safe.load ?_; intro x
  refine Safe.bind Safe.store ?_; intro x
  refine Safe.bind Safe.load ?_; intro x
  refine Safe.bind Safe.store ?_; intro x
  exact Safe.pure _

theorem safe_k0_part45 (v47 : _) (v49 : _) (c_m2147483648_i32 : _) (v63 : _) (c1_i32_24 : _) (k0_t2 : _) :
    Safe (defs₀ (F := F)) c R (k0_part45 (F := F) i arg2 harg2 arg3 harg3 arg4 harg4 arg5 harg5 arg6 harg6 arg7 harg7 arg8 harg8 arg9 harg9 arg10 harg10 arg11 harg11 arg12 harg12 arg13 harg13 arg14 harg14 v47 v49 c_m2147483648_i32 v63 c1_i32_24 k0_t2) := by
  rw [k0_part45_eq_skeleton]; unfold k0_part45_skel
  refine Safe.bind Safe.load ?_; intro x
  refine Safe.bind Safe.load ?_; intro x
  refine Safe.bind Safe.store ?_; intro x
  exact Safe.pure _

theorem safe_k0_part62 (k0_t2 : _) (v2368 : _) (v2616 : _) (v2832 : _) (v2856 : _) (v2892 : _) (v2928 : _) (v3090 : _) (v3093 : _) (v3098 : _) :
    Safe (defs₀ (F := F)) c R (k0_part62 (F := F) i arg2 harg2 arg3 harg3 arg4 harg4 arg5 harg5 arg6 harg6 arg7 harg7 arg8 harg8 arg9 harg9 arg10 harg10 arg11 harg11 arg12 harg12 arg13 harg13 arg14 harg14 k0_t2 v2368 v2616 v2832 v2856 v2892 v2928 v3090 v3093 v3098) := by
  rw [k0_part62_eq_skeleton]; unfold k0_part62_skel
  refine Safe.bind Safe.load ?_; intro x
  refine Safe.bind Safe.store ?_; intro x
  refine Safe.bind Safe.load ?_; intro x
  refine Safe.bind Safe.store ?_; intro x
  refine Safe.bind Safe.load ?_; intro x
  refine Safe.bind Safe.store ?_; intro x
  exact Safe.pure _

theorem safe_k0_part63 (k0_t2 : _) (v2368 : _) (v2859 : _) (v2895 : _) (v2964 : _) (v3000 : _) (v3036 : _) (v3072 : _) (v3108 : _) (v3137 : _) :
    Safe (defs₀ (F := F)) c R (k0_part63 (F := F) i arg2 harg2 arg3 harg3 arg4 harg4 arg5 harg5 arg6 harg6 arg7 harg7 arg8 harg8 arg9 harg9 arg10 harg10 arg11 harg11 arg12 harg12 arg13 harg13 arg14 harg14 k0_t2 v2368 v2859 v2895 v2964 v3000 v3036 v3072 v3108 v3137) := by
  rw [k0_part63_eq_skeleton]; unfold k0_part63_skel
  refine Safe.bind Safe.load ?_; intro x
  refine Safe.bind Safe.store ?_; intro x
  refine Safe.bind Safe.load ?_; intro x
  refine Safe.bind Safe.store ?_; intro x
  refine Safe.bind Safe.load ?_; intro x
  refine Safe.bind Safe.store ?_; intro x
  refine Safe.bind Safe.load ?_; intro x
  refine Safe.bind Safe.store ?_; intro x
  refine Safe.bind Safe.load ?_; intro x
  refine Safe.bind Safe.store ?_; intro x
  refine Safe.bind Safe.load ?_; intro x
  refine Safe.bind Safe.store ?_; intro x
  refine Safe.bind Safe.load ?_; intro x
  exact Safe.pure _

theorem safe_k0_part64 (k0_t2 : _) (v2368 : _) (v2931 : _) (v2967 : _) (v3003 : _) (v3039 : _) (v3075 : _) (v3111 : _) (v3171 : _) :
    Safe (defs₀ (F := F)) c R (k0_part64 (F := F) i arg2 harg2 arg3 harg3 arg4 harg4 arg5 harg5 arg6 harg6 arg7 harg7 arg8 harg8 arg9 harg9 arg10 harg10 arg11 harg11 arg12 harg12 arg13 harg13 arg14 harg14 k0_t2 v2368 v2931 v2967 v3003 v3039 v3075 v3111 v3171) := by
  rw [k0_part64_eq_skeleton]; unfold k0_part64_skel
  refine Safe.bind Safe.store ?_; intro x
  refine Safe.bind Safe.load ?_; intro x
  refine Safe.bind Safe.store ?_; intro x
  refine Safe.bind Safe.load ?_; intro x
  refine Safe.bind Safe.store ?_; intro x
  refine Safe.bind Safe.load ?_; intro x
  refine Safe.bind Safe.store ?_; intro x
  refine Safe.bind Safe.load ?_; intro x
  refine Safe.bind Safe.store ?_; intro x
  refine Safe.bind Safe.load ?_; intro x
  refine Safe.bind Safe.store ?_; intro x
  refine Safe.bind Safe.load ?_; intro x
  refine Safe.bind Safe.store ?_; intro x
  exact Safe.pure _

theorem safe_k0_part65 (k0_t2 : _) (v2368 : _) (v2865 : _) (v2901 : _) (v2937 : _) (v2973 : _) (v3009 : _) (v3045 : _) (v3081 : _) :
    Safe (defs₀ (F := F)) c R (k0_part65 (F := F) i arg2 harg2 arg3 harg3 arg4 harg4 arg5 harg5 arg6 harg6 arg7 harg7 arg8 harg8 arg9 harg9 arg10 harg10 arg11 harg11 arg12 harg12 arg13 harg13 arg14 harg14 k0_t2 v2368 v2865 v2901 v2937 v2973 v3009 v3045 v3081) := by
  rw [k0_part65_eq_skeleton]; unfold k0_part65_skel
  refine Safe.bind Safe.load ?_; intro x
  refine Safe.bind Safe.store ?_; intro x
  refine Safe.bind Safe.load ?_; intro x
  refine Safe.bind Safe.store ?_; intro x
  refine Safe.bind Safe.load ?_; intro x
  refine Safe.bind Safe.store ?_; intro x
  refine Safe.bind Safe.load ?_; intro x
  refine Safe.bind Safe.store ?_; intro x
  refine Safe.bind Safe.load ?_; intro x
  refine Safe.bind Safe.store ?_; intro x
  refine Safe.bind Safe.load ?_; intro x
  refine Safe.bind Safe.store ?_; intro x
  refine Safe.bind Safe.load ?_; intro x
  refine Safe.bind Safe.store ?_; intro x
  exact Safe.pure _

theorem safe_k0_part66 (k0_t2 : _) (v2368 : _) (v2868 : _) (v2904 : _) (v2940 : _) (v2976 : _) (v3012 : _) (v3048 : _) (v3117 : _) (v3237 : _) :
    Safe (defs₀ (F := F)) c R (k0_part66 (F := F) i arg2 harg2 arg3 harg3 arg4 harg4 arg5 harg5 arg6 harg6 arg7 harg7 arg8 harg8 arg9 harg9 arg10 harg10 arg11 harg11 arg12 harg12 arg13 harg13 arg14 harg14 k0_t2 v2368 v2868 v2904 v2940 v2976 v3012 v3048 v3117 v3237) := by
  rw [k0_part66_eq_skeleton]; unfold k0_part66_skel
  refine Safe.bind Safe.load ?_; intro x
  refine Safe.bind Safe.store ?_; intro x
  refine Safe.bind Safe.load ?_; intro x
  refine Safe.bind Safe.store ?_; intro x
  refine Safe.bind Safe.load ?_; intro x
  refine Safe.bind Safe.store ?_; intro x
  refine Safe.bind Safe.load ?_; intro x
  refine Safe.bind Safe.store ?_; intro x
  refine Safe.bind Safe.load ?_; intro x
  refine Safe.bind Safe.store ?_; intro x
  refine Safe.bind Safe.load ?_; intro x
  refine Safe.bind Safe.store ?_; intro x
  refine Safe.bind Safe.load ?_; intro x
  exact Safe.pure _

theorem safe_k0_part67 (k0_t2 : _) (v2362 : _) (v2368 : _) (v3084 : _) (v3120 : _) (v3271 : _) :
    Safe (defs₀ (F := F)) c R (k0_part67 (F := F) i arg2 harg2 arg3 harg3 arg4 harg4 arg5 harg5 arg6 harg6 arg7 harg7 arg8 harg8 arg9 harg9 arg10 harg10 arg11 harg11 arg12 harg12 arg13 harg13 arg14 harg14 k0_t2 v2362 v2368 v3084 v3120 v3271) := by
  rw [k0_part67_eq_skeleton]; unfold k0_part67_skel
  refine Safe.bind Safe.store ?_; intro x
  refine Safe.bind Safe.load ?_; intro x
  refine Safe.bind Safe.store ?_; intro x
  refine Safe.bind Safe.load ?_; intro x
  refine Safe.bind Safe.store ?_; intro x
  exact Safe.pure _

theorem safe_k0_part83 (k0_t2 : _) (v2368 : _) (v3421 : _) (v3529 : _) (v3637 : _) (v3745 : _) (v3769 : _) (v3979 : _) (v3993 : _) (c8_i32_1364 : _) :
    Safe (defs₀ (F := F)) c R (k0_part83 (F := F) i arg2 harg2 arg3 harg3 arg4 harg4 arg5 harg5 arg6 harg6 arg7 harg7 arg8 harg8 arg9 harg9 arg10 harg10 arg11 harg11 arg12 harg12 arg13 harg13 arg14 harg14 k0_t2 v2368 v3421 v3529 v3637 v3745 v3769 v3979 v3993 c8_i32_1364) := by
  rw [k0_part83_eq_skeleton]; unfold k0_part83_skel
  refine Safe.bind Safe.load ?_; intro x
  exact Safe.pure _

theorem safe_k0_part84 (k0_t2 : _) (v2368 : _) (v3805 : _) (v3841 : _) (v3877 : _) (v3913 : _) (v3949 : _) (v3985 : _) (v4034 : _) :
    Safe (defs₀ (F := F)) c R (k0_part84 (F := F) i arg2 harg2 arg3 harg3 arg4 harg4 arg5 harg5 arg6 harg6 arg7 harg7 arg8 harg8 arg9 harg9 arg10 harg10 arg11 harg11 arg12 harg12 arg13 harg13 arg14 harg14 k0_t2 v2368 v3805 v3841 v3877 v3913 v3949 v3985 v4034) := by
  rw [k0_part84_eq_skeleton]; unfold k0_part84_skel
  refine Safe.bind Safe.store ?_; intro x
  refine Safe.bind Safe.load ?_; intro x
  refine Safe.bind Safe.store ?_; intro x
  refine Safe.bind Safe.load ?_; intro x
  refine Safe.bind Safe.store ?_; intro x
  refine Safe.bind Safe.load ?_; intro x
  refine Safe.bind Safe.store ?_; intro x
  refine Safe.bind Safe.load ?_; intro x
  refine Safe.bind Safe.store ?_; intro x
  refine Safe.bind Safe.load ?_; intro x
  refine Safe.bind Safe.store ?_; intro x
  refine Safe.bind Safe.load ?_; intro x
  refine Safe.bind Safe.store ?_; intro x
  exact Safe.pure _

theorem safe_k0_part85 (k0_t2 : _) (v2368 : _) (v3772 : _) (v3808 : _) (v3844 : _) (v3880 : _) (v3916 : _) (v3952 : _) (v4021 : _) :
    Safe (defs₀ (F := F)) c R (k0_part85 (F := F) i arg2 harg2 arg3 harg3 arg4 harg4 arg5 harg5 arg6 harg6 arg7 harg7 arg8 harg8 arg9 harg9 arg10 harg10 arg11 harg11 arg12 harg12 arg13 harg13 arg14 harg14 k0_t2 v2368 v3772 v3808 v3844 v3880 v3916 v3952 v4021) := by
  rw [k0_part85_eq_skeleton]; unfold k0_part85_skel
  refine Safe.bind Safe.load ?_; intro x
  refine Safe.bind Safe.store ?_; intro x
  refine Safe.bind Safe.load ?_; intro x
  refine Safe.bind Safe.store ?_; intro x
  refine Safe.bind Safe.load ?_; intro x
  refine Safe.bind Safe.store ?_; intro x
  refine Safe.bind Safe.load ?_; intro x
  refine Safe.bind Safe.store ?_; intro x
  refine Safe.bind Safe.load ?_; intro x
  refine Safe.bind Safe.store ?_; intro x
  refine Safe.bind Safe.load ?_; intro x
  refine Safe.bind Safe.store ?_; intro x
  refine Safe.bind Safe.load ?_; intro x
  refine Safe.bind Safe.store ?_; intro x
  exact Safe.pure _

theorem safe_k0_part86 (k0_t2 : _) (v2368 : _) (v3778 : _) (v3814 : _) (v3850 : _) (v3886 : _) (v3988 : _) (v4024 : _) (c8_i32_1420 : _) :
    Safe (defs₀ (F := F)) c R (k0_part86 (F := F) i arg2 harg2 arg3 harg3 arg4 harg4 arg5 harg5 arg6 harg6 arg7 harg7 arg8 harg8 arg9 harg9 arg10 harg10 arg11 harg11 arg12 harg12 arg13 harg13 arg14 harg14 k0_t2 v2368 v3778 v3814 v3850 v3886 v3988 v4024 c8_i32_1420) := by
  rw [k0_part86_eq_skeleton]; unfold k0_part86_skel
  refine Safe.bind Safe.load ?_; intro x
  refine Safe.bind Safe.store ?_; intro x
  refine Safe.bind Safe.load ?_; intro x
  refine Safe.bind Safe.store ?_; intro x
  refine Safe.bind Safe.load ?_; intro x
  refine Safe.bind Safe.store ?_; intro x
  refine Safe.bind Safe.load ?_; intro x
  refine Safe.bind Safe.store ?_; intro x
  refine Safe.bind Safe.load ?_; intro x
  refine Safe.bind Safe.store ?_; intro x
  refine Safe.bind Safe.load ?_; intro x
  refine Safe.bind Safe.store ?_; intro x
  refine Safe.bind Safe.load ?_; intro x
  exact Safe.pure _

theorem safe_k0_part87 (k0_t2 : _) (v2368 : _) (v3781 : _) (v3817 : _) (v3853 : _) (v3922 : _) (v3958 : _) (v3994 : _) (v4030 : _) :
    Safe (defs₀ (F := F)) c R (k0_part87 (F := F) i arg2 harg2 arg3 harg3 arg4 harg4 arg5 harg5 arg6 harg6 arg7 harg7 arg8 harg8 arg9 harg9 arg10 harg10 arg11 harg11 arg12 harg12 arg13 harg13 arg14 harg14 k0_t2 v2368 v3781 v3817 v3853 v3922 v3958 v3994 v4030) := by
  rw [k0_part87_eq_skeleton]; unfold k0_part87_skel
  refine Safe.bind Safe.store ?_; intro x
  refine Safe.bind Safe.load ?_; intro x
  refine Safe.bind Safe.store ?_; intro x
  refine Safe.bind Safe.load ?_; intro x
  refine Safe.bind Safe.store ?_; intro x
  refine Safe.bind Safe.load ?_; intro x
  refine Safe.bind Safe.store ?_; intro x
  refine Safe.bind Safe.load ?_; intro x
  refine Safe.bind Safe.store ?_; intro x
  refine Safe.bind Safe.load ?_; intro x
  refine Safe.bind Safe.store ?_; intro x
  refine Safe.bind Safe.load ?_; intro x
  refine Safe.bind Safe.store ?_; intro x
  exact Safe.pure _

theorem safe_k0_part138 (v49 : _) (v53 : _) (v54 : _) (v64 : _) (v66 : _) (v69 : _) (v75 : _) (v76 : _) :
    Safe (defs₀ (F := F)) c R (k0_part138 (F := F) i arg2 harg2 arg3 harg3 arg4 harg4 arg5 harg5 arg6 harg6 arg7 harg7 arg8 harg8 arg9 harg9 arg10 harg10 arg11 harg11 arg12 harg12 arg13 harg13 arg14 harg14 v49 v53 v54 v64 v66 v69 v75 v76) := by
  rw [k0_part138_eq_skeleton]; unfold k0_part138_skel
  refine Safe.bind Safe.load ?_; intro x
  refine Safe.bind Safe.store ?_; intro x
  exact Safe.pure _

theorem safe_k0_part155 (v113 : _) (v601 : _) (v637 : _) (v673 : _) (v709 : _) (v835 : _) (v838 : _) (v844 : _) (v847 : _) (v850 : _) (c16711935_i32_265 : _) :
    Safe (defs₀ (F := F)) c R (k0_part155 (F := F) i arg2 harg2 arg3 harg3 arg4 harg4 arg5 harg5 arg6 harg6 arg7 harg7 arg8 harg8 arg9 harg9 arg10 harg10 arg11 harg11 arg12 harg12 arg13 harg13 arg14 harg14 v113 v601 v637 v673 v709 v835 v838 v844 v847 v850 c16711935_i32_265) := by
  rw [k0_part155_eq_skeleton]; unfold k0_part155_skel
  refine Safe.bind Safe.load ?_; intro x
  refine Safe.bind Safe.store ?_; intro x
  refine Safe.bind Safe.load ?_; intro x
  refine Safe.bind Safe.store ?_; intro x
  refine Safe.bind Safe.load ?_; intro x
  refine Safe.bind Safe.store ?_; intro x
  refine Safe.bind Safe.load ?_; intro x
  refine Safe.bind Safe.store ?_; intro x
  exact Safe.pure _

theorem safe_k0_part156 (v113 : _) (v604 : _) (v640 : _) (v676 : _) (v745 : _) (v781 : _) (v817 : _) (v853 : _) (v887 : _) :
    Safe (defs₀ (F := F)) c R (k0_part156 (F := F) i arg2 harg2 arg3 harg3 arg4 harg4 arg5 harg5 arg6 harg6 arg7 harg7 arg8 harg8 arg9 harg9 arg10 harg10 arg11 harg11 arg12 harg12 arg13 harg13 arg14 harg14 v113 v604 v640 v676 v745 v781 v817 v853 v887) := by
  rw [k0_part156_eq_skeleton]; unfold k0_part156_skel
  refine Safe.bind Safe.load ?_; intro x
  refine Safe.bind Safe.store ?_; intro x
  refine Safe.bind Safe.load ?_; intro x
  refine Safe.bind Safe.store ?_; intro x
  refine Safe.bind Safe.load ?_; intro x
  refine Safe.bind Safe.store ?_; intro x
  refine Safe.bind Safe.load ?_; intro x
  refine Safe.bind Safe.store ?_; intro x
  refine Safe.bind Safe.load ?_; intro x
  refine Safe.bind Safe.store ?_; intro x
  refine Safe.bind Safe.load ?_; intro x
  refine Safe.bind Safe.store ?_; intro x
  refine Safe.bind Safe.load ?_; intro x
  refine Safe.bind Safe.store ?_; intro x
  exact Safe.pure _

theorem safe_k0_part157 (v113 : _) (v610 : _) (v712 : _) (v748 : _) (v784 : _) (v820 : _) (v856 : _) :
    Safe (defs₀ (F := F)) c R (k0_part157 (F := F) i arg2 harg2 arg3 harg3 arg4 harg4 arg5 harg5 arg6 harg6 arg7 harg7 arg8 harg8 arg9 harg9 arg10 harg10 arg11 harg11 arg12 harg12 arg13 harg13 arg14 harg14 v113 v610 v712 v748 v784 v820 v856) := by
  rw [k0_part157_eq_skeleton]; unfold k0_part157_skel
  refine Safe.bind Safe.load ?_; intro x
  refine Safe.bind Safe.store ?_; intro x
  refine Safe.bind Safe.load ?_; intro x
  refine Safe.bind Safe.store ?_; intro x
  refine Safe.bind Safe.load ?_; intro x
  refine Safe.bind Safe.store ?_; intro x
  refine Safe.bind Safe.load ?_; intro x
  refine Safe.bind Safe.store ?_; intro x
  refine Safe.bind Safe.load ?_; intro x
  refine Safe.bind Safe.store ?_; intro x
  refine Safe.bind Safe.load ?_; intro x
  refine Safe.bind Safe.store ?_; intro x
  refine Safe.bind Safe.load ?_; intro x
  exact Safe.pure _

theorem safe_k0_part158 (v113 : _) (v646 : _) (v682 : _) (v718 : _) (v754 : _) (v790 : _) (v826 : _) (v862 : _) (v954 : _) :
    Safe (defs₀ (F := F)) c R (k0_part158 (F := F) i arg2 harg2 arg3 harg3 arg4 harg4 arg5 harg5 arg6 harg6 arg7 harg7 arg8 harg8 arg9 harg9 arg10 harg10 arg11 harg11 arg12 harg12 arg13 harg13 arg14 harg14 v113 v646 v682 v718 v754 v790 v826 v862 v954) := by
  rw [k0_part158_eq_skeleton]; unfold k0_part158_skel
  refine Safe.bind Safe.store ?_; intro x
  refine Safe.bind Safe.load ?_; intro x
  refine Safe.bind Safe.store ?_; intro x
  refine Safe.bind Safe.load ?_; intro x
  refine Safe.bind Safe.store ?_; intro x
  refine Safe.bind Safe.load ?_; intro x
  refine Safe.bind Safe.store ?_; intro x
  refine Safe.bind Safe.load ?_; intro x
  refine Safe.bind Safe.store ?_; intro x
  refine Safe.bind Safe.load ?_; intro x
  refine Safe.bind Safe.store ?_; intro x
  refine Safe.bind Safe.load ?_; intro x
  refine Safe.bind Safe.store ?_; intro x
  exact Safe.pure _

theorem safe_k0_part159 (v113 : _) (v613 : _) (v649 : _) (v685 : _) (v721 : _) (v757 : _) (v793 : _) (v829 : _) (v987 : _) :
    Safe (defs₀ (F := F)) c R (k0_part159 (F := F) i arg2 harg2 arg3 harg3 arg4 harg4 arg5 harg5 arg6 harg6 arg7 harg7 arg8 harg8 arg9 harg9 arg10 harg10 arg11 harg11 arg12 harg12 arg13 harg13 arg14 harg14 v113 v613 v649 v685 v721 v757 v793 v829 v987) := by
  rw [k0_part159_eq_skeleton]; unfold k0_part159_skel
  refine Safe.bind Safe.load ?_; intro x
  refine Safe.bind Safe.store ?_; intro x
  refine Safe.bind Safe.load ?_; intro x
  refine Safe.bind Safe.store ?_; intro x
  refine Safe.bind Safe.load ?_; intro x
  refine Safe.bind Safe.store ?_; intro x
  refine Safe.bind Safe.load ?_; intro x
  refine Safe.bind Safe.store ?_; intro x
  refine Safe.bind Safe.load ?_; intro x
  refine Safe.bind Safe.store ?_; intro x
  refine Safe.bind Safe.load ?_; intro x
  refine Safe.bind Safe.store ?_; intro x
  refine Safe.bind Safe.load ?_; intro x
  refine Safe.bind Safe.store ?_; intro x
  exact Safe.pure _

theorem safe_k0_part160 (v107 : _) (v113 : _) (v865 : _) :
    Safe (defs₀ (F := F)) c R (k0_part160 (F := F) i arg2 harg2 arg3 harg3 arg4 harg4 arg5 harg5 arg6 harg6 arg7 harg7 arg8 harg8 arg9 harg9 arg10 harg10 arg11 harg11 arg12 harg12 arg13 harg13 arg14 harg14 v107 v113 v865) := by
  rw [k0_part160_eq_skeleton]; unfold k0_part160_skel
  refine Safe.bind Safe.load ?_; intro x
  refine Safe.bind Safe.store ?_; intro x
  exact Safe.pure _

theorem safe_k0_part176 (v113 : _) (v1166 : _) (v1274 : _) (v1382 : _) (v1490 : _) (v1514 : _) (v1550 : _) (v1747 : _) :
    Safe (defs₀ (F := F)) c R (k0_part176 (F := F) i arg2 harg2 arg3 harg3 arg4 harg4 arg5 harg5 arg6 harg6 arg7 harg7 arg8 harg8 arg9 harg9 arg10 harg10 arg11 harg11 arg12 harg12 arg13 harg13 arg14 harg14 v113 v1166 v1274 v1382 v1490 v1514 v1550 v1747) := by
  rw [k0_part176_eq_skeleton]; unfold k0_part176_skel
  refine Safe.bind Safe.load ?_; intro x
  refine Safe.bind Safe.store ?_; intro x
  refine Safe.bind Safe.load ?_; intro x
  exact Safe.pure _

theorem safe_k0_part177 (v113 : _) (v1586 : _) (v1622 : _) (v1658 : _) (v1694 : _) (v1730 : _) (v1766 : _) (v1789 : _) :
    Safe (defs₀ (F := F)) c R (k0_part177 (F := F) i arg2 harg2 arg3 harg3 arg4 harg4 arg5 harg5 arg6 harg6 arg7 harg7 arg8 harg8 arg9 harg9 arg10 harg10 arg11 harg11 arg12 harg12 arg13 harg13 arg14 harg14 v113 v1586 v1622 v1658 v1694 v1730 v1766 v1789) := by
  rw [k0_part177_eq_skeleton]; unfold k0_part177_skel
  refine Safe.bind Safe.store ?_; intro x
  refine Safe.bind Safe.load ?_; intro x
  refine Safe.bind Safe.store ?_; intro x
  refine Safe.bind Safe.load ?_; intro x
  refine Safe.bind Safe.store ?_; intro x
  refine Safe.bind Safe.load ?_; intro x
  refine Safe.bind Safe.store ?_; intro x
  refine Safe.bind Safe.load ?_; intro x
  refine Safe.bind Safe.store ?_; intro x
  refine Safe.bind Safe.load ?_; intro x
  refine Safe.bind Safe.store ?_; intro x
  refine Safe.bind Safe.load ?_; intro x
  refine Safe.bind Safe.store ?_; intro x
  exact Safe.pure _

theorem safe_k0_part178 (v113 : _) (v1517 : _) (v1553 : _) (v1589 : _) (v1625 : _) (v1661 : _) (v1697 : _) (v1733 : _) :
    Safe (defs₀ (F := F)) c R (k0_part178 (F := F) i arg2 harg2 arg3 harg3 arg4 harg4 arg5 harg5 arg6 harg6 arg7 harg7 arg8 harg8 arg9 harg9 arg10 harg10 arg11 harg11 arg12 harg12 arg13 harg13 arg14 harg14 v113 v1517 v1553 v1589 v1625 v1661 v1697 v1733) := by
  rw [k0_part178_eq_skeleton]; unfold k0_part178_skel
  refine Safe.bind Safe.load ?_; intro x
  refine Safe.bind Safe.store ?_; intro x
  refine Safe.bind Safe.load ?_; intro x
  refine Safe.bind Safe.store ?_; intro x
  refine Safe.bind Safe.load ?_; intro x
  refine Safe.bind Safe.store ?_; intro x
  refine Safe.bind Safe.load ?_; intro x
  refine Safe.bind Safe.store ?_; intro x
  refine Safe.bind Safe.load ?_; intro x
  refine Safe.bind Safe.store ?_; intro x
  refine Safe.bind Safe.load ?_; intro x
  refine Safe.bind Safe.store ?_; intro x
  refine Safe.bind Safe.load ?_; intro x
  refine Safe.bind Safe.store ?_; intro x
  exact Safe.pure _

theorem safe_k0_part179 (v113 : _) (v1523 : _) (v1559 : _) (v1595 : _) (v1631 : _) (v1667 : _) (v1703 : _) (v1769 : _) (v1855 : _) :
    Safe (defs₀ (F := F)) c R (k0_part179 (F := F) i arg2 harg2 arg3 harg3 arg4 harg4 arg5 harg5 arg6 harg6 arg7 harg7 arg8 harg8 arg9 harg9 arg10 harg10 arg11 harg11 arg12 harg12 arg13 harg13 arg14 harg14 v113 v1523 v1559 v1595 v1631 v1667 v1703 v1769 v1855) := by
  rw [k0_part179_eq_skeleton]; unfold k0_part179_skel
  refine Safe.bind Safe.load ?_; intro x
  refine Safe.bind Safe.store ?_; intro x
  refine Safe.bind Safe.load ?_; intro x
  refine Safe.bind Safe.store ?_; intro x
  refine Safe.bind Safe.load ?_; intro x
  refine Safe.bind Safe.store ?_; intro x
  refine Safe.bind Safe.load ?_; intro x
  refine Safe.bind Safe.store ?_; intro x
  refine Safe.bind Safe.load ?_; intro x
  refine Safe.bind Safe.store ?_; intro x
  refine Safe.bind Safe.load ?_; intro x
  refine Safe.bind Safe.store ?_; intro x
  refine Safe.bind Safe.load ?_; intro x
  exact Safe.pure _

theorem safe_k0_part180 (v113 : _) (v1526 : _) (v1562 : _) (v1598 : _) (v1634 : _) (v1739 : _) (v1775 : _) (v1889 : _) :
    Safe (defs₀ (F := F)) c R (k0_part180 (F := F) i arg2 harg2 arg3 harg3 arg4 harg4 arg5 harg5 arg6 harg6 arg7 harg7 arg8 harg8 arg9 harg9 arg10 harg10 arg11 harg11 arg12 harg12 arg13 harg13 arg14 harg14 v113 v1526 v1562 v1598 v1634 v1739 v1775 v1889) := by
  rw [k0_part180_eq_skeleton]; unfold k0_part180_skel
  refine Safe.bind Safe.store ?_; intro x
  refine Safe.bind Safe.load ?_; intro x
  refine Safe.bind Safe.store ?_; intro x
  refine Safe.bind Safe.load ?_; intro x
  refine Safe.bind Safe.store ?_; intro x
  refine Safe.bind Safe.load ?_; intro x
  refine Safe.bind Safe.store ?_; intro x
  refine Safe.bind Safe.load ?_; intro x
  refine Safe.bind Safe.store ?_; intro x
  refine Safe.bind Safe.load ?_; intro x
  refine Safe.bind Safe.store ?_; intro x
  refine Safe.bind Safe.load ?_; intro x
  refine Safe.bind Safe.store ?_; intro x
  exact Safe.pure _

theorem safe_k0_part89 (c0_i32_677 : _) (c1_i32_678 : _) (k0_t3 : _) (arg16 : _) (arg17 : _) :
    Safe (defs₀ (F := F)) c R (k0_part89 (F := F) i arg2 harg2 arg3 harg3 arg4 harg4 arg5 harg5 arg6 harg6 arg7 harg7 arg8 harg8 arg9 harg9 arg10 harg10 arg11 harg11 arg12 harg12 arg13 harg13 arg14 harg14 c0_i32_677 c1_i32_678 k0_t3 arg16 arg17) := by
  rw [k0_part89_eq_skeleton]; unfold k0_part89_skel
  refine Safe.bind Safe.load ?_; intro x
  exact Safe.pure _

theorem safe_k0_part104 (v1940 : _) (v1950_0 : _) (v1950_1 : _) :
    Safe (defs₀ (F := F)) c R (k0_part104 (F := F) i arg2 harg2 arg3 harg3 arg4 harg4 arg5 harg5 arg6 harg6 arg7 harg7 arg8 harg8 arg9 harg9 arg10 harg10 arg11 harg11 arg12 harg12 arg13 harg13 arg14 harg14 v1940 v1950_0 v1950_1) := by
  rw [k0_part104_eq_skeleton]; unfold k0_part104_skel
  refine Safe.bind (by rw [k0_part90_eq_skeleton]; exact Safe.pure _) ?_; rintro ⟨x0, x1, x2, x3, x4, x5, x6, x7, x8, x9, x10, x11, x12, x13, x14, x15⟩
  refine Safe.bind (by rw [k0_part91_eq_skeleton]; exact Safe.pure _) ?_; rintro ⟨x0, x1, x2, x3, x4, x5, x6, x7, x8, x9, x10, x11, x12, x13, x14⟩
  refine Safe.bind (by rw [k0_part92_eq_skeleton]; exact Safe.pure _) ?_; rintro ⟨x0, x1, x2, x3, x4, x5, x6⟩
  refine Safe.bind (by rw [k0_part93_eq_skeleton]; exact Safe.pure _) ?_; rintro ⟨x0, x1, x2⟩
  refine Safe.bind (by rw [k0_part94_eq_skeleton]; exact Safe.pure _) ?_; rintro ⟨x0, x1, x2⟩
  refine Safe.bind (by rw [k0_part95_eq_skeleton]; exact Safe.pure _) ?_; rintro ⟨x0, x1, x2, x3, x4, x5, x6, x7, x8, x9, x10, x11, x12⟩
  refine Safe.bind (by rw [k0_part96_eq_skeleton]; exact Safe.pure _) ?_; rintro ⟨x0, x1, x2, x3, x4, x5, x6, x7, x8, x9, x10, x11, x12, x13, x14, x15, x16, x17⟩
  refine Safe.bind (by rw [k0_part97_eq_skeleton]; exact Safe.pure _) ?_; rintro ⟨x0, x1, x2, x3, x4, x5, x6, x7, x8, x9, x10, x11, x12⟩
  refine Safe.bind (by rw [k0_part98_eq_skeleton]; exact Safe.pure _) ?_; rintro ⟨x0, x1, x2, x3, x4, x5, x6⟩
  refine Safe.bind (by rw [k0_part99_eq_skeleton]; exact Safe.pure _) ?_; rintro ⟨x0, x1, x2⟩
  refine Safe.bind (by rw [k0_part100_eq_skeleton]; exact Safe.pure _) ?_; rintro ⟨x0, x1, x2, x3⟩
  refine Safe.bind (by rw [k0_part101_eq_skeleton]; exact Safe.pure _) ?_; rintro ⟨x0, x1, x2, x3, x4, x5, x6, x7, x8, x9, x10, x11, x12, x13, x14, x15⟩
  refine Safe.bind (by rw [k0_part102_eq_skeleton]; exact Safe.pure _) ?_; rintro ⟨x0, x1, x2, x3, x4, x5, x6, x7, x8, x9, x10, x11, x12, x13, x14, x15⟩
  refine Safe.bind (by rw [k0_part103_eq_skeleton]; exact Safe.pure _) ?_; rintro ⟨x0, x1, x2, x3, x4, x5⟩
  exact Safe.pure _

theorem safe_k0_part186 (v20 : _) (v54 : _) (v1952 : _) (v2023 : _) (v2047 : _) (cst_718 : _) :
    Safe (defs₀ (F := F)) c R (k0_part186 (F := F) i arg2 harg2 arg3 harg3 arg4 harg4 arg5 harg5 arg6 harg6 arg7 harg7 arg8 harg8 arg9 harg9 arg10 harg10 arg11 harg11 arg12 harg12 arg13 harg13 arg14 harg14 v20 v54 v1952 v2023 v2047 cst_718) := by
  rw [k0_part186_eq_skeleton]; unfold k0_part186_skel
  refine Safe.bind Safe.load ?_; intro x
  refine Safe.bind Safe.store ?_; intro x
  refine Safe.bind Safe.load ?_; intro x
  refine Safe.bind Safe.store ?_; intro x
  refine Safe.bind Safe.load ?_; intro x
  refine Safe.bind Safe.load ?_; intro x
  exact Safe.pure _

theorem safe_k0_part187 (v2063 : _) (v2079 : _) (v2095 : _) (v2111 : _) (v2127 : _) (v2143 : _) (v2159 : _) (v2195 : _) (v2197 : _) (v2198 : _) :
    Safe (defs₀ (F := F)) c R (k0_part187 (F := F) i arg2 harg2 arg3 harg3 arg4 harg4 arg5 harg5 arg6 harg6 arg7 harg7 arg8 harg8 arg9 harg9 arg10 harg10 arg11 harg11 arg12 harg12 arg13 harg13 arg14 harg14 v2063 v2079 v2095 v2111 v2127 v2143 v2159 v2195 v2197 v2198) := by
  rw [k0_part187_eq_skeleton]; unfold k0_part187_skel
  refine Safe.bind Safe.load ?_; intro x
  refine Safe.bind Safe.store ?_; intro x
  refine Safe.bind Safe.load ?_; intro x
  refine Safe.bind Safe.store ?_; intro x
  refine Safe.bind Safe.load ?_; intro x
  refine Safe.bind Safe.store ?_; intro x
  refine Safe.bind Safe.load ?_; intro x
  refine Safe.bind Safe.store ?_; intro x
  refine Safe.bind Safe.load ?_; intro x
  refine Safe.bind Safe.store ?_; intro x
  refine Safe.bind Safe.load ?_; intro x
  refine Safe.bind Safe.store ?_; intro x
  refine Safe.bind Safe.load ?_; intro x
  refine Safe.bind Safe.store ?_; intro x
  refine Safe.bind Safe.load ?_; intro x
  refine Safe.bind Safe.store ?_; intro x
  exact Safe.pure _

theorem safe_k0_part131 (v20 : _) (v2160 : _) (k0_h3 : _) :
    Safe (defs₀ (F := F)) c R (k0_part131 (F := F) i arg2 harg2 arg3 harg3 arg4 harg4 arg5 harg5 arg6 harg6 arg7 harg7 arg8 harg8 arg9 harg9 arg10 harg10 arg11 harg11 arg12 harg12 arg13 harg13 arg14 harg14 v20 v2160 k0_h3) := by
  rw [k0_part131_eq_skeleton]; unfold k0_part131_skel
  refine Safe.bind Safe.load ?_; intro x
  refine Safe.bind Safe.load ?_; intro x
  refine Safe.bind Safe.load ?_; intro x
  refine Safe.bind Safe.load ?_; intro x
  refine Safe.bind Safe.store ?_; intro x
  refine Safe.bind Safe.load ?_; intro x
  refine Safe.bind Safe.load ?_; intro x
  refine Safe.bind Safe.store ?_; intro x
  refine Safe.bind Safe.load ?_; intro x
  refine Safe.bind Safe.load ?_; intro x
  refine Safe.bind Safe.load ?_; intro x
  refine Safe.bind Safe.store ?_; intro x
  exact Safe.pure _

theorem safe_k0_part132 (v2329 : _) (v2352 : _) (v2353 : _) (v2356 : _) :
    Safe (defs₀ (F := F)) c R (k0_part132 (F := F) i arg2 harg2 arg3 harg3 arg4 harg4 arg5 harg5 arg6 harg6 arg7 harg7 arg8 harg8 arg9 harg9 arg10 harg10 arg11 harg11 arg12 harg12 arg13 harg13 arg14 harg14 v2329 v2352 v2353 v2356) := by
  rw [k0_part132_eq_skeleton]; unfold k0_part132_skel
  refine Safe.bind Safe.load ?_; intro x
  refine Safe.bind Safe.load ?_; intro x
  refine Safe.bind Safe.store ?_; intro x
  refine Safe.bind Safe.load ?_; intro x
  refine Safe.bind Safe.load ?_; intro x
  refine Safe.bind Safe.load ?_; intro x
  refine Safe.bind Safe.store ?_; intro x
  refine Safe.bind Safe.load ?_; intro x
  refine Safe.bind Safe.load ?_; intro x
  refine Safe.bind Safe.store ?_; intro x
  refine Safe.bind Safe.load ?_; intro x
  exact Safe.pure _

theorem safe_k0_part133 (v2329 : _) (v2396 : _) :
    Safe (defs₀ (F := F)) c R (k0_part133 (F := F) i arg2 harg2 arg3 harg3 arg4 harg4 arg5 harg5 arg6 harg6 arg7 harg7 arg8 harg8 arg9 harg9 arg10 harg10 arg11 harg11 arg12 harg12 arg13 harg13 arg14 harg14 v2329 v2396) := by
  rw [k0_part133_eq_skeleton]; unfold k0_part133_skel
  refine Safe.bind Safe.load ?_; intro x
  refine Safe.bind Safe.load ?_; intro x
  refine Safe.bind Safe.store ?_; intro x
  refine Safe.bind Safe.load ?_; intro x
  refine Safe.bind Safe.load ?_; intro x
  refine Safe.bind Safe.store ?_; intro x
  refine Safe.bind Safe.load ?_; intro x
  refine Safe.bind Safe.load ?_; intro x
  refine Safe.bind Safe.load ?_; intro x
  refine Safe.bind Safe.store ?_; intro x
  refine Safe.bind Safe.load ?_; intro x
  exact Safe.pure _

theorem safe_k0_part134 (v2329 : _) (v2431 : _) (v2434 : _) (cst_849 : _) :
    Safe (defs₀ (F := F)) c R (k0_part134 (F := F) i arg2 harg2 arg3 harg3 arg4 harg4 arg5 harg5 arg6 harg6 arg7 harg7 arg8 harg8 arg9 harg9 arg10 harg10 arg11 harg11 arg12 harg12 arg13 harg13 arg14 harg14 v2329 v2431 v2434 cst_849) := by
  rw [k0_part134_eq_skeleton]; unfold k0_part134_skel
  refine Safe.bind Safe.load ?_; intro x
  refine Safe.bind Safe.store ?_; intro x
  refine Safe.bind Safe.load ?_; intro x
  refine Safe.bind Safe.load ?_; intro x
  refine Safe.bind Safe.load ?_; intro x
  refine Safe.bind Safe.store ?_; intro x
  refine Safe.bind Safe.load ?_; intro x
  refine Safe.bind Safe.load ?_; intro x
  refine Safe.bind Safe.store ?_; intro x
  refine Safe.bind Safe.load ?_; intro x
  refine Safe.bind Safe.load ?_; intro x
  refine Safe.bind Safe.load ?_; intro x
  refine Safe.bind Safe.store ?_; intro x
  exact Safe.pure _

theorem safe_k0_part105 (v20 : _) (v54 : _) (v1952 : _) (v2023 : _) (v2047 : _) (v2160 : _) (c0_i32_760 : _) (c1_i32_762 : _) (k0_t4 : _) :
    Safe (defs₀ (F := F)) c R (k0_part105 (F := F) i arg2 harg2 arg3 harg3 arg4 harg4 arg5 harg5 arg6 harg6 arg7 harg7 arg8 harg8 arg9 harg9 arg10 harg10 arg11 harg11 arg12 harg12 arg13 harg13 arg14 harg14 v20 v54 v1952 v2023 v2047 v2160 c0_i32_760 c1_i32_762 k0_t4) := by
  rw [k0_part105_eq_skeleton]; unfold k0_part105_skel
  refine Safe.bind Safe.load ?_; intro x
  refine Safe.bind Safe.load ?_; intro x
  refine Safe.bind Safe.load ?_; intro x
  refine Safe.bind Safe.load ?_; intro x
  refine Safe.bind Safe.store ?_; intro x
  refine Safe.bind Safe.load ?_; intro x
  exact Safe.pure _

theorem safe_k0_part106 (v2063 : _) (v2353 : _) (v2359 : _) (v2364 : _) :
    Safe (defs₀ (F := F)) c R (k0_part106 (F := F) i arg2 harg2 arg3 harg3 arg4 harg4 arg5 harg5 arg6 harg6 arg7 harg7 arg8 harg8 arg9 harg9 arg10 harg10 arg11 harg11 arg12 harg12 arg13 harg13 arg14 harg14 v2063 v2353 v2359 v2364) := by
  rw [k0_part106_eq_skeleton]; unfold k0_part106_skel
  refine Safe.bind Safe.load ?_; intro x
  refine Safe.bind Safe.load ?_; intro x
  refine Safe.bind Safe.store ?_; intro x
  refine Safe.bind Safe.load ?_; intro x
  refine Safe.bind Safe.store ?_; intro x
  refine Safe.bind Safe.load ?_; intro x
  refine Safe.bind Safe.load ?_; intro x
  refine Safe.bind Safe.store ?_; intro x
  refine Safe.bind Safe.load ?_; intro x
  refine Safe.bind Safe.load ?_; intro x
  refine Safe.bind Safe.load ?_; intro x
  refine Safe.bind Safe.store ?_; intro x
  exact Safe.pure _

theorem safe_k0_part107 (v2079 : _) (v2095 : _) (v2353 : _) (v2359 : _) (v2390 : _) (v2399 : _) (v2400 : _) :
    Safe (defs₀ (F := F)) c R (k0_part107 (F := F) i arg2 harg2 arg3 harg3 arg4 harg4 arg5 harg5 arg6 harg6 arg7 harg7 arg8 harg8 arg9 harg9 arg10 harg10 arg11 harg11 arg12 harg12 arg13 harg13 arg14 harg14 v2079 v2095 v2353 v2359 v2390 v2399 v2400) := by
  rw [k0_part107_eq_skeleton]; unfold k0_part107_skel
  refine Safe.bind Safe.load ?_; intro x
  refine Safe.bind Safe.store ?_; intro x
  refine Safe.bind Safe.load ?_; intro x
  refine Safe.bind Safe.load ?_; intro x
  refine Safe.bind Safe.store ?_; intro x
  refine Safe.bind Safe.load ?_; intro x
  refine Safe.bind Safe.load ?_; intro x
  refine Safe.bind Safe.load ?_; intro x
  refine Safe.bind Safe.store ?_; intro x
  refine Safe.bind Safe.load ?_; intro x
  refine Safe.bind Safe.store ?_; intro x
  refine Safe.bind Safe.load ?_; intro x
  exact Safe.pure _

theorem safe_k0_part108 (v2111 : _) (v2355 : _) (v2359 : _) (v2429 : _) (v2436 : _) :
    Safe (defs₀ (F := F)) c R (k0_part108 (F := F) i arg2 harg2 arg3 harg3 arg4 harg4 arg5 harg5 arg6 harg6 arg7 harg7 arg8 harg8 arg9 harg9 arg10 harg10 arg11 harg11 arg12 harg12 arg13 harg13 arg14 harg14 v2111 v2355 v2359 v2429 v2436) := by
  rw [k0_part108_eq_skeleton]; unfold k0_part108_skel
  refine Safe.bind Safe.load ?_; intro x
  refine Safe.bind Safe.store ?_; intro x
  refine Safe.bind Safe.load ?_; intro x
  refine Safe.bind Safe.load ?_; intro x
  refine Safe.bind Safe.load ?_; intro x
  refine Safe.bind Safe.store ?_; intro x
  refine Safe.bind Safe.load ?_; intro x
  refine Safe.bind Safe.store ?_; intro x
  refine Safe.bind Safe.load ?_; intro x
  refine Safe.bind Safe.load ?_; intro x
  refine Safe.bind Safe.store ?_; intro x
  refine Safe.bind Safe.load ?_; intro x
  refine Safe.bind Safe.load ?_; intro x
  exact Safe.pure _

theorem safe_k0_part109 (v2127 : _) (v2355 : _) (v2359 : _) (v2468 : _) (v2469 : _) :
    Safe (defs₀ (F := F)) c R (k0_part109 (F := F) i arg2 harg2 arg3 harg3 arg4 harg4 arg5 harg5 arg6 harg6 arg7 harg7 arg8 harg8 arg9 harg9 arg10 harg10 arg11 harg11 arg12 harg12 arg13 harg13 arg14 harg14 v2127 v2355 v2359 v2468 v2469) := by
  rw [k0_part109_eq_skeleton]; unfold k0_part109_skel
  refine Safe.bind Safe.load ?_; intro x
  refine Safe.bind Safe.store ?_; intro x
  refine Safe.bind Safe.load ?_; intro x
  refine Safe.bind Safe.store ?_; intro x
  refine Safe.bind Safe.load ?_; intro x
  refine Safe.bind Safe.load ?_; intro x
  refine Safe.bind Safe.store ?_; intro x
  refine Safe.bind Safe.load ?_; intro x
  refine Safe.bind Safe.load ?_; intro x
  refine Safe.bind Safe.load ?_; intro x
  refine Safe.bind Safe.store ?_; intro x
  exact Safe.pure _

theorem safe_k0_part110 (v2143 : _) (v2159 : _) (v2355 : _) (v2359 : _) (v2503 : _) (v2507 : _) (cst_887 : _) :
    Safe (defs₀ (F := F)) c R (k0_part110 (F := F) i arg2 harg2 arg3 harg3 arg4 harg4 arg5 harg5 arg6 harg6 arg7 harg7 arg8 harg8 arg9 harg9 arg10 harg10 arg11 harg11 arg12 harg12 arg13 harg13 arg14 harg14 v2143 v2159 v2355 v2359 v2503 v2507 cst_887) := by
  rw [k0_part110_eq_skeleton]; unfold k0_part110_skel
  refine Safe.bind Safe.load ?_; intro x
  refine Safe.bind Safe.store ?_; intro x
  refine Safe.bind Safe.load ?_; intro x
  refine Safe.bind Safe.load ?_; intro x
  refine Safe.bind Safe.store ?_; intro x
  refine Safe.bind Safe.load ?_; intro x
  refine Safe.bind Safe.load ?_; intro x
  refine Safe.bind Safe.load ?_; intro x
  refine Safe.bind Safe.store ?_; intro x
  refine Safe.bind Safe.load ?_; intro x
  refine Safe.bind Safe.store ?_; intro x
  refine Safe.bind Safe.load ?_; intro x
  exact Safe.pure _

theorem safe_k0_part111 (v20 : _) (v54 : _) (k0_t4 : _) (arg15 : _) (v2359 : _) (v2542 : _) :
    Safe (defs₀ (F := F)) c R (k0_part111 (F := F) i arg2 harg2 arg3 harg3 arg4 harg4 arg5 harg5 arg6 harg6 arg7 harg7 arg8 harg8 arg9 harg9 arg10 harg10 arg11 harg11 arg12 harg12 arg13 harg13 arg14 harg14 v20 v54 k0_t4 arg15 v2359 v2542) := by
  rw [k0_part111_eq_skeleton]; unfold k0_part111_skel
  refine Safe.bind Safe.load ?_; intro x
  refine Safe.bind Safe.store ?_; intro x
  refine Safe.bind Safe.load ?_; intro x
  refine Safe.bind Safe.load ?_; intro x
  refine Safe.bind Safe.load ?_; intro x
  refine Safe.bind Safe.store ?_; intro x
  refine Safe.bind Safe.load ?_; intro x
  refine Safe.bind Safe.load ?_; intro x
  refine Safe.bind Safe.store ?_; intro x
  refine Safe.bind Safe.load ?_; intro x
  exact Safe.pure _

theorem safe_k0_part112 (v1952 : _) (v2023 : _) (v2047 : _) (v2160 : _) (k0_t4 : _) (v2569 : _) (v2574 : _) (v2577 : _) (v2579 : _) :
    Safe (defs₀ (F := F)) c R (k0_part112 (F := F) i arg2 harg2 arg3 harg3 arg4 harg4 arg5 harg5 arg6 harg6 arg7 harg7 arg8 harg8 arg9 harg9 arg10 harg10 arg11 harg11 arg12 harg12 arg13 harg13 arg14 harg14 v1952 v2023 v2047 v2160 k0_t4 v2569 v2574 v2577 v2579) := by
  rw [k0_part112_eq_skeleton]; unfold k0_part112_skel
  refine Safe.bind Safe.load ?_; intro x
  refine Safe.bind Safe.load ?_; intro x
  refine Safe.bind Safe.load ?_; intro x
  refine Safe.bind Safe.store ?_; intro x
  refine Safe.bind Safe.load ?_; intro x
  refine Safe.bind Safe.load ?_; intro x
  refine Safe.bind Safe.load ?_; intro x
  refine Safe.bind Safe.store ?_; intro x
  exact Safe.pure _

theorem safe_k0_part113 (v2063 : _) (v2079 : _) (v2597 : _) (v2603 : _) (v2617 : _) (v2620 : _) :
    Safe (defs₀ (F := F)) c R (k0_part113 (F := F) i arg2 harg2 arg3 harg3 arg4 harg4 arg5 harg5 arg6 harg6 arg7 harg7 arg8 harg8 arg9 harg9 arg10 harg10 arg11 harg11 arg12 harg12 arg13 harg13 arg14 harg14 v2063 v2079 v2597 v2603 v2617 v2620) := by
  rw [k0_part113_eq_skeleton]; unfold k0_part113_skel
  refine Safe.bind Safe.load ?_; intro x
  refine Safe.bind Safe.store ?_; intro x
  refine Safe.bind Safe.load ?_; intro x
  refine Safe.bind Safe.load ?_; intro x
  refine Safe.bind Safe.store ?_; intro x
  refine Safe.bind Safe.load ?_; intro x
  refine Safe.bind Safe.load ?_; intro x
  refine Safe.bind Safe.load ?_; intro x
  refine Safe.bind Safe.store ?_; intro x
  refine Safe.bind Safe.load ?_; intro x
  refine Safe.bind Safe.store ?_; intro x
  refine Safe.bind Safe.load ?_; intro x
  exact Safe.pure _

theorem safe_k0_part114 (v2095 : _) (v2597 : _) (v2603 : _) (v2654 : _) (v2655 : _) :
    Safe (defs₀ (F := F)) c R (k0_part114 (F := F) i arg2 harg2 arg3 harg3 arg4 harg4 arg5 harg5 arg6 harg6 arg7 harg7 arg8 harg8 arg9 harg9 arg10 harg10 arg11 harg11 arg12 harg12 arg13 harg13 arg14 harg14 v2095 v2597 v2603 v2654 v2655) := by
  rw [k0_part114_eq_skeleton]; unfold k0_part114_skel
  refine Safe.bind Safe.load ?_; intro x
  refine Safe.bind Safe.store ?_; intro x
  refine Safe.bind Safe.load ?_; intro x
  refine Safe.bind Safe.load ?_; intro x
  refine Safe.bind Safe.load ?_; intro x
  refine Safe.bind Safe.store ?_; intro x
  refine Safe.bind Safe.load ?_; intro x
  refine Safe.bind Safe.store ?_; intro x
  refine Safe.bind Safe.load ?_; intro x
  refine Safe.bind Safe.load ?_; intro x
  refine Safe.bind Safe.store ?_; intro x
  refine Safe.bind Safe.load ?_; intro x
  refine Safe.bind Safe.load ?_; intro x
  exact Safe.pure _

theorem safe_k0_part115 (v2111 : _) (v2127 : _) (v2599 : _) (v2603 : _) (v2686 : _) (v2687 : _) (v2689 : _) :
    Safe (defs₀ (F := F)) c R (k0_part115 (F := F) i arg2 harg2 arg3 harg3 arg4 harg4 arg5 harg5 arg6 harg6 arg7 harg7 arg8 harg8 arg9 harg9 arg10 harg10 arg11 harg11 arg12 harg12 arg13 harg13 arg14 harg14 v2111 v2127 v2599 v2603 v2686 v2687 v2689) := by
  rw [k0_part115_eq_skeleton]; unfold k0_part115_skel
  refine Safe.bind Safe.load ?_; intro x
  refine Safe.bind Safe.store ?_; intro x
  refine Safe.bind Safe.load ?_; intro x
  refine Safe.bind Safe.store ?_; intro x
  refine Safe.bind Safe.load ?_; intro x
  refine Safe.bind Safe.load ?_; intro x
  refine Safe.bind Safe.store ?_; intro x
  refine Safe.bind Safe.load ?_; intro x
  refine Safe.bind Safe.load ?_; intro x
  refine Safe.bind Safe.load ?_; intro x
  refine Safe.bind Safe.store ?_; intro x
  exact Safe.pure _

theorem safe_k0_part116 (v2143 : _) (v2599 : _) (v2603 : _) (v2721 : _) (v2725 : _) (v2726 : _) :
    Safe (defs₀ (F := F)) c R (k0_part116 (F := F) i arg2 harg2 arg3 harg3 arg4 harg4 arg5 harg5 arg6 harg6 arg7 harg7 arg8 harg8 arg9 harg9 arg10 harg10 arg11 harg11 arg12 harg12 arg13 harg13 arg14 harg14 v2143 v2599 v2603 v2721 v2725 v2726) := by
  rw [k0_part116_eq_skeleton]; unfold k0_part116_skel
  refine Safe.bind Safe.load ?_; intro x
  refine Safe.bind Safe.store ?_; intro x
  refine Safe.bind Safe.load ?_; intro x
  refine Safe.bind Safe.load ?_; intro x
  refine Safe.bind Safe.store ?_; intro x
  refine Safe.bind Safe.load ?_; intro x
  refine Safe.bind Safe.load ?_; intro x
  refine Safe.bind Safe.load ?_; intro x
  refine Safe.bind Safe.store ?_; intro x
  refine Safe.bind Safe.load ?_; intro x
  refine Safe.bind Safe.store ?_; intro x
  refine Safe.bind Safe.load ?_; intro x
  refine Safe.bind Safe.load ?_; intro x
  exact Safe.pure _

theorem safe_k0_part117 (v2159 : _) (v2599 : _) (v2603 : _) (v2760 : _) (v2761 : _) :
    Safe (defs₀ (F := F)) c R (k0_part117 (F := F) i arg2 harg2 arg3 harg3 arg4 harg4 arg5 harg5 arg6 harg6 arg7 harg7 arg8 harg8 arg9 harg9 arg10 harg10 arg11 harg11 arg12 harg12 arg13 harg13 arg14 harg14 v2159 v2599 v2603 v2760 v2761) := by
  rw [k0_part117_eq_skeleton]; unfold k0_part117_skel
  refine Safe.bind Safe.store ?_; intro x
  refine Safe.bind Safe.load ?_; intro x
  refine Safe.bind Safe.load ?_; intro x
  refine Safe.bind Safe.load ?_; intro x
  refine Safe.bind Safe.store ?_; intro x
  refine Safe.bind Safe.load ?_; intro x
  refine Safe.bind Safe.store ?_; intro x
  refine Safe.bind Safe.load ?_; intro x
  refine Safe.bind Safe.load ?_; intro x
  refine Safe.bind Safe.store ?_; intro x
  refine Safe.bind Safe.load ?_; intro x
  refine Safe.bind Safe.load ?_; intro x
  refine Safe.bind Safe.load ?_; intro x
  exact Safe.pure _

theorem safe_k0_part118 (v20 : _) (v54 : _) (v1952 : _) (v2023 : _) (v2047 : _) (v2160 : _) (v2251 : _) (c1_i32_763 : _) (k0_t5 : _) :
    Safe (defs₀ (F := F)) c R (k0_part118 (F := F) i arg2 harg2 arg3 harg3 arg4 harg4 arg5 harg5 arg6 harg6 arg7 harg7 arg8 harg8 arg9 harg9 arg10 harg10 arg11 harg11 arg12 harg12 arg13 harg13 arg14 harg14 v20 v54 v1952 v2023 v2047 v2160 v2251 c1_i32_763 k0_t5) := by
  rw [k0_part118_eq_skeleton]; unfold k0_part118_skel
  refine Safe.bind Safe.load ?_; intro x
  refine Safe.bind Safe.load ?_; intro x
  refine Safe.bind Safe.load ?_; intro x
  refine Safe.bind Safe.load ?_; intro x
  refine Safe.bind Safe.store ?_; intro x
  refine Safe.bind Safe.load ?_; intro x
  exact Safe.pure _

theorem safe_k0_part119 (v2063 : _) (v2353 : _) (v2359 : _) (v2364 : _) :
    Safe (defs₀ (F := F)) c R (k0_part119 (F := F) i arg2 harg2 arg3 harg3 arg4 harg4 arg5 harg5 arg6 harg6 arg7 harg7 arg8 harg8 arg9 harg9 arg10 harg10 arg11 harg11 arg12 harg12 arg13 harg13 arg14 harg14 v2063 v2353 v2359 v2364) := by
  rw [k0_part119_eq_skeleton]; unfold k0_part119_skel
  refine Safe.bind Safe.load ?_; intro x
  refine Safe.bind Safe.load ?_; intro x
  refine Safe.bind Safe.store ?_; intro x
  refine Safe.bind Safe.load ?_; intro x
  refine Safe.bind Safe.store ?_; intro x
  refine Safe.bind Safe.load ?_; intro x
  refine Safe.bind Safe.load ?_; intro x
  refine Safe.bind Safe.store ?_; intro x
  refine Safe.bind Safe.load ?_; intro x
  refine Safe.bind Safe.load ?_; intro x
  refine Safe.bind Safe.load ?_; intro x
  refine Safe.bind Safe.store ?_; intro x
  exact Safe.pure _

theorem safe_k0_part120 (v2079 : _) (v2095 : _) (v2353 : _) (v2359 : _) (v2390 : _) (v2399 : _) (v2400 : _) :
    Safe (defs₀ (F := F)) c R (k0_part120 (F := F) i arg2 harg2 arg3 harg3 arg4 harg4 arg5 harg5 arg6 harg6 arg7 harg7 arg8 harg8 arg9 harg9 arg10 harg10 arg11 harg11 arg12 harg12 arg13 harg13 arg14 harg14 v2079 v2095 v2353 v2359 v2390 v2399 v2400) := by
  rw [k0_part120_eq_skeleton]; unfold k0_part120_skel
  refine Safe.bind Safe.load ?_; intro x
  refine Safe.bind Safe.store ?_; intro x
  refine Safe.bind Safe.load ?_; intro x
  refine Safe.bind Safe.load ?_; intro x
  refine Safe.bind Safe.store ?_; intro x
  refine Safe.bind Safe.load ?_; intro x
  refine Safe.bind Safe.load ?_; intro x
  refine Safe.bind Safe.load ?_; intro x
  refine Safe.bind Safe.store ?_; intro x
  refine Safe.bind Safe.load ?_; intro x
  refine Safe.bind Safe.store ?_; intro x
  refine Safe.bind Safe.load ?_; intro x
  exact Safe.pure _

theorem safe_k0_part121 (v2111 : _) (v2355 : _) (v2359 : _) (v2429 : _) (v2436 : _) :
    Safe (defs₀ (F := F)) c R (k0_part121 (F := F) i arg2 harg2 arg3 harg3 arg4 harg4 arg5 harg5 arg6 harg6 arg7 harg7 arg8 harg8 arg9 harg9 arg10 harg10 arg11 harg11 arg12 harg12 arg13 harg13 arg14 harg14 v2111 v2355 v2359 v2429 v2436) := by
  rw [k0_part121_eq_skeleton]; unfold k0_part121_skel
  refine Safe.bind Safe.load ?_; intro x
  refine Safe.bind Safe.store ?_; intro x
  refine Safe.bind Safe.load ?_; intro x
  refine Safe.bind Safe.load ?_; intro x
  refine Safe.bind Safe.load ?_; intro x
  refine Safe.bind Safe.store ?_; intro x
  refine Safe.bind Safe.load ?_; intro x
  refine Safe.bind Safe.store ?_; intro x
  refine Safe.bind Safe.load ?_; intro x
  refine Safe.bind Safe.load ?_; intro x
  refine Safe.bind Safe.store ?_; intro x
  refine Safe.bind Safe.load ?_; intro x
  refine Safe.bind Safe.load ?_; intro x
  exact Safe.pure _

theorem safe_k0_part122 (v2127 : _) (v2355 : _) (v2359 : _) (v2468 : _) (v2469 : _) :
    Safe (defs₀ (F := F)) c R (k0_part122 (F := F) i arg2 harg2 arg3 harg3 arg4 harg4 arg5 harg5 arg6 harg6 arg7 harg7 arg8 harg8 arg9 harg9 arg10 harg10 arg11 harg11 arg12 harg12 arg13 harg13 arg14 harg14 v2127 v2355 v2359 v2468 v2469) := by
  rw [k0_part122_eq_skeleton]; unfold k0_part122_skel
  refine Safe.bind Safe.load ?_; intro x
  refine Safe.bind Safe.store ?_; intro x
  refine Safe.bind Safe.load ?_; intro x
  refine Safe.bind Safe.store ?_; intro x
  refine Safe.bind Safe.load ?_; intro x
  refine Safe.bind Safe.load ?_; intro x
  refine Safe.bind Safe.store ?_; intro x
  refine Safe.bind Safe.load ?_; intro x
  refine Safe.bind Safe.load ?_; intro x
  refine Safe.bind Safe.load ?_; intro x
  refine Safe.bind Safe.store ?_; intro x
  exact Safe.pure _

theorem safe_k0_part123 (v2143 : _) (v2159 : _) (v2355 : _) (v2359 : _) (v2503 : _) (v2507 : _) (cst_887 : _) :
    Safe (defs₀ (F := F)) c R (k0_part123 (F := F) i arg2 harg2 arg3 harg3 arg4 harg4 arg5 harg5 arg6 harg6 arg7 harg7 arg8 harg8 arg9 harg9 arg10 harg10 arg11 harg11 arg12 harg12 arg13 harg13 arg14 harg14 v2143 v2159 v2355 v2359 v2503 v2507 cst_887) := by
  rw [k0_part123_eq_skeleton]; unfold k0_part123_skel
  refine Safe.bind Safe.load ?_; intro x
  refine Safe.bind Safe.store ?_; intro x
  refine Safe.bind Safe.load ?_; intro x
  refine Safe.bind Safe.load ?_; intro x
  refine Safe.bind Safe.store ?_; intro x
  refine Safe.bind Safe.load ?_; intro x
  refine Safe.bind Safe.load ?_; intro x
  refine Safe.bind Safe.load ?_; intro x
  refine Safe.bind Safe.store ?_; intro x
  refine Safe.bind Safe.load ?_; intro x
  refine Safe.bind Safe.store ?_; intro x
  refine Safe.bind Safe.load ?_; intro x
  exact Safe.pure _

theorem safe_k0_part124 (v20 : _) (v54 : _) (k0_t5 : _) (arg15 : _) (v2359 : _) (v2542 : _) :
    Safe (defs₀ (F := F)) c R (k0_part124 (F := F) i arg2 harg2 arg3 harg3 arg4 harg4 arg5 harg5 arg6 harg6 arg7 harg7 arg8 harg8 arg9 harg9 arg10 harg10 arg11 harg11 arg12 harg12 arg13 harg13 arg14 harg14 v20 v54 k0_t5 arg15 v2359 v2542) := by
  rw [k0_part124_eq_skeleton]; unfold k0_part124_skel
  refine Safe.bind Safe.load ?_; intro x
  refine Safe.bind Safe.store ?_; intro x
  refine Safe.bind Safe.load ?_; intro x
  refine Safe.bind Safe.load ?_; intro x
  refine Safe.bind Safe.load ?_; intro x
  refine Safe.bind Safe.store ?_; intro x
  refine Safe.bind Safe.load ?_; intro x
  refine Safe.bind Safe.load ?_; intro x
  refine Safe.bind Safe.store ?_; intro x
  refine Safe.bind Safe.load ?_; intro x
  exact Safe.pure _

theorem safe_k0_part125 (v1952 : _) (v2023 : _) (v2047 : _) (v2160 : _) (k0_t5 : _) (v2569 : _) (v2574 : _) (v2577 : _) (v2579 : _) :
    Safe (defs₀ (F := F)) c R (k0_part125 (F := F) i arg2 harg2 arg3 harg3 arg4 harg4 arg5 harg5 arg6 harg6 arg7 harg7 arg8 harg8 arg9 harg9 arg10 harg10 arg11 harg11 arg12 harg12 arg13 harg13 arg14 harg14 v1952 v2023 v2047 v2160 k0_t5 v2569 v2574 v2577 v2579) := by
  rw [k0_part125_eq_skeleton]; unfold k0_part125_skel
  refine Safe.bind Safe.load ?_; intro x
  refine Safe.bind Safe.load ?_; intro x
  refine Safe.bind Safe.load ?_; intro x
  refine Safe.bind Safe.store ?_; intro x
  refine Safe.bind Safe.load ?_; intro x
  refine Safe.bind Safe.load ?_; intro x
  refine Safe.bind Safe.load ?_; intro x
  refine Safe.bind Safe.store ?_; intro x
  exact Safe.pure _

theorem safe_k0_part126 (v2063 : _) (v2079 : _) (v2597 : _) (v2603 : _) (v2617 : _) (v2620 : _) :
    Safe (defs₀ (F := F)) c R (k0_part126 (F := F) i arg2 harg2 arg3 harg3 arg4 harg4 arg5 harg5 arg6 harg6 arg7 harg7 arg8 harg8 arg9 harg9 arg10 harg10 arg11 harg11 arg12 harg12 arg13 harg13 arg14 harg14 v2063 v2079 v2597 v2603 v2617 v2620) := by
  rw [k0_part126_eq_skeleton]; unfold k0_part126_skel
  refine Safe.bind Safe.load ?_; intro x
  refine Safe.bind Safe.store ?_; intro x
  refine Safe.bind Safe.load ?_; intro x
  refine Safe.bind Safe.load ?_; intro x
  refine Safe.bind Safe.store ?_; intro x
  refine Safe.bind Safe.load ?_; intro x
  refine Safe.bind Safe.load ?_; intro x
  refine Safe.bind Safe.load ?_; intro x
  refine Safe.bind Safe.store ?_; intro x
  refine Safe.bind Safe.load ?_; intro x
  refine Safe.bind Safe.store ?_; intro x
  refine Safe.bind Safe.load ?_; intro x
  exact Safe.pure _

theorem safe_k0_part127 (v2095 : _) (v2597 : _) (v2603 : _) (v2654 : _) (v2655 : _) :
    Safe (defs₀ (F := F)) c R (k0_part127 (F := F) i arg2 harg2 arg3 harg3 arg4 harg4 arg5 harg5 arg6 harg6 arg7 harg7 arg8 harg8 arg9 harg9 arg10 harg10 arg11 harg11 arg12 harg12 arg13 harg13 arg14 harg14 v2095 v2597 v2603 v2654 v2655) := by
  rw [k0_part127_eq_skeleton]; unfold k0_part127_skel
  refine Safe.bind Safe.load ?_; intro x
  refine Safe.bind Safe.store ?_; intro x
  refine Safe.bind Safe.load ?_; intro x
  refine Safe.bind Safe.load ?_; intro x
  refine Safe.bind Safe.load ?_; intro x
  refine Safe.bind Safe.store ?_; intro x
  refine Safe.bind Safe.load ?_; intro x
  refine Safe.bind Safe.store ?_; intro x
  refine Safe.bind Safe.load ?_; intro x
  refine Safe.bind Safe.load ?_; intro x
  refine Safe.bind Safe.store ?_; intro x
  refine Safe.bind Safe.load ?_; intro x
  refine Safe.bind Safe.load ?_; intro x
  exact Safe.pure _

theorem safe_k0_part128 (v2111 : _) (v2127 : _) (v2599 : _) (v2603 : _) (v2686 : _) (v2687 : _) (v2689 : _) :
    Safe (defs₀ (F := F)) c R (k0_part128 (F := F) i arg2 harg2 arg3 harg3 arg4 harg4 arg5 harg5 arg6 harg6 arg7 harg7 arg8 harg8 arg9 harg9 arg10 harg10 arg11 harg11 arg12 harg12 arg13 harg13 arg14 harg14 v2111 v2127 v2599 v2603 v2686 v2687 v2689) := by
  rw [k0_part128_eq_skeleton]; unfold k0_part128_skel
  refine Safe.bind Safe.load ?_; intro x
  refine Safe.bind Safe.store ?_; intro x
  refine Safe.bind Safe.load ?_; intro x
  refine Safe.bind Safe.store ?_; intro x
  refine Safe.bind Safe.load ?_; intro x
  refine Safe.bind Safe.load ?_; intro x
  refine Safe.bind Safe.store ?_; intro x
  refine Safe.bind Safe.load ?_; intro x
  refine Safe.bind Safe.load ?_; intro x
  refine Safe.bind Safe.load ?_; intro x
  refine Safe.bind Safe.store ?_; intro x
  exact Safe.pure _

theorem safe_k0_part129 (v2143 : _) (v2599 : _) (v2603 : _) (v2721 : _) (v2725 : _) (v2726 : _) :
    Safe (defs₀ (F := F)) c R (k0_part129 (F := F) i arg2 harg2 arg3 harg3 arg4 harg4 arg5 harg5 arg6 harg6 arg7 harg7 arg8 harg8 arg9 harg9 arg10 harg10 arg11 harg11 arg12 harg12 arg13 harg13 arg14 harg14 v2143 v2599 v2603 v2721 v2725 v2726) := by
  rw [k0_part129_eq_skeleton]; unfold k0_part129_skel
  refine Safe.bind Safe.load ?_; intro x
  refine Safe.bind Safe.store ?_; intro x
  refine Safe.bind Safe.load ?_; intro x
  refine Safe.bind Safe.load ?_; intro x
  refine Safe.bind Safe.store ?_; intro x
  refine Safe.bind Safe.load ?_; intro x
  refine Safe.bind Safe.load ?_; intro x
  refine Safe.bind Safe.load ?_; intro x
  refine Safe.bind Safe.store ?_; intro x
  refine Safe.bind Safe.load ?_; intro x
  refine Safe.bind Safe.store ?_; intro x
  refine Safe.bind Safe.load ?_; intro x
  refine Safe.bind Safe.load ?_; intro x
  exact Safe.pure _

theorem safe_k0_part130 (v2159 : _) (v2599 : _) (v2603 : _) (v2760 : _) (v2761 : _) :
    Safe (defs₀ (F := F)) c R (k0_part130 (F := F) i arg2 harg2 arg3 harg3 arg4 harg4 arg5 harg5 arg6 harg6 arg7 harg7 arg8 harg8 arg9 harg9 arg10 harg10 arg11 harg11 arg12 harg12 arg13 harg13 arg14 harg14 v2159 v2599 v2603 v2760 v2761) := by
  rw [k0_part130_eq_skeleton]; unfold k0_part130_skel
  refine Safe.bind Safe.store ?_; intro x
  refine Safe.bind Safe.load ?_; intro x
  refine Safe.bind Safe.load ?_; intro x
  refine Safe.bind Safe.load ?_; intro x
  refine Safe.bind Safe.store ?_; intro x
  refine Safe.bind Safe.load ?_; intro x
  refine Safe.bind Safe.store ?_; intro x
  refine Safe.bind Safe.load ?_; intro x
  refine Safe.bind Safe.load ?_; intro x
  refine Safe.bind Safe.store ?_; intro x
  refine Safe.bind Safe.load ?_; intro x
  refine Safe.bind Safe.load ?_; intro x
  refine Safe.bind Safe.load ?_; intro x
  exact Safe.pure _

theorem safe_k0_part189 :
    Safe (defs₀ (F := F)) c R (k0_part189 (F := F) i arg2 harg2 arg3 harg3 arg4 harg4 arg5 harg5 arg6 harg6 arg7 harg7 arg8 harg8 arg9 harg9 arg10 harg10 arg11 harg11 arg12 harg12 arg13 harg13 arg14 harg14) := by
  rw [k0_part189_eq_skeleton]; unfold k0_part189_skel
  refine Safe.bind Safe.load ?_; intro x
  refine Safe.bind Safe.load ?_; intro x
  refine Safe.bind Safe.load ?_; intro x
  refine Safe.bind Safe.store ?_; intro x
  refine Safe.bind Safe.load ?_; intro x
  refine Safe.bind Safe.store ?_; intro x
  refine Safe.bind Safe.load ?_; intro x
  refine Safe.bind Safe.store ?_; intro x
  refine Safe.bind Safe.load ?_; intro x
  refine Safe.bind Safe.store ?_; intro x
  refine Safe.bind Safe.load ?_; intro x
  refine Safe.bind Safe.store ?_; intro x
  exact Safe.pure _

end Cert.SparseFrame
end
-- ==== Proof.SparseBody.lean ====
/-
  The sparse attention body: the regions of its loops, the parts that contain them, and the whole body, safe.
-/
module

public import proofs.«01_k».proof.Proof.Safe
public import proofs.«01_k».proof.Proof.SparseParts

@[expose] public section

set_option maxRecDepth 16384

noncomputable section

namespace Cert.SparseFrame

open Cert.Kernel Cert.Kernel.Gen Cert.SafeRun
open Idealize.ShloMosaic Idealize.ShloMosaic.TcCoe Idealize.ShloMosaic.Rounds
open Idealize.SL Idealize.SL.RA Idealize.SL.BI Idealize.SL.Sem

variable {F : FTy → Type} [BitOps F] (c : Dev nD) (R : sProp (MT nD τ sig Unit (Elt F) Nat (UR sig nD τ) Nat)) (i : grid0.Coords)
variable
  (arg2 : Memref sig .tc .vmem S256x512 .bf16) (harg2 : arg2.IsWhole)
  (arg3 : Memref sig .tc .vmem S256x256 .bf16) (harg3 : arg3.IsWhole)
  (arg4 : Memref sig .tc .vmem S1x8x256 .f32) (harg4 : arg4.IsWhole)
  (arg5 : Memref sig .tc .vmem S4096x128 .bf16) (harg5 : arg5.IsWhole)
  (arg6 : Memref sig .tc .vmem S4096x128 .bf16) (harg6 : arg6.IsWhole)
  (arg7 : Memref sig .tc .vmem S8x64x512 .bf16) (harg7 : arg7.IsWhole)
  (arg8 : Memref sig .tc .vmem S256x512 .bf16) (harg8 : arg8.IsWhole)
  (arg9 : Memref sig .tc .vmem S8x512x256 .i32) (harg9 : arg9.IsWhole)
  (arg10 : Memref sig .tc .vmem S32x128x256 .i32) (harg10 : arg10.IsWhole)
  (arg11 : Memref sig .tc .vmem S1x2048 .f32) (harg11 : arg11.IsWhole)
  (arg12 : Memref sig .tc .vmem S80x2048 .f32) (harg12 : arg12.IsWhole)
  (arg13 : Memref sig .tc .vmem S512x2048 .f32) (harg13 : arg13.IsWhole)
  (arg14 : Memref sig .tc .vmem S512x2048 .f32) (harg14 : arg14.IsWhole)
variable [Holds c R arg2] [Holds c R arg3] [Holds c R arg4] [Holds c R arg5] [Holds c R arg6] [Holds c R arg7] [Holds c R arg8] [Holds c R arg9] [Holds c R arg10] [Holds c R arg11] [Holds c R arg12] [Holds c R arg13] [Holds c R arg14]

theorem safe_k0_part44 (v47 : _) (v49 : _) (c_m2147483648_i32 : _) (c0_i32_21 : _) (c1_i32_23 : _) (k0_t1 : _) :
    Safe (defs₀ (F := F)) c R (k0_part44 (F := F) i arg2 harg2 arg3 harg3 arg4 harg4 arg5 harg5 arg6 harg6 arg7 harg7 arg8 harg8 arg9 harg9 arg10 harg10 arg11 harg11 arg12 harg12 arg13 harg13 arg14 harg14 v47 v49 c_m2147483648_i32 c0_i32_21 c1_i32_23 k0_t1) := by
  rw [k0_part44_eq_skeleton]; unfold k0_part44_skel
  refine Safe.bind (safe_k0_part1 c R i arg2 harg2 arg3 harg3 arg4 harg4 arg5 harg5 arg6 harg6 arg7 harg7 arg8 harg8 arg9 harg9 arg10 harg10 arg11 harg11 arg12 harg12 arg13 harg13 arg14 harg14 _ _ _ _ _ _) ?_; rintro ⟨x0, x1, x2, x3, x4⟩
  refine Safe.bind (by rw [k0_part2_eq_skeleton]; exact Safe.pure _) ?_; rintro ⟨x0, x1, x2, x3, x4, x5, x6, x7, x8, x9, x10, x11, x12, x13, x14, x15, x16, x17, x18, x19, x20, x21, x22, x23, x24, x25, x26, x27, x28, x29, x30, x31⟩
  refine Safe.bind (by rw [k0_part3_eq_skeleton]; exact Safe.pure _) ?_; rintro ⟨x0, x1, x2, x3, x4, x5, x6, x7⟩
  refine Safe.bind (by rw [k0_part4_eq_skeleton]; exact Safe.pure _) ?_; rintro ⟨x0, x1, x2, x3, x4, x5, x6, x7, x8⟩
  refine Safe.bind (by rw [k0_part5_eq_skeleton]; exact Safe.pure _) ?_; rintro ⟨x0, x1, x2, x3, x4, x5, x6, x7, x8⟩
  refine Safe.bind (by rw [k0_part6_eq_skeleton]; exact Safe.pure _) ?_; rintro ⟨x0, x1, x2, x3, x4, x5, x6, x7, x8⟩
  refine Safe.bind (by rw [k0_part7_eq_skeleton]; exact Safe.pure _) ?_; rintro ⟨x0, x1, x2, x3, x4, x5, x6, x7, x8, x9, x10⟩
  refine Safe.bind (by rw [k0_part8_eq_skeleton]; exact Safe.pure _) ?_; rintro ⟨x0, x1, x2, x3, x4, x5, x6, x7, x8⟩
  refine Safe.bind (by rw [k0_part9_eq_skeleton]; exact Safe.pure _) ?_; rintro ⟨x0, x1, x2, x3, x4, x5, x6, x7, x8, x9, x10⟩
  refine Safe.bind (by rw [k0_part10_eq_skeleton]; exact Safe.pure _) ?_; rintro ⟨x0, x1, x2, x3, x4, x5, x6, x7⟩
  refine Safe.bind (by rw [k0_part11_eq_skeleton]; exact Safe.pure _) ?_; rintro ⟨x0, x1, x2, x3, x4, x5, x6, x7, x8⟩
  refine Safe.bind (by rw [k0_part12_eq_skeleton]; exact Safe.pure _) ?_; rintro ⟨x0, x1, x2, x3, x4, x5, x6⟩
  refine Safe.bind (by rw [k0_part13_eq_skeleton]; exact Safe.pure _) ?_; rintro ⟨x0, x1, x2, x3, x4, x5, x6⟩
  refine Safe.bind (by rw [k0_part14_eq_skeleton]; exact Safe.pure _) ?_; rintro ⟨x0, x1, x2, x3, x4, x5, x6, x7, x8⟩
  refine Safe.bind (by rw [k0_part15_eq_skeleton]; exact Safe.pure _) ?_; rintro ⟨x0, x1, x2, x3, x4, x5, x6, x7, x8⟩
  refine Safe.bind (by rw [k0_part16_eq_skeleton]; exact Safe.pure _) ?_; rintro ⟨x0, x1, x2, x3, x4, x5, x6⟩
  refine Safe.bind (by rw [k0_part17_eq_skeleton]; exact Safe.pure _) ?_; rintro ⟨x0, x1, x2, x3, x4, x5, x6⟩
  refine Safe.bind (safe_k0_part18 c R i arg2 harg2 arg3 harg3 arg4 harg4 arg5 harg5 arg6 harg6 arg7 harg7 arg8 harg8 arg9 harg9 arg10 harg10 arg11 harg11 arg12 harg12 arg13 harg13 arg14 harg14 _ _ _ _ _ _ _ _ _ _) ?_; rintro ⟨x0, x1, x2, x3, x4⟩
  refine Safe.bind (safe_k0_part19 c R i arg2 harg2 arg3 harg3 arg4 harg4 arg5 harg5 arg6 harg6 arg7 harg7 arg8 harg8 arg9 harg9 arg10 harg10 arg11 harg11 arg12 harg12 arg13 harg13 arg14 harg14 _ _ _ _ _ _ _ _ _ _) ?_; intro x
  refine Safe.bind (safe_k0_part20 c R i arg2 harg2 arg3 harg3 arg4 harg4 arg5 harg5 arg6 harg6 arg7 harg7 arg8 harg8 arg9 harg9 arg10 harg10 arg11 harg11 arg12 harg12 arg13 harg13 arg14 harg14 _ _ _ _ _ _ _ _ _) ?_; intro x
  refine Safe.bind (safe_k0_part21 c R i arg2 harg2 arg3 harg3 arg4 harg4 arg5 harg5 arg6 harg6 arg7 harg7 arg8 harg8 arg9 harg9 arg10 harg10 arg11 harg11 arg12 harg12 arg13 harg13 arg14 harg14 _ _ _ _ _ _ _ _ _) ?_; intro x
  refine Safe.bind (safe_k0_part22 c R i arg2 harg2 arg3 harg3 arg4 harg4 arg5 harg5 arg6 harg6 arg7 harg7 arg8 harg8 arg9 harg9 arg10 harg10 arg11 harg11 arg12 harg12 arg13 harg13 arg14 harg14 _ _ _ _ _ _ _ _ _ _) ?_; intro x
  refine Safe.bind (safe_k0_part23 c R i arg2 harg2 arg3 harg3 arg4 harg4 arg5 harg5 arg6 harg6 arg7 harg7 arg8 harg8 arg9 harg9 arg10 harg10 arg11 harg11 arg12 harg12 arg13 harg13 arg14 harg14 _ _ _ _ _ _) ?_; rintro ⟨x0, x1, x2, x3, x4, x5, x6, x7, x8, x9, x10, x11, x12, x13, x14, x15, x16, x17, x18, x19, x20, x21, x22, x23, x24, x25, x26, x27, x28, x29, x30, x31, x32, x33⟩
  refine Safe.bind (by rw [k0_part24_eq_skeleton]; exact Safe.pure _) ?_; rintro ⟨x0, x1, x2, x3, x4, x5, x6, x7, x8, x9⟩
  refine Safe.bind (by rw [k0_part25_eq_skeleton]; exact Safe.pure _) ?_; rintro ⟨x0, x1, x2, x3, x4, x5, x6, x7, x8, x9⟩
  refine Safe.bind (by rw [k0_part26_eq_skeleton]; exact Safe.pure _) ?_; rintro ⟨x0, x1, x2, x3, x4, x5, x6, x7, x8, x9, x10, x11⟩
  refine Safe.bind (by rw [k0_part27_eq_skeleton]; exact Safe.pure _) ?_; rintro ⟨x0, x1, x2, x3, x4, x5, x6, x7, x8, x9⟩
  refine Safe.bind (by rw [k0_part28_eq_skeleton]; exact Safe.pure _) ?_; rintro ⟨x0, x1, x2, x3, x4, x5, x6, x7, x8, x9, x10, x11⟩
  refine Safe.bind (by rw [k0_part29_eq_skeleton]; exact Safe.pure _) ?_; rintro ⟨x0, x1, x2, x3, x4, x5, x6, x7, x8, x9⟩
  refine Safe.bind (by rw [k0_part30_eq_skeleton]; exact Safe.pure _) ?_; rintro ⟨x0, x1, x2, x3, x4, x5, x6, x7, x8, x9⟩
  refine Safe.bind (by rw [k0_part31_eq_skeleton]; exact Safe.pure _) ?_; rintro ⟨x0, x1, x2, x3, x4, x5, x6, x7, x8, x9, x10⟩
  refine Safe.bind (by rw [k0_part32_eq_skeleton]; exact Safe.pure _) ?_; rintro ⟨x0, x1, x2, x3, x4, x5, x6, x7, x8, x9⟩
  refine Safe.bind (by rw [k0_part33_eq_skeleton]; exact Safe.pure _) ?_; rintro ⟨x0, x1, x2, x3, x4, x5, x6, x7, x8, x9, x10⟩
  refine Safe.bind (by rw [k0_part34_eq_skeleton]; exact Safe.pure _) ?_; rintro ⟨x0, x1, x2, x3, x4, x5, x6, x7, x8⟩
  refine Safe.bind (by rw [k0_part35_eq_skeleton]; exact Safe.pure _) ?_; rintro ⟨x0, x1, x2, x3, x4, x5, x6, x7⟩
  refine Safe.bind (by rw [k0_part36_eq_skeleton]; exact Safe.pure _) ?_; rintro ⟨x0, x1, x2, x3, x4, x5, x6, x7, x8⟩
  refine Safe.bind (by rw [k0_part37_eq_skeleton]; exact Safe.pure _) ?_; rintro ⟨x0, x1, x2, x3, x4, x5, x6, x7, x8, x9⟩
  refine Safe.bind (by rw [k0_part38_eq_skeleton]; exact Safe.pure _) ?_; rintro ⟨x0, x1, x2, x3, x4, x5, x6, x7, x8⟩
  refine Safe.bind (safe_k0_part39 c R i arg2 harg2 arg3 harg3 arg4 harg4 arg5 harg5 arg6 harg6 arg7 harg7 arg8 harg8 arg9 harg9 arg10 harg10 arg11 harg11 arg12 harg12 arg13 harg13 arg14 harg14 _ _ _ _ _ _ _ _ _ _) ?_; rintro ⟨x0, x1, x2, x3, x4, x5⟩
  refine Safe.bind (safe_k0_part40 c R i arg2 harg2 arg3 harg3 arg4 harg4 arg5 harg5 arg6 harg6 arg7 harg7 arg8 harg8 arg9 harg9 arg10 harg10 arg11 harg11 arg12 harg12 arg13 harg13 arg14 harg14 _ _ _ _ _ _ _ _ _) ?_; intro x
  refine Safe.bind (safe_k0_part41 c R i arg2 harg2 arg3 harg3 arg4 harg4 arg5 harg5 arg6 harg6 arg7 harg7 arg8 harg8 arg9 harg9 arg10 harg10 arg11 harg11 arg12 harg12 arg13 harg13 arg14 harg14 _ _ _ _ _ _ _ _ _) ?_; intro x
  refine Safe.bind (safe_k0_part42 c R i arg2 harg2 arg3 harg3 arg4 harg4 arg5 harg5 arg6 harg6 arg7 harg7 arg8 harg8 arg9 harg9 arg10 harg10 arg11 harg11 arg12 harg12 arg13 harg13 arg14 harg14 _ _ _ _ _ _ _ _ _) ?_; intro x
  refine Safe.bind (safe_k0_part43 c R i arg2 harg2 arg3 harg3 arg4 harg4 arg5 harg5 arg6 harg6 arg7 harg7 arg8 harg8 arg9 harg9 arg10 harg10 arg11 harg11 arg12 harg12 arg13 harg13 arg14 harg14 _ _ _ _ _ _ _ _ _) ?_; intro x
  refine Safe.bind Safe.load ?_; intro x
  refine Safe.bind Safe.store ?_; intro x
  refine Safe.bind Safe.load ?_; intro x
  refine Safe.bind Safe.store ?_; intro x
  exact Safe.pure _

theorem safe_k0_t1_body (arg1 : _) (v20 : _) (v23 : _) (v24 : _) (v29 : _) (v35 : _) (v36 : _) (v37 : _) (v39 : _) (v48 : _) (k : _) (a : _) :
    Safe (defs₀ (F := F)) c R (k0_t1_body (F := F) i arg2 harg2 arg3 harg3 arg4 harg4 arg5 harg5 arg6 harg6 arg7 harg7 arg8 harg8 arg9 harg9 arg10 harg10 arg11 harg11 arg12 harg12 arg13 harg13 arg14 harg14 arg1 v20 v23 v24 v29 v35 v36 v37 v39 v48 k a) := by
  unfold k0_t1_body
  refine Safe.bind (safe_k0_part44 c R i arg2 harg2 arg3 harg3 arg4 harg4 arg5 harg5 arg6 harg6 arg7 harg7 arg8 harg8 arg9 harg9 arg10 harg10 arg11 harg11 arg12 harg12 arg13 harg13 arg14 harg14 _ _ _ _ _ _) ?_; rintro ⟨x0, x1, x2, x3, x4⟩
  refine Safe.bind Safe.load ?_; intro x
  refine Safe.bind Safe.store ?_; intro x
  refine Safe.bind Safe.load ?_; intro x
  refine Safe.bind Safe.store ?_; intro x
  refine Safe.bind Safe.load ?_; intro x
  refine Safe.bind Safe.store ?_; intro x
  exact Safe.pure _

theorem safe_k0_part88 (v47 : _) (v49 : _) (c_m2147483648_i32 : _) (v63 : _) (c1_i32_24 : _) (k0_t2 : _) :
    Safe (defs₀ (F := F)) c R (k0_part88 (F := F) i arg2 harg2 arg3 harg3 arg4 harg4 arg5 harg5 arg6 harg6 arg7 harg7 arg8 harg8 arg9 harg9 arg10 harg10 arg11 harg11 arg12 harg12 arg13 harg13 arg14 harg14 v47 v49 c_m2147483648_i32 v63 c1_i32_24 k0_t2) := by
  rw [k0_part88_eq_skeleton]; unfold k0_part88_skel
  refine Safe.bind (safe_k0_part45 c R i arg2 harg2 arg3 harg3 arg4 harg4 arg5 harg5 arg6 harg6 arg7 harg7 arg8 harg8 arg9 harg9 arg10 harg10 arg11 harg11 arg12 harg12 arg13 harg13 arg14 harg14 _ _ _ _ _ _) ?_; rintro ⟨x0, x1, x2, x3, x4⟩
  refine Safe.bind (by rw [k0_part46_eq_skeleton]; exact Safe.pure _) ?_; rintro ⟨x0, x1, x2, x3, x4, x5, x6, x7, x8, x9, x10, x11, x12, x13, x14, x15, x16, x17, x18, x19, x20, x21, x22, x23, x24, x25, x26, x27, x28, x29, x30, x31⟩
  refine Safe.bind (by rw [k0_part47_eq_skeleton]; exact Safe.pure _) ?_; rintro ⟨x0, x1, x2, x3, x4, x5, x6, x7⟩
  refine Safe.bind (by rw [k0_part48_eq_skeleton]; exact Safe.pure _) ?_; rintro ⟨x0, x1, x2, x3, x4, x5, x6, x7, x8⟩
  refine Safe.bind (by rw [k0_part49_eq_skeleton]; exact Safe.pure _) ?_; rintro ⟨x0, x1, x2, x3, x4, x5, x6, x7, x8⟩
  refine Safe.bind (by rw [k0_part50_eq_skeleton]; exact Safe.pure _) ?_; rintro ⟨x0, x1, x2, x3, x4, x5, x6, x7, x8⟩
  refine Safe.bind (by rw [k0_part51_eq_skeleton]; exact Safe.pure _) ?_; rintro ⟨x0, x1, x2, x3, x4, x5, x6, x7, x8, x9, x10⟩
  refine Safe.bind (by rw [k0_part52_eq_skeleton]; exact Safe.pure _) ?_; rintro ⟨x0, x1, x2, x3, x4, x5, x6, x7, x8⟩
  refine Safe.bind (by rw [k0_part53_eq_skeleton]; exact Safe.pure _) ?_; rintro ⟨x0, x1, x2, x3, x4, x5, x6, x7, x8, x9, x10⟩
  refine Safe.bind (by rw [k0_part54_eq_skeleton]; exact Safe.pure _) ?_; rintro ⟨x0, x1, x2, x3, x4, x5, x6, x7⟩
  refine Safe.bind (by rw [k0_part55_eq_skeleton]; exact Safe.pure _) ?_; rintro ⟨x0, x1, x2, x3, x4, x5, x6, x7, x8⟩
  refine Safe.bind (by rw [k0_part56_eq_skeleton]; exact Safe.pure _) ?_; rintro ⟨x0, x1, x2, x3, x4, x5, x6⟩
  refine Safe.bind (by rw [k0_part57_eq_skeleton]; exact Safe.pure _) ?_; rintro ⟨x0, x1, x2, x3, x4, x5, x6⟩
  refine Safe.bind (by rw [k0_part58_eq_skeleton]; exact Safe.pure _) ?_; rintro ⟨x0, x1, x2, x3, x4, x5, x6, x7, x8⟩
  refine Safe.bind (by rw [k0_part59_eq_skeleton]; exact Safe.pure _) ?_; rintro ⟨x0, x1, x2, x3, x4, x5, x6, x7, x8⟩
  refine Safe.bind (by rw [k0_part60_eq_skeleton]; exact Safe.pure _) ?_; rintro ⟨x0, x1, x2, x3, x4, x5, x6⟩
  refine Safe.bind (by rw [k0_part61_eq_skeleton]; exact Safe.pure _) ?_; rintro ⟨x0, x1, x2, x3, x4, x5, x6⟩
  refine Safe.bind (safe_k0_part62 c R i arg2 harg2 arg3 harg3 arg4 harg4 arg5 harg5 arg6 harg6 arg7 harg7 arg8 harg8 arg9 harg9 arg10 harg10 arg11 harg11 arg12 harg12 arg13 harg13 arg14 harg14 _ _ _ _ _ _ _ _ _ _) ?_; rintro ⟨x0, x1, x2, x3, x4⟩
  refine Safe.bind (safe_k0_part63 c R i arg2 harg2 arg3 harg3 arg4 harg4 arg5 harg5 arg6 harg6 arg7 harg7 arg8 harg8 arg9 harg9 arg10 harg10 arg11 harg11 arg12 harg12 arg13 harg13 arg14 harg14 _ _ _ _ _ _ _ _ _ _) ?_; intro x
  refine Safe.bind (safe_k0_part64 c R i arg2 harg2 arg3 harg3 arg4 harg4 arg5 harg5 arg6 harg6 arg7 harg7 arg8 harg8 arg9 harg9 arg10 harg10 arg11 harg11 arg12 harg12 arg13 harg13 arg14 harg14 _ _ _ _ _ _ _ _ _) ?_; intro x
  refine Safe.bind (safe_k0_part65 c R i arg2 harg2 arg3 harg3 arg4 harg4 arg5 harg5 arg6 harg6 arg7 harg7 arg8 harg8 arg9 harg9 arg10 harg10 arg11 harg11 arg12 harg12 arg13 harg13 arg14 harg14 _ _ _ _ _ _ _ _ _) ?_; intro x
  refine Safe.bind (safe_k0_part66 c R i arg2 harg2 arg3 harg3 arg4 harg4 arg5 harg5 arg6 harg6 arg7 harg7 arg8 harg8 arg9 harg9 arg10 harg10 arg11 harg11 arg12 harg12 arg13 harg13 arg14 harg14 _ _ _ _ _ _ _ _ _ _) ?_; intro x
  refine Safe.bind (safe_k0_part67 c R i arg2 harg2 arg3 harg3 arg4 harg4 arg5 harg5 arg6 harg6 arg7 harg7 arg8 harg8 arg9 harg9 arg10 harg10 arg11 harg11 arg12 harg12 arg13 harg13 arg14 harg14 _ _ _ _ _ _) ?_; rintro ⟨x0, x1, x2, x3, x4, x5, x6, x7, x8, x9, x10, x11, x12, x13, x14, x15, x16, x17, x18, x19, x20, x21, x22, x23, x24, x25, x26, x27, x28, x29, x30, x31, x32, x33⟩
  refine Safe.bind (by rw [k0_part68_eq_skeleton]; exact Safe.pure _) ?_; rintro ⟨x0, x1, x2, x3, x4, x5, x6, x7, x8, x9⟩
  refine Safe.bind (by rw [k0_part69_eq_skeleton]; exact Safe.pure _) ?_; rintro ⟨x0, x1, x2, x3, x4, x5, x6, x7, x8, x9⟩
  refine Safe.bind (by rw [k0_part70_eq_skeleton]; exact Safe.pure _) ?_; rintro ⟨x0, x1, x2, x3, x4, x5, x6, x7, x8, x9, x10, x11⟩
  refine Safe.bind (by rw [k0_part71_eq_skeleton]; exact Safe.pure _) ?_; rintro ⟨x0, x1, x2, x3, x4, x5, x6, x7, x8, x9⟩
  refine Safe.bind (by rw [k0_part72_eq_skeleton]; exact Safe.pure _) ?_; rintro ⟨x0, x1, x2, x3, x4, x5, x6, x7, x8, x9, x10, x11⟩
  refine Safe.bind (by rw [k0_part73_eq_skeleton]; exact Safe.pure _) ?_; rintro ⟨x0, x1, x2, x3, x4, x5, x6, x7, x8, x9⟩
  refine Safe.bind (by rw [k0_part74_eq_skeleton]; exact Safe.pure _) ?_; rintro ⟨x0, x1, x2, x3, x4, x5, x6, x7, x8, x9⟩
  refine Safe.bind (by rw [k0_part75_eq_skeleton]; exact Safe.pure _) ?_; rintro ⟨x0, x1, x2, x3, x4, x5, x6, x7, x8, x9, x10⟩
  refine Safe.bind (by rw [k0_part76_eq_skeleton]; exact Safe.pure _) ?_; rintro ⟨x0, x1, x2, x3, x4, x5, x6, x7, x8, x9⟩
  refine Safe.bind (by rw [k0_part77_eq_skeleton]; exact Safe.pure _) ?_; rintro ⟨x0, x1, x2, x3, x4, x5, x6, x7, x8, x9, x10⟩
  refine Safe.bind (by rw [k0_part78_eq_skeleton]; exact Safe.pure _) ?_; rintro ⟨x0, x1, x2, x3, x4, x5, x6, x7, x8⟩
  refine Safe.bind (by rw [k0_part79_eq_skeleton]; exact Safe.pure _) ?_; rintro ⟨x0, x1, x2, x3, x4, x5, x6, x7⟩
  refine Safe.bind (by rw [k0_part80_eq_skeleton]; exact Safe.pure _) ?_; rintro ⟨x0, x1, x2, x3, x4, x5, x6, x7, x8⟩
  refine Safe.bind (by rw [k0_part81_eq_skeleton]; exact Safe.pure _) ?_; rintro ⟨x0, x1, x2, x3, x4, x5, x6, x7, x8, x9⟩
  refine Safe.bind (by rw [k0_part82_eq_skeleton]; exact Safe.pure _) ?_; rintro ⟨x0, x1, x2, x3, x4, x5, x6, x7, x8⟩
  refine Safe.bind (safe_k0_part83 c R i arg2 harg2 arg3 harg3 arg4 harg4 arg5 harg5 arg6 harg6 arg7 harg7 arg8 harg8 arg9 harg9 arg10 harg10 arg11 harg11 arg12 harg12 arg13 harg13 arg14 harg14 _ _ _ _ _ _ _ _ _ _) ?_; rintro ⟨x0, x1, x2, x3, x4, x5⟩
  refine Safe.bind (safe_k0_part84 c R i arg2 harg2 arg3 harg3 arg4 harg4 arg5 harg5 arg6 harg6 arg7 harg7 arg8 harg8 arg9 harg9 arg10 harg10 arg11 harg11 arg12 harg12 arg13 harg13 arg14 harg14 _ _ _ _ _ _ _ _ _) ?_; intro x
  refine Safe.bind (safe_k0_part85 c R i arg2 harg2 arg3 harg3 arg4 harg4 arg5 harg5 arg6 harg6 arg7 harg7 arg8 harg8 arg9 harg9 arg10 harg10 arg11 harg11 arg12 harg12 arg13 harg13 arg14 harg14 _ _ _ _ _ _ _ _ _) ?_; intro x
  refine Safe.bind (safe_k0_part86 c R i arg2 harg2 arg3 harg3 arg4 harg4 arg5 harg5 arg6 harg6 arg7 harg7 arg8 harg8 arg9 harg9 arg10 harg10 arg11 harg11 arg12 harg12 arg13 harg13 arg14 harg14 _ _ _ _ _ _ _ _ _) ?_; intro x
  refine Safe.bind (safe_k0_part87 c R i arg2 harg2 arg3 harg3 arg4 harg4 arg5 harg5 arg6 harg6 arg7 harg7 arg8 harg8 arg9 harg9 arg10 harg10 arg11 harg11 arg12 harg12 arg13 harg13 arg14 harg14 _ _ _ _ _ _ _ _ _) ?_; intro x
  refine Safe.bind Safe.load ?_; intro x
  refine Safe.bind Safe.store ?_; intro x
  refine Safe.bind Safe.load ?_; intro x
  refine Safe.bind Safe.store ?_; intro x
  exact Safe.pure _

theorem safe_k0_t2_body (arg1 : _) (v20 : _) (v23 : _) (v24 : _) (v29 : _) (v35 : _) (v36 : _) (v37 : _) (v39 : _) (v48 : _) (v63 : _) (k : _) (a : _) :
    Safe (defs₀ (F := F)) c R (k0_t2_body (F := F) i arg2 harg2 arg3 harg3 arg4 harg4 arg5 harg5 arg6 harg6 arg7 harg7 arg8 harg8 arg9 harg9 arg10 harg10 arg11 harg11 arg12 harg12 arg13 harg13 arg14 harg14 arg1 v20 v23 v24 v29 v35 v36 v37 v39 v48 v63 k a) := by
  unfold k0_t2_body
  refine Safe.bind (safe_k0_part88 c R i arg2 harg2 arg3 harg3 arg4 harg4 arg5 harg5 arg6 harg6 arg7 harg7 arg8 harg8 arg9 harg9 arg10 harg10 arg11 harg11 arg12 harg12 arg13 harg13 arg14 harg14 _ _ _ _ _ _) ?_; rintro ⟨x0, x1, x2, x3, x4⟩
  refine Safe.bind Safe.load ?_; intro x
  refine Safe.bind Safe.store ?_; intro x
  refine Safe.bind Safe.load ?_; intro x
  refine Safe.bind Safe.store ?_; intro x
  refine Safe.bind Safe.load ?_; intro x
  refine Safe.bind Safe.store ?_; intro x
  exact Safe.pure _

set_option maxHeartbeats 4000000 in
theorem safe_k0_part137 (arg1 : _) (v20 : _) (v23 : _) (v24 : _) (v29 : _) (v35 : _) (v36 : _) (v37 : _) (v39 : _) :
    Safe (defs₀ (F := F)) c R (k0_part137 (F := F) i arg2 harg2 arg3 harg3 arg4 harg4 arg5 harg5 arg6 harg6 arg7 harg7 arg8 harg8 arg9 harg9 arg10 harg10 arg11 harg11 arg12 harg12 arg13 harg13 arg14 harg14 arg1 v20 v23 v24 v29 v35 v36 v37 v39) := by
  rw [k0_part137_eq_skeleton]; unfold k0_part137_skel
  repeat' first
    | exact Safe.loop fun k a => safe_k0_t1_body c R i arg2 harg2 arg3 harg3 arg4 harg4 arg5 harg5 arg6 harg6 arg7 harg7 arg8 harg8 arg9 harg9 arg10 harg10 arg11 harg11 arg12 harg12 arg13 harg13 arg14 harg14 _ _ _ _ _ _ _ _ _ _ k a
    | exact Safe.loop fun k a => safe_k0_t2_body c R i arg2 harg2 arg3 harg3 arg4 harg4 arg5 harg5 arg6 harg6 arg7 harg7 arg8 harg8 arg9 harg9 arg10 harg10 arg11 harg11 arg12 harg12 arg13 harg13 arg14 harg14 _ _ _ _ _ _ _ _ _ _ _ k a
    | refine Safe.dite (fun _ => ?_) fun _ => ?_
    | refine Safe.ite ?_ ?_
    | refine Safe.bind ?_ ?_
    | exact Safe.pure _
    | exact Safe.load
    | exact Safe.store
    | intro x

theorem safe_k0_t3_body (v20 : _) (v113 : _) (v1670 : _) (v1706 : _) (v1742 : _) (v1778 : _) (k : _) (a : _) :
    Safe (defs₀ (F := F)) c R (k0_t3_body (F := F) i arg2 harg2 arg3 harg3 arg4 harg4 arg5 harg5 arg6 harg6 arg7 harg7 arg8 harg8 arg9 harg9 arg10 harg10 arg11 harg11 arg12 harg12 arg13 harg13 arg14 harg14 v20 v113 v1670 v1706 v1742 v1778 k a) := by
  unfold k0_t3_body
  obtain ⟨a1, a2, a3⟩ := a
  refine Safe.bind (safe_k0_part89 c R i arg2 harg2 arg3 harg3 arg4 harg4 arg5 harg5 arg6 harg6 arg7 harg7 arg8 harg8 arg9 harg9 arg10 harg10 arg11 harg11 arg12 harg12 arg13 harg13 arg14 harg14 _ _ _ _ _) ?_; rintro ⟨x0, x1, x2, x3, x4⟩
  exact Safe.pure _

theorem safe_k0_part181 (v20 : _) (v113 : _) (v1670 : _) (v1706 : _) (v1742 : _) (v1778 : _) :
    Safe (defs₀ (F := F)) c R (k0_part181 (F := F) i arg2 harg2 arg3 harg3 arg4 harg4 arg5 harg5 arg6 harg6 arg7 harg7 arg8 harg8 arg9 harg9 arg10 harg10 arg11 harg11 arg12 harg12 arg13 harg13 arg14 harg14 v20 v113 v1670 v1706 v1742 v1778) := by
  rw [k0_part181_eq_skeleton]; unfold k0_part181_skel
  refine Safe.bind Safe.load ?_; intro x
  refine Safe.bind Safe.store ?_; intro x
  refine Safe.bind Safe.load ?_; intro x
  refine Safe.bind Safe.store ?_; intro x
  refine Safe.bind Safe.load ?_; intro x
  refine Safe.bind Safe.store ?_; intro x
  refine Safe.bind Safe.load ?_; intro x
  refine Safe.bind Safe.store ?_; intro x
  refine Safe.bind (Safe.loop fun k a => safe_k0_t3_body c R i arg2 harg2 arg3 harg3 arg4 harg4 arg5 harg5 arg6 harg6 arg7 harg7 arg8 harg8 arg9 harg9 arg10 harg10 arg11 harg11 arg12 harg12 arg13 harg13 arg14 harg14 _ _ _ _ _ _ k a) ?_; rintro ⟨x0, x1, x2⟩
  exact Safe.pure _

set_option maxHeartbeats 4000000 in
theorem safe_k0_part183 (v23 : _) (v1940 : _) (v1950_0 : _) (v1950_1 : _) (v1952 : _) (v2006 : _) (v2013 : _) :
    Safe (defs₀ (F := F)) c R (k0_part183 (F := F) i arg2 harg2 arg3 harg3 arg4 harg4 arg5 harg5 arg6 harg6 arg7 harg7 arg8 harg8 arg9 harg9 arg10 harg10 arg11 harg11 arg12 harg12 arg13 harg13 arg14 harg14 v23 v1940 v1950_0 v1950_1 v1952 v2006 v2013) := by
  rw [k0_part183_eq_skeleton]; unfold k0_part183_skel
  repeat' first
    | exact safe_k0_part104 c R i arg2 harg2 arg3 harg3 arg4 harg4 arg5 harg5 arg6 harg6 arg7 harg7 arg8 harg8 arg9 harg9 arg10 harg10 arg11 harg11 arg12 harg12 arg13 harg13 arg14 harg14 _ _ _
    | refine Safe.dite (fun _ => ?_) fun _ => ?_
    | refine Safe.ite ?_ ?_
    | refine Safe.bind ?_ ?_
    | exact Safe.pure _
    | exact Safe.load
    | exact Safe.store
    | rintro ⟨x0, x1, x2⟩
    | intro x

theorem safe_k0_part135 (v20 : _) (v2160 : _) (k0_h3 : _) :
    Safe (defs₀ (F := F)) c R (k0_part135 (F := F) i arg2 harg2 arg3 harg3 arg4 harg4 arg5 harg5 arg6 harg6 arg7 harg7 arg8 harg8 arg9 harg9 arg10 harg10 arg11 harg11 arg12 harg12 arg13 harg13 arg14 harg14 v20 v2160 k0_h3) := by
  rw [k0_part135_eq_skeleton]; unfold k0_part135_skel
  refine Safe.bind (safe_k0_part131 c R i arg2 harg2 arg3 harg3 arg4 harg4 arg5 harg5 arg6 harg6 arg7 harg7 arg8 harg8 arg9 harg9 arg10 harg10 arg11 harg11 arg12 harg12 arg13 harg13 arg14 harg14 _ _ _) ?_; rintro ⟨x0, x1, x2, x3⟩
  refine Safe.bind (safe_k0_part132 c R i arg2 harg2 arg3 harg3 arg4 harg4 arg5 harg5 arg6 harg6 arg7 harg7 arg8 harg8 arg9 harg9 arg10 harg10 arg11 harg11 arg12 harg12 arg13 harg13 arg14 harg14 _ _ _ _) ?_; intro x
  refine Safe.bind (safe_k0_part133 c R i arg2 harg2 arg3 harg3 arg4 harg4 arg5 harg5 arg6 harg6 arg7 harg7 arg8 harg8 arg9 harg9 arg10 harg10 arg11 harg11 arg12 harg12 arg13 harg13 arg14 harg14 _ _) ?_; rintro ⟨x0, x1, x2⟩
  refine Safe.bind (safe_k0_part134 c R i arg2 harg2 arg3 harg3 arg4 harg4 arg5 harg5 arg6 harg6 arg7 harg7 arg8 harg8 arg9 harg9 arg10 harg10 arg11 harg11 arg12 harg12 arg13 harg13 arg14 harg14 _ _ _ _) ?_; rintro ⟨x0, x1, x2⟩
  refine Safe.bind Safe.load ?_; intro x
  refine Safe.bind Safe.load ?_; intro x
  refine Safe.bind Safe.store ?_; intro x
  refine Safe.bind Safe.load ?_; intro x
  refine Safe.bind Safe.load ?_; intro x
  refine Safe.bind Safe.load ?_; intro x
  refine Safe.bind Safe.store ?_; intro x
  refine Safe.bind Safe.load ?_; intro x
  refine Safe.bind Safe.load ?_; intro x
  refine Safe.bind Safe.store ?_; intro x
  exact Safe.pure _

theorem safe_k0_t4_body (v20 : _) (v54 : _) (v1952 : _) (v2023 : _) (v2047 : _) (v2063 : _) (v2079 : _) (v2095 : _) (v2111 : _) (v2127 : _) (v2143 : _) (v2159 : _) (v2160 : _) (k : _) (a : _) :
    Safe (defs₀ (F := F)) c R (k0_t4_body (F := F) i arg2 harg2 arg3 harg3 arg4 harg4 arg5 harg5 arg6 harg6 arg7 harg7 arg8 harg8 arg9 harg9 arg10 harg10 arg11 harg11 arg12 harg12 arg13 harg13 arg14 harg14 v20 v54 v1952 v2023 v2047 v2063 v2079 v2095 v2111 v2127 v2143 v2159 v2160 k a) := by
  unfold k0_t4_body
  refine Safe.bind (safe_k0_part105 c R i arg2 harg2 arg3 harg3 arg4 harg4 arg5 harg5 arg6 harg6 arg7 harg7 arg8 harg8 arg9 harg9 arg10 harg10 arg11 harg11 arg12 harg12 arg13 harg13 arg14 harg14 _ _ _ _ _ _ _ _ _) ?_; rintro ⟨x0, x1, x2, x3, x4⟩
  refine Safe.bind (safe_k0_part106 c R i arg2 harg2 arg3 harg3 arg4 harg4 arg5 harg5 arg6 harg6 arg7 harg7 arg8 harg8 arg9 harg9 arg10 harg10 arg11 harg11 arg12 harg12 arg13 harg13 arg14 harg14 _ _ _ _) ?_; rintro ⟨x0, x1, x2⟩
  refine Safe.bind (safe_k0_part107 c R i arg2 harg2 arg3 harg3 arg4 harg4 arg5 harg5 arg6 harg6 arg7 harg7 arg8 harg8 arg9 harg9 arg10 harg10 arg11 harg11 arg12 harg12 arg13 harg13 arg14 harg14 _ _ _ _ _ _ _) ?_; rintro ⟨x0, x1⟩
  refine Safe.bind (safe_k0_part108 c R i arg2 harg2 arg3 harg3 arg4 harg4 arg5 harg5 arg6 harg6 arg7 harg7 arg8 harg8 arg9 harg9 arg10 harg10 arg11 harg11 arg12 harg12 arg13 harg13 arg14 harg14 _ _ _ _ _) ?_; rintro ⟨x0, x1⟩
  refine Safe.bind (safe_k0_part109 c R i arg2 harg2 arg3 harg3 arg4 harg4 arg5 harg5 arg6 harg6 arg7 harg7 arg8 harg8 arg9 harg9 arg10 harg10 arg11 harg11 arg12 harg12 arg13 harg13 arg14 harg14 _ _ _ _ _) ?_; rintro ⟨x0, x1, x2⟩
  refine Safe.bind (safe_k0_part110 c R i arg2 harg2 arg3 harg3 arg4 harg4 arg5 harg5 arg6 harg6 arg7 harg7 arg8 harg8 arg9 harg9 arg10 harg10 arg11 harg11 arg12 harg12 arg13 harg13 arg14 harg14 _ _ _ _ _ _ _) ?_; intro x
  refine Safe.bind (safe_k0_part111 c R i arg2 harg2 arg3 harg3 arg4 harg4 arg5 harg5 arg6 harg6 arg7 harg7 arg8 harg8 arg9 harg9 arg10 harg10 arg11 harg11 arg12 harg12 arg13 harg13 arg14 harg14 _ _ _ _ _ _) ?_; rintro ⟨x0, x1, x2, x3⟩
  refine Safe.bind (safe_k0_part112 c R i arg2 harg2 arg3 harg3 arg4 harg4 arg5 harg5 arg6 harg6 arg7 harg7 arg8 harg8 arg9 harg9 arg10 harg10 arg11 harg11 arg12 harg12 arg13 harg13 arg14 harg14 _ _ _ _ _ _ _ _ _) ?_; rintro ⟨x0, x1, x2, x3, x4⟩
  refine Safe.bind (safe_k0_part113 c R i arg2 harg2 arg3 harg3 arg4 harg4 arg5 harg5 arg6 harg6 arg7 harg7 arg8 harg8 arg9 harg9 arg10 harg10 arg11 harg11 arg12 harg12 arg13 harg13 arg14 harg14 _ _ _ _ _ _) ?_; rintro ⟨x0, x1⟩
  refine Safe.bind (safe_k0_part114 c R i arg2 harg2 arg3 harg3 arg4 harg4 arg5 harg5 arg6 harg6 arg7 harg7 arg8 harg8 arg9 harg9 arg10 harg10 arg11 harg11 arg12 harg12 arg13 harg13 arg14 harg14 _ _ _ _ _) ?_; rintro ⟨x0, x1, x2⟩
  refine Safe.bind (safe_k0_part115 c R i arg2 harg2 arg3 harg3 arg4 harg4 arg5 harg5 arg6 harg6 arg7 harg7 arg8 harg8 arg9 harg9 arg10 harg10 arg11 harg11 arg12 harg12 arg13 harg13 arg14 harg14 _ _ _ _ _ _ _) ?_; rintro ⟨x0, x1, x2⟩
  refine Safe.bind (safe_k0_part116 c R i arg2 harg2 arg3 harg3 arg4 harg4 arg5 harg5 arg6 harg6 arg7 harg7 arg8 harg8 arg9 harg9 arg10 harg10 arg11 harg11 arg12 harg12 arg13 harg13 arg14 harg14 _ _ _ _ _ _) ?_; rintro ⟨x0, x1⟩
  refine Safe.bind (safe_k0_part117 c R i arg2 harg2 arg3 harg3 arg4 harg4 arg5 harg5 arg6 harg6 arg7 harg7 arg8 harg8 arg9 harg9 arg10 harg10 arg11 harg11 arg12 harg12 arg13 harg13 arg14 harg14 _ _ _ _ _) ?_; rintro ⟨x0, x1, x2, x3⟩
  refine Safe.bind Safe.store ?_; intro x
  refine Safe.bind Safe.load ?_; intro x
  refine Safe.bind Safe.load ?_; intro x
  refine Safe.bind Safe.store ?_; intro x
  exact Safe.pure _

theorem safe_k0_t5_body (v20 : _) (v54 : _) (v1952 : _) (v2023 : _) (v2047 : _) (v2063 : _) (v2079 : _) (v2095 : _) (v2111 : _) (v2127 : _) (v2143 : _) (v2159 : _) (v2160 : _) (v2251 : _) (k : _) (a : _) :
    Safe (defs₀ (F := F)) c R (k0_t5_body (F := F) i arg2 harg2 arg3 harg3 arg4 harg4 arg5 harg5 arg6 harg6 arg7 harg7 arg8 harg8 arg9 harg9 arg10 harg10 arg11 harg11 arg12 harg12 arg13 harg13 arg14 harg14 v20 v54 v1952 v2023 v2047 v2063 v2079 v2095 v2111 v2127 v2143 v2159 v2160 v2251 k a) := by
  unfold k0_t5_body
  refine Safe.bind (safe_k0_part118 c R i arg2 harg2 arg3 harg3 arg4 harg4 arg5 harg5 arg6 harg6 arg7 harg7 arg8 harg8 arg9 harg9 arg10 harg10 arg11 harg11 arg12 harg12 arg13 harg13 arg14 harg14 _ _ _ _ _ _ _ _ _) ?_; rintro ⟨x0, x1, x2, x3, x4⟩
  refine Safe.bind (safe_k0_part119 c R i arg2 harg2 arg3 harg3 arg4 harg4 arg5 harg5 arg6 harg6 arg7 harg7 arg8 harg8 arg9 harg9 arg10 harg10 arg11 harg11 arg12 harg12 arg13 harg13 arg14 harg14 _ _ _ _) ?_; rintro ⟨x0, x1, x2⟩
  refine Safe.bind (safe_k0_part120 c R i arg2 harg2 arg3 harg3 arg4 harg4 arg5 harg5 arg6 harg6 arg7 harg7 arg8 harg8 arg9 harg9 arg10 harg10 arg11 harg11 arg12 harg12 arg13 harg13 arg14 harg14 _ _ _ _ _ _ _) ?_; rintro ⟨x0, x1⟩
  refine Safe.bind (safe_k0_part121 c R i arg2 harg2 arg3 harg3 arg4 harg4 arg5 harg5 arg6 harg6 arg7 harg7 arg8 harg8 arg9 harg9 arg10 harg10 arg11 harg11 arg12 harg12 arg13 harg13 arg14 harg14 _ _ _ _ _) ?_; rintro ⟨x0, x1⟩
  refine Safe.bind (safe_k0_part122 c R i arg2 harg2 arg3 harg3 arg4 harg4 arg5 harg5 arg6 harg6 arg7 harg7 arg8 harg8 arg9 harg9 arg10 harg10 arg11 harg11 arg12 harg12 arg13 harg13 arg14 harg14 _ _ _ _ _) ?_; rintro ⟨x0, x1, x2⟩
  refine Safe.bind (safe_k0_part123 c R i arg2 harg2 arg3 harg3 arg4 harg4 arg5 harg5 arg6 harg6 arg7 harg7 arg8 harg8 arg9 harg9 arg10 harg10 arg11 harg11 arg12 harg12 arg13 harg13 arg14 harg14 _ _ _ _ _ _ _) ?_; intro x
  refine Safe.bind (safe_k0_part124 c R i arg2 harg2 arg3 harg3 arg4 harg4 arg5 harg5 arg6 harg6 arg7 harg7 arg8 harg8 arg9 harg9 arg10 harg10 arg11 harg11 arg12 harg12 arg13 harg13 arg14 harg14 _ _ _ _ _ _) ?_; rintro ⟨x0, x1, x2, x3⟩
  refine Safe.bind (safe_k0_part125 c R i arg2 harg2 arg3 harg3 arg4 harg4 arg5 harg5 arg6 harg6 arg7 harg7 arg8 harg8 arg9 harg9 arg10 harg10 arg11 harg11 arg12 harg12 arg13 harg13 arg14 harg14 _ _ _ _ _ _ _ _ _) ?_; rintro ⟨x0, x1, x2, x3, x4⟩
  refine Safe.bind (safe_k0_part126 c R i arg2 harg2 arg3 harg3 arg4 harg4 arg5 harg5 arg6 harg6 arg7 harg7 arg8 harg8 arg9 harg9 arg10 harg10 arg11 harg11 arg12 harg12 arg13 harg13 arg14 harg14 _ _ _ _ _ _) ?_; rintro ⟨x0, x1⟩
  refine Safe.bind (safe_k0_part127 c R i arg2 harg2 arg3 harg3 arg4 harg4 arg5 harg5 arg6 harg6 arg7 harg7 arg8 harg8 arg9 harg9 arg10 harg10 arg11 harg11 arg12 harg12 arg13 harg13 arg14 harg14 _ _ _ _ _) ?_; rintro ⟨x0, x1, x2⟩
  refine Safe.bind (safe_k0_part128 c R i arg2 harg2 arg3 harg3 arg4 harg4 arg5 harg5 arg6 harg6 arg7 harg7 arg8 harg8 arg9 harg9 arg10 harg10 arg11 harg11 arg12 harg12 arg13 harg13 arg14 harg14 _ _ _ _ _ _ _) ?_; rintro ⟨x0, x1, x2⟩
  refine Safe.bind (safe_k0_part129 c R i arg2 harg2 arg3 harg3 arg4 harg4 arg5 harg5 arg6 harg6 arg7 harg7 arg8 harg8 arg9 harg9 arg10 harg10 arg11 harg11 arg12 harg12 arg13 harg13 arg14 harg14 _ _ _ _ _ _) ?_; rintro ⟨x0, x1⟩
  refine Safe.bind (safe_k0_part130 c R i arg2 harg2 arg3 harg3 arg4 harg4 arg5 harg5 arg6 harg6 arg7 harg7 arg8 harg8 arg9 harg9 arg10 harg10 arg11 harg11 arg12 harg12 arg13 harg13 arg14 harg14 _ _ _ _ _) ?_; rintro ⟨x0, x1, x2, x3⟩
  refine Safe.bind Safe.store ?_; intro x
  refine Safe.bind Safe.load ?_; intro x
  refine Safe.bind Safe.load ?_; intro x
  refine Safe.bind Safe.store ?_; intro x
  exact Safe.pure _

set_option maxHeartbeats 4000000 in
theorem safe_k0_part188 (v20 : _) (v54 : _) (v1952 : _) (v2023 : _) (v2047 : _) (v2063 : _) (v2079 : _) (v2095 : _) (v2111 : _) (v2127 : _) (v2143 : _) (v2159 : _) (v2160 : _) :
    Safe (defs₀ (F := F)) c R (k0_part188 (F := F) i arg2 harg2 arg3 harg3 arg4 harg4 arg5 harg5 arg6 harg6 arg7 harg7 arg8 harg8 arg9 harg9 arg10 harg10 arg11 harg11 arg12 harg12 arg13 harg13 arg14 harg14 v20 v54 v1952 v2023 v2047 v2063 v2079 v2095 v2111 v2127 v2143 v2159 v2160) := by
  rw [k0_part188_eq_skeleton]; unfold k0_part188_skel
  repeat' first
    | exact Safe.loop fun k a => safe_k0_t4_body c R i arg2 harg2 arg3 harg3 arg4 harg4 arg5 harg5 arg6 harg6 arg7 harg7 arg8 harg8 arg9 harg9 arg10 harg10 arg11 harg11 arg12 harg12 arg13 harg13 arg14 harg14 _ _ _ _ _ _ _ _ _ _ _ _ _ k a
    | exact Safe.loop fun k a => safe_k0_t5_body c R i arg2 harg2 arg3 harg3 arg4 harg4 arg5 harg5 arg6 harg6 arg7 harg7 arg8 harg8 arg9 harg9 arg10 harg10 arg11 harg11 arg12 harg12 arg13 harg13 arg14 harg14 _ _ _ _ _ _ _ _ _ _ _ _ _ _ k a
    | exact safe_k0_part135 c R i arg2 harg2 arg3 harg3 arg4 harg4 arg5 harg5 arg6 harg6 arg7 harg7 arg8 harg8 arg9 harg9 arg10 harg10 arg11 harg11 arg12 harg12 arg13 harg13 arg14 harg14 _ _ _
    | refine Safe.dite (fun _ => ?_) fun _ => ?_
    | refine Safe.ite ?_ ?_
    | refine Safe.bind ?_ ?_
    | exact Safe.pure _
    | exact Safe.load
    | exact Safe.store
    | intro x

theorem safe_k0_part190 :
    Safe (defs₀ (F := F)) c R (k0_part190 (F := F) i arg2 harg2 arg3 harg3 arg4 harg4 arg5 harg5 arg6 harg6 arg7 harg7 arg8 harg8 arg9 harg9 arg10 harg10 arg11 harg11 arg12 harg12 arg13 harg13 arg14 harg14) := by
  rw [k0_part190_eq_skeleton]; unfold k0_part190_skel
  refine Safe.bind (safe_k0_part136 c R i arg2 harg2 arg3 harg3 arg4 harg4 arg5 harg5 arg6 harg6 arg7 harg7 arg8 harg8 arg9 harg9 arg10 harg10 arg11 harg11 arg12 harg12 arg13 harg13 arg14 harg14) ?_; rintro ⟨x0, x1, x2, x3, x4, x5, x6, x7, x8⟩
  refine Safe.bind (safe_k0_part137 c R i arg2 harg2 arg3 harg3 arg4 harg4 arg5 harg5 arg6 harg6 arg7 harg7 arg8 harg8 arg9 harg9 arg10 harg10 arg11 harg11 arg12 harg12 arg13 harg13 arg14 harg14 _ _ _ _ _ _ _ _ _) ?_; rintro ⟨x0, x1, x2, x3, x4, x5, x6, x7⟩
  refine Safe.bind (safe_k0_part138 c R i arg2 harg2 arg3 harg3 arg4 harg4 arg5 harg5 arg6 harg6 arg7 harg7 arg8 harg8 arg9 harg9 arg10 harg10 arg11 harg11 arg12 harg12 arg13 harg13 arg14 harg14 _ _ _ _ _ _ _ _) ?_; rintro ⟨x0, x1, x2, x3, x4, x5, x6, x7, x8, x9, x10, x11, x12, x13, x14⟩
  refine Safe.bind (by rw [k0_part139_eq_skeleton]; exact Safe.pure _) ?_; rintro ⟨x0, x1, x2, x3, x4, x5, x6, x7, x8, x9, x10, x11, x12, x13, x14, x15, x16, x17, x18, x19, x20, x21, x22, x23, x24, x25, x26⟩
  refine Safe.bind (by rw [k0_part140_eq_skeleton]; exact Safe.pure _) ?_; rintro ⟨x0, x1, x2, x3, x4, x5, x6, x7, x8, x9⟩
  refine Safe.bind (by rw [k0_part141_eq_skeleton]; exact Safe.pure _) ?_; rintro ⟨x0, x1, x2, x3, x4, x5, x6, x7, x8, x9, x10, x11⟩
  refine Safe.bind (by rw [k0_part142_eq_skeleton]; exact Safe.pure _) ?_; rintro ⟨x0, x1, x2, x3, x4, x5, x6, x7, x8⟩
  refine Safe.bind (by rw [k0_part143_eq_skeleton]; exact Safe.pure _) ?_; rintro ⟨x0, x1, x2, x3, x4, x5, x6, x7, x8, x9⟩
  refine Safe.bind (by rw [k0_part144_eq_skeleton]; exact Safe.pure _) ?_; rintro ⟨x0, x1, x2, x3, x4, x5, x6, x7, x8, x9, x10, x11⟩
  refine Safe.bind (by rw [k0_part145_eq_skeleton]; exact Safe.pure _) ?_; rintro ⟨x0, x1, x2, x3, x4, x5, x6, x7, x8, x9⟩
  refine Safe.bind (by rw [k0_part146_eq_skeleton]; exact Safe.pure _) ?_; rintro ⟨x0, x1, x2, x3, x4, x5, x6, x7, x8, x9, x10, x11⟩
  refine Safe.bind (by rw [k0_part147_eq_skeleton]; exact Safe.pure _) ?_; rintro ⟨x0, x1, x2, x3, x4, x5, x6, x7, x8⟩
  refine Safe.bind (by rw [k0_part148_eq_skeleton]; exact Safe.pure _) ?_; rintro ⟨x0, x1, x2, x3, x4, x5, x6, x7, x8, x9⟩
  refine Safe.bind (by rw [k0_part149_eq_skeleton]; exact Safe.pure _) ?_; rintro ⟨x0, x1, x2, x3, x4, x5, x6, x7⟩
  refine Safe.bind (by rw [k0_part150_eq_skeleton]; exact Safe.pure _) ?_; rintro ⟨x0, x1, x2, x3, x4, x5, x6, x7, x8, x9⟩
  refine Safe.bind (by rw [k0_part151_eq_skeleton]; exact Safe.pure _) ?_; rintro ⟨x0, x1, x2, x3, x4, x5, x6, x7, x8, x9⟩
  refine Safe.bind (by rw [k0_part152_eq_skeleton]; exact Safe.pure _) ?_; rintro ⟨x0, x1, x2, x3, x4, x5, x6, x7⟩
  refine Safe.bind (by rw [k0_part153_eq_skeleton]; exact Safe.pure _) ?_; rintro ⟨x0, x1, x2, x3, x4, x5, x6, x7⟩
  refine Safe.bind (by rw [k0_part154_eq_skeleton]; exact Safe.pure _) ?_; rintro ⟨x0, x1, x2, x3, x4, x5, x6, x7, x8, x9⟩
  refine Safe.bind (safe_k0_part155 c R i arg2 harg2 arg3 harg3 arg4 harg4 arg5 harg5 arg6 harg6 arg7 harg7 arg8 harg8 arg9 harg9 arg10 harg10 arg11 harg11 arg12 harg12 arg13 harg13 arg14 harg14 _ _ _ _ _ _ _ _ _ _ _) ?_; rintro ⟨x0, x1, x2, x3, x4⟩
  refine Safe.bind (safe_k0_part156 c R i arg2 harg2 arg3 harg3 arg4 harg4 arg5 harg5 arg6 harg6 arg7 harg7 arg8 harg8 arg9 harg9 arg10 harg10 arg11 harg11 arg12 harg12 arg13 harg13 arg14 harg14 _ _ _ _ _ _ _ _ _) ?_; intro x
  refine Safe.bind (safe_k0_part157 c R i arg2 harg2 arg3 harg3 arg4 harg4 arg5 harg5 arg6 harg6 arg7 harg7 arg8 harg8 arg9 harg9 arg10 harg10 arg11 harg11 arg12 harg12 arg13 harg13 arg14 harg14 _ _ _ _ _ _ _) ?_; intro x
  refine Safe.bind (safe_k0_part158 c R i arg2 harg2 arg3 harg3 arg4 harg4 arg5 harg5 arg6 harg6 arg7 harg7 arg8 harg8 arg9 harg9 arg10 harg10 arg11 harg11 arg12 harg12 arg13 harg13 arg14 harg14 _ _ _ _ _ _ _ _ _) ?_; intro x
  refine Safe.bind (safe_k0_part159 c R i arg2 harg2 arg3 harg3 arg4 harg4 arg5 harg5 arg6 harg6 arg7 harg7 arg8 harg8 arg9 harg9 arg10 harg10 arg11 harg11 arg12 harg12 arg13 harg13 arg14 harg14 _ _ _ _ _ _ _ _ _) ?_; intro x
  refine Safe.bind (safe_k0_part160 c R i arg2 harg2 arg3 harg3 arg4 harg4 arg5 harg5 arg6 harg6 arg7 harg7 arg8 harg8 arg9 harg9 arg10 harg10 arg11 harg11 arg12 harg12 arg13 harg13 arg14 harg14 _ _ _) ?_; rintro ⟨x0, x1, x2, x3, x4, x5, x6, x7, x8, x9, x10, x11, x12, x13, x14, x15, x16, x17, x18, x19, x20, x21, x22, x23, x24, x25, x26, x27, x28, x29, x30, x31, x32⟩
  refine Safe.bind (by rw [k0_part161_eq_skeleton]; exact Safe.pure _) ?_; rintro ⟨x0, x1, x2, x3, x4, x5, x6, x7⟩
  refine Safe.bind (by rw [k0_part162_eq_skeleton]; exact Safe.pure _) ?_; rintro ⟨x0, x1, x2, x3, x4, x5, x6, x7, x8⟩
  refine Safe.bind (by rw [k0_part163_eq_skeleton]; exact Safe.pure _) ?_; rintro ⟨x0, x1, x2, x3, x4, x5, x6, x7, x8, x9, x10⟩
  refine Safe.bind (by rw [k0_part164_eq_skeleton]; exact Safe.pure _) ?_; rintro ⟨x0, x1, x2, x3, x4, x5, x6, x7, x8⟩
  refine Safe.bind (by rw [k0_part165_eq_skeleton]; exact Safe.pure _) ?_; rintro ⟨x0, x1, x2, x3, x4, x5, x6, x7, x8, x9, x10⟩
  refine Safe.bind (by rw [k0_part166_eq_skeleton]; exact Safe.pure _) ?_; rintro ⟨x0, x1, x2, x3, x4, x5, x6, x7⟩
  refine Safe.bind (by rw [k0_part167_eq_skeleton]; exact Safe.pure _) ?_; rintro ⟨x0, x1, x2, x3, x4, x5, x6, x7, x8⟩
  refine Safe.bind (by rw [k0_part168_eq_skeleton]; exact Safe.pure _) ?_; rintro ⟨x0, x1, x2, x3, x4, x5, x6, x7, x8⟩
  refine Safe.bind (by rw [k0_part169_eq_skeleton]; exact Safe.pure _) ?_; rintro ⟨x0, x1, x2, x3, x4, x5, x6, x7, x8⟩
  refine Safe.bind (by rw [k0_part170_eq_skeleton]; exact Safe.pure _) ?_; rintro ⟨x0, x1, x2, x3, x4, x5, x6, x7, x8⟩
  refine Safe.bind (by rw [k0_part171_eq_skeleton]; exact Safe.pure _) ?_; rintro ⟨x0, x1, x2, x3, x4, x5, x6⟩
  refine Safe.bind (by rw [k0_part172_eq_skeleton]; exact Safe.pure _) ?_; rintro ⟨x0, x1, x2, x3, x4, x5, x6⟩
  refine Safe.bind (by rw [k0_part173_eq_skeleton]; exact Safe.pure _) ?_; rintro ⟨x0, x1, x2, x3, x4, x5, x6, x7, x8⟩
  refine Safe.bind (by rw [k0_part174_eq_skeleton]; exact Safe.pure _) ?_; rintro ⟨x0, x1, x2, x3, x4, x5, x6, x7, x8⟩
  refine Safe.bind (by rw [k0_part175_eq_skeleton]; exact Safe.pure _) ?_; rintro ⟨x0, x1, x2, x3, x4, x5, x6⟩
  refine Safe.bind (safe_k0_part176 c R i arg2 harg2 arg3 harg3 arg4 harg4 arg5 harg5 arg6 harg6 arg7 harg7 arg8 harg8 arg9 harg9 arg10 harg10 arg11 harg11 arg12 harg12 arg13 harg13 arg14 harg14 _ _ _ _ _ _ _ _) ?_; rintro ⟨x0, x1, x2, x3, x4⟩
  refine Safe.bind (safe_k0_part177 c R i arg2 harg2 arg3 harg3 arg4 harg4 arg5 harg5 arg6 harg6 arg7 harg7 arg8 harg8 arg9 harg9 arg10 harg10 arg11 harg11 arg12 harg12 arg13 harg13 arg14 harg14 _ _ _ _ _ _ _ _) ?_; intro x
  refine Safe.bind (safe_k0_part178 c R i arg2 harg2 arg3 harg3 arg4 harg4 arg5 harg5 arg6 harg6 arg7 harg7 arg8 harg8 arg9 harg9 arg10 harg10 arg11 harg11 arg12 harg12 arg13 harg13 arg14 harg14 _ _ _ _ _ _ _ _) ?_; intro x
  refine Safe.bind (safe_k0_part179 c R i arg2 harg2 arg3 harg3 arg4 harg4 arg5 harg5 arg6 harg6 arg7 harg7 arg8 harg8 arg9 harg9 arg10 harg10 arg11 harg11 arg12 harg12 arg13 harg13 arg14 harg14 _ _ _ _ _ _ _ _ _) ?_; intro x
  refine Safe.bind (safe_k0_part180 c R i arg2 harg2 arg3 harg3 arg4 harg4 arg5 harg5 arg6 harg6 arg7 harg7 arg8 harg8 arg9 harg9 arg10 harg10 arg11 harg11 arg12 harg12 arg13 harg13 arg14 harg14 _ _ _ _ _ _ _ _) ?_; intro x
  refine Safe.bind (safe_k0_part181 c R i arg2 harg2 arg3 harg3 arg4 harg4 arg5 harg5 arg6 harg6 arg7 harg7 arg8 harg8 arg9 harg9 arg10 harg10 arg11 harg11 arg12 harg12 arg13 harg13 arg14 harg14 _ _ _ _ _ _) ?_; rintro ⟨x0, x1, x2, x3, x4, x5, x6⟩
  refine Safe.bind (by rw [k0_part182_eq_skeleton]; exact Safe.pure _) ?_; rintro ⟨x0, x1⟩
  refine Safe.bind (safe_k0_part183 c R i arg2 harg2 arg3 harg3 arg4 harg4 arg5 harg5 arg6 harg6 arg7 harg7 arg8 harg8 arg9 harg9 arg10 harg10 arg11 harg11 arg12 harg12 arg13 harg13 arg14 harg14 _ _ _ _ _ _ _) ?_; rintro ⟨x0, x1, x2, x3, x4, x5, x6, x7⟩
  refine Safe.bind (by rw [k0_part184_eq_skeleton]; exact Safe.pure _) ?_; rintro ⟨x0, x1, x2, x3, x4⟩
  refine Safe.bind (by rw [k0_part185_eq_skeleton]; exact Safe.pure _) ?_; rintro ⟨x0, x1, x2, x3, x4⟩
  refine Safe.bind (safe_k0_part186 c R i arg2 harg2 arg3 harg3 arg4 harg4 arg5 harg5 arg6 harg6 arg7 harg7 arg8 harg8 arg9 harg9 arg10 harg10 arg11 harg11 arg12 harg12 arg13 harg13 arg14 harg14 _ _ _ _ _ _) ?_; rintro ⟨x0, x1, x2, x3⟩
  refine Safe.bind (safe_k0_part187 c R i arg2 harg2 arg3 harg3 arg4 harg4 arg5 harg5 arg6 harg6 arg7 harg7 arg8 harg8 arg9 harg9 arg10 harg10 arg11 harg11 arg12 harg12 arg13 harg13 arg14 harg14 _ _ _ _ _ _ _ _ _ _) ?_; intro x
  refine Safe.bind (safe_k0_part188 c R i arg2 harg2 arg3 harg3 arg4 harg4 arg5 harg5 arg6 harg6 arg7 harg7 arg8 harg8 arg9 harg9 arg10 harg10 arg11 harg11 arg12 harg12 arg13 harg13 arg14 harg14 _ _ _ _ _ _ _ _ _ _ _ _ _) ?_; intro x
  refine Safe.bind (safe_k0_part189 c R i arg2 harg2 arg3 harg3 arg4 harg4 arg5 harg5 arg6 harg6 arg7 harg7 arg8 harg8 arg9 harg9 arg10 harg10 arg11 harg11 arg12 harg12 arg13 harg13 arg14 harg14) ?_; rintro ⟨x0, x1⟩
  refine Safe.bind Safe.load ?_; intro x
  refine Safe.bind Safe.store ?_; intro x
  exact Safe.pure _

theorem safe_cc0_dsa_attention :
    Safe (defs₀ (F := F)) c R (cc0_dsa_attention (F := F) i arg2 harg2 arg3 harg3 arg4 harg4 arg5 harg5 arg6 harg6 arg7 harg7 arg8 harg8 arg9 harg9 arg10 harg10 arg11 harg11 arg12 harg12 arg13 harg13 arg14 harg14) := by
  rw [cc0_dsa_attention_eq_skeleton]; unfold cc0_dsa_attention_skel
  refine Safe.bind (safe_k0_part190 c R i arg2 harg2 arg3 harg3 arg4 harg4 arg5 harg5 arg6 harg6 arg7 harg7 arg8 harg8 arg9 harg9 arg10 harg10 arg11 harg11 arg12 harg12 arg13 harg13 arg14 harg14) ?_; intro x
  refine Safe.bind Safe.load ?_; intro x
  refine Safe.bind Safe.store ?_; intro x
  refine Safe.bind Safe.load ?_; intro x
  refine Safe.bind Safe.store ?_; intro x
  exact Safe.pure _

end Cert.SparseFrame
end
-- ==== Proof.SparseFrame.lean ====
/-
  The frame of the sparse attention: at every grid point the body is handed its seven staging buffers and its six scratch
  buffers and gives them back at some contents (`SparseBody`), so the whole launch ends, its argument arrays unchanged and
  its semaphores at zero. What the buffers hold between grid points is left unnamed.
-/
module

public import proofs.«01_k».proof.Proof.Gen.Kernel.Frame
public import proofs.«01_k».proof.Proof.SparseBody
public import Idealize.ShloMosaic.Lib.Pipeline.Frame
public import Idealize.ShloMosaic.Lib.Tactic

@[expose] public section

noncomputable section

namespace Cert.SparseFrame

open Cert.Kernel Cert.Kernel.Gen Cert.SafeRun
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [BitOps F] [∀ e, Nonempty (Elt F e)]

local notation "𝕄" => MT nD τ sig Unit (Elt F) ℕ (UR sig nD τ) ℕ

variable (m : (ℓ : Loc nD τ sig) → Buf (Elt F) ℓ) (ρ : Dev nD → PrngReg)

/-- Everything the body touches, each buffer whole at some contents. -/
abbrev Held (c : Dev nD)
    (a2 : Memref sig .tc .vmem S256x512 .bf16) (a3 : Memref sig .tc .vmem S256x256 .bf16)
    (a4 : Memref sig .tc .vmem S1x8x256 .f32) (a5 a6 : Memref sig .tc .vmem S4096x128 .bf16)
    (a7 : Memref sig .tc .vmem S8x64x512 .bf16) (a8 : Memref sig .tc .vmem S256x512 .bf16)
    (a9 : Memref sig .tc .vmem S8x512x256 .i32) (a10 : Memref sig .tc .vmem S32x128x256 .i32)
    (a11 : Memref sig .tc .vmem S1x2048 .f32) (a12 : Memref sig .tc .vmem S80x2048 .f32)
    (a13 a14 : Memref sig .tc .vmem S512x2048 .f32) : sProp 𝕄 :=
  iprop(Any c a2 ∗ Any c a3 ∗ Any c a4 ∗ Any c a5 ∗ Any c a6 ∗ Any c a7 ∗ Any c a8 ∗ Any c a9 ∗ Any c a10 ∗ Any c a11
    ∗ Any c a12 ∗ Any c a13 ∗ Any c a14 ∗ BI.emp)

/-- The body is safe from them. -/
theorem safe_held (c : Dev nD) (i : grid0.Coords)
    (a2 : Memref sig .tc .vmem S256x512 .bf16) (h2 : a2.IsWhole) (a3 : Memref sig .tc .vmem S256x256 .bf16) (h3 : a3.IsWhole)
    (a4 : Memref sig .tc .vmem S1x8x256 .f32) (h4 : a4.IsWhole) (a5 : Memref sig .tc .vmem S4096x128 .bf16) (h5 : a5.IsWhole)
    (a6 : Memref sig .tc .vmem S4096x128 .bf16) (h6 : a6.IsWhole)
    (a7 : Memref sig .tc .vmem S8x64x512 .bf16) (h7 : a7.IsWhole) (a8 : Memref sig .tc .vmem S256x512 .bf16) (h8 : a8.IsWhole)
    (a9 : Memref sig .tc .vmem S8x512x256 .i32) (h9 : a9.IsWhole) (a10 : Memref sig .tc .vmem S32x128x256 .i32) (h10 : a10.IsWhole)
    (a11 : Memref sig .tc .vmem S1x2048 .f32) (h11 : a11.IsWhole) (a12 : Memref sig .tc .vmem S80x2048 .f32) (h12 : a12.IsWhole)
    (a13 : Memref sig .tc .vmem S512x2048 .f32) (h13 : a13.IsWhole) (a14 : Memref sig .tc .vmem S512x2048 .f32) (h14 : a14.IsWhole) :
    Safe (defs₀ (F := F)) c (Held c a2 a3 a4 a5 a6 a7 a8 a9 a10 a11 a12 a13 a14)
      (cc0_dsa_attention i a2 h2 a3 h3 a4 h4 a5 h5 a6 h6 a7 h7 a8 h8 a9 h9 a10 h10 a11 h11 a12 h12 a13 h13 a14 h14) := by
  let R : sProp 𝕄 := Held c a2 a3 a4 a5 a6 a7 a8 a9 a10 a11 a12 a13 a14
  have H2 : Holds c R a2 := Holds.head _ _
  have H3 : Holds c R a3 := .tail _ _ _ (h := Holds.head _ _)
  have H4 : Holds c R a4 := .tail _ _ _ (h := .tail _ _ _ (h := Holds.head _ _))
  have H5 : Holds c R a5 := .tail _ _ _ (h := .tail _ _ _ (h := .tail _ _ _ (h := Holds.head _ _)))
  have H6 : Holds c R a6 := .tail _ _ _ (h := .tail _ _ _ (h := .tail _ _ _ (h := .tail _ _ _ (h := Holds.head _ _))))
  have H7 : Holds c R a7 := .tail _ _ _ (h := .tail _ _ _ (h := .tail _ _ _ (h := .tail _ _ _ (h := .tail _ _ _ (h := Holds.head _ _)))))
  have H8 : Holds c R a8 := .tail _ _ _ (h := .tail _ _ _ (h := .tail _ _ _ (h := .tail _ _ _ (h := .tail _ _ _ (h := .tail _ _ _ (h := Holds.head _ _))))))
  have H9 : Holds c R a9 := .tail _ _ _ (h := .tail _ _ _ (h := .tail _ _ _ (h := .tail _ _ _ (h := .tail _ _ _ (h := .tail _ _ _ (h := .tail _ _ _ (h := Holds.head _ _)))))))
  have H10 : Holds c R a10 := .tail _ _ _ (h := .tail _ _ _ (h := .tail _ _ _ (h := .tail _ _ _ (h := .tail _ _ _ (h := .tail _ _ _ (h := .tail _ _ _ (h := .tail _ _ _ (h := Holds.head _ _))))))))
  have H11 : Holds c R a11 := .tail _ _ _ (h := .tail _ _ _ (h := .tail _ _ _ (h := .tail _ _ _ (h := .tail _ _ _ (h := .tail _ _ _ (h := .tail _ _ _ (h := .tail _ _ _ (h := .tail _ _ _ (h := Holds.head _ _)))))))))
  have H12 : Holds c R a12 := .tail _ _ _ (h := .tail _ _ _ (h := .tail _ _ _ (h := .tail _ _ _ (h := .tail _ _ _ (h := .tail _ _ _ (h := .tail _ _ _ (h := .tail _ _ _ (h := .tail _ _ _ (h := .tail _ _ _ (h := Holds.head _ _))))))))))
  have H13 : Holds c R a13 := .tail _ _ _ (h := .tail _ _ _ (h := .tail _ _ _ (h := .tail _ _ _ (h := .tail _ _ _ (h := .tail _ _ _ (h := .tail _ _ _ (h := .tail _ _ _ (h := .tail _ _ _ (h := .tail _ _ _ (h := .tail _ _ _ (h := Holds.head _ _)))))))))))
  have H14 : Holds c R a14 := .tail _ _ _ (h := .tail _ _ _ (h := .tail _ _ _ (h := .tail _ _ _ (h := .tail _ _ _ (h := .tail _ _ _ (h := .tail _ _ _ (h := .tail _ _ _ (h := .tail _ _ _ (h := .tail _ _ _ (h := .tail _ _ _ (h := .tail _ _ _ (h := Holds.head _ _))))))))))))
  exact safe_cc0_dsa_attention c R i a2 h2 a3 h3 a4 h4 a5 h5 a6 h6 a7 h7 a8 h8 a9 h9 a10 h10 a11 h11 a12 h12 a13 h13 a14 h14

/-- A memref of a whole buffer, owned at some contents, is its buffer held at some contents; -/
theorem any_of_owns (c : Dev nD) {S : Shape} {e : EltTy} (M : Memref sig .tc .vmem S e) (h : M.IsWhole) :
    iprop(∃ d, owns (c : Thread nD τ) M fullShare d) ⊢ (Any c M : sProp 𝕄) := by
  unfold owns
  iintro ⟨%d, %f, -, H⟩
  iexists f
  rw [Memref.IsWhole.set_eq_univ h]; iexact H

/-- and back. -/
theorem owns_of_any (c : Dev nD) {S : Shape} {e : EltTy} (M : Memref sig .tc .vmem S e) (h : M.IsWhole) :
    (Any c M : sProp 𝕄) ⊢ iprop(∃ d, owns (c : Thread nD τ) M fullShare d) := by
  unfold owns
  iintro ⟨%f, H⟩
  iexists _, f
  isplitr
  · ipureintro; rfl
  rw [Memref.IsWhole.set_eq_univ h]; iexact H

/-! ## The proof data and the body at a grid point -/

/-- Nothing is named of any window's contents. -/
def forgets : Fin 7 → Bool := fun _ => true

/-- The proof data on core `c`: each array as the launch finds it, what the body leaves unnamed, the scratch at anything. -/
def dats (_ : Fin 1) (c : Dev nD) : Dat τ (Elt F) Unit ℕ (UR sig nD τ) ℕ cfg0 c where
  A w := V m c (Pipeline.arrRef spec0 w)
  after w t := Pipeline.Dat.unnamed (cfg := cfg0) w t
  Φ _ := Pipeline.ΦA spec0 c
  q _ := fullShare
  owed _ := 0

theorem A_eq (c : Dev nD) (w : Fin cfg0.W) : (dats m 0 c).A w = V m c (Pipeline.arrRef spec0 w) := by dsimp only [dats]

/-- The seven staging buffers at point `t`, each at some contents. -/
abbrev staged (c : Dev nD) (t : Fin cfg0.N) : sProp 𝕄 :=
  iprop((∃ d, owns (c : Thread nD τ) (win0_0.stage (cfg0.slots t 0)) fullShare d)
    ∗ (∃ d, owns (c : Thread nD τ) (win0_1.stage (cfg0.slots t 1)) fullShare d)
    ∗ (∃ d, owns (c : Thread nD τ) (win0_2.stage (cfg0.slots t 2)) fullShare d)
    ∗ (∃ d, owns (c : Thread nD τ) (win0_3.stage (cfg0.slots t 3)) fullShare d)
    ∗ (∃ d, owns (c : Thread nD τ) (win0_4.stage (cfg0.slots t 4)) fullShare d)
    ∗ (∃ d, owns (c : Thread nD τ) (win0_5.stage (cfg0.slots t 5)) fullShare d)
    ∗ (∃ d, owns (c : Thread nD τ) (win0_6.stage (cfg0.slots t 6)) fullShare d))

/-- What the body is called with at point `t`, and what it returns. -/
def bodyPre (c : Dev nD) (t : Fin cfg0.N) : sProp 𝕄 :=
  iprop((dats m 0 c).Φ t.castSucc ∗ (dats m 0 c).owesAt () t.castSucc ∗ staged c t)
def bodyPost (c : Dev nD) (t : Fin cfg0.N) : sProp 𝕄 :=
  iprop((dats m 0 c).Φ t.succ ∗ (dats m 0 c).owesAt () t.succ ∗ staged c t)

/-- All the buffers of point `t`. -/
abbrev heldAt (c : Dev nD) (t : Fin cfg0.N) : sProp 𝕄 :=
  Held c (win0_0.stage (cfg0.slots t 0)) (win0_1.stage (cfg0.slots t 1)) (win0_2.stage (cfg0.slots t 2))
    (win0_3.stage (cfg0.slots t 3)) (win0_4.stage (cfg0.slots t 4)) (win0_5.stage (cfg0.slots t 5))
    (win0_6.stage (cfg0.slots t 6)) (Memref.whole cc0_scratch0) (Memref.whole cc0_scratch1) (Memref.whole cc0_scratch2)
    (Memref.whole cc0_scratch3) (Memref.whole cc0_scratch4) (Memref.whole cc0_scratch5)

/-- The body at point `t` is safe from those buffers. -/
theorem safe_at (c : Dev nD) (t : Fin cfg0.N) : Safe (defs₀ (F := F)) c (heldAt c t) (bodyAt0 t) := by
  exact safe_held c _ _ _ _ _ _ _ _ _ _ _ _ _ _ _ _ _ _ _ _ _ _ _ _ _ _ _

/-- The buffers of point `t` are the staging buffers and the scoped rest, -/
theorem held_split (c : Dev nD) (t : Fin cfg0.N) :
    iprop(staged c t ∗ (Pipeline.scopedRest (Ix := Unit) (Name := ℕ) (U := UR sig nD τ) (Lvl := ℕ) (Val := Elt F) spec0 c : sProp 𝕄))
      ⊢ heldAt c t := by
  rw [scopedRest0_eq]
  iintro ⟨⟨H0, H1, H2, H3, H4, H5, H6⟩, S0, S1, S2, S3, S4, S5⟩
  isplitl [H0]; · iapply (any_of_owns c _ (hstage0_0 (cfg0.slots t 0))); iexact H0
  isplitl [H1]; · iapply (any_of_owns c _ (hstage0_1 (cfg0.slots t 1))); iexact H1
  isplitl [H2]; · iapply (any_of_owns c _ (hstage0_2 (cfg0.slots t 2))); iexact H2
  isplitl [H3]; · iapply (any_of_owns c _ (hstage0_3 (cfg0.slots t 3))); iexact H3
  isplitl [H4]; · iapply (any_of_owns c _ (hstage0_4 (cfg0.slots t 4))); iexact H4
  isplitl [H5]; · iapply (any_of_owns c _ (hstage0_5 (cfg0.slots t 5))); iexact H5
  isplitl [H6]; · iapply (any_of_owns c _ (hstage0_6 (cfg0.slots t 6))); iexact H6
  isplitl [S0]; · iexact S0
  isplitl [S1]; · iexact S1
  isplitl [S2]; · iexact S2
  isplitl [S3]; · iexact S3
  isplitl [S4]; · iexact S4
  isplitl [S5]; · iexact S5
  iempintro

/-- and are given back as these. -/
theorem held_join (c : Dev nD) (t : Fin cfg0.N) :
    heldAt c t ⊢ iprop(staged c t
      ∗ (Pipeline.scopedRest (Ix := Unit) (Name := ℕ) (U := UR sig nD τ) (Lvl := ℕ) (Val := Elt F) spec0 c : sProp 𝕄)) := by
  rw [scopedRest0_eq]
  iintro ⟨H0, H1, H2, H3, H4, H5, H6, S0, S1, S2, S3, S4, S5, -⟩
  isplitl [H0 H1 H2 H3 H4 H5 H6]
  · isplitl [H0]; · iapply (owns_of_any c _ (hstage0_0 (cfg0.slots t 0))); iexact H0
    isplitl [H1]; · iapply (owns_of_any c _ (hstage0_1 (cfg0.slots t 1))); iexact H1
    isplitl [H2]; · iapply (owns_of_any c _ (hstage0_2 (cfg0.slots t 2))); iexact H2
    isplitl [H3]; · iapply (owns_of_any c _ (hstage0_3 (cfg0.slots t 3))); iexact H3
    isplitl [H4]; · iapply (owns_of_any c _ (hstage0_4 (cfg0.slots t 4))); iexact H4
    isplitl [H5]; · iapply (owns_of_any c _ (hstage0_5 (cfg0.slots t 5))); iexact H5
    iapply (owns_of_any c _ (hstage0_6 (cfg0.slots t 6))); iexact H6
  isplitl [S0]; · iexact S0
  isplitl [S1]; · iexact S1
  isplitl [S2]; · iexact S2
  isplitl [S3]; · iexact S3
  isplitl [S4]; · iexact S4
  iexact S5

/-- The body at point `t`, from the staging buffers and the invariant. -/
theorem sound_body (c : Dev nD) (t : Fin cfg0.N) :
    bodyPre m c t ⊢ wp frame (wpE (defs₀ (F := F)) Variants.none c none) Set.univ (bodyAt0 t) (fun _ => bodyPost m c t) := by
  unfold bodyPre bodyPost
  rw [show (dats m 0 c).Φ t.succ = (dats m 0 c).Φ t.castSucc from rfl,
    show (dats m 0 c).owesAt () t.succ = (dats m 0 c).owesAt () t.castSucc from rfl,
    show (dats m 0 c).Φ t.castSucc = Pipeline.ΦA spec0 c from rfl]
  unfold Pipeline.ΦA
  iintro ⟨⟨HS, Hg⟩, HO, HW⟩
  iapply (BIBase.Entails.trans (sep_mono (BIBase.Entails.trans (held_split c t) (safe_at c t).run) .rfl)
    (BIBase.Entails.trans (wp_frame_r _ _ _ (R := iprop((∃ r, prngReg c r) ∗ (dats m 0 c).owesAt () t.castSucc)))
      (wp_mono _ _ _ fun _ => ?_)))
  · iintro ⟨HH, Hg, HO⟩
    ihave ⟨HW, HS⟩ := (held_join c t) $$ HH
    isplitl [HS Hg]
    · isplitl [HS]; · iexact HS
      iexact Hg
    isplitl [HO]; · iexact HO
    iexact HW
  isplitl [HW HS]
  · isplitl [HW]; · iexact HW
    iexact HS
  isplitl [Hg]; · iexact Hg
  iexact HO

/-- The body table's row at a point is the body. -/
theorem defs₀_row (t : Fin cfg0.N) : defs₀ (F := F) .tc cfg0.body (cfg0.bodyArgs t (cfg0.slots t)) = bodyAt0 t := by
  unfold defs₀; rw [Defs.onTc_tc]

/-- The body obligation of the launch, nothing named of any window. -/
theorem body_obligation (c : Dev nD) :
    BodyObligation (dats (F := F) m 0 c) (defs₀ (F := F)) Variants.none () Set.univ forgets := fun t => by
  rw [bigSep_W0, bigSep_W0, defs₀_row]
  exact triple_restated (sound_body m c t) rfl .rfl fun _ => .rfl

/-! ## The launch -/

set_option backward.isDefEq.respectTransparency.types false in
/-- Every execution ends; afterwards the input arrays are as they were and the semaphores read zero. -/
theorem run_main :
    θ_run defs (onTc (τ := τ) (main (F := F))) (s₀ m ρ)
      (fun r => Pipeline.RDat.FramePost (cfgs 0) (fun c => (dats m 0 c).toRForget forgets) (V m) r ∧ r.2.sem = fun _ => 0) :=
  Pipeline.θ_run_frame_forget (Q' := _) cfgs (dats m) (0 : Fin 1) launch0 defs₀ Variants.none forgets m ρ main
    (hbody := fun c => (body_obligation m c).loose) (hshare := fun c => (dats m 0 c).share_full fun _ => rfl)
    (howed := fun _ _ => rfl) (V := V m) (hmain := hmain m Variants.none) (hA := A_eq m) (hΦ := fun _ _ => rfl)

variable {m}

/-- The arguments' arrays after the run. -/
theorem args_kept {r : PUnit × MemSt nD τ sig (Elt F)}
    (h : Pipeline.RDat.FramePost (cfgs 0) (fun c => (dats (F := F) m 0 c).toRForget forgets) (V m) r) (c : Dev nD) :
    r.2.mem ((c : Thread nD τ).loc main_arg0) = m ((c : Thread nD τ).loc main_arg0)
    ∧ r.2.mem ((c : Thread nD τ).loc main_arg1) = m ((c : Thread nD τ).loc main_arg1)
    ∧ r.2.mem ((c : Thread nD τ).loc main_arg2) = m ((c : Thread nD τ).loc main_arg2)
    ∧ r.2.mem ((c : Thread nD τ).loc main_arg3) = m ((c : Thread nD τ).loc main_arg3)
    ∧ r.2.mem ((c : Thread nD τ).loc main_arg4) = m ((c : Thread nD τ).loc main_arg4)
    ∧ r.2.mem ((c : Thread nD τ).loc main_arg5) = m ((c : Thread nD τ).loc main_arg5) :=
  ⟨h.arr_in c 0 rfl, h.arr_in c 1 rfl, h.arr_in c 2 rfl, h.arr_in c 3 rfl, h.arr_in c 4 rfl, h.arr_in c 5 rfl⟩

end Cert.SparseFrame
end
-- ==== Proof.Formula.lean ====
/-
  The plain formulas over the extended reals that both sides of a value claim are read to: the logistic, the norm of a
  row, the feed-forward row and the merge row; and the cut of a sum over the 2816 hidden columns into eleven chunks.
-/
module

public import Idealize.ShloMosaic.Lib.Pointwise

@[expose] public section

noncomputable section

namespace Cert.Formula

open Idealize.ShloMosaic

/-- The logistic function. -/
def logistic (v : EReal) : EReal := Ideal.div 1 (1 + Ideal.exp (-v))

/-- The mean of a row of 1024 entries (the divisor is the printed constant 1024). -/
def mean (d : Fin 1024 → EReal) : EReal := Ideal.div (∑ x, d x) (Ideal.ofBits .f32 0x44800000#32)

/-- A row less its mean, over the root of its variance plus the printed small constant, scaled by `g` and shifted by `b`. -/
def norm (d g b : Fin 1024 → EReal) (j : Fin 1024) : EReal :=
  (d j - mean d) * Ideal.rsqrt (mean (fun x => (d x - mean d) * (d x - mean d)) + Ideal.ofBits .f32 0x3727C5AC#32) * g j + b j

/-- A row times a matrix. -/
def times {n k : ℕ} (x : Fin n → EReal) (w : Fin n → Fin k → EReal) (j : Fin k) : EReal := ∑ i, x i * w i j

/-- Hidden column `k`: the gate product times its logistic, times the up product. -/
def hidden (x : Fin 1024 → EReal) (gate up : Fin 1024 → Fin 2816 → EReal) (k : Fin 2816) : EReal :=
  times x gate k * logistic (times x gate k) * times x up k

/-- The row before the second norm: the scaled residual, the feed-forward product and the gated embedding. -/
def ffnRow (x : Fin 1024 → EReal) (p : Fin 256 → EReal) (gate up : Fin 1024 → Fin 2816 → EReal)
    (down : Fin 2816 → Fin 1024 → EReal) (pg : Fin 1024 → Fin 1024 → EReal) (pp : Fin 256 → Fin 1024 → EReal)
    (j : Fin 1024) : EReal :=
  Ideal.ofBits .f32 0x3FB504F3#32 * x j + times (hidden x gate up) down j + logistic (times x pg j) * times p pp j

/-- Column `k` of the gated sum of the three branches: each branch's product times the logistic of its gate's product and bias. -/
def gated (x : Fin 1024 → EReal) (a b c : Fin 512 → EReal) (ga gb gc : Fin 1024 → Fin 1024 → EReal) (da db dc : Fin 1024 → EReal)
    (wa wb wc : Fin 512 → Fin 1024 → EReal) (k : Fin 1024) : EReal :=
  logistic (times x ga k + da k) * times a wa k + logistic (times x gb k + db k) * times b wb k
    + logistic (times x gc k + dc k) * times c wc k

/-- The row before the first norm: the scaled residual and the output projection of the gated sum. -/
def mergeRow (x : Fin 1024 → EReal) (a b c : Fin 512 → EReal) (ga gb gc : Fin 1024 → Fin 1024 → EReal) (da db dc : Fin 1024 → EReal)
    (wa wb wc : Fin 512 → Fin 1024 → EReal) (o : Fin 1024 → Fin 1024 → EReal) (j : Fin 1024) : EReal :=
  Ideal.ofBits .f32 0x3FB504F3#32 * x j + times (gated x a b c ga gb gc da db dc wa wb wc) o j

/-- A sum over 2816 columns is the sum over eleven chunks of 256. -/
theorem sum_chunks (f : Fin 2816 → EReal) :
    ∑ k, f k = (∑ k : Fin 256, f ⟨k, by omega⟩) + (∑ k : Fin 256, f ⟨256 + k, by omega⟩)
      + (∑ k : Fin 256, f ⟨512 + k, by omega⟩) + (∑ k : Fin 256, f ⟨768 + k, by omega⟩)
      + (∑ k : Fin 256, f ⟨1024 + k, by omega⟩) + (∑ k : Fin 256, f ⟨1280 + k, by omega⟩)
      + (∑ k : Fin 256, f ⟨1536 + k, by omega⟩) + (∑ k : Fin 256, f ⟨1792 + k, by omega⟩)
      + (∑ k : Fin 256, f ⟨2048 + k, by omega⟩) + (∑ k : Fin 256, f ⟨2304 + k, by omega⟩)
      + (∑ k : Fin 256, f ⟨2560 + k, by omega⟩) := by
  let g : ℕ → EReal := fun n => if h : n < 2816 then f ⟨n, h⟩ else 0
  have hg (n : ℕ) (h : n < 2816) : f ⟨n, h⟩ = g n := by simp only [g, dif_pos h]
  have e : ∑ k, f k = ∑ k : Fin 2816, g k := Finset.sum_congr rfl fun k _ => hg k k.isLt
  rw [e]
  simp only [hg]
  rw [Fin.sum_univ_eq_sum_range (fun n => g n) 2816, Fin.sum_univ_eq_sum_range (fun n => g n) 256]
  have c (o : ℕ) : ∑ k : Fin 256, g (o + k) = ∑ k ∈ Finset.range 256, g (o + k) :=
    Fin.sum_univ_eq_sum_range (fun n => g (o + n)) 256
  simp only [c]
  simp only [← Finset.sum_range_add]

end Cert.Formula

end
-- ==== Proof.FfnBody.lean ====
/-
  The feed-forward kernel's block: what one grid point writes, as the norm of the rows it accumulates chunk by chunk, and
  each entry of it over the extended reals as the plain formula of the block's row.
-/
module

public import proofs.«01_k».proof.Proof.Gen.Kernel2Ideal.Value
public import proofs.«01_k».proof.Proof.Formula
public import Idealize.ShloMosaic.Lib.UnfoldOut

@[expose] public section

set_option maxRecDepth 16384

noncomputable section

namespace Cert.FfnBody

open Cert.Kernel2Ideal Cert.Kernel2Ideal.Gen Idealize.ShloMosaic Idealize.ShloMosaic.TcCoe Idealize.SL.Sem

variable {F : FTy → Type} [FloatOps F]

theorem hz : (![0, 0] : Fin 2 → Nat) = fun _ => 0 := funext fun a => by fin_cases a <;> rfl

/-- One chunk's hidden columns: the gate's product times its logistic, times the up product. -/
def hidden (A : FVec F S512x1024 .bf16) (G U : Vec F S1024x256 .bf16) : FVec F S512x256 .bf16 :=
  have g : FVec F S512x256 .f32 := matmul dot_S512x1024_S1024x256_S512x256_1_0_0_1_n_n none A
    (shapeCast S1024x256 G shapeCasts_S1024x256_S1024x256) (constant S512x256 .f32 0x00000000#32)
  have u : FVec F S512x256 .f32 := matmul dot_S512x1024_S1024x256_S512x256_1_0_0_1_n_n none A
    (shapeCast S1024x256 U shapeCasts_S1024x256_S1024x256) (constant S512x256 .f32 0x00000000#32)
  have one : FVec F S512x256 .f32 := broadcast S512x256 (Scalar.ofBits .f32 0x3F800000#32 : F .f32)
  have zero : FVec F S512x256 .f32 := broadcast S512x256 (Scalar.ofBits .f32 0x00000000#32 : F .f32)
  truncf .bf16 (mulf (mulf g (divf one (addf one (exp (subf zero g))))) u) bitsLt_bf16_f32

/-- One chunk's step: the running rows plus the hidden columns times the chunk's rows of the down matrix. -/
def step (acc : FVec F S512x1024 .f32) (h : FVec F S512x256 .bf16) (D : Vec F S256x1024 .bf16) : FVec F S512x1024 .f32 :=
  addf acc (matmul dot_S512x256_S256x1024_S512x1024_1_0_0_1_n_n none h
    (shapeCast S256x1024 D shapeCasts_S256x1024_S256x1024) (constant S512x1024 .f32 0x00000000#32))

/-- Each row less its mean, over the root of its variance. -/
def normed (d : FVec F S512x1024 .f32) : FVec F S512x1024 .f32 :=
  have n : FVec F S512x1 .f32 := broadcast S512x1 (Scalar.ofBits .f32 0x44800000#32 : F .f32)
  have mu : FVec F S512x1 .f32 := divf (shapeCast S512x1 (multiReduction .add [1] S512 d 0x00000000#32 reduces_S512x1024_S512 (.inl rfl) rfl) shapeCasts_S512_S512x1) n
  have c : FVec F S512x1024 .f32 := subf d (broadcastTo S512x1024 mu broadcasts_S512x1_S512x1024)
  have va : FVec F S512x1 .f32 := divf (shapeCast S512x1 (multiReduction .add [1] S512 (mulf c c) 0x00000000#32 reduces_S512x1024_S512 (.inl rfl) rfl) shapeCasts_S512_S512x1) n
  have e : FVec F S512x1 .f32 := broadcast S512x1 (Scalar.ofBits .f32 0x3727C5AC#32 : F .f32)
  mulf (subf d (broadcastTo S512x1024 mu broadcasts_S512x1_S512x1024)) (broadcastTo S512x1024 (rsqrt (addf va e)) broadcasts_S512x1_S512x1024)

/-- The rows before the norm: the residual and the gated embedding, then the eleven chunks in order. -/
def rows (x0 : Vec F S512x1024 .f32) (x1 : Vec F S1x512x256 .f32) (x2 x3 : Vec F S1024x2816 .bf16)
    (x4 : Vec F S2816x1024 .bf16) (x5 : Vec F S1024x1024 .bf16) (x6 : Vec F S256x1024 .bf16) : FVec F S512x1024 .f32 :=
  have A : FVec F S512x1024 .bf16 := k0_pay3 (View.ld x0 r0_0)
  step (step (step (step (step (step (step (step (step (step (step
    (k0_pay4 (View.ld x0 r0_0) (View.ld x5 r0_1) (View.ld x1 r0_2) (View.ld x6 r0_3))
    (hidden A (View.ld x2 r0_4) (View.ld x3 r0_4)) (View.ld x4 r0_6))
    (hidden A (View.ld x2 r0_5) (View.ld x3 r0_5)) (View.ld x4 r0_8))
    (hidden A (View.ld x2 r0_7) (View.ld x3 r0_7)) (View.ld x4 r0_10))
    (hidden A (View.ld x2 r0_9) (View.ld x3 r0_9)) (View.ld x4 r0_12))
    (hidden A (View.ld x2 r0_11) (View.ld x3 r0_11)) (View.ld x4 r0_14))
    (hidden A (View.ld x2 r0_13) (View.ld x3 r0_13)) (View.ld x4 r0_16))
    (hidden A (View.ld x2 r0_15) (View.ld x3 r0_15)) (View.ld x4 r0_18))
    (hidden A (View.ld x2 r0_17) (View.ld x3 r0_17)) (View.ld x4 r0_20))
    (hidden A (View.ld x2 r0_19) (View.ld x3 r0_19)) (View.ld x4 r0_22))
    (hidden A (View.ld x2 r0_21) (View.ld x3 r0_21)) (View.ld x4 r0_24))
    (hidden A (View.ld x2 r0_23) (View.ld x3 r0_23)) (View.ld x4 r0_25)

theorem out_eq (x0 : Vec F S512x1024 .f32) (x1 : Vec F S1x512x256 .f32) (x2 x3 : Vec F S1024x2816 .bf16)
    (x4 : Vec F S2816x1024 .bf16) (x5 : Vec F S1024x1024 .bf16) (x6 : Vec F S256x1024 .bf16) (x7 x8 : Vec F S1x1024 .f32) :
    out0_9 x0 x1 x2 x3 x4 x5 x6 x7 x8
      = addf (mulf (normed (rows x0 x1 x2 x3 x4 x5 x6)) (broadcastTo S512x1024 (shapeCast S1x1024 (View.ld x7 r0_26) shapeCasts_S1x1024_S1x1024) broadcasts_S1x1024_S512x1024))
          (broadcastTo S512x1024 (shapeCast S1x1024 (View.ld x8 r0_26) shapeCasts_S1x1024_S1x1024) broadcasts_S1x1024_S512x1024) := by
  unfold_out out0_9
  rw [View.canon_unit_zero hz]
  rfl

theorem hidden_apply (A : FVec Ideal S512x1024 .bf16) (G U : Vec Ideal S1024x256 .bf16) (r : Fin 512) (k : Fin 256) :
    hidden A G U (ix2 r k) = (∑ i, A (ix2 r i) * G (ix2 i k)) * Formula.logistic (∑ i, A (ix2 r i) * G (ix2 i k))
      * ∑ i, A (ix2 r i) * U (ix2 i k) := by
  pointwise [hidden, Formula.logistic]
  rw [zero_sub]

theorem step_apply (acc : FVec Ideal S512x1024 .f32) (h : FVec Ideal S512x256 .bf16) (D : Vec Ideal S256x1024 .bf16) (r : Fin 512) (j : Fin 1024) :
    step acc h D (ix2 r j) = acc (ix2 r j) + ∑ k : Fin 256, h (ix2 r k) * D (ix2 k j) := by
  pointwise [step]

theorem normed_apply (d : FVec Ideal S512x1024 .f32) (r : Fin 512) (j : Fin 1024) :
    normed d (ix2 r j) = (d (ix2 r j) - Formula.mean fun x => d (ix2 r x)) * Ideal.rsqrt (Formula.mean (fun x =>
      (d (ix2 r x) - Formula.mean fun x => d (ix2 r x)) * (d (ix2 r x) - Formula.mean fun x => d (ix2 r x))) + Ideal.ofBits .f32 0x3727C5AC#32) := by
  pointwise [normed, Formula.mean]

/-- The accumulated row, entry `j`, is the formula's row of the block's arrays. -/
theorem rows_apply (x0 : Vec Ideal S512x1024 .f32) (x1 : Vec Ideal S1x512x256 .f32) (x2 x3 : Vec Ideal S1024x2816 .bf16)
    (x4 : Vec Ideal S2816x1024 .bf16) (x5 : Vec Ideal S1024x1024 .bf16) (x6 : Vec Ideal S256x1024 .bf16) (r : Fin 512) (j : Fin 1024) :
    rows x0 x1 x2 x3 x4 x5 x6 (ix2 r j)
      = Formula.ffnRow (fun i => x0 (ix2 r i)) (fun i => x1 (ix3 0 r i)) (fun i k => x2 (ix2 i k)) (fun i k => x3 (ix2 i k))
          (fun k j => x4 (ix2 k j)) (fun i j => x5 (ix2 i j)) (fun i j => x6 (ix2 i j)) j := by
  have hs : k0_pay4 (View.ld x0 r0_0) (View.ld x5 r0_1) (View.ld x1 r0_2) (View.ld x6 r0_3) (ix2 r j)
      = Ideal.ofBits .f32 0x3FB504F3#32 * x0 (ix2 r j)
        + Formula.logistic (∑ i, x0 (ix2 r i) * x5 (ix2 i j)) * ∑ i, x1 (ix3 0 r i) * x6 (ix2 i j) := by
    pointwise [k0_pay4, k0_pay3, k0_pay2, Formula.logistic]
    rw [zero_sub]
  have ha (i : Fin 1024) : (k0_pay3 (View.ld x0 r0_0) : FVec Ideal S512x1024 .bf16) (ix2 r i) = x0 (ix2 r i) := by
    pointwise [k0_pay3, k0_pay2]
  simp only [rows, step_apply, hidden_apply, hs, ha]
  unfold Formula.ffnRow
  rw [Formula.times, Formula.sum_chunks]
  pointwise [Formula.hidden, Formula.times]
  ac_rfl

/-- Entry `(r, j)` of the block a point writes: the norm of the formula's row. -/
theorem out_apply (x0 : Vec Ideal S512x1024 .f32) (x1 : Vec Ideal S1x512x256 .f32) (x2 x3 : Vec Ideal S1024x2816 .bf16)
    (x4 : Vec Ideal S2816x1024 .bf16) (x5 : Vec Ideal S1024x1024 .bf16) (x6 : Vec Ideal S256x1024 .bf16) (x7 x8 : Vec Ideal S1x1024 .f32)
    (r : Fin 512) (j : Fin 1024) :
    out0_9 x0 x1 x2 x3 x4 x5 x6 x7 x8 (ix2 r j)
      = Formula.norm (Formula.ffnRow (fun i => x0 (ix2 r i)) (fun i => x1 (ix3 0 r i)) (fun i k => x2 (ix2 i k)) (fun i k => x3 (ix2 i k))
          (fun k j => x4 (ix2 k j)) (fun i j => x5 (ix2 i j)) (fun i j => x6 (ix2 i j))) (fun j => x7 (ix2 0 j)) (fun j => x8 (ix2 0 j)) j := by
  rw [out_eq]
  pointwise
  rw [normed_apply]
  simp only [rows_apply]
  rfl

end Cert.FfnBody

end
-- ==== Proof.FfnValue.lean ====
/-
  The feed-forward kernel's result array, entry by entry, as the plain formula of the arrays it was launched with: what
  the host prepares for each window, the windows' blocks, the block a point writes, and the run.
-/
module

public import proofs.«01_k».proof.Proof.FfnBody
public import Idealize.ShloMosaic.Lib.StableHlo.Run

@[expose] public section

set_option maxRecDepth 16384

noncomputable section

namespace Cert.FfnValue

open Cert.Kernel2Ideal Cert.Kernel2Ideal.Gen Idealize.ShloMosaic Idealize.ShloMosaic.TcCoe Idealize.SL.Sem
open Idealize.ShloMosaic.Pipeline (Dat)

variable (m : (ℓ : Loc nD τ sig) → Buf (Elt Ideal) ℓ) (ρ : Dev nD → PrngReg)

/-! ## The argument arrays -/

/-- The activations. -/
abbrev ax (c : Dev nD) : FVec Ideal S8x4096x1024 .f32 := m ((c.tc : Thread nD τ).loc main_arg0)
/-- The per-layer embeddings. -/
abbrev ap (c : Dev nD) : FVec Ideal S2x8x4096x256 .f32 := m ((c.tc : Thread nD τ).loc main_arg1)
/-- The gate and up weights. -/
abbrev ai (c : Dev nD) : FVec Ideal S2x1024x5632 .f32 := m ((c.tc : Thread nD τ).loc main_arg2)
/-- The down weights. -/
abbrev ao (c : Dev nD) : FVec Ideal S2x2816x1024 .f32 := m ((c.tc : Thread nD τ).loc main_arg3)
/-- The embedding gate's weights. -/
abbrev ag (c : Dev nD) : FVec Ideal S2x1024x1024 .f32 := m ((c.tc : Thread nD τ).loc main_arg4)
/-- The embedding projection's weights. -/
abbrev aj (c : Dev nD) : FVec Ideal S2x256x1024 .f32 := m ((c.tc : Thread nD τ).loc main_arg5)
/-- The norm's scales. -/
abbrev as' (c : Dev nD) : FVec Ideal S2x1024 .f32 := m ((c.tc : Thread nD τ).loc main_arg6)
/-- The norm's shifts. -/
abbrev ab (c : Dev nD) : FVec Ideal S2x1024 .f32 := m ((c.tc : Thread nD τ).loc main_arg7)

/-- The result at batch `b`, position `s`, column `j`: the norm of the feed-forward row. -/
def entry (X : FVec Ideal S8x4096x1024 .f32) (P : FVec Ideal S2x8x4096x256 .f32) (I : FVec Ideal S2x1024x5632 .f32)
    (O : FVec Ideal S2x2816x1024 .f32) (G : FVec Ideal S2x1024x1024 .f32) (J : FVec Ideal S2x256x1024 .f32)
    (A B : FVec Ideal S2x1024 .f32) (b : Fin 8) (s : Fin 4096) (j : Fin 1024) : EReal :=
  Formula.norm (Formula.ffnRow (fun i => X (ix3 b s i)) (fun i => P (ix4 1 b s i))
      (fun i k => I (ix3 1 i ⟨k, by omega⟩)) (fun i k => I (ix3 1 i ⟨2816 + k, by omega⟩))
      (fun k j => O (ix3 1 k j)) (fun i j => G (ix3 1 i j)) (fun i j => J (ix3 1 i j)))
    (fun j => A (ix2 1 j)) (fun j => B (ix2 1 j)) j

/-! ## What the host leaves in the windows' arrays -/

variable (c : Dev nD)

theorem v0_apply (q : Fin 32768) (i : Fin 1024) : (V m c main_v0 : FVec Ideal S32768x1024 .f32) (ix2 q i)
    = ax m c (ix3 ⟨q / 4096, by omega⟩ ⟨q % 4096, by omega⟩ i) := by
  have h : (V m c main_v0 : FVec Ideal S32768x1024 .f32) = shapeCast S32768x1024 (ax m c) shapeCasts_S8x4096x1024_S32768x1024 := by
    unfold V; after_results; rfl
  rw [h]; pointwise

theorem v1_apply (l : Fin 2) (q : Fin 32768) (i : Fin 256) : (V m c main_v1 : FVec Ideal S2x32768x256 .f32) (ix3 l q i)
    = ap m c (ix4 l ⟨q / 4096, by omega⟩ ⟨q % 4096, by omega⟩ i) := by
  have h : (V m c main_v1 : FVec Ideal S2x32768x256 .f32) = shapeCast S2x32768x256 (ap m c) shapeCasts_S2x8x4096x256_S2x32768x256 := by
    unfold V; after_results; rfl
  rw [h]; pointwise

theorem v4_apply (i : Fin 1024) (k : Fin 2816) : (V m c main_v4 : FVec Ideal S1024x2816 .bf16) (ix2 i k)
    = ai m c (ix3 1 i ⟨k, by omega⟩) := by
  have h : (V m c main_v4 : FVec Ideal S1024x2816 .bf16) = truncf .bf16 (shapeCast S1024x2816 (extractStridedSlice S1x1024x2816 ![1, 0, 0] (ai m c) slices_S2x1024x5632_S1x1024x2816_1_0_0) shapeCasts_S1x1024x2816_S1024x2816) bitsLt_bf16_f32 := by
    unfold V; after_results; rfl
  rw [h]; pointwise

theorem v7_apply (i : Fin 1024) (k : Fin 2816) : (V m c main_v7 : FVec Ideal S1024x2816 .bf16) (ix2 i k)
    = ai m c (ix3 1 i ⟨2816 + k, by omega⟩) := by
  have h : (V m c main_v7 : FVec Ideal S1024x2816 .bf16) = truncf .bf16 (shapeCast S1024x2816 (extractStridedSlice S1x1024x2816 ![1, 0, 2816] (ai m c) slices_S2x1024x5632_S1x1024x2816_1_0_2816) shapeCasts_S1x1024x2816_S1024x2816) bitsLt_bf16_f32 := by
    unfold V; after_results; rfl
  rw [h]; pointwise

theorem v10_apply (k : Fin 2816) (j : Fin 1024) : (V m c main_v10 : FVec Ideal S2816x1024 .bf16) (ix2 k j)
    = ao m c (ix3 1 k j) := by
  have h : (V m c main_v10 : FVec Ideal S2816x1024 .bf16) = truncf .bf16 (shapeCast S2816x1024 (extractStridedSlice S1x2816x1024 ![1, 0, 0] (ao m c) slices_S2x2816x1024_S1x2816x1024_1_0_0) shapeCasts_S1x2816x1024_S2816x1024) bitsLt_bf16_f32 := by
    unfold V; after_results; rfl
  rw [h]; pointwise

theorem v13_apply (i j : Fin 1024) : (V m c main_v13 : FVec Ideal S1024x1024 .bf16) (ix2 i j) = ag m c (ix3 1 i j) := by
  have h : (V m c main_v13 : FVec Ideal S1024x1024 .bf16) = truncf .bf16 (shapeCast S1024x1024 (extractStridedSlice S1x1024x1024 ![1, 0, 0] (ag m c) slices_S2x1024x1024_S1x1024x1024_1_0_0) shapeCasts_S1x1024x1024_S1024x1024) bitsLt_bf16_f32 := by
    unfold V; after_results; rfl
  rw [h]; pointwise

theorem v16_apply (i : Fin 256) (j : Fin 1024) : (V m c main_v16 : FVec Ideal S256x1024 .bf16) (ix2 i j) = aj m c (ix3 1 i j) := by
  have h : (V m c main_v16 : FVec Ideal S256x1024 .bf16) = truncf .bf16 (shapeCast S256x1024 (extractStridedSlice S1x256x1024 ![1, 0, 0] (aj m c) slices_S2x256x1024_S1x256x1024_1_0_0) shapeCasts_S1x256x1024_S256x1024) bitsLt_bf16_f32 := by
    unfold V; after_results; rfl
  rw [h]; pointwise

theorem v19_apply (j : Fin 1024) : (V m c main_v19 : FVec Ideal S1x1024 .f32) (ix2 0 j) = as' m c (ix2 1 j) := by
  have h : (V m c main_v19 : FVec Ideal S1x1024 .f32) = shapeCast S1x1024 (shapeCast S1024 (extractStridedSlice S1x1024 ![1, 0] (as' m c) slices_S2x1024_S1x1024_1_0) shapeCasts_S1x1024_S1024) shapeCasts_S1024_S1x1024 := by
    unfold V; after_results; rfl
  rw [h]; pointwise

theorem v22_apply (j : Fin 1024) : (V m c main_v22 : FVec Ideal S1x1024 .f32) (ix2 0 j) = ab m c (ix2 1 j) := by
  have h : (V m c main_v22 : FVec Ideal S1x1024 .f32) = shapeCast S1x1024 (shapeCast S1024 (extractStridedSlice S1x1024 ![1, 0] (ab m c) slices_S2x1024_S1x1024_1_0) shapeCasts_S1x1024_S1024) shapeCasts_S1024_S1x1024 := by
    unfold V; after_results; rfl
  rw [h]; pointwise

/-! ## The windows' blocks -/

theorem index_facts : ∀ t : Fin cfg0.N, win0_0.index t 0 = t.val ∧ win0_0.index t 1 = 0
    ∧ win0_1.index t 0 = 1 ∧ win0_1.index t 1 = t.val ∧ win0_1.index t 2 = 0
    ∧ win0_2.index t 0 = 0 ∧ win0_2.index t 1 = 0 ∧ win0_3.index t 0 = 0 ∧ win0_3.index t 1 = 0
    ∧ win0_4.index t 0 = 0 ∧ win0_4.index t 1 = 0 ∧ win0_5.index t 0 = 0 ∧ win0_5.index t 1 = 0
    ∧ win0_6.index t 0 = 0 ∧ win0_6.index t 1 = 0 ∧ win0_7.index t 0 = 0 ∧ win0_7.index t 1 = 0
    ∧ win0_8.index t 0 = 0 ∧ win0_8.index t 1 = 0 ∧ win0_9.index t 0 = t.val ∧ win0_9.index t 1 = 0 :=
  (by decide +kernel : ∀ t : Fin grid0.N, win0_0.index t 0 = t.val ∧ win0_0.index t 1 = 0
    ∧ win0_1.index t 0 = 1 ∧ win0_1.index t 1 = t.val ∧ win0_1.index t 2 = 0
    ∧ win0_2.index t 0 = 0 ∧ win0_2.index t 1 = 0 ∧ win0_3.index t 0 = 0 ∧ win0_3.index t 1 = 0
    ∧ win0_4.index t 0 = 0 ∧ win0_4.index t 1 = 0 ∧ win0_5.index t 0 = 0 ∧ win0_5.index t 1 = 0
    ∧ win0_6.index t 0 = 0 ∧ win0_6.index t 1 = 0 ∧ win0_7.index t 0 = 0 ∧ win0_7.index t 1 = 0
    ∧ win0_8.index t 0 = 0 ∧ win0_8.index t 1 = 0 ∧ win0_9.index t 0 = t.val ∧ win0_9.index t 1 = 0)

theorem lt64 (t : Fin cfg0.N) : t.val < 64 := Nat.lt_of_lt_of_eq t.isLt N_0

variable (t : Fin cfg0.N)

/-- Row `r` of block `t` of the activations. -/
theorem b0 (r : Fin 512) (i : Fin 1024) : (iblk m c 0 t : Vec Ideal S512x1024 .f32) (ix2 r i)
    = (V m c main_v0 : FVec Ideal S32768x1024 .f32) (ix2 ⟨t.val * 512 + r, by have := lt64 t; omega⟩ i) := by
  have h := index_facts t
  unfold iblk
  rw [View.read_apply]
  refine congrArg (V m c main_v0 : FVec Ideal S32768x1024 .f32) (funext fun a => Fin.ext ?_)
  match a with
  | ⟨0, _⟩ => show win0_0.index t 0 * 512 + 1 * r.val = t.val * 512 + r.val; rw [h.1]; omega
  | ⟨1, _⟩ => show win0_0.index t 1 * 1024 + 1 * i.val = i.val; rw [h.2.1]; omega

theorem b1 (r : Fin 512) (i : Fin 256) : (iblk m c 1 t : Vec Ideal S1x512x256 .f32) (ix3 0 r i)
    = (V m c main_v1 : FVec Ideal S2x32768x256 .f32) (ix3 1 ⟨t.val * 512 + r, by have := lt64 t; omega⟩ i) := by
  have h := index_facts t
  unfold iblk
  rw [View.read_apply]
  refine congrArg (V m c main_v1 : FVec Ideal S2x32768x256 .f32) (funext fun a => Fin.ext ?_)
  match a with
  | ⟨0, _⟩ => show win0_1.index t 0 * 1 + 1 * 0 = 1; rw [h.2.2.1]
  | ⟨1, _⟩ => show win0_1.index t 1 * 512 + 1 * r.val = t.val * 512 + r.val; rw [h.2.2.2.1]; omega
  | ⟨2, _⟩ => show win0_1.index t 2 * 256 + 1 * i.val = i.val; rw [h.2.2.2.2.1]; omega

theorem b2 (i : Fin 1024) (j : Fin 2816) : (iblk m c 2 t : Vec Ideal S1024x2816 .bf16) (ix2 i j)
    = (V m c main_v4 : FVec Ideal S1024x2816 .bf16) (ix2 i j) := by
  have h := index_facts t
  unfold iblk
  rw [View.read_apply]
  refine congrArg (V m c main_v4 : FVec Ideal S1024x2816 .bf16) (funext fun a => Fin.ext ?_)
  match a with
  | ⟨0, _⟩ => show win0_2.index t 0 * 1024 + 1 * i.val = i.val; rw [h.2.2.2.2.2.1]; omega
  | ⟨1, _⟩ => show win0_2.index t 1 * 2816 + 1 * j.val = j.val; rw [h.2.2.2.2.2.2.1]; omega

theorem b3 (i : Fin 1024) (j : Fin 2816) : (iblk m c 3 t : Vec Ideal S1024x2816 .bf16) (ix2 i j)
    = (V m c main_v7 : FVec Ideal S1024x2816 .bf16) (ix2 i j) := by
  have h := index_facts t
  unfold iblk
  rw [View.read_apply]
  refine congrArg (V m c main_v7 : FVec Ideal S1024x2816 .bf16) (funext fun a => Fin.ext ?_)
  match a with
  | ⟨0, _⟩ => show win0_3.index t 0 * 1024 + 1 * i.val = i.val; rw [h.2.2.2.2.2.2.2.1]; omega
  | ⟨1, _⟩ => show win0_3.index t 1 * 2816 + 1 * j.val = j.val; rw [h.2.2.2.2.2.2.2.2.1]; omega

theorem b4 (i : Fin 2816) (j : Fin 1024) : (iblk m c 4 t : Vec Ideal S2816x1024 .bf16) (ix2 i j)
    = (V m c main_v10 : FVec Ideal S2816x1024 .bf16) (ix2 i j) := by
  have h := index_facts t
  unfold iblk
  rw [View.read_apply]
  refine congrArg (V m c main_v10 : FVec Ideal S2816x1024 .bf16) (funext fun a => Fin.ext ?_)
  match a with
  | ⟨0, _⟩ => show win0_4.index t 0 * 2816 + 1 * i.val = i.val; rw [h.2.2.2.2.2.2.2.2.2.1]; omega
  | ⟨1, _⟩ => show win0_4.index t 1 * 1024 + 1 * j.val = j.val; rw [h.2.2.2.2.2.2.2.2.2.2.1]; omega

theorem b5 (i : Fin 1024) (j : Fin 1024) : (iblk m c 5 t : Vec Ideal S1024x1024 .bf16) (ix2 i j)
    = (V m c main_v13 : FVec Ideal S1024x1024 .bf16) (ix2 i j) := by
  have h := index_facts t
  unfold iblk
  rw [View.read_apply]
  refine congrArg (V m c main_v13 : FVec Ideal S1024x1024 .bf16) (funext fun a => Fin.ext ?_)
  match a with
  | ⟨0, _⟩ => show win0_5.index t 0 * 1024 + 1 * i.val = i.val; rw [h.2.2.2.2.2.2.2.2.2.2.2.1]; omega
  | ⟨1, _⟩ => show win0_5.index t 1 * 1024 + 1 * j.val = j.val; rw [h.2.2.2.2.2.2.2.2.2.2.2.2.1]; omega

theorem b6 (i : Fin 256) (j : Fin 1024) : (iblk m c 6 t : Vec Ideal S256x1024 .bf16) (ix2 i j)
    = (V m c main_v16 : FVec Ideal S256x1024 .bf16) (ix2 i j) := by
  have h := index_facts t
  unfold iblk
  rw [View.read_apply]
  refine congrArg (V m c main_v16 : FVec Ideal S256x1024 .bf16) (funext fun a => Fin.ext ?_)
  match a with
  | ⟨0, _⟩ => show win0_6.index t 0 * 256 + 1 * i.val = i.val; rw [h.2.2.2.2.2.2.2.2.2.2.2.2.2.1]; omega
  | ⟨1, _⟩ => show win0_6.index t 1 * 1024 + 1 * j.val = j.val; rw [h.2.2.2.2.2.2.2.2.2.2.2.2.2.2.1]; omega

theorem b7 (i : Fin 1) (j : Fin 1024) : (iblk m c 7 t : Vec Ideal S1x1024 .f32) (ix2 i j)
    = (V m c main_v19 : FVec Ideal S1x1024 .f32) (ix2 i j) := by
  have h := index_facts t
  unfold iblk
  rw [View.read_apply]
  refine congrArg (V m c main_v19 : FVec Ideal S1x1024 .f32) (funext fun a => Fin.ext ?_)
  match a with
  | ⟨0, _⟩ => show win0_7.index t 0 * 1 + 1 * i.val = i.val; rw [h.2.2.2.2.2.2.2.2.2.2.2.2.2.2.2.1]; omega
  | ⟨1, _⟩ => show win0_7.index t 1 * 1024 + 1 * j.val = j.val; rw [h.2.2.2.2.2.2.2.2.2.2.2.2.2.2.2.2.1]; omega

theorem b8 (i : Fin 1) (j : Fin 1024) : (iblk m c 8 t : Vec Ideal S1x1024 .f32) (ix2 i j)
    = (V m c main_v22 : FVec Ideal S1x1024 .f32) (ix2 i j) := by
  have h := index_facts t
  unfold iblk
  rw [View.read_apply]
  refine congrArg (V m c main_v22 : FVec Ideal S1x1024 .f32) (funext fun a => Fin.ext ?_)
  match a with
  | ⟨0, _⟩ => show win0_8.index t 0 * 1 + 1 * i.val = i.val; rw [h.2.2.2.2.2.2.2.2.2.2.2.2.2.2.2.2.2.1]; omega
  | ⟨1, _⟩ => show win0_8.index t 1 * 1024 + 1 * j.val = j.val; rw [h.2.2.2.2.2.2.2.2.2.2.2.2.2.2.2.2.2.2.1]; omega

/-! ## The result array -/

/-- The result array: row `q` is position `q mod 4096` of batch `q / 4096`. -/
def result : Buf (Elt Ideal) ((c.tc : Thread nD τ).loc main_v23) := fun (i : S32768x1024.Idx) =>
  entry (ax m c) (ap m c) (ai m c) (ao m c) (ag m c) (aj m c) (as' m c) (ab m c)
    ⟨(i 0).val / 4096, by have : (i 0).val < 32768 := (i 0).isLt; omega⟩ ⟨(i 0).val % 4096, by omega⟩ (i 1)

theorem result_apply (q : Fin 32768) (j : Fin 1024) : (result m c : FVec Ideal S32768x1024 .f32) (ix2 q j)
    = entry (ax m c) (ap m c) (ai m c) (ao m c) (ag m c) (aj m c) (as' m c) (ab m c) ⟨q / 4096, by omega⟩ ⟨q % 4096, by omega⟩ j := rfl

/-- Entry `(r, j)` of the block a point writes. -/
theorem block_apply (r : Fin 512) (j : Fin 1024) :
    out0_9 (iblk m c 0 t) (iblk m c 1 t) (iblk m c 2 t) (iblk m c 3 t) (iblk m c 4 t) (iblk m c 5 t) (iblk m c 6 t) (iblk m c 7 t) (iblk m c 8 t) (ix2 r j)
      = (result m c : FVec Ideal S32768x1024 .f32) (ix2 (⟨t.val * 512 + r.val, by have := lt64 t; omega⟩ : Fin 32768) j) := by
  have e0 (i : Fin 1024) := (b0 m c t r i).trans (v0_apply m c _ i)
  have e1 (i : Fin 256) := (b1 m c t r i).trans (v1_apply m c 1 _ i)
  have e2 (i : Fin 1024) (k : Fin 2816) := (b2 m c t i k).trans (v4_apply m c i k)
  have e3 (i : Fin 1024) (k : Fin 2816) := (b3 m c t i k).trans (v7_apply m c i k)
  have e4 (i : Fin 2816) (k : Fin 1024) := (b4 m c t i k).trans (v10_apply m c i k)
  have e5 (i k : Fin 1024) := (b5 m c t i k).trans (v13_apply m c i k)
  have e6 (i : Fin 256) (k : Fin 1024) := (b6 m c t i k).trans (v16_apply m c i k)
  have e7 (k : Fin 1024) := (b7 m c t 0 k).trans (v19_apply m c k)
  have e8 (k : Fin 1024) := (b8 m c t 0 k).trans (v22_apply m c k)
  refine (FfnBody.out_apply ..).trans ?_
  rw [result_apply]
  unfold entry
  simp only [e0, e1, e2, e3, e4, e5, e6, e7, e8]

/-- Where entry `(r, j)` of output block `t` lies. -/
theorem out_emb (r : Fin 512) (j : Fin 1024) : ((cfg0.win 9).blk t).view.emb (ix2 r j)
    = (ix2 (⟨t.val * 512 + r.val, by have := lt64 t; omega⟩ : Fin 32768) j : S32768x1024.Idx) := by
  have h := index_facts t
  refine funext fun a => Fin.ext ?_
  match a with
  | ⟨0, _⟩ => show win0_9.index t 0 * 512 + 1 * r.val = t.val * 512 + r.val; rw [h.2.2.2.2.2.2.2.2.2.2.2.2.2.2.2.2.2.2.2.1]; omega
  | ⟨1, _⟩ => show win0_9.index t 1 * 1024 + 1 * j.val = j.val; rw [h.2.2.2.2.2.2.2.2.2.2.2.2.2.2.2.2.2.2.2.2]; omega

/-- What point `t` writes back is block `t` of the result. -/
theorem flushed_eq : (dats m 0 c).flushed 9 t = ((cfg0.win 9).blk t).view.read (Elt Ideal) (result m c) := by
  rw [Value.flushed9]
  funext (y : S512x1024.Idx)
  obtain ⟨r, j, rfl⟩ : ∃ (r : Fin 512) (j : Fin 1024), y = ix2 r j := ⟨y 0, y 1, eq_ix2 y⟩
  refine (block_apply m c t r j).trans ?_
  rw [View.read_apply]
  exact congrArg (result m c : FVec Ideal S32768x1024 .f32) (out_emb t r j).symm

/-- The blocks cover the result array. -/
theorem cover (i : S32768x1024.Idx) : ∃ t : Fin cfg0.N, (cfg0.win 9).flush t = true ∧ i ∈ ((cfg0.win 9).blk t).view.set := by
  have h0 : (i 0).val < 32768 := (i 0).isLt
  have h1 : (i 1).val < 1024 := (i 1).isLt
  have hN : cfg0.N = 64 := N_0
  let t : Fin cfg0.N := ⟨(i 0).val / 512, by omega⟩
  have h := index_facts t
  refine ⟨t, flush0_9 _, ?_⟩
  show i ∈ ((View.whole main_v23).slice (win0_9.rect t)).set
  rw [View.set_slice_whole, Rect.mem_set_unit]
  intro a
  match a with
  | ⟨0, _⟩ => show win0_9.index t 0 * 512 ≤ (i 0).val ∧ (i 0).val < win0_9.index t 0 * 512 + 512
              rw [h.2.2.2.2.2.2.2.2.2.2.2.2.2.2.2.2.2.2.2.1]; show (i 0).val / 512 * 512 ≤ (i 0).val ∧ (i 0).val < (i 0).val / 512 * 512 + 512; omega
  | ⟨1, _⟩ => show win0_9.index t 1 * 1024 ≤ (i 1).val ∧ (i 1).val < win0_9.index t 1 * 1024 + 1024
              rw [h.2.2.2.2.2.2.2.2.2.2.2.2.2.2.2.2.2.2.2.2]; omega

theorem final : (dats m 0 c).arrAt 9 cfg0.N = result m c :=
  (dats m 0 c).arrAt_eq_of_cover 9 (result m c) (fun t _ => flushed_eq m c t) cover

/-- The run: the result array at the formula, the arguments as launched. -/
theorem run : θ_run defs (onTc (τ := τ) (main (F := Ideal))) ⟨m, fun _ => 0, ρ⟩ fun r => ∀ c : Dev nD,
      r.2.mem ((c : Thread nD τ).loc main_v23) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7) :=
  (θ_run defs _ _).mono (fun r h c => ⟨(h c).1.trans (final m c), (h c).2⟩) (Value.run_blocks (F := Ideal) m ρ)

end Cert.FfnValue

end
-- ==== Proof.FfnReference.lean ====
/-
  The feed-forward reference's result, entry by entry, as the plain formula of its arguments.
-/
module

public import proofs.«01_k».proof.Proof.Formula
public import proofs.«01_k».proof.Proof.Gen.Reference2Ideal.Run

@[expose] public section

set_option maxRecDepth 16384

noncomputable section

namespace Cert.FfnReference

open Cert.Reference2Ideal Cert.Reference2Ideal.Gen Idealize.ShloMosaic Idealize.ShloMosaic.TcCoe Idealize.SL.Sem

/-- The gate and up products. -/
def both (X : FVec Ideal S8x4096x1024 .f32) (I : FVec Ideal S2x1024x5632 .f32) : FVec Ideal S8x4096x5632 .f32 :=
  Host.dotGeneral dot_S8x4096x1024_S1024x5632_S8x4096x5632_2_0_01_1_n_n none X
    (shapeCast S1024x5632 (extractStridedSlice S1x1024x5632 ![1, 0, 0] I slices_S2x1024x5632_S1x1024x5632_1_0_0) shapeCasts_S1x1024x5632_S1024x5632)

/-- The hidden columns. -/
def hid (X : FVec Ideal S8x4096x1024 .f32) (I : FVec Ideal S2x1024x5632 .f32) : FVec Ideal S8x4096x2816 .f32 :=
  have g : FVec Ideal S8x4096x2816 .f32 := extractStridedSlice S8x4096x2816 ![0, 0, 0] (both X I) slices_S8x4096x5632_S8x4096x2816_0_0_0
  have u : FVec Ideal S8x4096x2816 .f32 := extractStridedSlice S8x4096x2816 ![0, 0, 2816] (both X I) slices_S8x4096x5632_S8x4096x2816_0_0_2816
  have one : FVec Ideal S8x4096x2816 .f32 := broadcastInDim S8x4096x2816 ![] bcast_S_S8x4096x2816 (constant S_ .f32 0x3F800000#32)
  mulf (mulf g (Host.divf one (addf one (Host.exp (Host.negf g))))) u

/-- The rows before the norm. -/
def rows (X : FVec Ideal S8x4096x1024 .f32) (P : FVec Ideal S2x8x4096x256 .f32) (I : FVec Ideal S2x1024x5632 .f32)
    (O : FVec Ideal S2x2816x1024 .f32) (G : FVec Ideal S2x1024x1024 .f32) (J : FVec Ideal S2x256x1024 .f32) : FVec Ideal S8x4096x1024 .f32 :=
  have one : FVec Ideal S8x4096x1024 .f32 := broadcastInDim S8x4096x1024 ![] bcast_S_S8x4096x1024 (constant S_ .f32 0x3F800000#32)
  have g : FVec Ideal S8x4096x1024 .f32 := Host.dotGeneral dot_S8x4096x1024_S1024x1024_S8x4096x1024_2_0_01_1_n_n none X
    (shapeCast S1024x1024 (extractStridedSlice S1x1024x1024 ![1, 0, 0] G slices_S2x1024x1024_S1x1024x1024_1_0_0) shapeCasts_S1x1024x1024_S1024x1024)
  addf (addf (mulf (broadcastInDim S8x4096x1024 ![] bcast_S_S8x4096x1024 (constant S_ .f32 0x3FB504F3#32)) X)
      (Host.dotGeneral dot_S8x4096x2816_S2816x1024_S8x4096x1024_2_0_01_1_n_n none (hid X I)
        (shapeCast S2816x1024 (extractStridedSlice S1x2816x1024 ![1, 0, 0] O slices_S2x2816x1024_S1x2816x1024_1_0_0) shapeCasts_S1x2816x1024_S2816x1024)))
    (mulf (Host.divf one (addf one (Host.exp (Host.negf g))))
      (Host.dotGeneral dot_S8x4096x256_S256x1024_S8x4096x1024_2_0_01_1_n_n none
        (shapeCast S8x4096x256 (extractStridedSlice S1x8x4096x256 ![1, 0, 0, 0] P slices_S2x8x4096x256_S1x8x4096x256_1_0_0_0) shapeCasts_S1x8x4096x256_S8x4096x256)
        (shapeCast S256x1024 (extractStridedSlice S1x256x1024 ![1, 0, 0] J slices_S2x256x1024_S1x256x1024_1_0_0) shapeCasts_S1x256x1024_S256x1024)))

/-- The norm of every row, scaled and shifted. -/
def normed (d : FVec Ideal S8x4096x1024 .f32) (A B : FVec Ideal S2x1024 .f32) : FVec Ideal S8x4096x1024 .f32 :=
  have n : FVec Ideal S8x4096x1 .f32 := broadcastInDim S8x4096x1 ![] bcast_S_S8x4096x1 (constant S_ .f32 0x44800000#32)
  have mu : FVec Ideal S8x4096x1 .f32 := Host.divf (broadcastInDim S8x4096x1 ![0, 1] bcast_S8x4096_S8x4096x1_0_1
    (Host.reduceAdd d (constant S_ .f32 0x00000000#32) reducesTo_S8x4096x1024_S8x4096_d2 h_S_)) n
  have e : FVec Ideal S8x4096x1024 .f32 := subf d (broadcastInDim S8x4096x1024 ![0, 1, 2] bcast_S8x4096x1_S8x4096x1024_0_1_2 mu)
  have va : FVec Ideal S8x4096x1 .f32 := Host.divf (broadcastInDim S8x4096x1 ![0, 1] bcast_S8x4096_S8x4096x1_0_1
    (Host.reduceAdd (mulf e e) (constant S_ .f32 0x00000000#32) reducesTo_S8x4096x1024_S8x4096_d2 h_S_)) n
  have ep : FVec Ideal S8x4096x1 .f32 := broadcastInDim S8x4096x1 ![] bcast_S_S8x4096x1 (constant S_ .f32 0x3727C5AC#32)
  have row (W : FVec Ideal S2x1024 .f32) : FVec Ideal S8x4096x1024 .f32 :=
    broadcastInDim S8x4096x1024 ![0, 1, 2] bcast_S1x1x1024_S8x4096x1024_0_1_2 (broadcastInDim S1x1x1024 ![2] bcast_S1024_S1x1x1024_2
      (shapeCast S1024 (extractStridedSlice S1x1024 ![1, 0] W slices_S2x1024_S1x1024_1_0) shapeCasts_S1x1024_S1024))
  addf (mulf (mulf e (broadcastInDim S8x4096x1024 ![0, 1, 2] bcast_S8x4096x1_S8x4096x1024_0_1_2 (Host.rsqrt (addf va ep)))) (row A)) (row B)

variable (m : (ℓ : Loc nD τ sig) → Buf (Elt Ideal) ℓ) (c : Dev nD)

/-- The run's composed term is the norm of the rows, reshaped. -/
theorem res_eq : (Value.res_out0 m c : FVec Ideal S32768x1024 .f32)
    = shapeCast S32768x1024 (normed (rows (m ((c.tc : Thread nD τ).loc main_arg0)) (m ((c.tc : Thread nD τ).loc main_arg1))
        (m ((c.tc : Thread nD τ).loc main_arg2)) (m ((c.tc : Thread nD τ).loc main_arg3)) (m ((c.tc : Thread nD τ).loc main_arg4))
        (m ((c.tc : Thread nD τ).loc main_arg5))) (m ((c.tc : Thread nD τ).loc main_arg6)) (m ((c.tc : Thread nD τ).loc main_arg7)))
      shapeCasts_S8x4096x1024_S32768x1024 := rfl

theorem hid_apply (X : FVec Ideal S8x4096x1024 .f32) (I : FVec Ideal S2x1024x5632 .f32) (b : Fin 8) (s : Fin 4096) (k : Fin 2816) :
    hid X I (ix3 b s k) = Formula.hidden (fun i => X (ix3 b s i)) (fun i k => I (ix3 1 i ⟨k, by omega⟩))
      (fun i k => I (ix3 1 i ⟨2816 + k, by omega⟩)) k := by
  pointwise [hid, both, Formula.hidden, Formula.times, Formula.logistic]

theorem rows_apply (X : FVec Ideal S8x4096x1024 .f32) (P : FVec Ideal S2x8x4096x256 .f32) (I : FVec Ideal S2x1024x5632 .f32)
    (O : FVec Ideal S2x2816x1024 .f32) (G : FVec Ideal S2x1024x1024 .f32) (J : FVec Ideal S2x256x1024 .f32) (b : Fin 8) (s : Fin 4096) (j : Fin 1024) :
    rows X P I O G J (ix3 b s j)
      = Formula.ffnRow (fun i => X (ix3 b s i)) (fun i => P (ix4 1 b s i))
      (fun i k => I (ix3 1 i ⟨k, by omega⟩)) (fun i k => I (ix3 1 i ⟨2816 + k, by omega⟩))
      (fun k j => O (ix3 1 k j)) (fun i j => G (ix3 1 i j)) (fun i j => J (ix3 1 i j)) j := by
  pointwise [rows]
  simp only [hid_apply]
  unfold Formula.ffnRow Formula.times Formula.logistic
  rfl

theorem normed_apply (d : FVec Ideal S8x4096x1024 .f32) (A B : FVec Ideal S2x1024 .f32) (b : Fin 8) (s : Fin 4096) (j : Fin 1024) :
    normed d A B (ix3 b s j) = Formula.norm (fun x => d (ix3 b s x)) (fun j => A (ix2 1 j)) (fun j => B (ix2 1 j)) j := by
  pointwise [normed, Formula.norm, Formula.mean]

/-- The result's row `q` is position `q % 4096` of batch `q / 4096`. -/
theorem res_apply (q : Fin 32768) (j : Fin 1024) : (Value.res_out0 m c : FVec Ideal S32768x1024 .f32) (ix2 q j)
    = normed (rows (m ((c.tc : Thread nD τ).loc main_arg0)) (m ((c.tc : Thread nD τ).loc main_arg1))
        (m ((c.tc : Thread nD τ).loc main_arg2)) (m ((c.tc : Thread nD τ).loc main_arg3)) (m ((c.tc : Thread nD τ).loc main_arg4))
        (m ((c.tc : Thread nD τ).loc main_arg5))) (m ((c.tc : Thread nD τ).loc main_arg6)) (m ((c.tc : Thread nD τ).loc main_arg7))
      (ix3 ⟨q / 4096, by omega⟩ ⟨q % 4096, by omega⟩ j) := by
  rw [res_eq]
  generalize normed _ _ _ = N
  pointwise

end Cert.FfnReference

end
-- ==== Proof.FfnClaim.lean ====
/-
  The feed-forward call's claims: the frames, and that the kernel and the reference end with equal results over the
  extended reals.
-/
module

public import proofs.«01_k».proof.Defs
public import proofs.«01_k».proof.Proof.FfnValue
public import proofs.«01_k».proof.Proof.FfnReference
public import proofs.«01_k».proof.Proof.Gen.Kernel2.Frame
public import Idealize.ShloMosaic.Lib.Quiescent

@[expose] public section

set_option maxRecDepth 16384

noncomputable section

namespace Cert.FfnClaim

open Idealize.ShloMosaic Idealize.ShloMosaic.TcCoe Idealize.SL.Sem

theorem frame_kernel : Cert.quiescent_Kernel2 := fun m ρ _ => Cert.Kernel2.Gen.frame m ρ

theorem frame_kernelIdeal : Cert.quiescent_Kernel2Ideal := fun m ρ _ => Cert.Kernel2Ideal.Gen.frame m ρ

theorem frame_reference : Cert.quiescent_Reference2Ideal := fun m ρ _ =>
  (θ_run Cert.Reference2Ideal.defs _ _).mono (fun r h => ⟨fun c => (h c).2, sem_eq_zero_of_no_sems (by decide) r.2⟩)
    (Cert.Reference2Ideal.Value.run (F := Ideal) m ρ)

theorem algebraic : Cert.algebraic_Kernel2Ideal_Reference2Ideal := by
  intro m ρ m' ρ' _ hagree
  refine ⟨fun c => FfnValue.result m c, FfnValue.run m ρ, ?_⟩
  refine (θ_run Cert.Reference2Ideal.defs _ _).mono (fun _ h c => ⟨(h c).1.trans ?_, (h c).2⟩)
    (Cert.Reference2Ideal.Value.run (F := Ideal) m' ρ')
  obtain ⟨h0, h1, h2, h3, h4, h5, h6, h7⟩ := hagree c
  funext (i : Cert.Reference2Ideal.S32768x1024.Idx)
  obtain ⟨q, j, rfl⟩ : ∃ (q : Fin 32768) (j : Fin 1024), i = ix2 q j := ⟨i 0, i 1, eq_ix2 i⟩
  refine (FfnReference.res_apply m' c q j).trans ?_
  rw [FfnReference.normed_apply]
  simp only [FfnReference.rows_apply]
  rw [h0, h1, h2, h3, h4, h5, h6, h7]
  rfl

end Cert.FfnClaim

end
-- ==== Proof.MergeBody.lean ====
/-
  The merge kernel's body: the block it writes at a point, entry by entry, as the plain formula of the blocks it reads.
-/
module

public import proofs.«01_k».proof.Proof.Formula
public import proofs.«01_k».proof.Proof.Gen.Kernel3Ideal.Value

@[expose] public section

set_option maxRecDepth 16384

noncomputable section

namespace Cert.MergeBody

open Cert.Kernel3Ideal Cert.Kernel3Ideal.Gen Idealize.ShloMosaic Idealize.ShloMosaic.TcCoe Idealize.SL.Sem

theorem hz : (![0, 0] : Fin 2 → Nat) = fun _ => 0 := funext fun a => by fin_cases a <;> rfl

/-- The rows before the norm. -/
def rows (x0 : Vec Ideal S512x1024 .f32) (x1 x2 x3 : Vec Ideal S512x512 .bf16) (x4 : Vec Ideal S1024x3072 .bf16)
    (x5 : Vec Ideal S3x1024 .f32) (x6 : Vec Ideal S3x512x1024 .bf16) (x7 : Vec Ideal S1024x1024 .bf16) : FVec Ideal S512x1024 .f32 :=
  k0_pay7 (k0_pay2 (View.ld x0 r0_0)) (k0_pay3 (View.ld x0 r0_0))
    (k0_pay4 (View.ld x0 r0_0) (View.ld x4 r0_1) (View.ld x5 r0_2) (View.ld x1 r0_3) (View.ld x6 r0_4))
    (k0_pay5 (View.ld x0 r0_0) (View.ld x4 r0_5) (View.ld x5 r0_6)) (View.ld x2 r0_3) (k0_pay6 (View.ld x6 r0_7))
    (constant S512x1024 .f32 0x00000000#32) (View.ld x4 r0_8) (View.ld x5 r0_9) (View.ld x3 r0_3) (View.ld x6 r0_10) (View.ld x7 r0_11)

theorem out_eq (x0 : Vec Ideal S512x1024 .f32) (x1 x2 x3 : Vec Ideal S512x512 .bf16) (x4 : Vec Ideal S1024x3072 .bf16)
    (x5 : Vec Ideal S3x1024 .f32) (x6 : Vec Ideal S3x512x1024 .bf16) (x7 : Vec Ideal S1024x1024 .bf16) (x8 x9 : Vec Ideal S1x1024 .f32) :
    out0_10 x0 x1 x2 x3 x4 x5 x6 x7 x8 x9
      = k0_pay1 (rows x0 x1 x2 x3 x4 x5 x6 x7) (View.ld x8 r0_12) (View.ld x9 r0_12) := by
  unfold out0_10
  rw [View.canon_unit_zero hz]
  rfl

theorem norm_apply (d : FVec Ideal S512x1024 .f32) (g b : Vec Ideal S1x1024 .f32) (r : Fin 512) (j : Fin 1024) :
    k0_pay1 d g b (ix2 r j) = Formula.norm (fun x => d (ix2 r x)) (fun j => g (ix2 0 j)) (fun j => b (ix2 0 j)) j := by
  pointwise [k0_pay1, Formula.norm, Formula.mean]

theorem first_apply (x0 : Vec Ideal S512x1024 .f32) (x1 x2 x3 : Vec Ideal S512x512 .bf16) (x4 : Vec Ideal S1024x3072 .bf16)
    (x5 : Vec Ideal S3x1024 .f32) (x6 : Vec Ideal S3x512x1024 .bf16) (x7 : Vec Ideal S1024x1024 .bf16) (r : Fin 512) (k : Fin 1024) :
    k0_pay4 (View.ld x0 r0_0) (View.ld x4 r0_1) (View.ld x5 r0_2) (View.ld x1 r0_3) (View.ld x6 r0_4) (ix2 r k)
      = Formula.logistic (∑ i, x0 (ix2 r i) * x4 (ix2 i ⟨k, by omega⟩) + x5 (ix2 0 k)) * ∑ i, x1 (ix2 r i) * x6 (ix3 0 i k) := by
  pointwise [k0_pay4, k0_pay3, k0_pay2, Formula.logistic]
  rw [zero_sub]

theorem second_apply (x0 : Vec Ideal S512x1024 .f32) (x1 x2 x3 : Vec Ideal S512x512 .bf16) (x4 : Vec Ideal S1024x3072 .bf16)
    (x5 : Vec Ideal S3x1024 .f32) (x6 : Vec Ideal S3x512x1024 .bf16) (x7 : Vec Ideal S1024x1024 .bf16) (r : Fin 512) (k : Fin 1024) :
    k0_pay5 (View.ld x0 r0_0) (View.ld x4 r0_5) (View.ld x5 r0_6) (ix2 r k)
      = ∑ i, x0 (ix2 r i) * x4 (ix2 i ⟨1024 + k, by omega⟩) + x5 (ix2 1 k) := by
  pointwise [k0_pay5, k0_pay3, k0_pay2]

/-- The rows, entry `j`, are the formula's row of the block's arrays. -/
theorem rows_apply (x0 : Vec Ideal S512x1024 .f32) (x1 x2 x3 : Vec Ideal S512x512 .bf16) (x4 : Vec Ideal S1024x3072 .bf16)
    (x5 : Vec Ideal S3x1024 .f32) (x6 : Vec Ideal S3x512x1024 .bf16) (x7 : Vec Ideal S1024x1024 .bf16) (r : Fin 512) (j : Fin 1024) :
    rows x0 x1 x2 x3 x4 x5 x6 x7 (ix2 r j)
      = Formula.mergeRow (fun i => x0 (ix2 r i)) (fun i => x1 (ix2 r i)) (fun i => x2 (ix2 r i)) (fun i => x3 (ix2 r i))
          (fun i k => x4 (ix2 i ⟨k, by omega⟩)) (fun i k => x4 (ix2 i ⟨1024 + k, by omega⟩)) (fun i k => x4 (ix2 i ⟨2048 + k, by omega⟩))
          (fun k => x5 (ix2 0 k)) (fun k => x5 (ix2 1 k)) (fun k => x5 (ix2 2 k))
          (fun i k => x6 (ix3 0 i k)) (fun i k => x6 (ix3 1 i k)) (fun i k => x6 (ix3 2 i k)) (fun k j => x7 (ix2 k j)) j := by
  pointwise [rows, k0_pay7, k0_pay6]
  simp only [first_apply x0 x1 x2 x3 x4 x5 x6 x7, second_apply x0 x1 x2 x3 x4 x5 x6 x7]
  pointwise [k0_pay2, k0_pay3, Formula.mergeRow, Formula.gated, Formula.times, Formula.logistic]
  simp only [zero_sub]

/-- Entry `(r, j)` of the block a point writes: the norm of the formula's row. -/
theorem out_apply (x0 : Vec Ideal S512x1024 .f32) (x1 x2 x3 : Vec Ideal S512x512 .bf16) (x4 : Vec Ideal S1024x3072 .bf16)
    (x5 : Vec Ideal S3x1024 .f32) (x6 : Vec Ideal S3x512x1024 .bf16) (x7 : Vec Ideal S1024x1024 .bf16) (x8 x9 : Vec Ideal S1x1024 .f32) (r : Fin 512) (j : Fin 1024) :
    out0_10 x0 x1 x2 x3 x4 x5 x6 x7 x8 x9 (ix2 r j)
      = Formula.norm (Formula.mergeRow (fun i => x0 (ix2 r i)) (fun i => x1 (ix2 r i)) (fun i => x2 (ix2 r i)) (fun i => x3 (ix2 r i))
          (fun i k => x4 (ix2 i ⟨k, by omega⟩)) (fun i k => x4 (ix2 i ⟨1024 + k, by omega⟩)) (fun i k => x4 (ix2 i ⟨2048 + k, by omega⟩))
          (fun k => x5 (ix2 0 k)) (fun k => x5 (ix2 1 k)) (fun k => x5 (ix2 2 k))
          (fun i k => x6 (ix3 0 i k)) (fun i k => x6 (ix3 1 i k)) (fun i k => x6 (ix3 2 i k)) (fun k j => x7 (ix2 k j)))
          (fun j => x8 (ix2 0 j)) (fun j => x9 (ix2 0 j)) j := by
  rw [out_eq, norm_apply]
  simp only [rows_apply]
  pointwise

end Cert.MergeBody

end
-- ==== Proof.MergeValue.lean ====
/-
  The merge kernel's result array, entry by entry, as the plain formula of the arrays it was launched with: what the host
  prepares for each window, the windows' blocks, the block a point writes, and the run.
-/
module

public import proofs.«01_k».proof.Proof.MergeBody
public import Idealize.ShloMosaic.Lib.StableHlo.Run

@[expose] public section

set_option maxRecDepth 16384

noncomputable section

namespace Cert.MergeValue

open Cert.Kernel3Ideal Cert.Kernel3Ideal.Gen Idealize.ShloMosaic Idealize.ShloMosaic.TcCoe Idealize.SL.Sem
open Idealize.ShloMosaic.Pipeline (Dat)

variable (m : (ℓ : Loc nD τ sig) → Buf (Elt Ideal) ℓ) (ρ : Dev nD → PrngReg)

/-! ## The argument arrays -/

/-- The activations. -/
abbrev ax (c : Dev nD) : FVec Ideal S8x4096x1024 .f32 := m ((c.tc : Thread nD τ).loc main_arg0)
/-- The first branch. -/
abbrev aya (c : Dev nD) : FVec Ideal S32768x512 .bf16 := m ((c.tc : Thread nD τ).loc main_arg1)
/-- The second branch. -/
abbrev ayb (c : Dev nD) : FVec Ideal S32768x512 .bf16 := m ((c.tc : Thread nD τ).loc main_arg2)
/-- The third branch. -/
abbrev ayc (c : Dev nD) : FVec Ideal S32768x512 .bf16 := m ((c.tc : Thread nD τ).loc main_arg3)
/-- The input weights (the gates' columns are the last 3072). -/
abbrev aw (c : Dev nD) : FVec Ideal S2x1024x5732 .f32 := m ((c.tc : Thread nD τ).loc main_arg4)
/-- The gates' biases. -/
abbrev ad (c : Dev nD) : FVec Ideal S2x3x1024 .f32 := m ((c.tc : Thread nD τ).loc main_arg5)
/-- The branches' weights. -/
abbrev ar (c : Dev nD) : FVec Ideal S2x3x512x1024 .f32 := m ((c.tc : Thread nD τ).loc main_arg6)
/-- The output weights. -/
abbrev ao (c : Dev nD) : FVec Ideal S2x1024x1024 .f32 := m ((c.tc : Thread nD τ).loc main_arg7)
/-- The norm's scales. -/
abbrev as' (c : Dev nD) : FVec Ideal S2x1024 .f32 := m ((c.tc : Thread nD τ).loc main_arg8)
/-- The norm's shifts. -/
abbrev ab (c : Dev nD) : FVec Ideal S2x1024 .f32 := m ((c.tc : Thread nD τ).loc main_arg9)

/-- The result at batch `b`, position `s`, column `j`: the norm of the merge row. -/
def entry (X : FVec Ideal S8x4096x1024 .f32) (YA YB YC : FVec Ideal S32768x512 .bf16) (W : FVec Ideal S2x1024x5732 .f32)
    (D : FVec Ideal S2x3x1024 .f32) (R : FVec Ideal S2x3x512x1024 .f32) (O : FVec Ideal S2x1024x1024 .f32)
    (A B : FVec Ideal S2x1024 .f32) (b : Fin 8) (s : Fin 4096) (j : Fin 1024) : EReal :=
  Formula.norm (Formula.mergeRow (fun i => X (ix3 b s i)) (fun i => YA (ix2 ⟨b * 4096 + s, by omega⟩ i)) (fun i => YB (ix2 ⟨b * 4096 + s, by omega⟩ i)) (fun i => YC (ix2 ⟨b * 4096 + s, by omega⟩ i))
      (fun i k => W (ix3 1 i ⟨2660 + k, by omega⟩)) (fun i k => W (ix3 1 i ⟨2660 + (1024 + k), by omega⟩)) (fun i k => W (ix3 1 i ⟨2660 + (2048 + k), by omega⟩))
      (fun k => D (ix3 1 0 k)) (fun k => D (ix3 1 1 k)) (fun k => D (ix3 1 2 k))
      (fun i k => R (ix4 1 0 i k)) (fun i k => R (ix4 1 1 i k)) (fun i k => R (ix4 1 2 i k)) (fun k j => O (ix3 1 k j)))
    (fun j => A (ix2 1 j)) (fun j => B (ix2 1 j)) j

/-! ## What the host leaves in the windows' arrays -/

variable (c : Dev nD)

theorem v2_apply (q : Fin 32768) (i : Fin 1024) : (V m c main_v2 : FVec Ideal S32768x1024 .f32) (ix2 q i)
    = ax m c (ix3 ⟨q / 4096, by omega⟩ ⟨q % 4096, by omega⟩ i) := by
  have h : (V m c main_v2 : FVec Ideal S32768x1024 .f32) = shapeCast S32768x1024 (ax m c) shapeCasts_S8x4096x1024_S32768x1024 := by
    unfold V; after_results; rfl
  rw [h]; pointwise

theorem y_a : (V m c main_arg1 : FVec Ideal S32768x512 .bf16) = aya m c := by unfold V; after_results
theorem y_b : (V m c main_arg2 : FVec Ideal S32768x512 .bf16) = ayb m c := by unfold V; after_results
theorem y_c : (V m c main_arg3 : FVec Ideal S32768x512 .bf16) = ayc m c := by unfold V; after_results

theorem v3_apply (i : Fin 1024) (k : Fin 3072) : (V m c main_v3 : FVec Ideal S1024x3072 .bf16) (ix2 i k)
    = aw m c (ix3 1 i ⟨2660 + k, by omega⟩) := by
  have h : (V m c main_v3 : FVec Ideal S1024x3072 .bf16) = truncf .bf16 (shapeCast S1024x3072 (extractStridedSlice S1x1024x3072 ![1, 0, 2660] (aw m c) slices_S2x1024x5732_S1x1024x3072_1_0_2660) shapeCasts_S1x1024x3072_S1024x3072) bitsLt_bf16_f32 := by
    unfold V; after_results; rfl
  rw [h]; pointwise

theorem v5_apply (l : Fin 3) (k : Fin 1024) : (V m c main_v5 : FVec Ideal S3x1024 .f32) (ix2 l k) = ad m c (ix3 1 l k) := by
  have h : (V m c main_v5 : FVec Ideal S3x1024 .f32) = shapeCast S3x1024 (extractStridedSlice S1x3x1024 ![1, 0, 0] (ad m c) slices_S2x3x1024_S1x3x1024_1_0_0) shapeCasts_S1x3x1024_S3x1024 := by
    unfold V; after_results; rfl
  rw [h]; pointwise

theorem v8_apply (l : Fin 3) (i : Fin 512) (k : Fin 1024) : (V m c main_v8 : FVec Ideal S3x512x1024 .bf16) (ix3 l i k)
    = ar m c (ix4 1 l i k) := by
  have h : (V m c main_v8 : FVec Ideal S3x512x1024 .bf16) = truncf .bf16 (shapeCast S3x512x1024 (extractStridedSlice S1x3x512x1024 ![1, 0, 0, 0] (ar m c) slices_S2x3x512x1024_S1x3x512x1024_1_0_0_0) shapeCasts_S1x3x512x1024_S3x512x1024) bitsLt_bf16_f32 := by
    unfold V; after_results; rfl
  rw [h]; pointwise

theorem v11_apply (k j : Fin 1024) : (V m c main_v11 : FVec Ideal S1024x1024 .bf16) (ix2 k j) = ao m c (ix3 1 k j) := by
  have h : (V m c main_v11 : FVec Ideal S1024x1024 .bf16) = truncf .bf16 (shapeCast S1024x1024 (extractStridedSlice S1x1024x1024 ![1, 0, 0] (ao m c) slices_S2x1024x1024_S1x1024x1024_1_0_0) shapeCasts_S1x1024x1024_S1024x1024) bitsLt_bf16_f32 := by
    unfold V; after_results; rfl
  rw [h]; pointwise

theorem v14_apply (j : Fin 1024) : (V m c main_v14 : FVec Ideal S1x1024 .f32) (ix2 0 j) = as' m c (ix2 1 j) := by
  have h : (V m c main_v14 : FVec Ideal S1x1024 .f32) = shapeCast S1x1024 (shapeCast S1024 (extractStridedSlice S1x1024 ![1, 0] (as' m c) slices_S2x1024_S1x1024_1_0) shapeCasts_S1x1024_S1024) shapeCasts_S1024_S1x1024 := by
    unfold V; after_results; rfl
  rw [h]; pointwise

theorem v17_apply (j : Fin 1024) : (V m c main_v17 : FVec Ideal S1x1024 .f32) (ix2 0 j) = ab m c (ix2 1 j) := by
  have h : (V m c main_v17 : FVec Ideal S1x1024 .f32) = shapeCast S1x1024 (shapeCast S1024 (extractStridedSlice S1x1024 ![1, 0] (ab m c) slices_S2x1024_S1x1024_1_0) shapeCasts_S1x1024_S1024) shapeCasts_S1024_S1x1024 := by
    unfold V; after_results; rfl
  rw [h]; pointwise

/-! ## The windows' blocks -/

theorem index_facts : ∀ t : Fin cfg0.N, win0_0.index t 0 = t.val ∧ win0_0.index t 1 = 0 ∧ win0_1.index t 0 = t.val ∧ win0_1.index t 1 = 0
    ∧ win0_2.index t 0 = t.val ∧ win0_2.index t 1 = 0 ∧ win0_3.index t 0 = t.val ∧ win0_3.index t 1 = 0
    ∧ win0_4.index t 0 = 0 ∧ win0_4.index t 1 = 0 ∧ win0_5.index t 0 = 0 ∧ win0_5.index t 1 = 0
    ∧ win0_6.index t 0 = 0 ∧ win0_6.index t 1 = 0 ∧ win0_6.index t 2 = 0 ∧ win0_7.index t 0 = 0
    ∧ win0_7.index t 1 = 0 ∧ win0_8.index t 0 = 0 ∧ win0_8.index t 1 = 0 ∧ win0_9.index t 0 = 0
    ∧ win0_9.index t 1 = 0 ∧ win0_10.index t 0 = t.val ∧ win0_10.index t 1 = 0 :=
  (by decide +kernel : ∀ t : Fin grid0.N, win0_0.index t 0 = t.val ∧ win0_0.index t 1 = 0 ∧ win0_1.index t 0 = t.val ∧ win0_1.index t 1 = 0
    ∧ win0_2.index t 0 = t.val ∧ win0_2.index t 1 = 0 ∧ win0_3.index t 0 = t.val ∧ win0_3.index t 1 = 0
    ∧ win0_4.index t 0 = 0 ∧ win0_4.index t 1 = 0 ∧ win0_5.index t 0 = 0 ∧ win0_5.index t 1 = 0
    ∧ win0_6.index t 0 = 0 ∧ win0_6.index t 1 = 0 ∧ win0_6.index t 2 = 0 ∧ win0_7.index t 0 = 0
    ∧ win0_7.index t 1 = 0 ∧ win0_8.index t 0 = 0 ∧ win0_8.index t 1 = 0 ∧ win0_9.index t 0 = 0
    ∧ win0_9.index t 1 = 0 ∧ win0_10.index t 0 = t.val ∧ win0_10.index t 1 = 0)

theorem lt64 (t : Fin cfg0.N) : t.val < 64 := Nat.lt_of_lt_of_eq t.isLt N_0

variable (t : Fin cfg0.N)

theorem b0 (i : Fin 512) (j : Fin 1024) : (iblk m c 0 t : Vec Ideal S512x1024 .f32) (ix2 i j)
    = (V m c main_v2 : FVec Ideal S32768x1024 .f32) (ix2 ⟨t.val * 512 + i, by have := lt64 t; omega⟩ j) := by
  have h := index_facts t
  unfold iblk
  rw [View.read_apply]
  refine congrArg (V m c main_v2 : FVec Ideal S32768x1024 .f32) (funext fun a => Fin.ext ?_)
  match a with
  | ⟨0, _⟩ => show win0_0.index t 0 * 512 + 1 * i.val = t.val * 512 + i.val; rw [h.1]; omega
  | ⟨1, _⟩ => show win0_0.index t 1 * 1024 + 1 * j.val = j.val; rw [h.2.1]; omega

theorem b1 (i : Fin 512) (j : Fin 512) : (iblk m c 1 t : Vec Ideal S512x512 .bf16) (ix2 i j)
    = (V m c main_arg1 : FVec Ideal S32768x512 .bf16) (ix2 ⟨t.val * 512 + i, by have := lt64 t; omega⟩ j) := by
  have h := index_facts t
  unfold iblk
  rw [View.read_apply]
  refine congrArg (V m c main_arg1 : FVec Ideal S32768x512 .bf16) (funext fun a => Fin.ext ?_)
  match a with
  | ⟨0, _⟩ => show win0_1.index t 0 * 512 + 1 * i.val = t.val * 512 + i.val; rw [h.2.2.1]; omega
  | ⟨1, _⟩ => show win0_1.index t 1 * 512 + 1 * j.val = j.val; rw [h.2.2.2.1]; omega

theorem b2 (i : Fin 512) (j : Fin 512) : (iblk m c 2 t : Vec Ideal S512x512 .bf16) (ix2 i j)
    = (V m c main_arg2 : FVec Ideal S32768x512 .bf16) (ix2 ⟨t.val * 512 + i, by have := lt64 t; omega⟩ j) := by
  have h := index_facts t
  unfold iblk
  rw [View.read_apply]
  refine congrArg (V m c main_arg2 : FVec Ideal S32768x512 .bf16) (funext fun a => Fin.ext ?_)
  match a with
  | ⟨0, _⟩ => show win0_2.index t 0 * 512 + 1 * i.val = t.val * 512 + i.val; rw [h.2.2.2.2.1]; omega
  | ⟨1, _⟩ => show win0_2.index t 1 * 512 + 1 * j.val = j.val; rw [h.2.2.2.2.2.1]; omega

theorem b3 (i : Fin 512) (j : Fin 512) : (iblk m c 3 t : Vec Ideal S512x512 .bf16) (ix2 i j)
    = (V m c main_arg3 : FVec Ideal S32768x512 .bf16) (ix2 ⟨t.val * 512 + i, by have := lt64 t; omega⟩ j) := by
  have h := index_facts t
  unfold iblk
  rw [View.read_apply]
  refine congrArg (V m c main_arg3 : FVec Ideal S32768x512 .bf16) (funext fun a => Fin.ext ?_)
  match a with
  | ⟨0, _⟩ => show win0_3.index t 0 * 512 + 1 * i.val = t.val * 512 + i.val; rw [h.2.2.2.2.2.2.1]; omega
  | ⟨1, _⟩ => show win0_3.index t 1 * 512 + 1 * j.val = j.val; rw [h.2.2.2.2.2.2.2.1]; omega

theorem b4 (i : Fin 1024) (j : Fin 3072) : (iblk m c 4 t : Vec Ideal S1024x3072 .bf16) (ix2 i j)
    = (V m c main_v3 : FVec Ideal S1024x3072 .bf16) (ix2 i j) := by
  have h := index_facts t
  unfold iblk
  rw [View.read_apply]
  refine congrArg (V m c main_v3 : FVec Ideal S1024x3072 .bf16) (funext fun a => Fin.ext ?_)
  match a with
  | ⟨0, _⟩ => show win0_4.index t 0 * 1024 + 1 * i.val = i.val; rw [h.2.2.2.2.2.2.2.2.1]; omega
  | ⟨1, _⟩ => show win0_4.index t 1 * 3072 + 1 * j.val = j.val; rw [h.2.2.2.2.2.2.2.2.2.1]; omega

theorem b5 (i : Fin 3) (j : Fin 1024) : (iblk m c 5 t : Vec Ideal S3x1024 .f32) (ix2 i j)
    = (V m c main_v5 : FVec Ideal S3x1024 .f32) (ix2 i j) := by
  have h := index_facts t
  unfold iblk
  rw [View.read_apply]
  refine congrArg (V m c main_v5 : FVec Ideal S3x1024 .f32) (funext fun a => Fin.ext ?_)
  match a with
  | ⟨0, _⟩ => show win0_5.index t 0 * 3 + 1 * i.val = i.val; rw [h.2.2.2.2.2.2.2.2.2.2.1]; omega
  | ⟨1, _⟩ => show win0_5.index t 1 * 1024 + 1 * j.val = j.val; rw [h.2.2.2.2.2.2.2.2.2.2.2.1]; omega

theorem b6 (i : Fin 3) (j : Fin 512) (k : Fin 1024) : (iblk m c 6 t : Vec Ideal S3x512x1024 .bf16) (ix3 i j k)
    = (V m c main_v8 : FVec Ideal S3x512x1024 .bf16) (ix3 i j k) := by
  have h := index_facts t
  unfold iblk
  rw [View.read_apply]
  refine congrArg (V m c main_v8 : FVec Ideal S3x512x1024 .bf16) (funext fun a => Fin.ext ?_)
  match a with
  | ⟨0, _⟩ => show win0_6.index t 0 * 3 + 1 * i.val = i.val; rw [h.2.2.2.2.2.2.2.2.2.2.2.2.1]; omega
  | ⟨1, _⟩ => show win0_6.index t 1 * 512 + 1 * j.val = j.val; rw [h.2.2.2.2.2.2.2.2.2.2.2.2.2.1]; omega
  | ⟨2, _⟩ => show win0_6.index t 2 * 1024 + 1 * k.val = k.val; rw [h.2.2.2.2.2.2.2.2.2.2.2.2.2.2.1]; omega

theorem b7 (i : Fin 1024) (j : Fin 1024) : (iblk m c 7 t : Vec Ideal S1024x1024 .bf16) (ix2 i j)
    = (V m c main_v11 : FVec Ideal S1024x1024 .bf16) (ix2 i j) := by
  have h := index_facts t
  unfold iblk
  rw [View.read_apply]
  refine congrArg (V m c main_v11 : FVec Ideal S1024x1024 .bf16) (funext fun a => Fin.ext ?_)
  match a with
  | ⟨0, _⟩ => show win0_7.index t 0 * 1024 + 1 * i.val = i.val; rw [h.2.2.2.2.2.2.2.2.2.2.2.2.2.2.2.1]; omega
  | ⟨1, _⟩ => show win0_7.index t 1 * 1024 + 1 * j.val = j.val; rw [h.2.2.2.2.2.2.2.2.2.2.2.2.2.2.2.2.1]; omega

theorem b8 (i : Fin 1) (j : Fin 1024) : (iblk m c 8 t : Vec Ideal S1x1024 .f32) (ix2 i j)
    = (V m c main_v14 : FVec Ideal S1x1024 .f32) (ix2 i j) := by
  have h := index_facts t
  unfold iblk
  rw [View.read_apply]
  refine congrArg (V m c main_v14 : FVec Ideal S1x1024 .f32) (funext fun a => Fin.ext ?_)
  match a with
  | ⟨0, _⟩ => show win0_8.index t 0 * 1 + 1 * i.val = i.val; rw [h.2.2.2.2.2.2.2.2.2.2.2.2.2.2.2.2.2.1]; omega
  | ⟨1, _⟩ => show win0_8.index t 1 * 1024 + 1 * j.val = j.val; rw [h.2.2.2.2.2.2.2.2.2.2.2.2.2.2.2.2.2.2.1]; omega

theorem b9 (i : Fin 1) (j : Fin 1024) : (iblk m c 9 t : Vec Ideal S1x1024 .f32) (ix2 i j)
    = (V m c main_v17 : FVec Ideal S1x1024 .f32) (ix2 i j) := by
  have h := index_facts t
  unfold iblk
  rw [View.read_apply]
  refine congrArg (V m c main_v17 : FVec Ideal S1x1024 .f32) (funext fun a => Fin.ext ?_)
  match a with
  | ⟨0, _⟩ => show win0_9.index t 0 * 1 + 1 * i.val = i.val; rw [h.2.2.2.2.2.2.2.2.2.2.2.2.2.2.2.2.2.2.2.1]; omega
  | ⟨1, _⟩ => show win0_9.index t 1 * 1024 + 1 * j.val = j.val; rw [h.2.2.2.2.2.2.2.2.2.2.2.2.2.2.2.2.2.2.2.2.1]; omega

/-! ## The result array -/

/-- The result array: row `q` is position `q mod 4096` of batch `q / 4096`. -/
def result : Buf (Elt Ideal) ((c.tc : Thread nD τ).loc main_v18) := fun (i : S32768x1024.Idx) =>
  entry (ax m c) (aya m c) (ayb m c) (ayc m c) (aw m c) (ad m c) (ar m c) (ao m c) (as' m c) (ab m c)
    ⟨(i 0).val / 4096, by have : (i 0).val < 32768 := (i 0).isLt; omega⟩ ⟨(i 0).val % 4096, by omega⟩ (i 1)

theorem result_apply (q : Fin 32768) (j : Fin 1024) : (result m c : FVec Ideal S32768x1024 .f32) (ix2 q j)
    = entry (ax m c) (aya m c) (ayb m c) (ayc m c) (aw m c) (ad m c) (ar m c) (ao m c) (as' m c) (ab m c) ⟨q / 4096, by omega⟩ ⟨q % 4096, by omega⟩ j := rfl

/-- Entry `(r, j)` of the block a point writes. -/
theorem block_apply (r : Fin 512) (j : Fin 1024) :
    out0_10 (iblk m c 0 t) (iblk m c 1 t) (iblk m c 2 t) (iblk m c 3 t) (iblk m c 4 t) (iblk m c 5 t) (iblk m c 6 t) (iblk m c 7 t) (iblk m c 8 t) (iblk m c 9 t) (ix2 r j)
      = (result m c : FVec Ideal S32768x1024 .f32) (ix2 (⟨t.val * 512 + r.val, by have := lt64 t; omega⟩ : Fin 32768) j) := by
  have e0 (i : Fin 1024) := (b0 m c t r i).trans (v2_apply m c _ i)
  have e1 (i : Fin 512) := (b1 m c t r i).trans (congrFun (y_a m c) _)
  have e2 (i : Fin 512) := (b2 m c t r i).trans (congrFun (y_b m c) _)
  have e3 (i : Fin 512) := (b3 m c t r i).trans (congrFun (y_c m c) _)
  have e4 (i : Fin 1024) (k : Fin 3072) := (b4 m c t i k).trans (v3_apply m c i k)
  have e5 (l : Fin 3) (k : Fin 1024) := (b5 m c t l k).trans (v5_apply m c l k)
  have e6 (l : Fin 3) (i : Fin 512) (k : Fin 1024) := (b6 m c t l i k).trans (v8_apply m c l i k)
  have e7 (i k : Fin 1024) := (b7 m c t i k).trans (v11_apply m c i k)
  have e8 (k : Fin 1024) := (b8 m c t 0 k).trans (v14_apply m c k)
  have e9 (k : Fin 1024) := (b9 m c t 0 k).trans (v17_apply m c k)
  refine (MergeBody.out_apply ..).trans ?_
  rw [result_apply]
  unfold entry
  simp only [e0, e1, e2, e3, e4, e5, e6, e7, e8, e9, Nat.div_add_mod']

/-- Where entry `(r, j)` of output block `t` lies. -/
theorem out_emb (r : Fin 512) (j : Fin 1024) : ((cfg0.win 10).blk t).view.emb (ix2 r j)
    = (ix2 (⟨t.val * 512 + r.val, by have := lt64 t; omega⟩ : Fin 32768) j : S32768x1024.Idx) := by
  have h := index_facts t
  refine funext fun a => Fin.ext ?_
  match a with
  | ⟨0, _⟩ => show win0_10.index t 0 * 512 + 1 * r.val = t.val * 512 + r.val; rw [h.2.2.2.2.2.2.2.2.2.2.2.2.2.2.2.2.2.2.2.2.2.1]; omega
  | ⟨1, _⟩ => show win0_10.index t 1 * 1024 + 1 * j.val = j.val; rw [h.2.2.2.2.2.2.2.2.2.2.2.2.2.2.2.2.2.2.2.2.2.2]; omega

/-- What point `t` writes back is block `t` of the result. -/
theorem flushed_eq : (dats m 0 c).flushed 10 t = ((cfg0.win 10).blk t).view.read (Elt Ideal) (result m c) := by
  rw [Value.flushed10]
  funext (y : S512x1024.Idx)
  obtain ⟨r, j, rfl⟩ : ∃ (r : Fin 512) (j : Fin 1024), y = ix2 r j := ⟨y 0, y 1, eq_ix2 y⟩
  refine (block_apply m c t r j).trans ?_
  rw [View.read_apply]
  exact congrArg (result m c : FVec Ideal S32768x1024 .f32) (out_emb t r j).symm

/-- The blocks cover the result array. -/
theorem cover (i : S32768x1024.Idx) : ∃ t : Fin cfg0.N, (cfg0.win 10).flush t = true ∧ i ∈ ((cfg0.win 10).blk t).view.set := by
  have h0 : (i 0).val < 32768 := (i 0).isLt
  have h1 : (i 1).val < 1024 := (i 1).isLt
  have hN : cfg0.N = 64 := N_0
  let t : Fin cfg0.N := ⟨(i 0).val / 512, by omega⟩
  have h := index_facts t
  refine ⟨t, flush0_10 _, ?_⟩
  show i ∈ ((View.whole main_v18).slice (win0_10.rect t)).set
  rw [View.set_slice_whole, Rect.mem_set_unit]
  intro a
  match a with
  | ⟨0, _⟩ => show win0_10.index t 0 * 512 ≤ (i 0).val ∧ (i 0).val < win0_10.index t 0 * 512 + 512
              rw [h.2.2.2.2.2.2.2.2.2.2.2.2.2.2.2.2.2.2.2.2.2.1]; show (i 0).val / 512 * 512 ≤ (i 0).val ∧ (i 0).val < (i 0).val / 512 * 512 + 512; omega
  | ⟨1, _⟩ => show win0_10.index t 1 * 1024 ≤ (i 1).val ∧ (i 1).val < win0_10.index t 1 * 1024 + 1024
              rw [h.2.2.2.2.2.2.2.2.2.2.2.2.2.2.2.2.2.2.2.2.2.2]; omega

theorem final : (dats m 0 c).arrAt 10 cfg0.N = result m c :=
  (dats m 0 c).arrAt_eq_of_cover 10 (result m c) (fun t _ => flushed_eq m c t) cover

/-- The run: the result array at the formula, the arguments as launched. -/
theorem run : θ_run defs (onTc (τ := τ) (main (F := Ideal))) ⟨m, fun _ => 0, ρ⟩ fun r => ∀ c : Dev nD,
      r.2.mem ((c : Thread nD τ).loc main_v18) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9) :=
  (θ_run defs _ _).mono (fun r h c => ⟨(h c).1.trans (final m c), (h c).2⟩) (Value.run_blocks (F := Ideal) m ρ)

end Cert.MergeValue

end
-- ==== Proof.MergeReference.lean ====
/-
  The merge reference's result, entry by entry, as the plain formula of its arguments.
-/
module

public import proofs.«01_k».proof.Proof.Formula
public import proofs.«01_k».proof.Proof.Gen.Reference3Ideal.Run

@[expose] public section

set_option maxRecDepth 16384

noncomputable section

namespace Cert.MergeReference

open Cert.Reference3Ideal Cert.Reference3Ideal.Gen Idealize.ShloMosaic Idealize.ShloMosaic.TcCoe Idealize.SL.Sem

/-- The three gates. -/
def gates (X : FVec Ideal S8x4096x1024 .f32) (W : FVec Ideal S2x1024x5732 .f32) (D : FVec Ideal S2x3x1024 .f32) : FVec Ideal S8x4096x3x1024 .f32 :=
  have one : FVec Ideal S8x4096x3x1024 .f32 := broadcastInDim S8x4096x3x1024 ![] bcast_S_S8x4096x3x1024 (constant S_ .f32 0x3F800000#32)
  have g : FVec Ideal S8x4096x3072 .f32 := Host.dotGeneral dot_S8x4096x1024_S1024x3072_S8x4096x3072_2_0_01_1_n_n none X
    (shapeCast S1024x3072 (extractStridedSlice S1x1024x3072 ![1, 0, 2660] W slices_S2x1024x5732_S1x1024x3072_1_0_2660) shapeCasts_S1x1024x3072_S1024x3072)
  have d : FVec Ideal S8x4096x3x1024 .f32 := broadcastInDim S8x4096x3x1024 ![0, 1, 2, 3] bcast_S1x1x3x1024_S8x4096x3x1024_0_1_2_3
    (broadcastInDim S1x1x3x1024 ![2, 3] bcast_S3x1024_S1x1x3x1024_2_3
      (shapeCast S3x1024 (extractStridedSlice S1x3x1024 ![1, 0, 0] D slices_S2x3x1024_S1x3x1024_1_0_0) shapeCasts_S1x3x1024_S3x1024))
  Host.divf one (addf one (Host.exp (Host.negf (addf (shapeCast S8x4096x3x1024 g shapeCasts_S8x4096x3072_S8x4096x3x1024) d))))

/-- The gated sum of the three branches' products. -/
def merged (X : FVec Ideal S8x4096x1024 .f32) (YA YB YC : FVec Ideal S32768x512 .bf16) (W : FVec Ideal S2x1024x5732 .f32)
    (D : FVec Ideal S2x3x1024 .f32) (R : FVec Ideal S2x3x512x1024 .f32) : FVec Ideal S8x4096x1024 .f32 :=
  have y (Y : FVec Ideal S32768x512 .bf16) : FVec Ideal S8x4096x512 .f32 := shapeCast S8x4096x512 (extf .f32 Y bitsLt_bf16_f32) shapeCasts_S32768x512_S8x4096x512
  have G : FVec Ideal S8x4096x3x1024 .f32 := gates X W D
  addf (addf
    (mulf (shapeCast S8x4096x1024 (extractStridedSlice S8x4096x1x1024 ![0, 0, 0, 0] G slices_S8x4096x3x1024_S8x4096x1x1024_0_0_0_0) shapeCasts_S8x4096x1x1024_S8x4096x1024)
      (Host.dotGeneral dot_S8x4096x512_S512x1024_S8x4096x1024_2_0_01_1_n_n none (y YA)
        (shapeCast S512x1024 (extractStridedSlice S1x1x512x1024 ![1, 0, 0, 0] R slices_S2x3x512x1024_S1x1x512x1024_1_0_0_0) shapeCasts_S1x1x512x1024_S512x1024)))
    (mulf (shapeCast S8x4096x1024 (extractStridedSlice S8x4096x1x1024 ![0, 0, 1, 0] G slices_S8x4096x3x1024_S8x4096x1x1024_0_0_1_0) shapeCasts_S8x4096x1x1024_S8x4096x1024)
      (Host.dotGeneral dot_S8x4096x512_S512x1024_S8x4096x1024_2_0_01_1_n_n none (y YB)
        (shapeCast S512x1024 (extractStridedSlice S1x1x512x1024 ![1, 1, 0, 0] R slices_S2x3x512x1024_S1x1x512x1024_1_1_0_0) shapeCasts_S1x1x512x1024_S512x1024))))
    (mulf (shapeCast S8x4096x1024 (extractStridedSlice S8x4096x1x1024 ![0, 0, 2, 0] G slices_S8x4096x3x1024_S8x4096x1x1024_0_0_2_0) shapeCasts_S8x4096x1x1024_S8x4096x1024)
      (Host.dotGeneral dot_S8x4096x512_S512x1024_S8x4096x1024_2_0_01_1_n_n none (y YC)
        (shapeCast S512x1024 (extractStridedSlice S1x1x512x1024 ![1, 2, 0, 0] R slices_S2x3x512x1024_S1x1x512x1024_1_2_0_0) shapeCasts_S1x1x512x1024_S512x1024)))

/-- The rows before the norm. -/
def rows (X : FVec Ideal S8x4096x1024 .f32) (YA YB YC : FVec Ideal S32768x512 .bf16) (W : FVec Ideal S2x1024x5732 .f32)
    (D : FVec Ideal S2x3x1024 .f32) (R : FVec Ideal S2x3x512x1024 .f32) (O : FVec Ideal S2x1024x1024 .f32) : FVec Ideal S8x4096x1024 .f32 :=
  addf (mulf (broadcastInDim S8x4096x1024 ![] bcast_S_S8x4096x1024 (constant S_ .f32 0x3FB504F3#32)) X)
    (Host.dotGeneral dot_S8x4096x1024_S1024x1024_S8x4096x1024_2_0_01_1_n_n none (merged X YA YB YC W D R)
      (shapeCast S1024x1024 (extractStridedSlice S1x1024x1024 ![1, 0, 0] O slices_S2x1024x1024_S1x1024x1024_1_0_0) shapeCasts_S1x1024x1024_S1024x1024))

/-- The norm of every row, scaled and shifted. -/
def normed (d : FVec Ideal S8x4096x1024 .f32) (A B : FVec Ideal S2x1024 .f32) : FVec Ideal S8x4096x1024 .f32 :=
  have n : FVec Ideal S8x4096x1 .f32 := broadcastInDim S8x4096x1 ![] bcast_S_S8x4096x1 (constant S_ .f32 0x44800000#32)
  have mu : FVec Ideal S8x4096x1 .f32 := Host.divf (broadcastInDim S8x4096x1 ![0, 1] bcast_S8x4096_S8x4096x1_0_1
    (Host.reduceAdd d (constant S_ .f32 0x00000000#32) reducesTo_S8x4096x1024_S8x4096_d2 h_S_)) n
  have e : FVec Ideal S8x4096x1024 .f32 := subf d (broadcastInDim S8x4096x1024 ![0, 1, 2] bcast_S8x4096x1_S8x4096x1024_0_1_2 mu)
  have va : FVec Ideal S8x4096x1 .f32 := Host.divf (broadcastInDim S8x4096x1 ![0, 1] bcast_S8x4096_S8x4096x1_0_1
    (Host.reduceAdd (mulf e e) (constant S_ .f32 0x00000000#32) reducesTo_S8x4096x1024_S8x4096_d2 h_S_)) n
  have ep : FVec Ideal S8x4096x1 .f32 := broadcastInDim S8x4096x1 ![] bcast_S_S8x4096x1 (constant S_ .f32 0x3727C5AC#32)
  have row (W : FVec Ideal S2x1024 .f32) : FVec Ideal S8x4096x1024 .f32 :=
    broadcastInDim S8x4096x1024 ![0, 1, 2] bcast_S1x1x1024_S8x4096x1024_0_1_2 (broadcastInDim S1x1x1024 ![2] bcast_S1024_S1x1x1024_2
      (shapeCast S1024 (extractStridedSlice S1x1024 ![1, 0] W slices_S2x1024_S1x1024_1_0) shapeCasts_S1x1024_S1024))
  addf (mulf (mulf e (broadcastInDim S8x4096x1024 ![0, 1, 2] bcast_S8x4096x1_S8x4096x1024_0_1_2 (Host.rsqrt (addf va ep)))) (row A)) (row B)

variable (m : (ℓ : Loc nD τ sig) → Buf (Elt Ideal) ℓ) (c : Dev nD)

/-- The run's composed term is the norm of the rows, reshaped. -/
theorem res_eq : (Value.res_out0 m c : FVec Ideal S32768x1024 .f32)
    = shapeCast S32768x1024 (normed (rows (m ((c.tc : Thread nD τ).loc main_arg0)) (m ((c.tc : Thread nD τ).loc main_arg1))
        (m ((c.tc : Thread nD τ).loc main_arg2)) (m ((c.tc : Thread nD τ).loc main_arg3)) (m ((c.tc : Thread nD τ).loc main_arg4))
        (m ((c.tc : Thread nD τ).loc main_arg5)) (m ((c.tc : Thread nD τ).loc main_arg6)) (m ((c.tc : Thread nD τ).loc main_arg7)))
        (m ((c.tc : Thread nD τ).loc main_arg8)) (m ((c.tc : Thread nD τ).loc main_arg9)))
      shapeCasts_S8x4096x1024_S32768x1024 := rfl

theorem gates_apply (X : FVec Ideal S8x4096x1024 .f32) (W : FVec Ideal S2x1024x5732 .f32) (D : FVec Ideal S2x3x1024 .f32)
    (b : Fin 8) (s : Fin 4096) (l : Fin 3) (k : Fin 1024) : gates X W D (ix4 b s l k)
      = Formula.logistic (∑ i, X (ix3 b s i) * W (ix3 1 i ⟨2660 + (l * 1024 + k), by omega⟩) + D (ix3 1 l k)) := by
  have e : (⟨(l * 1024 + k : ℕ), by omega⟩ : Fin 3072).val = l * 1024 + k := rfl
  pointwise [gates, Formula.logistic]

theorem merged_apply (X : FVec Ideal S8x4096x1024 .f32) (YA YB YC : FVec Ideal S32768x512 .bf16) (W : FVec Ideal S2x1024x5732 .f32)
    (D : FVec Ideal S2x3x1024 .f32) (R : FVec Ideal S2x3x512x1024 .f32) (b : Fin 8) (s : Fin 4096) (k : Fin 1024) :
    merged X YA YB YC W D R (ix3 b s k) = Formula.gated (fun i => X (ix3 b s i)) (fun i => YA (ix2 ⟨b * 4096 + s, by omega⟩ i)) (fun i => YB (ix2 ⟨b * 4096 + s, by omega⟩ i)) (fun i => YC (ix2 ⟨b * 4096 + s, by omega⟩ i))
      (fun i k => W (ix3 1 i ⟨2660 + k, by omega⟩)) (fun i k => W (ix3 1 i ⟨2660 + (1024 + k), by omega⟩)) (fun i k => W (ix3 1 i ⟨2660 + (2048 + k), by omega⟩))
      (fun k => D (ix3 1 0 k)) (fun k => D (ix3 1 1 k)) (fun k => D (ix3 1 2 k))
      (fun i k => R (ix4 1 0 i k)) (fun i k => R (ix4 1 1 i k)) (fun i k => R (ix4 1 2 i k)) k := by
  pointwise [merged]
  simp only [gates_apply]
  pointwise [Formula.gated, Formula.times]

theorem rows_apply (X : FVec Ideal S8x4096x1024 .f32) (YA YB YC : FVec Ideal S32768x512 .bf16) (W : FVec Ideal S2x1024x5732 .f32)
    (D : FVec Ideal S2x3x1024 .f32) (R : FVec Ideal S2x3x512x1024 .f32) (O : FVec Ideal S2x1024x1024 .f32) (b : Fin 8) (s : Fin 4096) (j : Fin 1024) :
    rows X YA YB YC W D R O (ix3 b s j) = Formula.mergeRow (fun i => X (ix3 b s i)) (fun i => YA (ix2 ⟨b * 4096 + s, by omega⟩ i)) (fun i => YB (ix2 ⟨b * 4096 + s, by omega⟩ i)) (fun i => YC (ix2 ⟨b * 4096 + s, by omega⟩ i))
      (fun i k => W (ix3 1 i ⟨2660 + k, by omega⟩)) (fun i k => W (ix3 1 i ⟨2660 + (1024 + k), by omega⟩)) (fun i k => W (ix3 1 i ⟨2660 + (2048 + k), by omega⟩))
      (fun k => D (ix3 1 0 k)) (fun k => D (ix3 1 1 k)) (fun k => D (ix3 1 2 k))
      (fun i k => R (ix4 1 0 i k)) (fun i k => R (ix4 1 1 i k)) (fun i k => R (ix4 1 2 i k)) (fun k j => O (ix3 1 k j)) j := by
  pointwise [rows]
  simp only [merged_apply]
  unfold Formula.mergeRow Formula.times
  rfl

theorem normed_apply (d : FVec Ideal S8x4096x1024 .f32) (A B : FVec Ideal S2x1024 .f32) (b : Fin 8) (s : Fin 4096) (j : Fin 1024) :
    normed d A B (ix3 b s j) = Formula.norm (fun x => d (ix3 b s x)) (fun j => A (ix2 1 j)) (fun j => B (ix2 1 j)) j := by
  pointwise [normed, Formula.norm, Formula.mean]

/-- The result's row `q` is position `q % 4096` of batch `q / 4096`. -/
theorem res_apply (q : Fin 32768) (j : Fin 1024) : (Value.res_out0 m c : FVec Ideal S32768x1024 .f32) (ix2 q j)
    = normed (rows (m ((c.tc : Thread nD τ).loc main_arg0)) (m ((c.tc : Thread nD τ).loc main_arg1))
        (m ((c.tc : Thread nD τ).loc main_arg2)) (m ((c.tc : Thread nD τ).loc main_arg3)) (m ((c.tc : Thread nD τ).loc main_arg4))
        (m ((c.tc : Thread nD τ).loc main_arg5)) (m ((c.tc : Thread nD τ).loc main_arg6)) (m ((c.tc : Thread nD τ).loc main_arg7)))
        (m ((c.tc : Thread nD τ).loc main_arg8)) (m ((c.tc : Thread nD τ).loc main_arg9))
      (ix3 ⟨q / 4096, by omega⟩ ⟨q % 4096, by omega⟩ j) := by
  rw [res_eq]
  generalize normed _ _ _ = N
  pointwise

end Cert.MergeReference

end
-- ==== Proof.MergeClaim.lean ====
/-
  The merge call's claims: the frames, and that the kernel and the reference end with equal results over the
  extended reals.
-/
module

public import proofs.«01_k».proof.Defs
public import proofs.«01_k».proof.Proof.MergeValue
public import proofs.«01_k».proof.Proof.MergeReference
public import proofs.«01_k».proof.Proof.Gen.Kernel3.Frame
public import Idealize.ShloMosaic.Lib.Quiescent

@[expose] public section

set_option maxRecDepth 16384

noncomputable section

namespace Cert.MergeClaim

open Idealize.ShloMosaic Idealize.ShloMosaic.TcCoe Idealize.SL.Sem

theorem frame_kernel : Cert.quiescent_Kernel3 := fun m ρ _ => Cert.Kernel3.Gen.frame m ρ

theorem frame_kernelIdeal : Cert.quiescent_Kernel3Ideal := fun m ρ _ => Cert.Kernel3Ideal.Gen.frame m ρ

theorem frame_reference : Cert.quiescent_Reference3Ideal := fun m ρ _ =>
  (θ_run Cert.Reference3Ideal.defs _ _).mono (fun r h => ⟨fun c => (h c).2, sem_eq_zero_of_no_sems (by decide) r.2⟩)
    (Cert.Reference3Ideal.Value.run (F := Ideal) m ρ)

theorem algebraic : Cert.algebraic_Kernel3Ideal_Reference3Ideal := by
  intro m ρ m' ρ' _ hagree
  refine ⟨fun c => MergeValue.result m c, MergeValue.run m ρ, ?_⟩
  refine (θ_run Cert.Reference3Ideal.defs _ _).mono (fun _ h c => ⟨(h c).1.trans ?_, (h c).2⟩)
    (Cert.Reference3Ideal.Value.run (F := Ideal) m' ρ')
  obtain ⟨h0, h1, h2, h3, h4, h5, h6, h7, h8, h9⟩ := hagree c
  funext (i : Cert.Reference3Ideal.S32768x1024.Idx)
  obtain ⟨q, j, rfl⟩ : ∃ (q : Fin 32768) (j : Fin 1024), i = ix2 q j := ⟨i 0, i 1, eq_ix2 i⟩
  refine (MergeReference.res_apply m' c q j).trans ?_
  rw [MergeReference.normed_apply]
  simp only [MergeReference.rows_apply]
  rw [h0, h1, h2, h3, h4, h5, h6, h7, h8, h9]
  rfl

end Cert.MergeClaim

end
-- ==== Proof.MlaPre.lean ====
/-
  What the precondition says over the extended reals: every entry of the queries and of the keys is a real number.
-/
module

public import proofs.«01_k».proof.Pre_finite
public import Idealize.ShloMosaic.Lib.ReduceAll
public import Idealize.ShloMosaic.Lib.WordArith
public import Idealize.ShloMosaic.PureOps.Ideal

@[expose] public section

noncomputable section

namespace Cert.MlaPre

open Cert.Pre_finite Idealize.ShloMosaic

theorem top_bits : Ideal.ofBits .f32 0x7F800000#32 = (⊤ : EReal) := by
  simp [Ideal.ofBits, Ideal.ieee]

/-- A number whose absolute value is below +∞ is real. -/
theorem real_of_abs_lt (x : Ideal .f32)
    (h : FloatOps.cmpf (F := Ideal) .olt (FloatOps.hostAbsf x) (Ideal.ofBits .f32 0x7F800000#32) = 1#1) : ∃ r : ℝ, x = (r : EReal) := by
  rw [top_bits] at h
  have h' : max (x : EReal) (-(x : EReal)) < ⊤ := by
    have := (WordArith.ofBool_eq_one_iff (b := decide (max (x : EReal) (-(x : EReal)) < ⊤))).1 h
    simpa using this
  have ht : (x : EReal) ≠ ⊤ := (lt_of_le_of_lt (le_max_left _ _) h').ne
  have hb : (x : EReal) ≠ ⊥ := fun e => by
    have := lt_of_le_of_lt (le_max_right (x : EReal) (-(x : EReal))) h'
    rw [e, EReal.neg_bot] at this
    exact lt_irrefl _ this
  exact ⟨EReal.toReal x, (EReal.coe_toReal ht hb).symm⟩

instance : Subsingleton S_.Idx := ⟨fun a b => funext fun i => i.elim0⟩

variable [Facts]

theorem real (Q K : FVec Ideal S8x4096x8x96 .f32) (V : FVec Ideal S8x4096x8x64 .f32) (h : fn Q K V = fun _ => 1#1) :
    (∀ i, ∃ r : ℝ, Q i = (r : EReal)) ∧ ∀ i, ∃ r : ℝ, K i = (r : EReal) := by
  have h0 := congrFun h (fun i => i.elim0)
  dsimp only [fn] at h0
  have both (a b : BitVec 1) (e : IntOp.andi a b = 1#1) : a = 1#1 ∧ b = 1#1 := by
    revert a b; decide
  obtain ⟨hQ, hK⟩ := both _ _ h0
  exact ⟨fun i => real_of_abs_lt _ (Host.reduce_andi_all _ _ _ _ _ hQ i), fun i => real_of_abs_lt _ (Host.reduce_andi_all _ _ _ _ _ hK i)⟩

end Cert.MlaPre
end
-- ==== Proof.ValueRun.lean ====
/-
  Running a program over buffers whose contents are tracked as values. A state `s` says what each buffer holds; `R s`
  is the ownership of the buffers at those contents. `Runs R p s Q` says that from `R s` the program `p` runs to its
  return, and that the value returned and the state it ends in are in relation `Q`. The lemmas compose it along a
  program: return, sequence, load, store, branch, counted loop.
-/
module

public import Idealize.ShloMosaic.Lib.Scf
public import Idealize.ShloMosaic.Lib.Tactic
public import Idealize.ShloMosaic.Lib.Pipeline.FrameBody
public import Idealize.ShloMosaic.Rules

@[expose] public section

noncomputable section

namespace Cert.ValueRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {nD : Nat} {τ : Topo} {sig : RefSig} {Val : EltTy → Type} {U : Type} [URA U] {Λ : Labels}

local notation "𝕄" => MT nD τ sig Unit Val Nat U Nat

variable (defs : Defs nD τ sig Val Λ) (c : Dev nD)

/-- Memref `M`'s whole buffer on core `c`, held at contents `f` of which `law f t` holds. -/
def Held {S : Shape} {e : EltTy} {T : Type} (M : Memref sig .tc .vmem S e)
    (law : Buf Val (M.view.loc (c : Thread nD τ)) → T → Prop) (t : T) : sProp 𝕄 :=
  iprop(∃ f : Buf Val (M.view.loc (c : Thread nD τ)), ⌜law f t⌝ ∗ M.view.loc (c : Thread nD τ) ↦{fullShare} f)

/-- From `R s` the program runs to a value and a state in relation `Q`. -/
def Runs {σ α : Type} (R : σ → sProp (MT nD τ sig Unit Val Nat U Nat)) (p : Prog (TpuEff nD τ sig Val Λ .tc) α) (s : σ)
    (Q : α → σ → Prop) : Prop :=
  R s ⊢ wp frame (wpE (Ix := Unit) (Name := Nat) (U := U) (Lvl := Nat) defs Variants.none (c : Thread nD τ) none) Set.univ p
    (fun a => iprop(∃ s' : σ, ⌜Q a s'⌝ ∗ R s'))

/-- The relation that fixes the value and the state. -/
def Is {σ α : Type} (v : α) (t : σ) : α → σ → Prop := fun a s => a = v ∧ s = t

section
variable {defs c}
variable {σ α β : Type} {R : σ → sProp (MT nD τ sig Unit Val Nat U Nat)}

theorem Runs.pure {v : α} {s : σ} {Q : α → σ → Prop} (h : Q v s) : Runs defs c R (pure v) s Q := by
  unfold Runs
  rw [wp_pure]
  iintro H
  imodintro
  iexists s
  isplitr
  · ipureintro; exact h
  · iexact H

theorem Runs.mono {p : Prog (TpuEff nD τ sig Val Λ .tc) α} {s : σ} {Q Q' : α → σ → Prop} (hp : Runs defs c R p s Q)
    (h : ∀ a t, Q a t → Q' a t) : Runs defs c R p s Q' := by
  unfold Runs at hp ⊢
  refine BIBase.Entails.trans hp (wp_mono _ _ _ fun a => ?_)
  iintro ⟨%t, %ht, H⟩
  iexists t
  isplitr
  · ipureintro; exact h a t ht
  · iexact H

theorem Runs.seq {p : Prog (TpuEff nD τ sig Val Λ .tc) α} {k : α → Prog (TpuEff nD τ sig Val Λ .tc) β} {s : σ}
    {Q : α → σ → Prop} {Q' : β → σ → Prop} (hp : Runs defs c R p s Q) (hk : ∀ a t, Q a t → Runs defs c R (k a) t Q') :
    Runs defs c R (p >>= k) s Q' := by
  unfold Runs at hp ⊢
  rw [wp_bind]
  refine BIBase.Entails.trans hp (wp_mono _ _ _ fun a => ?_)
  iintro ⟨%t, %ht, H⟩
  have hk' := hk a t ht
  unfold Runs at hk'
  iapply hk'
  iexact H

/-- A sequence whose first part's value and state are known. -/
theorem Runs.bind {p : Prog (TpuEff nD τ sig Val Λ .tc) α} {k : α → Prog (TpuEff nD τ sig Val Λ .tc) β} {s t : σ}
    {v : α} {Q' : β → σ → Prop} (hp : Runs defs c R p s (Is v t)) (hk : Runs defs c R (k v) t Q') :
    Runs defs c R (p >>= k) s Q' :=
  Runs.seq hp fun a u h => by obtain ⟨rfl, rfl⟩ := h; exact hk

theorem Runs.dite {P : Prop} [Decidable P] {p : P → Prog (TpuEff nD τ sig Val Λ .tc) α}
    {q : ¬P → Prog (TpuEff nD τ sig Val Λ .tc) α} {s : σ} {Q : α → σ → Prop} (hp : ∀ h, Runs defs c R (p h) s Q)
    (hq : ∀ h, Runs defs c R (q h) s Q) : Runs defs c R (if h : P then p h else q h) s Q := by
  split
  · exact hp _
  · exact hq _

/-- A counted loop that carries nothing: the state before trip `k` is `st k`. -/
theorem Runs.loop {w : Nat} {l : Scf.Loop w} {hok : l.OK} {body : Fin l.trips → Unit → Prog (TpuEff nD τ sig Val Λ .tc) Unit}
    (st : Nat → σ) (hb : ∀ k : Fin l.trips, Runs defs c R (body k ()) (st k.val) (Is () (st (k.val + 1)))) :
    Runs defs c R (Scf.Loop.for l hok () body) (st 0) (Is () (st l.trips)) := by
  unfold Runs
  refine BIBase.Entails.trans ?_ (Scf.wp_for _ _ _ l.lb l.ub l.st hok () body (fun k _ => R (st k)) (fun k a => ?_))
  · iintro H
    isplitl [H]; · iexact H
    iintro %a H
    iexists (st l.trips)
    isplitr
    · ipureintro; exact ⟨rfl, rfl⟩
    · iexact H
  · refine BIBase.Entails.trans (hb k) (wp_mono _ _ _ fun a => ?_)
    iintro ⟨%t, %ht, H⟩
    obtain ⟨-, rfl⟩ := ht
    iexact H

/-- A load of a buffer among the resources, of whose contents the law fixes what is read. -/
theorem Runs.load_of {S : Shape} {e : EltTy} {T : Type} {M : Memref sig .tc .vmem S e}
    {law : Buf Val (M.view.loc (c : Thread nD τ)) → T → Prop} {r : LoadRect S} {hl : M.view.LoadsAt r} {s : σ} {t : T}
    {v : r.shape.Idx → Val e}
    (take : R s ⊢ iprop((Held c M law t : sProp 𝕄) ∗ ((Held c M law t : sProp 𝕄) -∗ R s)))
    (h : ∀ f, law f t → M.view.readAt Val r f = v) : Runs defs c R (Prog.lift (.load M r hl)) s (Is v s) := by
  unfold Runs Prog.lift
  iintro H
  ihave ⟨H, Hk⟩ := take $$ H
  unfold Held
  icases H with ⟨%f, %hf, H⟩
  iapply (wp_load Variants.none (c : Thread nD τ) none Set.univ (S := Finset.univ) (Finset.subset_univ _)) $$ H
  iintro H
  rw [wp_ret]
  imodintro
  iexists s
  isplitr
  · ipureintro; exact ⟨h f hf, rfl⟩
  · iapply Hk
    iexists f
    isplitr
    · ipureintro; exact hf
    · iexact H

/-- A load of a buffer among the resources, whatever it reads. -/
theorem Runs.load_any {S : Shape} {e : EltTy} {T : Type} {M : Memref sig .tc .vmem S e}
    {law : Buf Val (M.view.loc (c : Thread nD τ)) → T → Prop} {r : LoadRect S} {hl : M.view.LoadsAt r} {s : σ} {t : T}
    (take : R s ⊢ iprop((Held c M law t : sProp 𝕄) ∗ ((Held c M law t : sProp 𝕄) -∗ R s))) :
    Runs defs c R (Prog.lift (.load M r hl)) s (fun _ s' => s' = s) := by
  unfold Runs Prog.lift
  iintro H
  ihave ⟨H, Hk⟩ := take $$ H
  unfold Held
  icases H with ⟨%f, %hf, H⟩
  iapply (wp_load Variants.none (c : Thread nD τ) none Set.univ (S := Finset.univ) (Finset.subset_univ _)) $$ H
  iintro H
  rw [wp_ret]
  imodintro
  iexists s
  isplitr
  · ipureintro; rfl
  · iapply Hk
    iexists f
    isplitr
    · ipureintro; exact hf
    · iexact H

/-- A store to a buffer among the resources, after which the law says what it holds. -/
theorem Runs.store_of {S : Shape} {e : EltTy} {T : Type} {M : Memref sig .tc .vmem S e}
    {law : Buf Val (M.view.loc (c : Thread nD τ)) → T → Prop} {r : Rect S} {w : r.shape.Idx → Val e}
    {hx : (M.access r).Stores Finset.univ} {hm : (Finset.univ : Finset r.shape.Idx) = Finset.univ ∨ ∀ a, r.stride a = 1}
    {s s' : σ} {t t' : T}
    (take : R s ⊢ iprop((Held c M law t : sProp 𝕄) ∗ ((Held c M law t' : sProp 𝕄) -∗ R s')))
    (h : ∀ f, law f t → law ((M.access r).write Val f w Finset.univ) t') :
    Runs defs c R (Prog.lift (.store M r w Finset.univ hx hm)) s (Is () s') := by
  unfold Runs Prog.lift
  iintro H
  ihave ⟨H, Hk⟩ := take $$ H
  unfold Held
  icases H with ⟨%f, %hf, H⟩
  iapply (wp_store Variants.none (c : Thread nD τ) none Set.univ (m := M) (r := r) (S := Finset.univ) (f := f) (Finset.subset_univ _)) $$ H
  iintro H
  rw [wp_ret]
  imodintro
  iexists s'
  isplitr
  · ipureintro; exact ⟨rfl, rfl⟩
  · iapply Hk
    iexists _
    isplitr
    · ipureintro; exact h f hf
    · iexact H

/-- What `Runs` says, as an entailment. -/
theorem Runs.run {p : Prog (TpuEff nD τ sig Val Λ .tc) α} {s : σ} {Q : α → σ → Prop} (h : Runs defs c R p s Q) :
    R s ⊢ wp frame (wpE (Ix := Unit) (Name := Nat) (U := U) (Lvl := Nat) defs Variants.none (c : Thread nD τ) none) Set.univ p
      (fun a => iprop(∃ s' : σ, ⌜Q a s'⌝ ∗ R s')) := h

end

attribute [irreducible] Runs

/-! ## A buffer of four slabs -/

/-- Four things of a kind, one for each slab. -/
structure Four (α : Type) where
  a0 : α
  a1 : α
  a2 : α
  a3 : α

section
variable {c}

/-- A store through one rectangle is read back there, -/
theorem read_same {S : Shape} {e : EltTy} (M : Memref sig .tc .vmem S e) (r : Rect S)
    (f : Buf Val (M.view.loc (c : Thread nD τ))) (w : r.shape.Idx → Val e) :
    M.view.readAt Val r ((M.access r).write Val f w Finset.univ) = w :=
  View.read_write_univ (v := M.view.slice r) f w

/-- and leaves what a disjoint rectangle reads. -/
theorem read_other {S : Shape} {e : EltTy} (M : Memref sig .tc .vmem S e) (r r' : Rect S) (h : Disjoint r.set r'.set)
    (f : Buf Val (M.view.loc (c : Thread nD τ))) (w : r'.shape.Idx → Val e) :
    M.view.readAt Val r ((M.access r').write Val f w Finset.univ) = M.view.readAt Val r f := by
  refine View.read_slice_write_slice_of_disjoint (v := M.view) r r' f w Finset.univ ?_
  rw [View.set_slice, View.setOn_univ, View.set_slice]
  exact (Finset.disjoint_map _).mpr h

end

end Cert.ValueRun
end
-- ==== Proof.MlaState.lean ====
/-
  The causal attention's buffers as values. A state says what the running maximum, the accumulator and the two score
  buffers hold, head by head, and what the output block holds; the three input blocks are fixed. For every access the
  kernel makes, a lemma says what it reads or which state it leaves.
-/
module

public import proofs.«01_k».proof.Proof.ValueRun
public import proofs.«01_k».proof.Proof.Gen.Kernel4Ideal.Skeleton

@[expose] public section

set_option maxRecDepth 16384

noncomputable section

namespace Cert.Mla

open Cert.Kernel4Ideal Cert.Kernel4Ideal.Gen Cert.ValueRun
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

variable (F) in
/-- What the buffers hold: the running maximum `m`, the accumulator `acc`, the scores `sa` and `sb`, each for four heads,
    and the output block. -/
structure St where
  m : Four (Vec F S1x1x512 .f32)
  acc : Four (Vec F S1x80x512 .f32)
  sa : Four (Vec F S1x512x512 .f32)
  sb : Four (Vec F S1x512x512 .f32)
  out : Vec F S512x256 .bf16

/-! ## The rectangles of one head -/

abbrev mR0 : Rect S4x1x512 := Rect.unit (s := S4x1x512) ![0, 0, 0] S1x1x512.size inb_S4x1x512_S1x1x512_0_0_0
abbrev mR1 : Rect S4x1x512 := Rect.unit (s := S4x1x512) ![1, 0, 0] S1x1x512.size inb_S4x1x512_S1x1x512_1_0_0
abbrev mR2 : Rect S4x1x512 := Rect.unit (s := S4x1x512) ![2, 0, 0] S1x1x512.size inb_S4x1x512_S1x1x512_2_0_0
abbrev mR3 : Rect S4x1x512 := Rect.unit (s := S4x1x512) ![3, 0, 0] S1x1x512.size inb_S4x1x512_S1x1x512_3_0_0
theorem mR_disj01 : Disjoint mR0.set mR1.set :=
  Rect.disjoint_of_separated _ _ (0 : Fin 3) (by decide)
theorem mR_disj02 : Disjoint mR0.set mR2.set :=
  Rect.disjoint_of_separated _ _ (0 : Fin 3) (by decide)
theorem mR_disj03 : Disjoint mR0.set mR3.set :=
  Rect.disjoint_of_separated _ _ (0 : Fin 3) (by decide)
theorem mR_disj10 : Disjoint mR1.set mR0.set :=
  Rect.disjoint_of_separated _ _ (0 : Fin 3) (by decide)
theorem mR_disj12 : Disjoint mR1.set mR2.set :=
  Rect.disjoint_of_separated _ _ (0 : Fin 3) (by decide)
theorem mR_disj13 : Disjoint mR1.set mR3.set :=
  Rect.disjoint_of_separated _ _ (0 : Fin 3) (by decide)
theorem mR_disj20 : Disjoint mR2.set mR0.set :=
  Rect.disjoint_of_separated _ _ (0 : Fin 3) (by decide)
theorem mR_disj21 : Disjoint mR2.set mR1.set :=
  Rect.disjoint_of_separated _ _ (0 : Fin 3) (by decide)
theorem mR_disj23 : Disjoint mR2.set mR3.set :=
  Rect.disjoint_of_separated _ _ (0 : Fin 3) (by decide)
theorem mR_disj30 : Disjoint mR3.set mR0.set :=
  Rect.disjoint_of_separated _ _ (0 : Fin 3) (by decide)
theorem mR_disj31 : Disjoint mR3.set mR1.set :=
  Rect.disjoint_of_separated _ _ (0 : Fin 3) (by decide)
theorem mR_disj32 : Disjoint mR3.set mR2.set :=
  Rect.disjoint_of_separated _ _ (0 : Fin 3) (by decide)
abbrev aR0 : Rect S4x80x512 := Rect.unit (s := S4x80x512) ![0, 0, 0] S1x80x512.size inb_S4x80x512_S1x80x512_0_0_0
abbrev aR1 : Rect S4x80x512 := Rect.unit (s := S4x80x512) ![1, 0, 0] S1x80x512.size inb_S4x80x512_S1x80x512_1_0_0
abbrev aR2 : Rect S4x80x512 := Rect.unit (s := S4x80x512) ![2, 0, 0] S1x80x512.size inb_S4x80x512_S1x80x512_2_0_0
abbrev aR3 : Rect S4x80x512 := Rect.unit (s := S4x80x512) ![3, 0, 0] S1x80x512.size inb_S4x80x512_S1x80x512_3_0_0
theorem aR_disj01 : Disjoint aR0.set aR1.set :=
  Rect.disjoint_of_separated _ _ (0 : Fin 3) (by decide)
theorem aR_disj02 : Disjoint aR0.set aR2.set :=
  Rect.disjoint_of_separated _ _ (0 : Fin 3) (by decide)
theorem aR_disj03 : Disjoint aR0.set aR3.set :=
  Rect.disjoint_of_separated _ _ (0 : Fin 3) (by decide)
theorem aR_disj10 : Disjoint aR1.set aR0.set :=
  Rect.disjoint_of_separated _ _ (0 : Fin 3) (by decide)
theorem aR_disj12 : Disjoint aR1.set aR2.set :=
  Rect.disjoint_of_separated _ _ (0 : Fin 3) (by decide)
theorem aR_disj13 : Disjoint aR1.set aR3.set :=
  Rect.disjoint_of_separated _ _ (0 : Fin 3) (by decide)
theorem aR_disj20 : Disjoint aR2.set aR0.set :=
  Rect.disjoint_of_separated _ _ (0 : Fin 3) (by decide)
theorem aR_disj21 : Disjoint aR2.set aR1.set :=
  Rect.disjoint_of_separated _ _ (0 : Fin 3) (by decide)
theorem aR_disj23 : Disjoint aR2.set aR3.set :=
  Rect.disjoint_of_separated _ _ (0 : Fin 3) (by decide)
theorem aR_disj30 : Disjoint aR3.set aR0.set :=
  Rect.disjoint_of_separated _ _ (0 : Fin 3) (by decide)
theorem aR_disj31 : Disjoint aR3.set aR1.set :=
  Rect.disjoint_of_separated _ _ (0 : Fin 3) (by decide)
theorem aR_disj32 : Disjoint aR3.set aR2.set :=
  Rect.disjoint_of_separated _ _ (0 : Fin 3) (by decide)
abbrev sR0 : Rect S4x512x512 := Rect.unit (s := S4x512x512) ![0, 0, 0] S1x512x512.size inb_S4x512x512_S1x512x512_0_0_0
abbrev sR1 : Rect S4x512x512 := Rect.unit (s := S4x512x512) ![1, 0, 0] S1x512x512.size inb_S4x512x512_S1x512x512_1_0_0
abbrev sR2 : Rect S4x512x512 := Rect.unit (s := S4x512x512) ![2, 0, 0] S1x512x512.size inb_S4x512x512_S1x512x512_2_0_0
abbrev sR3 : Rect S4x512x512 := Rect.unit (s := S4x512x512) ![3, 0, 0] S1x512x512.size inb_S4x512x512_S1x512x512_3_0_0
theorem sR_disj01 : Disjoint sR0.set sR1.set :=
  Rect.disjoint_of_separated _ _ (0 : Fin 3) (by decide)
theorem sR_disj02 : Disjoint sR0.set sR2.set :=
  Rect.disjoint_of_separated _ _ (0 : Fin 3) (by decide)
theorem sR_disj03 : Disjoint sR0.set sR3.set :=
  Rect.disjoint_of_separated _ _ (0 : Fin 3) (by decide)
theorem sR_disj10 : Disjoint sR1.set sR0.set :=
  Rect.disjoint_of_separated _ _ (0 : Fin 3) (by decide)
theorem sR_disj12 : Disjoint sR1.set sR2.set :=
  Rect.disjoint_of_separated _ _ (0 : Fin 3) (by decide)
theorem sR_disj13 : Disjoint sR1.set sR3.set :=
  Rect.disjoint_of_separated _ _ (0 : Fin 3) (by decide)
theorem sR_disj20 : Disjoint sR2.set sR0.set :=
  Rect.disjoint_of_separated _ _ (0 : Fin 3) (by decide)
theorem sR_disj21 : Disjoint sR2.set sR1.set :=
  Rect.disjoint_of_separated _ _ (0 : Fin 3) (by decide)
theorem sR_disj23 : Disjoint sR2.set sR3.set :=
  Rect.disjoint_of_separated _ _ (0 : Fin 3) (by decide)
theorem sR_disj30 : Disjoint sR3.set sR0.set :=
  Rect.disjoint_of_separated _ _ (0 : Fin 3) (by decide)
theorem sR_disj31 : Disjoint sR3.set sR1.set :=
  Rect.disjoint_of_separated _ _ (0 : Fin 3) (by decide)
theorem sR_disj32 : Disjoint sR3.set sR2.set :=
  Rect.disjoint_of_separated _ _ (0 : Fin 3) (by decide)

variable (c : Dev nD)

/-- The buffer reads `x`. -/
def Reads {S : Shape} {e : EltTy} (M : Memref sig .tc .vmem S e) (f : Buf (Elt F) (M.view.loc (c : Thread nD τ)))
    (x : S.Idx → Elt F e) : Prop := M.view.read (Elt F) f = x

/-- What the four heads' rectangles read. -/
def lawM (M : Memref sig .tc .vmem S4x1x512 .f32) (f : Buf (Elt F) (M.view.loc (c : Thread nD τ))) (t : Four (Vec F S1x1x512 .f32)) : Prop :=
  M.view.readAt (Elt F) mR0 f = t.a0 ∧ M.view.readAt (Elt F) mR1 f = t.a1 ∧ M.view.readAt (Elt F) mR2 f = t.a2 ∧ M.view.readAt (Elt F) mR3 f = t.a3

theorem lawM_store0 (M : Memref sig .tc .vmem S4x1x512 .f32) {x0 x1 x2 x3 w : Vec F S1x1x512 .f32} (f : Buf (Elt F) (M.view.loc (c : Thread nD τ)))
    (h : lawM c M f ⟨x0, x1, x2, x3⟩) : lawM c M ((M.access mR0).write (Elt F) f w Finset.univ) ⟨w, x1, x2, x3⟩ := by
  obtain ⟨-, h1, h2, h3⟩ := h
  exact ⟨read_same M mR0 f w, (read_other M _ _ mR_disj10 f w).trans h1, (read_other M _ _ mR_disj20 f w).trans h2, (read_other M _ _ mR_disj30 f w).trans h3⟩

theorem lawM_store1 (M : Memref sig .tc .vmem S4x1x512 .f32) {x0 x1 x2 x3 w : Vec F S1x1x512 .f32} (f : Buf (Elt F) (M.view.loc (c : Thread nD τ)))
    (h : lawM c M f ⟨x0, x1, x2, x3⟩) : lawM c M ((M.access mR1).write (Elt F) f w Finset.univ) ⟨x0, w, x2, x3⟩ := by
  obtain ⟨h0, -, h2, h3⟩ := h
  exact ⟨(read_other M _ _ mR_disj01 f w).trans h0, read_same M mR1 f w, (read_other M _ _ mR_disj21 f w).trans h2, (read_other M _ _ mR_disj31 f w).trans h3⟩

theorem lawM_store2 (M : Memref sig .tc .vmem S4x1x512 .f32) {x0 x1 x2 x3 w : Vec F S1x1x512 .f32} (f : Buf (Elt F) (M.view.loc (c : Thread nD τ)))
    (h : lawM c M f ⟨x0, x1, x2, x3⟩) : lawM c M ((M.access mR2).write (Elt F) f w Finset.univ) ⟨x0, x1, w, x3⟩ := by
  obtain ⟨h0, h1, -, h3⟩ := h
  exact ⟨(read_other M _ _ mR_disj02 f w).trans h0, (read_other M _ _ mR_disj12 f w).trans h1, read_same M mR2 f w, (read_other M _ _ mR_disj32 f w).trans h3⟩

theorem lawM_store3 (M : Memref sig .tc .vmem S4x1x512 .f32) {x0 x1 x2 x3 w : Vec F S1x1x512 .f32} (f : Buf (Elt F) (M.view.loc (c : Thread nD τ)))
    (h : lawM c M f ⟨x0, x1, x2, x3⟩) : lawM c M ((M.access mR3).write (Elt F) f w Finset.univ) ⟨x0, x1, x2, w⟩ := by
  obtain ⟨h0, h1, h2, -⟩ := h
  exact ⟨(read_other M _ _ mR_disj03 f w).trans h0, (read_other M _ _ mR_disj13 f w).trans h1, (read_other M _ _ mR_disj23 f w).trans h2, read_same M mR3 f w⟩

/-- What the four heads' rectangles read. -/
def lawA (M : Memref sig .tc .vmem S4x80x512 .f32) (f : Buf (Elt F) (M.view.loc (c : Thread nD τ))) (t : Four (Vec F S1x80x512 .f32)) : Prop :=
  M.view.readAt (Elt F) aR0 f = t.a0 ∧ M.view.readAt (Elt F) aR1 f = t.a1 ∧ M.view.readAt (Elt F) aR2 f = t.a2 ∧ M.view.readAt (Elt F) aR3 f = t.a3

theorem lawA_store0 (M : Memref sig .tc .vmem S4x80x512 .f32) {x0 x1 x2 x3 w : Vec F S1x80x512 .f32} (f : Buf (Elt F) (M.view.loc (c : Thread nD τ)))
    (h : lawA c M f ⟨x0, x1, x2, x3⟩) : lawA c M ((M.access aR0).write (Elt F) f w Finset.univ) ⟨w, x1, x2, x3⟩ := by
  obtain ⟨-, h1, h2, h3⟩ := h
  exact ⟨read_same M aR0 f w, (read_other M _ _ aR_disj10 f w).trans h1, (read_other M _ _ aR_disj20 f w).trans h2, (read_other M _ _ aR_disj30 f w).trans h3⟩

theorem lawA_store1 (M : Memref sig .tc .vmem S4x80x512 .f32) {x0 x1 x2 x3 w : Vec F S1x80x512 .f32} (f : Buf (Elt F) (M.view.loc (c : Thread nD τ)))
    (h : lawA c M f ⟨x0, x1, x2, x3⟩) : lawA c M ((M.access aR1).write (Elt F) f w Finset.univ) ⟨x0, w, x2, x3⟩ := by
  obtain ⟨h0, -, h2, h3⟩ := h
  exact ⟨(read_other M _ _ aR_disj01 f w).trans h0, read_same M aR1 f w, (read_other M _ _ aR_disj21 f w).trans h2, (read_other M _ _ aR_disj31 f w).trans h3⟩

theorem lawA_store2 (M : Memref sig .tc .vmem S4x80x512 .f32) {x0 x1 x2 x3 w : Vec F S1x80x512 .f32} (f : Buf (Elt F) (M.view.loc (c : Thread nD τ)))
    (h : lawA c M f ⟨x0, x1, x2, x3⟩) : lawA c M ((M.access aR2).write (Elt F) f w Finset.univ) ⟨x0, x1, w, x3⟩ := by
  obtain ⟨h0, h1, -, h3⟩ := h
  exact ⟨(read_other M _ _ aR_disj02 f w).trans h0, (read_other M _ _ aR_disj12 f w).trans h1, read_same M aR2 f w, (read_other M _ _ aR_disj32 f w).trans h3⟩

theorem lawA_store3 (M : Memref sig .tc .vmem S4x80x512 .f32) {x0 x1 x2 x3 w : Vec F S1x80x512 .f32} (f : Buf (Elt F) (M.view.loc (c : Thread nD τ)))
    (h : lawA c M f ⟨x0, x1, x2, x3⟩) : lawA c M ((M.access aR3).write (Elt F) f w Finset.univ) ⟨x0, x1, x2, w⟩ := by
  obtain ⟨h0, h1, h2, -⟩ := h
  exact ⟨(read_other M _ _ aR_disj03 f w).trans h0, (read_other M _ _ aR_disj13 f w).trans h1, (read_other M _ _ aR_disj23 f w).trans h2, read_same M aR3 f w⟩

/-- What the four heads' rectangles read. -/
def lawS (M : Memref sig .tc .vmem S4x512x512 .f32) (f : Buf (Elt F) (M.view.loc (c : Thread nD τ))) (t : Four (Vec F S1x512x512 .f32)) : Prop :=
  M.view.readAt (Elt F) sR0 f = t.a0 ∧ M.view.readAt (Elt F) sR1 f = t.a1 ∧ M.view.readAt (Elt F) sR2 f = t.a2 ∧ M.view.readAt (Elt F) sR3 f = t.a3

theorem lawS_store0 (M : Memref sig .tc .vmem S4x512x512 .f32) {x0 x1 x2 x3 w : Vec F S1x512x512 .f32} (f : Buf (Elt F) (M.view.loc (c : Thread nD τ)))
    (h : lawS c M f ⟨x0, x1, x2, x3⟩) : lawS c M ((M.access sR0).write (Elt F) f w Finset.univ) ⟨w, x1, x2, x3⟩ := by
  obtain ⟨-, h1, h2, h3⟩ := h
  exact ⟨read_same M sR0 f w, (read_other M _ _ sR_disj10 f w).trans h1, (read_other M _ _ sR_disj20 f w).trans h2, (read_other M _ _ sR_disj30 f w).trans h3⟩

theorem lawS_store1 (M : Memref sig .tc .vmem S4x512x512 .f32) {x0 x1 x2 x3 w : Vec F S1x512x512 .f32} (f : Buf (Elt F) (M.view.loc (c : Thread nD τ)))
    (h : lawS c M f ⟨x0, x1, x2, x3⟩) : lawS c M ((M.access sR1).write (Elt F) f w Finset.univ) ⟨x0, w, x2, x3⟩ := by
  obtain ⟨h0, -, h2, h3⟩ := h
  exact ⟨(read_other M _ _ sR_disj01 f w).trans h0, read_same M sR1 f w, (read_other M _ _ sR_disj21 f w).trans h2, (read_other M _ _ sR_disj31 f w).trans h3⟩

theorem lawS_store2 (M : Memref sig .tc .vmem S4x512x512 .f32) {x0 x1 x2 x3 w : Vec F S1x512x512 .f32} (f : Buf (Elt F) (M.view.loc (c : Thread nD τ)))
    (h : lawS c M f ⟨x0, x1, x2, x3⟩) : lawS c M ((M.access sR2).write (Elt F) f w Finset.univ) ⟨x0, x1, w, x3⟩ := by
  obtain ⟨h0, h1, -, h3⟩ := h
  exact ⟨(read_other M _ _ sR_disj02 f w).trans h0, (read_other M _ _ sR_disj12 f w).trans h1, read_same M sR2 f w, (read_other M _ _ sR_disj32 f w).trans h3⟩

theorem lawS_store3 (M : Memref sig .tc .vmem S4x512x512 .f32) {x0 x1 x2 x3 w : Vec F S1x512x512 .f32} (f : Buf (Elt F) (M.view.loc (c : Thread nD τ)))
    (h : lawS c M f ⟨x0, x1, x2, x3⟩) : lawS c M ((M.access sR3).write (Elt F) f w Finset.univ) ⟨x0, x1, x2, w⟩ := by
  obtain ⟨h0, h1, h2, -⟩ := h
  exact ⟨(read_other M _ _ sR_disj03 f w).trans h0, (read_other M _ _ sR_disj13 f w).trans h1, (read_other M _ _ sR_disj23 f w).trans h2, read_same M sR3 f w⟩

section
variable {c}
/-- A rectangle that lies in another reads what the other's contents hold there. -/
theorem readAt_sub {S : Shape} {e : EltTy} (M : Memref sig .tc .vmem S e) (r r' : Rect S) (g : r'.shape.Idx → r.shape.Idx)
    (hg : ∀ x, r.idx (g x) = r'.idx x) (f : Buf (Elt F) (M.view.loc (c : Thread nD τ))) (y : r.shape.Idx → Elt F e)
    (h : M.view.readAt (Elt F) r f = y) : M.view.readAt (Elt F) r' f = fun x => y (g x) := by
  subst h
  funext x
  rw [View.readAt_apply, View.readAt_apply]
  exact congrArg _ (hg x).symm

/-- A store through the rectangle that is the whole buffer leaves what is stored. -/
theorem read_all {S : Shape} {e : EltTy} (M : Memref sig .tc .vmem S e) {off : Fin S.rank → Nat} {hi : ∀ a, off a + S.size a ≤ S.size a}
    (hr : ∀ x : S.Idx, (Rect.unit (s := S) off S.size hi).idx x = x)
    (f : Buf (Elt F) (M.view.loc (c : Thread nD τ))) (w : S.Idx → Elt F e) :
    M.view.read (Elt F) ((M.access (Rect.unit (s := S) off S.size hi)).write (Elt F) f w Finset.univ) = w := by
  funext x
  have h := congrFun (read_same M (Rect.unit (s := S) off S.size hi) f w) x
  rw [View.readAt_apply] at h
  rw [← h]
  exact congrArg _ (hr x).symm

/-- The first 64 rows of an accumulator, and its 65th. -/
def g_rows (x : S1x64x512.Idx) : S1x80x512.Idx :=
  fun a => match a with
    | ⟨0, _⟩ => ⟨0, Nat.one_pos⟩
    | ⟨1, _⟩ => ⟨0 + (x (1 : Fin 3)).val, by have := (x (1 : Fin 3)).isLt; have h : (x (1 : Fin 3)).val < 64 := this; show _ < 80; omega⟩
    | ⟨2, _⟩ => ⟨(x (2 : Fin 3)).val, (x (2 : Fin 3)).isLt⟩
def g_sum (x : S1x1x512.Idx) : S1x80x512.Idx :=
  fun a => match a with
    | ⟨0, _⟩ => ⟨0, Nat.one_pos⟩
    | ⟨1, _⟩ => ⟨64 + (x (1 : Fin 3)).val, by have := (x (1 : Fin 3)).isLt; have h : (x (1 : Fin 3)).val < 1 := this; show _ < 80; omega⟩
    | ⟨2, _⟩ => ⟨(x (2 : Fin 3)).val, (x (2 : Fin 3)).isLt⟩
def acc_rows (y : Vec F S1x80x512 .f32) : Vec F S1x64x512 .f32 := fun x => y (g_rows x)
def acc_sum (y : Vec F S1x80x512 .f32) : Vec F S1x1x512 .f32 := fun x => y (g_sum x)

end

section
variable (arg3 : Memref sig .tc .vmem S512x512 .bf16) (arg4 : Memref sig .tc .vmem S4096x512 .bf16) (arg5 : Memref sig .tc .vmem S8x256x512 .bf16) (arg6 : Memref sig .tc .vmem S512x256 .bf16) (arg7 : Memref sig .tc .vmem S4x1x512 .f32) (arg8 : Memref sig .tc .vmem S4x80x512 .f32) (arg9 : Memref sig .tc .vmem S4x512x512 .f32) (arg10 : Memref sig .tc .vmem S4x512x512 .f32)
  (x0 : Vec F S512x512 .bf16) (x1 : Vec F S4096x512 .bf16) (x2 : Vec F S8x256x512 .bf16)

/-- The ownership of the eight buffers, the inputs at their blocks and the others as the state says. -/
def Res (s : St F) : sProp 𝕄 :=
  iprop(Held c arg3 (Reads c arg3) x0 ∗ Held c arg4 (Reads c arg4) x1 ∗ Held c arg5 (Reads c arg5) x2
    ∗ Held c arg6 (Reads c arg6) s.out ∗ Held c arg7 (lawM c arg7) s.m ∗ Held c arg8 (lawA c arg8) s.acc
    ∗ Held c arg9 (lawS c arg9) s.sa ∗ Held c arg10 (lawS c arg10) s.sb)

end

section
variable {c}
variable {arg3 : Memref sig .tc .vmem S512x512 .bf16} {arg4 : Memref sig .tc .vmem S4096x512 .bf16} {arg5 : Memref sig .tc .vmem S8x256x512 .bf16} {arg6 : Memref sig .tc .vmem S512x256 .bf16} {arg7 : Memref sig .tc .vmem S4x1x512 .f32} {arg8 : Memref sig .tc .vmem S4x80x512 .f32} {arg9 : Memref sig .tc .vmem S4x512x512 .f32} {arg10 : Memref sig .tc .vmem S4x512x512 .f32}
  {x0 : Vec F S512x512 .bf16} {x1 : Vec F S4096x512 .bf16} {x2 : Vec F S8x256x512 .bf16}

local notation "RR" => Res c arg3 arg4 arg5 arg6 arg7 arg8 arg9 arg10 x0 x1 x2
theorem take3 (s : St F) : RR s ⊢ iprop((Held c arg3 (Reads c arg3) x0 : sProp 𝕄) ∗ ((Held c arg3 (Reads c arg3) x0 : sProp 𝕄) -∗ RR s)) := by
  unfold Res
  iintro ⟨H3, H4, H5, H6, H7, H8, H9, H10⟩
  isplitl [H3]; · iexact H3
  iintro H3
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H10

theorem take4 (s : St F) : RR s ⊢ iprop((Held c arg4 (Reads c arg4) x1 : sProp 𝕄) ∗ ((Held c arg4 (Reads c arg4) x1 : sProp 𝕄) -∗ RR s)) := by
  unfold Res
  iintro ⟨H3, H4, H5, H6, H7, H8, H9, H10⟩
  isplitl [H4]; · iexact H4
  iintro H4
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H10

theorem take5 (s : St F) : RR s ⊢ iprop((Held c arg5 (Reads c arg5) x2 : sProp 𝕄) ∗ ((Held c arg5 (Reads c arg5) x2 : sProp 𝕄) -∗ RR s)) := by
  unfold Res
  iintro ⟨H3, H4, H5, H6, H7, H8, H9, H10⟩
  isplitl [H5]; · iexact H5
  iintro H5
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H10

theorem take6 (s : St F) (t : Vec F S512x256 .bf16) : RR s ⊢ iprop((Held c arg6 (Reads c arg6) s.out : sProp 𝕄) ∗ ((Held c arg6 (Reads c arg6) t : sProp 𝕄) -∗ RR { s with out := t })) := by
  unfold Res
  iintro ⟨H3, H4, H5, H6, H7, H8, H9, H10⟩
  isplitl [H6]; · iexact H6
  iintro H6
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H10

theorem take7 (s : St F) (t : Four (Vec F S1x1x512 .f32)) : RR s ⊢ iprop((Held c arg7 (lawM c arg7) s.m : sProp 𝕄) ∗ ((Held c arg7 (lawM c arg7) t : sProp 𝕄) -∗ RR { s with m := t })) := by
  unfold Res
  iintro ⟨H3, H4, H5, H6, H7, H8, H9, H10⟩
  isplitl [H7]; · iexact H7
  iintro H7
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H10

theorem take8 (s : St F) (t : Four (Vec F S1x80x512 .f32)) : RR s ⊢ iprop((Held c arg8 (lawA c arg8) s.acc : sProp 𝕄) ∗ ((Held c arg8 (lawA c arg8) t : sProp 𝕄) -∗ RR { s with acc := t })) := by
  unfold Res
  iintro ⟨H3, H4, H5, H6, H7, H8, H9, H10⟩
  isplitl [H8]; · iexact H8
  iintro H8
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H10

theorem take9 (s : St F) (t : Four (Vec F S1x512x512 .f32)) : RR s ⊢ iprop((Held c arg9 (lawS c arg9) s.sa : sProp 𝕄) ∗ ((Held c arg9 (lawS c arg9) t : sProp 𝕄) -∗ RR { s with sa := t })) := by
  unfold Res
  iintro ⟨H3, H4, H5, H6, H7, H8, H9, H10⟩
  isplitl [H9]; · iexact H9
  iintro H9
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H10

theorem take10 (s : St F) (t : Four (Vec F S1x512x512 .f32)) : RR s ⊢ iprop((Held c arg10 (lawS c arg10) s.sb : sProp 𝕄) ∗ ((Held c arg10 (lawS c arg10) t : sProp 𝕄) -∗ RR { s with sb := t })) := by
  unfold Res
  iintro ⟨H3, H4, H5, H6, H7, H8, H9, H10⟩
  isplitl [H10]; · iexact H10
  iintro H10
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H10

theorem load3 {s : St F} {r : Rect S512x512} {hl : arg3.view.LoadsAt r.toLoadRect} :
    Runs (defs₀ (F := F)) c RR (Prog.lift (.load arg3 r.toLoadRect hl)) s (Is (View.ld x0 r) s) :=
  Runs.load_of (take3 s) fun f hf => by rw [← show arg3.view.read (Elt F) f = x0 from hf]; rfl

theorem load4 {s : St F} {r : Rect S4096x512} {hl : arg4.view.LoadsAt r.toLoadRect} :
    Runs (defs₀ (F := F)) c RR (Prog.lift (.load arg4 r.toLoadRect hl)) s (Is (View.ld x1 r) s) :=
  Runs.load_of (take4 s) fun f hf => by rw [← show arg4.view.read (Elt F) f = x1 from hf]; rfl

theorem load5 {s : St F} {r : Rect S8x256x512} {hl : arg5.view.LoadsAt r.toLoadRect} :
    Runs (defs₀ (F := F)) c RR (Prog.lift (.load arg5 r.toLoadRect hl)) s (Is (View.ld x2 r) s) :=
  Runs.load_of (take5 s) fun f hf => by rw [← show arg5.view.read (Elt F) f = x2 from hf]; rfl

theorem load7_0 {y0 y1 y2 y3 : Vec F S1x1x512 .f32} {acc : Four (Vec F S1x80x512 .f32)} {sa : Four (Vec F S1x512x512 .f32)} {sb : Four (Vec F S1x512x512 .f32)} {out : Vec F S512x256 .bf16} {hl : arg7.view.LoadsAt mR0.toLoadRect} :
    Runs (defs₀ (F := F)) c RR (Prog.lift (.load arg7 mR0.toLoadRect hl)) ⟨⟨y0, y1, y2, y3⟩, acc, sa, sb, out⟩ (Is y0 ⟨⟨y0, y1, y2, y3⟩, acc, sa, sb, out⟩) :=
  Runs.load_of (take7 _ ⟨y0, y1, y2, y3⟩) fun f hf => hf.1

theorem store7_0 {y0 y1 y2 y3 : Vec F S1x1x512 .f32} {acc : Four (Vec F S1x80x512 .f32)} {sa : Four (Vec F S1x512x512 .f32)} {sb : Four (Vec F S1x512x512 .f32)} {out : Vec F S512x256 .bf16} {w : Vec F S1x1x512 .f32}
    {hx : (arg7.access mR0).Stores Finset.univ} {hm : (Finset.univ : Finset mR0.shape.Idx) = Finset.univ ∨ ∀ a, mR0.stride a = 1} :
    Runs (defs₀ (F := F)) c RR (Prog.lift (.store arg7 mR0 w Finset.univ hx hm)) ⟨⟨y0, y1, y2, y3⟩, acc, sa, sb, out⟩ (Is () ⟨⟨w, y1, y2, y3⟩, acc, sa, sb, out⟩) :=
  Runs.store_of (take7 ⟨⟨y0, y1, y2, y3⟩, acc, sa, sb, out⟩ ⟨w, y1, y2, y3⟩) fun f hf => lawM_store0 c arg7 f hf

theorem load7_1 {y0 y1 y2 y3 : Vec F S1x1x512 .f32} {acc : Four (Vec F S1x80x512 .f32)} {sa : Four (Vec F S1x512x512 .f32)} {sb : Four (Vec F S1x512x512 .f32)} {out : Vec F S512x256 .bf16} {hl : arg7.view.LoadsAt mR1.toLoadRect} :
    Runs (defs₀ (F := F)) c RR (Prog.lift (.load arg7 mR1.toLoadRect hl)) ⟨⟨y0, y1, y2, y3⟩, acc, sa, sb, out⟩ (Is y1 ⟨⟨y0, y1, y2, y3⟩, acc, sa, sb, out⟩) :=
  Runs.load_of (take7 _ ⟨y0, y1, y2, y3⟩) fun f hf => hf.2.1

theorem store7_1 {y0 y1 y2 y3 : Vec F S1x1x512 .f32} {acc : Four (Vec F S1x80x512 .f32)} {sa : Four (Vec F S1x512x512 .f32)} {sb : Four (Vec F S1x512x512 .f32)} {out : Vec F S512x256 .bf16} {w : Vec F S1x1x512 .f32}
    {hx : (arg7.access mR1).Stores Finset.univ} {hm : (Finset.univ : Finset mR1.shape.Idx) = Finset.univ ∨ ∀ a, mR1.stride a = 1} :
    Runs (defs₀ (F := F)) c RR (Prog.lift (.store arg7 mR1 w Finset.univ hx hm)) ⟨⟨y0, y1, y2, y3⟩, acc, sa, sb, out⟩ (Is () ⟨⟨y0, w, y2, y3⟩, acc, sa, sb, out⟩) :=
  Runs.store_of (take7 ⟨⟨y0, y1, y2, y3⟩, acc, sa, sb, out⟩ ⟨y0, w, y2, y3⟩) fun f hf => lawM_store1 c arg7 f hf

theorem load7_2 {y0 y1 y2 y3 : Vec F S1x1x512 .f32} {acc : Four (Vec F S1x80x512 .f32)} {sa : Four (Vec F S1x512x512 .f32)} {sb : Four (Vec F S1x512x512 .f32)} {out : Vec F S512x256 .bf16} {hl : arg7.view.LoadsAt mR2.toLoadRect} :
    Runs (defs₀ (F := F)) c RR (Prog.lift (.load arg7 mR2.toLoadRect hl)) ⟨⟨y0, y1, y2, y3⟩, acc, sa, sb, out⟩ (Is y2 ⟨⟨y0, y1, y2, y3⟩, acc, sa, sb, out⟩) :=
  Runs.load_of (take7 _ ⟨y0, y1, y2, y3⟩) fun f hf => hf.2.2.1

theorem store7_2 {y0 y1 y2 y3 : Vec F S1x1x512 .f32} {acc : Four (Vec F S1x80x512 .f32)} {sa : Four (Vec F S1x512x512 .f32)} {sb : Four (Vec F S1x512x512 .f32)} {out : Vec F S512x256 .bf16} {w : Vec F S1x1x512 .f32}
    {hx : (arg7.access mR2).Stores Finset.univ} {hm : (Finset.univ : Finset mR2.shape.Idx) = Finset.univ ∨ ∀ a, mR2.stride a = 1} :
    Runs (defs₀ (F := F)) c RR (Prog.lift (.store arg7 mR2 w Finset.univ hx hm)) ⟨⟨y0, y1, y2, y3⟩, acc, sa, sb, out⟩ (Is () ⟨⟨y0, y1, w, y3⟩, acc, sa, sb, out⟩) :=
  Runs.store_of (take7 ⟨⟨y0, y1, y2, y3⟩, acc, sa, sb, out⟩ ⟨y0, y1, w, y3⟩) fun f hf => lawM_store2 c arg7 f hf

theorem load7_3 {y0 y1 y2 y3 : Vec F S1x1x512 .f32} {acc : Four (Vec F S1x80x512 .f32)} {sa : Four (Vec F S1x512x512 .f32)} {sb : Four (Vec F S1x512x512 .f32)} {out : Vec F S512x256 .bf16} {hl : arg7.view.LoadsAt mR3.toLoadRect} :
    Runs (defs₀ (F := F)) c RR (Prog.lift (.load arg7 mR3.toLoadRect hl)) ⟨⟨y0, y1, y2, y3⟩, acc, sa, sb, out⟩ (Is y3 ⟨⟨y0, y1, y2, y3⟩, acc, sa, sb, out⟩) :=
  Runs.load_of (take7 _ ⟨y0, y1, y2, y3⟩) fun f hf => hf.2.2.2

theorem store7_3 {y0 y1 y2 y3 : Vec F S1x1x512 .f32} {acc : Four (Vec F S1x80x512 .f32)} {sa : Four (Vec F S1x512x512 .f32)} {sb : Four (Vec F S1x512x512 .f32)} {out : Vec F S512x256 .bf16} {w : Vec F S1x1x512 .f32}
    {hx : (arg7.access mR3).Stores Finset.univ} {hm : (Finset.univ : Finset mR3.shape.Idx) = Finset.univ ∨ ∀ a, mR3.stride a = 1} :
    Runs (defs₀ (F := F)) c RR (Prog.lift (.store arg7 mR3 w Finset.univ hx hm)) ⟨⟨y0, y1, y2, y3⟩, acc, sa, sb, out⟩ (Is () ⟨⟨y0, y1, y2, w⟩, acc, sa, sb, out⟩) :=
  Runs.store_of (take7 ⟨⟨y0, y1, y2, y3⟩, acc, sa, sb, out⟩ ⟨y0, y1, y2, w⟩) fun f hf => lawM_store3 c arg7 f hf

theorem load8_0 {y0 y1 y2 y3 : Vec F S1x80x512 .f32} {m : Four (Vec F S1x1x512 .f32)} {sa : Four (Vec F S1x512x512 .f32)} {sb : Four (Vec F S1x512x512 .f32)} {out : Vec F S512x256 .bf16} {hl : arg8.view.LoadsAt aR0.toLoadRect} :
    Runs (defs₀ (F := F)) c RR (Prog.lift (.load arg8 aR0.toLoadRect hl)) ⟨m, ⟨y0, y1, y2, y3⟩, sa, sb, out⟩ (Is y0 ⟨m, ⟨y0, y1, y2, y3⟩, sa, sb, out⟩) :=
  Runs.load_of (take8 _ ⟨y0, y1, y2, y3⟩) fun f hf => hf.1

theorem store8_0 {y0 y1 y2 y3 : Vec F S1x80x512 .f32} {m : Four (Vec F S1x1x512 .f32)} {sa : Four (Vec F S1x512x512 .f32)} {sb : Four (Vec F S1x512x512 .f32)} {out : Vec F S512x256 .bf16} {w : Vec F S1x80x512 .f32}
    {hx : (arg8.access aR0).Stores Finset.univ} {hm : (Finset.univ : Finset aR0.shape.Idx) = Finset.univ ∨ ∀ a, aR0.stride a = 1} :
    Runs (defs₀ (F := F)) c RR (Prog.lift (.store arg8 aR0 w Finset.univ hx hm)) ⟨m, ⟨y0, y1, y2, y3⟩, sa, sb, out⟩ (Is () ⟨m, ⟨w, y1, y2, y3⟩, sa, sb, out⟩) :=
  Runs.store_of (take8 ⟨m, ⟨y0, y1, y2, y3⟩, sa, sb, out⟩ ⟨w, y1, y2, y3⟩) fun f hf => lawA_store0 c arg8 f hf

theorem load8_1 {y0 y1 y2 y3 : Vec F S1x80x512 .f32} {m : Four (Vec F S1x1x512 .f32)} {sa : Four (Vec F S1x512x512 .f32)} {sb : Four (Vec F S1x512x512 .f32)} {out : Vec F S512x256 .bf16} {hl : arg8.view.LoadsAt aR1.toLoadRect} :
    Runs (defs₀ (F := F)) c RR (Prog.lift (.load arg8 aR1.toLoadRect hl)) ⟨m, ⟨y0, y1, y2, y3⟩, sa, sb, out⟩ (Is y1 ⟨m, ⟨y0, y1, y2, y3⟩, sa, sb, out⟩) :=
  Runs.load_of (take8 _ ⟨y0, y1, y2, y3⟩) fun f hf => hf.2.1

theorem store8_1 {y0 y1 y2 y3 : Vec F S1x80x512 .f32} {m : Four (Vec F S1x1x512 .f32)} {sa : Four (Vec F S1x512x512 .f32)} {sb : Four (Vec F S1x512x512 .f32)} {out : Vec F S512x256 .bf16} {w : Vec F S1x80x512 .f32}
    {hx : (arg8.access aR1).Stores Finset.univ} {hm : (Finset.univ : Finset aR1.shape.Idx) = Finset.univ ∨ ∀ a, aR1.stride a = 1} :
    Runs (defs₀ (F := F)) c RR (Prog.lift (.store arg8 aR1 w Finset.univ hx hm)) ⟨m, ⟨y0, y1, y2, y3⟩, sa, sb, out⟩ (Is () ⟨m, ⟨y0, w, y2, y3⟩, sa, sb, out⟩) :=
  Runs.store_of (take8 ⟨m, ⟨y0, y1, y2, y3⟩, sa, sb, out⟩ ⟨y0, w, y2, y3⟩) fun f hf => lawA_store1 c arg8 f hf

theorem load8_2 {y0 y1 y2 y3 : Vec F S1x80x512 .f32} {m : Four (Vec F S1x1x512 .f32)} {sa : Four (Vec F S1x512x512 .f32)} {sb : Four (Vec F S1x512x512 .f32)} {out : Vec F S512x256 .bf16} {hl : arg8.view.LoadsAt aR2.toLoadRect} :
    Runs (defs₀ (F := F)) c RR (Prog.lift (.load arg8 aR2.toLoadRect hl)) ⟨m, ⟨y0, y1, y2, y3⟩, sa, sb, out⟩ (Is y2 ⟨m, ⟨y0, y1, y2, y3⟩, sa, sb, out⟩) :=
  Runs.load_of (take8 _ ⟨y0, y1, y2, y3⟩) fun f hf => hf.2.2.1

theorem store8_2 {y0 y1 y2 y3 : Vec F S1x80x512 .f32} {m : Four (Vec F S1x1x512 .f32)} {sa : Four (Vec F S1x512x512 .f32)} {sb : Four (Vec F S1x512x512 .f32)} {out : Vec F S512x256 .bf16} {w : Vec F S1x80x512 .f32}
    {hx : (arg8.access aR2).Stores Finset.univ} {hm : (Finset.univ : Finset aR2.shape.Idx) = Finset.univ ∨ ∀ a, aR2.stride a = 1} :
    Runs (defs₀ (F := F)) c RR (Prog.lift (.store arg8 aR2 w Finset.univ hx hm)) ⟨m, ⟨y0, y1, y2, y3⟩, sa, sb, out⟩ (Is () ⟨m, ⟨y0, y1, w, y3⟩, sa, sb, out⟩) :=
  Runs.store_of (take8 ⟨m, ⟨y0, y1, y2, y3⟩, sa, sb, out⟩ ⟨y0, y1, w, y3⟩) fun f hf => lawA_store2 c arg8 f hf

theorem load8_3 {y0 y1 y2 y3 : Vec F S1x80x512 .f32} {m : Four (Vec F S1x1x512 .f32)} {sa : Four (Vec F S1x512x512 .f32)} {sb : Four (Vec F S1x512x512 .f32)} {out : Vec F S512x256 .bf16} {hl : arg8.view.LoadsAt aR3.toLoadRect} :
    Runs (defs₀ (F := F)) c RR (Prog.lift (.load arg8 aR3.toLoadRect hl)) ⟨m, ⟨y0, y1, y2, y3⟩, sa, sb, out⟩ (Is y3 ⟨m, ⟨y0, y1, y2, y3⟩, sa, sb, out⟩) :=
  Runs.load_of (take8 _ ⟨y0, y1, y2, y3⟩) fun f hf => hf.2.2.2

theorem store8_3 {y0 y1 y2 y3 : Vec F S1x80x512 .f32} {m : Four (Vec F S1x1x512 .f32)} {sa : Four (Vec F S1x512x512 .f32)} {sb : Four (Vec F S1x512x512 .f32)} {out : Vec F S512x256 .bf16} {w : Vec F S1x80x512 .f32}
    {hx : (arg8.access aR3).Stores Finset.univ} {hm : (Finset.univ : Finset aR3.shape.Idx) = Finset.univ ∨ ∀ a, aR3.stride a = 1} :
    Runs (defs₀ (F := F)) c RR (Prog.lift (.store arg8 aR3 w Finset.univ hx hm)) ⟨m, ⟨y0, y1, y2, y3⟩, sa, sb, out⟩ (Is () ⟨m, ⟨y0, y1, y2, w⟩, sa, sb, out⟩) :=
  Runs.store_of (take8 ⟨m, ⟨y0, y1, y2, y3⟩, sa, sb, out⟩ ⟨y0, y1, y2, w⟩) fun f hf => lawA_store3 c arg8 f hf

theorem load9_0 {y0 y1 y2 y3 : Vec F S1x512x512 .f32} {m : Four (Vec F S1x1x512 .f32)} {acc : Four (Vec F S1x80x512 .f32)} {sb : Four (Vec F S1x512x512 .f32)} {out : Vec F S512x256 .bf16} {hl : arg9.view.LoadsAt sR0.toLoadRect} :
    Runs (defs₀ (F := F)) c RR (Prog.lift (.load arg9 sR0.toLoadRect hl)) ⟨m, acc, ⟨y0, y1, y2, y3⟩, sb, out⟩ (Is y0 ⟨m, acc, ⟨y0, y1, y2, y3⟩, sb, out⟩) :=
  Runs.load_of (take9 _ ⟨y0, y1, y2, y3⟩) fun f hf => hf.1

theorem store9_0 {y0 y1 y2 y3 : Vec F S1x512x512 .f32} {m : Four (Vec F S1x1x512 .f32)} {acc : Four (Vec F S1x80x512 .f32)} {sb : Four (Vec F S1x512x512 .f32)} {out : Vec F S512x256 .bf16} {w : Vec F S1x512x512 .f32}
    {hx : (arg9.access sR0).Stores Finset.univ} {hm : (Finset.univ : Finset sR0.shape.Idx) = Finset.univ ∨ ∀ a, sR0.stride a = 1} :
    Runs (defs₀ (F := F)) c RR (Prog.lift (.store arg9 sR0 w Finset.univ hx hm)) ⟨m, acc, ⟨y0, y1, y2, y3⟩, sb, out⟩ (Is () ⟨m, acc, ⟨w, y1, y2, y3⟩, sb, out⟩) :=
  Runs.store_of (take9 ⟨m, acc, ⟨y0, y1, y2, y3⟩, sb, out⟩ ⟨w, y1, y2, y3⟩) fun f hf => lawS_store0 c arg9 f hf

theorem load9_1 {y0 y1 y2 y3 : Vec F S1x512x512 .f32} {m : Four (Vec F S1x1x512 .f32)} {acc : Four (Vec F S1x80x512 .f32)} {sb : Four (Vec F S1x512x512 .f32)} {out : Vec F S512x256 .bf16} {hl : arg9.view.LoadsAt sR1.toLoadRect} :
    Runs (defs₀ (F := F)) c RR (Prog.lift (.load arg9 sR1.toLoadRect hl)) ⟨m, acc, ⟨y0, y1, y2, y3⟩, sb, out⟩ (Is y1 ⟨m, acc, ⟨y0, y1, y2, y3⟩, sb, out⟩) :=
  Runs.load_of (take9 _ ⟨y0, y1, y2, y3⟩) fun f hf => hf.2.1

theorem store9_1 {y0 y1 y2 y3 : Vec F S1x512x512 .f32} {m : Four (Vec F S1x1x512 .f32)} {acc : Four (Vec F S1x80x512 .f32)} {sb : Four (Vec F S1x512x512 .f32)} {out : Vec F S512x256 .bf16} {w : Vec F S1x512x512 .f32}
    {hx : (arg9.access sR1).Stores Finset.univ} {hm : (Finset.univ : Finset sR1.shape.Idx) = Finset.univ ∨ ∀ a, sR1.stride a = 1} :
    Runs (defs₀ (F := F)) c RR (Prog.lift (.store arg9 sR1 w Finset.univ hx hm)) ⟨m, acc, ⟨y0, y1, y2, y3⟩, sb, out⟩ (Is () ⟨m, acc, ⟨y0, w, y2, y3⟩, sb, out⟩) :=
  Runs.store_of (take9 ⟨m, acc, ⟨y0, y1, y2, y3⟩, sb, out⟩ ⟨y0, w, y2, y3⟩) fun f hf => lawS_store1 c arg9 f hf

theorem load9_2 {y0 y1 y2 y3 : Vec F S1x512x512 .f32} {m : Four (Vec F S1x1x512 .f32)} {acc : Four (Vec F S1x80x512 .f32)} {sb : Four (Vec F S1x512x512 .f32)} {out : Vec F S512x256 .bf16} {hl : arg9.view.LoadsAt sR2.toLoadRect} :
    Runs (defs₀ (F := F)) c RR (Prog.lift (.load arg9 sR2.toLoadRect hl)) ⟨m, acc, ⟨y0, y1, y2, y3⟩, sb, out⟩ (Is y2 ⟨m, acc, ⟨y0, y1, y2, y3⟩, sb, out⟩) :=
  Runs.load_of (take9 _ ⟨y0, y1, y2, y3⟩) fun f hf => hf.2.2.1

theorem store9_2 {y0 y1 y2 y3 : Vec F S1x512x512 .f32} {m : Four (Vec F S1x1x512 .f32)} {acc : Four (Vec F S1x80x512 .f32)} {sb : Four (Vec F S1x512x512 .f32)} {out : Vec F S512x256 .bf16} {w : Vec F S1x512x512 .f32}
    {hx : (arg9.access sR2).Stores Finset.univ} {hm : (Finset.univ : Finset sR2.shape.Idx) = Finset.univ ∨ ∀ a, sR2.stride a = 1} :
    Runs (defs₀ (F := F)) c RR (Prog.lift (.store arg9 sR2 w Finset.univ hx hm)) ⟨m, acc, ⟨y0, y1, y2, y3⟩, sb, out⟩ (Is () ⟨m, acc, ⟨y0, y1, w, y3⟩, sb, out⟩) :=
  Runs.store_of (take9 ⟨m, acc, ⟨y0, y1, y2, y3⟩, sb, out⟩ ⟨y0, y1, w, y3⟩) fun f hf => lawS_store2 c arg9 f hf

theorem load9_3 {y0 y1 y2 y3 : Vec F S1x512x512 .f32} {m : Four (Vec F S1x1x512 .f32)} {acc : Four (Vec F S1x80x512 .f32)} {sb : Four (Vec F S1x512x512 .f32)} {out : Vec F S512x256 .bf16} {hl : arg9.view.LoadsAt sR3.toLoadRect} :
    Runs (defs₀ (F := F)) c RR (Prog.lift (.load arg9 sR3.toLoadRect hl)) ⟨m, acc, ⟨y0, y1, y2, y3⟩, sb, out⟩ (Is y3 ⟨m, acc, ⟨y0, y1, y2, y3⟩, sb, out⟩) :=
  Runs.load_of (take9 _ ⟨y0, y1, y2, y3⟩) fun f hf => hf.2.2.2

theorem store9_3 {y0 y1 y2 y3 : Vec F S1x512x512 .f32} {m : Four (Vec F S1x1x512 .f32)} {acc : Four (Vec F S1x80x512 .f32)} {sb : Four (Vec F S1x512x512 .f32)} {out : Vec F S512x256 .bf16} {w : Vec F S1x512x512 .f32}
    {hx : (arg9.access sR3).Stores Finset.univ} {hm : (Finset.univ : Finset sR3.shape.Idx) = Finset.univ ∨ ∀ a, sR3.stride a = 1} :
    Runs (defs₀ (F := F)) c RR (Prog.lift (.store arg9 sR3 w Finset.univ hx hm)) ⟨m, acc, ⟨y0, y1, y2, y3⟩, sb, out⟩ (Is () ⟨m, acc, ⟨y0, y1, y2, w⟩, sb, out⟩) :=
  Runs.store_of (take9 ⟨m, acc, ⟨y0, y1, y2, y3⟩, sb, out⟩ ⟨y0, y1, y2, w⟩) fun f hf => lawS_store3 c arg9 f hf

theorem load10_0 {y0 y1 y2 y3 : Vec F S1x512x512 .f32} {m : Four (Vec F S1x1x512 .f32)} {acc : Four (Vec F S1x80x512 .f32)} {sa : Four (Vec F S1x512x512 .f32)} {out : Vec F S512x256 .bf16} {hl : arg10.view.LoadsAt sR0.toLoadRect} :
    Runs (defs₀ (F := F)) c RR (Prog.lift (.load arg10 sR0.toLoadRect hl)) ⟨m, acc, sa, ⟨y0, y1, y2, y3⟩, out⟩ (Is y0 ⟨m, acc, sa, ⟨y0, y1, y2, y3⟩, out⟩) :=
  Runs.load_of (take10 _ ⟨y0, y1, y2, y3⟩) fun f hf => hf.1

theorem store10_0 {y0 y1 y2 y3 : Vec F S1x512x512 .f32} {m : Four (Vec F S1x1x512 .f32)} {acc : Four (Vec F S1x80x512 .f32)} {sa : Four (Vec F S1x512x512 .f32)} {out : Vec F S512x256 .bf16} {w : Vec F S1x512x512 .f32}
    {hx : (arg10.access sR0).Stores Finset.univ} {hm : (Finset.univ : Finset sR0.shape.Idx) = Finset.univ ∨ ∀ a, sR0.stride a = 1} :
    Runs (defs₀ (F := F)) c RR (Prog.lift (.store arg10 sR0 w Finset.univ hx hm)) ⟨m, acc, sa, ⟨y0, y1, y2, y3⟩, out⟩ (Is () ⟨m, acc, sa, ⟨w, y1, y2, y3⟩, out⟩) :=
  Runs.store_of (take10 ⟨m, acc, sa, ⟨y0, y1, y2, y3⟩, out⟩ ⟨w, y1, y2, y3⟩) fun f hf => lawS_store0 c arg10 f hf

theorem load10_1 {y0 y1 y2 y3 : Vec F S1x512x512 .f32} {m : Four (Vec F S1x1x512 .f32)} {acc : Four (Vec F S1x80x512 .f32)} {sa : Four (Vec F S1x512x512 .f32)} {out : Vec F S512x256 .bf16} {hl : arg10.view.LoadsAt sR1.toLoadRect} :
    Runs (defs₀ (F := F)) c RR (Prog.lift (.load arg10 sR1.toLoadRect hl)) ⟨m, acc, sa, ⟨y0, y1, y2, y3⟩, out⟩ (Is y1 ⟨m, acc, sa, ⟨y0, y1, y2, y3⟩, out⟩) :=
  Runs.load_of (take10 _ ⟨y0, y1, y2, y3⟩) fun f hf => hf.2.1

theorem store10_1 {y0 y1 y2 y3 : Vec F S1x512x512 .f32} {m : Four (Vec F S1x1x512 .f32)} {acc : Four (Vec F S1x80x512 .f32)} {sa : Four (Vec F S1x512x512 .f32)} {out : Vec F S512x256 .bf16} {w : Vec F S1x512x512 .f32}
    {hx : (arg10.access sR1).Stores Finset.univ} {hm : (Finset.univ : Finset sR1.shape.Idx) = Finset.univ ∨ ∀ a, sR1.stride a = 1} :
    Runs (defs₀ (F := F)) c RR (Prog.lift (.store arg10 sR1 w Finset.univ hx hm)) ⟨m, acc, sa, ⟨y0, y1, y2, y3⟩, out⟩ (Is () ⟨m, acc, sa, ⟨y0, w, y2, y3⟩, out⟩) :=
  Runs.store_of (take10 ⟨m, acc, sa, ⟨y0, y1, y2, y3⟩, out⟩ ⟨y0, w, y2, y3⟩) fun f hf => lawS_store1 c arg10 f hf

theorem load10_2 {y0 y1 y2 y3 : Vec F S1x512x512 .f32} {m : Four (Vec F S1x1x512 .f32)} {acc : Four (Vec F S1x80x512 .f32)} {sa : Four (Vec F S1x512x512 .f32)} {out : Vec F S512x256 .bf16} {hl : arg10.view.LoadsAt sR2.toLoadRect} :
    Runs (defs₀ (F := F)) c RR (Prog.lift (.load arg10 sR2.toLoadRect hl)) ⟨m, acc, sa, ⟨y0, y1, y2, y3⟩, out⟩ (Is y2 ⟨m, acc, sa, ⟨y0, y1, y2, y3⟩, out⟩) :=
  Runs.load_of (take10 _ ⟨y0, y1, y2, y3⟩) fun f hf => hf.2.2.1

theorem store10_2 {y0 y1 y2 y3 : Vec F S1x512x512 .f32} {m : Four (Vec F S1x1x512 .f32)} {acc : Four (Vec F S1x80x512 .f32)} {sa : Four (Vec F S1x512x512 .f32)} {out : Vec F S512x256 .bf16} {w : Vec F S1x512x512 .f32}
    {hx : (arg10.access sR2).Stores Finset.univ} {hm : (Finset.univ : Finset sR2.shape.Idx) = Finset.univ ∨ ∀ a, sR2.stride a = 1} :
    Runs (defs₀ (F := F)) c RR (Prog.lift (.store arg10 sR2 w Finset.univ hx hm)) ⟨m, acc, sa, ⟨y0, y1, y2, y3⟩, out⟩ (Is () ⟨m, acc, sa, ⟨y0, y1, w, y3⟩, out⟩) :=
  Runs.store_of (take10 ⟨m, acc, sa, ⟨y0, y1, y2, y3⟩, out⟩ ⟨y0, y1, w, y3⟩) fun f hf => lawS_store2 c arg10 f hf

theorem load10_3 {y0 y1 y2 y3 : Vec F S1x512x512 .f32} {m : Four (Vec F S1x1x512 .f32)} {acc : Four (Vec F S1x80x512 .f32)} {sa : Four (Vec F S1x512x512 .f32)} {out : Vec F S512x256 .bf16} {hl : arg10.view.LoadsAt sR3.toLoadRect} :
    Runs (defs₀ (F := F)) c RR (Prog.lift (.load arg10 sR3.toLoadRect hl)) ⟨m, acc, sa, ⟨y0, y1, y2, y3⟩, out⟩ (Is y3 ⟨m, acc, sa, ⟨y0, y1, y2, y3⟩, out⟩) :=
  Runs.load_of (take10 _ ⟨y0, y1, y2, y3⟩) fun f hf => hf.2.2.2

theorem store10_3 {y0 y1 y2 y3 : Vec F S1x512x512 .f32} {m : Four (Vec F S1x1x512 .f32)} {acc : Four (Vec F S1x80x512 .f32)} {sa : Four (Vec F S1x512x512 .f32)} {out : Vec F S512x256 .bf16} {w : Vec F S1x512x512 .f32}
    {hx : (arg10.access sR3).Stores Finset.univ} {hm : (Finset.univ : Finset sR3.shape.Idx) = Finset.univ ∨ ∀ a, sR3.stride a = 1} :
    Runs (defs₀ (F := F)) c RR (Prog.lift (.store arg10 sR3 w Finset.univ hx hm)) ⟨m, acc, sa, ⟨y0, y1, y2, y3⟩, out⟩ (Is () ⟨m, acc, sa, ⟨y0, y1, y2, w⟩, out⟩) :=
  Runs.store_of (take10 ⟨m, acc, sa, ⟨y0, y1, y2, y3⟩, out⟩ ⟨y0, y1, y2, w⟩) fun f hf => lawS_store3 c arg10 f hf

theorem whole7 (hi : ∀ a, (![0, 0, 0] : Fin 3 → Nat) a + S4x1x512.size a ≤ S4x1x512.size a) (x : S4x1x512.Idx) :
    (Rect.unit (s := S4x1x512) ![0, 0, 0] S4x1x512.size hi).idx x = x :=
  funext fun a => Fin.ext (by
    show (![0, 0, 0] : Fin 3 → Nat) a + 1 * (x a).val = (x a).val
    have : (![0, 0, 0] : Fin 3 → Nat) a = 0 := by revert a; decide
    omega)

/-- A load of all four heads at once, whatever it reads; -/
theorem loadAll7 {s : St F} {r : LoadRect S4x1x512} {hl : arg7.view.LoadsAt r} :
    Runs (defs₀ (F := F)) c RR (Prog.lift (.load arg7 r hl)) s (fun _ t => t = s) :=
  Runs.load_any (take7 s s.m)

/-- a store of all four. -/
theorem storeAll7 {s : St F} {w : Vec F S4x1x512 .f32} {hi : ∀ a, (![0, 0, 0] : Fin 3 → Nat) a + S4x1x512.size a ≤ S4x1x512.size a}
    {hx : (arg7.access (Rect.unit (s := S4x1x512) ![0, 0, 0] S4x1x512.size hi)).Stores Finset.univ}
    {hm : (Finset.univ : Finset (Rect.unit (s := S4x1x512) ![0, 0, 0] S4x1x512.size hi).shape.Idx) = Finset.univ ∨ ∀ a, (Rect.unit (s := S4x1x512) ![0, 0, 0] S4x1x512.size hi).stride a = 1} :
    Runs (defs₀ (F := F)) c RR (Prog.lift (.store arg7 (Rect.unit (s := S4x1x512) ![0, 0, 0] S4x1x512.size hi) w Finset.univ hx hm)) s
      (Is () { s with m := ⟨View.ld w mR0, View.ld w mR1, View.ld w mR2, View.ld w mR3⟩ }) :=
  Runs.store_of (take7 s ⟨View.ld w mR0, View.ld w mR1, View.ld w mR2, View.ld w mR3⟩) fun f hf => by
    have hw : arg7.view.read (Elt F) ((arg7.access (Rect.unit (s := S4x1x512) ![0, 0, 0] S4x1x512.size hi)).write (Elt F) f w Finset.univ) = w :=
      read_all arg7 (whole7 hi) f w
    refine ⟨?_, ?_, ?_, ?_⟩ <;> exact congrArg (fun X => View.ld X _) hw

theorem whole8 (hi : ∀ a, (![0, 0, 0] : Fin 3 → Nat) a + S4x80x512.size a ≤ S4x80x512.size a) (x : S4x80x512.Idx) :
    (Rect.unit (s := S4x80x512) ![0, 0, 0] S4x80x512.size hi).idx x = x :=
  funext fun a => Fin.ext (by
    show (![0, 0, 0] : Fin 3 → Nat) a + 1 * (x a).val = (x a).val
    have : (![0, 0, 0] : Fin 3 → Nat) a = 0 := by revert a; decide
    omega)

/-- A load of all four heads at once, whatever it reads; -/
theorem loadAll8 {s : St F} {r : LoadRect S4x80x512} {hl : arg8.view.LoadsAt r} :
    Runs (defs₀ (F := F)) c RR (Prog.lift (.load arg8 r hl)) s (fun _ t => t = s) :=
  Runs.load_any (take8 s s.acc)

/-- a store of all four. -/
theorem storeAll8 {s : St F} {w : Vec F S4x80x512 .f32} {hi : ∀ a, (![0, 0, 0] : Fin 3 → Nat) a + S4x80x512.size a ≤ S4x80x512.size a}
    {hx : (arg8.access (Rect.unit (s := S4x80x512) ![0, 0, 0] S4x80x512.size hi)).Stores Finset.univ}
    {hm : (Finset.univ : Finset (Rect.unit (s := S4x80x512) ![0, 0, 0] S4x80x512.size hi).shape.Idx) = Finset.univ ∨ ∀ a, (Rect.unit (s := S4x80x512) ![0, 0, 0] S4x80x512.size hi).stride a = 1} :
    Runs (defs₀ (F := F)) c RR (Prog.lift (.store arg8 (Rect.unit (s := S4x80x512) ![0, 0, 0] S4x80x512.size hi) w Finset.univ hx hm)) s
      (Is () { s with acc := ⟨View.ld w aR0, View.ld w aR1, View.ld w aR2, View.ld w aR3⟩ }) :=
  Runs.store_of (take8 s ⟨View.ld w aR0, View.ld w aR1, View.ld w aR2, View.ld w aR3⟩) fun f hf => by
    have hw : arg8.view.read (Elt F) ((arg8.access (Rect.unit (s := S4x80x512) ![0, 0, 0] S4x80x512.size hi)).write (Elt F) f w Finset.univ) = w :=
      read_all arg8 (whole8 hi) f w
    refine ⟨?_, ?_, ?_, ?_⟩ <;> exact congrArg (fun X => View.ld X _) hw

theorem sub_rows0 (x : S1x64x512.Idx) : aR0.idx (g_rows x) = (Rect.unit (s := S4x80x512) ![0, 0, 0] S1x64x512.size inb_S4x80x512_S1x64x512_0_0_0).idx x := by
  have h1 : (x (0 : Fin 3)).val < 1 := (x (0 : Fin 3)).isLt
  have e0 : (x (0 : Fin 3)).val = 0 := by omega
  funext a
  refine Fin.ext ?_
  fin_cases a
  · exact congrArg (fun n => 0 + 1 * n) e0.symm
  · exact (by omega : 0 + 1 * (0 + (x (1 : Fin 3)).val) = 0 + 1 * (x (1 : Fin 3)).val)
  · rfl

theorem load8_rows0 {y0 y1 y2 y3 : Vec F S1x80x512 .f32} {m : Four (Vec F S1x1x512 .f32)} {sa sb : Four (Vec F S1x512x512 .f32)} {out : Vec F S512x256 .bf16}
    {hl : arg8.view.LoadsAt (Rect.unit (s := S4x80x512) ![0, 0, 0] S1x64x512.size inb_S4x80x512_S1x64x512_0_0_0).toLoadRect} :
    Runs (defs₀ (F := F)) c RR (Prog.lift (.load arg8 (Rect.unit (s := S4x80x512) ![0, 0, 0] S1x64x512.size inb_S4x80x512_S1x64x512_0_0_0).toLoadRect hl))
      ⟨m, ⟨y0, y1, y2, y3⟩, sa, sb, out⟩ (Is (acc_rows y0) ⟨m, ⟨y0, y1, y2, y3⟩, sa, sb, out⟩) :=
  Runs.load_of (take8 _ ⟨y0, y1, y2, y3⟩) fun f hf => readAt_sub arg8 aR0 (Rect.unit (s := S4x80x512) ![0, 0, 0] S1x64x512.size inb_S4x80x512_S1x64x512_0_0_0) g_rows sub_rows0 f _ hf.1

theorem sub_sum0 (x : S1x1x512.Idx) : aR0.idx (g_sum x) = (Rect.unit (s := S4x80x512) ![0, 64, 0] S1x1x512.size inb_S4x80x512_S1x1x512_0_64_0).idx x := by
  have h1 : (x (0 : Fin 3)).val < 1 := (x (0 : Fin 3)).isLt
  have e0 : (x (0 : Fin 3)).val = 0 := by omega
  funext a
  refine Fin.ext ?_
  fin_cases a
  · exact congrArg (fun n => 0 + 1 * n) e0.symm
  · exact (by omega : 0 + 1 * (64 + (x (1 : Fin 3)).val) = 64 + 1 * (x (1 : Fin 3)).val)
  · rfl

theorem load8_sum0 {y0 y1 y2 y3 : Vec F S1x80x512 .f32} {m : Four (Vec F S1x1x512 .f32)} {sa sb : Four (Vec F S1x512x512 .f32)} {out : Vec F S512x256 .bf16}
    {hl : arg8.view.LoadsAt (Rect.unit (s := S4x80x512) ![0, 64, 0] S1x1x512.size inb_S4x80x512_S1x1x512_0_64_0).toLoadRect} :
    Runs (defs₀ (F := F)) c RR (Prog.lift (.load arg8 (Rect.unit (s := S4x80x512) ![0, 64, 0] S1x1x512.size inb_S4x80x512_S1x1x512_0_64_0).toLoadRect hl))
      ⟨m, ⟨y0, y1, y2, y3⟩, sa, sb, out⟩ (Is (acc_sum y0) ⟨m, ⟨y0, y1, y2, y3⟩, sa, sb, out⟩) :=
  Runs.load_of (take8 _ ⟨y0, y1, y2, y3⟩) fun f hf => readAt_sub arg8 aR0 (Rect.unit (s := S4x80x512) ![0, 64, 0] S1x1x512.size inb_S4x80x512_S1x1x512_0_64_0) g_sum sub_sum0 f _ hf.1

theorem sub_rows1 (x : S1x64x512.Idx) : aR1.idx (g_rows x) = (Rect.unit (s := S4x80x512) ![1, 0, 0] S1x64x512.size inb_S4x80x512_S1x64x512_1_0_0).idx x := by
  have h1 : (x (0 : Fin 3)).val < 1 := (x (0 : Fin 3)).isLt
  have e0 : (x (0 : Fin 3)).val = 0 := by omega
  funext a
  refine Fin.ext ?_
  fin_cases a
  · exact congrArg (fun n => 1 + 1 * n) e0.symm
  · exact (by omega : 0 + 1 * (0 + (x (1 : Fin 3)).val) = 0 + 1 * (x (1 : Fin 3)).val)
  · rfl

theorem load8_rows1 {y0 y1 y2 y3 : Vec F S1x80x512 .f32} {m : Four (Vec F S1x1x512 .f32)} {sa sb : Four (Vec F S1x512x512 .f32)} {out : Vec F S512x256 .bf16}
    {hl : arg8.view.LoadsAt (Rect.unit (s := S4x80x512) ![1, 0, 0] S1x64x512.size inb_S4x80x512_S1x64x512_1_0_0).toLoadRect} :
    Runs (defs₀ (F := F)) c RR (Prog.lift (.load arg8 (Rect.unit (s := S4x80x512) ![1, 0, 0] S1x64x512.size inb_S4x80x512_S1x64x512_1_0_0).toLoadRect hl))
      ⟨m, ⟨y0, y1, y2, y3⟩, sa, sb, out⟩ (Is (acc_rows y1) ⟨m, ⟨y0, y1, y2, y3⟩, sa, sb, out⟩) :=
  Runs.load_of (take8 _ ⟨y0, y1, y2, y3⟩) fun f hf => readAt_sub arg8 aR1 (Rect.unit (s := S4x80x512) ![1, 0, 0] S1x64x512.size inb_S4x80x512_S1x64x512_1_0_0) g_rows sub_rows1 f _ hf.2.1

theorem sub_sum1 (x : S1x1x512.Idx) : aR1.idx (g_sum x) = (Rect.unit (s := S4x80x512) ![1, 64, 0] S1x1x512.size inb_S4x80x512_S1x1x512_1_64_0).idx x := by
  have h1 : (x (0 : Fin 3)).val < 1 := (x (0 : Fin 3)).isLt
  have e0 : (x (0 : Fin 3)).val = 0 := by omega
  funext a
  refine Fin.ext ?_
  fin_cases a
  · exact congrArg (fun n => 1 + 1 * n) e0.symm
  · exact (by omega : 0 + 1 * (64 + (x (1 : Fin 3)).val) = 64 + 1 * (x (1 : Fin 3)).val)
  · rfl

theorem load8_sum1 {y0 y1 y2 y3 : Vec F S1x80x512 .f32} {m : Four (Vec F S1x1x512 .f32)} {sa sb : Four (Vec F S1x512x512 .f32)} {out : Vec F S512x256 .bf16}
    {hl : arg8.view.LoadsAt (Rect.unit (s := S4x80x512) ![1, 64, 0] S1x1x512.size inb_S4x80x512_S1x1x512_1_64_0).toLoadRect} :
    Runs (defs₀ (F := F)) c RR (Prog.lift (.load arg8 (Rect.unit (s := S4x80x512) ![1, 64, 0] S1x1x512.size inb_S4x80x512_S1x1x512_1_64_0).toLoadRect hl))
      ⟨m, ⟨y0, y1, y2, y3⟩, sa, sb, out⟩ (Is (acc_sum y1) ⟨m, ⟨y0, y1, y2, y3⟩, sa, sb, out⟩) :=
  Runs.load_of (take8 _ ⟨y0, y1, y2, y3⟩) fun f hf => readAt_sub arg8 aR1 (Rect.unit (s := S4x80x512) ![1, 64, 0] S1x1x512.size inb_S4x80x512_S1x1x512_1_64_0) g_sum sub_sum1 f _ hf.2.1

theorem sub_rows2 (x : S1x64x512.Idx) : aR2.idx (g_rows x) = (Rect.unit (s := S4x80x512) ![2, 0, 0] S1x64x512.size inb_S4x80x512_S1x64x512_2_0_0).idx x := by
  have h1 : (x (0 : Fin 3)).val < 1 := (x (0 : Fin 3)).isLt
  have e0 : (x (0 : Fin 3)).val = 0 := by omega
  funext a
  refine Fin.ext ?_
  fin_cases a
  · exact congrArg (fun n => 2 + 1 * n) e0.symm
  · exact (by omega : 0 + 1 * (0 + (x (1 : Fin 3)).val) = 0 + 1 * (x (1 : Fin 3)).val)
  · rfl

theorem load8_rows2 {y0 y1 y2 y3 : Vec F S1x80x512 .f32} {m : Four (Vec F S1x1x512 .f32)} {sa sb : Four (Vec F S1x512x512 .f32)} {out : Vec F S512x256 .bf16}
    {hl : arg8.view.LoadsAt (Rect.unit (s := S4x80x512) ![2, 0, 0] S1x64x512.size inb_S4x80x512_S1x64x512_2_0_0).toLoadRect} :
    Runs (defs₀ (F := F)) c RR (Prog.lift (.load arg8 (Rect.unit (s := S4x80x512) ![2, 0, 0] S1x64x512.size inb_S4x80x512_S1x64x512_2_0_0).toLoadRect hl))
      ⟨m, ⟨y0, y1, y2, y3⟩, sa, sb, out⟩ (Is (acc_rows y2) ⟨m, ⟨y0, y1, y2, y3⟩, sa, sb, out⟩) :=
  Runs.load_of (take8 _ ⟨y0, y1, y2, y3⟩) fun f hf => readAt_sub arg8 aR2 (Rect.unit (s := S4x80x512) ![2, 0, 0] S1x64x512.size inb_S4x80x512_S1x64x512_2_0_0) g_rows sub_rows2 f _ hf.2.2.1

theorem sub_sum2 (x : S1x1x512.Idx) : aR2.idx (g_sum x) = (Rect.unit (s := S4x80x512) ![2, 64, 0] S1x1x512.size inb_S4x80x512_S1x1x512_2_64_0).idx x := by
  have h1 : (x (0 : Fin 3)).val < 1 := (x (0 : Fin 3)).isLt
  have e0 : (x (0 : Fin 3)).val = 0 := by omega
  funext a
  refine Fin.ext ?_
  fin_cases a
  · exact congrArg (fun n => 2 + 1 * n) e0.symm
  · exact (by omega : 0 + 1 * (64 + (x (1 : Fin 3)).val) = 64 + 1 * (x (1 : Fin 3)).val)
  · rfl

theorem load8_sum2 {y0 y1 y2 y3 : Vec F S1x80x512 .f32} {m : Four (Vec F S1x1x512 .f32)} {sa sb : Four (Vec F S1x512x512 .f32)} {out : Vec F S512x256 .bf16}
    {hl : arg8.view.LoadsAt (Rect.unit (s := S4x80x512) ![2, 64, 0] S1x1x512.size inb_S4x80x512_S1x1x512_2_64_0).toLoadRect} :
    Runs (defs₀ (F := F)) c RR (Prog.lift (.load arg8 (Rect.unit (s := S4x80x512) ![2, 64, 0] S1x1x512.size inb_S4x80x512_S1x1x512_2_64_0).toLoadRect hl))
      ⟨m, ⟨y0, y1, y2, y3⟩, sa, sb, out⟩ (Is (acc_sum y2) ⟨m, ⟨y0, y1, y2, y3⟩, sa, sb, out⟩) :=
  Runs.load_of (take8 _ ⟨y0, y1, y2, y3⟩) fun f hf => readAt_sub arg8 aR2 (Rect.unit (s := S4x80x512) ![2, 64, 0] S1x1x512.size inb_S4x80x512_S1x1x512_2_64_0) g_sum sub_sum2 f _ hf.2.2.1

theorem sub_rows3 (x : S1x64x512.Idx) : aR3.idx (g_rows x) = (Rect.unit (s := S4x80x512) ![3, 0, 0] S1x64x512.size inb_S4x80x512_S1x64x512_3_0_0).idx x := by
  have h1 : (x (0 : Fin 3)).val < 1 := (x (0 : Fin 3)).isLt
  have e0 : (x (0 : Fin 3)).val = 0 := by omega
  funext a
  refine Fin.ext ?_
  fin_cases a
  · exact congrArg (fun n => 3 + 1 * n) e0.symm
  · exact (by omega : 0 + 1 * (0 + (x (1 : Fin 3)).val) = 0 + 1 * (x (1 : Fin 3)).val)
  · rfl

theorem load8_rows3 {y0 y1 y2 y3 : Vec F S1x80x512 .f32} {m : Four (Vec F S1x1x512 .f32)} {sa sb : Four (Vec F S1x512x512 .f32)} {out : Vec F S512x256 .bf16}
    {hl : arg8.view.LoadsAt (Rect.unit (s := S4x80x512) ![3, 0, 0] S1x64x512.size inb_S4x80x512_S1x64x512_3_0_0).toLoadRect} :
    Runs (defs₀ (F := F)) c RR (Prog.lift (.load arg8 (Rect.unit (s := S4x80x512) ![3, 0, 0] S1x64x512.size inb_S4x80x512_S1x64x512_3_0_0).toLoadRect hl))
      ⟨m, ⟨y0, y1, y2, y3⟩, sa, sb, out⟩ (Is (acc_rows y3) ⟨m, ⟨y0, y1, y2, y3⟩, sa, sb, out⟩) :=
  Runs.load_of (take8 _ ⟨y0, y1, y2, y3⟩) fun f hf => readAt_sub arg8 aR3 (Rect.unit (s := S4x80x512) ![3, 0, 0] S1x64x512.size inb_S4x80x512_S1x64x512_3_0_0) g_rows sub_rows3 f _ hf.2.2.2

theorem sub_sum3 (x : S1x1x512.Idx) : aR3.idx (g_sum x) = (Rect.unit (s := S4x80x512) ![3, 64, 0] S1x1x512.size inb_S4x80x512_S1x1x512_3_64_0).idx x := by
  have h1 : (x (0 : Fin 3)).val < 1 := (x (0 : Fin 3)).isLt
  have e0 : (x (0 : Fin 3)).val = 0 := by omega
  funext a
  refine Fin.ext ?_
  fin_cases a
  · exact congrArg (fun n => 3 + 1 * n) e0.symm
  · exact (by omega : 0 + 1 * (64 + (x (1 : Fin 3)).val) = 64 + 1 * (x (1 : Fin 3)).val)
  · rfl

theorem load8_sum3 {y0 y1 y2 y3 : Vec F S1x80x512 .f32} {m : Four (Vec F S1x1x512 .f32)} {sa sb : Four (Vec F S1x512x512 .f32)} {out : Vec F S512x256 .bf16}
    {hl : arg8.view.LoadsAt (Rect.unit (s := S4x80x512) ![3, 64, 0] S1x1x512.size inb_S4x80x512_S1x1x512_3_64_0).toLoadRect} :
    Runs (defs₀ (F := F)) c RR (Prog.lift (.load arg8 (Rect.unit (s := S4x80x512) ![3, 64, 0] S1x1x512.size inb_S4x80x512_S1x1x512_3_64_0).toLoadRect hl))
      ⟨m, ⟨y0, y1, y2, y3⟩, sa, sb, out⟩ (Is (acc_sum y3) ⟨m, ⟨y0, y1, y2, y3⟩, sa, sb, out⟩) :=
  Runs.load_of (take8 _ ⟨y0, y1, y2, y3⟩) fun f hf => readAt_sub arg8 aR3 (Rect.unit (s := S4x80x512) ![3, 64, 0] S1x1x512.size inb_S4x80x512_S1x1x512_3_64_0) g_sum sub_sum3 f _ hf.2.2.2

/-- The load of the output block, whatever it reads, and its store. -/
theorem load6 {s : St F} {r : LoadRect S512x256} {hl : arg6.view.LoadsAt r} :
    Runs (defs₀ (F := F)) c RR (Prog.lift (.load arg6 r hl)) s (fun _ t => t = s) :=
  Runs.load_any (take6 s s.out)

theorem whole6 (hi : ∀ a, (![0, 0] : Fin 2 → Nat) a + S512x256.size a ≤ S512x256.size a) (x : S512x256.Idx) :
    (Rect.unit (s := S512x256) ![0, 0] S512x256.size hi).idx x = x :=
  funext fun a => Fin.ext (by
    show (![0, 0] : Fin 2 → Nat) a + 1 * (x a).val = (x a).val
    have : (![0, 0] : Fin 2 → Nat) a = 0 := by revert a; decide
    omega)

theorem store6 {s : St F} {w : Vec F S512x256 .bf16} {hi : ∀ a, (![0, 0] : Fin 2 → Nat) a + S512x256.size a ≤ S512x256.size a}
    {hx : (arg6.access (Rect.unit (s := S512x256) ![0, 0] S512x256.size hi)).Stores Finset.univ}
    {hm : (Finset.univ : Finset (Rect.unit (s := S512x256) ![0, 0] S512x256.size hi).shape.Idx) = Finset.univ ∨ ∀ a, (Rect.unit (s := S512x256) ![0, 0] S512x256.size hi).stride a = 1} :
    Runs (defs₀ (F := F)) c RR (Prog.lift (.store arg6 (Rect.unit (s := S512x256) ![0, 0] S512x256.size hi) w Finset.univ hx hm)) s
      (Is () { s with out := w }) :=
  Runs.store_of (take6 s w) fun f hf => read_all arg6 (whole6 hi) f w

end

end Cert.Mla
end
-- ==== Proof.MlaSched.lean ====
/-
  The loop and the offsets of the causal attention, in plain numbers: how many trips the loop over the earlier key tiles
  makes, and where in the key and value blocks each load starts.
-/
module

public import proofs.«01_k».proof.Proof.Gen.Kernel4Ideal.Skeleton

@[expose] public section

set_option maxRecDepth 16384

noncomputable section

namespace Cert.Mla

open Cert.Kernel4Ideal Cert.Kernel4Ideal.Gen
open Idealize.ShloMosaic Idealize.SL.Sem

theorem trips1 (i : grid0.Coords) : (k0_t1_loop i).trips = (i 2).val / 2 := by
  unfold k0_t1_loop
  generalize i 2 = n
  revert n
  show ∀ n : Fin 8, _
  decide +kernel

theorem trips2 (i : grid0.Coords) : (k0_t2_loop i).trips = 0 := by
  unfold k0_t2_loop
  generalize i 2 = n
  revert n
  show ∀ n : Fin 8, _
  decide +kernel

theorem cond1 (i : grid0.Coords) : k0_cond1 i = 1#1 ↔ (i 2).val % 2 = 1 := by
  unfold k0_cond1
  generalize i 2 = n
  revert n
  show ∀ n : Fin 8, _
  decide +kernel

theorem off1 (i : grid0.Coords) : k0_off1 i = ![512 * (i 2).val, 128 * 0] := by
  unfold k0_off1
  generalize i 2 = n
  revert n
  show ∀ n : Fin 8, _
  decide +kernel

theorem off5 (i : grid0.Coords) : k0_off5 i = ![(i 2).val, 64 * 0, 0] := by
  unfold k0_off5
  generalize i 2 = n
  revert n
  show ∀ n : Fin 8, _
  decide +kernel

theorem off33 (i : grid0.Coords) (h : 0 < (i 2).val) : k0_off33 i = ![(i 2).val - 1, 64 * 0, 0] := by
  unfold k0_off33
  revert h
  generalize i 2 = n
  revert n
  show ∀ n : Fin 8, _
  decide +kernel

theorem off2 (i : grid0.Coords) : k0_off2 i = ![512 * (i 2).val, 128 * 1] := by
  unfold k0_off2
  generalize i 2 = n
  revert n
  show ∀ n : Fin 8, _
  decide +kernel

theorem off6 (i : grid0.Coords) : k0_off6 i = ![(i 2).val, 64 * 1, 0] := by
  unfold k0_off6
  generalize i 2 = n
  revert n
  show ∀ n : Fin 8, _
  decide +kernel

theorem off34 (i : grid0.Coords) (h : 0 < (i 2).val) : k0_off34 i = ![(i 2).val - 1, 64 * 1, 0] := by
  unfold k0_off34
  revert h
  generalize i 2 = n
  revert n
  show ∀ n : Fin 8, _
  decide +kernel

theorem off3 (i : grid0.Coords) : k0_off3 i = ![512 * (i 2).val, 128 * 2] := by
  unfold k0_off3
  generalize i 2 = n
  revert n
  show ∀ n : Fin 8, _
  decide +kernel

theorem off7 (i : grid0.Coords) : k0_off7 i = ![(i 2).val, 64 * 2, 0] := by
  unfold k0_off7
  generalize i 2 = n
  revert n
  show ∀ n : Fin 8, _
  decide +kernel

theorem off35 (i : grid0.Coords) (h : 0 < (i 2).val) : k0_off35 i = ![(i 2).val - 1, 64 * 2, 0] := by
  unfold k0_off35
  revert h
  generalize i 2 = n
  revert n
  show ∀ n : Fin 8, _
  decide +kernel

theorem off4 (i : grid0.Coords) : k0_off4 i = ![512 * (i 2).val, 128 * 3] := by
  unfold k0_off4
  generalize i 2 = n
  revert n
  show ∀ n : Fin 8, _
  decide +kernel

theorem off8 (i : grid0.Coords) : k0_off8 i = ![(i 2).val, 64 * 3, 0] := by
  unfold k0_off8
  generalize i 2 = n
  revert n
  show ∀ n : Fin 8, _
  decide +kernel

theorem off36 (i : grid0.Coords) (h : 0 < (i 2).val) : k0_off36 i = ![(i 2).val - 1, 64 * 3, 0] := by
  unfold k0_off36
  revert h
  generalize i 2 = n
  revert n
  show ∀ n : Fin 8, _
  decide +kernel

theorem t_lt {i : grid0.Coords} (t : Fin (k0_t1_loop i).trips) : t.val < 4 := by
  have h := t.isLt
  have h2 := trips1 i
  have h3 : (i 2).val < 8 := (i 2).isLt
  omega

theorem off9_1 (i : grid0.Coords) (t : Fin (k0_t1_loop i).trips) : k0_off9 i t 1#32 = ![512 * (2 * t.val + 1), 128 * 0] := by
  have h := t_lt t
  unfold k0_off9 Scf.iv
  generalize t.val = n at h ⊢
  interval_cases n <;> decide +kernel

theorem off9_2 (i : grid0.Coords) (t : Fin (k0_t1_loop i).trips) : k0_off9 i t 2#32 = ![512 * (2 * t.val + 2), 128 * 0] := by
  have h := t_lt t
  unfold k0_off9 Scf.iv
  generalize t.val = n at h ⊢
  interval_cases n <;> decide +kernel

theorem off10 (i : grid0.Coords) (t : Fin (k0_t1_loop i).trips) : k0_off10 i t = ![2 * t.val, 64 * 0, 0] := by
  have h := t_lt t
  unfold k0_off10 Scf.iv
  generalize t.val = n at h ⊢
  interval_cases n <;> decide +kernel

theorem off17 (i : grid0.Coords) (t : Fin (k0_t1_loop i).trips) : k0_off17 i t = ![2 * t.val + 1, 64 * 0, 0] := by
  have h := t_lt t
  unfold k0_off17 Scf.iv
  generalize t.val = n at h ⊢
  interval_cases n <;> decide +kernel

theorem off11_1 (i : grid0.Coords) (t : Fin (k0_t1_loop i).trips) : k0_off11 i t 1#32 = ![512 * (2 * t.val + 1), 128 * 1] := by
  have h := t_lt t
  unfold k0_off11 Scf.iv
  generalize t.val = n at h ⊢
  interval_cases n <;> decide +kernel

theorem off11_2 (i : grid0.Coords) (t : Fin (k0_t1_loop i).trips) : k0_off11 i t 2#32 = ![512 * (2 * t.val + 2), 128 * 1] := by
  have h := t_lt t
  unfold k0_off11 Scf.iv
  generalize t.val = n at h ⊢
  interval_cases n <;> decide +kernel

theorem off12 (i : grid0.Coords) (t : Fin (k0_t1_loop i).trips) : k0_off12 i t = ![2 * t.val, 64 * 1, 0] := by
  have h := t_lt t
  unfold k0_off12 Scf.iv
  generalize t.val = n at h ⊢
  interval_cases n <;> decide +kernel

theorem off18 (i : grid0.Coords) (t : Fin (k0_t1_loop i).trips) : k0_off18 i t = ![2 * t.val + 1, 64 * 1, 0] := by
  have h := t_lt t
  unfold k0_off18 Scf.iv
  generalize t.val = n at h ⊢
  interval_cases n <;> decide +kernel

theorem off13_1 (i : grid0.Coords) (t : Fin (k0_t1_loop i).trips) : k0_off13 i t 1#32 = ![512 * (2 * t.val + 1), 128 * 2] := by
  have h := t_lt t
  unfold k0_off13 Scf.iv
  generalize t.val = n at h ⊢
  interval_cases n <;> decide +kernel

theorem off13_2 (i : grid0.Coords) (t : Fin (k0_t1_loop i).trips) : k0_off13 i t 2#32 = ![512 * (2 * t.val + 2), 128 * 2] := by
  have h := t_lt t
  unfold k0_off13 Scf.iv
  generalize t.val = n at h ⊢
  interval_cases n <;> decide +kernel

theorem off14 (i : grid0.Coords) (t : Fin (k0_t1_loop i).trips) : k0_off14 i t = ![2 * t.val, 64 * 2, 0] := by
  have h := t_lt t
  unfold k0_off14 Scf.iv
  generalize t.val = n at h ⊢
  interval_cases n <;> decide +kernel

theorem off19 (i : grid0.Coords) (t : Fin (k0_t1_loop i).trips) : k0_off19 i t = ![2 * t.val + 1, 64 * 2, 0] := by
  have h := t_lt t
  unfold k0_off19 Scf.iv
  generalize t.val = n at h ⊢
  interval_cases n <;> decide +kernel

theorem off15_1 (i : grid0.Coords) (t : Fin (k0_t1_loop i).trips) : k0_off15 i t 1#32 = ![512 * (2 * t.val + 1), 128 * 3] := by
  have h := t_lt t
  unfold k0_off15 Scf.iv
  generalize t.val = n at h ⊢
  interval_cases n <;> decide +kernel

theorem off15_2 (i : grid0.Coords) (t : Fin (k0_t1_loop i).trips) : k0_off15 i t 2#32 = ![512 * (2 * t.val + 2), 128 * 3] := by
  have h := t_lt t
  unfold k0_off15 Scf.iv
  generalize t.val = n at h ⊢
  interval_cases n <;> decide +kernel

theorem off16 (i : grid0.Coords) (t : Fin (k0_t1_loop i).trips) : k0_off16 i t = ![2 * t.val, 64 * 3, 0] := by
  have h := t_lt t
  unfold k0_off16 Scf.iv
  generalize t.val = n at h ⊢
  interval_cases n <;> decide +kernel

theorem off20 (i : grid0.Coords) (t : Fin (k0_t1_loop i).trips) : k0_off20 i t = ![2 * t.val + 1, 64 * 3, 0] := by
  have h := t_lt t
  unfold k0_off20 Scf.iv
  generalize t.val = n at h ⊢
  interval_cases n <;> decide +kernel

end Cert.Mla
end
-- ==== Proof.MlaSteps.lean ====
/-
  One block of the causal attention, step by step. For each of four heads: the scores of a key tile, the running maximum
  and the accumulator after a tile. The kernel's program, run from buffers of known contents, ends with the accumulators
  after the diagonal tile and every earlier tile in order, and with the output block they give.
-/
module

public import proofs.«01_k».proof.Proof.MlaState
public import proofs.«01_k».proof.Proof.MlaSched
public import Idealize.ShloMosaic.Lib.Pointwise

@[expose] public section

set_option maxRecDepth 16384

noncomputable section

namespace Cert.Mla

open Cert.Kernel4Ideal Cert.Kernel4Ideal.Gen Cert.ValueRun
open Idealize.ShloMosaic Idealize.ShloMosaic.TcCoe
open Idealize.SL.Sem

variable {F : FTy → Type} [FloatOps F] [Named F]

/-! ## The blocks the loads read -/

/-- The query block's columns of head `h`. -/
def qBlk (x0 : Vec F S512x512 .bf16) (h : Nat) : Vec F S512x128 .bf16 :=
  fun x => x0 (ix2 ⟨(x 0).val, (x 0).isLt⟩ ⟨(128 * h + (x 1).val) % 512, Nat.mod_lt _ (by omega)⟩)

/-- The key block's rows of tile `tl`, columns of head `h`. -/
def kBlk (x1 : Vec F S4096x512 .bf16) (tl h : Nat) : Vec F S512x128 .bf16 :=
  fun x => x1 (ix2 ⟨(512 * tl + (x 0).val) % 4096, Nat.mod_lt _ (by omega)⟩ ⟨(128 * h + (x 1).val) % 512, Nat.mod_lt _ (by omega)⟩)

/-- The transposed value block of tile `tl`, rows of head `h`. -/
def vBlk (x2 : Vec F S8x256x512 .bf16) (tl h : Nat) : Vec F S1x64x512 .bf16 :=
  fun x => x2 (ix3 ⟨tl % 8, Nat.mod_lt _ (by omega)⟩ ⟨(64 * h + (x 1).val) % 256, Nat.mod_lt _ (by omega)⟩ ⟨(x 2).val, (x 2).isLt⟩)

theorem ld_q (x0 : Vec F S512x512 .bf16) {off : Fin 2 → Nat} {h : Nat} (ho : off = ![0, 128 * h])
    (inb : ∀ a, off a + S512x128.size a ≤ S512x512.size a) :
    View.ld x0 (Rect.unit (s := S512x512) off S512x128.size inb) = qBlk x0 h := by
  subst ho
  funext x
  unfold View.ld qBlk
  refine congrArg x0 (funext fun a => ?_)
  have hx : (x 1).val < 128 := (x 1).isLt
  have h1 : 128 * h + 128 ≤ 512 := inb 1
  match a with
  | ⟨0, _⟩ => exact Fin.ext (show 0 + 1 * (x 0).val = (x 0).val by omega)
  | ⟨1, _⟩ => exact Fin.ext (show 128 * h + 1 * (x 1).val = (128 * h + (x 1).val) % 512 by omega)

theorem ld_k (x1 : Vec F S4096x512 .bf16) {off : Fin 2 → Nat} {tl h : Nat} (ho : off = ![512 * tl, 128 * h])
    (inb : ∀ a, off a + S512x128.size a ≤ S4096x512.size a) :
    View.ld x1 (Rect.unit (s := S4096x512) off S512x128.size inb) = kBlk x1 tl h := by
  subst ho
  funext x
  unfold View.ld kBlk
  refine congrArg x1 (funext fun a => ?_)
  have hx0 : (x 0).val < 512 := (x 0).isLt
  have hx : (x 1).val < 128 := (x 1).isLt
  have h0 : 512 * tl + 512 ≤ 4096 := inb 0
  have h1 : 128 * h + 128 ≤ 512 := inb 1
  match a with
  | ⟨0, _⟩ => exact Fin.ext (show 512 * tl + 1 * (x 0).val = (512 * tl + (x 0).val) % 4096 by omega)
  | ⟨1, _⟩ => exact Fin.ext (show 128 * h + 1 * (x 1).val = (128 * h + (x 1).val) % 512 by omega)

theorem ld_v (x2 : Vec F S8x256x512 .bf16) {off : Fin 3 → Nat} {tl h : Nat} (ho : off = ![tl, 64 * h, 0])
    (inb : ∀ a, off a + S1x64x512.size a ≤ S8x256x512.size a) :
    View.ld x2 (Rect.unit (s := S8x256x512) off S1x64x512.size inb) = vBlk x2 tl h := by
  subst ho
  funext x
  unfold View.ld vBlk
  refine congrArg x2 (funext fun a => ?_)
  have hx0 : (x 0).val < 1 := (x 0).isLt
  have hx1 : (x 1).val < 64 := (x 1).isLt
  have h0 : tl + 1 ≤ 8 := inb 0
  have h1 : 64 * h + 64 ≤ 256 := inb 1
  match a with
  | ⟨0, _⟩ => exact Fin.ext (show tl + 1 * (x 0).val = tl % 8 by omega)
  | ⟨1, _⟩ => exact Fin.ext (show 64 * h + 1 * (x 1).val = (64 * h + (x 1).val) % 256 by omega)
  | ⟨2, _⟩ => exact Fin.ext (show 0 + 1 * (x 2).val = (x 2).val by omega)

/-! ## One head's steps -/

/-- The scores of a key tile against the queries: keys along the rows. -/
def sc (x0 : Vec F S512x512 .bf16) (x1 : Vec F S4096x512 .bf16) (h tl : Nat) : Vec F S1x512x512 .f32 :=
  k0_pay2 (kBlk x1 tl h) (qBlk x0 h)

/-- The running maximum after a tile's scores. -/
def mS (s : Vec F S1x512x512 .f32) (m : Vec F S1x1x512 .f32) : Vec F S1x1x512 .f32 := k0_pay10 (k0_pay6 s m)

/-- The accumulator after a tile's scores and values. -/
def aS (v : Vec F S1x64x512 .bf16) (s : Vec F S1x512x512 .f32) (m : Vec F S1x1x512 .f32) (a : Vec F S1x80x512 .f32) : Vec F S1x80x512 .f32 :=
  k0_pay9 (k0_pay3 (k0_pay138 (F := F)) v) (k0_pay7 s m) (k0_pay8 s m a)

/-- The row number and the column number of a 512 by 512 block. -/
def rowIx : IVec S512x512 32 := iota .tc S512x512 32 [0] iota_S512x512_d0_w32
def colIx : IVec S512x512 32 := iota .tc S512x512 32 [1] iota_S512x512_d1_w32

/-- The diagonal tile's two steps, the keys past a query masked. -/
def mD (s : Vec F S1x512x512 .f32) (m : Vec F S1x1x512 .f32) : Vec F S1x1x512 .f32 := k0_pay152 rowIx colIx s m
def aD (v : Vec F S1x64x512 .bf16) (s : Vec F S1x512x512 .f32) (m : Vec F S1x1x512 .f32) (a : Vec F S1x80x512 .f32) : Vec F S1x80x512 .f32 :=
  k0_pay151 rowIx colIx (k0_pay138 (F := F)) v s m a

/-- Where head `h` starts. -/
def m0 : Vec F S1x1x512 .f32 := View.ld (k0_pay139 (F := F)) mR0
def a0 : Vec F S1x80x512 .f32 := View.ld (k0_pay140 (F := F)) aR0

section
variable (x0 : Vec F S512x512 .bf16) (x1 : Vec F S4096x512 .bf16) (x2 : Vec F S8x256x512 .bf16)

/-- The running maximum and the accumulator of head `h` after the diagonal tile `i` and the tiles before `n`. -/
def mAt (h i : Nat) : Nat → Vec F S1x1x512 .f32
  | 0 => mD (sc x0 x1 h i) m0
  | n + 1 => mS (sc x0 x1 h n) (mAt h i n)
def aAt (h i : Nat) : Nat → Vec F S1x80x512 .f32
  | 0 => aD (vBlk x2 i h) (sc x0 x1 h i) m0 a0
  | n + 1 => aS (vBlk x2 n h) (sc x0 x1 h n) (mAt x0 x1 h i n) (aAt h i n)

/-- The first score buffer before trip `n`. -/
def saAt (h i : Nat) : Nat → Vec F S1x512x512 .f32
  | 0 => sc x0 x1 h i
  | n + 1 => sc x0 x1 h (2 * n + 1)

/-- The state before trip `n` of the loop over pairs of tiles. -/
def stAt (i : Nat) (o : Vec F S512x256 .bf16) (n : Nat) : St F :=
  ⟨⟨mAt x0 x1 0 i (2 * n), mAt x0 x1 1 i (2 * n), mAt x0 x1 2 i (2 * n), mAt x0 x1 3 i (2 * n)⟩,
   ⟨aAt x0 x1 x2 0 i (2 * n), aAt x0 x1 x2 1 i (2 * n), aAt x0 x1 x2 2 i (2 * n), aAt x0 x1 x2 3 i (2 * n)⟩,
   ⟨saAt x0 x1 0 i n, saAt x0 x1 1 i n, saAt x0 x1 2 i n, saAt x0 x1 3 i n⟩,
   ⟨sc x0 x1 0 (2 * n), sc x0 x1 1 (2 * n), sc x0 x1 2 (2 * n), sc x0 x1 3 (2 * n)⟩, o⟩

/-- The output block: each head's accumulated rows over its accumulated sum, head by head along the columns. -/
def outOf (a0 a1 a2 a3 : Vec F S1x80x512 .f32) : Vec F S512x256 .bf16 :=
  k0_pay1 (k0_pay186 (acc_rows a0) (acc_sum a0)) (k0_pay187 (acc_rows a1) (acc_sum a1)) (acc_rows a2) (acc_sum a2) (acc_rows a3) (acc_sum a3)

def outBlk (i : Nat) : Vec F S512x256 .bf16 :=
  outOf (aAt x0 x1 x2 0 i i) (aAt x0 x1 x2 1 i i) (aAt x0 x1 x2 2 i i) (aAt x0 x1 x2 3 i i)

end

/-! ## The kernel's program -/

section
variable {c : Dev nD} {i : grid0.Coords} {arg3 : Memref sig .tc .vmem S512x512 .bf16} {harg3 : arg3.IsWhole} {arg4 : Memref sig .tc .vmem S4096x512 .bf16} {harg4 : arg4.IsWhole} {arg5 : Memref sig .tc .vmem S8x256x512 .bf16} {harg5 : arg5.IsWhole} {arg6 : Memref sig .tc .vmem S512x256 .bf16} {harg6 : arg6.IsWhole} {arg7 : Memref sig .tc .vmem S4x1x512 .f32} {harg7 : arg7.IsWhole} {arg8 : Memref sig .tc .vmem S4x80x512 .f32} {harg8 : arg8.IsWhole} {arg9 : Memref sig .tc .vmem S4x512x512 .f32} {harg9 : arg9.IsWhole} {arg10 : Memref sig .tc .vmem S4x512x512 .f32} {harg10 : arg10.IsWhole}
  {x0 : Vec F S512x512 .bf16} {x1 : Vec F S4096x512 .bf16} {x2 : Vec F S8x256x512 .bf16}

local notation "RR" => Res c arg3 arg4 arg5 arg6 arg7 arg8 arg9 arg10 x0 x1 x2

theorem load3' {s : St F} {off : Fin 2 → Nat} {h : Nat} (ho : off = ![0, 128 * h])
    {inb : ∀ a, off a + S512x128.size a ≤ S512x512.size a} {hl : arg3.view.LoadsAt (Rect.unit (s := S512x512) off S512x128.size inb).toLoadRect} :
    Runs (defs₀ (F := F)) c RR (Prog.lift (.load arg3 (Rect.unit (s := S512x512) off S512x128.size inb).toLoadRect hl)) s (Is (qBlk x0 h) s) :=
  ld_q x0 ho inb ▸ load3

theorem load4' {s : St F} {off : Fin 2 → Nat} {tl h : Nat} (ho : off = ![512 * tl, 128 * h])
    {inb : ∀ a, off a + S512x128.size a ≤ S4096x512.size a} {hl : arg4.view.LoadsAt (Rect.unit (s := S4096x512) off S512x128.size inb).toLoadRect} :
    Runs (defs₀ (F := F)) c RR (Prog.lift (.load arg4 (Rect.unit (s := S4096x512) off S512x128.size inb).toLoadRect hl)) s (Is (kBlk x1 tl h) s) :=
  ld_k x1 ho inb ▸ load4

theorem load5' {s : St F} {off : Fin 3 → Nat} {tl h : Nat} (ho : off = ![tl, 64 * h, 0])
    {inb : ∀ a, off a + S1x64x512.size a ≤ S8x256x512.size a} {hl : arg5.view.LoadsAt (Rect.unit (s := S8x256x512) off S1x64x512.size inb).toLoadRect} :
    Runs (defs₀ (F := F)) c RR (Prog.lift (.load arg5 (Rect.unit (s := S8x256x512) off S1x64x512.size inb).toLoadRect hl)) s (Is (vBlk x2 tl h) s) :=
  ld_v x2 ho inb ▸ load5

set_option maxHeartbeats 4000000 in
/-- One trip: tile `2t` from the second score buffer, tile `2t + 1` from the first. -/
theorem trip_runs (arg2 v223 v238 : BitVec 32) (v237 : BitVec 1) (o : Vec F S512x256 .bf16) (t : Fin (k0_t1_loop i).trips) (u : Unit) :
    Runs (defs₀ (F := F)) c RR (k0_t1_body i arg3 harg3 arg4 harg4 arg5 harg5 arg6 harg6 arg7 harg7 arg8 harg8 arg9 harg9 arg10 harg10 arg2 (k0_pay138 (F := F)) v223 v237 v238 t u)
      (stAt x0 x1 x2 (i 2).val o t.val) (Is () (stAt x0 x1 x2 (i 2).val o (t.val + 1))) := by
  unfold k0_t1_body
  dsimp only [stAt]
  apply Runs.bind
  case hp =>
    rw [k0_part1_eq_skeleton]; unfold k0_part1_skel
    refine Runs.bind (load4' (tl := (2 * t.val + 1)) (h := 0) (off9_1 i t)) ?_
    refine Runs.bind (load3' (h := 0) rfl) ?_
    refine Runs.bind load9_0 ?_
    refine Runs.bind store9_0 ?_
    refine Runs.bind (load5' (tl := (2 * t.val)) (h := 0) (off10 i t)) ?_
    refine Runs.bind load10_0 ?_
    refine Runs.bind load7_0 ?_
    refine Runs.bind load8_0 ?_
    exact Runs.pure ⟨rfl, rfl⟩
  try dsimp only
  apply Runs.bind
  case hp =>
    rw [k0_part2_eq_skeleton]; unfold k0_part2_skel
    refine Runs.bind load8_0 ?_
    refine Runs.bind store8_0 ?_
    refine Runs.bind load7_0 ?_
    refine Runs.bind store7_0 ?_
    refine Runs.bind (load4' (tl := (2 * t.val + 1)) (h := 1) (off11_1 i t)) ?_
    refine Runs.bind (load3' (h := 1) rfl) ?_
    refine Runs.bind load9_1 ?_
    refine Runs.bind store9_1 ?_
    refine Runs.bind (load5' (tl := (2 * t.val)) (h := 1) (off12 i t)) ?_
    refine Runs.bind load10_1 ?_
    refine Runs.bind load7_1 ?_
    exact Runs.pure ⟨rfl, rfl⟩
  try dsimp only
  apply Runs.bind
  case hp =>
    rw [k0_part3_eq_skeleton]; unfold k0_part3_skel
    refine Runs.bind load8_1 ?_
    refine Runs.bind load8_1 ?_
    refine Runs.bind store8_1 ?_
    refine Runs.bind load7_1 ?_
    refine Runs.bind store7_1 ?_
    refine Runs.bind (load4' (tl := (2 * t.val + 1)) (h := 2) (off13_1 i t)) ?_
    refine Runs.bind (load3' (h := 2) rfl) ?_
    refine Runs.bind load9_2 ?_
    refine Runs.bind store9_2 ?_
    refine Runs.bind (load5' (tl := (2 * t.val)) (h := 2) (off14 i t)) ?_
    refine Runs.bind load10_2 ?_
    exact Runs.pure ⟨rfl, rfl⟩
  try dsimp only
  apply Runs.bind
  case hp =>
    rw [k0_part4_eq_skeleton]; unfold k0_part4_skel
    refine Runs.bind load7_2 ?_
    refine Runs.bind load8_2 ?_
    refine Runs.bind load8_2 ?_
    refine Runs.bind store8_2 ?_
    refine Runs.bind load7_2 ?_
    refine Runs.bind store7_2 ?_
    refine Runs.bind (load4' (tl := (2 * t.val + 1)) (h := 3) (off15_1 i t)) ?_
    refine Runs.bind (load3' (h := 3) rfl) ?_
    refine Runs.bind load9_3 ?_
    refine Runs.bind store9_3 ?_
    exact Runs.pure ⟨rfl, rfl⟩
  try dsimp only
  apply Runs.bind
  case hp =>
    rw [k0_part5_eq_skeleton]; unfold k0_part5_skel
    refine Runs.bind (load5' (tl := (2 * t.val)) (h := 3) (off16 i t)) ?_
    refine Runs.bind load10_3 ?_
    refine Runs.bind load7_3 ?_
    refine Runs.bind load8_3 ?_
    refine Runs.bind load8_3 ?_
    refine Runs.bind store8_3 ?_
    refine Runs.bind load7_3 ?_
    refine Runs.bind store7_3 ?_
    exact Runs.pure ⟨rfl, rfl⟩
  try dsimp only
  apply Runs.bind
  case hp =>
    rw [k0_part6_eq_skeleton]; unfold k0_part6_skel
    refine Runs.bind (load4' (tl := (2 * t.val + 2)) (h := 0) (off9_2 i t)) ?_
    refine Runs.bind (load3' (h := 0) rfl) ?_
    refine Runs.bind load10_0 ?_
    refine Runs.bind store10_0 ?_
    refine Runs.bind (load5' (tl := (2 * t.val + 1)) (h := 0) (off17 i t)) ?_
    refine Runs.bind load9_0 ?_
    refine Runs.bind load7_0 ?_
    refine Runs.bind load8_0 ?_
    refine Runs.bind load8_0 ?_
    refine Runs.bind store8_0 ?_
    exact Runs.pure ⟨rfl, rfl⟩
  try dsimp only
  apply Runs.bind
  case hp =>
    rw [k0_part7_eq_skeleton]; unfold k0_part7_skel
    refine Runs.bind load7_0 ?_
    refine Runs.bind store7_0 ?_
    refine Runs.bind (load4' (tl := (2 * t.val + 2)) (h := 1) (off11_2 i t)) ?_
    refine Runs.bind (load3' (h := 1) rfl) ?_
    refine Runs.bind load10_1 ?_
    refine Runs.bind store10_1 ?_
    refine Runs.bind (load5' (tl := (2 * t.val + 1)) (h := 1) (off18 i t)) ?_
    refine Runs.bind load9_1 ?_
    refine Runs.bind load7_1 ?_
    refine Runs.bind load8_1 ?_
    exact Runs.pure ⟨rfl, rfl⟩
  try dsimp only
  apply Runs.bind
  case hp =>
    rw [k0_part8_eq_skeleton]; unfold k0_part8_skel
    refine Runs.bind load8_1 ?_
    refine Runs.bind store8_1 ?_
    refine Runs.bind load7_1 ?_
    refine Runs.bind store7_1 ?_
    refine Runs.bind (load4' (tl := (2 * t.val + 2)) (h := 2) (off13_2 i t)) ?_
    refine Runs.bind (load3' (h := 2) rfl) ?_
    refine Runs.bind load10_2 ?_
    refine Runs.bind store10_2 ?_
    refine Runs.bind (load5' (tl := (2 * t.val + 1)) (h := 2) (off19 i t)) ?_
    refine Runs.bind load9_2 ?_
    refine Runs.bind load7_2 ?_
    exact Runs.pure ⟨rfl, rfl⟩
  try dsimp only
  apply Runs.bind
  case hp =>
    rw [k0_part9_eq_skeleton]; unfold k0_part9_skel
    refine Runs.bind load8_2 ?_
    refine Runs.bind load8_2 ?_
    refine Runs.bind store8_2 ?_
    refine Runs.bind load7_2 ?_
    refine Runs.bind store7_2 ?_
    refine Runs.bind (load4' (tl := (2 * t.val + 2)) (h := 3) (off15_2 i t)) ?_
    refine Runs.bind (load3' (h := 3) rfl) ?_
    refine Runs.bind load10_3 ?_
    refine Runs.bind store10_3 ?_
    refine Runs.bind (load5' (tl := (2 * t.val + 1)) (h := 3) (off20 i t)) ?_
    refine Runs.bind load9_3 ?_
    refine Runs.bind load7_3 ?_
    exact Runs.pure ⟨rfl, rfl⟩
  try dsimp only
  refine Runs.bind load8_3 ?_
  refine Runs.bind load8_3 ?_
  refine Runs.bind store8_3 ?_
  refine Runs.bind load7_3 ?_
  refine Runs.bind store7_3 ?_
  exact Runs.pure ⟨rfl, rfl⟩

/-- When the tile number is odd: one more step, from the second score buffer. -/
def lastAt (x0 : Vec F S512x512 .bf16) (x1 : Vec F S4096x512 .bf16) (x2 : Vec F S8x256x512 .bf16) (i : Nat) (o : Vec F S512x256 .bf16) (n : Nat) : St F :=
  ⟨⟨mAt x0 x1 0 i (2 * n + 1), mAt x0 x1 1 i (2 * n + 1), mAt x0 x1 2 i (2 * n + 1), mAt x0 x1 3 i (2 * n + 1)⟩,
   ⟨aAt x0 x1 x2 0 i (2 * n + 1), aAt x0 x1 x2 1 i (2 * n + 1), aAt x0 x1 x2 2 i (2 * n + 1), aAt x0 x1 x2 3 i (2 * n + 1)⟩,
   ⟨saAt x0 x1 0 i n, saAt x0 x1 1 i n, saAt x0 x1 2 i n, saAt x0 x1 3 i n⟩,
   ⟨sc x0 x1 0 (2 * n), sc x0 x1 1 (2 * n), sc x0 x1 2 (2 * n), sc x0 x1 3 (2 * n)⟩, o⟩

/-- The state after the loop and the odd step. -/
def endAt (x0 : Vec F S512x512 .bf16) (x1 : Vec F S4096x512 .bf16) (x2 : Vec F S8x256x512 .bf16) (i : Nat) (o : Vec F S512x256 .bf16) : St F :=
  if i % 2 = 1 then lastAt x0 x1 x2 i o (i / 2) else stAt x0 x1 x2 i o (i / 2)

theorem endAt_acc (x0 : Vec F S512x512 .bf16) (x1 : Vec F S4096x512 .bf16) (x2 : Vec F S8x256x512 .bf16) (i : Nat) (o : Vec F S512x256 .bf16) :
    (endAt x0 x1 x2 i o).acc = ⟨aAt x0 x1 x2 0 i i, aAt x0 x1 x2 1 i i, aAt x0 x1 x2 2 i i, aAt x0 x1 x2 3 i i⟩ := by
  unfold endAt
  split
  · have e : 2 * (i / 2) + 1 = i := by omega
    show Four.mk _ _ _ _ = _
    rw [e]
  · have e : 2 * (i / 2) = i := by omega
    show Four.mk _ _ _ _ = _
    rw [e]

theorem endAt_cases (x0 : Vec F S512x512 .bf16) (x1 : Vec F S4096x512 .bf16) (x2 : Vec F S8x256x512 .bf16) (i : Nat) (o : Vec F S512x256 .bf16) :
    ∃ m sa sb out, endAt x0 x1 x2 i o = ⟨m, ⟨aAt x0 x1 x2 0 i i, aAt x0 x1 x2 1 i i, aAt x0 x1 x2 2 i i, aAt x0 x1 x2 3 i i⟩, sa, sb, out⟩ :=
  ⟨_, _, _, _, by rw [← endAt_acc x0 x1 x2 i o]⟩

set_option maxHeartbeats 4000000 in
/-- The loop over pairs of tiles, the odd step, and the first two heads' results. -/
theorem pairs_runs (arg2 v223 v238 : BitVec 32) (v237 : BitVec 1) (o : Vec F S512x256 .bf16) :
    Runs (defs₀ (F := F)) c RR (k0_part29 i arg3 harg3 arg4 harg4 arg5 harg5 arg6 harg6 arg7 harg7 arg8 harg8 arg9 harg9 arg10 harg10 arg2 (k0_pay138 (F := F)) v223 v237 v238)
      (stAt x0 x1 x2 (i 2).val o 0)
      (Is ⟨k0_pay186 (acc_rows (aAt x0 x1 x2 0 (i 2).val (i 2).val)) (acc_sum (aAt x0 x1 x2 0 (i 2).val (i 2).val)),
           k0_pay187 (acc_rows (aAt x0 x1 x2 1 (i 2).val (i 2).val)) (acc_sum (aAt x0 x1 x2 1 (i 2).val (i 2).val))⟩
        (endAt x0 x1 x2 (i 2).val o)) := by
  rw [k0_part29_eq_skeleton]; unfold k0_part29_skel
  refine Runs.bind (Runs.loop (stAt x0 x1 x2 (i 2).val o) fun t => trip_runs arg2 v223 v238 v237 o t ()) ?_
  rw [trips1]
  refine Runs.bind (t := stAt x0 x1 x2 (i 2).val o ((i 2).val / 2)) (Runs.loop (fun _ => stAt x0 x1 x2 (i 2).val o ((i 2).val / 2)) fun t => ?_) ?_
  · have h0 := trips2 i
    have h1 := t.isLt
    omega
  obtain ⟨em, es, et, ew, eo⟩ := endAt_cases x0 x1 x2 (i 2).val o
  dsimp only
  refine Runs.dite ?_ ?_
  · intro k0_h1
    have hodd := (cond1 i).1 k0_h1
    have hpos : 0 < (i 2).val := by omega
    have e2 : endAt x0 x1 x2 (i 2).val o = lastAt x0 x1 x2 (i 2).val o ((i 2).val / 2) := if_pos hodd
    have ei : (i 2).val - 1 = 2 * ((i 2).val / 2) := by omega
    dsimp only [stAt]
    rw [← ei]
    apply Runs.bind
    case hp =>
      rw [k0_part19_eq_skeleton]; unfold k0_part19_skel
      refine Runs.bind (load5' (tl := ((i 2).val - 1)) (h := 0) (off33 i (by omega))) ?_
      refine Runs.bind load10_0 ?_
      refine Runs.bind load7_0 ?_
      refine Runs.bind load8_0 ?_
      refine Runs.bind load8_0 ?_
      refine Runs.bind store8_0 ?_
      refine Runs.bind load7_0 ?_
      refine Runs.bind store7_0 ?_
      refine Runs.bind (load5' (tl := ((i 2).val - 1)) (h := 1) (off34 i (by omega))) ?_
      exact Runs.pure ⟨rfl, rfl⟩
    try dsimp only
    apply Runs.bind
    case hp =>
      rw [k0_part20_eq_skeleton]; unfold k0_part20_skel
      refine Runs.bind load10_1 ?_
      refine Runs.bind load7_1 ?_
      refine Runs.bind load8_1 ?_
      refine Runs.bind load8_1 ?_
      refine Runs.bind store8_1 ?_
      refine Runs.bind load7_1 ?_
      refine Runs.bind store7_1 ?_
      refine Runs.bind (load5' (tl := ((i 2).val - 1)) (h := 2) (off35 i (by omega))) ?_
      refine Runs.bind load10_2 ?_
      exact Runs.pure ⟨rfl, rfl⟩
    try dsimp only
    apply Runs.bind
    case hp =>
      rw [k0_part21_eq_skeleton]; unfold k0_part21_skel
      refine Runs.bind load7_2 ?_
      refine Runs.bind load8_2 ?_
      refine Runs.bind load8_2 ?_
      refine Runs.bind store8_2 ?_
      refine Runs.bind load7_2 ?_
      refine Runs.bind store7_2 ?_
      refine Runs.bind (load5' (tl := ((i 2).val - 1)) (h := 3) (off36 i (by omega))) ?_
      refine Runs.bind load10_3 ?_
      refine Runs.bind load7_3 ?_
      exact Runs.pure ⟨rfl, rfl⟩
    try dsimp only
    refine Runs.bind load8_3 ?_
    refine Runs.bind load8_3 ?_
    refine Runs.bind store8_3 ?_
    refine Runs.bind load7_3 ?_
    refine Runs.bind store7_3 ?_
    rw [ei]
    change Runs _ _ _ _ (lastAt x0 x1 x2 (i 2).val o ((i 2).val / 2)) _
    rw [← e2, eo]
    refine Runs.bind load8_rows0 ?_
    refine Runs.bind load8_sum0 ?_
    refine Runs.bind load8_rows1 ?_
    refine Runs.bind load8_sum1 ?_
    exact Runs.pure ⟨rfl, rfl⟩
  · intro k0_h1
    have hev : ¬ (i 2).val % 2 = 1 := fun h => k0_h1 ((cond1 i).2 h)
    have e2 : endAt x0 x1 x2 (i 2).val o = stAt x0 x1 x2 (i 2).val o ((i 2).val / 2) := if_neg hev
    rw [← e2, eo]
    refine Runs.bind load8_rows0 ?_
    refine Runs.bind load8_sum0 ?_
    refine Runs.bind load8_rows1 ?_
    refine Runs.bind load8_sum1 ?_
    exact Runs.pure ⟨rfl, rfl⟩

set_option maxHeartbeats 4000000 in
/-- The kernel's program from any state of its buffers: the output block is `outBlk`. -/
theorem block_runs (s : St F) :
    Runs (defs₀ (F := F)) c RR (cc0_mla_attention i arg3 harg3 arg4 harg4 arg5 harg5 arg6 harg6 arg7 harg7 arg8 harg8 arg9 harg9 arg10 harg10) s (fun _ t => t.out = outBlk x0 x1 x2 (i 2).val) := by
  obtain ⟨m, acc, ⟨sa0, sa1, sa2, sa3⟩, ⟨sb0, sb1, sb2, sb3⟩, o⟩ := s
  rw [cc0_mla_attention_eq_skeleton]; unfold cc0_mla_attention_skel
  apply Runs.bind
  case hp =>
    rw [k0_part22_eq_skeleton]; unfold k0_part22_skel
    refine Runs.seq loadAll7 fun _ _ h => ?_
    subst h
    refine Runs.bind storeAll7 ?_
    refine Runs.seq loadAll8 fun _ _ h => ?_
    subst h
    refine Runs.bind storeAll8 ?_
    refine Runs.bind (load4' (tl := (i 2).val) (h := 0) (off1 i)) ?_
    refine Runs.bind (load3' (h := 0) rfl) ?_
    refine Runs.bind load9_0 ?_
    refine Runs.bind store9_0 ?_
    refine Runs.bind (load4' (tl := (i 2).val) (h := 1) (off2 i)) ?_
    refine Runs.bind (load3' (h := 1) rfl) ?_
    exact Runs.pure ⟨rfl, rfl⟩
  try dsimp only
  apply Runs.bind
  case hp =>
    rw [k0_part23_eq_skeleton]; unfold k0_part23_skel
    refine Runs.bind load9_1 ?_
    refine Runs.bind store9_1 ?_
    refine Runs.bind (load4' (tl := (i 2).val) (h := 2) (off3 i)) ?_
    refine Runs.bind (load3' (h := 2) rfl) ?_
    refine Runs.bind load9_2 ?_
    refine Runs.bind store9_2 ?_
    refine Runs.bind (load4' (tl := (i 2).val) (h := 3) (off4 i)) ?_
    refine Runs.bind (load3' (h := 3) rfl) ?_
    refine Runs.bind load9_3 ?_
    refine Runs.bind store9_3 ?_
    refine Runs.bind (load4' (tl := 0) (h := 0) rfl) ?_
    refine Runs.bind (load3' (h := 0) rfl) ?_
    exact Runs.pure ⟨rfl, rfl⟩
  try dsimp only
  apply Runs.bind
  case hp =>
    rw [k0_part24_eq_skeleton]; unfold k0_part24_skel
    refine Runs.bind load10_0 ?_
    refine Runs.bind store10_0 ?_
    refine Runs.bind (load5' (tl := (i 2).val) (h := 0) (off5 i)) ?_
    refine Runs.bind load9_0 ?_
    refine Runs.bind load7_0 ?_
    refine Runs.bind load8_0 ?_
    refine Runs.bind load8_0 ?_
    refine Runs.bind store8_0 ?_
    refine Runs.bind load7_0 ?_
    refine Runs.bind store7_0 ?_
    exact Runs.pure ⟨rfl, rfl⟩
  try dsimp only
  apply Runs.bind
  case hp =>
    rw [k0_part25_eq_skeleton]; unfold k0_part25_skel
    refine Runs.bind (load4' (tl := 0) (h := 1) rfl) ?_
    refine Runs.bind (load3' (h := 1) rfl) ?_
    refine Runs.bind load10_1 ?_
    refine Runs.bind store10_1 ?_
    refine Runs.bind (load5' (tl := (i 2).val) (h := 1) (off6 i)) ?_
    refine Runs.bind load9_1 ?_
    refine Runs.bind load7_1 ?_
    refine Runs.bind load8_1 ?_
    exact Runs.pure ⟨rfl, rfl⟩
  try dsimp only
  apply Runs.bind
  case hp =>
    rw [k0_part26_eq_skeleton]; unfold k0_part26_skel
    refine Runs.bind load8_1 ?_
    refine Runs.bind store8_1 ?_
    refine Runs.bind load7_1 ?_
    refine Runs.bind store7_1 ?_
    refine Runs.bind (load4' (tl := 0) (h := 2) rfl) ?_
    refine Runs.bind (load3' (h := 2) rfl) ?_
    refine Runs.bind load10_2 ?_
    refine Runs.bind store10_2 ?_
    refine Runs.bind (load5' (tl := (i 2).val) (h := 2) (off7 i)) ?_
    refine Runs.bind load9_2 ?_
    refine Runs.bind load7_2 ?_
    exact Runs.pure ⟨rfl, rfl⟩
  try dsimp only
  apply Runs.bind
  case hp =>
    rw [k0_part27_eq_skeleton]; unfold k0_part27_skel
    refine Runs.bind load8_2 ?_
    refine Runs.bind load8_2 ?_
    refine Runs.bind store8_2 ?_
    refine Runs.bind load7_2 ?_
    refine Runs.bind store7_2 ?_
    refine Runs.bind (load4' (tl := 0) (h := 3) rfl) ?_
    refine Runs.bind (load3' (h := 3) rfl) ?_
    refine Runs.bind load10_3 ?_
    refine Runs.bind store10_3 ?_
    refine Runs.bind (load5' (tl := (i 2).val) (h := 3) (off8 i)) ?_
    refine Runs.bind load9_3 ?_
    exact Runs.pure ⟨rfl, rfl⟩
  try dsimp only
  apply Runs.bind
  case hp =>
    rw [k0_part28_eq_skeleton]; unfold k0_part28_skel
    refine Runs.bind load7_3 ?_
    refine Runs.bind load8_3 ?_
    refine Runs.bind load8_3 ?_
    refine Runs.bind store8_3 ?_
    refine Runs.bind load7_3 ?_
    refine Runs.bind store7_3 ?_
    exact Runs.pure ⟨rfl, rfl⟩
  try dsimp only
  apply Runs.bind
  case hp =>
    exact pairs_runs _ _ _ _ o
  obtain ⟨em, es, et, ew, eo⟩ := endAt_cases x0 x1 x2 (i 2).val o
  rw [eo]
  try dsimp only
  refine Runs.bind load8_rows2 ?_
  refine Runs.bind load8_sum2 ?_
  refine Runs.bind load8_rows3 ?_
  refine Runs.bind load8_sum3 ?_
  refine Runs.seq load6 fun _ _ h => ?_
  subst h
  refine Runs.bind store6 ?_
  exact Runs.pure rfl

end

end Cert.Mla
end
-- ==== Proof.MlaMath.lean ====
/-
  The online softmax of real scores over values that are any extended reals. A head keeps, for each query, a running maximum and sums scaled by two to its negative;
  one tile of scores moves both, and the quotient at the end does not depend on the maximum. The reference's softmax is the
  same quotient.
-/
module

public import Idealize.ShloMosaic.PureOps.Ideal

@[expose] public section

noncomputable section

namespace Cert.MlaMath

open Idealize.ShloMosaic

/-- Two to the power `x`. -/
def p2 (x : ℝ) : ℝ := Real.rpow 2 x

theorem p2_add (x y : ℝ) : p2 (x + y) = p2 x * p2 y := Real.rpow_add (by norm_num) x y
theorem p2_pos (x : ℝ) : 0 < p2 x := Real.rpow_pos_of_pos (by norm_num) x
theorem p2_exp (x : ℝ) : p2 (x / Real.log 2) = Real.exp x := by
  have h : (Real.log 2 : ℝ) ≠ 0 := (Real.log_pos (by norm_num)).ne'
  show (2 : ℝ) ^ (x / Real.log 2) = _
  rw [Real.rpow_def_of_pos (by norm_num), mul_div_cancel₀ _ h]

/-- The weight of a score: two to its power, zero for a masked one. -/
def wt : EReal → ℝ
  | ⊥ => 0
  | ⊤ => 0
  | (r : ℝ) => p2 r

@[simp] theorem wt_bot : wt ⊥ = 0 := rfl
@[simp] theorem wt_coe (r : ℝ) : wt (r : EReal) = p2 r := rfl

theorem coe_sum {ι : Type} (s : Finset ι) (f : ι → ℝ) : (∑ i ∈ s, (f i : EReal)) = ((∑ i ∈ s, f i : ℝ) : EReal) := by
  classical
  induction s using Finset.induction_on with
  | empty => simp
  | insert a s ha ih => rw [Finset.sum_insert ha, Finset.sum_insert ha, ih, EReal.coe_add]

/-- A nonnegative real factor goes into a sum of extended reals. -/
theorem mul_sum {ι : Type} (c : ℝ) (hc : 0 ≤ c) (s : Finset ι) (f : ι → EReal) : (c : EReal) * ∑ i ∈ s, f i = ∑ i ∈ s, (c : EReal) * f i := by
  classical
  induction s using Finset.induction_on with
  | empty => simp
  | insert a s ha ih =>
    rw [Finset.sum_insert ha, Finset.sum_insert ha, EReal.left_distrib_of_nonneg_of_ne_top (EReal.coe_nonneg.2 hc) (EReal.coe_ne_top c), ih]

/-! ## Constants -/

theorem ninf : Ideal.ofBits .f32 0xFF800000#32 = (⊥ : EReal) := by
  simp [Ideal.ofBits, Ideal.ieee]

/-- The scale, as the real number its word is. -/
def scale : ℝ := 13698540 / 134217728

theorem scale_eq : Ideal.ofBits .f32 0x3DD105EC#32 = (scale : EReal) := by
  unfold scale
  simp [Ideal.ofBits, Ideal.ieee, -EReal.coe_mul]; norm_num

theorem two_eq : Ideal.ofBits .f32 0x40000000#32 = ((2 : ℝ) : EReal) := by
  simp [Ideal.ofBits, Ideal.ieee, -EReal.coe_mul]; norm_num

/-- The kernel's scale is the reference's over the logarithm of two. -/
theorem scale_log : Ideal.div (Ideal.ofBits .f32 0x3DD105EC#32) (Ideal.log (Ideal.ofBits .f32 0x40000000#32))
    = ((scale / Real.log 2 : ℝ) : EReal) := by
  have h : (0 : ℝ) < Real.log 2 := Real.log_pos (by norm_num)
  rw [scale_eq, two_eq, Ideal.log_coe, if_neg (by norm_num), Ideal.div_coe h.ne', ← EReal.coe_mul]
  refine congrArg _ ?_
  ring

/-! ## One query's sums -/

/-- A maximum folded from minus infinity is the supremum. -/
theorem fold_max {n : Nat} (f : Fin n → EReal) : Finset.fold max ⊥ f Finset.univ = Finset.univ.sup f := rfl

theorem exp2_sub (s : EReal) (hs : s ≠ ⊤) (μ : ℝ) : Ideal.exp2 (s - (μ : EReal)) = ((p2 (-μ) * wt s : ℝ) : EReal) := by
  induction s with
  | bot => rw [EReal.bot_sub, wt_bot, mul_zero]; rfl
  | top => exact absurd rfl hs
  | coe r =>
    rw [← EReal.coe_sub, wt_coe, ← p2_add, show -μ + r = r - μ by ring]
    rfl

/-- The state of one query's column: a real maximum `μ` and the sums `A` scaled by `2 ^ -μ`. -/
def Good (m : EReal) (a A : Fin 80 → EReal) : Prop :=
  ∃ μ : ℝ, m = μ ∧ ∀ e, a e = (p2 (-μ) : EReal) * A e

theorem sup_real {n : Nat} (s : Fin n → EReal) (hs : ∀ j, s j ≠ ⊤) (m : EReal) (hm : m ≠ ⊤) (h : m ≠ ⊥ ∨ ∃ j, s j ≠ ⊥) :
    ∃ μ : ℝ, max m (Finset.univ.sup s) = μ := by
  have ht : max m (Finset.univ.sup s) ≠ ⊤ := by
    refine (max_lt (lt_top_iff_ne_top.2 hm) ?_).ne
    exact (Finset.sup_lt_iff bot_lt_top).2 fun j _ => lt_top_iff_ne_top.2 (hs j)
  have hb : max m (Finset.univ.sup s) ≠ ⊥ := by
    refine (bot_lt_iff_ne_bot.1 ?_)
    rcases h with h | ⟨j, h⟩
    · exact lt_of_lt_of_le (bot_lt_iff_ne_bot.2 h) (le_max_left _ _)
    · exact lt_of_lt_of_le (bot_lt_iff_ne_bot.2 h) ((Finset.le_sup (f := s) (Finset.mem_univ j)).trans (le_max_right _ _))
  exact ⟨_, (EReal.coe_toReal ht hb).symm⟩

theorem tile_sum (u s : Fin 512 → EReal) (hs : ∀ j, s j ≠ ⊤) (μ : ℝ) :
    (∑ j, u j * Ideal.exp2 (s j - (μ : EReal))) = (p2 (-μ) : EReal) * ∑ j, u j * (wt (s j) : EReal) := by
  rw [mul_sum _ (p2_pos _).le]
  refine Finset.sum_congr rfl fun j _ => ?_
  rw [exp2_sub _ (hs j), EReal.coe_mul, mul_left_comm]

/-- The first tile: nothing seen before. -/
theorem start (u : Fin 80 → Fin 512 → EReal) (s : Fin 512 → EReal) (hs : ∀ j, s j ≠ ⊤) (h : ∃ j, s j ≠ ⊥) :
    Good (max ⊥ (Finset.univ.sup s))
      (fun e => Ideal.exp2 (⊥ - max ⊥ (Finset.univ.sup s)) * 0 + ∑ j, u e j * Ideal.exp2 (s j - max ⊥ (Finset.univ.sup s)))
      (fun e => ∑ j, u e j * (wt (s j) : EReal)) := by
  obtain ⟨μ, hμ⟩ := sup_real s hs ⊥ bot_ne_top (.inr h)
  refine ⟨μ, hμ, fun e => ?_⟩
  show Ideal.exp2 (⊥ - max ⊥ (Finset.univ.sup s)) * 0 + ∑ j, u e j * Ideal.exp2 (s j - max ⊥ (Finset.univ.sup s))
    = (p2 (-μ) : EReal) * ∑ j, u e j * (wt (s j) : EReal)
  rw [hμ, mul_zero, zero_add, tile_sum _ _ hs]

/-- A further tile. -/
theorem step (m : EReal) (a A : Fin 80 → EReal) (hG : Good m a A) (u : Fin 80 → Fin 512 → EReal) (s : Fin 512 → EReal)
    (hs : ∀ j, s j ≠ ⊤) :
    Good (max m (Finset.univ.sup s))
      (fun e => Ideal.exp2 (m - max m (Finset.univ.sup s)) * a e + ∑ j, u e j * Ideal.exp2 (s j - max m (Finset.univ.sup s)))
      (fun e => A e + ∑ j, u e j * (wt (s j) : EReal)) := by
  obtain ⟨μ, rfl, ha⟩ := hG
  obtain ⟨ν, hν⟩ := sup_real s hs μ (EReal.coe_ne_top μ) (.inl (EReal.coe_ne_bot μ))
  refine ⟨ν, hν, fun e => ?_⟩
  show Ideal.exp2 ((μ : EReal) - max (μ : EReal) (Finset.univ.sup s)) * a e
      + ∑ j, u e j * Ideal.exp2 (s j - max (μ : EReal) (Finset.univ.sup s)) = (p2 (-ν) : EReal) * (A e + ∑ j, u e j * (wt (s j) : EReal))
  have h : p2 (-ν) * p2 μ * p2 (-μ) = p2 (-ν) := by
    rw [mul_assoc, ← p2_add μ, add_neg_cancel, show p2 0 = 1 from Real.rpow_zero 2, mul_one]
  rw [hν, tile_sum _ _ hs, ha, exp2_sub _ (EReal.coe_ne_top μ), wt_coe, ← mul_assoc, ← EReal.coe_mul, h,
    EReal.left_distrib_of_nonneg_of_ne_top (EReal.coe_nonneg.2 (p2_pos _).le) (EReal.coe_ne_top _)]

/-- The quotient at the end, by a sum that is real and not zero. -/
theorem finish (m : EReal) (a A : Fin 80 → EReal) (hG : Good m a A) (e f : Fin 80) (L : ℝ) (hf : A f = (L : EReal)) (hL : L ≠ 0) :
    Ideal.div (a e) (a f) = A e * ((1 / L : ℝ) : EReal) := by
  obtain ⟨μ, -, ha⟩ := hG
  have hp := (p2_pos (-μ)).ne'
  rw [ha, ha, hf, ← EReal.coe_mul, Ideal.div_coe (mul_ne_zero hp hL), mul_comm (p2 (-μ) : EReal), mul_assoc, ← EReal.coe_mul]
  refine congrArg (A e * ·) (congrArg _ ?_)
  field_simp

/-- The softmax-weighted value of the keys up to `s`, from the scores `x` and the values `v`. -/
def att (x : Fin 4096 → ℝ) (v : Fin 4096 → EReal) (s : Fin 4096) : EReal :=
  (∑ k, if k.val ≤ s.val then (Real.exp (x k) : EReal) * v k else 0)
    * ((1 / ∑ k, if k.val ≤ s.val then Real.exp (x k) else 0 : ℝ) : EReal)

theorem att_pos (x : Fin 4096 → ℝ) (s : Fin 4096) : 0 < ∑ k : Fin 4096, if k.val ≤ s.val then Real.exp (x k) else 0 := by
  refine Finset.sum_pos' (fun k _ => ?_) ⟨s, Finset.mem_univ s, ?_⟩
  · split
    · exact (Real.exp_pos _).le
    · exact le_rfl
  · rw [if_pos le_rfl]; exact Real.exp_pos _

/-- The reference's masked scores. -/
def masked (x : Fin 4096 → ℝ) (s : Fin 4096) (k : Fin 4096) : EReal := if k.val ≤ s.val then (x k : EReal) else ⊥

theorem exp_masked (x : Fin 4096 → ℝ) (s k : Fin 4096) (μ : ℝ) :
    Ideal.exp (masked x s k - (μ : EReal)) = ((Real.exp (-μ) * (if k.val ≤ s.val then Real.exp (x k) else 0) : ℝ) : EReal) := by
  unfold masked
  split
  · rw [← EReal.coe_sub, ← Real.exp_add, show -μ + x k = x k - μ by ring]; rfl
  · rw [EReal.bot_sub, mul_zero]; rfl

/-- The reference's softmax over the masked scores, applied to the values. -/
theorem softmax (x : Fin 4096 → ℝ) (v : Fin 4096 → EReal) (s : Fin 4096) :
    (∑ k, v k * Ideal.div (Ideal.exp (masked x s k - max ⊥ (Finset.univ.sup (masked x s))))
        (∑ k, Ideal.exp (masked x s k - max ⊥ (Finset.univ.sup (masked x s))))) = att x v s := by
  have hs : ∀ k, masked x s k ≠ ⊤ := fun k => by
    unfold masked; split
    · exact EReal.coe_ne_top _
    · exact bot_ne_top
  obtain ⟨μ, hμ⟩ := sup_real (masked x s) hs ⊥ bot_ne_top (.inr ⟨s, by unfold masked; rw [if_pos le_rfl]; exact EReal.coe_ne_bot _⟩)
  have hp := (Real.exp_pos (-μ)).ne'
  have hL := att_pos x s
  have h : (∑ k, Ideal.exp (masked x s k - (μ : EReal))) = ((Real.exp (-μ) * ∑ k : Fin 4096, (if k.val ≤ s.val then Real.exp (x k) else 0) : ℝ) : EReal) := by
    rw [Finset.sum_congr rfl fun k _ => exp_masked x s k μ, coe_sum, Finset.mul_sum]
  rw [hμ, h]
  unfold att
  generalize (∑ k : Fin 4096, (if k.val ≤ s.val then Real.exp (x k) else 0)) = L at hL
  rw [mul_comm _ (((1 / L : ℝ)) : EReal), mul_sum _ (one_div_pos.2 hL).le]
  refine Finset.sum_congr rfl fun k _ => ?_
  have e : Real.exp (-μ) * (if k.val ≤ s.val then Real.exp (x k) else 0) * (1 / (Real.exp (-μ) * L)) = 1 / L * (if k.val ≤ s.val then Real.exp (x k) else 0) := by
    have := hL.ne'
    field_simp
  rw [exp_masked, Ideal.div_coe (mul_ne_zero hp hL.ne'), ← EReal.coe_mul, e, EReal.coe_mul, mul_left_comm]
  refine congrArg _ ?_
  split
  · exact mul_comm _ _
  · rw [EReal.coe_zero, mul_zero]

/-- The eight tiles of 512 keys are the 4096 keys. -/
theorem sum_tiles {M : Type} [AddCommMonoid M] (g : Nat → M) : (∑ k : Fin 4096, g k.val) = ∑ n ∈ Finset.range 8, ∑ j : Fin 512, g (512 * n + j.val) := by
  rw [Finset.sum_range fun n => ∑ j : Fin 512, g (512 * n + j.val)]
  rw [← Fintype.sum_prod_type' fun (n : Fin 8) (j : Fin 512) => g (512 * n.val + j.val)]
  refine (Fintype.sum_equiv (finProdFinEquiv (m := 8) (n := 512)) _ (fun k : Fin (8 * 512) => g k.val) fun x => ?_).symm
  refine congrArg g ?_
  show 512 * x.1.val + x.2.val = x.2.val + 512 * x.1.val
  omega

/-- The diagonal tile `i`, masked past the query, and the tiles before it are the keys up to the query. -/
theorem causal {M : Type} [AddCommMonoid M] (g : Nat → M) (i r : Nat) (hi : i < 8) (hr : r < 512) :
    (∑ k : Fin 4096, if k.val ≤ 512 * i + r then g k.val else 0)
      = (∑ j : Fin 512, if j.val ≤ r then g (512 * i + j.val) else 0) + ∑ n ∈ Finset.range i, ∑ j : Fin 512, g (512 * n + j.val) := by
  rw [sum_tiles fun k => if k ≤ 512 * i + r then g k else 0]
  rw [← Finset.sum_subset (Finset.range_subset_range.2 (show i + 1 ≤ 8 by omega)) fun n _ hn => ?_]
  · rw [Finset.sum_range_succ, add_comm]
    refine congrArg₂ (· + ·) (Finset.sum_congr rfl fun j _ => ?_) (Finset.sum_congr rfl fun n hn => Finset.sum_congr rfl fun j _ => ?_)
    · exact if_congr (by omega) rfl rfl
    · have := Finset.mem_range.1 hn
      have := j.isLt
      exact if_pos (by omega)
  · have : ¬ n < i + 1 := fun h => hn (Finset.mem_range.2 h)
    exact Finset.sum_eq_zero fun j _ => if_neg (by omega)

end Cert.MlaMath
end
-- ==== Proof.MlaBody.lean ====
/-
  The attention kernel's body over the reals: each step's entries, as plain sums and maxima of the blocks it reads.
-/
module

public import proofs.«01_k».proof.Proof.MlaSteps
public import proofs.«01_k».proof.Proof.MlaMath
public import Idealize.ShloMosaic.Lib.Pointwise
public import Idealize.ShloMosaic.Lib.WordCmp

@[expose] public section

set_option maxRecDepth 16384

noncomputable section

namespace Cert.MlaBody

open Cert.Kernel4Ideal Cert.Kernel4Ideal.Gen Idealize.ShloMosaic Idealize.ShloMosaic.TcCoe Idealize.SL.Sem
open Cert.Mla

theorem sc_apply (x0 : Vec Ideal S512x512 .bf16) (x1 : Vec Ideal S4096x512 .bf16) (h tl : Nat) (j r : Fin 512) :
    sc x0 x1 h tl (ix3 0 j r) = ∑ d : Fin 128, kBlk x1 tl h (ix2 j d) * qBlk x0 h (ix2 r d) := by
  pointwise [sc, k0_pay2]

theorem mask_bot : (Named.named (F := Ideal) (φ := .f32) κ "mask" 0xF149F2CA#32 : EReal) = ⊥ := IdealRules.named_const.ideal_named_scalar _ _ _ _ rfl

theorem pay6_apply (s : Vec Ideal S1x512x512 .f32) (m : Vec Ideal S1x1x512 .f32) (r : Fin 512) :
    k0_pay6 s m (ix2 0 r) = max (m (ix3 0 0 r)) (Finset.univ.sup fun j : Fin 512 => s (ix3 0 j r)) := by
  pointwise [k0_pay6, k0_pay5, k0_pay4]
  rw [MlaMath.ninf, MlaMath.fold_max]

theorem mS_apply (s : Vec Ideal S1x512x512 .f32) (m : Vec Ideal S1x1x512 .f32) (r : Fin 512) :
    mS s m (ix3 0 0 r) = max (m (ix3 0 0 r)) (Finset.univ.sup fun j : Fin 512 => s (ix3 0 j r)) := by
  rw [← pay6_apply]
  pointwise [mS, k0_pay10]

theorem pay7_apply (s : Vec Ideal S1x512x512 .f32) (m : Vec Ideal S1x1x512 .f32) (j r : Fin 512) :
    k0_pay7 s m (ix2 j r) = Ideal.exp2 (s (ix3 0 j r) - k0_pay6 s m (ix2 0 r)) := by
  pointwise [k0_pay7, k0_pay4]
  rfl

theorem pay8_apply (s : Vec Ideal S1x512x512 .f32) (m : Vec Ideal S1x1x512 .f32) (a : Vec Ideal S1x80x512 .f32) (e : Fin 80) (r : Fin 512) :
    k0_pay8 s m a (ix2 e r) = Ideal.exp2 (m (ix3 0 0 r) - k0_pay6 s m (ix2 0 r)) * a (ix3 0 e r) := by
  pointwise [k0_pay8, k0_pay5]
  rfl

theorem pay9_apply (v : FVec Ideal S80x512 .bf16) (p : FVec Ideal S512x512 .bf16) (a : FVec Ideal S80x512 .f32) (e : Fin 80) (r : Fin 512) :
    k0_pay9 v p a (ix3 0 e r) = a (ix2 e r) + ∑ j : Fin 512, v (ix2 e j) * p (ix2 j r) := by
  pointwise [k0_pay9]

/-- The values of a tile with the rows of ones under them. -/
def vOne (v : Vec Ideal S1x64x512 .bf16) (e : Fin 80) (j : Fin 512) : EReal :=
  if h : e.val < 64 then v (ix3 0 ⟨e.val, h⟩ j) else 1

theorem pay3_apply (v : Vec Ideal S1x64x512 .bf16) (e : Fin 80) (j : Fin 512) :
    k0_pay3 (k0_pay138 (F := Ideal)) v (ix2 e j) = vOne v e j := by
  pointwise [k0_pay3, k0_pay138, vOne]

theorem aS_apply (v : Vec Ideal S1x64x512 .bf16) (s : Vec Ideal S1x512x512 .f32) (m : Vec Ideal S1x1x512 .f32) (a : Vec Ideal S1x80x512 .f32)
    (e : Fin 80) (r : Fin 512) : aS v s m a (ix3 0 e r)
      = Ideal.exp2 (m (ix3 0 0 r) - max (m (ix3 0 0 r)) (Finset.univ.sup fun j : Fin 512 => s (ix3 0 j r))) * a (ix3 0 e r)
        + ∑ j : Fin 512, vOne v e j * Ideal.exp2 (s (ix3 0 j r) - max (m (ix3 0 0 r)) (Finset.univ.sup fun j : Fin 512 => s (ix3 0 j r))) := by
  unfold aS
  rw [pay9_apply, pay8_apply]
  simp only [pay3_apply, pay7_apply, pay6_apply]

theorem m0_apply (r : Fin 512) : (m0 : Vec Ideal S1x1x512 .f32) (ix3 0 0 r) = ⊥ := by
  unfold m0 View.ld k0_pay139
  pointwise
  exact mask_bot

theorem a0_apply (e : Fin 80) (r : Fin 512) : (a0 : Vec Ideal S1x80x512 .f32) (ix3 0 e r) = 0 := by
  unfold a0 View.ld k0_pay140
  pointwise

/-- The diagonal tile's scores: the keys past the query masked. -/
def dg (s : Vec Ideal S1x512x512 .f32) (r j : Fin 512) : EReal := if j.val ≤ r.val then s (ix3 0 j r) else ⊥

theorem pay148_apply (s : Vec Ideal S1x512x512 .f32) (j r : Fin 512) :
    k0_pay148 rowIx colIx s (ix2 j r) = dg s r j := by
  pointwise [k0_pay148, rowIx, colIx]
  rw [mask_bot, WordCmp.cmpi_sle_ofNat (by omega) (by omega)]
  unfold dg Scalar.select
  by_cases h : j.val ≤ r.val <;> simp [h]

theorem pay150_apply (s : Vec Ideal S1x512x512 .f32) (m : Vec Ideal S1x1x512 .f32) (r : Fin 512) :
    k0_pay150 rowIx colIx s m (ix2 0 r) = max (m (ix3 0 0 r)) (Finset.univ.sup (dg s r)) := by
  pointwise [k0_pay150, k0_pay149]
  simp only [pay148_apply]
  rw [MlaMath.ninf, MlaMath.fold_max]

theorem mD_apply (s : Vec Ideal S1x512x512 .f32) (m : Vec Ideal S1x1x512 .f32) (r : Fin 512) :
    mD s m (ix3 0 0 r) = max (m (ix3 0 0 r)) (Finset.univ.sup (dg s r)) := by
  rw [← pay150_apply]
  pointwise [mD, k0_pay152]

theorem aD_apply (v : Vec Ideal S1x64x512 .bf16) (s : Vec Ideal S1x512x512 .f32) (m : Vec Ideal S1x1x512 .f32) (a : Vec Ideal S1x80x512 .f32)
    (e : Fin 80) (r : Fin 512) : aD v s m a (ix3 0 e r)
      = Ideal.exp2 (m (ix3 0 0 r) - max (m (ix3 0 0 r)) (Finset.univ.sup (dg s r))) * a (ix3 0 e r)
        + ∑ j : Fin 512, vOne v e j * Ideal.exp2 (dg s r j - max (m (ix3 0 0 r)) (Finset.univ.sup (dg s r))) := by
  pointwise [aD, k0_pay151, k0_pay149, k0_pay138, vOne]
  simp only [pay150_apply, pay148_apply]
  rfl

/-! ## The output block, head by head along the columns -/

theorem rows_at (y : Vec Ideal S1x80x512 .f32) (e : Fin 64) (r : Fin 512) : acc_rows y (ix3 0 e r) = y (ix3 0 ⟨e, by omega⟩ r) := by
  refine congrArg y (funext fun a => Fin.ext ?_)
  match a with
  | ⟨0, _⟩ => rfl
  | ⟨1, _⟩ => exact Nat.zero_add _
  | ⟨2, _⟩ => rfl

theorem sum_at (y : Vec Ideal S1x80x512 .f32) (r : Fin 512) : acc_sum y (ix3 0 0 r) = y (ix3 0 64 r) := by
  refine congrArg y (funext fun a => Fin.ext ?_)
  match a with
  | ⟨0, _⟩ => rfl
  | ⟨1, _⟩ => rfl
  | ⟨2, _⟩ => rfl

theorem out0 (a0 a1 a2 a3 : Vec Ideal S1x80x512 .f32) (r : Fin 512) (e : Fin 64) :
    outOf a0 a1 a2 a3 (ix2 r ⟨64 * 0 + e, by omega⟩) = Ideal.div (a0 (ix3 0 ⟨e, by omega⟩ r)) (a0 (ix3 0 64 r)) := by
  rw [← rows_at a0, ← sum_at a0]
  pointwise [outOf, k0_pay1, k0_pay186, k0_pay187]

theorem out1 (a0 a1 a2 a3 : Vec Ideal S1x80x512 .f32) (r : Fin 512) (e : Fin 64) :
    outOf a0 a1 a2 a3 (ix2 r ⟨64 * 1 + e, by omega⟩) = Ideal.div (a1 (ix3 0 ⟨e, by omega⟩ r)) (a1 (ix3 0 64 r)) := by
  rw [← rows_at a1, ← sum_at a1]
  pointwise [outOf, k0_pay1, k0_pay186, k0_pay187]

theorem out2 (a0 a1 a2 a3 : Vec Ideal S1x80x512 .f32) (r : Fin 512) (e : Fin 64) :
    outOf a0 a1 a2 a3 (ix2 r ⟨64 * 2 + e, by omega⟩) = Ideal.div (a2 (ix3 0 ⟨e, by omega⟩ r)) (a2 (ix3 0 64 r)) := by
  rw [← rows_at a2, ← sum_at a2]
  pointwise [outOf, k0_pay1, k0_pay186, k0_pay187]
  have he : (⟨128 + e.val - 64 - 64, by omega⟩ : Fin 64) = e := Fin.ext (by show 128 + e.val - 64 - 64 = e.val; omega)
  rw [dif_neg (by omega), dif_neg (by omega), dif_pos (by omega), he]

theorem out3 (a0 a1 a2 a3 : Vec Ideal S1x80x512 .f32) (r : Fin 512) (e : Fin 64) :
    outOf a0 a1 a2 a3 (ix2 r ⟨64 * 3 + e, by omega⟩) = Ideal.div (a3 (ix3 0 ⟨e, by omega⟩ r)) (a3 (ix3 0 64 r)) := by
  rw [← rows_at a3, ← sum_at a3]
  pointwise [outOf, k0_pay1, k0_pay186, k0_pay187]
  have he : (⟨192 + e.val - 64 - 64 - 64, by omega⟩ : Fin 64) = e := Fin.ext (by show 192 + e.val - 64 - 64 - 64 = e.val; omega)
  rw [dif_neg (by omega), dif_neg (by omega), dif_neg (by omega), he]

end Cert.MlaBody
end
-- ==== Proof.MlaHead.lean ====
/-
  One head of the attention kernel, the queries and keys real numbers and the values any extended reals: after the
  diagonal tile and the tiles before it, the accumulator over its last rows is the softmax of the scores of the keys up to the
  query, applied to the values.
-/
module

public import proofs.«01_k».proof.Proof.MlaBody

@[expose] public section

set_option maxRecDepth 16384

noncomputable section

namespace Cert.MlaHead

open Cert.Kernel4Ideal Cert.Kernel4Ideal.Gen Idealize.ShloMosaic Idealize.ShloMosaic.TcCoe Idealize.SL.Sem
open Cert.Mla Cert.MlaBody Cert.MlaMath

section
variable (Q : Fin 512 → Fin 512 → ℝ) (K : Fin 4096 → Fin 512 → ℝ) (V : Fin 8 → Fin 256 → Fin 512 → EReal)

/-- The score of key `k` against query `r`, head `h`. -/
def sR (h : Nat) (r : Fin 512) (k : Nat) : ℝ :=
  ∑ d : Fin 128, K ⟨k % 4096, Nat.mod_lt _ (by omega)⟩ ⟨(128 * h + d.val) % 512, Nat.mod_lt _ (by omega)⟩
    * Q r ⟨(128 * h + d.val) % 512, Nat.mod_lt _ (by omega)⟩

/-- Row `e` of the values of key `k`, head `h`: the ones under them from row 64 on. -/
def uR (h : Nat) (e : Fin 80) (k : Nat) : EReal :=
  if e.val < 64 then V ⟨k / 512 % 8, Nat.mod_lt _ (by omega)⟩ ⟨(64 * h + e.val) % 256, Nat.mod_lt _ (by omega)⟩ ⟨k % 512, Nat.mod_lt _ (by omega)⟩
  else 1

/-- What key `k` adds to row `e` of query `r`'s sums. -/
def gR (h : Nat) (r : Fin 512) (e : Fin 80) (k : Nat) : EReal := uR V h e k * (p2 (sR Q K h r k) : EReal)

/-- The sums after the diagonal tile `i` and the tiles before `n`. -/
def AR (h i : Nat) (r : Fin 512) (n : Nat) (e : Fin 80) : EReal :=
  (∑ j : Fin 512, if j.val ≤ r.val then gR Q K V h r e (512 * i + j.val) else 0)
    + ∑ n ∈ Finset.range n, ∑ j : Fin 512, gR Q K V h r e (512 * n + j.val)

variable (x0 : Vec Ideal S512x512 .bf16) (x1 : Vec Ideal S4096x512 .bf16) (x2 : Vec Ideal S8x256x512 .bf16)
  (h0 : ∀ i j, x0 (ix2 i j) = (Q i j : EReal)) (h1 : ∀ i j, x1 (ix2 i j) = (K i j : EReal)) (h2 : ∀ l i j, x2 (ix3 l i j) = V l i j)

include h0 h1 in
theorem sc_real (h n : Nat) (j r : Fin 512) : sc x0 x1 h n (ix3 0 j r) = (sR Q K h r (512 * n + j.val) : EReal) := by
  rw [sc_apply]
  unfold sR
  rw [← coe_sum]
  refine Finset.sum_congr rfl fun d _ => ?_
  rw [EReal.coe_mul, ← h0, ← h1]
  rfl

include h2 in
theorem v_real (h n : Nat) (e : Fin 80) (j : Fin 512) : vOne (vBlk x2 n h) e j = uR V h e (512 * n + j.val) := by
  unfold vOne uR
  have a : (⟨(512 * n + j.val) / 512 % 8, Nat.mod_lt _ (by omega)⟩ : Fin 8) = ⟨n % 8, Nat.mod_lt _ (by omega)⟩ := Fin.ext (by show (512 * n + j.val) / 512 % 8 = n % 8; omega)
  have b : (⟨(512 * n + j.val) % 512, Nat.mod_lt _ (by omega)⟩ : Fin 512) = j := Fin.ext (by show (512 * n + j.val) % 512 = j.val; omega)
  split
  · rw [a, b, ← h2]; rfl
  · rfl

include h0 h1 h2 in
/-- The state of every query's column after the diagonal tile and the tiles before `n`. -/
theorem good (h i : Nat) (r : Fin 512) (n : Nat) :
    Good (mAt x0 x1 h i n (ix3 0 0 r)) (fun e => aAt x0 x1 x2 h i n (ix3 0 e r)) (AR Q K V h i r n) := by
  induction n with
  | zero =>
    have hs : ∀ j, dg (sc x0 x1 h i) r j ≠ ⊤ := fun j => by
      unfold dg; split
      · rw [sc_real Q K x0 x1 h0 h1]; exact EReal.coe_ne_top _
      · exact bot_ne_top
    have hb : ∃ j, dg (sc x0 x1 h i) r j ≠ ⊥ := ⟨r, by unfold dg; rw [if_pos le_rfl, sc_real Q K x0 x1 h0 h1]; exact EReal.coe_ne_bot _⟩
    have hw : ∀ j : Fin 512, wt (dg (sc x0 x1 h i) r j) = if j.val ≤ r.val then p2 (sR Q K h r (512 * i + j.val)) else 0 := fun j => by
      unfold dg; split
      · rw [sc_real Q K x0 x1 h0 h1]; rfl
      · rfl
    have g := start (fun e j => uR V h e (512 * i + j.val)) _ hs hb
    have e1 : mAt x0 x1 h i 0 (ix3 0 0 r) = max ⊥ (Finset.univ.sup (dg (sc x0 x1 h i) r)) := by
      rw [mAt, mD_apply, m0_apply]
    have e2 : (fun e => aAt x0 x1 x2 h i 0 (ix3 0 e r)) = fun e => Ideal.exp2 (⊥ - max ⊥ (Finset.univ.sup (dg (sc x0 x1 h i) r))) * 0
        + ∑ j : Fin 512, uR V h e (512 * i + j.val) * Ideal.exp2 (dg (sc x0 x1 h i) r j - max ⊥ (Finset.univ.sup (dg (sc x0 x1 h i) r))) := by
      funext e
      rw [aAt, aD_apply, m0_apply, a0_apply]
      simp only [v_real V x2 h2]
    have e3 : AR Q K V h i r 0 = fun e => ∑ j : Fin 512, uR V h e (512 * i + j.val) * (wt (dg (sc x0 x1 h i) r j) : EReal) := by
      funext e
      unfold AR
      rw [Finset.range_zero, Finset.sum_empty, add_zero]
      refine Finset.sum_congr rfl fun j _ => ?_
      rw [hw, gR]
      split
      · rfl
      · rw [EReal.coe_zero, mul_zero]
    rw [e1, e2, e3]
    exact g
  | succ n ih =>
    have hs : ∀ j : Fin 512, sc x0 x1 h n (ix3 0 j r) ≠ ⊤ := fun j => by rw [sc_real Q K x0 x1 h0 h1]; exact EReal.coe_ne_top _
    have g := step _ _ _ ih (fun e j => uR V h e (512 * n + j.val)) _ hs
    have e1 : mAt x0 x1 h i (n + 1) (ix3 0 0 r)
        = max (mAt x0 x1 h i n (ix3 0 0 r)) (Finset.univ.sup fun j : Fin 512 => sc x0 x1 h n (ix3 0 j r)) := by
      rw [mAt, mS_apply]
    have e2 : (fun e => aAt x0 x1 x2 h i (n + 1) (ix3 0 e r)) = fun e =>
        Ideal.exp2 (mAt x0 x1 h i n (ix3 0 0 r) - max (mAt x0 x1 h i n (ix3 0 0 r)) (Finset.univ.sup fun j : Fin 512 => sc x0 x1 h n (ix3 0 j r))) * aAt x0 x1 x2 h i n (ix3 0 e r)
        + ∑ j : Fin 512, uR V h e (512 * n + j.val) * Ideal.exp2 (sc x0 x1 h n (ix3 0 j r) - max (mAt x0 x1 h i n (ix3 0 0 r)) (Finset.univ.sup fun j : Fin 512 => sc x0 x1 h n (ix3 0 j r))) := by
      funext e
      rw [aAt, aS_apply]
      simp only [v_real V x2 h2]
    have e3 : AR Q K V h i r (n + 1) = fun e => AR Q K V h i r n e + ∑ j : Fin 512, uR V h e (512 * n + j.val) * (wt (sc x0 x1 h n (ix3 0 j r)) : EReal) := by
      funext e
      unfold AR
      rw [Finset.sum_range_succ, ← add_assoc]
      refine congrArg _ (Finset.sum_congr rfl fun j _ => ?_)
      rw [sc_real Q K x0 x1 h0 h1]
      rfl
    rw [e1, e2, e3]
    exact g

/-- The scores and the values of head `h`, by key, in the terms of the softmax. -/
def xR (h : Nat) (r : Fin 512) (k : Fin 4096) : ℝ := sR Q K h r k.val * Real.log 2
def wR (h : Nat) (e : Fin 64) (k : Fin 4096) : EReal :=
  V ⟨k.val / 512 % 8, Nat.mod_lt _ (by omega)⟩ ⟨(64 * h + e.val) % 256, Nat.mod_lt _ (by omega)⟩ ⟨k.val % 512, Nat.mod_lt _ (by omega)⟩

theorem p2_eq (s : ℝ) : p2 s = Real.exp (s * Real.log 2) := by
  have h : (Real.log 2 : ℝ) ≠ 0 := (Real.log_pos (by norm_num)).ne'
  rw [← p2_exp, mul_div_cancel_right₀ _ h]

include h0 h1 h2 in
theorem head (h i : Nat) (hi : i < 8) (r : Fin 512) (e : Fin 64) :
    Ideal.div (aAt x0 x1 x2 h i i (ix3 0 ⟨e.val, by omega⟩ r)) (aAt x0 x1 x2 h i i (ix3 0 64 r))
      = att (xR Q K h r) (wR V h e) ⟨512 * i + r.val, by omega⟩ := by
  have c : ∀ e, AR Q K V h i r i e = ∑ k : Fin 4096, if k.val ≤ 512 * i + r.val then gR Q K V h r e k.val else 0 :=
    fun e => (causal _ i r.val hi r.isLt).symm
  have a : AR Q K V h i r i 64 = ((∑ k : Fin 4096, if k.val ≤ (⟨512 * i + r.val, by omega⟩ : Fin 4096).val then Real.exp (xR Q K h r k) else 0 : ℝ) : EReal) := by
    rw [c, ← coe_sum]
    refine Finset.sum_congr rfl fun k _ => ?_
    refine (if_congr Iff.rfl ?_ EReal.coe_zero.symm).trans (apply_ite Real.toEReal (k.val ≤ 512 * i + r.val) (Real.exp (xR Q K h r k)) 0).symm
    rw [gR, p2_eq, uR, if_neg (by decide), one_mul]
    rfl
  have b : AR Q K V h i r i ⟨e.val, by omega⟩
      = ∑ k : Fin 4096, if k.val ≤ (⟨512 * i + r.val, by omega⟩ : Fin 4096).val then (Real.exp (xR Q K h r k) : EReal) * wR V h e k else 0 := by
    rw [c]
    refine Finset.sum_congr rfl fun k _ => ?_
    refine if_congr Iff.rfl ?_ rfl
    rw [gR, p2_eq, uR, if_pos (by exact e.isLt), mul_comm]
    rfl
  refine (finish _ _ _ (good Q K V x0 x1 x2 h0 h1 h2 h i r i) ⟨e.val, by omega⟩ 64 _ a (att_pos _ _).ne').trans ?_
  rw [b]
  rfl

include h0 h1 h2 in
/-- The output block's entry at query `r`, head `h`, column `e`. -/
theorem block (i : Nat) (hi : i < 8) (h : Fin 4) (r : Fin 512) (e : Fin 64) :
    outBlk x0 x1 x2 i (ix2 r ⟨64 * h.val + e.val, by omega⟩) = att (xR Q K h.val r) (wR V h.val e) ⟨512 * i + r.val, by omega⟩ := by
  unfold outBlk
  match h with
  | ⟨0, _⟩ => exact (out0 _ _ _ _ r e).trans (head Q K V x0 x1 x2 h0 h1 h2 0 i hi r e)
  | ⟨1, _⟩ => exact (out1 _ _ _ _ r e).trans (head Q K V x0 x1 x2 h0 h1 h2 1 i hi r e)
  | ⟨2, _⟩ => exact (out2 _ _ _ _ r e).trans (head Q K V x0 x1 x2 h0 h1 h2 2 i hi r e)
  | ⟨3, _⟩ => exact (out3 _ _ _ _ r e).trans (head Q K V x0 x1 x2 h0 h1 h2 3 i hi r e)

end

end Cert.MlaHead
end
-- ==== Proof.MlaRun.lean ====
/-
  The causal attention's run: at every grid point the body leaves `outBlk` of the point's input blocks in the output
  window, so the output array ends as the blocks written back, one for each point.
-/
module

public import proofs.«01_k».proof.Proof.MlaSteps
public import proofs.«01_k».proof.Proof.Gen.Kernel4Ideal.Frame
public import Idealize.ShloMosaic.Lib.Pipeline.Value

@[expose] public section

set_option maxRecDepth 16384

noncomputable section

namespace Cert.MlaRun

open Cert.Kernel4Ideal Cert.Kernel4Ideal.Gen Cert.ValueRun Cert.Mla
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- The block point `t` leaves. -/
def blockAt (c : Dev nD) (t : Fin cfg0.N) : Vec F S512x256 .bf16 :=
  outBlk (iblk m c 0 t) (iblk m c 1 t) (iblk m c 2 t) (grid0.coords t 2).val

/-- The pipeline's proof data: each input's buffer at its block, the output's at `blockAt`. -/
def vdat (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => blockAt m c t
  Φ _ := Pipeline.ΦA spec0 c
  q _ := fullShare
  owed _ := 0

theorem vdat_A (c : Dev nD) (w : Fin cfg0.W) : (vdat m 0 c).A w = V m c (Pipeline.arrRef spec0 w) := by dsimp only [vdat]
theorem vafter0 (c : Dev nD) (t : Fin cfg0.N) : (vdat m 0 c).after 0 t = iblk m c 0 t := by dsimp only [vdat]
theorem vafter1 (c : Dev nD) (t : Fin cfg0.N) : (vdat m 0 c).after 1 t = iblk m c 1 t := by dsimp only [vdat]
theorem vafter2 (c : Dev nD) (t : Fin cfg0.N) : (vdat m 0 c).after 2 t = iblk m c 2 t := by dsimp only [vdat]
theorem vafter3 (c : Dev nD) (t : Fin cfg0.N) : (vdat m 0 c).after 3 t = blockAt m c t := by dsimp only [vdat]
theorem vbefore0 (c : Dev nD) (t : Fin cfg0.N) (d) : (vdat m 0 c).before 0 t d = iblk m c 0 t :=
  before0_0_of m (vdat m 0 c) (vdat_A m c 0) (vafter0 m c) t d
theorem vbefore1 (c : Dev nD) (t : Fin cfg0.N) (d) : (vdat m 0 c).before 1 t d = iblk m c 1 t :=
  before0_1_of m (vdat m 0 c) (vdat_A m c 1) (vafter1 m c) t d
theorem vbefore2 (c : Dev nD) (t : Fin cfg0.N) (d) : (vdat m 0 c).before 2 t d = iblk m c 2 t :=
  before0_2_of m (vdat m 0 c) (vdat_A m c 2) (vafter2 m c) t d

/-! ## Memrefs owned and buffers held -/

variable (c : Dev nD)

theorem held_of_owns {S : Shape} {e : EltTy} (M : Memref sig .tc .vmem S e) (hM : M.IsWhole) (x : S.Idx → Elt F e) :
    (owns (c : Thread nD τ) M fullShare x : sProp 𝕄) ⊢ Held c M (Reads c M) x := by
  unfold owns Held Reads
  rw [hM.set_eq_univ]

theorem owns_of_held {S : Shape} {e : EltTy} (M : Memref sig .tc .vmem S e) (hM : M.IsWhole) (x : S.Idx → Elt F e) :
    (Held c M (Reads c M) x : sProp 𝕄) ⊢ owns (c : Thread nD τ) M fullShare x := by
  unfold owns Held Reads
  rw [hM.set_eq_univ]

/-- A scratch buffer of any contents, held under a law that always has a value. -/
theorem held_of_some {S : Shape} {e : EltTy} {T : Type} (M : Memref sig .tc .vmem S e) (hM : M.IsWhole)
    (law : Buf (Elt F) (M.view.loc (c : Thread nD τ)) → T → Prop) (hl : ∀ f, ∃ t, law f t) :
    (iprop(∃ d, owns (c : Thread nD τ) M fullShare d) : sProp 𝕄) ⊢ iprop(∃ t, Held c M law t) := by
  unfold owns Held
  rw [hM.set_eq_univ]
  iintro ⟨%d, %f, %hf, H⟩
  obtain ⟨t, ht⟩ := hl f
  iexists t
  iexists f
  isplitr
  · ipureintro; exact ht
  · iexact H

theorem some_of_held {S : Shape} {e : EltTy} {T : Type} (M : Memref sig .tc .vmem S e) (hM : M.IsWhole)
    (law : Buf (Elt F) (M.view.loc (c : Thread nD τ)) → T → Prop) (t : T) :
    (Held c M law t : sProp 𝕄) ⊢ iprop(∃ d, owns (c : Thread nD τ) M fullShare d) := by
  unfold owns Held
  rw [hM.set_eq_univ]
  iintro ⟨%f, %hf, H⟩
  iexists _
  iexists f
  isplitr
  · ipureintro; rfl
  · iexact H

/-! ## The body at a point -/

def vPre (c : Dev nD) (t : Fin cfg0.N) : sProp 𝕄 :=
  iprop((vdat m 0 c).Φ t.castSucc ∗ (vdat m 0 c).owesAt () t.castSucc
    ∗ (∃ d, owns (c : Thread nD τ) (ms0_0 t) fullShare ((vdat m 0 c).before 0 t d))
    ∗ (∃ d, owns (c : Thread nD τ) (ms0_1 t) fullShare ((vdat m 0 c).before 1 t d))
    ∗ (∃ d, owns (c : Thread nD τ) (ms0_2 t) fullShare ((vdat m 0 c).before 2 t d))
    ∗ (∃ d, owns (c : Thread nD τ) (ms0_3 t) fullShare ((vdat m 0 c).before 3 t d)))

def vPost (c : Dev nD) (t : Fin cfg0.N) : sProp 𝕄 :=
  iprop((vdat m 0 c).Φ t.succ ∗ (vdat m 0 c).owesAt () t.succ
    ∗ owns (c : Thread nD τ) (ms0_0 t) fullShare ((vdat m 0 c).after 0 t)
    ∗ owns (c : Thread nD τ) (ms0_1 t) fullShare ((vdat m 0 c).after 1 t)
    ∗ owns (c : Thread nD τ) (ms0_2 t) fullShare ((vdat m 0 c).after 2 t)
    ∗ owns (c : Thread nD τ) (ms0_3 t) fullShare ((vdat m 0 c).after 3 t))

theorem point_runs (t : Fin cfg0.N) (s : St F) :
    Res c (ms0_0 t) (ms0_1 t) (ms0_2 t) (ms0_3 t) scM0_0 scM0_1 scM0_2 scM0_3 (iblk m c 0 t) (iblk m c 1 t) (iblk m c 2 t) s
      ⊢ wp frame (wpE (Ix := Unit) (Name := Nat) (U := UR sig nD τ) (Lvl := Nat) (defs₀ (F := F)) Variants.none (c : Thread nD τ) none) Set.univ (bodyAt0 t)
        (fun _ => iprop(∃ s' : St F, ⌜s'.out = blockAt m c t⌝
          ∗ Res c (ms0_0 t) (ms0_1 t) (ms0_2 t) (ms0_3 t) scM0_0 scM0_1 scM0_2 scM0_3 (iblk m c 0 t) (iblk m c 1 t) (iblk m c 2 t) s')) :=
  (block_runs s).run

set_option maxHeartbeats 1600000 in
theorem sound (t : Fin cfg0.N) :
    vPre m c t ⊢ wp frame (wpE (defs₀ (F := F)) Variants.none c none) Set.univ (bodyAt0 t) (fun _ => vPost m c t) := by
  unfold vPre vPost
  simp only [vbefore0, vbefore1, vbefore2]
  rw [show (vdat m 0 c).Φ t.succ = (vdat m 0 c).Φ t.castSucc from rfl,
    show (vdat m 0 c).owesAt () t.succ = (vdat m 0 c).owesAt () t.castSucc from rfl,
    vafter0, vafter1, vafter2, vafter3]
  rw [show (vdat m 0 c).Φ t.castSucc = Pipeline.ΦA spec0 c from rfl, PhiA0_eq]
  iintro ⟨⟨⟨HS0, HS1, HS2, HS3⟩, Hg⟩, Ho, ⟨%d0, H0⟩, ⟨%d1, H1⟩, ⟨%d2, H2⟩, ⟨%d3, H3⟩⟩
  ihave H0 := (held_of_owns (F := F) c (ms0_0 t) (hs0_0 t) (iblk m c 0 t)) $$ H0
  ihave H1 := (held_of_owns (F := F) c (ms0_1 t) (hs0_1 t) (iblk m c 1 t)) $$ H1
  ihave H2 := (held_of_owns (F := F) c (ms0_2 t) (hs0_2 t) (iblk m c 2 t)) $$ H2
  ihave H3 := (held_of_owns (F := F) c (ms0_3 t) (hs0_3 t) ((vdat m 0 c).before 3 t d3)) $$ H3
  ihave ⟨%t0, HS0⟩ := (held_of_some (F := F) c scM0_0 (Memref.isWhole_whole _) (lawM c scM0_0) fun f => ⟨⟨_, _, _, _⟩, rfl, rfl, rfl, rfl⟩) $$ HS0
  ihave ⟨%t1, HS1⟩ := (held_of_some (F := F) c scM0_1 (Memref.isWhole_whole _) (lawA c scM0_1) fun f => ⟨⟨_, _, _, _⟩, rfl, rfl, rfl, rfl⟩) $$ HS1
  ihave ⟨%t2, HS2⟩ := (held_of_some (F := F) c scM0_2 (Memref.isWhole_whole _) (lawS c scM0_2) fun f => ⟨⟨_, _, _, _⟩, rfl, rfl, rfl, rfl⟩) $$ HS2
  ihave ⟨%t3, HS3⟩ := (held_of_some (F := F) c scM0_3 (Memref.isWhole_whole _) (lawS c scM0_3) fun f => ⟨⟨_, _, _, _⟩, rfl, rfl, rfl, rfl⟩) $$ HS3
  iapply (wp_wand_r (M := 𝕄))
  isplitl [H0 H1 H2 H3 HS0 HS1 HS2 HS3]
  · iapply (point_runs m c t ⟨t0, t1, t2, t3, (vdat m 0 c).before 3 t d3⟩)
    unfold Res
    isplitl [H0]; · iexact H0
    isplitl [H1]; · iexact H1
    isplitl [H2]; · iexact H2
    isplitl [H3]; · iexact H3
    isplitl [HS0]; · iexact HS0
    isplitl [HS1]; · iexact HS1
    isplitl [HS2]; · iexact HS2
    iexact HS3
  iintro %a ⟨%s', %hs, H⟩
  unfold Res
  icases H with ⟨H0, H1, H2, H3, HS0, HS1, HS2, HS3⟩
  isplitl [HS0 HS1 HS2 HS3 Hg]
  · isplitl [HS0 HS1 HS2 HS3]
    · isplitl [HS0]
      · iapply (some_of_held (F := F) c scM0_0 (Memref.isWhole_whole _) (lawM c scM0_0) s'.m); iexact HS0
      isplitl [HS1]
      · iapply (some_of_held (F := F) c scM0_1 (Memref.isWhole_whole _) (lawA c scM0_1) s'.acc); iexact HS1
      isplitl [HS2]
      · iapply (some_of_held (F := F) c scM0_2 (Memref.isWhole_whole _) (lawS c scM0_2) s'.sa); iexact HS2
      iapply (some_of_held (F := F) c scM0_3 (Memref.isWhole_whole _) (lawS c scM0_3) s'.sb); iexact HS3
    iexact Hg
  isplitl [Ho]; · iexact Ho
  isplitl [H0]; · iapply (owns_of_held (F := F) c (ms0_0 t) (hs0_0 t) (iblk m c 0 t)); iexact H0
  isplitl [H1]; · iapply (owns_of_held (F := F) c (ms0_1 t) (hs0_1 t) (iblk m c 1 t)); iexact H1
  isplitl [H2]; · iapply (owns_of_held (F := F) c (ms0_2 t) (hs0_2 t) (iblk m c 2 t)); iexact H2
  rw [← hs]
  iapply (owns_of_held (F := F) c (ms0_3 t) (hs0_3 t) s'.out); iexact H3

theorem obligation : BodyObligation (vdat (F := F) m 0 c) (defs₀ (F := F)) Variants.none () Set.univ := fun t => by
  rw [bigSep_W0, bigSep_W0, defs₀_row]
  exact triple_restated (sound m c t) rfl .rfl fun _ => .rfl

set_option backward.isDefEq.respectTransparency.types false in
theorem main_run : θ_run defs (onTc (τ := τ) (main (F := F))) (s₀ m ρ) (fun r => (Pipeline.FramePost cfgs (vdat m) 0 (V m)) r ∧ r.2.sem = fun _ => 0) :=
  Pipeline.θ_run_frame (Q' := _) cfgs (vdat m) (0 : Fin 1) launch0 defs₀ Variants.none m ρ main
    (hbody := fun c => (obligation m c).loose) (hshare := fun c => (vdat m 0 c).share_full fun _ => rfl)
    (howed := fun _ _ => rfl) (V := V m) (hmain := hmain m Variants.none) (hA := vdat_A m) (hΦ := fun _ _ => rfl)

/-- The run: the output array as the points leave it, the arguments as launched. -/
theorem run_out : θ_run defs (onTc (τ := τ) (main (F := F))) ⟨m, fun _ => 0, ρ⟩ fun r => ∀ c : Dev nD,
      r.2.mem ((c : Thread nD τ).loc main_v13) = (vdat m 0 c).arrAt 3 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h.1 c).1 3,
      ((h.1 c).2 main_arg0 (Pipeline.mem_restRefs_of main_arg0 (by decide) (by decide))).trans (V_main_arg0 m c),
      ((h.1 c).2 main_arg1 (Pipeline.mem_restRefs_of main_arg1 (by decide) (by decide))).trans (V_main_arg1 m c),
      ((h.1 c).2 main_arg2 (Pipeline.mem_restRefs_of main_arg2 (by decide) (by decide))).trans (V_main_arg2 m c)⟩)
    (main_run m ρ)

end Cert.MlaRun
end
-- ==== Proof.MlaValue.lean ====
/-
  The attention kernel's result array over the reals, entry by entry: what the host prepares for each window, the windows'
  blocks, the block a point writes, and the run.
-/
module

public import proofs.«01_k».proof.Proof.MlaHead
public import proofs.«01_k».proof.Proof.MlaRun
public import Idealize.ShloMosaic.Lib.StableHlo.Run

@[expose] public section

set_option maxRecDepth 16384

noncomputable section

namespace Cert.MlaValue

open Cert.Kernel4Ideal Cert.Kernel4Ideal.Gen Idealize.ShloMosaic Idealize.ShloMosaic.TcCoe Idealize.SL.Sem
open Idealize.ShloMosaic.Pipeline (Dat)
open Cert.MlaMath Cert.MlaRun

variable (m : (ℓ : Loc nD τ sig) → Buf (Elt Ideal) ℓ) (ρ : Dev nD → PrngReg) (c : Dev nD)

/-! ## The argument arrays -/

/-- The queries. -/
abbrev aq : FVec Ideal S8x4096x8x96 .f32 := m ((c.tc : Thread nD τ).loc main_arg0)
/-- The keys. -/
abbrev ak : FVec Ideal S8x4096x8x96 .f32 := m ((c.tc : Thread nD τ).loc main_arg1)
/-- The values. -/
abbrev av : FVec Ideal S8x4096x8x64 .f32 := m ((c.tc : Thread nD τ).loc main_arg2)

/-! ## What the host leaves in the windows' arrays -/

theorem zero_pad : (FloatOps.sitofp (F := Ideal) .f32 (0#32 : BitVec 32) : EReal) = 0 := by
  show (((0#32 : BitVec 32).toInt : ℝ) : EReal) = 0
  simp

theorem v9_apply (q : Fin 32768) (i : Fin 1024) : (V m c main_v9 : FVec Ideal S32768x1024 .bf16) (ix2 q i)
    = if h : i.val % 128 < 96 then aq m c (ix4 ⟨q / 4096, by omega⟩ ⟨q % 4096, by omega⟩ ⟨i / 128, by omega⟩ ⟨i % 128, h⟩)
        * Ideal.div (Ideal.ofBits .f32 0x3DD105EC#32) (Ideal.log (Ideal.ofBits .f32 0x40000000#32)) else 0 := by
  have h : (V m c main_v9 : FVec Ideal S32768x1024 .bf16) = truncf .bf16 (shapeCast S32768x1024
      (pad S8x4096x8x128 ![0, 0, 0, 0] ![0, 0, 0, 32] ![0, 0, 0, 0] (mulf (aq m c) (broadcastInDim S8x4096x8x96 ![] bcast_S_S8x4096x8x96
        (Host.divf (constant S_ .f32 0x3DD105EC#32) (Host.log (constant S_ .f32 0x40000000#32)))))
        (sitofp .f32 (constantI S_ 32 0#32)) pads_S8x4096x8x96_S8x4096x8x128_000_000_000_0320 h_S_)
      shapeCasts_S8x4096x8x128_S32768x1024) bitsLt_bf16_f32 := by
    unfold V
    simp only [hostOps0, hostOps0_1, hostOps0_2, hostOps0_3, hostOps0_4, List.flatten_cons, List.flatten_nil, List.append_nil, List.cons_append, List.nil_append]
    after_results; rfl
  rw [h]; pointwise
  rw [zero_pad]
  split_ifs with a b b
  · rfl
  · exact absurd a.2.2.2 b
  · exact absurd ⟨by omega, by omega, by omega, b⟩ a
  · rfl

theorem v12_apply (q : Fin 32768) (i : Fin 1024) : (V m c main_v12 : FVec Ideal S32768x1024 .bf16) (ix2 q i)
    = if h : i.val % 128 < 96 then ak m c (ix4 ⟨q / 4096, by omega⟩ ⟨q % 4096, by omega⟩ ⟨i / 128, by omega⟩ ⟨i % 128, h⟩) else 0 := by
  have h : (V m c main_v12 : FVec Ideal S32768x1024 .bf16) = truncf .bf16 (shapeCast S32768x1024
      (pad S8x4096x8x128 ![0, 0, 0, 0] ![0, 0, 0, 32] ![0, 0, 0, 0] (ak m c)
        (sitofp .f32 (constantI S_ 32 0#32)) pads_S8x4096x8x96_S8x4096x8x128_000_000_000_0320 h_S_)
      shapeCasts_S8x4096x8x128_S32768x1024) bitsLt_bf16_f32 := by
    unfold V
    simp only [hostOps0, hostOps0_1, hostOps0_2, hostOps0_3, hostOps0_4, List.flatten_cons, List.flatten_nil, List.append_nil, List.cons_append, List.nil_append]
    after_results; rfl
  rw [h]; pointwise
  rw [zero_pad]
  split_ifs with a b b
  · rfl
  · exact absurd a.2.2.2 b
  · exact absurd ⟨by omega, by omega, by omega, b⟩ a
  · rfl

theorem v4_apply (l : Fin 64) (i : Fin 512) (j : Fin 512) : (V m c main_v4 : FVec Ideal S64x512x512 .bf16) (ix3 l i j)
    = av m c (ix4 ⟨l / 8, by omega⟩ ⟨l % 8 * 512 + j, by omega⟩ ⟨i / 64, by omega⟩ ⟨i % 64, by omega⟩) := by
  have h : (V m c main_v4 : FVec Ideal S64x512x512 .bf16) = truncf .bf16 (transpose S64x512x512 [0, 2, 1]
      (shapeCast S64x512x512 (av m c) shapeCasts_S8x4096x8x64_S64x512x512) transposes_S64x512x512_S64x512x512_0_2_1) bitsLt_bf16_f32 := by
    unfold V
    simp only [hostOps0, hostOps0_1, hostOps0_2, hostOps0_3, hostOps0_4, List.flatten_cons, List.flatten_nil, List.append_nil, List.cons_append, List.nil_append]
    after_results; rfl
  rw [h]; pointwise

/-! ## The windows' blocks -/

theorem index_facts : ∀ t : Fin cfg0.N, win0_0.index t 0 = t.val / 16 * 8 + t.val % 8 ∧ win0_0.index t 1 = t.val / 8 % 2
    ∧ win0_1.index t 0 = t.val / 16 ∧ win0_1.index t 1 = t.val / 8 % 2
    ∧ win0_2.index t 0 = t.val / 16 ∧ win0_2.index t 1 = t.val / 8 % 2 ∧ win0_2.index t 2 = 0
    ∧ win0_3.index t 0 = t.val / 16 * 8 + t.val % 8 ∧ win0_3.index t 1 = t.val / 8 % 2 ∧ (grid0.coords t 2).val = t.val % 8 :=
  (by decide +kernel : ∀ t : Fin grid0.N, win0_0.index t 0 = t.val / 16 * 8 + t.val % 8 ∧ win0_0.index t 1 = t.val / 8 % 2
    ∧ win0_1.index t 0 = t.val / 16 ∧ win0_1.index t 1 = t.val / 8 % 2
    ∧ win0_2.index t 0 = t.val / 16 ∧ win0_2.index t 1 = t.val / 8 % 2 ∧ win0_2.index t 2 = 0
    ∧ win0_3.index t 0 = t.val / 16 * 8 + t.val % 8 ∧ win0_3.index t 1 = t.val / 8 % 2 ∧ (grid0.coords t 2).val = t.val % 8)

theorem lt128 (t : Fin cfg0.N) : t.val < 128 := Nat.lt_of_lt_of_eq t.isLt N_0

variable (t : Fin cfg0.N)

theorem b0 (i : Fin 512) (j : Fin 512) : (iblk m c 0 t : Vec Ideal S512x512 .bf16) (ix2 i j)
    = (V m c main_v9 : FVec Ideal S32768x1024 .bf16) (ix2 ⟨(t.val / 16 * 8 + t.val % 8) * 512 + i, by have := lt128 t; omega⟩ ⟨t.val / 8 % 2 * 512 + j, by omega⟩) := by
  have h := index_facts t
  unfold iblk
  rw [View.read_apply]
  refine congrArg (V m c main_v9 : FVec Ideal S32768x1024 .bf16) (funext fun a => Fin.ext ?_)
  match a with
  | ⟨0, _⟩ => show win0_0.index t 0 * 512 + 1 * i.val = _; rw [h.1, Nat.one_mul]; rfl
  | ⟨1, _⟩ => show win0_0.index t 1 * 512 + 1 * j.val = _; rw [h.2.1, Nat.one_mul]; rfl

theorem b1 (i : Fin 4096) (j : Fin 512) : (iblk m c 1 t : Vec Ideal S4096x512 .bf16) (ix2 i j)
    = (V m c main_v12 : FVec Ideal S32768x1024 .bf16) (ix2 ⟨t.val / 16 * 4096 + i, by have := lt128 t; omega⟩ ⟨t.val / 8 % 2 * 512 + j, by omega⟩) := by
  have h := index_facts t
  unfold iblk
  rw [View.read_apply]
  refine congrArg (V m c main_v12 : FVec Ideal S32768x1024 .bf16) (funext fun a => Fin.ext ?_)
  match a with
  | ⟨0, _⟩ => show win0_1.index t 0 * 4096 + 1 * i.val = _; rw [h.2.2.1, Nat.one_mul]; rfl
  | ⟨1, _⟩ => show win0_1.index t 1 * 512 + 1 * j.val = _; rw [h.2.2.2.1, Nat.one_mul]; rfl

theorem b2 (l : Fin 8) (i : Fin 256) (j : Fin 512) : (iblk m c 2 t : Vec Ideal S8x256x512 .bf16) (ix3 l i j)
    = (V m c main_v4 : FVec Ideal S64x512x512 .bf16) (ix3 ⟨t.val / 16 * 8 + l, by have := lt128 t; omega⟩ ⟨t.val / 8 % 2 * 256 + i, by omega⟩ j) := by
  have h := index_facts t
  unfold iblk
  rw [View.read_apply]
  refine congrArg (V m c main_v4 : FVec Ideal S64x512x512 .bf16) (funext fun a => Fin.ext ?_)
  match a with
  | ⟨0, _⟩ => show win0_2.index t 0 * 8 + 1 * l.val = _; rw [h.2.2.2.2.1, Nat.one_mul]; rfl
  | ⟨1, _⟩ => show win0_2.index t 1 * 256 + 1 * i.val = _; rw [h.2.2.2.2.2.1, Nat.one_mul]; rfl
  | ⟨2, _⟩ => show win0_2.index t 2 * 512 + 1 * j.val = j.val; rw [h.2.2.2.2.2.2.1]; omega

end Cert.MlaValue
end
-- ==== Proof.MlaResult.lean ====
/-
  The attention kernel's result array where the queries and keys hold real numbers: every entry is the
  softmax-weighted value of the keys up to its query.
-/
module

public import proofs.«01_k».proof.Proof.MlaValue

@[expose] public section

set_option maxRecDepth 16384

noncomputable section

namespace Cert.MlaResult

open Cert.Kernel4Ideal Cert.Kernel4Ideal.Gen Idealize.ShloMosaic Idealize.ShloMosaic.TcCoe Idealize.SL.Sem
open Idealize.ShloMosaic.Pipeline (Dat)
open Cert.MlaMath Cert.MlaRun Cert.MlaValue

/-! ## The arrays, read at natural numbers: the queries and keys as real numbers -/

/-- An array of queries or keys at a batch, a position, a head and a channel. -/
def qN (X : FVec Ideal S8x4096x8x96 .f32) (b s h d : Nat) : ℝ :=
  EReal.toReal (X (ix4 ⟨b % 8, by omega⟩ ⟨s % 4096, by omega⟩ ⟨h % 8, by omega⟩ ⟨d % 96, by omega⟩))

/-- The values at a batch, a position, a head and a channel. -/
def vN (X : FVec Ideal S8x4096x8x64 .f32) (b s h e : Nat) : EReal :=
  X (ix4 ⟨b % 8, by omega⟩ ⟨s % 4096, by omega⟩ ⟨h % 8, by omega⟩ ⟨e % 64, by omega⟩)

theorem qN_eq (X : FVec Ideal S8x4096x8x96 .f32) (hX : ∀ i, ∃ r : ℝ, X i = (r : EReal)) (b h : Fin 8) (s : Fin 4096) (d : Fin 96)
    (B S H D : Nat) (hb : b.val = B) (hs : s.val = S) (hh : h.val = H) (hd : d.val = D) : X (ix4 b s h d) = (qN X B S H D : EReal) := by
  subst hb hs hh hd
  unfold qN
  rw [show (⟨b.val % 8, by omega⟩ : Fin 8) = b from Fin.ext (by show b.val % 8 = b.val; omega),
    show (⟨h.val % 8, by omega⟩ : Fin 8) = h from Fin.ext (by show h.val % 8 = h.val; omega),
    show (⟨s.val % 4096, by omega⟩ : Fin 4096) = s from Fin.ext (by show s.val % 4096 = s.val; omega),
    show (⟨d.val % 96, by omega⟩ : Fin 96) = d from Fin.ext (by show d.val % 96 = d.val; omega)]
  obtain ⟨r, hr⟩ := hX (ix4 b s h d)
  rw [hr]; rfl

theorem vN_eq (X : FVec Ideal S8x4096x8x64 .f32) (b h : Fin 8) (s : Fin 4096) (e : Fin 64)
    (B S H E : Nat) (hb : b.val = B) (hs : s.val = S) (hh : h.val = H) (he : e.val = E) : X (ix4 b s h e) = vN X B S H E := by
  subst hb hs hh he
  unfold vN
  rw [show (⟨b.val % 8, by omega⟩ : Fin 8) = b from Fin.ext (by show b.val % 8 = b.val; omega),
    show (⟨h.val % 8, by omega⟩ : Fin 8) = h from Fin.ext (by show h.val % 8 = h.val; omega),
    show (⟨s.val % 4096, by omega⟩ : Fin 4096) = s from Fin.ext (by show s.val % 4096 = s.val; omega),
    show (⟨e.val % 64, by omega⟩ : Fin 64) = e from Fin.ext (by show e.val % 64 = e.val; omega)]

/-- The scaled scores of a query. -/
def scoreN (Q K : FVec Ideal S8x4096x8x96 .f32) (b s h : Nat) (k : Fin 4096) : ℝ :=
  (∑ d : Fin 96, qN Q b s h d.val * qN K b k.val h d.val) * scale

/-- The attention's entry at a batch, a query, a head and a channel. -/
def entry (Q K : FVec Ideal S8x4096x8x96 .f32) (W : FVec Ideal S8x4096x8x64 .f32) (b : Nat) (s : Fin 4096) (h e : Nat) : EReal :=
  att (scoreN Q K b s.val h) (fun k => vN W b k.val h e) s

variable (m : (ℓ : Loc nD τ sig) → Buf (Elt Ideal) ℓ) (ρ : Dev nD → PrngReg) (c : Dev nD) (t : Fin cfg0.N)

/-- The result array. -/
def result : FVec Ideal S32768x512 .bf16 := fun i =>
  entry (aq m c) (ak m c) (av m c) ((i 0).val / 4096) ⟨(i 0).val % 4096, by omega⟩ ((i 1).val / 64) ((i 1).val % 64)

/-! ## The blocks of point `t`, the queries and keys as real numbers -/

/-- The scaled, padded queries. -/
def bQ (r j : Fin 512) : ℝ := if j.val % 128 < 96 then
  qN (aq m c) (t.val / 16) (t.val % 8 * 512 + r.val) (t.val / 8 % 2 * 4 + j.val / 128) (j.val % 128) * (scale / Real.log 2) else 0

/-- The padded keys. -/
def bK (k : Fin 4096) (j : Fin 512) : ℝ := if j.val % 128 < 96 then
  qN (ak m c) (t.val / 16) k.val (t.val / 8 % 2 * 4 + j.val / 128) (j.val % 128) else 0

/-- The values, tile by tile. -/
def bV (l : Fin 8) (e : Fin 256) (j : Fin 512) : EReal :=
  vN (av m c) (t.val / 16) (l.val * 512 + j.val) (t.val / 8 % 2 * 4 + e.val / 64) (e.val % 64)

/-- The queries and the keys hold real numbers. -/
structure Real : Prop where
  q : ∀ i, ∃ r : ℝ, aq m c i = (r : EReal)
  k : ∀ i, ∃ r : ℝ, ak m c i = (r : EReal)

variable (hR : Real m c)
include hR

theorem h0 (i j : Fin 512) : (iblk m c 0 t : Vec Ideal S512x512 .bf16) (ix2 i j) = (bQ m c t i j : EReal) := by
  have hN := lt128 t
  refine ((b0 m c t i j).trans (v9_apply m c _ _)).trans ?_
  unfold bQ
  by_cases g : j.val % 128 < 96
  · have g' : (t.val / 8 % 2 * 512 + j.val) % 128 < 96 := by omega
    rw [if_pos g]
    refine (dif_pos g').trans ?_
    rw [scale_log, qN_eq (aq m c) hR.q _ _ _ _ (t.val / 16) (t.val % 8 * 512 + i.val) (t.val / 8 % 2 * 4 + j.val / 128) (j.val % 128)
      (by show ((t.val / 16 * 8 + t.val % 8) * 512 + i.val) / 4096 = _; omega)
      (by show ((t.val / 16 * 8 + t.val % 8) * 512 + i.val) % 4096 = _; omega)
      (by show (t.val / 8 % 2 * 512 + j.val) / 128 = _; omega)
      (by show (t.val / 8 % 2 * 512 + j.val) % 128 = _; omega), ← EReal.coe_mul]
  · have g' : ¬ (t.val / 8 % 2 * 512 + j.val) % 128 < 96 := by omega
    rw [if_neg g]
    exact (dif_neg g').trans EReal.coe_zero.symm

theorem h1 (i : Fin 4096) (j : Fin 512) : (iblk m c 1 t : Vec Ideal S4096x512 .bf16) (ix2 i j) = (bK m c t i j : EReal) := by
  have hN := lt128 t
  refine ((b1 m c t i j).trans (v12_apply m c _ _)).trans ?_
  unfold bK
  by_cases g : j.val % 128 < 96
  · have g' : (t.val / 8 % 2 * 512 + j.val) % 128 < 96 := by omega
    rw [if_pos g]
    refine (dif_pos g').trans ?_
    exact qN_eq (ak m c) hR.k _ _ _ _ (t.val / 16) i.val (t.val / 8 % 2 * 4 + j.val / 128) (j.val % 128)
      (by show (t.val / 16 * 4096 + i.val) / 4096 = _; omega)
      (by show (t.val / 16 * 4096 + i.val) % 4096 = _; omega)
      (by show (t.val / 8 % 2 * 512 + j.val) / 128 = _; omega)
      (by show (t.val / 8 % 2 * 512 + j.val) % 128 = _; omega)
  · have g' : ¬ (t.val / 8 % 2 * 512 + j.val) % 128 < 96 := by omega
    rw [if_neg g]
    exact (dif_neg g').trans EReal.coe_zero.symm

theorem h2 (l : Fin 8) (i : Fin 256) (j : Fin 512) : (iblk m c 2 t : Vec Ideal S8x256x512 .bf16) (ix3 l i j) = bV m c t l i j := by
  have hN := lt128 t
  refine ((b2 m c t l i j).trans (v4_apply m c _ _ _)).trans ?_
  exact vN_eq (av m c) _ _ _ _ (t.val / 16) (l.val * 512 + j.val) (t.val / 8 % 2 * 4 + i.val / 64) (i.val % 64)
    (by show (t.val / 16 * 8 + l.val) / 8 = _; omega)
    (by show (t.val / 16 * 8 + l.val) % 8 * 512 + j.val = _; omega)
    (by show (t.val / 8 % 2 * 256 + i.val) / 64 = _; omega)
    (by show (t.val / 8 % 2 * 256 + i.val) % 64 = _; omega)

omit hR

/-- A sum over 128 channels of which the last 32 are padding. -/
theorem sum_padded (f : Nat → ℝ) (hf : ∀ d, 96 ≤ d → f d = 0) : (∑ d : Fin 128, f d.val) = ∑ d : Fin 96, f d.val := by
  rw [Fin.sum_univ_eq_sum_range f 128, Fin.sum_univ_eq_sum_range f 96]
  exact (Finset.sum_subset (Finset.range_subset_range.2 (by omega)) fun d _ h => hf d (by simpa using h)).symm

theorem log_two_ne : Real.log 2 ≠ 0 := (Real.log_pos (by norm_num)).ne'

theorem scores_eq (h : Fin 4) (r : Fin 512) : MlaHead.xR (bQ m c t) (bK m c t) h.val r
    = scoreN (aq m c) (ak m c) (t.val / 16) (t.val % 8 * 512 + r.val) (t.val / 8 % 2 * 4 + h.val) := by
  funext k
  unfold MlaHead.xR MlaHead.sR scoreN
  obtain ⟨f, hf⟩ : ∃ f : Nat → ℝ, ∀ n, f n = if n < 96 then qN (aq m c) (t.val / 16) (t.val % 8 * 512 + r.val) (t.val / 8 % 2 * 4 + h.val) n
      * qN (ak m c) (t.val / 16) k.val (t.val / 8 % 2 * 4 + h.val) n * (scale / Real.log 2) else 0 := ⟨_, fun _ => rfl⟩
  have e (d : Fin 128) : bK m c t ⟨k.val % 4096, by omega⟩ ⟨(128 * h.val + d.val) % 512, by omega⟩
        * bQ m c t r ⟨(128 * h.val + d.val) % 512, by omega⟩ = f d.val := by
    unfold bK bQ
    have e1 : (128 * h.val + d.val) % 512 % 128 = d.val := by omega
    have e2 : (128 * h.val + d.val) % 512 / 128 = h.val := by omega
    have e3 : k.val % 4096 = k.val := by omega
    dsimp only
    rw [e1, e2, e3, hf]
    split
    · ring
    · ring
  have e' (d : Fin 96) : f d.val = qN (aq m c) (t.val / 16) (t.val % 8 * 512 + r.val) (t.val / 8 % 2 * 4 + h.val) d.val
      * qN (ak m c) (t.val / 16) k.val (t.val / 8 % 2 * 4 + h.val) d.val * (scale / Real.log 2) := (hf _).trans (if_pos d.isLt)
  rw [Finset.sum_congr rfl fun d _ => e d, sum_padded f fun d hd => (hf d).trans (if_neg (by omega)),
    Finset.sum_congr rfl fun d _ => e' d, ← Finset.sum_mul, mul_assoc, div_mul_cancel₀ _ log_two_ne]

theorem values_eq (h : Fin 4) (e : Fin 64) : MlaHead.wR (bV m c t) h.val e
    = fun k => vN (av m c) (t.val / 16) k.val (t.val / 8 % 2 * 4 + h.val) e.val := by
  funext k
  unfold MlaHead.wR bV
  dsimp only
  rw [show k.val / 512 % 8 * 512 + k.val % 512 = k.val by omega, show (64 * h.val + e.val) % 256 / 64 = h.val by omega,
    show (64 * h.val + e.val) % 256 % 64 = e.val by omega]

/-! ## The result -/

theorem result_apply (r : Fin 512) (h : Fin 4) (e : Fin 64) :
    result m c (ix2 (⟨(t.val / 16 * 8 + t.val % 8) * 512 + r.val, by have := lt128 t; omega⟩ : Fin 32768)
        (⟨t.val / 8 % 2 * 256 + (64 * h.val + e.val), by omega⟩ : Fin 512))
      = entry (aq m c) (ak m c) (av m c) (t.val / 16) ⟨t.val % 8 * 512 + r.val, by omega⟩ (t.val / 8 % 2 * 4 + h.val) e.val := by
  have hN := lt128 t
  show entry (aq m c) (ak m c) (av m c) (((t.val / 16 * 8 + t.val % 8) * 512 + r.val) / 4096)
    ⟨((t.val / 16 * 8 + t.val % 8) * 512 + r.val) % 4096, by omega⟩ ((t.val / 8 % 2 * 256 + (64 * h.val + e.val)) / 64)
    ((t.val / 8 % 2 * 256 + (64 * h.val + e.val)) % 64) = _
  have e0 : ((t.val / 16 * 8 + t.val % 8) * 512 + r.val) / 4096 = t.val / 16 := by omega
  have e1 : (⟨((t.val / 16 * 8 + t.val % 8) * 512 + r.val) % 4096, by omega⟩ : Fin 4096) = ⟨t.val % 8 * 512 + r.val, by omega⟩ :=
    Fin.ext (by show ((t.val / 16 * 8 + t.val % 8) * 512 + r.val) % 4096 = t.val % 8 * 512 + r.val; omega)
  have e2 : (t.val / 8 % 2 * 256 + (64 * h.val + e.val)) / 64 = t.val / 8 % 2 * 4 + h.val := by omega
  have e3 : (t.val / 8 % 2 * 256 + (64 * h.val + e.val)) % 64 = e.val := by omega
  rw [e0, e1, e2, e3]

include hR

theorem block_apply (r : Fin 512) (j : Fin 256) : blockAt m c t (ix2 r j)
    = result m c (ix2 (⟨(t.val / 16 * 8 + t.val % 8) * 512 + r.val, by have := lt128 t; omega⟩ : Fin 32768)
        (⟨t.val / 8 % 2 * 256 + j.val, by omega⟩ : Fin 512)) := by
  obtain ⟨h, e, rfl⟩ : ∃ (h : Fin 4) (e : Fin 64), j = ⟨64 * h.val + e.val, by omega⟩ :=
    ⟨⟨j.val / 64, by omega⟩, ⟨j.val % 64, by omega⟩, Fin.ext (by show j.val = 64 * (j.val / 64) + j.val % 64; omega)⟩
  have hi : (grid0.coords t 2).val = t.val % 8 := (index_facts t).2.2.2.2.2.2.2.2.2
  refine (MlaHead.block (bQ m c t) (bK m c t) (bV m c t) _ _ _ (h0 m c t hR) (h1 m c t hR) (h2 m c t hR) _ (by omega) h r e).trans ?_
  refine Eq.trans ?_ (result_apply m c t r h e).symm
  rw [scores_eq, values_eq]
  unfold entry
  have es : (⟨512 * (grid0.coords t 2).val + r.val, by omega⟩ : Fin 4096) = ⟨t.val % 8 * 512 + r.val, by omega⟩ :=
    Fin.ext (by show 512 * (grid0.coords t 2).val + r.val = t.val % 8 * 512 + r.val; omega)
  rw [es]

omit hR

/-- Where entry `(r, j)` of output block `t` lies. -/
theorem out_emb (r : Fin 512) (j : Fin 256) : ((cfg0.win 3).blk t).view.emb (ix2 r j)
    = (ix2 (⟨(t.val / 16 * 8 + t.val % 8) * 512 + r.val, by have := lt128 t; omega⟩ : Fin 32768)
        (⟨t.val / 8 % 2 * 256 + j.val, by omega⟩ : Fin 512) : S32768x512.Idx) := by
  have h := index_facts t
  refine funext fun a => Fin.ext ?_
  match a with
  | ⟨0, _⟩ => show win0_3.index t 0 * 512 + 1 * r.val = (t.val / 16 * 8 + t.val % 8) * 512 + r.val; rw [h.2.2.2.2.2.2.2.1]; omega
  | ⟨1, _⟩ => show win0_3.index t 1 * 256 + 1 * j.val = t.val / 8 % 2 * 256 + j.val; rw [h.2.2.2.2.2.2.2.2.1]; omega

/-- The blocks cover the result array. -/
theorem cover (i : S32768x512.Idx) : ∃ t : Fin cfg0.N, (cfg0.win 3).flush t = true ∧ i ∈ ((cfg0.win 3).blk t).view.set := by
  have h0 : (i 0).val < 32768 := (i 0).isLt
  have h1 : (i 1).val < 512 := (i 1).isLt
  have hN : cfg0.N = 128 := N_0
  let t : Fin cfg0.N := ⟨(i 0).val / 4096 * 16 + (i 1).val / 256 * 8 + (i 0).val % 4096 / 512, by omega⟩
  have ht : t.val = (i 0).val / 4096 * 16 + (i 1).val / 256 * 8 + (i 0).val % 4096 / 512 := rfl
  have h := index_facts t
  refine ⟨t, flush0_3 _, ?_⟩
  show i ∈ ((View.whole main_v13).slice (win0_3.rect t)).set
  rw [View.set_slice_whole, Rect.mem_set_unit]
  intro a
  match a with
  | ⟨0, _⟩ => show win0_3.index t 0 * 512 ≤ (i 0).val ∧ (i 0).val < win0_3.index t 0 * 512 + 512
              rw [h.2.2.2.2.2.2.2.1]; omega
  | ⟨1, _⟩ => show win0_3.index t 1 * 256 ≤ (i 1).val ∧ (i 1).val < win0_3.index t 1 * 256 + 256
              rw [h.2.2.2.2.2.2.2.2.1]; omega

include hR

/-- What point `t` writes back is block `t` of the result. -/
theorem flushed_eq : (vdat m 0 c).flushed 3 t = ((cfg0.win 3).blk t).view.read (Elt Ideal) (result m c) := by
  show (cfg0.win 3).cut (grid0.coords t) ((vdat m 0 c).after 3 t) = _
  rw [vafter3]
  funext (y : S512x256.Idx)
  obtain ⟨r, j, rfl⟩ : ∃ (r : Fin 512) (j : Fin 256), y = ix2 r j := ⟨y 0, y 1, eq_ix2 y⟩
  refine (block_apply m c t hR r j).trans ?_
  rw [View.read_apply]
  exact congrArg (result m c) (out_emb t r j).symm

theorem final : (vdat m 0 c).arrAt 3 cfg0.N = result m c :=
  (vdat m 0 c).arrAt_eq_of_cover 3 (result m c) (fun t _ => flushed_eq m c t hR) cover

omit hR

/-- The run: the result array at the attention's entries, the arguments as launched. -/
theorem run (hR : ∀ c, Real m c) : θ_run defs (onTc (τ := τ) (main (F := Ideal))) ⟨m, fun _ => 0, ρ⟩ fun r => ∀ c : Dev nD,
      r.2.mem ((c : Thread nD τ).loc main_v13) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c (hR c)), (h c).2⟩) (run_out m ρ)

end Cert.MlaResult
end
-- ==== Proof.MlaReference.lean ====
/-
  The attention reference's result, entry by entry: the softmax of the masked scores applied to the values.
-/
module

public import proofs.«01_k».proof.Proof.MlaMath
public import proofs.«01_k».proof.Proof.Gen.Reference4Ideal.Run
public import Idealize.ShloMosaic.Lib.Pointwise
public import Idealize.ShloMosaic.Lib.WordCmp

@[expose] public section

set_option maxRecDepth 16384

noncomputable section

namespace Cert.MlaReference

open Cert.Reference4Ideal Cert.Reference4Ideal.Gen Idealize.ShloMosaic Idealize.ShloMosaic.TcCoe Idealize.SL.Sem

/-- The masked scores: batch, head, query, key. -/
def scores (Q K : FVec Ideal S8x4096x8x96 .f32) : FVec Ideal S8x8x4096x4096 .f32 :=
  select (broadcastInDim S8x8x4096x4096 ![0, 1, 2, 3] bcast_S1x1x4096x4096_S8x8x4096x4096_0_1_2_3
      (broadcastInDim S1x1x4096x4096 ![2, 3] bcast_S4096x4096_S1x1x4096x4096_2_3
        (cmpi .sle (broadcastInDim S4096x4096 ![0, 1] bcast_S1x4096_S4096x4096_0_1 (broadcastInDim S1x4096 ![1] bcast_S4096_S1x4096_1 (iotaInDim S4096 32 0)))
          (broadcastInDim S4096x4096 ![0, 1] bcast_S4096x1_S4096x4096_0_1 (broadcastInDim S4096x1 ![0] bcast_S4096_S4096x1_0 (iotaInDim S4096 32 0))))))
    (mulf (Host.dotGeneral dot_S8x4096x8x96_S8x4096x8x96_S8x8x4096x4096_3_3_1_1_02_02 none Q K)
      (broadcastInDim S8x8x4096x4096 ![] bcast_S_S8x8x4096x4096 (constant S_ .f32 0x3DD105EC#32)))
    (broadcastInDim S8x8x4096x4096 ![] bcast_S_S8x8x4096x4096 (id (constant S_ .f32 0xFF800000#32)))

/-- The largest score of every row. -/
def rowMax (S : FVec Ideal S8x8x4096x4096 .f32) : FVec Ideal S8x8x4096 .f32 :=
  Host.reduce FloatOps.maximumf S (constant S_ .f32 0xFF800000#32) reducesTo_S8x8x4096x4096_S8x8x4096_d3 h_S_

/-- The exponentials of the scores less the larger of −∞ and their row's given number. -/
def less (S : FVec Ideal S8x8x4096x4096 .f32) (M : FVec Ideal S8x8x4096 .f32) : FVec Ideal S8x8x4096x4096 .f32 :=
  Host.exp (subf S (broadcastInDim S8x8x4096x4096 ![0, 1, 2, 3] bcast_S8x8x4096x1_S8x8x4096x4096_0_1_2_3
    (broadcastInDim S8x8x4096x1 ![0, 1, 2] bcast_S8x8x4096_S8x8x4096x1_0_1_2
      (maximumf (broadcastInDim S8x8x4096 ![] bcast_S_S8x8x4096 (constant S_ .f32 0xFF800000#32)) M))))

/-- The exponentials of the scores less their row's maximum. -/
def expo (S : FVec Ideal S8x8x4096x4096 .f32) : FVec Ideal S8x8x4096x4096 .f32 := less S (rowMax S)

/-- The exponentials over their row's sum. -/
def weights (E : FVec Ideal S8x8x4096x4096 .f32) : FVec Ideal S8x8x4096x4096 .f32 :=
  Host.divf E (broadcastInDim S8x8x4096x4096 ![0, 1, 2, 3] bcast_S8x8x4096x1_S8x8x4096x4096_0_1_2_3
    (broadcastInDim S8x8x4096x1 ![0, 1, 2] bcast_S8x8x4096_S8x8x4096x1_0_1_2
      (Host.reduceAdd E (constant S_ .f32 0x00000000#32) reducesTo_S8x8x4096x4096_S8x8x4096_d3 h_S_)))

/-- The values under the weights. -/
def applied (V : FVec Ideal S8x4096x8x64 .f32) (W : FVec Ideal S8x8x4096x4096 .f32) : FVec Ideal S32768x512 .bf16 :=
  truncf .bf16 (shapeCast S32768x512 (transpose S8x4096x8x64 [0, 3, 1, 2]
    (Host.dotGeneral dot_S8x4096x8x64_S8x8x4096x4096_S8x8x64x4096_1_3_3_2_02_01 none V W) transposes_S8x8x64x4096_S8x4096x8x64_0_3_1_2)
    shapeCasts_S8x4096x8x64_S32768x512) bitsLt_bf16_f32

variable (m : (ℓ : Loc nD τ sig) → Buf (Elt Ideal) ℓ) (c : Dev nD)

theorem res_eq : (Value.res_out0 m c : FVec Ideal S32768x512 .bf16)
    = applied (m ((c.tc : Thread nD τ).loc main_arg2))
        (weights (expo (scores (m ((c.tc : Thread nD τ).loc main_arg0)) (m ((c.tc : Thread nD τ).loc main_arg1))))) := rfl

theorem scores_apply (Q K : FVec Ideal S8x4096x8x96 .f32) (b h : Fin 8) (s k : Fin 4096) :
    scores Q K (ix4 b h s k) = if k.val ≤ s.val then (∑ d, Q (ix4 b s h d) * K (ix4 b k h d)) * (MlaMath.scale : EReal) else ⊥ := by
  pointwise [scores]
  rw [MlaMath.scale_eq, show id (constant S_ FTy.f32 0xFF800000#32 : FVec Ideal S_ .f32) ix0 = ⊥ from MlaMath.ninf, WordCmp.cmpi_sle_ofNat (by omega) (by omega)]
  unfold Scalar.select
  by_cases g : k.val ≤ s.val <;> simp [g]

theorem fold_maximumf {n : Nat} (b : Ideal .f32) (hb : b = (⊥ : EReal)) (f : Fin n → Ideal .f32) :
    Finset.fold (FloatOps.maximumf (F := Ideal) (φ := .f32)) b f Finset.univ = Finset.univ.sup (α := EReal) f := by
  subst hb; rfl

theorem rowMax_apply (S : FVec Ideal S8x8x4096x4096 .f32) (b h : Fin 8) (s : Fin 4096) :
    rowMax S (ix3 b h s) = Finset.univ.sup (α := EReal) fun k : Fin 4096 => S (ix4 b h s k) := by
  unfold rowMax
  rw [Host.reduce_eq_fold, Shape.ReducesTo.fold_fiber_r4_a3]
  exact fold_maximumf _ MlaMath.ninf _

theorem less_apply (S : FVec Ideal S8x8x4096x4096 .f32) (M : FVec Ideal S8x8x4096 .f32) (b h : Fin 8) (s k : Fin 4096) :
    less S M (ix4 b h s k) = Ideal.exp (S (ix4 b h s k) - max (⊥ : EReal) (M (ix3 b h s))) := by
  pointwise [less]
  rw [MlaMath.ninf]

theorem weights_apply (E : FVec Ideal S8x8x4096x4096 .f32) (b h : Fin 8) (s k : Fin 4096) :
    weights E (ix4 b h s k) = Ideal.div (E (ix4 b h s k)) (∑ k, E (ix4 b h s k)) := by
  pointwise [weights]

theorem applied_apply (V : FVec Ideal S8x4096x8x64 .f32) (W : FVec Ideal S8x8x4096x4096 .f32) (b h : Fin 8) (s : Fin 4096) (e : Fin 64) :
    applied V W (ix2 ⟨b * 4096 + s, by omega⟩ ⟨h * 64 + e, by omega⟩) = ∑ k, V (ix4 b k h e) * W (ix4 b h s k) := by
  pointwise [applied]

end Cert.MlaReference
end
-- ==== Proof.MlaClaim.lean ====
/-
  The attention call's claims: the frames, and that the kernel and the reference end with equal results over the
  extended reals where the queries and keys hold real numbers.
-/
module

public import proofs.«01_k».proof.Defs
public import proofs.«01_k».proof.Proof.MlaPre
public import proofs.«01_k».proof.Proof.MlaResult
public import proofs.«01_k».proof.Proof.MlaReference
public import proofs.«01_k».proof.Proof.Gen.Kernel4.Frame
public import Idealize.ShloMosaic.Lib.Quiescent

@[expose] public section

set_option maxRecDepth 16384

noncomputable section

namespace Cert.MlaClaim

open Idealize.ShloMosaic Idealize.ShloMosaic.TcCoe Idealize.SL.Sem
open Cert.MlaMath

/-- The precondition's operations fit their shapes. -/
theorem pre_facts : Cert.Pre_finite.Facts := by
  constructor <;> decide

theorem frame_kernel : Cert.quiescent_Kernel4 := fun m ρ _ => Cert.Kernel4.Gen.frame m ρ

theorem frame_kernelIdeal : Cert.quiescent_Kernel4Ideal := fun m ρ _ => Cert.Kernel4Ideal.Gen.frame m ρ

theorem frame_kernelIdeal_finite : Cert.quiescent_Kernel4Ideal_pre_finite (hPre_finite := pre_facts) :=
  fun m ρ _ => Cert.Kernel4Ideal.Gen.frame m ρ

theorem frame_reference : Cert.quiescent_Reference4Ideal := fun m ρ _ =>
  (θ_run Cert.Reference4Ideal.defs _ _).mono (fun r h => ⟨fun c => (h c).2, sem_eq_zero_of_no_sems (by decide) r.2⟩)
    (Cert.Reference4Ideal.Value.run (F := Ideal) m ρ)

theorem frame_reference_finite : Cert.quiescent_Reference4Ideal_pre_finite (hPre_finite := pre_facts) :=
  fun m ρ _ => frame_reference m ρ trivial

/-- The reference's masked score row, at queries and keys that are real numbers. -/
theorem row (Q K : FVec Ideal Cert.Reference4Ideal.S8x4096x8x96 .f32) (hQ : ∀ i, ∃ r : ℝ, Q i = (r : EReal)) (hK : ∀ i, ∃ r : ℝ, K i = (r : EReal))
    (b h : Fin 8) (s k : Fin 4096) :
    MlaReference.scores Q K (ix4 b h s k) = masked (MlaResult.scoreN Q K b.val s.val h.val) s k := by
  rw [MlaReference.scores_apply]
  unfold masked MlaResult.scoreN
  refine if_congr Iff.rfl ?_ rfl
  rw [EReal.coe_mul, ← coe_sum]
  refine congrArg (· * (scale : EReal)) (Finset.sum_congr rfl fun d _ => ?_)
  rw [EReal.coe_mul, MlaResult.qN_eq Q hQ b h s d b.val s.val h.val d.val rfl rfl rfl rfl,
    MlaResult.qN_eq K hK b h k d b.val k.val h.val d.val rfl rfl rfl rfl]

/-- The reference's weight of key `k`, over the row's masked scores. -/
theorem weight (Q K : FVec Ideal Cert.Reference4Ideal.S8x4096x8x96 .f32) (x : Fin 4096 → EReal) (b h : Fin 8) (s : Fin 4096)
    (hx : ∀ k, MlaReference.scores Q K (ix4 b h s k) = x k) (k : Fin 4096) :
    MlaReference.weights (MlaReference.expo (MlaReference.scores Q K)) (ix4 b h s k)
      = Ideal.div (Ideal.exp (x k - max ⊥ (Finset.univ.sup x))) (∑ k, Ideal.exp (x k - max ⊥ (Finset.univ.sup x))) := by
  have hs : MlaReference.rowMax (MlaReference.scores Q K) (ix3 b h s) = Finset.univ.sup x :=
    (MlaReference.rowMax_apply _ b h s).trans (congrArg (Finset.univ.sup (α := EReal)) (funext hx))
  have he (k : Fin 4096) : MlaReference.expo (MlaReference.scores Q K) (ix4 b h s k) = Ideal.exp (x k - max ⊥ (Finset.univ.sup x)) := by
    unfold MlaReference.expo
    rw [MlaReference.less_apply, hs, hx]
  rw [MlaReference.weights_apply, he k]
  exact congrArg (Ideal.div _) (Finset.sum_congr rfl fun k _ => he k)

/-- The reference's entry is the attention's. -/
theorem reference (Q K : FVec Ideal Cert.Reference4Ideal.S8x4096x8x96 .f32) (V : FVec Ideal Cert.Reference4Ideal.S8x4096x8x64 .f32)
    (hQ : ∀ i, ∃ r : ℝ, Q i = (r : EReal)) (hK : ∀ i, ∃ r : ℝ, K i = (r : EReal))
    (b h : Fin 8) (s : Fin 4096) (e : Fin 64) :
    MlaReference.applied V (MlaReference.weights (MlaReference.expo (MlaReference.scores Q K)))
        (ix2 ⟨b.val * 4096 + s.val, by omega⟩ ⟨h.val * 64 + e.val, by omega⟩)
      = MlaResult.entry Q K V b.val s h.val e.val := by
  rw [MlaReference.applied_apply]
  unfold MlaResult.entry
  refine Eq.trans (Finset.sum_congr rfl fun k _ => ?_) (softmax (MlaResult.scoreN Q K b.val s.val h.val) (fun k => MlaResult.vN V b.val k.val h.val e.val) s)
  rw [MlaResult.vN_eq V b h k e b.val k.val h.val e.val rfl rfl rfl rfl,
    weight Q K (masked (MlaResult.scoreN Q K b.val s.val h.val) s) b h s (fun k => row Q K hQ hK b h s k) k]

theorem algebraic : Cert.algebraic_Kernel4Ideal_Reference4Ideal_pre_finite (hPre_finite := pre_facts) := by
  intro m ρ m' ρ' hpre hagree
  have hR (c) : MlaResult.Real m c := by
    obtain ⟨hQ, hK⟩ := @MlaPre.real pre_facts _ _ _ (hpre c)
    exact ⟨hQ, hK⟩
  refine ⟨fun c => MlaResult.result m c, MlaResult.run m ρ hR, ?_⟩
  refine (θ_run Cert.Reference4Ideal.defs _ _).mono (fun _ h c => ⟨(h c).1.trans ?_, (h c).2⟩)
    (Cert.Reference4Ideal.Value.run (F := Ideal) m' ρ')
  obtain ⟨h0, h1, h2⟩ := hagree c
  funext (i : Cert.Reference4Ideal.S32768x512.Idx)
  obtain ⟨q, j, rfl⟩ : ∃ (q : Fin 32768) (j : Fin 512), i = ix2 q j := ⟨i 0, i 1, eq_ix2 i⟩
  refine (congrFun (MlaReference.res_eq m' c) (ix2 q j)).trans ?_
  rw [h0, h1, h2]
  have eq : q = ⟨q.val / 4096 * 4096 + q.val % 4096, by omega⟩ := Fin.ext (by show q.val = q.val / 4096 * 4096 + q.val % 4096; omega)
  have ej : j = ⟨j.val / 64 * 64 + j.val % 64, by omega⟩ := Fin.ext (by show j.val = j.val / 64 * 64 + j.val % 64; omega)
  have key := reference _ _ (MlaValue.av m c) (hR c).q (hR c).k ⟨q.val / 4096, by omega⟩ ⟨j.val / 64, by omega⟩ ⟨q.val % 4096, by omega⟩ ⟨j.val % 64, by omega⟩
  dsimp only at key
  rw [← eq, ← ej] at key
  exact key

end Cert.MlaClaim

end
-- ==== Proof.ProjMath.lean ====
/-
  The projection call's plain formulas over the extended reals: the scaled row over the root of its mean square, the lane
  rotation by the three padded tables, and the half rotation of 32 lanes it amounts to.
-/
module

public import Idealize.ShloMosaic.Lib.Pointwise

@[expose] public section

noncomputable section

namespace Cert.ProjMath

open Idealize.ShloMosaic

/-- A row over the root of its mean square (the mean's divisor is `c`) plus the printed small constant, scaled by `g`. -/
def rms {n : ℕ} (c : EReal) (d g : Fin n → EReal) (j : Fin n) : EReal :=
  d j * Ideal.rsqrt (Ideal.div (∑ x, d x * d x) c + Ideal.ofBits .f32 0x358637BD#32) * g j

/-- 128 lanes under three tables: each lane times the first, the lane 16 above times the second, the lane 16 below times the third. -/
def turn (f c sa sb : Fin 128 → EReal) (l : Fin 128) : EReal :=
  f l * c l + f ⟨(l + 128 - 112) % 128, by omega⟩ * sa l + f ⟨(l + 128 - 16) % 128, by omega⟩ * sb l

/-- The half rotation of 32 lanes, lane `d`, by 16 cosines and sines. -/
def rot (x : Fin 32 → EReal) (c s : Fin 16 → EReal) (d : Fin 32) : EReal :=
  if h : d.val < 16 then x d * c ⟨d, h⟩ - x ⟨d + 16, by omega⟩ * s ⟨d, h⟩
  else x d * c ⟨d - 16, by omega⟩ + x ⟨d - 16, by omega⟩ * s ⟨d - 16, by omega⟩

/-- The first table: the cosines on lanes 64 to 80 and again to 96, one elsewhere. -/
def tabC (c : Fin 16 → EReal) (l : Fin 128) : EReal :=
  if l.val < 64 then 1 else if h : l.val - 64 < 16 then c ⟨l - 64, h⟩ else if h : l.val - 64 - 16 < 16 then c ⟨l - 64 - 16, h⟩ else 1

/-- The second table: the negated sines on lanes 64 to 80, zero elsewhere. -/
def tabA (s : Fin 16 → EReal) (l : Fin 128) : EReal :=
  if l.val < 64 then 0 else if h : l.val - 64 < 16 then -s ⟨l - 64, h⟩ else 0

/-- The third table: the sines on lanes 80 to 96, zero elsewhere. -/
def tabB (s : Fin 16 → EReal) (l : Fin 128) : EReal :=
  if l.val < 80 then 0 else if h : l.val - 80 < 16 then s ⟨l - 80, h⟩ else 0

/-- Under these tables lanes 64 to 96 are half rotated and the others kept. -/
theorem turn_eq (f : Fin 128 → EReal) (c s : Fin 16 → EReal) (l : Fin 128) :
    turn f (tabC c) (tabA s) (tabB s) l
      = if h : 64 ≤ l.val ∧ l.val < 96 then rot (fun d => f ⟨64 + d, by omega⟩) c s ⟨l - 64, by omega⟩ else f l := by
  unfold turn
  by_cases h : 64 ≤ l.val ∧ l.val < 96
  · rw [dif_pos h]
    unfold rot tabC tabA tabB
    by_cases h16 : l.val - 64 < 16
    · rw [if_neg (by omega), dif_pos h16, if_neg (by omega), dif_pos h16, if_pos (by omega), dif_pos h16, mul_zero, add_zero,
        mul_comm _ (-_), EReal.neg_mul, mul_comm _ (s _), sub_eq_add_neg]
      have e1 : (⟨64 + (l.val - 64), by omega⟩ : Fin 128) = l := Fin.ext (by show 64 + (l.val - 64) = l.val; omega)
      have e2 : (⟨64 + (l.val - 64 + 16), by omega⟩ : Fin 128) = ⟨(l + 128 - 112) % 128, by omega⟩ :=
        Fin.ext (by show 64 + (l.val - 64 + 16) = (l.val + 128 - 112) % 128; omega)
      simp only [e1, e2]
    · rw [if_neg (by omega), dif_neg h16, dif_pos (by omega), if_neg (by omega), dif_neg h16, if_neg (by omega), dif_pos (by omega),
        dif_neg h16, mul_zero, add_zero]
      have e1 : (⟨64 + (l.val - 64), by omega⟩ : Fin 128) = l := Fin.ext (by show 64 + (l.val - 64) = l.val; omega)
      have e2 : (⟨64 + (l.val - 64 - 16), by omega⟩ : Fin 128) = ⟨(l + 128 - 16) % 128, by omega⟩ :=
        Fin.ext (by show 64 + (l.val - 64 - 16) = (l.val + 128 - 16) % 128; omega)
      have e3 : (⟨l.val - 80, by omega⟩ : Fin 16) = ⟨l.val - 64 - 16, by omega⟩ := Fin.ext (by show l.val - 80 = l.val - 64 - 16; omega)
      simp only [e1, e2, e3]
  · rw [dif_neg h]
    have hC : tabC c l = 1 := by
      unfold tabC
      split_ifs <;> first | rfl | omega
    have hA : tabA s l = 0 := by
      unfold tabA
      split_ifs <;> first | rfl | omega
    have hB : tabB s l = 0 := by
      unfold tabB
      split_ifs <;> first | rfl | omega
    rw [hC, hA, hB, mul_one, mul_zero, mul_zero, add_zero, add_zero]

/-! ## A row of the call -/

/-- Column `k` of the row times the first weights. -/
def low (x : Fin 1024 → EReal) (w : Fin 1024 → Fin 672 → EReal) (k : Fin 672) : EReal := ∑ i, x i * w i k

/-- Column `n` of the query product: the first 384 columns, scaled over their root mean square, times the query weights. -/
def qcol (x : Fin 1024 → EReal) (w : Fin 1024 → Fin 672 → EReal) (g : Fin 384 → EReal) (u : Fin 384 → Fin 768 → EReal) (n : Fin 768) : EReal :=
  ∑ i, rms (Ideal.ofBits .f32 0x43C00000#32) (fun j : Fin 384 => low x w ⟨j, by omega⟩) g i * u i n

/-- Column `n` of the key and value product, likewise of the next 256 columns. -/
def kcol (x : Fin 1024 → EReal) (w : Fin 1024 → Fin 672 → EReal) (g : Fin 256 → EReal) (u : Fin 256 → Fin 1024 → EReal) (n : Fin 1024) : EReal :=
  ∑ i, rms (Ideal.ofBits .f32 0x43800000#32) (fun j : Fin 256 => low x w ⟨384 + j, by omega⟩) g i * u i n

/-- Lane `l` of head `h`'s queries: 64 lanes, 32 half rotated, all scaled, and 32 zeros. -/
def headQ (x : Fin 1024 → EReal) (w : Fin 1024 → Fin 672 → EReal) (g : Fin 384 → EReal) (u : Fin 384 → Fin 768 → EReal)
    (c s : Fin 16 → EReal) (h : Fin 8) (l : Fin 128) : EReal :=
  if hl : l.val < 64 then qcol x w g u ⟨96 * h + l, by omega⟩ * Ideal.ofBits .f32 0x3E16C740#32
  else if hl' : l.val < 96 then rot (fun d => qcol x w g u ⟨96 * h + (64 + d), by omega⟩) c s ⟨l - 64, by omega⟩ * Ideal.ofBits .f32 0x3E16C740#32
  else 0

/-- Lane `l` of head `h`'s keys: 64 lanes, the last 32 columns half rotated, and 32 zeros. -/
def headK (x : Fin 1024 → EReal) (w : Fin 1024 → Fin 672 → EReal) (g : Fin 256 → EReal) (u : Fin 256 → Fin 1024 → EReal)
    (c s : Fin 16 → EReal) (h : Fin 8) (l : Fin 128) : EReal :=
  if hl : l.val < 64 then kcol x w g u ⟨128 * h + l, by omega⟩
  else if hl' : l.val < 96 then rot (fun d => low x w ⟨640 + d, by omega⟩) c s ⟨l - 64, by omega⟩
  else 0

/-- Entry `d` of the values: lane `d mod 64` of head `d / 64`. -/
def headV (x : Fin 1024 → EReal) (w : Fin 1024 → Fin 672 → EReal) (g : Fin 256 → EReal) (u : Fin 256 → Fin 1024 → EReal) (d : Fin 512) : EReal :=
  kcol x w g u ⟨128 * (d / 64) + (64 + d % 64), by omega⟩

end Cert.ProjMath

end
-- ==== Proof.ProjBody.lean ====
/-
  The projection kernel's body: the three blocks it writes at a point, entry by entry, as the plain formulas of the blocks
  it reads.
-/
module

public import proofs.«01_k».proof.Proof.ProjMath
public import proofs.«01_k».proof.Proof.Gen.Kernel5Ideal.Value

@[expose] public section

set_option maxRecDepth 16384

noncomputable section

namespace Cert.ProjBody

open Cert.Kernel5Ideal Cert.Kernel5Ideal.Gen Idealize.ShloMosaic Idealize.ShloMosaic.TcCoe Idealize.SL.Sem
open Cert.ProjMath

theorem hz : (![0, 0] : Fin 2 → Nat) = fun _ => 0 := funext fun a => by fin_cases a <;> rfl

/-! ## The values the pieces read -/

/-- Column `j` of a row times the first weights. -/
def hid (x0 : Vec Ideal S512x1024 .f32) (x1 : Vec Ideal S1024x768 .bf16) (r : Fin 512) (j : Fin 768) : EReal :=
  ∑ i, x0 (ix2 r i) * x1 (ix2 i j)

theorem pay2_apply (x0 : Vec Ideal S512x1024 .f32) (x1 : Vec Ideal S1024x768 .bf16) (r : Fin 512) (j : Fin 768) :
    k0_pay2 (View.ld x0 r0_0) (View.ld x1 r0_1) (ix2 r j) = hid x0 x1 r j := by
  pointwise [k0_pay2, hid]

theorem pay6_apply (x0 : Vec Ideal S512x1024 .f32) (x1 : Vec Ideal S1024x768 .bf16) (x2 : Vec Ideal S1x384 .f32) (r : Fin 512) (j : Fin 384) :
    k0_pay6 (View.ld x0 r0_0) (View.ld x1 r0_1) (View.ld x2 r0_3) (ix2 r j)
      = rms (Ideal.ofBits .f32 0x43C00000#32) (fun j : Fin 384 => hid x0 x1 r ⟨j, by omega⟩) (fun j => x2 (ix2 0 j)) j := by
  pointwise [k0_pay6, rms, hid]
  simp only [pay2_apply]
  rfl

theorem pay7_apply (x0 : Vec Ideal S512x1024 .f32) (x1 : Vec Ideal S1024x768 .bf16) (g : Fin 256 → EReal) (r : Fin 512) (j : Fin 256) :
    k0_pay7 (View.ld x0 r0_0) (View.ld x1 r0_1) (ix2 r j) * g j
      = rms (Ideal.ofBits .f32 0x43800000#32) (fun j : Fin 256 => hid x0 x1 r ⟨384 + j, by omega⟩) g j := by
  pointwise [k0_pay7, rms, hid]
  simp only [pay2_apply]
  rfl

/-- Column `j` of the query product. -/
def qp (x0 : Vec Ideal S512x1024 .f32) (x1 : Vec Ideal S1024x768 .bf16) (x2 : Vec Ideal S1x384 .f32) (x4 : Vec Ideal S384x1024 .bf16)
    (r : Fin 512) (j : Fin 1024) : EReal :=
  ∑ i, rms (Ideal.ofBits .f32 0x43C00000#32) (fun j : Fin 384 => hid x0 x1 r ⟨j, by omega⟩) (fun j => x2 (ix2 0 j)) i * x4 (ix2 i j)

/-- Column `j` of the key and value product. -/
def kvp (x0 : Vec Ideal S512x1024 .f32) (x1 : Vec Ideal S1024x768 .bf16) (x3 : Vec Ideal S1x256 .f32) (x5 : Vec Ideal S256x1536 .bf16)
    (r : Fin 512) (j : Fin 1536) : EReal :=
  ∑ i, rms (Ideal.ofBits .f32 0x43800000#32) (fun j : Fin 256 => hid x0 x1 r ⟨384 + j, by omega⟩) (fun j => x3 (ix2 0 j)) i * x5 (ix2 i j)

theorem pay9_apply (x0 : Vec Ideal S512x1024 .f32) (x1 : Vec Ideal S1024x768 .bf16) (x2 : Vec Ideal S1x384 .f32) (x4 : Vec Ideal S384x1024 .bf16)
    (r : Fin 512) (j : Fin 1024) :
    k0_pay9 (k0_pay6 (View.ld x0 r0_0) (View.ld x1 r0_1) (View.ld x2 r0_3)) (View.ld x4 r0_5) (ix2 r j) = qp x0 x1 x2 x4 r j := by
  pointwise [k0_pay9, qp]
  simp only [pay6_apply]

theorem pay10_apply (x0 : Vec Ideal S512x1024 .f32) (x1 : Vec Ideal S1024x768 .bf16) (x3 : Vec Ideal S1x256 .f32) (x5 : Vec Ideal S256x1536 .bf16)
    (r : Fin 512) (j : Fin 1536) :
    k0_pay10 (k0_pay7 (View.ld x0 r0_0) (View.ld x1 r0_1)) (View.ld x3 r0_4) (View.ld x5 r0_6) (ix2 r j) = kvp x0 x1 x3 x5 r j := by
  pointwise [k0_pay10, kvp]
  simp only [pay7_apply x0 x1 (fun j => x3 (ix2 0 j))]

theorem pay8_apply (h : FVec Ideal S512x768 .f32) (c sa sb : FVec Ideal S512x128 .f32) (r : Fin 512) (l : Fin 128) :
    k0_pay8 h c sa sb (ix2 r l) = turn (fun l => h (ix2 r ⟨640 + l, by omega⟩)) (fun l => c (ix2 r l)) (fun l => sa (ix2 r l)) (fun l => sb (ix2 r l)) l := by
  pointwise [k0_pay8, turn]

/-! ## The first block: eight heads of turned queries -/

/-- Lane `l` of head `g`'s turned and scaled queries. -/
def turned (q : FVec Ideal S512x1024 .f32) (c sa sb : FVec Ideal S512x128 .f32) (r : Fin 512) (g : Fin 8) (l : Fin 128) : EReal :=
  turn (fun l => q (ix2 r ⟨128 * g + l, by omega⟩)) (fun l => c (ix2 r l)) (fun l => sa (ix2 r l)) (fun l => sb (ix2 r l)) l
    * Ideal.ofBits .f32 0x3E16C740#32

theorem q0_apply (c sa sb : FVec Ideal S512x128 .f32) (f : FVec Ideal S512x384 .f32) (w : Vec Ideal S384x1024 .bf16) (r : Fin 512) (l : Fin 128) :
    k0_pay11 c sa sb f w (ix2 r l) = turned (k0_pay9 f w) c sa sb r 0 l := by
  pointwise [k0_pay11, turned, turn]

theorem q1_apply (c sa sb : FVec Ideal S512x128 .f32) (f : FVec Ideal S512x384 .f32) (w : Vec Ideal S384x1024 .bf16) (r : Fin 512) (l : Fin 128) :
    k0_pay15 sb (k0_pay13 f w) (k0_pay14 c sa f w) 16#32 (ix2 r l) = turned (k0_pay9 f w) c sa sb r 1 l := by
  pointwise [k0_pay15, k0_pay14, k0_pay13, turned, turn]

theorem q2_apply (c sa sb : FVec Ideal S512x128 .f32) (q : FVec Ideal S512x1024 .f32) (r : Fin 512) (l : Fin 128) :
    k0_pay17 c sa sb q (ix2 r l) = turned (q) c sa sb r 2 l := by
  pointwise [k0_pay17, turned, turn]

theorem q3_apply (c sa sb : FVec Ideal S512x128 .f32) (q : FVec Ideal S512x1024 .f32) (r : Fin 512) (l : Fin 128) :
    k0_pay19 c sa sb q (ix2 r l) = turned (q) c sa sb r 3 l := by
  pointwise [k0_pay19, turned, turn]

theorem q4_apply (c sa sb : FVec Ideal S512x128 .f32) (q : FVec Ideal S512x1024 .f32) (r : Fin 512) (l : Fin 128) :
    k0_pay21 c sa sb q (ix2 r l) = turned (q) c sa sb r 4 l := by
  pointwise [k0_pay21, turned, turn]

theorem q5_apply (c sa sb : FVec Ideal S512x128 .f32) (q : FVec Ideal S512x1024 .f32) (r : Fin 512) (l : Fin 128) :
    k0_pay23 c sa sb q (ix2 r l) = turned (q) c sa sb r 5 l := by
  pointwise [k0_pay23, turned, turn]

theorem q6_apply (c sa sb : FVec Ideal S512x128 .f32) (q : FVec Ideal S512x1024 .f32) (r : Fin 512) (l : Fin 128) :
    k0_pay27 sa sb (k0_pay25 q) (k0_pay26 c q) (ix2 r l) = turned (q) c sa sb r 6 l := by
  pointwise [k0_pay27, k0_pay26, k0_pay25, turned, turn]

theorem q7_apply (c sa sb : FVec Ideal S512x128 .f32) (q : FVec Ideal S512x1024 .f32) (r : Fin 512) (l : Fin 128) :
    k0_pay29 c sa sb q (ix2 r l) = turned (q) c sa sb r 7 l := by
  pointwise [k0_pay29, turned, turn]

/-- The block: column `128 g + l` is lane `l` of head `g`. -/
def blockQ (q : FVec Ideal S512x1024 .f32) (c sa sb : FVec Ideal S512x128 .f32) : Vec Ideal S512x1024 .bf16 := fun y =>
  turned q c sa sb (y 0) ⟨(y 1).val / 128, by have : (y 1).val < 1024 := (y 1).isLt; omega⟩ ⟨(y 1).val % 128, by omega⟩

theorem blockQ_at (q : FVec Ideal S512x1024 .f32) (c sa sb : FVec Ideal S512x128 .f32) (r : Fin 512) (g : Fin 8) (l : Fin 128)
    (y : S512x1024.Idx) (h0 : (y 0).val = r.val) (h1 : (y 1).val = 128 * g.val + l.val) : blockQ q c sa sb y = turned q c sa sb r g l := by
  have hl : 128 * g.val + l.val < 1024 := by clear h0 h1; omega
  have e : y = ix2 r (⟨128 * g + l, hl⟩ : Fin 1024) := funext fun a => Fin.ext (by
    match a with
    | ⟨0, _⟩ => exact h0
    | ⟨1, _⟩ => exact h1)
  clear h0 h1
  subst e
  have eg : (⟨(128 * g.val + l.val) / 128, by omega⟩ : Fin 8) = g := Fin.ext (by show (128 * g.val + l.val) / 128 = g.val; omega)
  have el : (⟨(128 * g.val + l.val) % 128, by omega⟩ : Fin 128) = l := Fin.ext (by show (128 * g.val + l.val) % 128 = l.val; omega)
  show turned q c sa sb r ⟨(128 * g.val + l.val) / 128, _⟩ ⟨(128 * g.val + l.val) % 128, _⟩ = _
  rw [eg, el]

theorem canonQ (c sa sb : FVec Ideal S512x128 .f32) (f : FVec Ideal S512x384 .f32) (w : Vec Ideal S384x1024 .bf16) (y : S512x1024.Idx) :
    View.canon [⟨r0_14, k0_pay29 c sa sb (k0_pay9 f w)⟩, ⟨r0_13, k0_pay27 sa sb (k0_pay25 (k0_pay9 f w)) (k0_pay26 c (k0_pay9 f w))⟩, ⟨r0_12, k0_pay23 c sa sb (k0_pay9 f w)⟩, ⟨r0_11, k0_pay21 c sa sb (k0_pay9 f w)⟩, ⟨r0_10, k0_pay19 c sa sb (k0_pay9 f w)⟩, ⟨r0_9, k0_pay17 c sa sb (k0_pay9 f w)⟩, ⟨r0_8, k0_pay15 sb (k0_pay13 f w) (k0_pay14 c sa f w) 16#32⟩, ⟨r0_7, k0_pay11 c sa sb f w⟩] y = blockQ (k0_pay9 f w) c sa sb y := by
  refine View.canon_apply_of_pieces (blockQ (k0_pay9 f w) c sa sb) _ ?_ y (cover0_9 _ _ _ _ _ _ _ _ y)
  intro pc hpc
  rcases List.mem_cons.mp hpc with rfl | hpc
  · exact fun x => by
      obtain ⟨r, l, rfl⟩ : ∃ (r : Fin 512) (l : Fin 128), x = ix2 r l := ⟨x 0, x 1, eq_ix2 x⟩
      exact (q7_apply c sa sb (k0_pay9 f w) r l).trans (blockQ_at _ _ _ _ r 7 l _ (by show 0 + 1 * r.val = r.val; omega) (by show 896 + 1 * l.val = 128 * 7 + l.val; omega)).symm
  rcases List.mem_cons.mp hpc with rfl | hpc
  · exact fun x => by
      obtain ⟨r, l, rfl⟩ : ∃ (r : Fin 512) (l : Fin 128), x = ix2 r l := ⟨x 0, x 1, eq_ix2 x⟩
      exact (q6_apply c sa sb (k0_pay9 f w) r l).trans (blockQ_at _ _ _ _ r 6 l _ (by show 0 + 1 * r.val = r.val; omega) (by show 768 + 1 * l.val = 128 * 6 + l.val; omega)).symm
  rcases List.mem_cons.mp hpc with rfl | hpc
  · exact fun x => by
      obtain ⟨r, l, rfl⟩ : ∃ (r : Fin 512) (l : Fin 128), x = ix2 r l := ⟨x 0, x 1, eq_ix2 x⟩
      exact (q5_apply c sa sb (k0_pay9 f w) r l).trans (blockQ_at _ _ _ _ r 5 l _ (by show 0 + 1 * r.val = r.val; omega) (by show 640 + 1 * l.val = 128 * 5 + l.val; omega)).symm
  rcases List.mem_cons.mp hpc with rfl | hpc
  · exact fun x => by
      obtain ⟨r, l, rfl⟩ : ∃ (r : Fin 512) (l : Fin 128), x = ix2 r l := ⟨x 0, x 1, eq_ix2 x⟩
      exact (q4_apply c sa sb (k0_pay9 f w) r l).trans (blockQ_at _ _ _ _ r 4 l _ (by show 0 + 1 * r.val = r.val; omega) (by show 512 + 1 * l.val = 128 * 4 + l.val; omega)).symm
  rcases List.mem_cons.mp hpc with rfl | hpc
  · exact fun x => by
      obtain ⟨r, l, rfl⟩ : ∃ (r : Fin 512) (l : Fin 128), x = ix2 r l := ⟨x 0, x 1, eq_ix2 x⟩
      exact (q3_apply c sa sb (k0_pay9 f w) r l).trans (blockQ_at _ _ _ _ r 3 l _ (by show 0 + 1 * r.val = r.val; omega) (by show 384 + 1 * l.val = 128 * 3 + l.val; omega)).symm
  rcases List.mem_cons.mp hpc with rfl | hpc
  · exact fun x => by
      obtain ⟨r, l, rfl⟩ : ∃ (r : Fin 512) (l : Fin 128), x = ix2 r l := ⟨x 0, x 1, eq_ix2 x⟩
      exact (q2_apply c sa sb (k0_pay9 f w) r l).trans (blockQ_at _ _ _ _ r 2 l _ (by show 0 + 1 * r.val = r.val; omega) (by show 256 + 1 * l.val = 128 * 2 + l.val; omega)).symm
  rcases List.mem_cons.mp hpc with rfl | hpc
  · exact fun x => by
      obtain ⟨r, l, rfl⟩ : ∃ (r : Fin 512) (l : Fin 128), x = ix2 r l := ⟨x 0, x 1, eq_ix2 x⟩
      exact (q1_apply c sa sb f w r l).trans (blockQ_at _ _ _ _ r 1 l _ (by show 0 + 1 * r.val = r.val; omega) (by show 128 + 1 * l.val = 128 * 1 + l.val; omega)).symm
  rcases List.mem_cons.mp hpc with rfl | hpc
  · exact fun x => by
      obtain ⟨r, l, rfl⟩ : ∃ (r : Fin 512) (l : Fin 128), x = ix2 r l := ⟨x 0, x 1, eq_ix2 x⟩
      exact (q0_apply c sa sb f w r l).trans (blockQ_at _ _ _ _ r 0 l _ (by show 0 + 1 * r.val = r.val; omega) (by show 0 + 1 * l.val = 128 * 0 + l.val; omega)).symm
  nomatch hpc

/-! ## The second block: eight heads of keys, the turned lanes added to each -/

/-- Lane `l` of head `g`'s keys. -/
def keyed (kv : FVec Ideal S512x1536 .f32) (kr : FVec Ideal S512x128 .f32) (r : Fin 512) (g : Fin 8) (l : Fin 128) : EReal :=
  kv (ix2 r ⟨128 * g + l, by omega⟩) + kr (ix2 r l)

theorem k0_apply (h : FVec Ideal S512x768 .f32) (c sa sb : FVec Ideal S512x128 .f32) (f : FVec Ideal S512x256 .f32) (w : Vec Ideal S1x256 .f32) (u : Vec Ideal S256x1536 .bf16) (r : Fin 512) (l : Fin 128) :
    k0_pay12 h c sa sb f w u (ix2 r l) = keyed (k0_pay10 f w u) (k0_pay8 h c sa sb) r 0 l := by
  pointwise [k0_pay12, keyed]

theorem k1_apply (kv : FVec Ideal S512x1536 .f32) (kr : FVec Ideal S512x128 .f32) (r : Fin 512) (l : Fin 128) :
    k0_pay16 kr kv (ix2 r l) = keyed kv kr r 1 l := by
  pointwise [k0_pay16, keyed]

theorem k2_apply (kv : FVec Ideal S512x1536 .f32) (kr : FVec Ideal S512x128 .f32) (r : Fin 512) (l : Fin 128) :
    k0_pay18 kr kv (ix2 r l) = keyed kv kr r 2 l := by
  pointwise [k0_pay18, keyed]

theorem k3_apply (kv : FVec Ideal S512x1536 .f32) (kr : FVec Ideal S512x128 .f32) (r : Fin 512) (l : Fin 128) :
    k0_pay20 kr kv (ix2 r l) = keyed kv kr r 3 l := by
  pointwise [k0_pay20, keyed]

theorem k4_apply (kv : FVec Ideal S512x1536 .f32) (kr : FVec Ideal S512x128 .f32) (r : Fin 512) (l : Fin 128) :
    k0_pay22 kr kv (ix2 r l) = keyed kv kr r 4 l := by
  pointwise [k0_pay22, keyed]

theorem k5_apply (kv : FVec Ideal S512x1536 .f32) (kr : FVec Ideal S512x128 .f32) (r : Fin 512) (l : Fin 128) :
    k0_pay24 kr kv (ix2 r l) = keyed kv kr r 5 l := by
  pointwise [k0_pay24, keyed]

theorem k6_apply (kv : FVec Ideal S512x1536 .f32) (kr : FVec Ideal S512x128 .f32) (r : Fin 512) (l : Fin 128) :
    k0_pay28 kr kv (ix2 r l) = keyed kv kr r 6 l := by
  pointwise [k0_pay28, keyed]

theorem k7_apply (kv : FVec Ideal S512x1536 .f32) (kr : FVec Ideal S512x128 .f32) (r : Fin 512) (l : Fin 128) :
    k0_pay30 kr kv (ix2 r l) = keyed kv kr r 7 l := by
  pointwise [k0_pay30, keyed]

/-- The block: column `128 g + l` is lane `l` of head `g`. -/
def blockK (kv : FVec Ideal S512x1536 .f32) (kr : FVec Ideal S512x128 .f32) : Vec Ideal S512x1024 .bf16 := fun y =>
  keyed kv kr (y 0) ⟨(y 1).val / 128, by have : (y 1).val < 1024 := (y 1).isLt; omega⟩ ⟨(y 1).val % 128, by omega⟩

theorem blockK_at (kv : FVec Ideal S512x1536 .f32) (kr : FVec Ideal S512x128 .f32) (r : Fin 512) (g : Fin 8) (l : Fin 128)
    (y : S512x1024.Idx) (h0 : (y 0).val = r.val) (h1 : (y 1).val = 128 * g.val + l.val) : blockK kv kr y = keyed kv kr r g l := by
  have hl : 128 * g.val + l.val < 1024 := by clear h0 h1; omega
  have e : y = ix2 r (⟨128 * g + l, hl⟩ : Fin 1024) := funext fun a => Fin.ext (by
    match a with
    | ⟨0, _⟩ => exact h0
    | ⟨1, _⟩ => exact h1)
  clear h0 h1
  subst e
  have eg : (⟨(128 * g.val + l.val) / 128, by omega⟩ : Fin 8) = g := Fin.ext (by show (128 * g.val + l.val) / 128 = g.val; omega)
  have el : (⟨(128 * g.val + l.val) % 128, by omega⟩ : Fin 128) = l := Fin.ext (by show (128 * g.val + l.val) % 128 = l.val; omega)
  show keyed kv kr r ⟨(128 * g.val + l.val) / 128, _⟩ ⟨(128 * g.val + l.val) % 128, _⟩ = _
  rw [eg, el]

theorem canonK (h : FVec Ideal S512x768 .f32) (c sa sb : FVec Ideal S512x128 .f32) (f : FVec Ideal S512x256 .f32) (w : Vec Ideal S1x256 .f32)
    (u : Vec Ideal S256x1536 .bf16) (y : S512x1024.Idx) :
    View.canon [⟨r0_14, k0_pay30 (k0_pay8 h c sa sb) (k0_pay10 f w u)⟩, ⟨r0_13, k0_pay28 (k0_pay8 h c sa sb) (k0_pay10 f w u)⟩, ⟨r0_12, k0_pay24 (k0_pay8 h c sa sb) (k0_pay10 f w u)⟩, ⟨r0_11, k0_pay22 (k0_pay8 h c sa sb) (k0_pay10 f w u)⟩, ⟨r0_10, k0_pay20 (k0_pay8 h c sa sb) (k0_pay10 f w u)⟩, ⟨r0_9, k0_pay18 (k0_pay8 h c sa sb) (k0_pay10 f w u)⟩, ⟨r0_8, k0_pay16 (k0_pay8 h c sa sb) (k0_pay10 f w u)⟩, ⟨r0_7, k0_pay12 h c sa sb f w u⟩] y = blockK (k0_pay10 f w u) (k0_pay8 h c sa sb) y := by
  refine View.canon_apply_of_pieces (blockK (k0_pay10 f w u) (k0_pay8 h c sa sb)) _ ?_ y (cover0_10 _ _ _ _ _ _ _ _ y)
  intro pc hpc
  rcases List.mem_cons.mp hpc with rfl | hpc
  · exact fun x => by
      obtain ⟨r, l, rfl⟩ : ∃ (r : Fin 512) (l : Fin 128), x = ix2 r l := ⟨x 0, x 1, eq_ix2 x⟩
      exact (k7_apply (k0_pay10 f w u) (k0_pay8 h c sa sb) r l).trans (blockK_at _ _ r 7 l _ (by show 0 + 1 * r.val = r.val; omega) (by show 896 + 1 * l.val = 128 * 7 + l.val; omega)).symm
  rcases List.mem_cons.mp hpc with rfl | hpc
  · exact fun x => by
      obtain ⟨r, l, rfl⟩ : ∃ (r : Fin 512) (l : Fin 128), x = ix2 r l := ⟨x 0, x 1, eq_ix2 x⟩
      exact (k6_apply (k0_pay10 f w u) (k0_pay8 h c sa sb) r l).trans (blockK_at _ _ r 6 l _ (by show 0 + 1 * r.val = r.val; omega) (by show 768 + 1 * l.val = 128 * 6 + l.val; omega)).symm
  rcases List.mem_cons.mp hpc with rfl | hpc
  · exact fun x => by
      obtain ⟨r, l, rfl⟩ : ∃ (r : Fin 512) (l : Fin 128), x = ix2 r l := ⟨x 0, x 1, eq_ix2 x⟩
      exact (k5_apply (k0_pay10 f w u) (k0_pay8 h c sa sb) r l).trans (blockK_at _ _ r 5 l _ (by show 0 + 1 * r.val = r.val; omega) (by show 640 + 1 * l.val = 128 * 5 + l.val; omega)).symm
  rcases List.mem_cons.mp hpc with rfl | hpc
  · exact fun x => by
      obtain ⟨r, l, rfl⟩ : ∃ (r : Fin 512) (l : Fin 128), x = ix2 r l := ⟨x 0, x 1, eq_ix2 x⟩
      exact (k4_apply (k0_pay10 f w u) (k0_pay8 h c sa sb) r l).trans (blockK_at _ _ r 4 l _ (by show 0 + 1 * r.val = r.val; omega) (by show 512 + 1 * l.val = 128 * 4 + l.val; omega)).symm
  rcases List.mem_cons.mp hpc with rfl | hpc
  · exact fun x => by
      obtain ⟨r, l, rfl⟩ : ∃ (r : Fin 512) (l : Fin 128), x = ix2 r l := ⟨x 0, x 1, eq_ix2 x⟩
      exact (k3_apply (k0_pay10 f w u) (k0_pay8 h c sa sb) r l).trans (blockK_at _ _ r 3 l _ (by show 0 + 1 * r.val = r.val; omega) (by show 384 + 1 * l.val = 128 * 3 + l.val; omega)).symm
  rcases List.mem_cons.mp hpc with rfl | hpc
  · exact fun x => by
      obtain ⟨r, l, rfl⟩ : ∃ (r : Fin 512) (l : Fin 128), x = ix2 r l := ⟨x 0, x 1, eq_ix2 x⟩
      exact (k2_apply (k0_pay10 f w u) (k0_pay8 h c sa sb) r l).trans (blockK_at _ _ r 2 l _ (by show 0 + 1 * r.val = r.val; omega) (by show 256 + 1 * l.val = 128 * 2 + l.val; omega)).symm
  rcases List.mem_cons.mp hpc with rfl | hpc
  · exact fun x => by
      obtain ⟨r, l, rfl⟩ : ∃ (r : Fin 512) (l : Fin 128), x = ix2 r l := ⟨x 0, x 1, eq_ix2 x⟩
      exact (k1_apply (k0_pay10 f w u) (k0_pay8 h c sa sb) r l).trans (blockK_at _ _ r 1 l _ (by show 0 + 1 * r.val = r.val; omega) (by show 128 + 1 * l.val = 128 * 1 + l.val; omega)).symm
  rcases List.mem_cons.mp hpc with rfl | hpc
  · exact fun x => by
      obtain ⟨r, l, rfl⟩ : ∃ (r : Fin 512) (l : Fin 128), x = ix2 r l := ⟨x 0, x 1, eq_ix2 x⟩
      exact (k0_apply h c sa sb f w u r l).trans (blockK_at _ _ r 0 l _ (by show 0 + 1 * r.val = r.val; omega) (by show 0 + 1 * l.val = 128 * 0 + l.val; omega)).symm
  nomatch hpc

/-! ## The three blocks of a point -/

/-- Entry `(r, 128 g + l)` of the first block. -/
theorem outQ_apply (x0 : Vec Ideal S512x1024 .f32) (x1 : Vec Ideal S1024x768 .bf16) (x2 : Vec Ideal S1x384 .f32) (x3 : Vec Ideal S1x256 .f32)
    (x4 : Vec Ideal S384x1024 .bf16) (x5 : Vec Ideal S256x1536 .bf16) (x6 x7 x8 : Vec Ideal S512x128 .f32) (r : Fin 512) (g : Fin 8) (l : Fin 128) :
    out0_9 x0 x1 x2 x3 x4 x5 x6 x7 x8 (ix2 r ⟨128 * g + l, by omega⟩)
      = turn (fun l => qp x0 x1 x2 x4 r ⟨128 * g + l, by omega⟩) (fun l => x6 (ix2 r l)) (fun l => x7 (ix2 r l)) (fun l => x8 (ix2 r l)) l
        * Ideal.ofBits .f32 0x3E16C740#32 := by
  refine (canonQ (k0_pay3 (View.ld x6 r0_2)) (k0_pay4 (View.ld x7 r0_2)) (k0_pay5 (View.ld x8 r0_2))
    (k0_pay6 (View.ld x0 r0_0) (View.ld x1 r0_1) (View.ld x2 r0_3)) (View.ld x4 r0_5) _).trans ?_
  rw [blockQ_at _ _ _ _ r g l _ rfl rfl]
  unfold turned
  simp only [pay9_apply]
  pointwise [k0_pay3, k0_pay4, k0_pay5]

/-- Entry `(r, 128 g + l)` of the second block. -/
theorem outK_apply (x0 : Vec Ideal S512x1024 .f32) (x1 : Vec Ideal S1024x768 .bf16) (x2 : Vec Ideal S1x384 .f32) (x3 : Vec Ideal S1x256 .f32)
    (x4 : Vec Ideal S384x1024 .bf16) (x5 : Vec Ideal S256x1536 .bf16) (x6 x7 x8 : Vec Ideal S512x128 .f32) (r : Fin 512) (g : Fin 8) (l : Fin 128) :
    out0_10 x0 x1 x2 x3 x4 x5 x6 x7 x8 (ix2 r ⟨128 * g + l, by omega⟩)
      = kvp x0 x1 x3 x5 r ⟨128 * g + l, by omega⟩
        + turn (fun l => hid x0 x1 r ⟨640 + l, by omega⟩) (fun l => x6 (ix2 r l)) (fun l => x7 (ix2 r l)) (fun l => x8 (ix2 r l)) l := by
  refine (canonK (k0_pay2 (View.ld x0 r0_0) (View.ld x1 r0_1)) (k0_pay3 (View.ld x6 r0_2)) (k0_pay4 (View.ld x7 r0_2)) (k0_pay5 (View.ld x8 r0_2))
    (k0_pay7 (View.ld x0 r0_0) (View.ld x1 r0_1)) (View.ld x3 r0_4) (View.ld x5 r0_6) _).trans ?_
  rw [blockK_at _ _ r g l _ rfl rfl]
  unfold keyed
  rw [pay10_apply, pay8_apply]
  simp only [pay2_apply]
  pointwise [k0_pay3, k0_pay4, k0_pay5]

theorem hz3 : (![0, 0, 0] : Fin 3 → Nat) = fun _ => 0 := funext fun a => by fin_cases a <;> rfl

theorem values_apply (kv : FVec Ideal S512x1536 .f32) (d r : Fin 512) :
    k0_pay1 (k0_pay31 kv) (ix3 0 d r) = kv (ix2 r ⟨1024 + d, by omega⟩) := by
  pointwise [k0_pay1, k0_pay31]

/-- Entry `(d, r)` of the third block. -/
theorem outV_apply (x0 : Vec Ideal S512x1024 .f32) (x1 : Vec Ideal S1024x768 .bf16) (x2 : Vec Ideal S1x384 .f32) (x3 : Vec Ideal S1x256 .f32)
    (x4 : Vec Ideal S384x1024 .bf16) (x5 : Vec Ideal S256x1536 .bf16) (x6 x7 x8 : Vec Ideal S512x128 .f32) (d r : Fin 512) :
    out0_11 x0 x1 x2 x3 x4 x5 x6 x7 x8 (ix3 0 d r) = kvp x0 x1 x3 x5 r ⟨1024 + d, by omega⟩ := by
  unfold out0_11
  rw [View.canon_unit_zero hz3]
  refine (values_apply _ d r).trans ?_
  exact pay10_apply x0 x1 x3 x5 r _

end Cert.ProjBody

end
-- ==== Proof.ProjHost.lean ====
/-
  What the host prepares for the projection kernel's windows, entry by entry, from the arguments, and the windows' blocks.
-/
module

public import proofs.«01_k».proof.Proof.ProjBody
public import Idealize.ShloMosaic.Lib.StableHlo.Run

@[expose] public section

set_option maxRecDepth 16384

noncomputable section

namespace Cert.ProjHost

open Cert.Kernel5Ideal Cert.Kernel5Ideal.Gen Idealize.ShloMosaic Idealize.ShloMosaic.TcCoe Idealize.SL.Sem
open Idealize.ShloMosaic.Pipeline (Dat)
open Cert.ProjMath

variable (m : (ℓ : Loc nD τ sig) → Buf (Elt Ideal) ℓ) (ρ : Dev nD → PrngReg)

/-! ## The argument arrays -/

/-- The activations. -/
abbrev ax (c : Dev nD) : FVec Ideal S8x4096x1024 .f32 := m ((c.tc : Thread nD τ).loc main_arg0)
/-- The input weights (this call's columns are 964 to 1636). -/
abbrev aw (c : Dev nD) : FVec Ideal S2x1024x5732 .f32 := m ((c.tc : Thread nD τ).loc main_arg1)
/-- The query norm's scales. -/
abbrev agq (c : Dev nD) : FVec Ideal S2x384 .f32 := m ((c.tc : Thread nD τ).loc main_arg2)
/-- The query weights. -/
abbrev auq (c : Dev nD) : FVec Ideal S2x384x768 .f32 := m ((c.tc : Thread nD τ).loc main_arg3)
/-- The key and value norm's scales. -/
abbrev agk (c : Dev nD) : FVec Ideal S2x256 .f32 := m ((c.tc : Thread nD τ).loc main_arg4)
/-- The key and value weights. -/
abbrev auk (c : Dev nD) : FVec Ideal S2x256x1024 .f32 := m ((c.tc : Thread nD τ).loc main_arg5)
/-- The cosines. -/
abbrev aco (c : Dev nD) : FVec Ideal S8x4096x16 .f32 := m ((c.tc : Thread nD τ).loc main_arg6)
/-- The sines. -/
abbrev asi (c : Dev nD) : FVec Ideal S8x4096x16 .f32 := m ((c.tc : Thread nD τ).loc main_arg7)

/-! ## What the host leaves in the windows' arrays -/

variable (c : Dev nD)

theorem zero_pad : (FloatOps.sitofp (F := Ideal) .bf16 (0#32 : BitVec 32) : EReal) = 0 := by
  show (((0#32 : BitVec 32).toInt : ℝ) : EReal) = 0
  simp

theorem v39_apply (q : Fin 32768) (i : Fin 1024) : (V m c main_v39 : FVec Ideal S32768x1024 .f32) (ix2 q i)
    = ax m c (ix3 ⟨q / 4096, by omega⟩ ⟨q % 4096, by omega⟩ i) := by
  have h : (V m c main_v39 : FVec Ideal S32768x1024 .f32) = shapeCast S32768x1024 (ax m c) shapeCasts_S8x4096x1024_S32768x1024 := by
    unfold V
    simp only [hostOps0, hostOps0_1, hostOps0_2, hostOps0_3, hostOps0_4, hostOps0_5, hostOps0_6, List.flatten_cons, List.flatten_nil, List.append_nil, List.cons_append, List.nil_append]
    after_results; rfl
  rw [h]; pointwise

theorem v42_apply (j : Fin 384) : (V m c main_v42 : FVec Ideal S1x384 .f32) (ix2 0 j)
    = agq m c (ix2 1 j) := by
  have h : (V m c main_v42 : FVec Ideal S1x384 .f32) = shapeCast S1x384 (shapeCast S384 (extractStridedSlice S1x384 ![1, 0] (agq m c) slices_S2x384_S1x384_1_0) shapeCasts_S1x384_S384) shapeCasts_S384_S1x384 := by
    unfold V
    simp only [hostOps0, hostOps0_1, hostOps0_2, hostOps0_3, hostOps0_4, hostOps0_5, hostOps0_6, List.flatten_cons, List.flatten_nil, List.append_nil, List.cons_append, List.nil_append]
    after_results; rfl
  rw [h]; pointwise

theorem v45_apply (j : Fin 256) : (V m c main_v45 : FVec Ideal S1x256 .f32) (ix2 0 j)
    = agk m c (ix2 1 j) := by
  have h : (V m c main_v45 : FVec Ideal S1x256 .f32) = shapeCast S1x256 (shapeCast S256 (extractStridedSlice S1x256 ![1, 0] (agk m c) slices_S2x256_S1x256_1_0) shapeCasts_S1x256_S256) shapeCasts_S256_S1x256 := by
    unfold V
    simp only [hostOps0, hostOps0_1, hostOps0_2, hostOps0_3, hostOps0_4, hostOps0_5, hostOps0_6, List.flatten_cons, List.flatten_nil, List.append_nil, List.cons_append, List.nil_append]
    after_results; rfl
  rw [h]; pointwise

set_option maxHeartbeats 1000000 in
theorem v10_apply (i : Fin 1024) (j : Fin 768) : (V m c main_v10 : FVec Ideal S1024x768 .bf16) (ix2 i j)
    = if h : j.val < 640 then aw m c (ix3 1 i ⟨964 + j, by omega⟩)
      else if h : 704 ≤ j.val ∧ j.val < 736 then aw m c (ix3 1 i ⟨964 + (j - 64), by omega⟩) else 0 := by
  have h : (V m c main_v10 : FVec Ideal S1024x768 .bf16) = concatenate S1024x768 1 [⟨S1024x384, truncf .bf16 (shapeCast S1024x384 (extractStridedSlice S1x1024x384 ![1, 0, 964] (aw m c) slices_S2x1024x5732_S1x1024x384_1_0_964) shapeCasts_S1x1024x384_S1024x384) bitsLt_bf16_f32⟩,
      ⟨S1024x256, truncf .bf16 (shapeCast S1024x256 (extractStridedSlice S1x1024x256 ![1, 0, 1348] (aw m c) slices_S2x1024x5732_S1x1024x256_1_0_1348) shapeCasts_S1x1024x256_S1024x256) bitsLt_bf16_f32⟩,
      ⟨S1024x128, pad S1024x128 ![0, 64] ![0, 32] ![0, 0] (truncf .bf16 (shapeCast S1024x32 (extractStridedSlice S1x1024x32 ![1, 0, 1604] (aw m c) slices_S2x1024x5732_S1x1024x32_1_0_1604) shapeCasts_S1x1024x32_S1024x32) bitsLt_bf16_f32)
        (sitofp .bf16 (constantI S_ 32 0#32)) pads_S1024x32_S1024x128_000_64320 h_S_⟩] concatenates_S1024x384_S1024x256_S1024x128_S1024x768_d1 := by
    unfold V
    simp only [hostOps0, hostOps0_1, hostOps0_2, hostOps0_3, hostOps0_4, hostOps0_5, hostOps0_6, List.flatten_cons, List.flatten_nil, List.append_nil, List.cons_append, List.nil_append]
    after_results; rfl
  rw [h]; pointwise
  rw [zero_pad]
  by_cases h0 : j.val < 384
  · rw [dif_pos h0, dif_pos (by omega)]
  · rw [dif_neg h0]
    by_cases h1 : j.val - 384 < 256
    · have hn : j.val < 640 := by omega
      rw [dif_pos h1, dif_pos hn]
      exact congrArg (fun k => aw m c (ix3 1 i k)) (Fin.ext (by show 1348 + (j.val - 384) = 964 + j.val; omega))
    · have hn : ¬j.val < 640 := by omega
      rw [dif_neg h1, dif_neg hn]
      by_cases h2 : 64 ≤ j.val - 384 - 256 ∧ j.val - 384 - 256 - 64 < 32
      · have hp : 704 ≤ j.val ∧ j.val < 736 := by omega
        rw [dif_pos h2, dif_pos hp]
        exact congrArg (fun k => aw m c (ix3 1 i k)) (Fin.ext (by show 1604 + (j.val - 384 - 256 - 64) = 964 + (j.val - 64); omega))
      · have hp : ¬(704 ≤ j.val ∧ j.val < 736) := by omega
        rw [dif_neg h2, dif_neg hp]

set_option maxHeartbeats 1000000 in
theorem v16_apply (i : Fin 384) (j : Fin 1024) : (V m c main_v16 : FVec Ideal S384x1024 .bf16) (ix2 i j)
    = if h : j.val % 128 < 96 then auq m c (ix3 1 i ⟨96 * (j / 128) + j % 128, by omega⟩) else 0 := by
  have h : (V m c main_v16 : FVec Ideal S384x1024 .bf16) = shapeCast S384x1024 (pad S384x8x128 ![0, 0, 0] ![0, 0, 32] ![0, 0, 0]
      (shapeCast S384x8x96 (truncf .bf16 (shapeCast S384x768 (extractStridedSlice S1x384x768 ![1, 0, 0] (auq m c) slices_S2x384x768_S1x384x768_1_0_0) shapeCasts_S1x384x768_S384x768) bitsLt_bf16_f32) shapeCasts_S384x768_S384x8x96)
      (sitofp .bf16 (constantI S_ 32 0#32)) pads_S384x8x96_S384x8x128_000_000_0320 h_S_) shapeCasts_S384x8x128_S384x1024 := by
    unfold V
    simp only [hostOps0, hostOps0_1, hostOps0_2, hostOps0_3, hostOps0_4, hostOps0_5, hostOps0_6, List.flatten_cons, List.flatten_nil, List.append_nil, List.cons_append, List.nil_append]
    after_results; rfl
  rw [h]; pointwise
  rw [zero_pad]
  split_ifs <;> first
    | rfl
    | omega
    | exact congrArg (fun k => auq m c (ix3 1 i k)) (Fin.ext (by simp only []; omega))

set_option maxHeartbeats 1000000 in
theorem v26_apply (i : Fin 256) (j : Fin 1536) : (V m c main_v26 : FVec Ideal S256x1536 .bf16) (ix2 i j)
    = if h : j.val < 1024 then (if j.val % 128 < 64 then auk m c (ix3 1 i ⟨j, h⟩) else 0)
      else auk m c (ix3 1 i ⟨128 * ((j - 1024) / 64) + (64 + (j - 1024) % 64), by omega⟩) := by
  have h : (V m c main_v26 : FVec Ideal S256x1536 .bf16) = concatenate S256x1536 1 [⟨S256x1024, shapeCast S256x1024 (pad S256x8x128 ![0, 0, 0] ![0, 0, 64] ![0, 0, 0]
        (extractStridedSlice S256x8x64 ![0, 0, 0] (shapeCast S256x8x128 (truncf .bf16 (shapeCast S256x1024 (extractStridedSlice S1x256x1024 ![1, 0, 0] (auk m c) slices_S2x256x1024_S1x256x1024_1_0_0) shapeCasts_S1x256x1024_S256x1024) bitsLt_bf16_f32) shapeCasts_S256x1024_S256x8x128) slices_S256x8x128_S256x8x64_0_0_0)
        (sitofp .bf16 (constantI S_ 32 0#32)) pads_S256x8x64_S256x8x128_000_000_0640 h_S_) shapeCasts_S256x8x128_S256x1024⟩,
      ⟨S256x512, shapeCast S256x512 (extractStridedSlice S256x8x64 ![0, 0, 64] (shapeCast S256x8x128 (truncf .bf16 (shapeCast S256x1024 (extractStridedSlice S1x256x1024 ![1, 0, 0] (auk m c) slices_S2x256x1024_S1x256x1024_1_0_0) shapeCasts_S1x256x1024_S256x1024) bitsLt_bf16_f32) shapeCasts_S256x1024_S256x8x128) slices_S256x8x128_S256x8x64_0_0_64) shapeCasts_S256x8x64_S256x512⟩]
      concatenates_S256x1024_S256x512_S256x1536_d1 := by
    unfold V
    simp only [hostOps0, hostOps0_1, hostOps0_2, hostOps0_3, hostOps0_4, hostOps0_5, hostOps0_6, List.flatten_cons, List.flatten_nil, List.append_nil, List.cons_append, List.nil_append]
    after_results; rfl
  rw [h]; pointwise
  rw [zero_pad]
  split_ifs <;> first
    | rfl
    | omega
    | exact congrArg (fun k => auk m c (ix3 1 i k)) (Fin.ext (by simp only []; omega))

set_option maxHeartbeats 1000000 in
theorem v31_apply (q : Fin 32768) (l : Fin 128) : (V m c main_v31 : FVec Ideal S32768x128 .f32) (ix2 q l)
    = tabC (fun k => aco m c (ix3 ⟨q / 4096, by omega⟩ ⟨q % 4096, by omega⟩ k)) l := by
  have h : (V m c main_v31 : FVec Ideal S32768x128 .f32) = concatenate S32768x128 1 [⟨S32768x64, broadcastInDim S32768x64 ![] bcast_S_S32768x64 (constant S_ .f32 0x3F800000#32)⟩,
      ⟨S32768x16, (shapeCast S32768x16 (aco m c) shapeCasts_S8x4096x16_S32768x16)⟩, ⟨S32768x16, (shapeCast S32768x16 (aco m c) shapeCasts_S8x4096x16_S32768x16)⟩, ⟨S32768x32, broadcastInDim S32768x32 ![] bcast_S_S32768x32 (constant S_ .f32 0x3F800000#32)⟩]
      concatenates_S32768x64_S32768x16_S32768x16_S32768x32_S32768x128_d1 := by
    unfold V
    simp only [hostOps0, hostOps0_1, hostOps0_2, hostOps0_3, hostOps0_4, hostOps0_5, hostOps0_6, List.flatten_cons, List.flatten_nil, List.append_nil, List.cons_append, List.nil_append]
    after_results; rfl
  rw [h]; pointwise
  unfold tabC
  split_ifs <;> rfl

set_option maxHeartbeats 1000000 in
theorem v35_apply (q : Fin 32768) (l : Fin 128) : (V m c main_v35 : FVec Ideal S32768x128 .f32) (ix2 q l)
    = tabA (fun k => asi m c (ix3 ⟨q / 4096, by omega⟩ ⟨q % 4096, by omega⟩ k)) l := by
  have h : (V m c main_v35 : FVec Ideal S32768x128 .f32) = concatenate S32768x128 1 [⟨S32768x64, broadcastInDim S32768x64 ![] bcast_S_S32768x64 (constant S_ .f32 0x00000000#32)⟩, ⟨S32768x16, Host.negf (shapeCast S32768x16 (asi m c) shapeCasts_S8x4096x16_S32768x16)⟩,
      ⟨S32768x48, broadcastInDim S32768x48 ![] bcast_S_S32768x48 (constant S_ .f32 0x00000000#32)⟩] concatenates_S32768x64_S32768x16_S32768x48_S32768x128_d1 := by
    unfold V
    simp only [hostOps0, hostOps0_1, hostOps0_2, hostOps0_3, hostOps0_4, hostOps0_5, hostOps0_6, List.flatten_cons, List.flatten_nil, List.append_nil, List.cons_append, List.nil_append]
    after_results; rfl
  rw [h]; pointwise
  unfold tabA
  split_ifs <;> rfl

set_option maxHeartbeats 1000000 in
theorem v38_apply (q : Fin 32768) (l : Fin 128) : (V m c main_v38 : FVec Ideal S32768x128 .f32) (ix2 q l)
    = tabB (fun k => asi m c (ix3 ⟨q / 4096, by omega⟩ ⟨q % 4096, by omega⟩ k)) l := by
  have h : (V m c main_v38 : FVec Ideal S32768x128 .f32) = concatenate S32768x128 1 [⟨S32768x80, broadcastInDim S32768x80 ![] bcast_S_S32768x80 (constant S_ .f32 0x00000000#32)⟩, ⟨S32768x16, (shapeCast S32768x16 (asi m c) shapeCasts_S8x4096x16_S32768x16)⟩,
      ⟨S32768x32, broadcastInDim S32768x32 ![] bcast_S_S32768x32 (constant S_ .f32 0x00000000#32)⟩] concatenates_S32768x80_S32768x16_S32768x32_S32768x128_d1 := by
    unfold V
    simp only [hostOps0, hostOps0_1, hostOps0_2, hostOps0_3, hostOps0_4, hostOps0_5, hostOps0_6, List.flatten_cons, List.flatten_nil, List.append_nil, List.cons_append, List.nil_append]
    after_results; rfl
  rw [h]; pointwise
  unfold tabB
  split_ifs <;> rfl

/-! ## The windows' blocks -/

theorem index_facts : ∀ t : Fin cfg0.N, win0_0.index t 0 = t.val ∧ win0_0.index t 1 = 0 ∧ win0_1.index t 0 = 0 ∧ win0_1.index t 1 = 0
    ∧ win0_2.index t 0 = 0 ∧ win0_2.index t 1 = 0 ∧ win0_3.index t 0 = 0 ∧ win0_3.index t 1 = 0
    ∧ win0_4.index t 0 = 0 ∧ win0_4.index t 1 = 0 ∧ win0_5.index t 0 = 0 ∧ win0_5.index t 1 = 0
    ∧ win0_6.index t 0 = t.val ∧ win0_6.index t 1 = 0 ∧ win0_7.index t 0 = t.val ∧ win0_7.index t 1 = 0
    ∧ win0_8.index t 0 = t.val ∧ win0_8.index t 1 = 0 ∧ win0_9.index t 0 = t.val ∧ win0_9.index t 1 = 0
    ∧ win0_10.index t 0 = t.val ∧ win0_10.index t 1 = 0 ∧ win0_11.index t 0 = t.val ∧ win0_11.index t 1 = 0
    ∧ win0_11.index t 2 = 0 :=
  (by decide +kernel : ∀ t : Fin grid0.N, win0_0.index t 0 = t.val ∧ win0_0.index t 1 = 0 ∧ win0_1.index t 0 = 0 ∧ win0_1.index t 1 = 0
    ∧ win0_2.index t 0 = 0 ∧ win0_2.index t 1 = 0 ∧ win0_3.index t 0 = 0 ∧ win0_3.index t 1 = 0
    ∧ win0_4.index t 0 = 0 ∧ win0_4.index t 1 = 0 ∧ win0_5.index t 0 = 0 ∧ win0_5.index t 1 = 0
    ∧ win0_6.index t 0 = t.val ∧ win0_6.index t 1 = 0 ∧ win0_7.index t 0 = t.val ∧ win0_7.index t 1 = 0
    ∧ win0_8.index t 0 = t.val ∧ win0_8.index t 1 = 0 ∧ win0_9.index t 0 = t.val ∧ win0_9.index t 1 = 0
    ∧ win0_10.index t 0 = t.val ∧ win0_10.index t 1 = 0 ∧ win0_11.index t 0 = t.val ∧ win0_11.index t 1 = 0
    ∧ win0_11.index t 2 = 0)

theorem lt64 (t : Fin cfg0.N) : t.val < 64 := Nat.lt_of_lt_of_eq t.isLt N_0

variable (t : Fin cfg0.N)

theorem b0 (i : Fin 512) (j : Fin 1024) : (iblk m c 0 t : Vec Ideal S512x1024 .f32) (ix2 i j)
    = (V m c main_v39 : FVec Ideal S32768x1024 .f32) (ix2 ⟨t.val * 512 + i, by have := lt64 t; omega⟩ j) := by
  have h := index_facts t
  unfold iblk
  rw [View.read_apply]
  refine congrArg (V m c main_v39 : FVec Ideal S32768x1024 .f32) (funext fun a => Fin.ext ?_)
  match a with
  | ⟨0, _⟩ => show win0_0.index t 0 * 512 + 1 * i.val = t.val * 512 + i.val; rw [h.1]; omega
  | ⟨1, _⟩ => show win0_0.index t 1 * 1024 + 1 * j.val = j.val; rw [h.2.1]; omega

theorem b1 (i : Fin 1024) (j : Fin 768) : (iblk m c 1 t : Vec Ideal S1024x768 .bf16) (ix2 i j)
    = (V m c main_v10 : FVec Ideal S1024x768 .bf16) (ix2 i j) := by
  have h := index_facts t
  unfold iblk
  rw [View.read_apply]
  refine congrArg (V m c main_v10 : FVec Ideal S1024x768 .bf16) (funext fun a => Fin.ext ?_)
  match a with
  | ⟨0, _⟩ => show win0_1.index t 0 * 1024 + 1 * i.val = i.val; rw [h.2.2.1]; omega
  | ⟨1, _⟩ => show win0_1.index t 1 * 768 + 1 * j.val = j.val; rw [h.2.2.2.1]; omega

theorem b2 (i : Fin 1) (j : Fin 384) : (iblk m c 2 t : Vec Ideal S1x384 .f32) (ix2 i j)
    = (V m c main_v42 : FVec Ideal S1x384 .f32) (ix2 i j) := by
  have h := index_facts t
  unfold iblk
  rw [View.read_apply]
  refine congrArg (V m c main_v42 : FVec Ideal S1x384 .f32) (funext fun a => Fin.ext ?_)
  match a with
  | ⟨0, _⟩ => show win0_2.index t 0 * 1 + 1 * i.val = i.val; rw [h.2.2.2.2.1]; omega
  | ⟨1, _⟩ => show win0_2.index t 1 * 384 + 1 * j.val = j.val; rw [h.2.2.2.2.2.1]; omega

theorem b3 (i : Fin 1) (j : Fin 256) : (iblk m c 3 t : Vec Ideal S1x256 .f32) (ix2 i j)
    = (V m c main_v45 : FVec Ideal S1x256 .f32) (ix2 i j) := by
  have h := index_facts t
  unfold iblk
  rw [View.read_apply]
  refine congrArg (V m c main_v45 : FVec Ideal S1x256 .f32) (funext fun a => Fin.ext ?_)
  match a with
  | ⟨0, _⟩ => show win0_3.index t 0 * 1 + 1 * i.val = i.val; rw [h.2.2.2.2.2.2.1]; omega
  | ⟨1, _⟩ => show win0_3.index t 1 * 256 + 1 * j.val = j.val; rw [h.2.2.2.2.2.2.2.1]; omega

theorem b4 (i : Fin 384) (j : Fin 1024) : (iblk m c 4 t : Vec Ideal S384x1024 .bf16) (ix2 i j)
    = (V m c main_v16 : FVec Ideal S384x1024 .bf16) (ix2 i j) := by
  have h := index_facts t
  unfold iblk
  rw [View.read_apply]
  refine congrArg (V m c main_v16 : FVec Ideal S384x1024 .bf16) (funext fun a => Fin.ext ?_)
  match a with
  | ⟨0, _⟩ => show win0_4.index t 0 * 384 + 1 * i.val = i.val; rw [h.2.2.2.2.2.2.2.2.1]; omega
  | ⟨1, _⟩ => show win0_4.index t 1 * 1024 + 1 * j.val = j.val; rw [h.2.2.2.2.2.2.2.2.2.1]; omega

theorem b5 (i : Fin 256) (j : Fin 1536) : (iblk m c 5 t : Vec Ideal S256x1536 .bf16) (ix2 i j)
    = (V m c main_v26 : FVec Ideal S256x1536 .bf16) (ix2 i j) := by
  have h := index_facts t
  unfold iblk
  rw [View.read_apply]
  refine congrArg (V m c main_v26 : FVec Ideal S256x1536 .bf16) (funext fun a => Fin.ext ?_)
  match a with
  | ⟨0, _⟩ => show win0_5.index t 0 * 256 + 1 * i.val = i.val; rw [h.2.2.2.2.2.2.2.2.2.2.1]; omega
  | ⟨1, _⟩ => show win0_5.index t 1 * 1536 + 1 * j.val = j.val; rw [h.2.2.2.2.2.2.2.2.2.2.2.1]; omega

theorem b6 (i : Fin 512) (j : Fin 128) : (iblk m c 6 t : Vec Ideal S512x128 .f32) (ix2 i j)
    = (V m c main_v31 : FVec Ideal S32768x128 .f32) (ix2 ⟨t.val * 512 + i, by have := lt64 t; omega⟩ j) := by
  have h := index_facts t
  unfold iblk
  rw [View.read_apply]
  refine congrArg (V m c main_v31 : FVec Ideal S32768x128 .f32) (funext fun a => Fin.ext ?_)
  match a with
  | ⟨0, _⟩ => show win0_6.index t 0 * 512 + 1 * i.val = t.val * 512 + i.val; rw [h.2.2.2.2.2.2.2.2.2.2.2.2.1]; omega
  | ⟨1, _⟩ => show win0_6.index t 1 * 128 + 1 * j.val = j.val; rw [h.2.2.2.2.2.2.2.2.2.2.2.2.2.1]; omega

theorem b7 (i : Fin 512) (j : Fin 128) : (iblk m c 7 t : Vec Ideal S512x128 .f32) (ix2 i j)
    = (V m c main_v35 : FVec Ideal S32768x128 .f32) (ix2 ⟨t.val * 512 + i, by have := lt64 t; omega⟩ j) := by
  have h := index_facts t
  unfold iblk
  rw [View.read_apply]
  refine congrArg (V m c main_v35 : FVec Ideal S32768x128 .f32) (funext fun a => Fin.ext ?_)
  match a with
  | ⟨0, _⟩ => show win0_7.index t 0 * 512 + 1 * i.val = t.val * 512 + i.val; rw [h.2.2.2.2.2.2.2.2.2.2.2.2.2.2.1]; omega
  | ⟨1, _⟩ => show win0_7.index t 1 * 128 + 1 * j.val = j.val; rw [h.2.2.2.2.2.2.2.2.2.2.2.2.2.2.2.1]; omega

theorem b8 (i : Fin 512) (j : Fin 128) : (iblk m c 8 t : Vec Ideal S512x128 .f32) (ix2 i j)
    = (V m c main_v38 : FVec Ideal S32768x128 .f32) (ix2 ⟨t.val * 512 + i, by have := lt64 t; omega⟩ j) := by
  have h := index_facts t
  unfold iblk
  rw [View.read_apply]
  refine congrArg (V m c main_v38 : FVec Ideal S32768x128 .f32) (funext fun a => Fin.ext ?_)
  match a with
  | ⟨0, _⟩ => show win0_8.index t 0 * 512 + 1 * i.val = t.val * 512 + i.val; rw [h.2.2.2.2.2.2.2.2.2.2.2.2.2.2.2.2.1]; omega
  | ⟨1, _⟩ => show win0_8.index t 1 * 128 + 1 * j.val = j.val; rw [h.2.2.2.2.2.2.2.2.2.2.2.2.2.2.2.2.2.1]; omega

end Cert.ProjHost

end
-- ==== Proof.ProjValue.lean ====
/-
  The projection kernel's three result arrays, entry by entry, as the plain formulas of the arrays it was launched with: the
  blocks a point writes, and the run.
-/
module

public import proofs.«01_k».proof.Proof.ProjHost

@[expose] public section

set_option maxRecDepth 16384

noncomputable section

namespace Cert.ProjValue

open Cert.Kernel5Ideal Cert.Kernel5Ideal.Gen Idealize.ShloMosaic Idealize.ShloMosaic.TcCoe Idealize.SL.Sem
open Idealize.ShloMosaic.Pipeline (Dat)
open Cert.ProjMath Cert.ProjHost

variable (m : (ℓ : Loc nD τ sig) → Buf (Elt Ideal) ℓ) (ρ : Dev nD → PrngReg) (c : Dev nD)

/-! ## The arguments of a row -/

/-- The activations at batch `b`, position `s`. -/
def rx (b : Fin 8) (s : Fin 4096) (i : Fin 1024) : EReal := ax m c (ix3 b s i)
/-- The first weights. -/
def rw' (i : Fin 1024) (k : Fin 672) : EReal := aw m c (ix3 1 i ⟨964 + k, by omega⟩)
/-- The query norm's scales. -/
def rgq (j : Fin 384) : EReal := agq m c (ix2 1 j)
/-- The query weights. -/
def ruq (j : Fin 384) (n : Fin 768) : EReal := auq m c (ix3 1 j n)
/-- The key and value norm's scales. -/
def rgk (j : Fin 256) : EReal := agk m c (ix2 1 j)
/-- The key and value weights. -/
def ruk (j : Fin 256) (n : Fin 1024) : EReal := auk m c (ix3 1 j n)
/-- The cosines at batch `b`, position `s`. -/
def rco (b : Fin 8) (s : Fin 4096) (k : Fin 16) : EReal := aco m c (ix3 b s k)
/-- The sines at batch `b`, position `s`. -/
def rsi (b : Fin 8) (s : Fin 4096) (k : Fin 16) : EReal := asi m c (ix3 b s k)

variable (t : Fin cfg0.N)

/-- The batch of row `r` of block `t`. -/
def bat (r : Fin 512) : Fin 8 := ⟨(t.val * 512 + r.val) / 4096, by have := lt64 t; omega⟩
/-- The position of row `r` of block `t`. -/
def pos (r : Fin 512) : Fin 4096 := ⟨(t.val * 512 + r.val) % 4096, by omega⟩

/-! ## The blocks a point reads, as the arguments of its rows -/

theorem x0_eq (r : Fin 512) (i : Fin 1024) : (iblk m c 0 t : Vec Ideal S512x1024 .f32) (ix2 r i) = rx m c (bat t r) (pos t r) i :=
  (b0 m c t r i).trans (v39_apply m c _ i)

theorem x2_eq (j : Fin 384) : (iblk m c 2 t : Vec Ideal S1x384 .f32) (ix2 0 j) = rgq m c j := (b2 m c t 0 j).trans (v42_apply m c j)

theorem x3_eq (j : Fin 256) : (iblk m c 3 t : Vec Ideal S1x256 .f32) (ix2 0 j) = rgk m c j := (b3 m c t 0 j).trans (v45_apply m c j)

theorem x6_eq (r : Fin 512) (l : Fin 128) : (iblk m c 6 t : Vec Ideal S512x128 .f32) (ix2 r l) = tabC (rco m c (bat t r) (pos t r)) l :=
  (b6 m c t r l).trans (v31_apply m c _ l)

theorem x7_eq (r : Fin 512) (l : Fin 128) : (iblk m c 7 t : Vec Ideal S512x128 .f32) (ix2 r l) = tabA (rsi m c (bat t r) (pos t r)) l :=
  (b7 m c t r l).trans (v35_apply m c _ l)

theorem x8_eq (r : Fin 512) (l : Fin 128) : (iblk m c 8 t : Vec Ideal S512x128 .f32) (ix2 r l) = tabB (rsi m c (bat t r) (pos t r)) l :=
  (b8 m c t r l).trans (v38_apply m c _ l)

theorem hid_low (r : Fin 512) (k : ℕ) (hk : k < 640) : ProjBody.hid (iblk m c 0 t) (iblk m c 1 t) r ⟨k, by omega⟩
    = low (rx m c (bat t r) (pos t r)) (rw' m c) ⟨k, by omega⟩ := by
  unfold ProjBody.hid low
  refine Finset.sum_congr rfl fun i _ => ?_
  rw [x0_eq, (b1 m c t i _).trans (v10_apply m c i _), dif_pos (show k < 640 from hk)]
  rfl

theorem hid_rot (r : Fin 512) (l : Fin 128) (hl : 64 ≤ l.val ∧ l.val < 96) : ProjBody.hid (iblk m c 0 t) (iblk m c 1 t) r ⟨640 + l, by omega⟩
    = low (rx m c (bat t r) (pos t r)) (rw' m c) ⟨640 + (l - 64), by omega⟩ := by
  unfold ProjBody.hid low
  refine Finset.sum_congr rfl fun i _ => ?_
  have hn : ¬640 + l.val < 640 := by omega
  have hp : 704 ≤ 640 + l.val ∧ 640 + l.val < 736 := by omega
  rw [x0_eq, (b1 m c t i _).trans (v10_apply m c i _), dif_neg hn, dif_pos hp]
  refine congrArg (fun k => rx m c (bat t r) (pos t r) i * aw m c (ix3 1 i k)) (Fin.ext ?_)
  show 964 + (640 + l.val - 64) = 964 + (640 + (l.val - 64)); omega

theorem hid_zero (r : Fin 512) (l : Fin 128) (hl : ¬(64 ≤ l.val ∧ l.val < 96)) : ProjBody.hid (iblk m c 0 t) (iblk m c 1 t) r ⟨640 + l, by omega⟩ = 0 := by
  unfold ProjBody.hid
  refine Finset.sum_eq_zero fun i _ => ?_
  have hn : ¬640 + l.val < 640 := by omega
  have hp : ¬(704 ≤ 640 + l.val ∧ 640 + l.val < 736) := by omega
  rw [(b1 m c t i _).trans (v10_apply m c i _), dif_neg hn, dif_neg hp, mul_zero]

theorem rmsQ (r : Fin 512) (i : Fin 384) : rms (Ideal.ofBits .f32 0x43C00000#32)
      (fun j : Fin 384 => ProjBody.hid (iblk m c 0 t) (iblk m c 1 t) r ⟨j, by omega⟩) (fun j => (iblk m c 2 t : Vec Ideal S1x384 .f32) (ix2 0 j)) i
    = rms (Ideal.ofBits .f32 0x43C00000#32) (fun j : Fin 384 => low (rx m c (bat t r) (pos t r)) (rw' m c) ⟨j, by omega⟩) (rgq m c) i := by
  have e : (fun j : Fin 384 => ProjBody.hid (iblk m c 0 t) (iblk m c 1 t) r ⟨j, by omega⟩)
      = fun j : Fin 384 => low (rx m c (bat t r) (pos t r)) (rw' m c) ⟨j, by omega⟩ := funext fun j => hid_low m c t r j (by omega)
  have e2 : (fun j => (iblk m c 2 t : Vec Ideal S1x384 .f32) (ix2 0 j)) = rgq m c := funext fun j => x2_eq m c t j
  rw [e, e2]

theorem rmsK (r : Fin 512) (i : Fin 256) : rms (Ideal.ofBits .f32 0x43800000#32)
      (fun j : Fin 256 => ProjBody.hid (iblk m c 0 t) (iblk m c 1 t) r ⟨384 + j, by omega⟩) (fun j => (iblk m c 3 t : Vec Ideal S1x256 .f32) (ix2 0 j)) i
    = rms (Ideal.ofBits .f32 0x43800000#32) (fun j : Fin 256 => low (rx m c (bat t r) (pos t r)) (rw' m c) ⟨384 + j, by omega⟩) (rgk m c) i := by
  have e : (fun j : Fin 256 => ProjBody.hid (iblk m c 0 t) (iblk m c 1 t) r ⟨384 + j, by omega⟩)
      = fun j : Fin 256 => low (rx m c (bat t r) (pos t r)) (rw' m c) ⟨384 + j, by omega⟩ := funext fun j => hid_low m c t r (384 + j) (by omega)
  have e2 : (fun j => (iblk m c 3 t : Vec Ideal S1x256 .f32) (ix2 0 j)) = rgk m c := funext fun j => x3_eq m c t j
  rw [e, e2]

theorem qp_eq (r : Fin 512) (g : Fin 8) (l : Fin 128) : ProjBody.qp (iblk m c 0 t) (iblk m c 1 t) (iblk m c 2 t) (iblk m c 4 t) r ⟨128 * g + l, by omega⟩
    = if hl : l.val < 96 then qcol (rx m c (bat t r) (pos t r)) (rw' m c) (rgq m c) (ruq m c) ⟨96 * g + l, by omega⟩ else 0 := by
  unfold ProjBody.qp qcol
  have el : (128 * g.val + l.val) % 128 = l.val := by omega
  have eg : (128 * g.val + l.val) / 128 = g.val := by omega
  by_cases hl : l.val < 96
  · rw [dif_pos hl]
    refine Finset.sum_congr rfl fun i _ => ?_
    have hp : (128 * g.val + l.val) % 128 < 96 := by omega
    rw [rmsQ, (b4 m c t i _).trans (v16_apply m c i _), dif_pos hp]
    refine congrArg (fun k => _ * auq m c (ix3 1 i k)) (Fin.ext ?_)
    show 96 * ((128 * g.val + l.val) / 128) + (128 * g.val + l.val) % 128 = 96 * g.val + l.val
    rw [el, eg]
  · rw [dif_neg hl]
    refine Finset.sum_eq_zero fun i _ => ?_
    have hp : ¬(128 * g.val + l.val) % 128 < 96 := by omega
    rw [(b4 m c t i _).trans (v16_apply m c i _), dif_neg hp, mul_zero]

theorem kvp_eq (r : Fin 512) (g : Fin 8) (l : Fin 128) : ProjBody.kvp (iblk m c 0 t) (iblk m c 1 t) (iblk m c 3 t) (iblk m c 5 t) r ⟨128 * g + l, by omega⟩
    = if hl : l.val < 64 then kcol (rx m c (bat t r) (pos t r)) (rw' m c) (rgk m c) (ruk m c) ⟨128 * g + l, by omega⟩ else 0 := by
  unfold ProjBody.kvp kcol
  have hj : 128 * g.val + l.val < 1024 := by omega
  by_cases hl : l.val < 64
  · rw [dif_pos hl]
    refine Finset.sum_congr rfl fun i _ => ?_
    have hp : (128 * g.val + l.val) % 128 < 64 := by omega
    rw [rmsK, (b5 m c t i _).trans (v26_apply m c i _), dif_pos hj, if_pos hp]
    rfl
  · rw [dif_neg hl]
    refine Finset.sum_eq_zero fun i _ => ?_
    have hp : ¬(128 * g.val + l.val) % 128 < 64 := by omega
    rw [(b5 m c t i _).trans (v26_apply m c i _), dif_pos hj, if_neg hp, mul_zero]

theorem kvp_val (r d : Fin 512) : ProjBody.kvp (iblk m c 0 t) (iblk m c 1 t) (iblk m c 3 t) (iblk m c 5 t) r ⟨1024 + d, by omega⟩
    = headV (rx m c (bat t r) (pos t r)) (rw' m c) (rgk m c) (ruk m c) d := by
  unfold ProjBody.kvp headV kcol
  refine Finset.sum_congr rfl fun i _ => ?_
  have hj : ¬1024 + d.val < 1024 := by omega
  rw [rmsK, (b5 m c t i _).trans (v26_apply m c i _), dif_neg hj]
  refine congrArg (fun k => _ * auk m c (ix3 1 i k)) (Fin.ext ?_)
  show 128 * ((1024 + d.val - 1024) / 64) + (64 + (1024 + d.val - 1024) % 64) = 128 * (d.val / 64) + (64 + d.val % 64)
  rw [Nat.add_sub_cancel_left]

/-! ## The blocks a point writes -/

theorem blockQ (r : Fin 512) (g : Fin 8) (l : Fin 128) :
    out0_9 (iblk m c 0 t) (iblk m c 1 t) (iblk m c 2 t) (iblk m c 3 t) (iblk m c 4 t) (iblk m c 5 t) (iblk m c 6 t) (iblk m c 7 t) (iblk m c 8 t)
        (ix2 r ⟨128 * g + l, by omega⟩)
      = headQ (rx m c (bat t r) (pos t r)) (rw' m c) (rgq m c) (ruq m c) (rco m c (bat t r) (pos t r)) (rsi m c (bat t r) (pos t r)) g l := by
  refine (ProjBody.outQ_apply ..).trans ?_
  simp only [x6_eq, x7_eq, x8_eq, qp_eq]
  rw [turn_eq]
  unfold headQ
  by_cases h : l.val < 64
  · rw [dif_pos h, dif_neg (by omega), dif_pos (by omega)]
  · rw [dif_neg h]
    by_cases h' : l.val < 96
    · rw [dif_pos ⟨by omega, h'⟩, dif_pos h']
      refine congrArg (fun f => rot f (rco m c (bat t r) (pos t r)) (rsi m c (bat t r) (pos t r)) ⟨l - 64, by omega⟩
        * Ideal.ofBits .f32 0x3E16C740#32) (funext fun d => ?_)
      have hd : 64 + d.val < 96 := by omega
      rw [dif_pos hd]
    · rw [dif_neg h', dif_neg (by omega), dif_neg h', zero_mul]

theorem blockK (r : Fin 512) (g : Fin 8) (l : Fin 128) :
    out0_10 (iblk m c 0 t) (iblk m c 1 t) (iblk m c 2 t) (iblk m c 3 t) (iblk m c 4 t) (iblk m c 5 t) (iblk m c 6 t) (iblk m c 7 t) (iblk m c 8 t)
        (ix2 r ⟨128 * g + l, by omega⟩)
      = headK (rx m c (bat t r) (pos t r)) (rw' m c) (rgk m c) (ruk m c) (rco m c (bat t r) (pos t r)) (rsi m c (bat t r) (pos t r)) g l := by
  refine (ProjBody.outK_apply ..).trans ?_
  simp only [x6_eq, x7_eq, x8_eq, kvp_eq]
  rw [turn_eq]
  unfold headK
  by_cases h : l.val < 64
  · rw [dif_pos h, dif_neg (by omega), dif_pos h, hid_zero m c t r l (by omega), add_zero]
  · rw [dif_neg h, dif_neg h, zero_add]
    by_cases h' : l.val < 96
    · rw [dif_pos ⟨by omega, h'⟩, dif_pos h']
      refine congrArg (fun f => rot f (rco m c (bat t r) (pos t r)) (rsi m c (bat t r) (pos t r)) ⟨l - 64, by omega⟩) (funext fun d => ?_)
      refine (hid_rot m c t r ⟨64 + d, by omega⟩ ⟨by show 64 ≤ 64 + d.val; omega, by show 64 + d.val < 96; omega⟩).trans ?_
      refine congrArg (low _ _) (Fin.ext ?_)
      show 640 + (64 + d.val - 64) = 640 + d.val; omega
    · rw [dif_neg h', dif_neg (by omega), hid_zero m c t r l (by omega)]

theorem blockV (d r : Fin 512) :
    out0_11 (iblk m c 0 t) (iblk m c 1 t) (iblk m c 2 t) (iblk m c 3 t) (iblk m c 4 t) (iblk m c 5 t) (iblk m c 6 t) (iblk m c 7 t) (iblk m c 8 t)
        (ix3 0 d r)
      = headV (rx m c (bat t r) (pos t r)) (rw' m c) (rgk m c) (ruk m c) d :=
  (ProjBody.outV_apply ..).trans (kvp_val m c t r d)

/-! ## The result arrays and the run -/

/-- The first result: row `q` is position `q % 4096` of batch `q / 4096`, column `j` lane `j % 128` of head `j / 128`. -/
def resultQ : Buf (Elt Ideal) ((c.tc : Thread nD τ).loc main_v46_0) := fun (i : S32768x1024.Idx) =>
  have b : Fin 8 := ⟨(i 0).val / 4096, by have : (i 0).val < 32768 := (i 0).isLt; omega⟩
  have s : Fin 4096 := ⟨(i 0).val % 4096, by omega⟩
  headQ (rx m c b s) (rw' m c) (rgq m c) (ruq m c) (rco m c b s) (rsi m c b s)
    ⟨(i 1).val / 128, by have : (i 1).val < 1024 := (i 1).isLt; omega⟩ ⟨(i 1).val % 128, by omega⟩

/-- The second result, laid out likewise. -/
def resultK : Buf (Elt Ideal) ((c.tc : Thread nD τ).loc main_v46_1) := fun (i : S32768x1024.Idx) =>
  have b : Fin 8 := ⟨(i 0).val / 4096, by have : (i 0).val < 32768 := (i 0).isLt; omega⟩
  have s : Fin 4096 := ⟨(i 0).val % 4096, by omega⟩
  headK (rx m c b s) (rw' m c) (rgk m c) (ruk m c) (rco m c b s) (rsi m c b s)
    ⟨(i 1).val / 128, by have : (i 1).val < 1024 := (i 1).isLt; omega⟩ ⟨(i 1).val % 128, by omega⟩

/-- The third result: tile `n` holds its 512 positions' values, transposed. -/
def resultV : Buf (Elt Ideal) ((c.tc : Thread nD τ).loc main_v46_2) := fun (i : S64x512x512.Idx) =>
  have b : Fin 8 := ⟨((i 0).val * 512 + (i 2).val) / 4096, by
    have h0 : (i 0).val < 64 := (i 0).isLt
    have h2 : (i 2).val < 512 := (i 2).isLt
    omega⟩
  have s : Fin 4096 := ⟨((i 0).val * 512 + (i 2).val) % 4096, by omega⟩
  headV (rx m c b s) (rw' m c) (rgk m c) (ruk m c) (i 1)

theorem resultQ_apply (q : Fin 32768) (g : Fin 8) (l : Fin 128) : (resultQ m c : FVec Ideal S32768x1024 .bf16) (ix2 q ⟨128 * g + l, by omega⟩)
    = headQ (rx m c ⟨q / 4096, by omega⟩ ⟨q % 4096, by omega⟩) (rw' m c) (rgq m c) (ruq m c) (rco m c ⟨q / 4096, by omega⟩ ⟨q % 4096, by omega⟩)
        (rsi m c ⟨q / 4096, by omega⟩ ⟨q % 4096, by omega⟩) g l := by
  have eg : (⟨(128 * g + l) / 128, by omega⟩ : Fin 8) = g := Fin.ext (by show (128 * g.val + l.val) / 128 = g.val; omega)
  have el : (⟨(128 * g + l) % 128, by omega⟩ : Fin 128) = l := Fin.ext (by show (128 * g.val + l.val) % 128 = l.val; omega)
  exact congrArg₂ (headQ (rx m c ⟨q / 4096, by omega⟩ ⟨q % 4096, by omega⟩) (rw' m c) (rgq m c) (ruq m c) (rco m c ⟨q / 4096, by omega⟩ ⟨q % 4096, by omega⟩)
        (rsi m c ⟨q / 4096, by omega⟩ ⟨q % 4096, by omega⟩)) eg el

theorem resultK_apply (q : Fin 32768) (g : Fin 8) (l : Fin 128) : (resultK m c : FVec Ideal S32768x1024 .bf16) (ix2 q ⟨128 * g + l, by omega⟩)
    = headK (rx m c ⟨q / 4096, by omega⟩ ⟨q % 4096, by omega⟩) (rw' m c) (rgk m c) (ruk m c) (rco m c ⟨q / 4096, by omega⟩ ⟨q % 4096, by omega⟩)
        (rsi m c ⟨q / 4096, by omega⟩ ⟨q % 4096, by omega⟩) g l := by
  have eg : (⟨(128 * g + l) / 128, by omega⟩ : Fin 8) = g := Fin.ext (by show (128 * g.val + l.val) / 128 = g.val; omega)
  have el : (⟨(128 * g + l) % 128, by omega⟩ : Fin 128) = l := Fin.ext (by show (128 * g.val + l.val) % 128 = l.val; omega)
  exact congrArg₂ (headK (rx m c ⟨q / 4096, by omega⟩ ⟨q % 4096, by omega⟩) (rw' m c) (rgk m c) (ruk m c) (rco m c ⟨q / 4096, by omega⟩ ⟨q % 4096, by omega⟩)
        (rsi m c ⟨q / 4096, by omega⟩ ⟨q % 4096, by omega⟩)) eg el

theorem resultV_apply (n : Fin 64) (d r : Fin 512) : (resultV m c : FVec Ideal S64x512x512 .bf16) (ix3 n d r)
    = headV (rx m c ⟨(n * 512 + r) / 4096, by omega⟩ ⟨(n * 512 + r) % 4096, by omega⟩) (rw' m c) (rgk m c) (ruk m c) d := rfl

/-- A column is a lane of a head. -/
theorem column (j : Fin 1024) : ∃ (g : Fin 8) (l : Fin 128), j = ⟨128 * g + l, by omega⟩ :=
  ⟨⟨j / 128, by omega⟩, ⟨j % 128, by omega⟩, Fin.ext (by show j.val = 128 * (j.val / 128) + j.val % 128; omega)⟩

/-- Where entry `(r, j)` of output block `t` lies. -/
theorem embQ (r : Fin 512) (j : Fin 1024) : ((cfg0.win 9).blk t).view.emb (ix2 r j)
    = (ix2 (⟨t.val * 512 + r.val, by have := lt64 t; omega⟩ : Fin 32768) j : S32768x1024.Idx) := by
  have h := index_facts t
  refine funext fun a => Fin.ext ?_
  match a with
  | ⟨0, _⟩ => show win0_9.index t 0 * 512 + 1 * r.val = t.val * 512 + r.val; rw [h.2.2.2.2.2.2.2.2.2.2.2.2.2.2.2.2.2.2.1]; omega
  | ⟨1, _⟩ => show win0_9.index t 1 * 1024 + 1 * j.val = j.val; rw [h.2.2.2.2.2.2.2.2.2.2.2.2.2.2.2.2.2.2.2.1]; omega

/-- What point `t` writes back is block `t` of the result. -/
theorem flushedQ : (dats m 0 c).flushed 9 t = ((cfg0.win 9).blk t).view.read (Elt Ideal) (resultQ m c) := by
  rw [Value.flushed9]
  funext (y : S512x1024.Idx)
  obtain ⟨r, j, rfl⟩ : ∃ (r : Fin 512) (j : Fin 1024), y = ix2 r j := ⟨y 0, y 1, eq_ix2 y⟩
  obtain ⟨g, l, rfl⟩ := column j
  refine (blockQ m c t r g l).trans ?_
  rw [View.read_apply]
  exact (resultQ_apply m c ⟨t.val * 512 + r.val, by have := lt64 t; omega⟩ g l).symm.trans
    (congrArg (resultQ m c : FVec Ideal S32768x1024 .bf16) (embQ t r _).symm)

/-- The blocks cover the result array. -/
theorem coverQ (i : S32768x1024.Idx) : ∃ t : Fin cfg0.N, (cfg0.win 9).flush t = true ∧ i ∈ ((cfg0.win 9).blk t).view.set := by
  have h0 : (i 0).val < 32768 := (i 0).isLt
  have h1 : (i 1).val < 1024 := (i 1).isLt
  have hN : cfg0.N = 64 := N_0
  let t : Fin cfg0.N := ⟨(i 0).val / 512, by omega⟩
  have h := index_facts t
  refine ⟨t, flush0_9 _, ?_⟩
  show i ∈ ((View.whole main_v46_0).slice (win0_9.rect t)).set
  rw [View.set_slice_whole, Rect.mem_set_unit]
  intro a
  match a with
  | ⟨0, _⟩ => show win0_9.index t 0 * 512 ≤ (i 0).val ∧ (i 0).val < win0_9.index t 0 * 512 + 512
              rw [h.2.2.2.2.2.2.2.2.2.2.2.2.2.2.2.2.2.2.1]; show (i 0).val / 512 * 512 ≤ (i 0).val ∧ (i 0).val < (i 0).val / 512 * 512 + 512; omega
  | ⟨1, _⟩ => show win0_9.index t 1 * 1024 ≤ (i 1).val ∧ (i 1).val < win0_9.index t 1 * 1024 + 1024
              rw [h.2.2.2.2.2.2.2.2.2.2.2.2.2.2.2.2.2.2.2.1]; omega

theorem finalQ : (dats m 0 c).arrAt 9 cfg0.N = resultQ m c :=
  (dats m 0 c).arrAt_eq_of_cover 9 (resultQ m c) (fun t _ => flushedQ m c t) coverQ

/-- Where entry `(r, j)` of output block `t` lies. -/
theorem embK (r : Fin 512) (j : Fin 1024) : ((cfg0.win 10).blk t).view.emb (ix2 r j)
    = (ix2 (⟨t.val * 512 + r.val, by have := lt64 t; omega⟩ : Fin 32768) j : S32768x1024.Idx) := by
  have h := index_facts t
  refine funext fun a => Fin.ext ?_
  match a with
  | ⟨0, _⟩ => show win0_10.index t 0 * 512 + 1 * r.val = t.val * 512 + r.val; rw [h.2.2.2.2.2.2.2.2.2.2.2.2.2.2.2.2.2.2.2.2.1]; omega
  | ⟨1, _⟩ => show win0_10.index t 1 * 1024 + 1 * j.val = j.val; rw [h.2.2.2.2.2.2.2.2.2.2.2.2.2.2.2.2.2.2.2.2.2.1]; omega

/-- What point `t` writes back is block `t` of the result. -/
theorem flushedK : (dats m 0 c).flushed 10 t = ((cfg0.win 10).blk t).view.read (Elt Ideal) (resultK m c) := by
  rw [Value.flushed10]
  funext (y : S512x1024.Idx)
  obtain ⟨r, j, rfl⟩ : ∃ (r : Fin 512) (j : Fin 1024), y = ix2 r j := ⟨y 0, y 1, eq_ix2 y⟩
  obtain ⟨g, l, rfl⟩ := column j
  refine (blockK m c t r g l).trans ?_
  rw [View.read_apply]
  exact (resultK_apply m c ⟨t.val * 512 + r.val, by have := lt64 t; omega⟩ g l).symm.trans
    (congrArg (resultK m c : FVec Ideal S32768x1024 .bf16) (embK t r _).symm)

/-- The blocks cover the result array. -/
theorem coverK (i : S32768x1024.Idx) : ∃ t : Fin cfg0.N, (cfg0.win 10).flush t = true ∧ i ∈ ((cfg0.win 10).blk t).view.set := by
  have h0 : (i 0).val < 32768 := (i 0).isLt
  have h1 : (i 1).val < 1024 := (i 1).isLt
  have hN : cfg0.N = 64 := N_0
  let t : Fin cfg0.N := ⟨(i 0).val / 512, by omega⟩
  have h := index_facts t
  refine ⟨t, flush0_10 _, ?_⟩
  show i ∈ ((View.whole main_v46_1).slice (win0_10.rect t)).set
  rw [View.set_slice_whole, Rect.mem_set_unit]
  intro a
  match a with
  | ⟨0, _⟩ => show win0_10.index t 0 * 512 ≤ (i 0).val ∧ (i 0).val < win0_10.index t 0 * 512 + 512
              rw [h.2.2.2.2.2.2.2.2.2.2.2.2.2.2.2.2.2.2.2.2.1]; show (i 0).val / 512 * 512 ≤ (i 0).val ∧ (i 0).val < (i 0).val / 512 * 512 + 512; omega
  | ⟨1, _⟩ => show win0_10.index t 1 * 1024 ≤ (i 1).val ∧ (i 1).val < win0_10.index t 1 * 1024 + 1024
              rw [h.2.2.2.2.2.2.2.2.2.2.2.2.2.2.2.2.2.2.2.2.2.1]; omega

theorem finalK : (dats m 0 c).arrAt 10 cfg0.N = resultK m c :=
  (dats m 0 c).arrAt_eq_of_cover 10 (resultK m c) (fun t _ => flushedK m c t) coverK

/-- Where entry `(d, r)` of output block `t` lies. -/
theorem embV (d r : Fin 512) : ((cfg0.win 11).blk t).view.emb (ix3 (0 : Fin 1) d r)
    = (ix3 (⟨t.val, lt64 t⟩ : Fin 64) d r : S64x512x512.Idx) := by
  have h := index_facts t
  refine funext fun a => Fin.ext ?_
  match a with
  | ⟨0, _⟩ => show win0_11.index t 0 * 1 + 1 * 0 = t.val; rw [h.2.2.2.2.2.2.2.2.2.2.2.2.2.2.2.2.2.2.2.2.2.2.1]; omega
  | ⟨1, _⟩ => show win0_11.index t 1 * 512 + 1 * d.val = d.val; rw [h.2.2.2.2.2.2.2.2.2.2.2.2.2.2.2.2.2.2.2.2.2.2.2.1]; omega
  | ⟨2, _⟩ => show win0_11.index t 2 * 512 + 1 * r.val = r.val; rw [h.2.2.2.2.2.2.2.2.2.2.2.2.2.2.2.2.2.2.2.2.2.2.2.2]; omega

/-- What point `t` writes back is block `t` of the result. -/
theorem flushedV : (dats m 0 c).flushed 11 t = ((cfg0.win 11).blk t).view.read (Elt Ideal) (resultV m c) := by
  rw [Value.flushed11]
  funext (y : S1x512x512.Idx)
  obtain ⟨z, d, r, rfl⟩ : ∃ (z : Fin 1) (d r : Fin 512), y = ix3 z d r := ⟨y 0, y 1, y 2, eq_ix3 y⟩
  obtain rfl : z = 0 := Subsingleton.elim _ _
  refine (blockV m c t d r).trans ?_
  rw [View.read_apply]
  exact (resultV_apply m c ⟨t.val, lt64 t⟩ d r).symm.trans
    (congrArg (resultV m c : FVec Ideal S64x512x512 .bf16) (embV t d r).symm)

/-- The blocks cover the result array. -/
theorem coverV (i : S64x512x512.Idx) : ∃ t : Fin cfg0.N, (cfg0.win 11).flush t = true ∧ i ∈ ((cfg0.win 11).blk t).view.set := by
  have h0 : (i 0).val < 64 := (i 0).isLt
  have h1 : (i 1).val < 512 := (i 1).isLt
  have h2 : (i 2).val < 512 := (i 2).isLt
  have hN : cfg0.N = 64 := N_0
  let t : Fin cfg0.N := ⟨(i 0).val, by omega⟩
  have h := index_facts t
  refine ⟨t, flush0_11 _, ?_⟩
  show i ∈ ((View.whole main_v46_2).slice (win0_11.rect t)).set
  rw [View.set_slice_whole, Rect.mem_set_unit]
  intro a
  match a with
  | ⟨0, _⟩ => show win0_11.index t 0 * 1 ≤ (i 0).val ∧ (i 0).val < win0_11.index t 0 * 1 + 1
              rw [h.2.2.2.2.2.2.2.2.2.2.2.2.2.2.2.2.2.2.2.2.2.2.1]; show (i 0).val * 1 ≤ (i 0).val ∧ (i 0).val < (i 0).val * 1 + 1; omega
  | ⟨1, _⟩ => show win0_11.index t 1 * 512 ≤ (i 1).val ∧ (i 1).val < win0_11.index t 1 * 512 + 512
              rw [h.2.2.2.2.2.2.2.2.2.2.2.2.2.2.2.2.2.2.2.2.2.2.2.1]; omega
  | ⟨2, _⟩ => show win0_11.index t 2 * 512 ≤ (i 2).val ∧ (i 2).val < win0_11.index t 2 * 512 + 512
              rw [h.2.2.2.2.2.2.2.2.2.2.2.2.2.2.2.2.2.2.2.2.2.2.2.2]; omega

theorem finalV : (dats m 0 c).arrAt 11 cfg0.N = resultV m c :=
  (dats m 0 c).arrAt_eq_of_cover 11 (resultV m c) (fun t _ => flushedV m c t) coverV

/-- The run: the result arrays at the formulas, the arguments as launched. -/
theorem run : θ_run defs (onTc (τ := τ) (main (F := Ideal))) ⟨m, fun _ => 0, ρ⟩ fun r => ∀ c : Dev nD,
      r.2.mem ((c : Thread nD τ).loc main_v46_0) = resultQ m c
      ∧ r.2.mem ((c : Thread nD τ).loc main_v46_1) = resultK m c
      ∧ r.2.mem ((c : Thread nD τ).loc main_v46_2) = resultV m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7) :=
  (θ_run defs _ _).mono (fun r h c => ⟨(h c).1.trans (finalQ m c), (h c).2.1.trans (finalK m c), (h c).2.2.1.trans (finalV m c), (h c).2.2.2⟩)
    (Value.run_blocks (F := Ideal) m ρ)

end Cert.ProjValue

end
-- ==== Proof.ProjReference.lean ====
/-
  The projection reference's three results, entry by entry, as the plain formulas of its arguments.
-/
module

public import proofs.«01_k».proof.Proof.ProjMath
public import proofs.«01_k».proof.Proof.Gen.Reference5Ideal.Run

@[expose] public section

set_option maxRecDepth 16384

noncomputable section

namespace Cert.ProjReference

open Cert.Reference5Ideal Cert.Reference5Ideal.Gen Idealize.ShloMosaic Idealize.ShloMosaic.TcCoe Idealize.SL.Sem
open Cert.ProjMath

/-- The activations times the input weights. -/
def hidden (X : FVec Ideal S8x4096x1024 .f32) (W : FVec Ideal S2x1024x5732 .f32) : FVec Ideal S8x4096x5732 .f32 :=
  Host.dotGeneral dot_S8x4096x1024_S1024x5732_S8x4096x5732_2_0_01_1_n_n none X
    (shapeCast S1024x5732 (extractStridedSlice S1x1024x5732 ![1, 0, 0] W slices_S2x1024x5732_S1x1024x5732_1_0_0) shapeCasts_S1x1024x5732_S1024x5732)

/-- The query columns, scaled over their root mean square. -/
def normQ (H : FVec Ideal S8x4096x5732 .f32) (G : FVec Ideal S2x384 .f32) : FVec Ideal S8x4096x384 .f32 :=
  have d : FVec Ideal S8x4096x384 .f32 := extractStridedSlice S8x4096x384 ![0, 0, 964] H slices_S8x4096x5732_S8x4096x384_0_0_964
  mulf (mulf d (broadcastInDim S8x4096x384 ![0, 1, 2] bcast_S8x4096x1_S8x4096x384_0_1_2 (Host.rsqrt (addf
      (Host.divf (broadcastInDim S8x4096x1 ![0, 1] bcast_S8x4096_S8x4096x1_0_1 (Host.reduceAdd (mulf d d) (constant S_ .f32 0x00000000#32) reducesTo_S8x4096x384_S8x4096_d2 h_S_))
        (broadcastInDim S8x4096x1 ![] bcast_S_S8x4096x1 (constant S_ .f32 0x43C00000#32)))
      (broadcastInDim S8x4096x1 ![] bcast_S_S8x4096x1 (constant S_ .f32 0x358637BD#32))))))
    (broadcastInDim S8x4096x384 ![0, 1, 2] bcast_S1x1x384_S8x4096x384_0_1_2 (broadcastInDim S1x1x384 ![2] bcast_S384_S1x1x384_2
      (shapeCast S384 (extractStridedSlice S1x384 ![1, 0] G slices_S2x384_S1x384_1_0) shapeCasts_S1x384_S384)))

/-- The key and value columns, scaled over their root mean square. -/
def normK (H : FVec Ideal S8x4096x5732 .f32) (G : FVec Ideal S2x256 .f32) : FVec Ideal S8x4096x256 .f32 :=
  have d : FVec Ideal S8x4096x256 .f32 := extractStridedSlice S8x4096x256 ![0, 0, 1348] H slices_S8x4096x5732_S8x4096x256_0_0_1348
  mulf (mulf d (broadcastInDim S8x4096x256 ![0, 1, 2] bcast_S8x4096x1_S8x4096x256_0_1_2 (Host.rsqrt (addf
      (Host.divf (broadcastInDim S8x4096x1 ![0, 1] bcast_S8x4096_S8x4096x1_0_1 (Host.reduceAdd (mulf d d) (constant S_ .f32 0x00000000#32) reducesTo_S8x4096x256_S8x4096_d2 h_S_))
        (broadcastInDim S8x4096x1 ![] bcast_S_S8x4096x1 (constant S_ .f32 0x43800000#32)))
      (broadcastInDim S8x4096x1 ![] bcast_S_S8x4096x1 (constant S_ .f32 0x358637BD#32))))))
    (broadcastInDim S8x4096x256 ![0, 1, 2] bcast_S1x1x256_S8x4096x256_0_1_2 (broadcastInDim S1x1x256 ![2] bcast_S256_S1x1x256_2
      (shapeCast S256 (extractStridedSlice S1x256 ![1, 0] G slices_S2x256_S1x256_1_0) shapeCasts_S1x256_S256)))

/-- The query product, head by head. -/
def prodQ (N : FVec Ideal S8x4096x384 .f32) (U : FVec Ideal S2x384x768 .f32) : FVec Ideal S8x4096x8x96 .f32 :=
  shapeCast S8x4096x8x96 (Host.dotGeneral dot_S8x4096x384_S384x768_S8x4096x768_2_0_01_1_n_n none N
    (shapeCast S384x768 (extractStridedSlice S1x384x768 ![1, 0, 0] U slices_S2x384x768_S1x384x768_1_0_0) shapeCasts_S1x384x768_S384x768)) shapeCasts_S8x4096x768_S8x4096x8x96

/-- The key and value product, head by head. -/
def prodK (N : FVec Ideal S8x4096x256 .f32) (U : FVec Ideal S2x256x1024 .f32) : FVec Ideal S8x4096x8x128 .f32 :=
  shapeCast S8x4096x8x128 (Host.dotGeneral dot_S8x4096x256_S256x1024_S8x4096x1024_2_0_01_1_n_n none N
    (shapeCast S256x1024 (extractStridedSlice S1x256x1024 ![1, 0, 0] U slices_S2x256x1024_S1x256x1024_1_0_0) shapeCasts_S1x256x1024_S256x1024)) shapeCasts_S8x4096x1024_S8x4096x8x128

/-- The queries: every head's last 32 lanes half rotated. -/
def ropeQ (Q : FVec Ideal S8x4096x8x96 .f32) (C S : FVec Ideal S8x4096x16 .f32) : FVec Ideal S8x4096x8x96 .f32 :=
  have r : FVec Ideal S8x4096x8x32 .f32 := extractStridedSlice S8x4096x8x32 ![0, 0, 0, 64] Q slices_S8x4096x8x96_S8x4096x8x32_0_0_0_64
  have lo : FVec Ideal S8x4096x8x16 .f32 := extractStridedSlice S8x4096x8x16 ![0, 0, 0, 0] r slices_S8x4096x8x32_S8x4096x8x16_0_0_0_0
  have hi : FVec Ideal S8x4096x8x16 .f32 := extractStridedSlice S8x4096x8x16 ![0, 0, 0, 16] r slices_S8x4096x8x32_S8x4096x8x16_0_0_0_16
  have wide (T : FVec Ideal S8x4096x16 .f32) : FVec Ideal S8x4096x8x16 .f32 :=
    broadcastInDim S8x4096x8x16 ![0, 1, 2, 3] bcast_S8x4096x1x16_S8x4096x8x16_0_1_2_3 (shapeCast S8x4096x1x16 T shapeCasts_S8x4096x16_S8x4096x1x16)
  concatenate S8x4096x8x96 3 [⟨S8x4096x8x64, extractStridedSlice S8x4096x8x64 ![0, 0, 0, 0] Q slices_S8x4096x8x96_S8x4096x8x64_0_0_0_0⟩,
    ⟨S8x4096x8x32, concatenate S8x4096x8x32 3 [⟨S8x4096x8x16, subf (mulf lo (wide C)) (mulf hi (wide S))⟩,
      ⟨S8x4096x8x16, addf (mulf hi (wide C)) (mulf lo (wide S))⟩] concatenates_S8x4096x8x16_S8x4096x8x16_S8x4096x8x32_d3⟩]
    concatenates_S8x4096x8x64_S8x4096x8x32_S8x4096x8x96_d3

/-- The last 32 columns, half rotated. -/
def ropeK (H : FVec Ideal S8x4096x5732 .f32) (C S : FVec Ideal S8x4096x16 .f32) : FVec Ideal S8x4096x32 .f32 :=
  have r : FVec Ideal S8x4096x32 .f32 := extractStridedSlice S8x4096x32 ![0, 0, 1604] H slices_S8x4096x5732_S8x4096x32_0_0_1604
  have lo : FVec Ideal S8x4096x16 .f32 := extractStridedSlice S8x4096x16 ![0, 0, 0] r slices_S8x4096x32_S8x4096x16_0_0_0
  have hi : FVec Ideal S8x4096x16 .f32 := extractStridedSlice S8x4096x16 ![0, 0, 16] r slices_S8x4096x32_S8x4096x16_0_0_16
  concatenate S8x4096x32 2 [⟨S8x4096x16, subf (mulf lo C) (mulf hi S)⟩, ⟨S8x4096x16, addf (mulf hi C) (mulf lo S)⟩]
    concatenates_S8x4096x16_S8x4096x16_S8x4096x32_d2

/-- Each head's 96 lanes padded to 128, the batches and the heads laid out flat. -/
def padded (B : FVec Ideal S8x4096x8x96 .f32) : FVec Ideal S32768x1024 .bf16 :=
  truncf .bf16 (shapeCast S32768x1024 (pad S8x4096x8x128 ![0, 0, 0, 0] ![0, 0, 0, 32] ![0, 0, 0, 0] B
    (sitofp .f32 (constantI S_ 32 0#32)) pads_S8x4096x8x96_S8x4096x8x128_000_000_000_0320 h_S_) shapeCasts_S8x4096x8x128_S32768x1024) bitsLt_bf16_f32

/-- The queries scaled. -/
def scaled (R : FVec Ideal S8x4096x8x96 .f32) : FVec Ideal S8x4096x8x96 .f32 :=
  mulf R (broadcastInDim S8x4096x8x96 ![] bcast_S_S8x4096x8x96 (constant S_ .f32 0x3E16C740#32))

/-- Every head's 64 key lanes and the rotated columns. -/
def joined (P : FVec Ideal S8x4096x8x128 .f32) (R : FVec Ideal S8x4096x32 .f32) : FVec Ideal S8x4096x8x96 .f32 :=
  concatenate S8x4096x8x96 3 [⟨S8x4096x8x64, extractStridedSlice S8x4096x8x64 ![0, 0, 0, 0] P slices_S8x4096x8x128_S8x4096x8x64_0_0_0_0⟩,
    ⟨S8x4096x8x32, broadcastInDim S8x4096x8x32 ![0, 1, 2, 3] bcast_S8x4096x1x32_S8x4096x8x32_0_1_2_3
      (broadcastInDim S8x4096x1x32 ![0, 1, 3] bcast_S8x4096x32_S8x4096x1x32_0_1_3 R)⟩] concatenates_S8x4096x8x64_S8x4096x8x32_S8x4096x8x96_d3

/-- The third result: the value lanes, in tiles of 512 positions, transposed. -/
def outV (P : FVec Ideal S8x4096x8x128 .f32) : FVec Ideal S64x512x512 .bf16 :=
  truncf .bf16 (transpose S64x512x512 [0, 2, 1] (shapeCast S64x512x512
    (extractStridedSlice S8x4096x8x64 ![0, 0, 0, 64] P slices_S8x4096x8x128_S8x4096x8x64_0_0_0_64) shapeCasts_S8x4096x8x64_S64x512x512)
    transposes_S64x512x512_S64x512x512_0_2_1) bitsLt_bf16_f32

/-! ## The composed terms' entries -/

theorem zero_pad : (FloatOps.sitofp (F := Ideal) .f32 (0#32 : BitVec 32) : EReal) = 0 := by
  show (((0#32 : BitVec 32).toInt : ℝ) : EReal) = 0
  simp

variable (X : FVec Ideal S8x4096x1024 .f32) (W : FVec Ideal S2x1024x5732 .f32) (GQ : FVec Ideal S2x384 .f32) (UQ : FVec Ideal S2x384x768 .f32)
  (GK : FVec Ideal S2x256 .f32) (UK : FVec Ideal S2x256x1024 .f32) (C S : FVec Ideal S8x4096x16 .f32)

theorem hidden_apply (b : Fin 8) (s : Fin 4096) (k : ℕ) (hk : k < 672) (j : Fin 5732) (hj : j.val = 964 + k) : hidden X W (ix3 b s j)
    = low (fun i => X (ix3 b s i)) (fun i k => W (ix3 1 i ⟨964 + k, by omega⟩)) ⟨k, hk⟩ := by
  have e : j = (⟨964 + k, by omega⟩ : Fin 5732) := Fin.ext hj
  rw [e]
  pointwise [hidden, low]

theorem normQ_apply (b : Fin 8) (s : Fin 4096) (i : Fin 384) : normQ (hidden X W) GQ (ix3 b s i)
    = rms (Ideal.ofBits .f32 0x43C00000#32) (fun j : Fin 384 => low (fun i => X (ix3 b s i)) (fun i k => W (ix3 1 i ⟨964 + k, by omega⟩)) ⟨j, by omega⟩)
        (fun j => GQ (ix2 1 j)) i := by
  have e (j : Fin 384) := hidden_apply X W b s j (by omega) ⟨964 + j, by omega⟩ rfl
  simp only [← e]
  generalize hidden X W = H
  pointwise [normQ, rms]

theorem normK_apply (b : Fin 8) (s : Fin 4096) (i : Fin 256) : normK (hidden X W) GK (ix3 b s i)
    = rms (Ideal.ofBits .f32 0x43800000#32) (fun j : Fin 256 => low (fun i => X (ix3 b s i)) (fun i k => W (ix3 1 i ⟨964 + k, by omega⟩)) ⟨384 + j, by omega⟩)
        (fun j => GK (ix2 1 j)) i := by
  have e (j : Fin 256) := hidden_apply X W b s (384 + j) (by omega) ⟨1348 + j, by omega⟩ (by show 1348 + j.val = 964 + (384 + j.val); omega)
  simp only [← e]
  generalize hidden X W = H
  pointwise [normK, rms]

theorem prodQ_apply (b : Fin 8) (s : Fin 4096) (g : Fin 8) (l : Fin 96) : prodQ (normQ (hidden X W) GQ) UQ (ix4 b s g l)
    = qcol (fun i => X (ix3 b s i)) (fun i k => W (ix3 1 i ⟨964 + k, by omega⟩)) (fun j => GQ (ix2 1 j)) (fun j n => UQ (ix3 1 j n)) ⟨96 * g + l, by omega⟩ := by
  unfold qcol
  simp only [← normQ_apply X W GQ]
  generalize normQ (hidden X W) GQ = N
  have e : (⟨g * 96 + l, by omega⟩ : Fin 768) = ⟨96 * g + l, by omega⟩ := Fin.ext (by show g.val * 96 + l.val = 96 * g.val + l.val; omega)
  pointwise [prodQ]
  exact Finset.sum_congr rfl fun x _ => by rw [e]

theorem prodK_apply (b : Fin 8) (s : Fin 4096) (g : Fin 8) (l : Fin 128) : prodK (normK (hidden X W) GK) UK (ix4 b s g l)
    = kcol (fun i => X (ix3 b s i)) (fun i k => W (ix3 1 i ⟨964 + k, by omega⟩)) (fun j => GK (ix2 1 j)) (fun j n => UK (ix3 1 j n)) ⟨128 * g + l, by omega⟩ := by
  unfold kcol
  simp only [← normK_apply X W GK]
  generalize normK (hidden X W) GK = N
  have e : (⟨g * 128 + l, by omega⟩ : Fin 1024) = ⟨128 * g + l, by omega⟩ := Fin.ext (by show g.val * 128 + l.val = 128 * g.val + l.val; omega)
  pointwise [prodK]
  exact Finset.sum_congr rfl fun x _ => by rw [e]

theorem ropeQ_apply (Q : FVec Ideal S8x4096x8x96 .f32) (b : Fin 8) (s : Fin 4096) (g : Fin 8) (l : Fin 96) : ropeQ Q C S (ix4 b s g l)
    = if h : l.val < 64 then Q (ix4 b s g l)
      else rot (fun d => Q (ix4 b s g ⟨64 + d, by omega⟩)) (fun k => C (ix3 b s k)) (fun k => S (ix3 b s k)) ⟨l - 64, by omega⟩ := by
  pointwise [ropeQ, rot]
  by_cases h : l.val < 64
  · rw [dif_pos h, dif_pos h]
  · rw [dif_neg h, dif_neg h]
    by_cases h' : l.val - 64 < 16
    · rw [dif_pos h', dif_pos h']
      have e : (⟨64 + (16 + (l - 64)), by omega⟩ : Fin 96) = ⟨64 + (l - 64 + 16), by omega⟩ :=
        Fin.ext (by show 64 + (16 + (l.val - 64)) = 64 + (l.val - 64 + 16); omega)
      rw [e]
    · rw [dif_neg h', dif_neg h']
      have e : (⟨64 + (16 + (l - 64 - 16)), by omega⟩ : Fin 96) = ⟨64 + (l - 64), by omega⟩ :=
        Fin.ext (by show 64 + (16 + (l.val - 64 - 16)) = 64 + (l.val - 64); omega)
      rw [e]

theorem ropeK_apply (b : Fin 8) (s : Fin 4096) (d : Fin 32) : ropeK (hidden X W) C S (ix3 b s d)
    = rot (fun d => low (fun i => X (ix3 b s i)) (fun i k => W (ix3 1 i ⟨964 + k, by omega⟩)) ⟨640 + d, by omega⟩)
        (fun k => C (ix3 b s k)) (fun k => S (ix3 b s k)) d := by
  have e (j : Fin 32) := hidden_apply X W b s (640 + j) (by omega) ⟨1604 + j, by omega⟩ (by show 1604 + j.val = 964 + (640 + j.val); omega)
  simp only [← e]
  generalize hidden X W = H
  pointwise [ropeK, rot]
  by_cases h' : d.val < 16
  · rw [dif_pos h', dif_pos h']
    have e : (⟨1604 + (16 + d), by omega⟩ : Fin 5732) = ⟨1604 + (d + 16), by omega⟩ :=
      Fin.ext (by show 1604 + (16 + d.val) = 1604 + (d.val + 16); omega)
    rw [e]
  · rw [dif_neg h', dif_neg h']
    have e : (⟨1604 + (16 + (d - 16)), by omega⟩ : Fin 5732) = ⟨1604 + d, by omega⟩ :=
      Fin.ext (by show 1604 + (16 + (d.val - 16)) = 1604 + d.val; omega)
    rw [e]

theorem padded_apply (B : FVec Ideal S8x4096x8x96 .f32) (q : Fin 32768) (g : Fin 8) (l : Fin 128) : padded B (ix2 q ⟨128 * g + l, by omega⟩)
    = if h : l.val < 96 then B (ix4 ⟨q / 4096, by omega⟩ ⟨q % 4096, by omega⟩ g ⟨l, h⟩) else 0 := by
  pointwise [padded]
  by_cases h : l.val < 96
  · have hq : q.val / 4096 < 8 ∧ q.val % 4096 < 4096 ∧ l.val < 96 := by omega
    rw [dif_pos hq, dif_pos h]
  · have hq : ¬(q.val / 4096 < 8 ∧ q.val % 4096 < 4096 ∧ l.val < 96) := by omega
    rw [dif_neg hq, dif_neg h]
    exact zero_pad

theorem scaled_apply (R : FVec Ideal S8x4096x8x96 .f32) (i : S8x4096x8x96.Idx) : scaled R i = R i * Ideal.ofBits .f32 0x3E16C740#32 := rfl

theorem joined_apply (P : FVec Ideal S8x4096x8x128 .f32) (R : FVec Ideal S8x4096x32 .f32) (b : Fin 8) (s : Fin 4096) (g : Fin 8) (l : Fin 96) :
    joined P R (ix4 b s g l) = if h : l.val < 64 then P (ix4 b s g ⟨l, by omega⟩) else R (ix3 b s ⟨l - 64, by omega⟩) := by
  pointwise [joined]

theorem outV_apply (P : FVec Ideal S8x4096x8x128 .f32) (b : Fin 64) (d r : Fin 512) : outV P (ix3 b d r)
    = P (ix4 ⟨(b * 512 + r) / 4096, by omega⟩ ⟨(b * 512 + r) % 4096, by omega⟩ ⟨d / 64, by omega⟩ ⟨64 + d % 64, by omega⟩) := by
  pointwise [outV]
  have e0 : (⟨b / 8, by omega⟩ : Fin 8) = ⟨(b * 512 + r) / 4096, by omega⟩ := Fin.ext (by show b.val / 8 = (b.val * 512 + r.val) / 4096; omega)
  have e1 : (⟨b % 8 * 512 + r, by omega⟩ : Fin 4096) = ⟨(b * 512 + r) % 4096, by omega⟩ :=
    Fin.ext (by show b.val % 8 * 512 + r.val = (b.val * 512 + r.val) % 4096; omega)
  rw [e0, e1]

/-! ## The three results, as the plain formulas of the arguments -/

theorem queries (q : Fin 32768) (g : Fin 8) (l : Fin 128) :
    padded (scaled (ropeQ (prodQ (normQ (hidden X W) GQ) UQ) C S)) (ix2 q ⟨128 * g + l, by omega⟩)
    = headQ (fun i => X (ix3 ⟨q / 4096, by omega⟩ ⟨q % 4096, by omega⟩ i)) (fun i k => W (ix3 1 i ⟨964 + k, by omega⟩)) (fun j => GQ (ix2 1 j))
        (fun j n => UQ (ix3 1 j n)) (fun k => C (ix3 ⟨q / 4096, by omega⟩ ⟨q % 4096, by omega⟩ k))
        (fun k => S (ix3 ⟨q / 4096, by omega⟩ ⟨q % 4096, by omega⟩ k)) g l := by
  rw [padded_apply]
  unfold headQ
  by_cases h : l.val < 96
  · rw [dif_pos h, scaled_apply, ropeQ_apply]
    by_cases h' : l.val < 64
    · rw [dif_pos h', dif_pos h', prodQ_apply]
    · rw [dif_neg h', dif_neg h', dif_pos h]
      simp only [prodQ_apply]
  · have h' : ¬ l.val < 64 := by omega
    rw [dif_neg h, dif_neg h', dif_neg h]

theorem keys (q : Fin 32768) (g : Fin 8) (l : Fin 128) :
    padded (joined (prodK (normK (hidden X W) GK) UK) (ropeK (hidden X W) C S)) (ix2 q ⟨128 * g + l, by omega⟩)
    = headK (fun i => X (ix3 ⟨q / 4096, by omega⟩ ⟨q % 4096, by omega⟩ i)) (fun i k => W (ix3 1 i ⟨964 + k, by omega⟩)) (fun j => GK (ix2 1 j))
        (fun j n => UK (ix3 1 j n)) (fun k => C (ix3 ⟨q / 4096, by omega⟩ ⟨q % 4096, by omega⟩ k))
        (fun k => S (ix3 ⟨q / 4096, by omega⟩ ⟨q % 4096, by omega⟩ k)) g l := by
  rw [padded_apply]
  unfold headK
  by_cases h : l.val < 96
  · rw [dif_pos h, joined_apply]
    by_cases h' : l.val < 64
    · rw [dif_pos h', dif_pos h']
      exact prodK_apply X W GK UK _ _ g l
    · rw [dif_neg h', dif_neg h', dif_pos h]
      exact ropeK_apply X W C S _ _ _
  · have h' : ¬ l.val < 64 := by omega
    rw [dif_neg h, dif_neg h', dif_neg h]

theorem values (b : Fin 64) (d r : Fin 512) : outV (prodK (normK (hidden X W) GK) UK) (ix3 b d r)
    = headV (fun i => X (ix3 ⟨(b * 512 + r) / 4096, by omega⟩ ⟨(b * 512 + r) % 4096, by omega⟩ i)) (fun i k => W (ix3 1 i ⟨964 + k, by omega⟩))
        (fun j => GK (ix2 1 j)) (fun j n => UK (ix3 1 j n)) d := by
  rw [outV_apply, prodK_apply]
  rfl

variable (m : (ℓ : Loc nD τ sig) → Buf (Elt Ideal) ℓ) (c : Dev nD)

/-- The first result's composed term. -/
theorem res0_eq : (Value.res_out0 m c : FVec Ideal S32768x1024 .bf16)
    = padded (scaled (ropeQ (prodQ (normQ (hidden (m ((c.tc : Thread nD τ).loc main_arg0)) (m ((c.tc : Thread nD τ).loc main_arg1)))
        (m ((c.tc : Thread nD τ).loc main_arg2))) (m ((c.tc : Thread nD τ).loc main_arg3)))
        (m ((c.tc : Thread nD τ).loc main_arg6)) (m ((c.tc : Thread nD τ).loc main_arg7)))) := rfl

/-- The second result's composed term. -/
theorem res1_eq : (Value.res_out1 m c : FVec Ideal S32768x1024 .bf16)
    = padded (joined (prodK (normK (hidden (m ((c.tc : Thread nD τ).loc main_arg0)) (m ((c.tc : Thread nD τ).loc main_arg1)))
        (m ((c.tc : Thread nD τ).loc main_arg4))) (m ((c.tc : Thread nD τ).loc main_arg5)))
        (ropeK (hidden (m ((c.tc : Thread nD τ).loc main_arg0)) (m ((c.tc : Thread nD τ).loc main_arg1)))
          (m ((c.tc : Thread nD τ).loc main_arg6)) (m ((c.tc : Thread nD τ).loc main_arg7)))) := rfl

end Cert.ProjReference

end
-- ==== Proof.ProjClaim.lean ====
/-
  The projection call's claims: the frames, and that the kernel and the reference end with equal results over the
  extended reals.
-/
module

public import proofs.«01_k».proof.Defs
public import proofs.«01_k».proof.Proof.ProjValue
public import proofs.«01_k».proof.Proof.ProjReference
public import proofs.«01_k».proof.Proof.Gen.Kernel5.Frame
public import Idealize.ShloMosaic.Lib.Quiescent

@[expose] public section

set_option maxRecDepth 16384

noncomputable section

namespace Cert.ProjClaim

open Idealize.ShloMosaic Idealize.ShloMosaic.TcCoe Idealize.SL.Sem

theorem frame_kernel : Cert.quiescent_Kernel5 := fun m ρ _ => Cert.Kernel5.Gen.frame m ρ

theorem frame_kernelIdeal : Cert.quiescent_Kernel5Ideal := fun m ρ _ => Cert.Kernel5Ideal.Gen.frame m ρ

theorem frame_reference : Cert.quiescent_Reference5Ideal := fun m ρ _ =>
  (θ_run Cert.Reference5Ideal.defs _ _).mono (fun r h => ⟨fun c => (h c).2.2.2, sem_eq_zero_of_no_sems (by decide) r.2⟩)
    (Cert.Reference5Ideal.Value.run (F := Ideal) m ρ)

theorem algebraic : Cert.algebraic_Kernel5Ideal_Reference5Ideal := by
  intro m ρ m' ρ' _ hagree
  refine ⟨fun c => ProjValue.resultQ m c, fun c => ProjValue.resultK m c, fun c => ProjValue.resultV m c, ProjValue.run m ρ, ?_⟩
  refine (θ_run Cert.Reference5Ideal.defs _ _).mono
    (fun _ h c => ⟨(h c).1.trans ?_, (h c).2.1.trans ?_, (h c).2.2.1.trans ?_, (h c).2.2.2⟩)
    (Cert.Reference5Ideal.Value.run (F := Ideal) m' ρ')
  · obtain ⟨h0, h1, h2, h3, h4, h5, h6, h7⟩ := hagree c
    funext (i : Cert.Reference5Ideal.S32768x1024.Idx)
    obtain ⟨q, j, rfl⟩ : ∃ (q : Fin 32768) (j : Fin 1024), i = ix2 q j := ⟨i 0, i 1, eq_ix2 i⟩
    obtain ⟨g, l, rfl⟩ := ProjValue.column j
    refine (congrFun (ProjReference.res0_eq m' c) _).trans ((ProjReference.queries ..).trans ?_)
    rw [h0, h1, h2, h3, h6, h7]
    exact (ProjValue.resultQ_apply m c q g l).symm
  · obtain ⟨h0, h1, h2, h3, h4, h5, h6, h7⟩ := hagree c
    funext (i : Cert.Reference5Ideal.S32768x1024.Idx)
    obtain ⟨q, j, rfl⟩ : ∃ (q : Fin 32768) (j : Fin 1024), i = ix2 q j := ⟨i 0, i 1, eq_ix2 i⟩
    obtain ⟨g, l, rfl⟩ := ProjValue.column j
    refine (congrFun (ProjReference.res1_eq m' c) _).trans ((ProjReference.keys ..).trans ?_)
    rw [h0, h1, h4, h5, h6, h7]
    exact (ProjValue.resultK_apply m c q g l).symm
  · obtain ⟨h0, h1, h2, h3, h4, h5, h6, h7⟩ := hagree c
    funext (i : Cert.Reference5Ideal.S64x512x512.Idx)
    obtain ⟨b, d, r, rfl⟩ : ∃ (b : Fin 64) (d r : Fin 512), i = ix3 b d r := ⟨i 0, i 1, i 2, eq_ix3 i⟩
    refine (ProjReference.values _ _ _ _ b d r).trans ?_
    rw [h0, h1, h4, h5]
    rfl

end Cert.ProjClaim

end
-- ==== Proof.lean ====
/-
  The proof of this certificate's claims, put together from the modules under proof/Proof.
-/
module

public import proofs.«01_k».proof.Defs
public import proofs.«01_k».proof.Proof.SparseFrame
public import proofs.«01_k».proof.Proof.FfnClaim
public import proofs.«01_k».proof.Proof.MergeClaim
public import proofs.«01_k».proof.Proof.MlaClaim
public import proofs.«01_k».proof.Proof.ProjClaim
public import proofs.«01_k».proof.Proof.Gen.Kernel2
public import proofs.«01_k».proof.Proof.Gen.Kernel2.Frame
public import proofs.«01_k».proof.Proof.Gen.Kernel2Ideal
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Gen.Kernel3
public import proofs.«01_k».proof.Proof.Gen.Kernel3.Frame
public import proofs.«01_k».proof.Proof.Gen.Kernel3Ideal
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Kernel4
public import proofs.«01_k».proof.Proof.Gen.Kernel4.Frame
public import proofs.«01_k».proof.Proof.Gen.Kernel4Ideal
public import proofs.«01_k».proof.Proof.Gen.Kernel4Ideal.Frame
public import proofs.«01_k».proof.Proof.Gen.Kernel4Ideal.Value
public import proofs.«01_k».proof.Proof.Gen.Kernel5
public import proofs.«01_k».proof.Proof.Gen.Kernel5.Frame
public import proofs.«01_k».proof.Proof.Gen.Kernel5Ideal
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Run
public import proofs.«01_k».proof.Proof.Gen.Reference4Ideal
public import proofs.«01_k».proof.Proof.Gen.Reference4Ideal.Run
public import Idealize.ShloMosaic.Adequacy
public import Idealize.ShloMosaic.Init

@[expose] public section

noncomputable section

namespace Cert.Proof

open Idealize.ShloMosaic Idealize.SL.Sem

/-- The sparse attention's frame, word for word as it is printed. -/
theorem frame_sparse : Cert.quiescent_Kernel := fun m ρ _ => (θ_run Cert.Kernel.defs _ _).mono
  (fun _ h => ⟨fun c => Cert.SparseFrame.args_kept h.1 c, h.2⟩) (Cert.SparseFrame.run_main (F := Bits) m ρ)

theorem claim : Cert.Claim :=
  ⟨Cert.Kernel.Gen.facts, Cert.Kernel2.Gen.facts, Cert.Kernel2Ideal.Gen.facts, Cert.Reference2Ideal.Gen.facts,
    Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Kernel5.Gen.facts, Cert.Kernel5Ideal.Gen.facts, Cert.Reference5Ideal.Gen.facts, Cert.MlaClaim.pre_facts, frame_sparse,
    Cert.FfnClaim.frame_kernel, Cert.FfnClaim.frame_kernelIdeal, Cert.FfnClaim.frame_reference,
    Cert.MergeClaim.frame_kernel, Cert.MergeClaim.frame_kernelIdeal, Cert.MergeClaim.frame_reference,
    Cert.MlaClaim.frame_kernel, Cert.MlaClaim.frame_kernelIdeal, Cert.MlaClaim.frame_kernelIdeal_finite,
    Cert.MlaClaim.frame_reference, Cert.MlaClaim.frame_reference_finite,
    Cert.ProjClaim.frame_kernel, Cert.ProjClaim.frame_kernelIdeal, Cert.ProjClaim.frame_reference,
    trivial, Cert.FfnClaim.algebraic, trivial, Cert.MergeClaim.algebraic,
    IdealRules.named_const.statement Cert.Kernel4Ideal.κ "mask" .f32 0xF149F2CA#32 ⊥ rfl, Cert.MlaClaim.algebraic,
    trivial, Cert.ProjClaim.algebraic⟩

end Cert.Proof

end
